-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenReferenceIdeal (m : (ℓ : Loc Cert.EvenReferenceIdeal.nD Cert.EvenReferenceIdeal.τ Cert.EvenReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_heads [hPre_finite_heads : Cert.Pre_finite_heads.Facts] (m : (ℓ : Loc Cert.FoxIdeal.nD Cert.FoxIdeal.τ Cert.FoxIdeal.sig) → Buf (Elt Ideal) ℓ) : Prop :=
  ∀ c : Dev Cert.FoxIdeal.nD,
    (Cert.Pre_finite_heads.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_finite_heads [hPre_finite_heads : Cert.Pre_finite_heads.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_finite_heads.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))) = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7)
      ∧ r.2.mem ((c.tc : Thread Cert.Project.nD Cert.Project.τ).loc Cert.Project.main_arg8) = m ((c.tc : Thread Cert.Project.nD Cert.Project.τ).loc Cert.Project.main_arg8)
      ∧ r.2.mem ((c.tc : Thread Cert.Project.nD Cert.Project.τ).loc Cert.Project.main_arg9) = m ((c.tc : Thread Cert.Project.nD Cert.Project.τ).loc Cert.Project.main_arg9))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
      ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
      ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6)
      ∧ r.2.mem ((c.tc : Thread Cert.ProjectReferenceIdeal.nD Cert.ProjectReferenceIdeal.τ).loc Cert.ProjectReferenceIdeal.main_arg7) = m ((c.tc : Thread Cert.ProjectReferenceIdeal.nD Cert.ProjectReferenceIdeal.τ).loc Cert.ProjectReferenceIdeal.main_arg7)
      ∧ r.2.mem ((c.tc : Thread Cert.ProjectReferenceIdeal.nD Cert.ProjectReferenceIdeal.τ).loc Cert.ProjectReferenceIdeal.main_arg8) = m ((c.tc : Thread Cert.ProjectReferenceIdeal.nD Cert.ProjectReferenceIdeal.τ).loc Cert.ProjectReferenceIdeal.main_arg8)
      ∧ r.2.mem ((c.tc : Thread Cert.ProjectReferenceIdeal.nD Cert.ProjectReferenceIdeal.τ).loc Cert.ProjectReferenceIdeal.main_arg9) = m ((c.tc : Thread Cert.ProjectReferenceIdeal.nD Cert.ProjectReferenceIdeal.τ).loc Cert.ProjectReferenceIdeal.main_arg9))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4)
      ∧ r.2.mem ((c.tc : Thread Cert.Even.nD Cert.Even.τ).loc Cert.Even.main_arg5) = m ((c.tc : Thread Cert.Even.nD Cert.Even.τ).loc Cert.Even.main_arg5)
      ∧ r.2.mem ((c.tc : Thread Cert.Even.nD Cert.Even.τ).loc Cert.Even.main_arg6) = m ((c.tc : Thread Cert.Even.nD Cert.Even.τ).loc Cert.Even.main_arg6)
      ∧ r.2.mem ((c.tc : Thread Cert.Even.nD Cert.Even.τ).loc Cert.Even.main_arg7) = m ((c.tc : Thread Cert.Even.nD Cert.Even.τ).loc Cert.Even.main_arg7)
      ∧ r.2.mem ((c.tc : Thread Cert.Even.nD Cert.Even.τ).loc Cert.Even.main_arg8) = m ((c.tc : Thread Cert.Even.nD Cert.Even.τ).loc Cert.Even.main_arg8))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
      ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
      ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
      ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5)
      ∧ r.2.mem ((c.tc : Thread Cert.EvenReferenceIdeal.nD Cert.EvenReferenceIdeal.τ).loc Cert.EvenReferenceIdeal.main_arg6) = m ((c.tc : Thread Cert.EvenReferenceIdeal.nD Cert.EvenReferenceIdeal.τ).loc Cert.EvenReferenceIdeal.main_arg6)
      ∧ r.2.mem ((c.tc : Thread Cert.EvenReferenceIdeal.nD Cert.EvenReferenceIdeal.τ).loc Cert.EvenReferenceIdeal.main_arg7) = m ((c.tc : Thread Cert.EvenReferenceIdeal.nD Cert.EvenReferenceIdeal.τ).loc Cert.EvenReferenceIdeal.main_arg7)
      ∧ r.2.mem ((c.tc : Thread Cert.EvenReferenceIdeal.nD Cert.EvenReferenceIdeal.τ).loc Cert.EvenReferenceIdeal.main_arg8) = m ((c.tc : Thread Cert.EvenReferenceIdeal.nD Cert.EvenReferenceIdeal.τ).loc Cert.EvenReferenceIdeal.main_arg8))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_finite_heads [hFoxIdeal : Cert.FoxIdeal.Facts] [hPre_finite_heads : Cert.Pre_finite_heads.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_heads m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_FoxReferenceIdeal_pre_finite_heads [hFoxReferenceIdeal : Cert.FoxReferenceIdeal.Facts] [hPre_finite_heads : Cert.Pre_finite_heads.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_finite_heads m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "score_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)
      ∧ m' ((c.tc : Thread Cert.ProjectReferenceIdeal.nD Cert.ProjectReferenceIdeal.τ).loc Cert.ProjectReferenceIdeal.main_arg7) = m ((c.tc : Thread Cert.ProjectIdeal.nD Cert.ProjectIdeal.τ).loc Cert.ProjectIdeal.main_arg7)
      ∧ m' ((c.tc : Thread Cert.ProjectReferenceIdeal.nD Cert.ProjectReferenceIdeal.τ).loc Cert.ProjectReferenceIdeal.main_arg8) = m ((c.tc : Thread Cert.ProjectIdeal.nD Cert.ProjectIdeal.τ).loc Cert.ProjectIdeal.main_arg8)
      ∧ m' ((c.tc : Thread Cert.ProjectReferenceIdeal.nD Cert.ProjectReferenceIdeal.τ).loc Cert.ProjectReferenceIdeal.main_arg9) = m ((c.tc : Thread Cert.ProjectIdeal.nD Cert.ProjectIdeal.τ).loc Cert.ProjectIdeal.main_arg9)) →
    ∃ (v0 : (c : Dev Cert.ProjectIdeal.nD) → Buf (Elt Ideal) ((c.tc : Thread Cert.ProjectIdeal.nD Cert.ProjectIdeal.τ).loc Cert.ProjectIdeal.main_v19_0)) (v1 : (c : Dev Cert.ProjectIdeal.nD) → Buf (Elt Ideal) ((c.tc : Thread Cert.ProjectIdeal.nD Cert.ProjectIdeal.τ).loc Cert.ProjectIdeal.main_v19_1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v19_0) = v0 c
          ∧ r.2.mem ((c.tc : Thread Cert.ProjectIdeal.nD Cert.ProjectIdeal.τ).loc Cert.ProjectIdeal.main_v19_1) = v1 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
          ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
          ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v24) = v0 c
          ∧ r.2.mem ((c.tc : Thread Cert.ProjectReferenceIdeal.nD Cert.ProjectReferenceIdeal.τ).loc Cert.ProjectReferenceIdeal.main_v102) = v1 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6)
          ∧ r.2.mem ((c.tc : Thread Cert.ProjectReferenceIdeal.nD Cert.ProjectReferenceIdeal.τ).loc Cert.ProjectReferenceIdeal.main_arg7) = m' ((c.tc : Thread Cert.ProjectReferenceIdeal.nD Cert.ProjectReferenceIdeal.τ).loc Cert.ProjectReferenceIdeal.main_arg7)
          ∧ r.2.mem ((c.tc : Thread Cert.ProjectReferenceIdeal.nD Cert.ProjectReferenceIdeal.τ).loc Cert.ProjectReferenceIdeal.main_arg8) = m' ((c.tc : Thread Cert.ProjectReferenceIdeal.nD Cert.ProjectReferenceIdeal.τ).loc Cert.ProjectReferenceIdeal.main_arg8)
          ∧ r.2.mem ((c.tc : Thread Cert.ProjectReferenceIdeal.nD Cert.ProjectReferenceIdeal.τ).loc Cert.ProjectReferenceIdeal.main_arg9) = m' ((c.tc : Thread Cert.ProjectReferenceIdeal.nD Cert.ProjectReferenceIdeal.τ).loc Cert.ProjectReferenceIdeal.main_arg9))

def preserves_Even_EvenIdeal : Prop :=
  True

def algebraic_EvenIdeal_EvenReferenceIdeal [hEvenIdeal : Cert.EvenIdeal.Facts] [hEvenReferenceIdeal : Cert.EvenReferenceIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenIdeal m →
    (∀ c : Dev Cert.EvenIdeal.nD,
      m' ((c.tc : Thread Cert.EvenReferenceIdeal.nD Cert.EvenReferenceIdeal.τ).loc Cert.EvenReferenceIdeal.main_arg0) = m ((c.tc : Thread Cert.EvenIdeal.nD Cert.EvenIdeal.τ).loc Cert.EvenIdeal.main_arg0)
      ∧ m' ((c.tc : Thread Cert.EvenReferenceIdeal.nD Cert.EvenReferenceIdeal.τ).loc Cert.EvenReferenceIdeal.main_arg1) = m ((c.tc : Thread Cert.EvenIdeal.nD Cert.EvenIdeal.τ).loc Cert.EvenIdeal.main_arg1)
      ∧ m' ((c.tc : Thread Cert.EvenReferenceIdeal.nD Cert.EvenReferenceIdeal.τ).loc Cert.EvenReferenceIdeal.main_arg2) = m ((c.tc : Thread Cert.EvenIdeal.nD Cert.EvenIdeal.τ).loc Cert.EvenIdeal.main_arg2)
      ∧ m' ((c.tc : Thread Cert.EvenReferenceIdeal.nD Cert.EvenReferenceIdeal.τ).loc Cert.EvenReferenceIdeal.main_arg3) = m ((c.tc : Thread Cert.EvenIdeal.nD Cert.EvenIdeal.τ).loc Cert.EvenIdeal.main_arg3)
      ∧ m' ((c.tc : Thread Cert.EvenReferenceIdeal.nD Cert.EvenReferenceIdeal.τ).loc Cert.EvenReferenceIdeal.main_arg4) = m ((c.tc : Thread Cert.EvenIdeal.nD Cert.EvenIdeal.τ).loc Cert.EvenIdeal.main_arg4)
      ∧ m' ((c.tc : Thread Cert.EvenReferenceIdeal.nD Cert.EvenReferenceIdeal.τ).loc Cert.EvenReferenceIdeal.main_arg5) = m ((c.tc : Thread Cert.EvenIdeal.nD Cert.EvenIdeal.τ).loc Cert.EvenIdeal.main_arg5)
      ∧ m' ((c.tc : Thread Cert.EvenReferenceIdeal.nD Cert.EvenReferenceIdeal.τ).loc Cert.EvenReferenceIdeal.main_arg6) = m ((c.tc : Thread Cert.EvenIdeal.nD Cert.EvenIdeal.τ).loc Cert.EvenIdeal.main_arg6)
      ∧ m' ((c.tc : Thread Cert.EvenReferenceIdeal.nD Cert.EvenReferenceIdeal.τ).loc Cert.EvenReferenceIdeal.main_arg7) = m ((c.tc : Thread Cert.EvenIdeal.nD Cert.EvenIdeal.τ).loc Cert.EvenIdeal.main_arg7)
      ∧ m' ((c.tc : Thread Cert.EvenReferenceIdeal.nD Cert.EvenReferenceIdeal.τ).loc Cert.EvenReferenceIdeal.main_arg8) = m ((c.tc : Thread Cert.EvenIdeal.nD Cert.EvenIdeal.τ).loc Cert.EvenIdeal.main_arg8)) →
    ∃ (v0 : (c : Dev Cert.EvenIdeal.nD) → Buf (Elt Ideal) ((c.tc : Thread Cert.EvenIdeal.nD Cert.EvenIdeal.τ).loc Cert.EvenIdeal.main_v22_0)) (v1 : (c : Dev Cert.EvenIdeal.nD) → Buf (Elt Ideal) ((c.tc : Thread Cert.EvenIdeal.nD Cert.EvenIdeal.τ).loc Cert.EvenIdeal.main_v22_1)) (v2 : (c : Dev Cert.EvenIdeal.nD) → Buf (Elt Ideal) ((c.tc : Thread Cert.EvenIdeal.nD Cert.EvenIdeal.τ).loc Cert.EvenIdeal.main_v22_2)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v22_0) = v0 c
          ∧ r.2.mem ((c.tc : Thread Cert.EvenIdeal.nD Cert.EvenIdeal.τ).loc Cert.EvenIdeal.main_v22_1) = v1 c
          ∧ r.2.mem ((c.tc : Thread Cert.EvenIdeal.nD Cert.EvenIdeal.τ).loc Cert.EvenIdeal.main_v22_2) = v2 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
          ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
          ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
          ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
          ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v23) = v0 c
          ∧ r.2.mem ((c.tc : Thread Cert.EvenReferenceIdeal.nD Cert.EvenReferenceIdeal.τ).loc Cert.EvenReferenceIdeal.main_v115) = v1 c
          ∧ r.2.mem ((c.tc : Thread Cert.EvenReferenceIdeal.nD Cert.EvenReferenceIdeal.τ).loc Cert.EvenReferenceIdeal.main_v117) = v2 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
          ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
          ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3)
          ∧ r.2.mem ((c.tc : Thread Cert.EvenReferenceIdeal.nD Cert.EvenReferenceIdeal.τ).loc Cert.EvenReferenceIdeal.main_arg4) = m' ((c.tc : Thread Cert.EvenReferenceIdeal.nD Cert.EvenReferenceIdeal.τ).loc Cert.EvenReferenceIdeal.main_arg4)
          ∧ r.2.mem ((c.tc : Thread Cert.EvenReferenceIdeal.nD Cert.EvenReferenceIdeal.τ).loc Cert.EvenReferenceIdeal.main_arg5) = m' ((c.tc : Thread Cert.EvenReferenceIdeal.nD Cert.EvenReferenceIdeal.τ).loc Cert.EvenReferenceIdeal.main_arg5)
          ∧ r.2.mem ((c.tc : Thread Cert.EvenReferenceIdeal.nD Cert.EvenReferenceIdeal.τ).loc Cert.EvenReferenceIdeal.main_arg6) = m' ((c.tc : Thread Cert.EvenReferenceIdeal.nD Cert.EvenReferenceIdeal.τ).loc Cert.EvenReferenceIdeal.main_arg6)
          ∧ r.2.mem ((c.tc : Thread Cert.EvenReferenceIdeal.nD Cert.EvenReferenceIdeal.τ).loc Cert.EvenReferenceIdeal.main_arg7) = m' ((c.tc : Thread Cert.EvenReferenceIdeal.nD Cert.EvenReferenceIdeal.τ).loc Cert.EvenReferenceIdeal.main_arg7)
          ∧ r.2.mem ((c.tc : Thread Cert.EvenReferenceIdeal.nD Cert.EvenReferenceIdeal.τ).loc Cert.EvenReferenceIdeal.main_arg8) = m' ((c.tc : Thread Cert.EvenReferenceIdeal.nD Cert.EvenReferenceIdeal.τ).loc Cert.EvenReferenceIdeal.main_arg8))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)) →
    ∃ (v0 : (c : Dev Cert.FirstIdeal.nD) → Buf (Elt Ideal) ((c.tc : Thread Cert.FirstIdeal.nD Cert.FirstIdeal.τ).loc Cert.FirstIdeal.main_v17_0)) (v1 : (c : Dev Cert.FirstIdeal.nD) → Buf (Elt Ideal) ((c.tc : Thread Cert.FirstIdeal.nD Cert.FirstIdeal.τ).loc Cert.FirstIdeal.main_v17_1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v17_0) = v0 c
          ∧ r.2.mem ((c.tc : Thread Cert.FirstIdeal.nD Cert.FirstIdeal.τ).loc Cert.FirstIdeal.main_v17_1) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v91) = v0 c
          ∧ r.2.mem ((c.tc : Thread Cert.FirstReferenceIdeal.nD Cert.FirstReferenceIdeal.τ).loc Cert.FirstReferenceIdeal.main_v93) = v1 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5))

def preserves_Fox_FoxIdeal : Prop :=
  IdealRules.named_const.Statement Cert.FoxIdeal.κ "mask" .f32 0xF149F2CA#32 ⊥
  ∧ IdealRules.named_const.Statement Cert.FoxIdeal.κ "score_scale" .f32 0x3E38AA3B#32 (((1 / 8) * (Real.log 2)⁻¹ : ℝ) : EReal)

def algebraic_FoxIdeal_FoxReferenceIdeal_pre_finite_heads [hFoxIdeal : Cert.FoxIdeal.Facts] [hFoxReferenceIdeal : Cert.FoxReferenceIdeal.Facts] [hPre_finite_heads : Cert.Pre_finite_heads.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxIdeal_finite_heads m →
    (∀ c : Dev Cert.FoxIdeal.nD,
      m' ((c.tc : Thread Cert.FoxReferenceIdeal.nD Cert.FoxReferenceIdeal.τ).loc Cert.FoxReferenceIdeal.main_arg0) = m ((c.tc : Thread Cert.FoxIdeal.nD Cert.FoxIdeal.τ).loc Cert.FoxIdeal.main_arg0)
      ∧ m' ((c.tc : Thread Cert.FoxReferenceIdeal.nD Cert.FoxReferenceIdeal.τ).loc Cert.FoxReferenceIdeal.main_arg1) = m ((c.tc : Thread Cert.FoxIdeal.nD Cert.FoxIdeal.τ).loc Cert.FoxIdeal.main_arg1)
      ∧ m' ((c.tc : Thread Cert.FoxReferenceIdeal.nD Cert.FoxReferenceIdeal.τ).loc Cert.FoxReferenceIdeal.main_arg2) = m ((c.tc : Thread Cert.FoxIdeal.nD Cert.FoxIdeal.τ).loc Cert.FoxIdeal.main_arg2)
      ∧ m' ((c.tc : Thread Cert.FoxReferenceIdeal.nD Cert.FoxReferenceIdeal.τ).loc Cert.FoxReferenceIdeal.main_arg3) = m ((c.tc : Thread Cert.FoxIdeal.nD Cert.FoxIdeal.τ).loc Cert.FoxIdeal.main_arg3)
      ∧ m' ((c.tc : Thread Cert.FoxReferenceIdeal.nD Cert.FoxReferenceIdeal.τ).loc Cert.FoxReferenceIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v41)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v41) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v34) = v0 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3)
          ∧ r.2.mem ((c.tc : Thread Cert.FoxReferenceIdeal.nD Cert.FoxReferenceIdeal.τ).loc Cert.FoxReferenceIdeal.main_arg4) = m' ((c.tc : Thread Cert.FoxReferenceIdeal.nD Cert.FoxReferenceIdeal.τ).loc Cert.FoxReferenceIdeal.main_arg4))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v6)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v6) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v23) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v12) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hEven : Cert.Even.Facts) (hEvenIdeal : Cert.EvenIdeal.Facts) (hEvenReferenceIdeal : Cert.EvenReferenceIdeal.Facts) (hFirst : Cert.First.Facts) (hFirstIdeal : Cert.FirstIdeal.Facts) (hFirstReferenceIdeal : Cert.FirstReferenceIdeal.Facts) (hFox : Cert.Fox.Facts) (hFoxIdeal : Cert.FoxIdeal.Facts) (hFoxReferenceIdeal : Cert.FoxReferenceIdeal.Facts) (hLast : Cert.Last.Facts) (hLastIdeal : Cert.LastIdeal.Facts) (hLastReferenceIdeal : Cert.LastReferenceIdeal.Facts) (hMod : Cert.Mod.Facts) (hModIdeal : Cert.ModIdeal.Facts) (hModReferenceIdeal : Cert.ModReferenceIdeal.Facts) (hPre_finite : Cert.Pre_finite.Facts) (hPre_finite_heads : Cert.Pre_finite_heads.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Project (hProject := hProject)
    ∧ quiescent_ProjectIdeal (hProjectIdeal := hProjectIdeal)
    ∧ quiescent_ProjectReferenceIdeal (hProjectReferenceIdeal := hProjectReferenceIdeal)
    ∧ quiescent_Even (hEven := hEven)
    ∧ quiescent_EvenIdeal (hEvenIdeal := hEvenIdeal)
    ∧ quiescent_EvenReferenceIdeal (hEvenReferenceIdeal := hEvenReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Fox (hFox := hFox)
    ∧ quiescent_FoxIdeal (hFoxIdeal := hFoxIdeal)
    ∧ quiescent_FoxIdeal_pre_finite_heads (hFoxIdeal := hFoxIdeal) (hPre_finite_heads := hPre_finite_heads)
    ∧ quiescent_FoxReferenceIdeal (hFoxReferenceIdeal := hFoxReferenceIdeal)
    ∧ quiescent_FoxReferenceIdeal_pre_finite_heads (hFoxReferenceIdeal := hFoxReferenceIdeal) (hPre_finite_heads := hPre_finite_heads)
    ∧ quiescent_Last (hLast := hLast)
    ∧ quiescent_LastIdeal (hLastIdeal := hLastIdeal)
    ∧ quiescent_LastReferenceIdeal (hLastReferenceIdeal := hLastReferenceIdeal)
    ∧ quiescent_Mod (hMod := hMod)
    ∧ quiescent_ModIdeal (hModIdeal := hModIdeal)
    ∧ quiescent_ModReferenceIdeal (hModReferenceIdeal := hModReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Project_ProjectIdeal
    ∧ algebraic_ProjectIdeal_ProjectReferenceIdeal (hProjectIdeal := hProjectIdeal) (hProjectReferenceIdeal := hProjectReferenceIdeal)
    ∧ preserves_Even_EvenIdeal
    ∧ algebraic_EvenIdeal_EvenReferenceIdeal (hEvenIdeal := hEvenIdeal) (hEvenReferenceIdeal := hEvenReferenceIdeal)
    ∧ preserves_First_FirstIdeal
    ∧ algebraic_FirstIdeal_FirstReferenceIdeal (hFirstIdeal := hFirstIdeal) (hFirstReferenceIdeal := hFirstReferenceIdeal)
    ∧ preserves_Fox_FoxIdeal
    ∧ algebraic_FoxIdeal_FoxReferenceIdeal_pre_finite_heads (hFoxIdeal := hFoxIdeal) (hFoxReferenceIdeal := hFoxReferenceIdeal) (hPre_finite_heads := hPre_finite_heads)
    ∧ preserves_Last_LastIdeal
    ∧ algebraic_LastIdeal_LastReferenceIdeal (hLastIdeal := hLastIdeal) (hLastReferenceIdeal := hLastReferenceIdeal)
    ∧ preserves_Mod_ModIdeal
    ∧ algebraic_ModIdeal_ModReferenceIdeal (hModIdeal := hModIdeal) (hModReferenceIdeal := hModReferenceIdeal)
-- ==== Pre_finite.lean ====
abbrev S8x4x2048x64 : Shape := ⟨4, ![8, 4, 2048, 64]⟩
abbrev S8x4x2048x128 : Shape := ⟨4, ![8, 4, 2048, 128]⟩
abbrev S2x64 : Shape := ⟨2, ![2, 64]⟩
abbrev S2x128 : Shape := ⟨2, ![2, 128]⟩
abbrev S_ : Shape := ⟨0, ![]⟩

class Facts : Prop where
  bcast_S_S8x4x2048x64 : S_.BroadcastsInDim S8x4x2048x64 (![] : Fin 0 → Fin S8x4x2048x64.rank)
  reducesTo_S8x4x2048x64_S_d0_1_2_3 : S8x4x2048x64.ReducesTo [0, 1, 2, 3] S_
  h_S_ : 0 < S_.numel
  bcast_S_S8x4x2048x128 : S_.BroadcastsInDim S8x4x2048x128 (![] : Fin 0 → Fin S8x4x2048x128.rank)
  reducesTo_S8x4x2048x128_S_d0_1_2_3 : S8x4x2048x128.ReducesTo [0, 1, 2, 3] S_
  bcast_S_S2x64 : S_.BroadcastsInDim S2x64 (![] : Fin 0 → Fin S2x64.rank)
  reducesTo_S2x64_S_d0_1 : S2x64.ReducesTo [0, 1] S_

variable [Facts]

def fn_part2 {F : FTy → Type} [FloatOps F] (main_arg8 : FVec F S2x64 .f32) (main_arg9 : FVec F S2x64 .f32) (main_v29 : IVec S_ 1) (main_v32 : IVec S2x64 1) (main_c_12 : IVec S_ 1) : IVec S_ 1 :=
  let main_v33 : IVec S_ 1 := (fun x v => Host.reduce IntOp.andi x v reducesTo_S2x64_S_d0_1 h_S_) main_v32 main_c_12
  let main_v34 : IVec S_ 1 := andi main_v29 main_v33
  let main_v35 : FVec F S2x64 .f32 := Host.absf main_arg8
  let main_cst_13 : FVec F S_ .f32 := constant S_ .f32 0x7F800000#32
  let main_v36 : FVec F S2x64 .f32 := broadcastInDim S2x64 ![] bcast_S_S2x64 main_cst_13
  let main_v37 : IVec S2x64 1 := cmpf .olt main_v35 main_v36
  let main_c_14 : IVec S_ 1 := constantI S_ 1 1#1
  let main_v38 : IVec S_ 1 := (fun x v => Host.reduce IntOp.andi x v reducesTo_S2x64_S_d0_1 h_S_) main_v37 main_c_14
  let main_v39 : IVec S_ 1 := andi main_v34 main_v38
  let main_v40 : FVec F S2x64 .f32 := Host.absf main_arg9
  let main_cst_15 : FVec F S_ .f32 := constant S_ .f32 0x7F800000#32
  let main_v41 : FVec F S2x64 .f32 := broadcastInDim S2x64 ![] bcast_S_S2x64 main_cst_15
  let main_v42 : IVec S2x64 1 := cmpf .olt main_v40 main_v41
  let main_c_16 : IVec S_ 1 := constantI S_ 1 1#1
  let main_v43 : IVec S_ 1 := (fun x v => Host.reduce IntOp.andi x v reducesTo_S2x64_S_d0_1 h_S_) main_v42 main_c_16
  let main_v44 : IVec S_ 1 := andi main_v39 main_v43
  main_v44

def fn_part1 {F : FTy → Type} [FloatOps F] (main_arg4 : FVec F S8x4x2048x128 .f32) (main_arg6 : FVec F S2x64 .f32) (main_arg7 : FVec F S2x64 .f32) (main_arg8 : FVec F S2x64 .f32) (main_arg9 : FVec F S2x64 .f32) (main_v14 : IVec S_ 1) (main_v15 : FVec F S8x4x2048x64 .f32) (main_cst_5 : FVec F S_ .f32) : IVec S_ 1 :=
  let main_v16 : FVec F S8x4x2048x64 .f32 := broadcastInDim S8x4x2048x64 ![] bcast_S_S8x4x2048x64 main_cst_5
  let main_v17 : IVec S8x4x2048x64 1 := cmpf .olt main_v15 main_v16
  let main_c_6 : IVec S_ 1 := constantI S_ 1 1#1
  let main_v18 : IVec S_ 1 := (fun x v => Host.reduce IntOp.andi x v reducesTo_S8x4x2048x64_S_d0_1_2_3 h_S_) main_v17 main_c_6
  let main_v19 : IVec S_ 1 := andi main_v14 main_v18
  let main_v20 : FVec F S8x4x2048x128 .f32 := Host.absf main_arg4
  let main_cst_7 : FVec F S_ .f32 := constant S_ .f32 0x7F800000#32
  let main_v21 : FVec F S8x4x2048x128 .f32 := broadcastInDim S8x4x2048x128 ![] bcast_S_S8x4x2048x128 main_cst_7
  let main_v22 : IVec S8x4x2048x128 1 := cmpf .olt main_v20 main_v21
  let main_c_8 : IVec S_ 1 := constantI S_ 1 1#1
  let main_v23 : IVec S_ 1 := (fun x v => Host.reduce IntOp.andi x v reducesTo_S8x4x2048x128_S_d0_1_2_3 h_S_) main_v22 main_c_8
  let main_v24 : IVec S_ 1 := andi main_v19 main_v23
  let main_v25 : FVec F S2x64 .f32 := Host.absf main_arg6
  let main_cst_9 : FVec F S_ .f32 := constant S_ .f32 0x7F800000#32
  let main_v26 : FVec F S2x64 .f32 := broadcastInDim S2x64 ![] bcast_S_S2x64 main_cst_9
  let main_v27 : IVec S2x64 1 := cmpf .olt main_v25 main_v26
  let main_c_10 : IVec S_ 1 := constantI S_ 1 1#1
  let main_v28 : IVec S_ 1 := (fun x v => Host.reduce IntOp.andi x v reducesTo_S2x64_S_d0_1 h_S_) main_v27 main_c_10
  let main_v29 : IVec S_ 1 := andi main_v24 main_v28
  let main_v30 : FVec F S2x64 .f32 := Host.absf main_arg7
  let main_cst_11 : FVec F S_ .f32 := constant S_ .f32 0x7F800000#32
  let main_v31 : FVec F S2x64 .f32 := broadcastInDim S2x64 ![] bcast_S_S2x64 main_cst_11
  let main_v32 : IVec S2x64 1 := cmpf .olt main_v30 main_v31
  let main_c_12 : IVec S_ 1 := constantI S_ 1 1#1
  fn_part2 (F := F) main_arg8 main_arg9 main_v29 main_v32 main_c_12

def fn {F : FTy → Type} [FloatOps F] (main_arg0 : FVec F S8x4x2048x64 .f32) (main_arg1 : FVec F S8x4x2048x64 .f32) (main_arg2 : FVec F S8x4x2048x64 .f32) (main_arg3 : FVec F S8x4x2048x64 .f32) (main_arg4 : FVec F S8x4x2048x128 .f32) (main_arg5 : FVec F S8x4x2048x128 .f32) (main_arg6 : FVec F S2x64 .f32) (main_arg7 : FVec F S2x64 .f32) (main_arg8 : FVec F S2x64 .f32) (main_arg9 : FVec F S2x64 .f32) (main_arg10 : FVec F S2x128 .f32) : IVec S_ 1 :=
  let main_v0 : FVec F S8x4x2048x64 .f32 := Host.absf main_arg0
  let main_cst : FVec F S_ .f32 := constant S_ .f32 0x7F800000#32
  let main_v1 : FVec F S8x4x2048x64 .f32 := broadcastInDim S8x4x2048x64 ![] bcast_S_S8x4x2048x64 main_cst
  let main_v2 : IVec S8x4x2048x64 1 := cmpf .olt main_v0 main_v1
  let main_c : IVec S_ 1 := constantI S_ 1 1#1
  let main_v3 : IVec S_ 1 := (fun x v => Host.reduce IntOp.andi x v reducesTo_S8x4x2048x64_S_d0_1_2_3 h_S_) main_v2 main_c
  let main_c_0 : IVec S_ 1 := constantI S_ 1 1#1
  let main_v4 : IVec S_ 1 := andi main_c_0 main_v3
  let main_v5 : FVec F S8x4x2048x64 .f32 := Host.absf main_arg1
  let main_cst_1 : FVec F S_ .f32 := constant S_ .f32 0x7F800000#32
  let main_v6 : FVec F S8x4x2048x64 .f32 := broadcastInDim S8x4x2048x64 ![] bcast_S_S8x4x2048x64 main_cst_1
  let main_v7 : IVec S8x4x2048x64 1 := cmpf .olt main_v5 main_v6
  let main_c_2 : IVec S_ 1 := constantI S_ 1 1#1
  let main_v8 : IVec S_ 1 := (fun x v => Host.reduce IntOp.andi x v reducesTo_S8x4x2048x64_S_d0_1_2_3 h_S_) main_v7 main_c_2
  let main_v9 : IVec S_ 1 := andi main_v4 main_v8
  let main_v10 : FVec F S8x4x2048x64 .f32 := Host.absf main_arg2
  let main_cst_3 : FVec F S_ .f32 := constant S_ .f32 0x7F800000#32
  let main_v11 : FVec F S8x4x2048x64 .f32 := broadcastInDim S8x4x2048x64 ![] bcast_S_S8x4x2048x64 main_cst_3
  let main_v12 : IVec S8x4x2048x64 1 := cmpf .olt main_v10 main_v11
  let main_c_4 : IVec S_ 1 := constantI S_ 1 1#1
  let main_v13 : IVec S_ 1 := (fun x v => Host.reduce IntOp.andi x v reducesTo_S8x4x2048x64_S_d0_1_2_3 h_S_) main_v12 main_c_4
  let main_v14 : IVec S_ 1 := andi main_v9 main_v13
  let main_v15 : FVec F S8x4x2048x64 .f32 := Host.absf main_arg3
  let main_cst_5 : FVec F S_ .f32 := constant S_ .f32 0x7F800000#32
  fn_part1 (F := F) main_arg4 main_arg6 main_arg7 main_arg8 main_arg9 main_v14 main_v15 main_cst_5
-- ==== Pre_finite_heads.lean ====
abbrev S8x8x2048x64 : Shape := ⟨4, ![8, 8, 2048, 64]⟩
abbrev S8x8x2048 : Shape := ⟨3, ![8, 8, 2048]⟩
abbrev S_ : Shape := ⟨0, ![]⟩

class Facts : Prop where
  bcast_S_S8x8x2048x64 : S_.BroadcastsInDim S8x8x2048x64 (![] : Fin 0 → Fin S8x8x2048x64.rank)
  reducesTo_S8x8x2048x64_S_d0_1_2_3 : S8x8x2048x64.ReducesTo [0, 1, 2, 3] S_
  h_S_ : 0 < S_.numel
  bcast_S_S8x8x2048 : S_.BroadcastsInDim S8x8x2048 (![] : Fin 0 → Fin S8x8x2048.rank)
  reducesTo_S8x8x2048_S_d0_1_2 : S8x8x2048.ReducesTo [0, 1, 2] S_

variable [Facts]

def fn {F : FTy → Type} [FloatOps F] (main_arg0 : FVec F S8x8x2048x64 .f32) (main_arg1 : FVec F S8x8x2048x64 .f32) (main_arg2 : FVec F S8x8x2048x64 .f32) (main_arg3 : FVec F S8x8x2048x64 .f32) (main_arg4 : FVec F S8x8x2048 .f32) : IVec S_ 1 :=
  let main_v0 : FVec F S8x8x2048x64 .f32 := Host.absf main_arg0
  let main_cst : FVec F S_ .f32 := constant S_ .f32 0x7F800000#32
  let main_v1 : FVec F S8x8x2048x64 .f32 := broadcastInDim S8x8x2048x64 ![] bcast_S_S8x8x2048x64 main_cst
  let main_v2 : IVec S8x8x2048x64 1 := cmpf .olt main_v0 main_v1
  let main_c : IVec S_ 1 := constantI S_ 1 1#1
  let main_v3 : IVec S_ 1 := (fun x v => Host.reduce IntOp.andi x v reducesTo_S8x8x2048x64_S_d0_1_2_3 h_S_) main_v2 main_c
  let main_c_0 : IVec S_ 1 := constantI S_ 1 1#1
  let main_v4 : IVec S_ 1 := andi main_c_0 main_v3
  let main_v5 : FVec F S8x8x2048x64 .f32 := Host.absf main_arg1
  let main_cst_1 : FVec F S_ .f32 := constant S_ .f32 0x7F800000#32
  let main_v6 : FVec F S8x8x2048x64 .f32 := broadcastInDim S8x8x2048x64 ![] bcast_S_S8x8x2048x64 main_cst_1
  let main_v7 : IVec S8x8x2048x64 1 := cmpf .olt main_v5 main_v6
  let main_c_2 : IVec S_ 1 := constantI S_ 1 1#1
  let main_v8 : IVec S_ 1 := (fun x v => Host.reduce IntOp.andi x v reducesTo_S8x8x2048x64_S_d0_1_2_3 h_S_) main_v7 main_c_2
  let main_v9 : IVec S_ 1 := andi main_v4 main_v8
  let main_v10 : FVec F S8x8x2048 .f32 := Host.absf main_arg4
  let main_cst_3 : FVec F S_ .f32 := constant S_ .f32 0x7F800000#32
  let main_v11 : FVec F S8x8x2048 .f32 := broadcastInDim S8x8x2048 ![] bcast_S_S8x8x2048 main_cst_3
  let main_v12 : IVec S8x8x2048 1 := cmpf .olt main_v10 main_v11
  let main_c_4 : IVec S_ 1 := constantI S_ 1 1#1
  let main_v13 : IVec S_ 1 := (fun x v => Host.reduce IntOp.andi x v reducesTo_S8x8x2048_S_d0_1_2 h_S_) main_v12 main_c_4
  let main_v14 : IVec S_ 1 := andi main_v9 main_v13
  main_v14
-- ==== Kernel.lean ====
abbrev S8x4x2048x64 : Shape := ⟨4, ![8, 4, 2048, 64]⟩
abbrev S8x4x2048x128 : Shape := ⟨4, ![8, 4, 2048, 128]⟩
abbrev S2x64 : Shape := ⟨2, ![2, 64]⟩
abbrev S2x128 : Shape := ⟨2, ![2, 128]⟩
abbrev S8x4x1x2048x128 : Shape := ⟨5, ![8, 4, 1, 2048, 128]⟩
abbrev S8x4x4x2048x128 : Shape := ⟨5, ![8, 4, 4, 2048, 128]⟩
abbrev S_ : Shape := ⟨0, ![]⟩
abbrev S8x8x4x2048x128 : Shape := ⟨5, ![8, 8, 4, 2048, 128]⟩
abbrev S1x1x4x2048x128 : Shape := ⟨5, ![1, 1, 4, 2048, 128]⟩
abbrev S1x1x2048x128 : Shape := ⟨4, ![1, 1, 2048, 128]⟩
abbrev S4x144x512 : Shape := ⟨3, ![4, 144, 512]⟩
abbrev S512x512 : Shape := ⟨2, ![512, 512]⟩
abbrev S2x2x1x512 : Shape := ⟨4, ![2, 2, 1, 512]⟩
abbrev S1x512 : Shape := ⟨2, ![1, 512]⟩
abbrev S144x512 : Shape := ⟨2, ![144, 512]⟩
abbrev S1x512x512 : Shape := ⟨3, ![1, 512, 512]⟩
abbrev S1x128 : Shape := ⟨2, ![1, 128]⟩
abbrev S1x1x1x2048x128 : Shape := ⟨5, ![1, 1, 1, 2048, 128]⟩
abbrev S2048x128 : Shape := ⟨2, ![2048, 128]⟩
abbrev S128x2048 : Shape := ⟨2, ![128, 2048]⟩
abbrev S16x512 : Shape := ⟨2, ![16, 512]⟩
abbrev S128x512 : Shape := ⟨2, ![128, 512]⟩
abbrev S1x128x512 : Shape := ⟨3, ![1, 128, 512]⟩
abbrev S1x16x512 : Shape := ⟨3, ![1, 16, 512]⟩
abbrev S1x1x1x512x128 : Shape := ⟨5, ![1, 1, 1, 512, 128]⟩
abbrev S512x128 : Shape := ⟨2, ![512, 128]⟩
abbrev S1x1x1x256x128 : Shape := ⟨5, ![1, 1, 1, 256, 128]⟩
abbrev S256x128 : Shape := ⟨2, ![256, 128]⟩
abbrev S256x512 : Shape := ⟨2, ![256, 512]⟩
abbrev S1x256x512 : Shape := ⟨3, ![1, 256, 512]⟩
abbrev S256x256 : Shape := ⟨2, ![256, 256]⟩
abbrev S1x256x256 : Shape := ⟨3, ![1, 256, 256]⟩
abbrev S512 : Shape := ⟨1, ![512]⟩
abbrev S256 : Shape := ⟨1, ![256]⟩
abbrev S1x256 : Shape := ⟨2, ![1, 256]⟩
abbrev S1x1x1x512 : Shape := ⟨4, ![1, 1, 1, 512]⟩
abbrev S1x144x256 : Shape := ⟨3, ![1, 144, 256]⟩
abbrev S144x256 : Shape := ⟨2, ![144, 256]⟩
abbrev S1x64 : Shape := ⟨2, ![1, 64]⟩
abbrev S1 : Shape := ⟨1, ![1]⟩
abbrev S1x1 : Shape := ⟨2, ![1, 1]⟩
abbrev S512x1 : Shape := ⟨2, ![512, 1]⟩
abbrev S1x1x512x128 : Shape := ⟨4, ![1, 1, 512, 128]⟩
abbrev S1x144x512 : Shape := ⟨3, ![1, 144, 512]⟩

abbrev nBuf : Space → Nat
  | .hbm => 23
  | .vmem => 20
  | .smem => 0
  | _ => 0

abbrev bufTy : (tb : Table) → Fin (tcTables nBuf tb) → BufTy
  | .hbm, ⟨0, _⟩ => ⟨S8x4x2048x64, .f32⟩
  | .hbm, ⟨1, _⟩ => ⟨S8x4x2048x64, .f32⟩
  | .hbm, ⟨2, _⟩ => ⟨S8x4x2048x64, .f32⟩
  | .hbm, ⟨3, _⟩ => ⟨S8x4x2048x64, .f32⟩
  | .hbm, ⟨4, _⟩ => ⟨S8x4x2048x128, .f32⟩
  | .hbm, ⟨5, _⟩ => ⟨S8x4x2048x128, .f32⟩
  | .hbm, ⟨6, _⟩ => ⟨S2x64, .f32⟩
  | .hbm, ⟨7, _⟩ => ⟨S2x64, .f32⟩
  | .hbm, ⟨8, _⟩ => ⟨S2x64, .f32⟩
  | .hbm, ⟨9, _⟩ => ⟨S2x64, .f32⟩
  | .hbm, ⟨10, _⟩ => ⟨S2x128, .f32⟩
  | .hbm, ⟨11, _⟩ => ⟨S8x4x2048x128, .f32⟩
  | .hbm, ⟨12, _⟩ => ⟨S8x4x2048x128, .f32⟩
  | .hbm, ⟨13, _⟩ => ⟨S8x4x1x2048x128, .f32⟩
  | .hbm, ⟨14, _⟩ => ⟨S8x4x1x2048x128, .f32⟩
  | .hbm, ⟨15, _⟩ => ⟨S8x4x1x2048x128, .f32⟩
  | .hbm, ⟨16, _⟩ => ⟨S8x4x1x2048x128, .f32⟩
  | .hbm, ⟨17, _⟩ => ⟨S8x4x4x2048x128, .f32⟩
  | .hbm, ⟨18, _⟩ => ⟨S8x4x4x2048x128, .bf16⟩
  | .hbm, ⟨19, _⟩ => ⟨S_, .bf16⟩
  | .hbm, ⟨20, _⟩ => ⟨S8x4x4x2048x128, .bf16⟩
  | .hbm, ⟨21, _⟩ => ⟨S8x8x4x2048x128, .bf16⟩
  | .hbm, ⟨22, _⟩ => ⟨S8x4x2048x128, .bf16⟩
  | .local _ .vmem, ⟨0, _⟩ => ⟨S1x1x4x2048x128, .bf16⟩
  | .local _ .vmem, ⟨1, _⟩ => ⟨S1x1x4x2048x128, .bf16⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x128, .f32⟩
  | .local _ .vmem, ⟨7, _⟩ => ⟨S1x1x2048x128, .bf16⟩
  | .local _ .vmem, ⟨8, _⟩ => ⟨S1x1x2048x128, .bf16⟩
  | .local _ .vmem, ⟨9, _⟩ => ⟨S4x144x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S2x2x1x512, .f32⟩
  | .local _ .vmem, ⟨15, _⟩ => ⟨S1x512, .f32⟩
  | .local _ .vmem, ⟨16, _⟩ => ⟨S144x512, .f32⟩
  | .local _ .vmem, ⟨17, _⟩ => ⟨S1x512, .f32⟩
  | .local _ .vmem, ⟨18, _⟩ => ⟨S144x512, .f32⟩
  | .local _ .vmem, ⟨19, _⟩ => ⟨S1x512x512, .f32⟩
  | _, _ => ⟨S8x4x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_scratch9 : Ref sig .tc := ⟨.vmem, 18, rfl⟩
abbrev cc0_scratch10 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg0 : BitVec 32 := BitVec.ofNat 32 (i 0).val
  let c0_i32_28 : BitVec 32 := 0#32
  let v55 : BitVec 32 := Scalar.minsi arg0 c0_i32_28
  v55
def k0_off1 (i : grid0.Coords) : Fin 2 → Nat :=
  let arg0 : BitVec 32 := BitVec.ofNat 32 (i 0).val
  let c0_i32_28 : BitVec 32 := 0#32
  let v55 : BitVec 32 := Scalar.minsi arg0 c0_i32_28
  let v56 : BitVec 32 := v55
  let v88 : Index := Scalar.indexCast v56
  let c0_51 : Index := 0#32
  ![v88.toNat, 0]
def k0_off2 (i : grid0.Coords) : Fin 2 → Nat :=
  let arg0 : BitVec 32 := BitVec.ofNat 32 (i 0).val
  let c0_i32_28 : BitVec 32 := 0#32
  let v55 : BitVec 32 := Scalar.minsi arg0 c0_i32_28
  let v56 : BitVec 32 := v55
  let c256_i32 : BitVec 32 := 256#32
  let v92 : BitVec 32 := Scalar.addi v56 c256_i32
  let v93 : Index := Scalar.indexCast v92
  let c256_52 : Index := 256#32
  ![v93.toNat, 256]
def k0_off3 (i : grid0.Coords) : Fin 2 → Nat :=
  let arg0 : BitVec 32 := BitVec.ofNat 32 (i 0).val
  let c0_i32_28 : BitVec 32 := 0#32
  let v55 : BitVec 32 := Scalar.minsi arg0 c0_i32_28
  let v56 : BitVec 32 := v55
  let v179 : Index := Scalar.indexCast v56
  let c0_107 : Index := 0#32
  ![v179.toNat, 0]
def cc0_transform_0 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | "score_scale" => some (((1 / 8) * (Real.log 2)⁻¹ : ℝ) : EReal)
  | _ => none
-- ==== ReferenceIdeal.lean ====
abbrev S8x4x2048x64 : Shape := ⟨4, ![8, 4, 2048, 64]⟩
abbrev S8x4x2048x128 : Shape := ⟨4, ![8, 4, 2048, 128]⟩
abbrev S2x64 : Shape := ⟨2, ![2, 64]⟩
abbrev S2x128 : Shape := ⟨2, ![2, 128]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x64 : Shape := ⟨2, ![1, 64]⟩
abbrev S64 : Shape := ⟨1, ![64]⟩
abbrev S_ : Shape := ⟨0, ![]⟩
abbrev S8x4x2048x2048 : Shape := ⟨4, ![8, 4, 2048, 2048]⟩
abbrev S8x4x2048 : Shape := ⟨3, ![8, 4, 2048]⟩
abbrev S8x4x2048x1 : Shape := ⟨4, ![8, 4, 2048, 1]⟩
abbrev S1x128 : Shape := ⟨2, ![1, 128]⟩
abbrev S128 : Shape := ⟨1, ![128]⟩
abbrev S1x1x1x128 : Shape := ⟨4, ![1, 1, 1, 128]⟩

abbrev nBuf : Space → Nat
  | .hbm => 119
  | .vmem => 0
  | .smem => 0
  | _ => 0

abbrev bufTy : (tb : Table) → Fin (tcTables nBuf tb) → BufTy
  | .hbm, ⟨0, _⟩ => ⟨S8x4x2048x64, .f32⟩
  | .hbm, ⟨1, _⟩ => ⟨S8x4x2048x64, .f32⟩
  | .hbm, ⟨2, _⟩ => ⟨S8x4x2048x64, .f32⟩
  | .hbm, ⟨3, _⟩ => ⟨S8x4x2048x64, .f32⟩
  | .hbm, ⟨4, _⟩ => ⟨S8x4x2048x128, .f32⟩
  | .hbm, ⟨5, _⟩ => ⟨S8x4x2048x128, .f32⟩
  | .hbm, ⟨6, _⟩ => ⟨S2x64, .f32⟩
  | .hbm, ⟨7, _⟩ => ⟨S2x64, .f32⟩
  | .hbm, ⟨8, _⟩ => ⟨S2x64, .f32⟩
  | .hbm, ⟨9, _⟩ => ⟨S2x64, .f32⟩
  | .hbm, ⟨10, _⟩ => ⟨S2x128, .f32⟩
  | .hbm, ⟨11, _⟩ => ⟨S2048, .i32⟩
  | .hbm, ⟨12, _⟩ => ⟨S1x2048, .i32⟩
  | .hbm, ⟨13, _⟩ => ⟨S2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x64, .f32⟩
  | .hbm, ⟨27, _⟩ => ⟨S64, .f32⟩
  | .hbm, ⟨28, _⟩ => ⟨S1x64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8x4x2048x2048, .f32⟩
  | .hbm, ⟨38, _⟩ => ⟨S_, .f32⟩
  | .hbm, ⟨39, _⟩ => ⟨S8x4x2048x2048, .f32⟩
  | .hbm, ⟨40, _⟩ => ⟨S8x4x2048x2048, .f32⟩
  | .hbm, ⟨41, _⟩ => ⟨S_, .f32⟩
  | .hbm, ⟨42, _⟩ => ⟨S_, .f32⟩
  | .hbm, ⟨43, _⟩ => ⟨S8x4x2048x2048, .i1⟩
  | .hbm, ⟨44, _⟩ => ⟨S8x4x2048x2048, .f32⟩
  | .hbm, ⟨45, _⟩ => ⟨S8x4x2048x2048, .f32⟩
  | .hbm, ⟨46, _⟩ => ⟨S_, .f32⟩
  | .hbm, ⟨47, _⟩ => ⟨S8x4x2048, .f32⟩
  | .hbm, ⟨48, _⟩ => ⟨S_, .f32⟩
  | .hbm, ⟨49, _⟩ => ⟨S8x4x2048, .f32⟩
  | .hbm, ⟨50, _⟩ => ⟨S8x4x2048, .f32⟩
  | .hbm, ⟨51, _⟩ => ⟨S8x4x2048x1, .f32⟩
  | .hbm, ⟨52, _⟩ => ⟨S8x4x2048x2048, .f32⟩
  | .hbm, ⟨53, _⟩ => ⟨S8x4x2048x2048, .f32⟩
  | .hbm, ⟨54, _⟩ => ⟨S8x4x2048x2048, .f32⟩
  | .hbm, ⟨55, _⟩ => ⟨S_, .f32⟩
  | .hbm, ⟨56, _⟩ => ⟨S8x4x2048, .f32⟩
  | .hbm, ⟨57, _⟩ => ⟨S8x4x2048x1, .f32⟩
  | .hbm, ⟨58, _⟩ => ⟨S8x4x2048x2048, .f32⟩
  | .hbm, ⟨59, _⟩ => ⟨S8x4x2048x2048, .f32⟩
  | .hbm, ⟨60, _⟩ => ⟨S8x4x2048x2048, .f32⟩
  | .hbm, ⟨61, _⟩ => ⟨S_, .f32⟩
  | .hbm, ⟨62, _⟩ => ⟨S8x4x2048x2048, .f32⟩
  | .hbm, ⟨63, _⟩ => ⟨S8x4x2048x2048, .f32⟩
  | .hbm, ⟨64, _⟩ => ⟨S_, .f32⟩
  | .hbm, ⟨65, _⟩ => ⟨S_, .f32⟩
  | .hbm, ⟨66, _⟩ => ⟨S8x4x2048x2048, .i1⟩
  | .hbm, ⟨67, _⟩ => ⟨S8x4x2048x2048, .f32⟩
  | .hbm, ⟨68, _⟩ => ⟨S8x4x2048x2048, .f32⟩
  | .hbm, ⟨69, _⟩ => ⟨S_, .f32⟩
  | .hbm, ⟨70, _⟩ => ⟨S8x4x2048, .f32⟩
  | .hbm, ⟨71, _⟩ => ⟨S_, .f32⟩
  | .hbm, ⟨72, _⟩ => ⟨S8x4x2048, .f32⟩
  | .hbm, ⟨73, _⟩ => ⟨S8x4x2048, .f32⟩
  | .hbm, ⟨74, _⟩ => ⟨S8x4x2048x1, .f32⟩
  | .hbm, ⟨75, _⟩ => ⟨S8x4x2048x2048, .f32⟩
  | .hbm, ⟨76, _⟩ => ⟨S8x4x2048x2048, .f32⟩
  | .hbm, ⟨77, _⟩ => ⟨S8x4x2048x2048, .f32⟩
  | .hbm, ⟨78, _⟩ => ⟨S_, .f32⟩
  | .hbm, ⟨79, _⟩ => ⟨S8x4x2048, .f32⟩
  | .hbm, ⟨80, _⟩ => ⟨S8x4x2048x1, .f32⟩
  | .hbm, ⟨81, _⟩ => ⟨S8x4x2048x2048, .f32⟩
  | .hbm, ⟨82, _⟩ => ⟨S8x4x2048x2048, .f32⟩
  | .hbm, ⟨83, _⟩ => ⟨S8x4x2048x2048, .f32⟩
  | .hbm, ⟨84, _⟩ => ⟨S8x4x2048x2048, .f32⟩
  | .hbm, ⟨85, _⟩ => ⟨S8x4x2048x2048, .f32⟩
  | .hbm, ⟨86, _⟩ => ⟨S8x4x2048x128, .f32⟩
  | .hbm, ⟨87, _⟩ => ⟨S8x4x2048x128, .f32⟩
  | .hbm, ⟨88, _⟩ => ⟨S_, .f32⟩
  | .hbm, ⟨89, _⟩ => ⟨S8x4x2048, .f32⟩
  | .hbm, ⟨90, _⟩ => ⟨S8x4x2048x1, .f32⟩
  | .hbm, ⟨91, _⟩ => ⟨S_, .f32⟩
  | .hbm, ⟨92, _⟩ => ⟨S8x4x2048x1, .f32⟩
  | .hbm, ⟨93, _⟩ => ⟨S8x4x2048x1, .f32⟩
  | .hbm, ⟨94, _⟩ => ⟨S_, .f32⟩
  | .hbm, ⟨95, _⟩ => ⟨S8x4x2048x1, .f32⟩
  | .hbm, ⟨96, _⟩ => ⟨S8x4x2048x1, .f32⟩
  | .hbm, ⟨97, _⟩ => ⟨S8x4x2048x1, .f32⟩
  | .hbm, ⟨98, _⟩ => ⟨S8x4x2048x128, .f32⟩
  | .hbm, ⟨99, _⟩ => ⟨S8x4x2048x128, .f32⟩
  | .hbm, ⟨100, _⟩ => ⟨S1x128, .f32⟩
  | .hbm, ⟨101, _⟩ => ⟨S128, .f32⟩
  | .hbm, ⟨102, _⟩ => ⟨S1x1x1x128, .f32⟩
  | .hbm, ⟨103, _⟩ => ⟨S8x4x2048x128, .f32⟩
  | .hbm, ⟨104, _⟩ => ⟨S8x4x2048x128, .f32⟩
  | .hbm, ⟨105, _⟩ => ⟨S_, .f32⟩
  | .hbm, ⟨106, _⟩ => ⟨S8x4x2048x128, .f32⟩
  | .hbm, ⟨107, _⟩ => ⟨S8x4x2048x128, .f32⟩
  | .hbm, ⟨108, _⟩ => ⟨S8x4x2048x128, .f32⟩
  | .hbm, ⟨109, _⟩ => ⟨S8x4x2048x128, .f32⟩
  | .hbm, ⟨110, _⟩ => ⟨S_, .f32⟩
  | .hbm, ⟨111, _⟩ => ⟨S8x4x2048x128, .f32⟩
  | .hbm, ⟨112, _⟩ => ⟨S8x4x2048x128, .f32⟩
  | .hbm, ⟨113, _⟩ => ⟨S_, .f32⟩
  | .hbm, ⟨114, _⟩ => ⟨S8x4x2048x128, .f32⟩
  | .hbm, ⟨115, _⟩ => ⟨S8x4x2048x128, .f32⟩
  | .hbm, ⟨116, _⟩ => ⟨S8x4x2048x128, .f32⟩
  | .hbm, ⟨117, _⟩ => ⟨S8x4x2048x128, .f32⟩
  | .hbm, ⟨118, _⟩ => ⟨S8x4x2048x128, .bf16⟩
  | _, _ => ⟨S8x4x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_cst_10 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_11 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_v59 : Ref sig .tc := ⟨.hbm, 90, rfl⟩
abbrev main_cst_13 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_15 : Ref sig .tc := ⟨.hbm, 105, rfl⟩
abbrev main_v72 : Ref sig .tc := ⟨.hbm, 106, rfl⟩
abbrev main_v73 : Ref sig .tc := ⟨.hbm, 107, rfl⟩
abbrev main_call2_v0 : Ref sig .tc := ⟨.hbm, 108, rfl⟩
abbrev main_call2_v1 : Ref sig .tc := ⟨.hbm, 109, rfl⟩
abbrev main_call2_cst : Ref sig .tc := ⟨.hbm, 110, rfl⟩
abbrev main_call2_v2 : Ref sig .tc := ⟨.hbm, 111, rfl⟩
abbrev main_call2_v3 : Ref sig .tc := ⟨.hbm, 112, rfl⟩
abbrev main_call2_cst_0 : Ref sig .tc := ⟨.hbm, 113, rfl⟩
abbrev main_call2_v4 : Ref sig .tc := ⟨.hbm, 114, rfl⟩
abbrev main_call2_v5 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩

abbrev nD : Nat := 1
abbrev τ : Topo := Topo.v7x

variable {F : FTy → Type} [FloatOps F]
-- ==== Project.lean ====
abbrev S8x2048x512 : Shape := ⟨3, ![8, 2048, 512]⟩
abbrev S8x2048x1024 : Shape := ⟨3, ![8, 2048, 1024]⟩
abbrev S4x3x8x1024 : Shape := ⟨4, ![4, 3, 8, 1024]⟩
abbrev S8x2048x8 : Shape := ⟨3, ![8, 2048, 8]⟩
abbrev S4x1024 : Shape := ⟨2, ![4, 1024]⟩
abbrev S2x1024x1024 : Shape := ⟨3, ![2, 1024, 1024]⟩
abbrev S2x1024x4096 : Shape := ⟨3, ![2, 1024, 4096]⟩
abbrev S_ : Shape := ⟨0, ![]⟩
abbrev S8x2048x48 : Shape := ⟨3, ![8, 2048, 48]⟩
abbrev S8x2048x128 : Shape := ⟨3, ![8, 2048, 128]⟩
abbrev S4x1x1024 : Shape := ⟨3, ![4, 1, 1024]⟩
abbrev S8x2048x4x128 : Shape := ⟨4, ![8, 2048, 4, 128]⟩
abbrev S8x4x2048x128 : Shape := ⟨4, ![8, 4, 2048, 128]⟩
abbrev S4x3x8x1x1024 : Shape := ⟨5, ![4, 3, 8, 1, 1024]⟩
abbrev S8x8x4x2048x128 : Shape := ⟨5, ![8, 8, 4, 2048, 128]⟩
abbrev S1x4x512x128 : Shape := ⟨4, ![1, 4, 512, 128]⟩
abbrev S1x1024x1024 : Shape := ⟨3, ![1, 1024, 1024]⟩
abbrev S1x1x1x1x1024 : Shape := ⟨5, ![1, 1, 1, 1, 1024]⟩
abbrev S1x1x1024 : Shape := ⟨3, ![1, 1, 1024]⟩
abbrev S1x512x1024 : Shape := ⟨3, ![1, 512, 1024]⟩
abbrev S1x1024x4096 : Shape := ⟨3, ![1, 1024, 4096]⟩
abbrev S1x512x128 : Shape := ⟨3, ![1, 512, 128]⟩
abbrev S1x8x4x512x128 : Shape := ⟨5, ![1, 8, 4, 512, 128]⟩
abbrev S1x256x1024 : Shape := ⟨3, ![1, 256, 1024]⟩
abbrev S256x1024 : Shape := ⟨2, ![256, 1024]⟩
abbrev S1x1024 : Shape := ⟨2, ![1, 1024]⟩
abbrev S1x1x256x128 : Shape := ⟨4, ![1, 1, 256, 128]⟩
abbrev S256x128 : Shape := ⟨2, ![256, 128]⟩
abbrev S1024x1024 : Shape := ⟨2, ![1024, 1024]⟩
abbrev S256 : Shape := ⟨1, ![256]⟩
abbrev S256x1 : Shape := ⟨2, ![256, 1]⟩
abbrev S1x256x128 : Shape := ⟨3, ![1, 256, 128]⟩
abbrev S1x1024x256 : Shape := ⟨3, ![1, 1024, 256]⟩
abbrev S1024x256 : Shape := ⟨2, ![1024, 256]⟩
abbrev S256x256 : Shape := ⟨2, ![256, 256]⟩
abbrev S1x1x1x256x128 : Shape := ⟨5, ![1, 1, 1, 256, 128]⟩

abbrev nBuf : Space → Nat
  | .hbm => 34
  | .vmem => 26
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x1024, .f32⟩
  | .hbm, ⟨3, _⟩ => ⟨S4x3x8x1024, .f32⟩
  | .hbm, ⟨4, _⟩ => ⟨S8x2048x8, .f32⟩
  | .hbm, ⟨5, _⟩ => ⟨S8x2048x8, .f32⟩
  | .hbm, ⟨6, _⟩ => ⟨S4x1024, .f32⟩
  | .hbm, ⟨7, _⟩ => ⟨S4x1024, .f32⟩
  | .hbm, ⟨8, _⟩ => ⟨S2x1024x1024, .f32⟩
  | .hbm, ⟨9, _⟩ => ⟨S2x1024x4096, .f32⟩
  | .hbm, ⟨10, _⟩ => ⟨S_, .f32⟩
  | .hbm, ⟨11, _⟩ => ⟨S8x2048x48, .f32⟩
  | .hbm, ⟨12, _⟩ => ⟨S_, .f32⟩
  | .hbm, ⟨13, _⟩ => ⟨S8x2048x8, .f32⟩
  | .hbm, ⟨14, _⟩ => ⟨S_, .f32⟩
  | .hbm, ⟨15, _⟩ => ⟨S8x2048x48, .f32⟩
  | .hbm, ⟨16, _⟩ => ⟨S8x2048x48, .f32⟩
  | .hbm, ⟨17, _⟩ => ⟨S8x2048x128, .f32⟩
  | .hbm, ⟨18, _⟩ => ⟨S8x2048x8, .f32⟩
  | .hbm, ⟨19, _⟩ => ⟨S8x2048x128, .f32⟩
  | .hbm, ⟨20, _⟩ => ⟨S8x2048x128, .f32⟩
  | .hbm, ⟨21, _⟩ => ⟨S4x1x1024, .f32⟩
  | .hbm, ⟨22, _⟩ => ⟨S4x1x1024, .f32⟩
  | .hbm, ⟨23, _⟩ => ⟨S8x2048x4x128, .f32⟩
  | .hbm, ⟨24, _⟩ => ⟨S8x4x2048x128, .f32⟩
  | .hbm, ⟨25, _⟩ => ⟨S8x4x2048x128, .bf16⟩
  | .hbm, ⟨26, _⟩ => ⟨S8x2048x4x128, .f32⟩
  | .hbm, ⟨27, _⟩ => ⟨S8x4x2048x128, .f32⟩
  | .hbm, ⟨28, _⟩ => ⟨S8x4x2048x128, .bf16⟩
  | .hbm, ⟨29, _⟩ => ⟨S2x1024x1024, .bf16⟩
  | .hbm, ⟨30, _⟩ => ⟨S4x3x8x1x1024, .f32⟩
  | .hbm, ⟨31, _⟩ => ⟨S2x1024x4096, .bf16⟩
  | .hbm, ⟨32, _⟩ => ⟨S8x2048x1024, .f32⟩
  | .hbm, ⟨33, _⟩ => ⟨S8x8x4x2048x128, .bf16⟩
  | .local _ .vmem, ⟨0, _⟩ => ⟨S1x4x512x128, .bf16⟩
  | .local _ .vmem, ⟨1, _⟩ => ⟨S1x4x512x128, .bf16⟩
  | .local _ .vmem, ⟨2, _⟩ => ⟨S1x4x512x128, .bf16⟩
  | .local _ .vmem, ⟨3, _⟩ => ⟨S1x4x512x128, .bf16⟩
  | .local _ .vmem, ⟨4, _⟩ => ⟨S1x1024x1024, .bf16⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x1x1x1x1024, .f32⟩
  | .local _ .vmem, ⟨13, _⟩ => ⟨S1x1x1x1x1024, .f32⟩
  | .local _ .vmem, ⟨14, _⟩ => ⟨S1x1x1024, .f32⟩
  | .local _ .vmem, ⟨15, _⟩ => ⟨S1x1024x4096, .bf16⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | .local _ .vmem, ⟨22, _⟩ => ⟨S1x512x1024, .f32⟩
  | .local _ .vmem, ⟨23, _⟩ => ⟨S1x512x1024, .f32⟩
  | .local _ .vmem, ⟨24, _⟩ => ⟨S1x8x4x512x128, .bf16⟩
  | .local _ .vmem, ⟨25, _⟩ => ⟨S1x8x4x512x128, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, arg0.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, arg0.toNat, c0_i32.toNat, c0_i32_1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ProjectReferenceIdeal.lean ====
abbrev S8x2048x512 : Shape := ⟨3, ![8, 2048, 512]⟩
abbrev S8x2048x1024 : Shape := ⟨3, ![8, 2048, 1024]⟩
abbrev S4x3x8x1024 : Shape := ⟨4, ![4, 3, 8, 1024]⟩
abbrev S8x2048x8 : Shape := ⟨3, ![8, 2048, 8]⟩
abbrev S4x1024 : Shape := ⟨2, ![4, 1024]⟩
abbrev S2x1024x1024 : Shape := ⟨3, ![2, 1024, 1024]⟩
abbrev S2x1024x4096 : Shape := ⟨3, ![2, 1024, 4096]⟩
abbrev S1x1024x1024 : Shape := ⟨3, ![1, 1024, 1024]⟩
abbrev S1024x1024 : Shape := ⟨2, ![1024, 1024]⟩
abbrev S1x1x8x1024 : Shape := ⟨4, ![1, 1, 8, 1024]⟩
abbrev S8x1024 : Shape := ⟨2, ![8, 1024]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S8x2048x16x64 : Shape := ⟨4, ![8, 2048, 16, 64]⟩
abbrev S8x2048x16x8 : Shape := ⟨4, ![8, 2048, 16, 8]⟩
abbrev S8x2048x1x8 : Shape := ⟨4, ![8, 2048, 1, 8]⟩
abbrev S8x2048x16x48 : Shape := ⟨4, ![8, 2048, 16, 48]⟩
abbrev S8x1x2048x1024 : Shape := ⟨4, ![8, 1, 2048, 1024]⟩
abbrev S8x4x2048x1024 : Shape := ⟨4, ![8, 4, 2048, 1024]⟩
abbrev S8x4x2048x8x128 : Shape := ⟨5, ![8, 4, 2048, 8, 128]⟩
abbrev S8x8x4x2048x128 : Shape := ⟨5, ![8, 8, 4, 2048, 128]⟩

abbrev nBuf : Space → Nat
  | .hbm => 120
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x1024, .f32⟩
  | .hbm, ⟨3, _⟩ => ⟨S4x3x8x1024, .f32⟩
  | .hbm, ⟨4, _⟩ => ⟨S8x2048x8, .f32⟩
  | .hbm, ⟨5, _⟩ => ⟨S8x2048x8, .f32⟩
  | .hbm, ⟨6, _⟩ => ⟨S4x1024, .f32⟩
  | .hbm, ⟨7, _⟩ => ⟨S4x1024, .f32⟩
  | .hbm, ⟨8, _⟩ => ⟨S2x1024x1024, .f32⟩
  | .hbm, ⟨9, _⟩ => ⟨S2x1024x4096, .f32⟩
  | .hbm, ⟨10, _⟩ => ⟨S8x2048x1024, .f32⟩
  | .hbm, ⟨11, _⟩ => ⟨S1x1024x1024, .f32⟩
  | .hbm, ⟨12, _⟩ => ⟨S1024x1024, .f32⟩
  | .hbm, ⟨13, _⟩ => ⟨S8x2048x1024, .f32⟩
  | .hbm, ⟨14, _⟩ => ⟨S1x1x8x1024, .f32⟩
  | .hbm, ⟨15, _⟩ => ⟨S8x1024, .f32⟩
  | .hbm, ⟨16, _⟩ => ⟨S8x1x1024, .f32⟩
  | .hbm, ⟨17, _⟩ => ⟨S1x1024, .f32⟩
  | .hbm, ⟨18, _⟩ => ⟨S1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S1x1024, .f32⟩
  | .hbm, ⟨39, _⟩ => ⟨S1024, .f32⟩
  | .hbm, ⟨40, _⟩ => ⟨S8x2048x1024, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S1x1x8x1024, .f32⟩
  | .hbm, ⟨57, _⟩ => ⟨S8x1024, .f32⟩
  | .hbm, ⟨58, _⟩ => ⟨S8x1x1024, .f32⟩
  | .hbm, ⟨59, _⟩ => ⟨S_, .f32⟩
  | .hbm, ⟨60, _⟩ => ⟨S8x1x1024, .f32⟩
  | .hbm, ⟨61, _⟩ => ⟨S8x1x1024, .f32⟩
  | .hbm, ⟨62, _⟩ => ⟨S8x2048x1024, .f32⟩
  | .hbm, ⟨63, _⟩ => ⟨S8x2048x1024, .f32⟩
  | .hbm, ⟨64, _⟩ => ⟨S1x1x8x1024, .f32⟩
  | .hbm, ⟨65, _⟩ => ⟨S8x1024, .f32⟩
  | .hbm, ⟨66, _⟩ => ⟨S8x1x1024, .f32⟩
  | .hbm, ⟨67, _⟩ => ⟨S8x2048x1024, .f32⟩
  | .hbm, ⟨68, _⟩ => ⟨S8x2048x1024, .f32⟩
  | .hbm, ⟨69, _⟩ => ⟨S1x1024x4096, .f32⟩
  | .hbm, ⟨70, _⟩ => ⟨S1024x4096, .f32⟩
  | .hbm, ⟨71, _⟩ => ⟨S8x2048x4096, .f32⟩
  | .hbm, ⟨72, _⟩ => ⟨S8x2048x1024, .f32⟩
  | .hbm, ⟨73, _⟩ => ⟨S8x2048x1024, .f32⟩
  | .hbm, ⟨74, _⟩ => ⟨S8x2048x1024, .f32⟩
  | .hbm, ⟨75, _⟩ => ⟨S8x2048x1024, .f32⟩
  | .hbm, ⟨76, _⟩ => ⟨S8x2048x16x64, .f32⟩
  | .hbm, ⟨77, _⟩ => ⟨S8x2048x16x8, .f32⟩
  | .hbm, ⟨78, _⟩ => ⟨S8x2048x16x8, .f32⟩
  | .hbm, ⟨79, _⟩ => ⟨S8x2048x1x8, .f32⟩
  | .hbm, ⟨80, _⟩ => ⟨S8x2048x1x8, .f32⟩
  | .hbm, ⟨81, _⟩ => ⟨S8x2048x16x8, .f32⟩
  | .hbm, ⟨82, _⟩ => ⟨S8x2048x16x8, .f32⟩
  | .hbm, ⟨83, _⟩ => ⟨S8x2048x16x8, .f32⟩
  | .hbm, ⟨84, _⟩ => ⟨S8x2048x16x8, .f32⟩
  | .hbm, ⟨85, _⟩ => ⟨S8x2048x16x8, .f32⟩
  | .hbm, ⟨86, _⟩ => ⟨S8x2048x16x8, .f32⟩
  | .hbm, ⟨87, _⟩ => ⟨S8x2048x16x8, .f32⟩
  | .hbm, ⟨88, _⟩ => ⟨S8x2048x16x8, .f32⟩
  | .hbm, ⟨89, _⟩ => ⟨S8x2048x16x8, .f32⟩
  | .hbm, ⟨90, _⟩ => ⟨S8x2048x16x8, .f32⟩
  | .hbm, ⟨91, _⟩ => ⟨S8x2048x16x48, .f32⟩
  | .hbm, ⟨92, _⟩ => ⟨S8x2048x16x64, .f32⟩
  | .hbm, ⟨93, _⟩ => ⟨S8x2048x1024, .f32⟩
  | .hbm, ⟨94, _⟩ => ⟨S8x2048x16x64, .f32⟩
  | .hbm, ⟨95, _⟩ => ⟨S8x2048x16x8, .f32⟩
  | .hbm, ⟨96, _⟩ => ⟨S8x2048x16x8, .f32⟩
  | .hbm, ⟨97, _⟩ => ⟨S8x2048x1x8, .f32⟩
  | .hbm, ⟨98, _⟩ => ⟨S8x2048x1x8, .f32⟩
  | .hbm, ⟨99, _⟩ => ⟨S8x2048x16x8, .f32⟩
  | .hbm, ⟨100, _⟩ => ⟨S8x2048x16x8, .f32⟩
  | .hbm, ⟨101, _⟩ => ⟨S8x2048x16x8, .f32⟩
  | .hbm, ⟨102, _⟩ => ⟨S8x2048x16x8, .f32⟩
  | .hbm, ⟨103, _⟩ => ⟨S8x2048x16x8, .f32⟩
  | .hbm, ⟨104, _⟩ => ⟨S8x2048x16x8, .f32⟩
  | .hbm, ⟨105, _⟩ => ⟨S8x2048x16x8, .f32⟩
  | .hbm, ⟨106, _⟩ => ⟨S8x2048x16x8, .f32⟩
  | .hbm, ⟨107, _⟩ => ⟨S8x2048x16x8, .f32⟩
  | .hbm, ⟨108, _⟩ => ⟨S8x2048x16x8, .f32⟩
  | .hbm, ⟨109, _⟩ => ⟨S8x2048x16x48, .f32⟩
  | .hbm, ⟨110, _⟩ => ⟨S8x2048x16x64, .f32⟩
  | .hbm, ⟨111, _⟩ => ⟨S8x2048x1024, .f32⟩
  | .hbm, ⟨112, _⟩ => ⟨S8x1x2048x1024, .f32⟩
  | .hbm, ⟨113, _⟩ => ⟨S8x1x2048x1024, .f32⟩
  | .hbm, ⟨114, _⟩ => ⟨S8x1x2048x1024, .f32⟩
  | .hbm, ⟨115, _⟩ => ⟨S8x1x2048x1024, .f32⟩
  | .hbm, ⟨116, _⟩ => ⟨S8x4x2048x1024, .f32⟩
  | .hbm, ⟨117, _⟩ => ⟨S8x4x2048x1024, .bf16⟩
  | .hbm, ⟨118, _⟩ => ⟨S8x4x2048x8x128, .bf16⟩
  | .hbm, ⟨119, _⟩ => ⟨S8x8x4x2048x128, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩

abbrev nD : Nat := 1
abbrev τ : Topo := Topo.v7x

variable {F : FTy → Type} [FloatOps F]
-- ==== Even.lean ====
abbrev S8x2048x1024 : Shape := ⟨3, ![8, 2048, 1024]⟩
abbrev S4x3x8x1024 : Shape := ⟨4, ![4, 3, 8, 1024]⟩
abbrev S8x2048x8 : Shape := ⟨3, ![8, 2048, 8]⟩
abbrev S4x1024 : Shape := ⟨2, ![4, 1024]⟩
abbrev S2x1024x1024 : Shape := ⟨3, ![2, 1024, 1024]⟩
abbrev S2x1024x4104 : Shape := ⟨3, ![2, 1024, 4104]⟩
abbrev S_ : Shape := ⟨0, ![]⟩
abbrev S8x2048x48 : Shape := ⟨3, ![8, 2048, 48]⟩
abbrev S8x2048x128 : Shape := ⟨3, ![8, 2048, 128]⟩
abbrev S2x1024x1536 : Shape := ⟨3, ![2, 1024, 1536]⟩
abbrev S2x1024x2560 : Shape := ⟨3, ![2, 1024, 2560]⟩
abbrev S2x1024x8 : Shape := ⟨3, ![2, 1024, 8]⟩
abbrev S2x1024x128 : Shape := ⟨3, ![2, 1024, 128]⟩
abbrev S4x1x1024 : Shape := ⟨3, ![4, 1, 1024]⟩
abbrev S8x2048x8x128 : Shape := ⟨4, ![8, 2048, 8, 128]⟩
abbrev S8x8x2048x128 : Shape := ⟨4, ![8, 8, 2048, 128]⟩
abbrev S4x3x8x1x1024 : Shape := ⟨5, ![4, 3, 8, 1, 1024]⟩
abbrev S8x8x4x2048x128 : Shape := ⟨5, ![8, 8, 4, 2048, 128]⟩
abbrev S1x8x512x128 : Shape := ⟨4, ![1, 8, 512, 128]⟩
abbrev S1x1024x1024 : Shape := ⟨3, ![1, 1024, 1024]⟩
abbrev S1x1x1x1x1024 : Shape := ⟨5, ![1, 1, 1, 1, 1024]⟩
abbrev S1x1x1024 : Shape := ⟨3, ![1, 1, 1024]⟩
abbrev S1x512x1024 : Shape := ⟨3, ![1, 512, 1024]⟩
abbrev S1x1024x1536 : Shape := ⟨3, ![1, 1024, 1536]⟩
abbrev S1x1024x2560 : Shape := ⟨3, ![1, 1024, 2560]⟩
abbrev S1x1024x128 : Shape := ⟨3, ![1, 1024, 128]⟩
abbrev S1x512x128 : Shape := ⟨3, ![1, 512, 128]⟩
abbrev S1x8x4x512x128 : Shape := ⟨5, ![1, 8, 4, 512, 128]⟩
abbrev S1x256x1024 : Shape := ⟨3, ![1, 256, 1024]⟩
abbrev S256x1024 : Shape := ⟨2, ![256, 1024]⟩
abbrev S1x1024 : Shape := ⟨2, ![1, 1024]⟩
abbrev S1x1x256x128 : Shape := ⟨4, ![1, 1, 256, 128]⟩
abbrev S256x128 : Shape := ⟨2, ![256, 128]⟩
abbrev S1024x1024 : Shape := ⟨2, ![1024, 1024]⟩
abbrev S256 : Shape := ⟨1, ![256]⟩
abbrev S256x1 : Shape := ⟨2, ![256, 1]⟩
abbrev S1x256x128 : Shape := ⟨3, ![1, 256, 128]⟩
abbrev S1x1024x256 : Shape := ⟨3, ![1, 1024, 256]⟩
abbrev S1024x256 : Shape := ⟨2, ![1024, 256]⟩
abbrev S256x256 : Shape := ⟨2, ![256, 256]⟩
abbrev S1x1x1x256x128 : Shape := ⟨5, ![1, 1, 1, 256, 128]⟩
abbrev S1024x128 : Shape := ⟨2, ![1024, 128]⟩

abbrev nBuf : Space → Nat
  | .hbm => 39
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S4x3x8x1024, .f32⟩
  | .hbm, ⟨3, _⟩ => ⟨S8x2048x8, .f32⟩
  | .hbm, ⟨4, _⟩ => ⟨S8x2048x8, .f32⟩
  | .hbm, ⟨5, _⟩ => ⟨S4x1024, .f32⟩
  | .hbm, ⟨6, _⟩ => ⟨S4x1024, .f32⟩
  | .hbm, ⟨7, _⟩ => ⟨S2x1024x1024, .f32⟩
  | .hbm, ⟨8, _⟩ => ⟨S2x1024x4104, .f32⟩
  | .hbm, ⟨9, _⟩ => ⟨S_, .f32⟩
  | .hbm, ⟨10, _⟩ => ⟨S8x2048x48, .f32⟩
  | .hbm, ⟨11, _⟩ => ⟨S_, .f32⟩
  | .hbm, ⟨12, _⟩ => ⟨S8x2048x8, .f32⟩
  | .hbm, ⟨13, _⟩ => ⟨S_, .f32⟩
  | .hbm, ⟨14, _⟩ => ⟨S8x2048x48, .f32⟩
  | .hbm, ⟨15, _⟩ => ⟨S8x2048x48, .f32⟩
  | .hbm, ⟨16, _⟩ => ⟨S8x2048x128, .f32⟩
  | .hbm, ⟨17, _⟩ => ⟨S8x2048x8, .f32⟩
  | .hbm, ⟨18, _⟩ => ⟨S8x2048x128, .f32⟩
  | .hbm, ⟨19, _⟩ => ⟨S8x2048x128, .f32⟩
  | .hbm, ⟨20, _⟩ => ⟨S2x1024x1536, .f32⟩
  | .hbm, ⟨21, _⟩ => ⟨S2x1024x1536, .bf16⟩
  | .hbm, ⟨22, _⟩ => ⟨S2x1024x2560, .f32⟩
  | .hbm, ⟨23, _⟩ => ⟨S2x1024x2560, .bf16⟩
  | .hbm, ⟨24, _⟩ => ⟨S2x1024x8, .f32⟩
  | .hbm, ⟨25, _⟩ => ⟨S_, .i32⟩
  | .hbm, ⟨26, _⟩ => ⟨S_, .f32⟩
  | .hbm, ⟨27, _⟩ => ⟨S2x1024x128, .f32⟩
  | .hbm, ⟨28, _⟩ => ⟨S2x1024x128, .bf16⟩
  | .hbm, ⟨29, _⟩ => ⟨S4x1x1024, .f32⟩
  | .hbm, ⟨30, _⟩ => ⟨S4x1x1024, .f32⟩
  | .hbm, ⟨31, _⟩ => ⟨S8x2048x8x128, .f32⟩
  | .hbm, ⟨32, _⟩ => ⟨S8x8x2048x128, .f32⟩
  | .hbm, ⟨33, _⟩ => ⟨S8x8x2048x128, .bf16⟩
  | .hbm, ⟨34, _⟩ => ⟨S2x1024x1024, .bf16⟩
  | .hbm, ⟨35, _⟩ => ⟨S4x3x8x1x1024, .f32⟩
  | .hbm, ⟨36, _⟩ => ⟨S8x2048x1024, .f32⟩
  | .hbm, ⟨37, _⟩ => ⟨S8x8x4x2048x128, .bf16⟩
  | .hbm, ⟨38, _⟩ => ⟨S8x2048x128, .f32⟩
  | .local _ .vmem, ⟨0, _⟩ => ⟨S1x8x512x128, .bf16⟩
  | .local _ .vmem, ⟨1, _⟩ => ⟨S1x8x512x128, .bf16⟩
  | .local _ .vmem, ⟨2, _⟩ => ⟨S1x1024x1024, .bf16⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x1x1024, .f32⟩
  | .local _ .vmem, ⟨13, _⟩ => ⟨S1x1024x1536, .bf16⟩
  | .local _ .vmem, ⟨14, _⟩ => ⟨S1x1024x2560, .bf16⟩
  | .local _ .vmem, ⟨15, _⟩ => ⟨S1x1024x128, .bf16⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | .local _ .vmem, ⟨22, _⟩ => ⟨S1x512x1024, .f32⟩
  | .local _ .vmem, ⟨23, _⟩ => ⟨S1x512x1024, .f32⟩
  | .local _ .vmem, ⟨24, _⟩ => ⟨S1x8x4x512x128, .bf16⟩
  | .local _ .vmem, ⟨25, _⟩ => ⟨S1x8x4x512x128, .bf16⟩
  | .local _ .vmem, ⟨26, _⟩ => ⟨S1x512x128, .f32⟩
  | .local _ .vmem, ⟨27, _⟩ => ⟨S1x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 5 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, arg0.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x2560 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x4x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== EvenReferenceIdeal.lean ====
abbrev S8x2048x1024 : Shape := ⟨3, ![8, 2048, 1024]⟩
abbrev S4x3x8x1024 : Shape := ⟨4, ![4, 3, 8, 1024]⟩
abbrev S8x2048x8 : Shape := ⟨3, ![8, 2048, 8]⟩
abbrev S4x1024 : Shape := ⟨2, ![4, 1024]⟩
abbrev S2x1024x1024 : Shape := ⟨3, ![2, 1024, 1024]⟩
abbrev S2x1024x4104 : Shape := ⟨3, ![2, 1024, 4104]⟩
abbrev S1x1024x1024 : Shape := ⟨3, ![1, 1024, 1024]⟩
abbrev S1024x1024 : Shape := ⟨2, ![1024, 1024]⟩
abbrev S1x1x8x1024 : Shape := ⟨4, ![1, 1, 8, 1024]⟩
abbrev S8x1024 : Shape := ⟨2, ![8, 1024]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4104 : Shape := ⟨3, ![1, 1024, 4104]⟩
abbrev S1024x4104 : Shape := ⟨2, ![1024, 4104]⟩
abbrev S8x2048x4104 : Shape := ⟨3, ![8, 2048, 4104]⟩
abbrev S8x2048x512 : Shape := ⟨3, ![8, 2048, 512]⟩
abbrev S8x1x2048x512 : Shape := ⟨4, ![8, 1, 2048, 512]⟩
abbrev S8x4x2048x512 : Shape := ⟨4, ![8, 4, 2048, 512]⟩
abbrev S8x4x2048x4x128 : Shape := ⟨5, ![8, 4, 2048, 4, 128]⟩
abbrev S8x4x4x2048x128 : Shape := ⟨5, ![8, 4, 4, 2048, 128]⟩
abbrev S8x2048x8x64 : Shape := ⟨4, ![8, 2048, 8, 64]⟩
abbrev S8x2048x8x8 : Shape := ⟨4, ![8, 2048, 8, 8]⟩
abbrev S8x2048x1x8 : Shape := ⟨4, ![8, 2048, 1, 8]⟩
abbrev S8x2048x8x48 : Shape := ⟨4, ![8, 2048, 8, 48]⟩
abbrev S8x8x4x2048x128 : Shape := ⟨5, ![8, 8, 4, 2048, 128]⟩
abbrev S8x2048x120 : Shape := ⟨3, ![8, 2048, 120]⟩
abbrev S8x2048x128 : Shape := ⟨3, ![8, 2048, 128]⟩

abbrev nBuf : Space → Nat
  | .hbm => 135
  | .vmem => 0
  | .smem => 0
  | _ => 0

abbrev hbmTy0_0 (i : Nat) : BufTy := match i % 128 with
  | 0 => ⟨S8x2048x1024, .f32⟩
  | 1 => ⟨S8x2048x1024, .f32⟩
  | 2 => ⟨S4x3x8x1024, .f32⟩
  | 3 => ⟨S8x2048x8, .f32⟩
  | 4 => ⟨S8x2048x8, .f32⟩
  | 5 => ⟨S4x1024, .f32⟩
  | 6 => ⟨S4x1024, .f32⟩
  | 7 => ⟨S2x1024x1024, .f32⟩
  | 8 => ⟨S2x1024x4104, .f32⟩
  | 9 => ⟨S1x1024x1024, .f32⟩
  | 10 => ⟨S1024x1024, .f32⟩
  | 11 => ⟨S8x2048x1024, .f32⟩
  | 12 => ⟨S1x1x8x1024, .f32⟩
  | 13 => ⟨S8x1024, .f32⟩
  | 14 => ⟨S8x1x1024, .f32⟩
  | 15 => ⟨S1x1024, .f32⟩
  | 16 => ⟨S1024, .f32⟩
  | 17 => ⟨S8x2048x1024, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S_, .f32⟩
  | 25 => ⟨S8x2048x1, .f32⟩
  | 26 => ⟨S8x2048x1, .f32⟩
  | 27 => ⟨S8x2048x1, .f32⟩
  | 28 => ⟨S8x2048x1024, .f32⟩
  | 29 => ⟨S8x2048x1024, .f32⟩
  | 30 => ⟨S1x1x1024, .f32⟩
  | 31 => ⟨S8x2048x1024, .f32⟩
  | 32 => ⟨S8x2048x1024, .f32⟩
  | 33 => ⟨S8x2048x1024, .f32⟩
  | 34 => ⟨S8x2048x1024, .f32⟩
  | 35 => ⟨S8x2048x1024, .f32⟩
  | 36 => ⟨S1x1024, .f32⟩
  | 37 => ⟨S1024, .f32⟩
  | 38 => ⟨S8x2048x1024, .f32⟩
  | 39 => ⟨S_, .f32⟩
  | 40 => ⟨S8x2048, .f32⟩
  | 41 => ⟨S8x2048x1, .f32⟩
  | 42 => ⟨S_, .f32⟩
  | 43 => ⟨S8x2048x1, .f32⟩
  | 44 => ⟨S8x2048x1, .f32⟩
  | 45 => ⟨S_, .f32⟩
  | 46 => ⟨S8x2048x1, .f32⟩
  | 47 => ⟨S8x2048x1, .f32⟩
  | 48 => ⟨S8x2048x1, .f32⟩
  | 49 => ⟨S8x2048x1024, .f32⟩
  | 50 => ⟨S8x2048x1024, .f32⟩
  | 51 => ⟨S1x1x1024, .f32⟩
  | 52 => ⟨S8x2048x1024, .f32⟩
  | 53 => ⟨S8x2048x1024, .f32⟩
  | 54 => ⟨S1x1x8x1024, .f32⟩
  | 55 => ⟨S8x1024, .f32⟩
  | 56 => ⟨S8x1x1024, .f32⟩
  | 57 => ⟨S_, .f32⟩
  | 58 => ⟨S8x1x1024, .f32⟩
  | 59 => ⟨S8x1x1024, .f32⟩
  | 60 => ⟨S8x2048x1024, .f32⟩
  | 61 => ⟨S8x2048x1024, .f32⟩
  | 62 => ⟨S1x1x8x1024, .f32⟩
  | 63 => ⟨S8x1024, .f32⟩
  | 64 => ⟨S8x1x1024, .f32⟩
  | 65 => ⟨S8x2048x1024, .f32⟩
  | 66 => ⟨S8x2048x1024, .f32⟩
  | 67 => ⟨S1x1024x4104, .f32⟩
  | 68 => ⟨S1024x4104, .f32⟩
  | 69 => ⟨S8x2048x4104, .f32⟩
  | 70 => ⟨S8x2048x512, .f32⟩
  | 71 => ⟨S8x2048x512, .f32⟩
  | 72 => ⟨S8x2048x512, .f32⟩
  | 73 => ⟨S8x2048x8, .f32⟩
  | 74 => ⟨S8x2048x512, .f32⟩
  | 75 => ⟨S8x2048x512, .f32⟩
  | 76 => ⟨S8x2048x512, .f32⟩
  | 77 => ⟨S8x2048x512, .f32⟩
  | 78 => ⟨S8x2048x512, .f32⟩
  | 79 => ⟨S8x1x2048x512, .f32⟩
  | 80 => ⟨S8x1x2048x512, .f32⟩
  | 81 => ⟨S8x1x2048x512, .f32⟩
  | 82 => ⟨S8x1x2048x512, .f32⟩
  | 83 => ⟨S8x4x2048x512, .f32⟩
  | 84 => ⟨S8x4x2048x512, .bf16⟩
  | 85 => ⟨S8x4x2048x4x128, .bf16⟩
  | 86 => ⟨S8x4x4x2048x128, .bf16⟩
  | 87 => ⟨S8x2048x8x64, .f32⟩
  | 88 => ⟨S8x2048x8x8, .f32⟩
  | 89 => ⟨S8x2048x8x8, .f32⟩
  | 90 => ⟨S8x2048x1x8, .f32⟩
  | 91 => ⟨S8x2048x1x8, .f32⟩
  | 92 => ⟨S8x2048x8x8, .f32⟩
  | 93 => ⟨S8x2048x8x8, .f32⟩
  | 94 => ⟨S8x2048x8x8, .f32⟩
  | 95 => ⟨S8x2048x8x8, .f32⟩
  | 96 => ⟨S8x2048x8x8, .f32⟩
  | 97 => ⟨S8x2048x8x8, .f32⟩
  | 98 => ⟨S8x2048x8x8, .f32⟩
  | 99 => ⟨S8x2048x8x8, .f32⟩
  | 100 => ⟨S8x2048x8x8, .f32⟩
  | 101 => ⟨S8x2048x8x8, .f32⟩
  | 102 => ⟨S8x2048x8x48, .f32⟩
  | 103 => ⟨S8x2048x8x64, .f32⟩
  | 104 => ⟨S8x2048x512, .f32⟩
  | 105 => ⟨S8x2048x8x64, .f32⟩
  | 106 => ⟨S8x2048x8x8, .f32⟩
  | 107 => ⟨S8x2048x8x8, .f32⟩
  | 108 => ⟨S8x2048x1x8, .f32⟩
  | 109 => ⟨S8x2048x1x8, .f32⟩
  | 110 => ⟨S8x2048x8x8, .f32⟩
  | 111 => ⟨S8x2048x8x8, .f32⟩
  | 112 => ⟨S8x2048x8x8, .f32⟩
  | 113 => ⟨S8x2048x8x8, .f32⟩
  | 114 => ⟨S8x2048x8x8, .f32⟩
  | 115 => ⟨S8x2048x8x8, .f32⟩
  | 116 => ⟨S8x2048x8x8, .f32⟩
  | 117 => ⟨S8x2048x8x8, .f32⟩
  | 118 => ⟨S8x2048x8x8, .f32⟩
  | 119 => ⟨S8x2048x8x8, .f32⟩
  | 120 => ⟨S8x2048x8x48, .f32⟩
  | 121 => ⟨S8x2048x8x64, .f32⟩
  | 122 => ⟨S8x2048x512, .f32⟩
  | 123 => ⟨S8x1x2048x512, .f32⟩
  | 124 => ⟨S8x1x2048x512, .f32⟩
  | 125 => ⟨S8x1x2048x512, .f32⟩
  | 126 => ⟨S8x1x2048x512, .f32⟩
  | 127 => ⟨S8x4x2048x512, .f32⟩
  | _ => ⟨S8x2048x1024, .f32⟩

abbrev hbmTy0_1 (i : Nat) : BufTy := match i % 128 with
  | 0 => ⟨S8x4x2048x512, .bf16⟩
  | 1 => ⟨S8x4x2048x4x128, .bf16⟩
  | 2 => ⟨S8x4x4x2048x128, .bf16⟩
  | 3 => ⟨S8x8x4x2048x128, .bf16⟩
  | 4 => ⟨S_, .f32⟩
  | 5 => ⟨S8x2048x120, .f32⟩
  | 6 => ⟨S8x2048x128, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_cst_6 : Ref sig .tc := ⟨.hbm, 132, rfl⟩
abbrev main_v116 : Ref sig .tc := ⟨.hbm, 133, rfl⟩
abbrev main_v117 : Ref sig .tc := ⟨.hbm, 134, rfl⟩

abbrev nD : Nat := 1
abbrev τ : Topo := Topo.v7x

variable {F : FTy → Type} [FloatOps F]
-- ==== First.lean ====
abbrev S8x2048x1024 : Shape := ⟨3, ![8, 2048, 1024]⟩
abbrev S4x3x8x1024 : Shape := ⟨4, ![4, 3, 8, 1024]⟩
abbrev S8x2048x8 : Shape := ⟨3, ![8, 2048, 8]⟩
abbrev S4x1024 : Shape := ⟨2, ![4, 1024]⟩
abbrev S2x1024x4104 : Shape := ⟨3, ![2, 1024, 4104]⟩
abbrev S_ : Shape := ⟨0, ![]⟩
abbrev S8x2048x48 : Shape := ⟨3, ![8, 2048, 48]⟩
abbrev S8x2048x128 : Shape := ⟨3, ![8, 2048, 128]⟩
abbrev S2x1024x1536 : Shape := ⟨3, ![2, 1024, 1536]⟩
abbrev S2x1024x2560 : Shape := ⟨3, ![2, 1024, 2560]⟩
abbrev S2x1024x8 : Shape := ⟨3, ![2, 1024, 8]⟩
abbrev S2x1024x128 : Shape := ⟨3, ![2, 1024, 128]⟩
abbrev S4x3x8x1x1024 : Shape := ⟨5, ![4, 3, 8, 1, 1024]⟩
abbrev S4x1x1024 : Shape := ⟨3, ![4, 1, 1024]⟩
abbrev S8x8x4x2048x128 : Shape := ⟨5, ![8, 8, 4, 2048, 128]⟩
abbrev S1x512x1024 : Shape := ⟨3, ![1, 512, 1024]⟩
abbrev S1x1x1x1x1024 : Shape := ⟨5, ![1, 1, 1, 1, 1024]⟩
abbrev S1x1x1024 : Shape := ⟨3, ![1, 1, 1024]⟩
abbrev S1x1024x1536 : Shape := ⟨3, ![1, 1024, 1536]⟩
abbrev S1x1024x2560 : Shape := ⟨3, ![1, 1024, 2560]⟩
abbrev S1x1024x128 : Shape := ⟨3, ![1, 1024, 128]⟩
abbrev S1x512x128 : Shape := ⟨3, ![1, 512, 128]⟩
abbrev S1x8x4x512x128 : Shape := ⟨5, ![1, 8, 4, 512, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S1x256x128 : Shape := ⟨3, ![1, 256, 128]⟩
abbrev S256x128 : Shape := ⟨2, ![256, 128]⟩
abbrev S1x1024x256 : Shape := ⟨3, ![1, 1024, 256]⟩
abbrev S1024x256 : Shape := ⟨2, ![1024, 256]⟩
abbrev S256x256 : Shape := ⟨2, ![256, 256]⟩
abbrev S1x1x1x256x128 : Shape := ⟨5, ![1, 1, 1, 256, 128]⟩
abbrev S1024x128 : Shape := ⟨2, ![1024, 128]⟩

abbrev nBuf : Space → Nat
  | .hbm => 30
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S4x3x8x1024, .f32⟩
  | .hbm, ⟨2, _⟩ => ⟨S8x2048x8, .f32⟩
  | .hbm, ⟨3, _⟩ => ⟨S8x2048x8, .f32⟩
  | .hbm, ⟨4, _⟩ => ⟨S4x1024, .f32⟩
  | .hbm, ⟨5, _⟩ => ⟨S2x1024x4104, .f32⟩
  | .hbm, ⟨6, _⟩ => ⟨S_, .f32⟩
  | .hbm, ⟨7, _⟩ => ⟨S8x2048x48, .f32⟩
  | .hbm, ⟨8, _⟩ => ⟨S_, .f32⟩
  | .hbm, ⟨9, _⟩ => ⟨S8x2048x8, .f32⟩
  | .hbm, ⟨10, _⟩ => ⟨S_, .f32⟩
  | .hbm, ⟨11, _⟩ => ⟨S8x2048x48, .f32⟩
  | .hbm, ⟨12, _⟩ => ⟨S8x2048x48, .f32⟩
  | .hbm, ⟨13, _⟩ => ⟨S8x2048x128, .f32⟩
  | .hbm, ⟨14, _⟩ => ⟨S8x2048x8, .f32⟩
  | .hbm, ⟨15, _⟩ => ⟨S8x2048x128, .f32⟩
  | .hbm, ⟨16, _⟩ => ⟨S8x2048x128, .f32⟩
  | .hbm, ⟨17, _⟩ => ⟨S2x1024x1536, .f32⟩
  | .hbm, ⟨18, _⟩ => ⟨S2x1024x1536, .bf16⟩
  | .hbm, ⟨19, _⟩ => ⟨S2x1024x2560, .f32⟩
  | .hbm, ⟨20, _⟩ => ⟨S2x1024x2560, .bf16⟩
  | .hbm, ⟨21, _⟩ => ⟨S2x1024x8, .f32⟩
  | .hbm, ⟨22, _⟩ => ⟨S_, .i32⟩
  | .hbm, ⟨23, _⟩ => ⟨S_, .f32⟩
  | .hbm, ⟨24, _⟩ => ⟨S2x1024x128, .f32⟩
  | .hbm, ⟨25, _⟩ => ⟨S2x1024x128, .bf16⟩
  | .hbm, ⟨26, _⟩ => ⟨S4x3x8x1x1024, .f32⟩
  | .hbm, ⟨27, _⟩ => ⟨S4x1x1024, .f32⟩
  | .hbm, ⟨28, _⟩ => ⟨S8x8x4x2048x128, .bf16⟩
  | .hbm, ⟨29, _⟩ => ⟨S8x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1024, .f32⟩
  | .local _ .vmem, ⟨7, _⟩ => ⟨S1x1024x1536, .bf16⟩
  | .local _ .vmem, ⟨8, _⟩ => ⟨S1x1024x2560, .bf16⟩
  | .local _ .vmem, ⟨9, _⟩ => ⟨S1x1024x128, .bf16⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x8x4x512x128, .bf16⟩
  | .local _ .vmem, ⟨17, _⟩ => ⟨S1x8x4x512x128, .bf16⟩
  | .local _ .vmem, ⟨18, _⟩ => ⟨S1x512x128, .f32⟩
  | .local _ .vmem, ⟨19, _⟩ => ⟨S1x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FirstReferenceIdeal.lean ====
abbrev S8x2048x1024 : Shape := ⟨3, ![8, 2048, 1024]⟩
abbrev S4x3x8x1024 : Shape := ⟨4, ![4, 3, 8, 1024]⟩
abbrev S8x2048x8 : Shape := ⟨3, ![8, 2048, 8]⟩
abbrev S4x1024 : Shape := ⟨2, ![4, 1024]⟩
abbrev S2x1024x4104 : Shape := ⟨3, ![2, 1024, 4104]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1x8x1024 : Shape := ⟨4, ![1, 1, 8, 1024]⟩
abbrev S8x1024 : Shape := ⟨2, ![8, 1024]⟩
abbrev S8x1x1024 : Shape := ⟨3, ![8, 1, 1024]⟩
abbrev S1x1024x4104 : Shape := ⟨3, ![1, 1024, 4104]⟩
abbrev S1024x4104 : Shape := ⟨2, ![1024, 4104]⟩
abbrev S8x2048x4104 : Shape := ⟨3, ![8, 2048, 4104]⟩
abbrev S8x2048x512 : Shape := ⟨3, ![8, 2048, 512]⟩
abbrev S8x1x2048x512 : Shape := ⟨4, ![8, 1, 2048, 512]⟩
abbrev S8x4x2048x512 : Shape := ⟨4, ![8, 4, 2048, 512]⟩
abbrev S8x4x2048x4x128 : Shape := ⟨5, ![8, 4, 2048, 4, 128]⟩
abbrev S8x4x4x2048x128 : Shape := ⟨5, ![8, 4, 4, 2048, 128]⟩
abbrev S8x2048x8x64 : Shape := ⟨4, ![8, 2048, 8, 64]⟩
abbrev S8x2048x8x8 : Shape := ⟨4, ![8, 2048, 8, 8]⟩
abbrev S8x2048x1x8 : Shape := ⟨4, ![8, 2048, 1, 8]⟩
abbrev S8x2048x8x48 : Shape := ⟨4, ![8, 2048, 8, 48]⟩
abbrev S8x8x4x2048x128 : Shape := ⟨5, ![8, 8, 4, 2048, 128]⟩
abbrev S8x2048x120 : Shape := ⟨3, ![8, 2048, 120]⟩
abbrev S8x2048x128 : Shape := ⟨3, ![8, 2048, 128]⟩

abbrev nBuf : Space → Nat
  | .hbm => 105
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x3x8x1024, .f32⟩
  | .hbm, ⟨2, _⟩ => ⟨S8x2048x8, .f32⟩
  | .hbm, ⟨3, _⟩ => ⟨S8x2048x8, .f32⟩
  | .hbm, ⟨4, _⟩ => ⟨S4x1024, .f32⟩
  | .hbm, ⟨5, _⟩ => ⟨S2x1024x4104, .f32⟩
  | .hbm, ⟨6, _⟩ => ⟨S1x1024, .f32⟩
  | .hbm, ⟨7, _⟩ => ⟨S1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S1x1x8x1024, .f32⟩
  | .hbm, ⟨25, _⟩ => ⟨S8x1024, .f32⟩
  | .hbm, ⟨26, _⟩ => ⟨S8x1x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S1x1x8x1024, .f32⟩
  | .hbm, ⟨33, _⟩ => ⟨S8x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S1x1024x4104, .f32⟩
  | .hbm, ⟨38, _⟩ => ⟨S1024x4104, .f32⟩
  | .hbm, ⟨39, _⟩ => ⟨S8x2048x4104, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S8x2048x8, .f32⟩
  | .hbm, ⟨44, _⟩ => ⟨S8x2048x512, .f32⟩
  | .hbm, ⟨45, _⟩ => ⟨S8x2048x512, .f32⟩
  | .hbm, ⟨46, _⟩ => ⟨S8x2048x512, .f32⟩
  | .hbm, ⟨47, _⟩ => ⟨S8x2048x512, .f32⟩
  | .hbm, ⟨48, _⟩ => ⟨S8x2048x512, .f32⟩
  | .hbm, ⟨49, _⟩ => ⟨S8x1x2048x512, .f32⟩
  | .hbm, ⟨50, _⟩ => ⟨S8x1x2048x512, .f32⟩
  | .hbm, ⟨51, _⟩ => ⟨S8x1x2048x512, .f32⟩
  | .hbm, ⟨52, _⟩ => ⟨S8x1x2048x512, .f32⟩
  | .hbm, ⟨53, _⟩ => ⟨S8x4x2048x512, .f32⟩
  | .hbm, ⟨54, _⟩ => ⟨S8x4x2048x512, .bf16⟩
  | .hbm, ⟨55, _⟩ => ⟨S8x4x2048x4x128, .bf16⟩
  | .hbm, ⟨56, _⟩ => ⟨S8x4x4x2048x128, .bf16⟩
  | .hbm, ⟨57, _⟩ => ⟨S8x2048x8x64, .f32⟩
  | .hbm, ⟨58, _⟩ => ⟨S8x2048x8x8, .f32⟩
  | .hbm, ⟨59, _⟩ => ⟨S8x2048x8x8, .f32⟩
  | .hbm, ⟨60, _⟩ => ⟨S8x2048x1x8, .f32⟩
  | .hbm, ⟨61, _⟩ => ⟨S8x2048x1x8, .f32⟩
  | .hbm, ⟨62, _⟩ => ⟨S8x2048x8x8, .f32⟩
  | .hbm, ⟨63, _⟩ => ⟨S8x2048x8x8, .f32⟩
  | .hbm, ⟨64, _⟩ => ⟨S8x2048x8x8, .f32⟩
  | .hbm, ⟨65, _⟩ => ⟨S8x2048x8x8, .f32⟩
  | .hbm, ⟨66, _⟩ => ⟨S8x2048x8x8, .f32⟩
  | .hbm, ⟨67, _⟩ => ⟨S8x2048x8x8, .f32⟩
  | .hbm, ⟨68, _⟩ => ⟨S8x2048x8x8, .f32⟩
  | .hbm, ⟨69, _⟩ => ⟨S8x2048x8x8, .f32⟩
  | .hbm, ⟨70, _⟩ => ⟨S8x2048x8x8, .f32⟩
  | .hbm, ⟨71, _⟩ => ⟨S8x2048x8x8, .f32⟩
  | .hbm, ⟨72, _⟩ => ⟨S8x2048x8x48, .f32⟩
  | .hbm, ⟨73, _⟩ => ⟨S8x2048x8x64, .f32⟩
  | .hbm, ⟨74, _⟩ => ⟨S8x2048x512, .f32⟩
  | .hbm, ⟨75, _⟩ => ⟨S8x2048x8x64, .f32⟩
  | .hbm, ⟨76, _⟩ => ⟨S8x2048x8x8, .f32⟩
  | .hbm, ⟨77, _⟩ => ⟨S8x2048x8x8, .f32⟩
  | .hbm, ⟨78, _⟩ => ⟨S8x2048x1x8, .f32⟩
  | .hbm, ⟨79, _⟩ => ⟨S8x2048x1x8, .f32⟩
  | .hbm, ⟨80, _⟩ => ⟨S8x2048x8x8, .f32⟩
  | .hbm, ⟨81, _⟩ => ⟨S8x2048x8x8, .f32⟩
  | .hbm, ⟨82, _⟩ => ⟨S8x2048x8x8, .f32⟩
  | .hbm, ⟨83, _⟩ => ⟨S8x2048x8x8, .f32⟩
  | .hbm, ⟨84, _⟩ => ⟨S8x2048x8x8, .f32⟩
  | .hbm, ⟨85, _⟩ => ⟨S8x2048x8x8, .f32⟩
  | .hbm, ⟨86, _⟩ => ⟨S8x2048x8x8, .f32⟩
  | .hbm, ⟨87, _⟩ => ⟨S8x2048x8x8, .f32⟩
  | .hbm, ⟨88, _⟩ => ⟨S8x2048x8x8, .f32⟩
  | .hbm, ⟨89, _⟩ => ⟨S8x2048x8x8, .f32⟩
  | .hbm, ⟨90, _⟩ => ⟨S8x2048x8x48, .f32⟩
  | .hbm, ⟨91, _⟩ => ⟨S8x2048x8x64, .f32⟩
  | .hbm, ⟨92, _⟩ => ⟨S8x2048x512, .f32⟩
  | .hbm, ⟨93, _⟩ => ⟨S8x1x2048x512, .f32⟩
  | .hbm, ⟨94, _⟩ => ⟨S8x1x2048x512, .f32⟩
  | .hbm, ⟨95, _⟩ => ⟨S8x1x2048x512, .f32⟩
  | .hbm, ⟨96, _⟩ => ⟨S8x1x2048x512, .f32⟩
  | .hbm, ⟨97, _⟩ => ⟨S8x4x2048x512, .f32⟩
  | .hbm, ⟨98, _⟩ => ⟨S8x4x2048x512, .bf16⟩
  | .hbm, ⟨99, _⟩ => ⟨S8x4x2048x4x128, .bf16⟩
  | .hbm, ⟨100, _⟩ => ⟨S8x4x4x2048x128, .bf16⟩
  | .hbm, ⟨101, _⟩ => ⟨S8x8x4x2048x128, .bf16⟩
  | .hbm, ⟨102, _⟩ => ⟨S_, .f32⟩
  | .hbm, ⟨103, _⟩ => ⟨S8x2048x120, .f32⟩
  | .hbm, ⟨104, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_cst_3 : Ref sig .tc := ⟨.hbm, 102, rfl⟩
abbrev main_v92 : Ref sig .tc := ⟨.hbm, 103, rfl⟩
abbrev main_v93 : Ref sig .tc := ⟨.hbm, 104, rfl⟩

abbrev nD : Nat := 1
abbrev τ : Topo := Topo.v7x

variable {F : FTy → Type} [FloatOps F]
-- ==== Fox.lean ====
abbrev S8x8x2048x64 : Shape := ⟨4, ![8, 8, 2048, 64]⟩
abbrev S8x8x2048 : Shape := ⟨3, ![8, 8, 2048]⟩
abbrev S8x4x2x2048x64 : Shape := ⟨5, ![8, 4, 2, 2048, 64]⟩
abbrev S8x4x2048x2x64 : Shape := ⟨5, ![8, 4, 2048, 2, 64]⟩
abbrev S8x4x2048x128 : Shape := ⟨4, ![8, 4, 2048, 128]⟩
abbrev S8x4x1x2048x128 : Shape := ⟨5, ![8, 4, 1, 2048, 128]⟩
abbrev S8x4x4x2048x128 : Shape := ⟨5, ![8, 4, 4, 2048, 128]⟩
abbrev S_ : Shape := ⟨0, ![]⟩
abbrev S8x8x4x2048x128 : Shape := ⟨5, ![8, 8, 4, 2048, 128]⟩
abbrev S8x2048x8 : Shape := ⟨3, ![8, 2048, 8]⟩
abbrev S8x2048x24 : Shape := ⟨3, ![8, 2048, 24]⟩
abbrev S8x2048x80 : Shape := ⟨3, ![8, 2048, 80]⟩
abbrev S8x2048x128 : Shape := ⟨3, ![8, 2048, 128]⟩
abbrev S8x1x2048x128 : Shape := ⟨4, ![8, 1, 2048, 128]⟩
abbrev S8x2x2048x128 : Shape := ⟨4, ![8, 2, 2048, 128]⟩
abbrev S1x1x4x2048x128 : Shape := ⟨5, ![1, 1, 4, 2048, 128]⟩
abbrev S1x2x2048x128 : Shape := ⟨4, ![1, 2, 2048, 128]⟩
abbrev S1x1x2048x128 : Shape := ⟨4, ![1, 1, 2048, 128]⟩
abbrev S4x144x512 : Shape := ⟨3, ![4, 144, 512]⟩
abbrev S512x512 : Shape := ⟨2, ![512, 512]⟩
abbrev S2x2x1x512 : Shape := ⟨4, ![2, 2, 1, 512]⟩
abbrev S1x512 : Shape := ⟨2, ![1, 512]⟩
abbrev S144x512 : Shape := ⟨2, ![144, 512]⟩
abbrev S1x512x512 : Shape := ⟨3, ![1, 512, 512]⟩
abbrev S1x128 : Shape := ⟨2, ![1, 128]⟩
abbrev S1x1x1x2048x128 : Shape := ⟨5, ![1, 1, 1, 2048, 128]⟩
abbrev S2048x128 : Shape := ⟨2, ![2048, 128]⟩
abbrev S128x2048 : Shape := ⟨2, ![128, 2048]⟩
abbrev S16x512 : Shape := ⟨2, ![16, 512]⟩
abbrev S128x512 : Shape := ⟨2, ![128, 512]⟩
abbrev S1x128x512 : Shape := ⟨3, ![1, 128, 512]⟩
abbrev S1x16x512 : Shape := ⟨3, ![1, 16, 512]⟩
abbrev S1x1x1x512x128 : Shape := ⟨5, ![1, 1, 1, 512, 128]⟩
abbrev S512x128 : Shape := ⟨2, ![512, 128]⟩
abbrev S1x1x512x128 : Shape := ⟨4, ![1, 1, 512, 128]⟩
abbrev S512x256 : Shape := ⟨2, ![512, 256]⟩
abbrev S1x1x1x256x128 : Shape := ⟨5, ![1, 1, 1, 256, 128]⟩
abbrev S256x128 : Shape := ⟨2, ![256, 128]⟩
abbrev S1x1x256x128 : Shape := ⟨4, ![1, 1, 256, 128]⟩
abbrev S256x256 : Shape := ⟨2, ![256, 256]⟩
abbrev S256x512 : Shape := ⟨2, ![256, 512]⟩
abbrev S1x256x512 : Shape := ⟨3, ![1, 256, 512]⟩
abbrev S1x256x256 : Shape := ⟨3, ![1, 256, 256]⟩
abbrev S512 : Shape := ⟨1, ![512]⟩
abbrev S256 : Shape := ⟨1, ![256]⟩
abbrev S1x256 : Shape := ⟨2, ![1, 256]⟩
abbrev S1x1x1x512 : Shape := ⟨4, ![1, 1, 1, 512]⟩
abbrev S1x144x256 : Shape := ⟨3, ![1, 144, 256]⟩
abbrev S144x256 : Shape := ⟨2, ![144, 256]⟩
abbrev S1x144x512 : Shape := ⟨3, ![1, 144, 512]⟩

abbrev nBuf : Space → Nat
  | .hbm => 51
  | .vmem => 17
  | .smem => 0
  | _ => 0

abbrev bufTy : (tb : Table) → Fin (tcTables nBuf tb) → BufTy
  | .hbm, ⟨0, _⟩ => ⟨S8x8x2048x64, .f32⟩
  | .hbm, ⟨1, _⟩ => ⟨S8x8x2048x64, .f32⟩
  | .hbm, ⟨2, _⟩ => ⟨S8x8x2048x64, .f32⟩
  | .hbm, ⟨3, _⟩ => ⟨S8x8x2048x64, .f32⟩
  | .hbm, ⟨4, _⟩ => ⟨S8x8x2048, .f32⟩
  | .hbm, ⟨5, _⟩ => ⟨S8x4x2x2048x64, .f32⟩
  | .hbm, ⟨6, _⟩ => ⟨S8x4x2048x2x64, .f32⟩
  | .hbm, ⟨7, _⟩ => ⟨S8x4x2048x128, .f32⟩
  | .hbm, ⟨8, _⟩ => ⟨S8x4x2x2048x64, .f32⟩
  | .hbm, ⟨9, _⟩ => ⟨S8x4x2048x2x64, .f32⟩
  | .hbm, ⟨10, _⟩ => ⟨S8x4x2048x128, .f32⟩
  | .hbm, ⟨11, _⟩ => ⟨S8x4x2x2048x64, .f32⟩
  | .hbm, ⟨12, _⟩ => ⟨S8x4x2048x2x64, .f32⟩
  | .hbm, ⟨13, _⟩ => ⟨S8x4x2048x128, .f32⟩
  | .hbm, ⟨14, _⟩ => ⟨S8x4x2x2048x64, .f32⟩
  | .hbm, ⟨15, _⟩ => ⟨S8x4x2048x2x64, .f32⟩
  | .hbm, ⟨16, _⟩ => ⟨S8x4x2048x128, .f32⟩
  | .hbm, ⟨17, _⟩ => ⟨S8x4x1x2048x128, .f32⟩
  | .hbm, ⟨18, _⟩ => ⟨S8x4x1x2048x128, .f32⟩
  | .hbm, ⟨19, _⟩ => ⟨S8x4x1x2048x128, .f32⟩
  | .hbm, ⟨20, _⟩ => ⟨S8x4x1x2048x128, .f32⟩
  | .hbm, ⟨21, _⟩ => ⟨S8x4x4x2048x128, .f32⟩
  | .hbm, ⟨22, _⟩ => ⟨S8x4x4x2048x128, .bf16⟩
  | .hbm, ⟨23, _⟩ => ⟨S_, .bf16⟩
  | .hbm, ⟨24, _⟩ => ⟨S8x4x4x2048x128, .bf16⟩
  | .hbm, ⟨25, _⟩ => ⟨S8x8x4x2048x128, .bf16⟩
  | .hbm, ⟨26, _⟩ => ⟨S8x2048x8, .f32⟩
  | .hbm, ⟨27, _⟩ => ⟨S_, .f32⟩
  | .hbm, ⟨28, _⟩ => ⟨S_, .f32⟩
  | .hbm, ⟨29, _⟩ => ⟨S8x2048x8, .f32⟩
  | .hbm, ⟨30, _⟩ => ⟨S8x2048x8, .f32⟩
  | .hbm, ⟨31, _⟩ => ⟨S8x2048x8, .bf16⟩
  | .hbm, ⟨32, _⟩ => ⟨S8x2048x8, .f32⟩
  | .hbm, ⟨33, _⟩ => ⟨S8x2048x8, .f32⟩
  | .hbm, ⟨34, _⟩ => ⟨S8x2048x8, .bf16⟩
  | .hbm, ⟨35, _⟩ => ⟨S8x2048x8, .f32⟩
  | .hbm, ⟨36, _⟩ => ⟨S8x2048x8, .f32⟩
  | .hbm, ⟨37, _⟩ => ⟨S8x2048x8, .bf16⟩
  | .hbm, ⟨38, _⟩ => ⟨S_, .bf16⟩
  | .hbm, ⟨39, _⟩ => ⟨S8x2048x24, .bf16⟩
  | .hbm, ⟨40, _⟩ => ⟨S_, .bf16⟩
  | .hbm, ⟨41, _⟩ => ⟨S8x2048x80, .bf16⟩
  | .hbm, ⟨42, _⟩ => ⟨S8x2048x8, .bf16⟩
  | .hbm, ⟨43, _⟩ => ⟨S8x2048x8, .bf16⟩
  | .hbm, ⟨44, _⟩ => ⟨S8x2048x8, .bf16⟩
  | .hbm, ⟨45, _⟩ => ⟨S8x2048x128, .bf16⟩
  | .hbm, ⟨46, _⟩ => ⟨S8x2048x128, .bf16⟩
  | .hbm, ⟨47, _⟩ => ⟨S8x1x2048x128, .bf16⟩
  | .hbm, ⟨48, _⟩ => ⟨S8x1x2048x128, .bf16⟩
  | .hbm, ⟨49, _⟩ => ⟨S8x2x2048x128, .bf16⟩
  | .hbm, ⟨50, _⟩ => ⟨S8x4x2048x128, .bf16⟩
  | .local _ .vmem, ⟨0, _⟩ => ⟨S1x1x4x2048x128, .bf16⟩
  | .local _ .vmem, ⟨1, _⟩ => ⟨S1x1x4x2048x128, .bf16⟩
  | .local _ .vmem, ⟨2, _⟩ => ⟨S1x2x2048x128, .bf16⟩
  | .local _ .vmem, ⟨3, _⟩ => ⟨S1x2x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S4x144x512, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S2x2x1x512, .f32⟩
  | .local _ .vmem, ⟨12, _⟩ => ⟨S1x512, .f32⟩
  | .local _ .vmem, ⟨13, _⟩ => ⟨S144x512, .f32⟩
  | .local _ .vmem, ⟨14, _⟩ => ⟨S1x512, .f32⟩
  | .local _ .vmem, ⟨15, _⟩ => ⟨S144x512, .f32⟩
  | .local _ .vmem, ⟨16, _⟩ => ⟨S1x512x512, .f32⟩
  | _, _ => ⟨S8x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg0 : BitVec 32 := BitVec.ofNat 32 (i 0).val
  let c0_i32_29 : BitVec 32 := 0#32
  let v58 : BitVec 32 := Scalar.minsi arg0 c0_i32_29
  v58
def k0_off1 (i : grid0.Coords) : Fin 2 → Nat :=
  let arg0 : BitVec 32 := BitVec.ofNat 32 (i 0).val
  let c0_i32_29 : BitVec 32 := 0#32
  let v58 : BitVec 32 := Scalar.minsi arg0 c0_i32_29
  let v59 : BitVec 32 := v58
  let v158 : Index := Scalar.indexCast v59
  let c0_81 : Index := 0#32
  ![v158.toNat, 0]
def k0_off2 (i : grid0.Coords) : Fin 2 → Nat :=
  let arg0 : BitVec 32 := BitVec.ofNat 32 (i 0).val
  let c0_i32_29 : BitVec 32 := 0#32
  let v58 : BitVec 32 := Scalar.minsi arg0 c0_i32_29
  let v59 : BitVec 32 := v58
  let c256_i32 : BitVec 32 := 256#32
  let v162 : BitVec 32 := Scalar.addi v59 c256_i32
  let v163 : Index := Scalar.indexCast v162
  let c256_82 : Index := 256#32
  ![v163.toNat, 256]
def k0_off3 (i : grid0.Coords) : Fin 2 → Nat :=
  let arg0 : BitVec 32 := BitVec.ofNat 32 (i 0).val
  let c0_i32_29 : BitVec 32 := 0#32
  let v58 : BitVec 32 := Scalar.minsi arg0 c0_i32_29
  let v59 : BitVec 32 := v58
  let v319 : Index := Scalar.indexCast v59
  let c0_173 : Index := 0#32
  ![v319.toNat, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  let c0_i32_3 : BitVec 32 := 0#32
  ![arg0.toNat, v0.toNat, c0_i32_0.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FoxIdeal.lean ====
variable {F : FTy → Type} [FloatOps F] [Named F]
def κ : String → Option EReal := fun
  | "mask" => some ⊥
  | "score_scale" => some (((1 / 8) * (Real.log 2)⁻¹ : ℝ) : EReal)
  | _ => none
-- ==== FoxReferenceIdeal.lean ====
abbrev S8x8x2048x64 : Shape := ⟨4, ![8, 8, 2048, 64]⟩
abbrev S8x8x2048 : Shape := ⟨3, ![8, 8, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2048x2048 : Shape := ⟨4, ![8, 8, 2048, 2048]⟩
abbrev S_ : Shape := ⟨0, ![]⟩
abbrev S8x8x2048x1 : Shape := ⟨4, ![8, 8, 2048, 1]⟩
abbrev S8x8x1x2048 : Shape := ⟨4, ![8, 8, 1, 2048]⟩
abbrev S8x4x2x2048x64 : Shape := ⟨5, ![8, 4, 2, 2048, 64]⟩
abbrev S8x4x2048x2x64 : Shape := ⟨5, ![8, 4, 2048, 2, 64]⟩
abbrev S8x4x2048x128 : Shape := ⟨4, ![8, 4, 2048, 128]⟩

abbrev nBuf : Space → Nat
  | .hbm => 56
  | .vmem => 0
  | .smem => 0
  | _ => 0

abbrev bufTy : (tb : Table) → Fin (tcTables nBuf tb) → BufTy
  | .hbm, ⟨0, _⟩ => ⟨S8x8x2048x64, .f32⟩
  | .hbm, ⟨1, _⟩ => ⟨S8x8x2048x64, .f32⟩
  | .hbm, ⟨2, _⟩ => ⟨S8x8x2048x64, .f32⟩
  | .hbm, ⟨3, _⟩ => ⟨S8x8x2048x64, .f32⟩
  | .hbm, ⟨4, _⟩ => ⟨S8x8x2048, .f32⟩
  | .hbm, ⟨5, _⟩ => ⟨S2048, .i32⟩
  | .hbm, ⟨6, _⟩ => ⟨S1x2048, .i32⟩
  | .hbm, ⟨7, _⟩ => ⟨S2048, .i32⟩
  | .hbm, ⟨8, _⟩ => ⟨S2048x1, .i32⟩
  | .hbm, ⟨9, _⟩ => ⟨S2048x2048, .i32⟩
  | .hbm, ⟨10, _⟩ => ⟨S2048x2048, .i32⟩
  | .hbm, ⟨11, _⟩ => ⟨S2048x2048, .i1⟩
  | .hbm, ⟨12, _⟩ => ⟨S8x8x2048x2048, .f32⟩
  | .hbm, ⟨13, _⟩ => ⟨S_, .f32⟩
  | .hbm, ⟨14, _⟩ => ⟨S8x8x2048x2048, .f32⟩
  | .hbm, ⟨15, _⟩ => ⟨S8x8x2048x2048, .f32⟩
  | .hbm, ⟨16, _⟩ => ⟨S8x8x2048x1, .f32⟩
  | .hbm, ⟨17, _⟩ => ⟨S8x8x1x2048, .f32⟩
  | .hbm, ⟨18, _⟩ => ⟨S8x8x2048x2048, .f32⟩
  | .hbm, ⟨19, _⟩ => ⟨S8x8x2048x2048, .f32⟩
  | .hbm, ⟨20, _⟩ => ⟨S8x8x2048x2048, .f32⟩
  | .hbm, ⟨21, _⟩ => ⟨S8x8x2048x2048, .f32⟩
  | .hbm, ⟨22, _⟩ => ⟨S_, .f32⟩
  | .hbm, ⟨23, _⟩ => ⟨S_, .f32⟩
  | .hbm, ⟨24, _⟩ => ⟨S8x8x2048x2048, .i1⟩
  | .hbm, ⟨25, _⟩ => ⟨S8x8x2048x2048, .f32⟩
  | .hbm, ⟨26, _⟩ => ⟨S8x8x2048x2048, .f32⟩
  | .hbm, ⟨27, _⟩ => ⟨S_, .f32⟩
  | .hbm, ⟨28, _⟩ => ⟨S8x8x2048, .f32⟩
  | .hbm, ⟨29, _⟩ => ⟨S_, .f32⟩
  | .hbm, ⟨30, _⟩ => ⟨S8x8x2048, .f32⟩
  | .hbm, ⟨31, _⟩ => ⟨S8x8x2048, .f32⟩
  | .hbm, ⟨32, _⟩ => ⟨S8x8x2048x1, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S_, .f32⟩
  | .hbm, ⟨37, _⟩ => ⟨S8x8x2048, .f32⟩
  | .hbm, ⟨38, _⟩ => ⟨S8x8x2048x1, .f32⟩
  | .hbm, ⟨39, _⟩ => ⟨S8x8x2048x2048, .f32⟩
  | .hbm, ⟨40, _⟩ => ⟨S8x8x2048x2048, .f32⟩
  | .hbm, ⟨41, _⟩ => ⟨S8x8x2048x64, .f32⟩
  | .hbm, ⟨42, _⟩ => ⟨S8x8x2048x64, .f32⟩
  | .hbm, ⟨43, _⟩ => ⟨S8x8x2048x64, .f32⟩
  | .hbm, ⟨44, _⟩ => ⟨S_, .f32⟩
  | .hbm, ⟨45, _⟩ => ⟨S8x8x2048x64, .f32⟩
  | .hbm, ⟨46, _⟩ => ⟨S8x8x2048x64, .f32⟩
  | .hbm, ⟨47, _⟩ => ⟨S_, .f32⟩
  | .hbm, ⟨48, _⟩ => ⟨S8x8x2048x64, .f32⟩
  | .hbm, ⟨49, _⟩ => ⟨S8x8x2048x64, .f32⟩
  | .hbm, ⟨50, _⟩ => ⟨S8x8x2048x64, .f32⟩
  | .hbm, ⟨51, _⟩ => ⟨S8x8x2048x64, .f32⟩
  | .hbm, ⟨52, _⟩ => ⟨S8x4x2x2048x64, .f32⟩
  | .hbm, ⟨53, _⟩ => ⟨S8x4x2048x2x64, .f32⟩
  | .hbm, ⟨54, _⟩ => ⟨S8x4x2048x128, .f32⟩
  | .hbm, ⟨55, _⟩ => ⟨S8x4x2048x128, .bf16⟩
  | _, _ => ⟨S8x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Last.lean ====
abbrev S8x2048x1024 : Shape := ⟨3, ![8, 2048, 1024]⟩
abbrev S4x3x8x1024 : Shape := ⟨4, ![4, 3, 8, 1024]⟩
abbrev S4x1024 : Shape := ⟨2, ![4, 1024]⟩
abbrev S2x1024x1024 : Shape := ⟨3, ![2, 1024, 1024]⟩
abbrev S8x2048x8x128 : Shape := ⟨4, ![8, 2048, 8, 128]⟩
abbrev S8x8x2048x128 : Shape := ⟨4, ![8, 8, 2048, 128]⟩
abbrev S4x3x8x1x1024 : Shape := ⟨5, ![4, 3, 8, 1, 1024]⟩
abbrev S4x1x1024 : Shape := ⟨3, ![4, 1, 1024]⟩
abbrev S1x8x512x128 : Shape := ⟨4, ![1, 8, 512, 128]⟩
abbrev S1x1024x1024 : Shape := ⟨3, ![1, 1024, 1024]⟩
abbrev S1x512x1024 : Shape := ⟨3, ![1, 512, 1024]⟩
abbrev S1x1x1x1x1024 : Shape := ⟨5, ![1, 1, 1, 1, 1024]⟩
abbrev S1x1x1024 : Shape := ⟨3, ![1, 1, 1024]⟩
abbrev S512x1024 : Shape := ⟨2, ![512, 1024]⟩
abbrev S1x1024 : Shape := ⟨2, ![1, 1024]⟩
abbrev S1x1x512x128 : Shape := ⟨4, ![1, 1, 512, 128]⟩
abbrev S512x128 : Shape := ⟨2, ![512, 128]⟩
abbrev S1024x1024 : Shape := ⟨2, ![1024, 1024]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S4x3x8x1024, .f32⟩
  | .hbm, ⟨3, _⟩ => ⟨S4x1024, .f32⟩
  | .hbm, ⟨4, _⟩ => ⟨S2x1024x1024, .f32⟩
  | .hbm, ⟨5, _⟩ => ⟨S8x2048x8x128, .f32⟩
  | .hbm, ⟨6, _⟩ => ⟨S8x8x2048x128, .f32⟩
  | .hbm, ⟨7, _⟩ => ⟨S8x8x2048x128, .bf16⟩
  | .hbm, ⟨8, _⟩ => ⟨S2x1024x1024, .bf16⟩
  | .hbm, ⟨9, _⟩ => ⟨S4x3x8x1x1024, .f32⟩
  | .hbm, ⟨10, _⟩ => ⟨S4x1x1024, .f32⟩
  | .hbm, ⟨11, _⟩ => ⟨S8x2048x1024, .f32⟩
  | .local _ .vmem, ⟨0, _⟩ => ⟨S1x8x512x128, .bf16⟩
  | .local _ .vmem, ⟨1, _⟩ => ⟨S1x8x512x128, .bf16⟩
  | .local _ .vmem, ⟨2, _⟩ => ⟨S1x1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1024, .f32⟩
  | .local _ .vmem, ⟨8, _⟩ => ⟨S1x512x1024, .f32⟩
  | .local _ .vmem, ⟨9, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LastReferenceIdeal.lean ====
abbrev S8x2048x1024 : Shape := ⟨3, ![8, 2048, 1024]⟩
abbrev S4x3x8x1024 : Shape := ⟨4, ![4, 3, 8, 1024]⟩
abbrev S4x1024 : Shape := ⟨2, ![4, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x8x1024 : Shape := ⟨4, ![1, 1, 8, 1024]⟩
abbrev S8x1024 : Shape := ⟨2, ![8, 1024]⟩
abbrev S8x1x1024 : Shape := ⟨3, ![8, 1, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S4x3x8x1024, .f32⟩
  | .hbm, ⟨3, _⟩ => ⟨S4x1024, .f32⟩
  | .hbm, ⟨4, _⟩ => ⟨S2x1024x1024, .f32⟩
  | .hbm, ⟨5, _⟩ => ⟨S1x1024x1024, .f32⟩
  | .hbm, ⟨6, _⟩ => ⟨S1024x1024, .f32⟩
  | .hbm, ⟨7, _⟩ => ⟨S8x2048x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S1x1x8x1024, .f32⟩
  | .hbm, ⟨16, _⟩ => ⟨S8x1024, .f32⟩
  | .hbm, ⟨17, _⟩ => ⟨S8x1x1024, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1024, .f32⟩
  | .hbm, ⟨25, _⟩ => ⟨S1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Mod.lean ====
abbrev S8x1024 : Shape := ⟨2, ![8, 1024]⟩
abbrev S4x1024x3072 : Shape := ⟨3, ![4, 1024, 3072]⟩
abbrev S4x3072 : Shape := ⟨2, ![4, 3072]⟩
abbrev S4x3x1x1024 : Shape := ⟨4, ![4, 3, 1, 1024]⟩
abbrev S4x3x8x1024 : Shape := ⟨4, ![4, 3, 8, 1024]⟩
abbrev S1x1024x3072 : Shape := ⟨3, ![1, 1024, 3072]⟩
abbrev S1x3x1x1024 : Shape := ⟨4, ![1, 3, 1, 1024]⟩
abbrev S1x3x8x1024 : Shape := ⟨4, ![1, 3, 8, 1024]⟩
abbrev S1x1024x1024 : Shape := ⟨3, ![1, 1024, 1024]⟩
abbrev S1024x1024 : Shape := ⟨2, ![1024, 1024]⟩
abbrev S1x1x1x1024 : Shape := ⟨4, ![1, 1, 1, 1024]⟩
abbrev S1x1024 : Shape := ⟨2, ![1, 1024]⟩
abbrev S1x1x8x1024 : Shape := ⟨4, ![1, 1, 8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x3072, .f32⟩
  | .hbm, ⟨2, _⟩ => ⟨S4x3072, .f32⟩
  | .hbm, ⟨3, _⟩ => ⟨S4x3x1x1024, .f32⟩
  | .hbm, ⟨4, _⟩ => ⟨S4x3x8x1024, .f32⟩
  | .local _ .vmem, ⟨0, _⟩ => ⟨S8x1024, .f32⟩
  | .local _ .vmem, ⟨1, _⟩ => ⟨S1x1024x3072, .f32⟩
  | .local _ .vmem, ⟨2, _⟩ => ⟨S1x1024x3072, .f32⟩
  | .local _ .vmem, ⟨3, _⟩ => ⟨S1x3x1x1024, .f32⟩
  | .local _ .vmem, ⟨4, _⟩ => ⟨S1x3x1x1024, .f32⟩
  | .local _ .vmem, ⟨5, _⟩ => ⟨S1x3x8x1024, .f32⟩
  | .local _ .vmem, ⟨6, _⟩ => ⟨S1x3x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModReferenceIdeal.lean ====
abbrev S8x1024 : Shape := ⟨2, ![8, 1024]⟩
abbrev S4x1024x3072 : Shape := ⟨3, ![4, 1024, 3072]⟩
abbrev S4x3072 : Shape := ⟨2, ![4, 3072]⟩
abbrev S_ : Shape := ⟨0, ![]⟩
abbrev S4x3072x8 : Shape := ⟨3, ![4, 3072, 8]⟩
abbrev S4x8x3072 : Shape := ⟨3, ![4, 8, 3072]⟩
abbrev S4x1x3072 : Shape := ⟨3, ![4, 1, 3072]⟩
abbrev S4x8x1024 : Shape := ⟨3, ![4, 8, 1024]⟩
abbrev S4x1x8x1024 : Shape := ⟨4, ![4, 1, 8, 1024]⟩
abbrev S4x3x8x1024 : Shape := ⟨4, ![4, 3, 8, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x3072, .f32⟩
  | .hbm, ⟨2, _⟩ => ⟨S4x3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x3072x8, .f32⟩
  | .hbm, ⟨13, _⟩ => ⟨S4x8x3072, .f32⟩
  | .hbm, ⟨14, _⟩ => ⟨S4x1x3072, .f32⟩
  | .hbm, ⟨15, _⟩ => ⟨S4x8x3072, .f32⟩
  | .hbm, ⟨16, _⟩ => ⟨S4x8x3072, .f32⟩
  | .hbm, ⟨17, _⟩ => ⟨S4x8x1024, .f32⟩
  | .hbm, ⟨18, _⟩ => ⟨S4x8x1024, .f32⟩
  | .hbm, ⟨19, _⟩ => ⟨S4x8x1024, .f32⟩
  | .hbm, ⟨20, _⟩ => ⟨S4x1x8x1024, .f32⟩
  | .hbm, ⟨21, _⟩ => ⟨S4x1x8x1024, .f32⟩
  | .hbm, ⟨22, _⟩ => ⟨S4x1x8x1024, .f32⟩
  | .hbm, ⟨23, _⟩ => ⟨S4x3x8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Proof.Consts.lean ====
module

public import Idealize.ShloMosaic.PureOps.Ideal

@[expose] public section

noncomputable section

namespace Cert.Consts

open Idealize.ShloMosaic

/-- The word of negative infinity. -/
theorem ofBits_negInf : Ideal.ofBits .f32 0xFF800000#32 = ⊥ := by
  simp [Ideal.ofBits, Ideal.ieee]

/-- The word of positive infinity. -/
theorem ofBits_posInf : Ideal.ofBits .f32 0x7F800000#32 = ⊤ := by
  simp [Ideal.ofBits, Ideal.ieee]

/-- The word of one eighth. -/
theorem ofBits_eighth : Ideal.ofBits .f32 0x3E000000#32 = ((1 / 8 : ℝ) : EReal) := by
  simp [Ideal.ofBits, Ideal.ieee, -EReal.coe_mul]; norm_num

/-- The word of 128. -/
theorem ofBits_128 : Ideal.ofBits .f32 0x43000000#32 = ((128 : ℝ) : EReal) := by
  simp [Ideal.ofBits, Ideal.ieee, -EReal.coe_mul]; norm_num

/-- The word of the fixed part of lambda denotes some real. -/
theorem ofBits_lam : ∃ r : ℝ, Ideal.ofBits .f32 0x3E4CCCCD#32 = (r : EReal) := by
  simp only [Ideal.ofBits, Ideal.ieee]
  norm_num
  exact ⟨_, rfl⟩

end Cert.Consts

end
-- ==== Proof.Steps.lean ====
module

public import proofs.«01_k».proof.Proof.Gen.KernelIdeal.Frame
public import Idealize.ShloMosaic.Lib.Pipeline.ValueKit
public import proofs.«01_k».proof.Proof.Consts

@[expose] public section

set_option maxRecDepth 16384

noncomputable section

namespace Cert.Diff

open Cert.KernelIdeal Cert.KernelIdeal.Gen Idealize.ShloMosaic Idealize.ShloMosaic.TcCoe

/-- Row `n` of one of the four operands (0 queries, 1 keys, 2 values, 3 gates) at lane `d`. -/
def ent (X : Vec Ideal S1x1x4x2048x128 .bf16) (kd : Fin 4) (n : ℕ) (d : Fin 128) : EReal :=
  if h : n < 2048 then X (ix5 0 0 kd ⟨n, h⟩ d) else 0

/-- A query row with the lanes of the other head map cleared, in units of the base-two exponential. -/
def qz (X : Vec Ideal S1x1x4x2048x128 .bf16) (b : Bool) (n : ℕ) (d : Fin 128) : EReal :=
  if (decide (d.val < 64)) = b then ent X 0 n d * (((1 / 8) * (Real.log 2)⁻¹ : ℝ) : EReal) else 0

/-- The score of key `j` for query `i` under one head map. -/
def sc (X : Vec Ideal S1x1x4x2048x128 .bf16) (b : Bool) (i j : ℕ) : EReal :=
  ∑ d : Fin 128, ent X 1 j d * qz X b i d

/-- The causal mask. -/
def mk (i j : ℕ) : EReal := if j ≤ i then 0 else ⊥

/-- The masked score. -/
def sm (S : ℕ → ℕ → EReal) (i j : ℕ) : EReal := S i j + mk i j

/-- The values by lanes, with a row of ones under them. -/
def vt (X : Vec Ideal S1x1x4x2048x128 .bf16) (r : Fin 144) (j : ℕ) : EReal :=
  if h : r.val < 128 then ent X 2 j ⟨r.val, h⟩ else if r.val = 128 then 1 else 0

/-- Where the keys of step `t` end for column `c` of query tile `q`. -/
def stop (q t c : ℕ) : ℕ := if t < q then 512 * t + 512 else if c < 256 then 512 * q + 256 else 512 * q + 512

/-- The running maximum of a column after `t` steps. -/
def mS (S : ℕ → ℕ → EReal) (q : ℕ) : ℕ → ℕ → EReal
  | 0, _ => ⊥
  | t + 1, c => max (mS S q t c) ((Finset.Ico (512 * t) (stop q t c)).sup (sm S (512 * q + c)))

/-- The running weighted sum of a column after `t` steps. -/
def aS (X : Vec Ideal S1x1x4x2048x128 .bf16) (S : ℕ → ℕ → EReal) (q : ℕ) : ℕ → Fin 144 → ℕ → EReal
  | 0, _, _ => 0
  | t + 1, r, c => FloatOps.exp2 (F := Ideal) (φ := .f32) (mS S q t c - mS S q (t + 1) c) * aS X S q t r c
      + ∑ j ∈ Finset.Ico (512 * t) (stop q t c),
          vt X r j * FloatOps.exp2 (F := Ideal) (φ := .f32) (sm S (512 * q + c) j - mS S q (t + 1) c)

theorem sup_fin_Ico (g : ℕ → EReal) (a n : ℕ) :
    Finset.fold max (Ideal.ofBits .f32 0xFF800000#32) (fun x : Fin n => g (a + x.val)) Finset.univ
      = (Finset.Ico a (a + n)).sup g := by
  rw [Consts.ofBits_negInf]
  change Finset.univ.sup (fun x : Fin n => g (a + x.val)) = _
  apply le_antisymm
  · refine Finset.sup_le fun x _ => Finset.le_sup (f := g) ?_
    simp
  · refine Finset.sup_le fun x hx => ?_
    rw [Finset.mem_Ico] at hx
    have := Finset.le_sup (s := Finset.univ) (f := fun x : Fin n => g (a + x.val)) (Finset.mem_univ ⟨x - a, by omega⟩)
    simpa [show a + (x - a) = x by omega] using this

theorem sum_fin_Ico (g : ℕ → EReal) (a n : ℕ) :
    ∑ x : Fin n, g (a + x.val) = ∑ j ∈ Finset.Ico a (a + n), g j := by
  rw [Finset.sum_Ico_eq_sum_range, Nat.add_sub_cancel_left, Finset.sum_range]

/-- A block of masked scores. -/
def tB (R C : ℕ) (S : ℕ → ℕ → EReal) (i0 j0 : ℕ) : FVec Ideal ⟨2, ![R, C]⟩ .f32 :=
  fun y => sm S (i0 + (y 1).val) (j0 + (y 0).val)

def qzV (X : Vec Ideal S1x1x4x2048x128 .bf16) (b : Bool) (i0 : ℕ) : FVec Ideal S512x128 .bf16 :=
  fun y => qz X b (i0 + (y 0).val) (y 1)

def mV (S : ℕ → ℕ → EReal) (q t : ℕ) : FVec Ideal S1x512 .f32 :=
  fun y => mS S q t (y 1).val

def cV (S : ℕ → ℕ → EReal) (q t : ℕ) : FVec Ideal S1x1x1x512 .f32 :=
  fun y => (Finset.Ico (512 * t) (stop q t (y 3).val)).sup (sm S (512 * q + (y 3).val))

def aV (C : ℕ) (c0 : ℕ) (X : Vec Ideal S1x1x4x2048x128 .bf16) (S : ℕ → ℕ → EReal) (q t : ℕ) : FVec Ideal ⟨2, ![144, C]⟩ .f32 :=
  fun y => aS X S q t (y 0) (c0 + (y 1).val)

def vtV (R : ℕ) (j0 : ℕ) (X : Vec Ideal S1x1x4x2048x128 .bf16) : FVec Ideal ⟨3, ![1, 144, R]⟩ .bf16 :=
  fun y => vt X (y 1) (j0 + (y 2).val)

/-- Rows of one operand. -/
def eV (R : ℕ) (X : Vec Ideal S1x1x4x2048x128 .bf16) (kd : Fin 4) (n : ℕ) : FVec Ideal ⟨5, ![1, 1, 1, R, 128]⟩ .bf16 :=
  fun y => ent X kd (n + (y 3).val) (y 4)

/-- A block of the causal mask. -/
def mkV (R C : ℕ) (j0 i0 : ℕ) : FVec Ideal ⟨3, ![1, R, C]⟩ .f32 := fun y => mk (i0 + (y 2).val) (j0 + (y 1).val)

theorem score_scale : Named.named (F := Ideal) κ "score_scale" (φ := .f32) 1043900987#32 = (((1 / 8) * (Real.log 2)⁻¹ : ℝ) : EReal) :=
  IdealRules.named_const.ideal_named_scalar _ _ _ _ rfl

theorem mask : Named.named (F := Ideal) κ "mask" (φ := .f32) 4048155338#32 = ⊥ :=
  IdealRules.named_const.ideal_named_scalar _ _ _ _ rfl

theorem select_lt64 (n : ℕ) (h : n < 128) (a b : EReal) :
    Scalar.select (IntOp.cmpi .slt (BitVec.ofNat 32 n) 64#32) a b = if n < 64 then a else b := by
  rw [show (64#32) = BitVec.ofNat 32 64 from rfl, WordCmp.cmpi_slt_ofNat (by omega) (by omega)]
  by_cases h' : n < 64 <;> simp [h', Scalar.select]

theorem select_causal (c k : ℕ) (hc : c < 512) (hk : k < 512) (a b : EReal) :
    Scalar.select (IntOp.cmpi .sge (IntOp.subi (IntOp.addi 0#32 (BitVec.ofNat 32 c)) (BitVec.ofNat 32 k)) 0#32) a b
      = if k ≤ c then a else b := by
  rw [WordCmp.cmpi_sge_zero]
  have e : (IntOp.subi (IntOp.addi 0#32 (BitVec.ofNat 32 c)) (BitVec.ofNat 32 k)).toNat < 2 ^ (32 - 1) ↔ k ≤ c := by
    simp only [IntOp.subi, IntOp.addi, BitVec.zero_add, BitVec.toNat_sub, BitVec.toNat_ofNat]
    omega
  rw [show decide _ = decide (k ≤ c) from decide_eq_decide.mpr e]
  by_cases h' : k ≤ c <;> simp [h', Scalar.select]

variable (X : Vec Ideal S1x1x4x2048x128 .bf16) (S : ℕ → ℕ → EReal)

theorem qLow (i0 : ℕ) : k0_pay17 (F := Ideal) (k0_pay14 (eV 512 X 0 i0)) (k0_pay15 k0_pay3) k0_pay16 = qzV X true i0 := by
  funext y; idx_vars y
  pointwise [k0_pay17, k0_pay14, k0_pay15, k0_pay16, k0_pay3, eV, qzV, qz]
  rw [select_lt64 _ y1.isLt, score_scale]
  by_cases h : y1.val < 64 <;> simp [h]

theorem qHigh (i0 : ℕ) : k0_pay18 (F := Ideal) k0_pay3 (k0_pay14 (eV 512 X 0 i0)) = qzV X false i0 := by
  funext y; idx_vars y
  pointwise [k0_pay18, k0_pay14, k0_pay3, eV, qzV, qz]
  rw [select_lt64 _ y1.isLt, score_scale]
  by_cases h : y1.val < 64 <;> simp [h]

theorem mk_add (a i j : ℕ) : mk (a + i) (a + j) = mk i j := by simp [mk]

theorem scoreOff (b : Bool) (i0 j0 : ℕ) (h : j0 + 512 ≤ i0) :
    k0_pay98 (F := Ideal) (qzV X b i0) (eV 512 X 1 j0) = tB 512 512 (sc X b) i0 j0 := by
  funext y; idx_vars y
  pointwise [k0_pay98, eV, qzV, tB, sm, sc]
  rw [mk, if_pos (by omega), add_zero]

theorem scoreTop (b : Bool) (i0 : ℕ) :
    k0_pay27 (F := Ideal) (qzV X b i0) (eV 256 X 1 i0) (mkV 256 512 0 0) = tB 256 512 (sc X b) i0 i0 := by
  funext y; idx_vars y
  pointwise [k0_pay27, eV, qzV, tB, sm, sc, mkV]
  simp only [mk_add, Nat.zero_add]

theorem scoreBot (b : Bool) (i0 : ℕ) :
    k0_pay28 (F := Ideal) (qzV X b i0) (eV 256 X 1 (i0 + 256)) (mkV 256 256 256 256) = tB 256 256 (sc X b) (i0 + 256) (i0 + 256) := by
  funext y; idx_vars y
  pointwise [k0_pay28, eV, qzV, tB, sm, sc, mkV]
  simp only [mk_add, Nat.add_assoc]

theorem cmOff (q t : ℕ) (h : t < q) :
    k0_pay215 (F := Ideal) (tB 512 512 S (512 * q) (512 * t)) = cV S q t := by
  funext y; idx_vars y
  pointwise [k0_pay215, tB, cV]
  rw [sup_fin_Ico (fun j => sm S _ j), stop, if_pos h]

/-- The maxima of a step on the diagonal: its upper block serves every column, its lower block the right half. -/
theorem cmDiagOf (q : ℕ) :
    k0_pay32 (F := Ideal) (tB 256 256 S (512 * q + 256) (512 * q + 256))
      (shapeCast S1x512 (multiReduction (F := Ideal) .maximumf [0] S512 (tB 256 512 S (512 * q) (512 * q)) 0xFF800000#32 reduces_S256x512_S512 (.inl rfl) rfl) shapeCasts_S512_S1x512) = cV S q q := by
  funext y; idx_vars y
  pointwise [k0_pay32, tB, cV]
  rw [sup_fin_Ico (fun j => sm S _ j), sup_fin_Ico (fun j => sm S _ j), sup_fin_Ico (fun j => sm S _ j), stop, if_neg (by omega)]
  split_ifs with h
  · rfl
  · rw [show 512 * q + (256 + (y3.val - 256)) = 512 * q + y3.val by omega, show 512 * q + 256 + (y3.val - 256) = 512 * q + y3.val by omega,
      ← Finset.Ico_union_Ico_eq_Ico (a := 512 * q) (b := 512 * q + 256) (c := 512 * q + 512) (by omega) (by omega), Finset.sup_union]

theorem cmDiag (b : Bool) (q : ℕ) :
    k0_pay32 (F := Ideal) (tB 256 256 (sc X b) (512 * q + 256) (512 * q + 256))
      (k0_pay31 (qzV X b (512 * q)) (eV 256 X 1 (512 * q)) (mkV 256 512 0 0)) = cV (sc X b) q q := by
  refine Eq.trans ?_ (cmDiagOf (sc X b) q)
  rw [← scoreTop]
  rfl

theorem mStep (q t : ℕ) : k0_pay84 (F := Ideal) (k0_pay81 (mV S q t) (cV S q t)) = mV S q (t + 1) := by
  funext y; idx_vars y
  pointwise [k0_pay84, k0_pay81, mV, cV, mS]

theorem aOff (q t : ℕ) (h : t < q) :
    k0_pay83 (F := Ideal) (k0_pay81 (mV S q t) (cV S q t)) (k0_pay82 (mV S q t) (cV S q t))
      (tB 512 512 S (512 * q) (512 * t)) (aV 512 0 X S q t) (vtV 512 (512 * t) X) = aV 512 0 X S q (t + 1) := by
  funext y; idx_vars y
  pointwise [k0_pay83, k0_pay81, k0_pay82, mV, cV, aV, tB, vtV, aS, mS]
  rw [show stop q t y1.val = 512 * t + 512 from if_pos h]
  exact congrArg _ (sum_fin_Ico (fun j => vt X y0 j * FloatOps.exp2 (F := Ideal) (φ := .f32) (sm S (512 * q + y1.val) j - _)) _ _)

theorem aLeft (q : ℕ) :
    k0_pay51 (F := Ideal) (mV S q q) (cV S q q) (tB 256 512 S (512 * q) (512 * q)) (vtV 256 (512 * q) X) (aV 256 0 X S q q)
      = aV 256 0 X S q (q + 1) := by
  funext y; idx_vars y
  pointwise [k0_pay51, k0_pay49, k0_pay47, k0_pay48, mV, cV, aV, tB, vtV, aS, mS]
  rw [show stop q q y1.val = 512 * q + 256 by rw [stop, if_neg (by omega), if_pos y1.isLt]]
  exact congrArg _ (sum_fin_Ico (fun j => vt X y0 j * FloatOps.exp2 (F := Ideal) (φ := .f32) (sm S (512 * q + y1.val) j - _)) _ _)

theorem aRight (q : ℕ) :
    k0_pay53 (F := Ideal) (k0_pay49 (mV S q q) (cV S q q) (tB 256 512 S (512 * q) (512 * q)) (vtV 256 (512 * q) X))
      (k0_pay50 (mV S q q) (cV S q q) (tB 256 256 S (512 * q + 256) (512 * q + 256)) (vtV 256 (512 * q + 256) X))
      (k0_pay52 (mV S q q) (cV S q q)) (aV 256 256 X S q q)
      = aV 256 256 X S q (q + 1) := by
  funext y; idx_vars y
  pointwise [k0_pay53, k0_pay52, k0_pay50, k0_pay49, k0_pay47, k0_pay48, mV, cV, aV, tB, vtV, aS, mS]
  rw [show stop q q (256 + y1.val) = 512 * q + 512 by rw [stop, if_neg (by omega), if_neg (by omega)],
    show 512 * q + 256 + y1.val = 512 * q + (256 + y1.val) by omega,
    ← Finset.sum_Ico_consecutive _ (show 512 * q ≤ 512 * q + 256 by omega) (show 512 * q + 256 ≤ 512 * q + 512 by omega)]
  refine congrArg _ (congrArg₂ _
    (sum_fin_Ico (fun j => vt X y0 j * FloatOps.exp2 (F := Ideal) (φ := .f32) (sm S (512 * q + (256 + y1.val)) j - _)) _ _)
    (sum_fin_Ico (fun j => vt X y0 j * FloatOps.exp2 (F := Ideal) (φ := .f32) (sm S (512 * q + (256 + y1.val)) j - _)) _ _))

theorem table : k0_pay2 (F := Ideal) = mkV 512 512 0 0 := by
  funext y; idx_vars y
  pointwise [k0_pay2, mkV, mk]
  rw [select_causal _ _ y2.isLt y1.isLt, mask]
end Cert.Diff
-- ==== Proof.Reads.lean ====
module

public import proofs.«01_k».proof.Proof.Steps
public import Idealize.ShloMosaic.Lib.Pipeline.ReadBack

@[expose] public section

set_option maxRecDepth 16384

noncomputable section

namespace Cert.Diff

open Cert.KernelIdeal Cert.KernelIdeal.Gen Idealize.ShloMosaic Idealize.ShloMosaic.TcCoe

section generic
variable {sg : RefSig} {κ' : Kind} {sp : Space} {s : Shape} {e : EltTy} {Val : EltTy → Type} [∀ e, Nonempty (Val e)]

/-- A load at an offset that is known in closed form. -/
theorem readOff (v : View sg κ' sp s e) (L : List (View.Piece Val s e)) {off off' size : Fin s.rank → ℕ} (h : off = off')
    (inb : ∀ a, off a + size a ≤ s.size a) (inb' : ∀ a, off' a + size a ≤ s.size a) :
    v.readCov L (Rect.unit off size inb).toLoadRect = v.readCov L (Rect.unit off' size inb').toLoadRect := by
  subst h; rfl

/-- A load of the block stored last reads it. -/
theorem readHit {v : View sg κ' sp s e} {L : List (View.Piece Val s e)} {off size : Fin s.rank → ℕ}
    {inb inb' : ∀ a, off a + size a ≤ s.size a} {w : (Rect.unit off size inb).shape.Idx → Val e} :
    v.readCov (⟨Rect.unit off size inb, w⟩ :: L) (Rect.unit off size inb').toLoadRect = w :=
  View.readCov_cons_toLoadRect v _ w L

/-- A load passes over a store elsewhere. -/
theorem readSkip {v : View sg κ' sp s e} {L : List (View.Piece Val s e)} {off size off' size' : Fin s.rank → ℕ}
    {inb : ∀ a, off a + size a ≤ s.size a} {inb' : ∀ a, off' a + size' a ≤ s.size a} {w : (Rect.unit off size inb).shape.Idx → Val e}
    (h : ∃ a, size a = 0 ∨ size' a = 0 ∨ off a + 1 * (size a - 1) < off' a ∨ off' a + 1 * (size' a - 1) < off a) :
    v.readCov (⟨Rect.unit off size inb, w⟩ :: L) (Rect.unit off' size' inb').toLoadRect = v.readCov L (Rect.unit off' size' inb').toLoadRect :=
  View.readCov_skip v _ w L _ (decide_eq_true h)

end generic

variable (X : Vec Ideal S1x1x4x2048x128 .bf16) (S : ℕ → ℕ → EReal)

/-- The two halves of an accumulator, stored one after the other, read back as the whole. -/
theorem readHalves {κ' : Kind} {sp : Space} {sg : RefSig} (v : View sg κ' sp S144x512 .f32) (L : List (View.Piece (Elt Ideal) S144x512 .f32)) (q t : ℕ)
    (iL iR iW) (wL wR : FVec Ideal S144x256 .f32) (hL : wL = aV 256 0 X S q t) (hR : wR = aV 256 256 X S q t) :
    v.readCov (⟨Rect.unit (s := S144x512) ![0, 256] S144x256.size iR, wR⟩ :: ⟨Rect.unit (s := S144x512) ![0, 0] S144x256.size iL, wL⟩ :: L)
      (Rect.unit (s := S144x512) ![0, 0] S144x512.size iW).toLoadRect = aV 512 0 X S q t := by
  subst hL hR
  rw [View.readCov_eq_canon']
  funext y
  refine (View.canon_append_of_piecesOf (aV 512 0 X S q t) L
    [⟨Rect.unit (s := S144x512) ![0, 256] S144x256.size iR, aV 256 256 X S q t⟩, ⟨Rect.unit (s := S144x512) ![0, 0] S144x256.size iL, aV 256 0 X S q t⟩] ?_ _ ?_).trans ?_
  · refine ⟨fun x => ?_, fun x => ?_, trivial⟩
    · exact congrArg₂ (aS X S q t) (Fin.ext (by simp)) (by simp)
    · exact congrArg₂ (aS X S q t) (Fin.ext (by simp)) (by simp)
  · have h0 : (y 0).val < 144 := (y 0).isLt
    have h1 : (y 1).val < 512 := (y 1).isLt
    by_cases h : (y 1).val < 256
    · refine ⟨_, List.mem_cons_of_mem _ (List.mem_cons_self ..), ?_⟩
      rw [Rect.mem_set_unit]
      refine Fin.forall_fin_two.mpr ⟨?_, ?_⟩ <;> simp <;> omega
    · refine ⟨_, List.mem_cons_self .., ?_⟩
      rw [Rect.mem_set_unit]
      refine Fin.forall_fin_two.mpr ⟨?_, ?_⟩ <;> simp <;> omega
  · exact congrArg₂ (aS X S q t) (Fin.ext (by simp)) (by simp)

/-- Half of an accumulator stored whole. -/
theorem readHalf {κ' : Kind} {sp : Space} {sg : RefSig} (v : View sg κ' sp S144x512 .f32) (L : List (View.Piece (Elt Ideal) S144x512 .f32)) (q t : ℕ)
    (c0 : ℕ) (iW iH) (w : FVec Ideal S144x512 .f32) (h : w = aV 512 0 X S q t) :
    v.readCov (⟨Rect.unit (s := S144x512) ![0, 0] S144x512.size iW, w⟩ :: L)
      (Rect.unit (s := S144x512) ![0, c0] S144x256.size iH).toLoadRect = aV 256 c0 X S q t := by
  subst h
  refine (View.readCov_fill v iW _ L _ (by decide)).trans ?_
  funext y
  exact congrArg₂ (aS X S q t) (Fin.ext (by simp)) (by simp)

/-- A block of the mask stored whole. -/
theorem readMask {κ' : Kind} {sp : Space} {sg : RefSig} (v : View sg κ' sp S1x512x512 .f32) (L : List (View.Piece (Elt Ideal) S1x512x512 .f32))
    (R C a b : ℕ) (iW iH) :
    v.readCov (⟨Rect.unit (s := S1x512x512) ![0, 0, 0] S1x512x512.size iW, k0_pay2 (F := Ideal)⟩ :: L)
      (Rect.unit (s := S1x512x512) ![0, a, b] ![1, R, C] iH).toLoadRect = mkV R C a b := by
  refine (View.readCov_fill v iW _ L _ (by decide)).trans ?_
  rw [table]
  funext y
  exact congrArg₂ mk (by simp) (by simp)

/-- A block of the mask carried from the point before. -/
theorem readMask' (M : Memref sig .tc .vmem S1x512x512 .f32) (hM : M.IsWhole) (R C a b : ℕ) (iH) :
    View.readAt (Elt Ideal) M.view (Rect.unit (s := S1x512x512) ![0, a, b] ![1, R, C] iH).toLoadRect (hM.unread (mkV 512 512 0 0)) = mkV R C a b := by
  rw [View.readAt_eq_ld, hM.read_unread]
  funext y
  exact congrArg₂ mk (by simp) (by simp)

/-- Rows of one operand's block. -/
theorem readRows (M : Memref sig .tc .vmem S1x1x4x2048x128 .bf16) (hM : M.IsWhole) (R n : ℕ) (kd : Fin 4) (iH) :
    View.readAt (Elt Ideal) M.view (Rect.unit (s := S1x1x4x2048x128) ![0, 0, kd.val, n, 0] ![1, 1, 1, R, 128] iH).toLoadRect (hM.unread X) = eV R X kd n := by
  rw [View.readAt_eq_ld, hM.read_unread]
  funext y
  have h3 : n + R ≤ 2048 := iH 3
  have hy : (y 3).val < R := (y 3).isLt
  refine ((dif_pos (show n + (y 3).val < 2048 by omega)).trans (congrArg X (funext fun a => Fin.ext ?_))).symm
  fin_cases a
  · simp
  · simp
  · simp
  · simp
  · simp

/-- The values by lanes over a row of ones, as the scratch holds them. -/
def vtAll : FVec Ideal S4x144x512 .bf16 := fun y => vt X (y 1) (512 * (y 0).val + (y 2).val)

theorem vtVal (o : ℕ) (hs) (k : ℕ) (hk : o = 512 * k) (h : k < 4) :
    shapeCast S1x128x512 (truncf (F := Ideal) .bf16 (extractStridedSlice S128x512 ![0, o] (k0_pay4 (F := Ideal) (eV 2048 X 2 0)) hs) bitsLt_bf16_f32) shapeCasts_S128x512_S1x128x512
      = fun y => vt X ⟨(y 1).val, lt_trans (y 1).isLt (by decide)⟩ (512 * k + (y 2).val) := by
  subst hk
  funext y; idx_vars y
  pointwise [k0_pay4, eV]
  rw [vt, dif_pos y1.isLt]

theorem vtOne : k0_pay7 (F := Ideal) = fun y => if (y 1).val = 0 then 1 else 0 := by
  funext y; idx_vars y
  pointwise [k0_pay7, k0_pay5]
  obtain ⟨n, hn⟩ := y1
  interval_cases n <;> rfl

/-- What the scratch of the values holds once filled. -/
theorem canonVt (w0 : FVec Ideal S1x1x1x2048x128 .bf16) (h0 : w0 = eV 2048 X 2 0) (i0 i1 i2 i3 i4 i5 i6 i7) :
    View.canon (Val := Elt Ideal) (s := S4x144x512) (e := .bf16)
      [⟨Rect.unit ![3, 128, 0] S1x16x512.size i7, k0_pay13 (F := Ideal) k0_pay5⟩, ⟨Rect.unit ![3, 0, 0] S1x128x512.size i6, k0_pay12 (F := Ideal) (k0_pay4 w0)⟩,
       ⟨Rect.unit ![2, 128, 0] S1x16x512.size i5, k0_pay11 (F := Ideal) k0_pay5⟩, ⟨Rect.unit ![2, 0, 0] S1x128x512.size i4, k0_pay10 (F := Ideal) (k0_pay4 w0)⟩,
       ⟨Rect.unit ![1, 128, 0] S1x16x512.size i3, k0_pay9 (F := Ideal) k0_pay5⟩, ⟨Rect.unit ![1, 0, 0] S1x128x512.size i2, k0_pay8 (F := Ideal) w0⟩,
       ⟨Rect.unit ![0, 128, 0] S1x16x512.size i1, k0_pay7 (F := Ideal)⟩, ⟨Rect.unit ![0, 0, 0] S1x128x512.size i0, k0_pay6 (F := Ideal) w0⟩] = vtAll X := by
  subst h0
  funext y
  have one (k : ℕ) (hk : k < 4) (inb) (x : (Rect.unit (s := S4x144x512) ![k, 128, 0] S1x16x512.size inb).shape.Idx) :
      k0_pay7 (F := Ideal) x = vtAll X ((Rect.unit (s := S4x144x512) ![k, 128, 0] S1x16x512.size inb).emb x) := by
    have h1 : (x 1).val < 16 := (x 1).isLt
    have e : ((Rect.unit (s := S4x144x512) ![k, 128, 0] S1x16x512.size inb).emb x 1).val = 128 + (x 1).val := by simp
    rw [vtOne]
    refine Eq.trans ?_ (dif_neg (by omega)).symm
    exact if_congr (by omega) rfl rfl
  have val (o k : ℕ) (hs) (ho : o = 512 * k) (hk : k < 4) (inb) (x : (Rect.unit (s := S4x144x512) ![k, 0, 0] S1x128x512.size inb).shape.Idx) :
      shapeCast S1x128x512 (truncf (F := Ideal) .bf16 (extractStridedSlice S128x512 ![0, o] (k0_pay4 (F := Ideal) (eV 2048 X 2 0)) hs) bitsLt_bf16_f32) shapeCasts_S128x512_S1x128x512 x
        = vtAll X ((Rect.unit (s := S4x144x512) ![k, 0, 0] S1x128x512.size inb).emb x) := by
    have h0 : (x 0).val < 1 := (x 0).isLt
    rw [vtVal X o hs k ho hk]
    refine congrArg₂ (vt X) (Fin.ext (by simp)) ?_
    simp
  refine Eq.trans (congrArg (fun L => View.canon L y) (List.append_nil _).symm)
    (View.canon_append_of_piecesOf (Val := Elt Ideal) (e := .bf16) (vtAll X) [] _ ?_ y ?_)
  · exact ⟨one 3 (by decide) i7, val 1536 3 _ rfl (by decide) i6, one 2 (by decide) i5, val 1024 2 _ rfl (by decide) i4,
      one 1 (by decide) i3, val 512 1 _ rfl (by decide) i2, one 0 (by decide) i1, val 0 0 _ rfl (by decide) i0, trivial⟩
  · have h0 : (y 0).val < 4 := (y 0).isLt
    have h1 : (y 1).val < 144 := (y 1).isLt
    have h2 : (y 2).val < 512 := (y 2).isLt
    simp only [List.exists_mem_cons_iff, Rect.mem_set_unit, Fin.forall_fin_succ]
    simp
    omega

/-- A block of the values out of the filled scratch. -/
theorem readVt {κ' : Kind} {sp : Space} {sg : RefSig} (v : View sg κ' sp S4x144x512 .bf16) (L : List (View.Piece (Elt Ideal) S4x144x512 .bf16))
    (hL : View.canon L = vtAll X) (R k o : ℕ) (iH) :
    v.readCov L (Rect.unit (s := S4x144x512) ![k, 0, o] ![1, 144, R] iH).toLoadRect = vtV R (512 * k + o) X := by
  rw [View.readCov_eq_canon', hL]
  funext y
  have h0 : (y 0).val < 1 := (y 0).isLt
  refine congrArg₂ (vt X) (Fin.ext (by simp)) ?_
  simp
  omega

end Cert.Diff
-- ==== Proof.Stores.lean ====
module

public import proofs.«01_k».proof.Proof.Reads

@[expose] public section

set_option maxRecDepth 16384

noncomputable section

namespace Cert.Diff

open Cert.KernelIdeal Cert.KernelIdeal.Gen Idealize.ShloMosaic Idealize.ShloMosaic.TcCoe

variable (X : Vec Ideal S1x1x4x2048x128 .bf16) (S : ℕ → ℕ → EReal)

theorem tB_same (R C : ℕ) (i0 j0 : ℕ) (h : Shape.ShapeCasts ⟨2, ![R, C]⟩ ⟨2, ![R, C]⟩) :
    shapeCast ⟨2, ![R, C]⟩ (tB R C S i0 j0) h = tB R C S i0 j0 := by
  funext y
  rw [shapeCast_self]

theorem stOffT (Q K : ℕ) (h : K < Q) (q k : FVec Ideal S1x1x1x512x128 .bf16) (hq : q = eV 512 X 0 (512 * Q)) (hk : k = eV 512 X 1 (512 * K)) :
    shapeCast S512x512 (k0_pay98 (F := Ideal) (k0_pay17 (k0_pay14 q) (k0_pay15 k0_pay3) k0_pay16) k) shapeCasts_S512x512_S512x512 = tB 512 512 (sc X true) (512 * Q) (512 * K) := by
  subst hq hk
  rw [qLow, scoreOff X _ _ _ (by omega)]
  exact tB_same _ _ _ _ _ _

theorem stTopT (Q : ℕ) (q : FVec Ideal S1x1x1x512x128 .bf16) (k : FVec Ideal S1x1x1x256x128 .bf16) (mt : FVec Ideal S1x256x512 .f32)
    (hq : q = eV 512 X 0 (512 * Q)) (hk : k = eV 256 X 1 (512 * Q)) (hm : mt = mkV 256 512 0 0) :
    shapeCast S256x512 (k0_pay27 (F := Ideal) (k0_pay17 (k0_pay14 q) (k0_pay15 k0_pay3) k0_pay16) k mt) shapeCasts_S256x512_S256x512 = tB 256 512 (sc X true) (512 * Q) (512 * Q) := by
  subst hq hk hm
  rw [qLow, scoreTop]
  exact tB_same _ _ _ _ _ _

theorem stBotT (Q : ℕ) (q : FVec Ideal S1x1x1x512x128 .bf16) (k : FVec Ideal S1x1x1x256x128 .bf16) (mt : FVec Ideal S1x256x256 .f32)
    (hq : q = eV 512 X 0 (512 * Q)) (hk : k = eV 256 X 1 (512 * Q + 256)) (hm : mt = mkV 256 256 256 256) :
    shapeCast S256x256 (k0_pay28 (F := Ideal) (k0_pay17 (k0_pay14 q) (k0_pay15 k0_pay3) k0_pay16) k mt) shapeCasts_S256x256_S256x256 = tB 256 256 (sc X true) (512 * Q + 256) (512 * Q + 256) := by
  subst hq hk hm
  rw [qLow, scoreBot]
  exact tB_same _ _ _ _ _ _

theorem cOffT (Q K : ℕ) (h : K < Q) (q k : FVec Ideal S1x1x1x512x128 .bf16) (hq : q = eV 512 X 0 (512 * Q)) (hk : k = eV 512 X 1 (512 * K)) :
    k0_pay215 (F := Ideal) (k0_pay98 (k0_pay17 (k0_pay14 q) (k0_pay15 k0_pay3) k0_pay16) k) = cV (sc X true) Q K := by
  subst hq hk
  rw [qLow, scoreOff X _ _ _ (by omega)]
  exact cmOff _ _ _ h

theorem cDiagT (Q : ℕ) (q : FVec Ideal S1x1x1x512x128 .bf16) (k k' : FVec Ideal S1x1x1x256x128 .bf16) (mt : FVec Ideal S1x256x512 .f32) (mb : FVec Ideal S1x256x256 .f32)
    (hq : q = eV 512 X 0 (512 * Q)) (hk : k = eV 256 X 1 (512 * Q)) (hk' : k' = eV 256 X 1 (512 * Q + 256)) (hm : mt = mkV 256 512 0 0) (hb : mb = mkV 256 256 256 256) :
    k0_pay32 (F := Ideal) (k0_pay28 (k0_pay17 (k0_pay14 q) (k0_pay15 k0_pay3) k0_pay16) k' mb) (k0_pay31 (k0_pay17 (k0_pay14 q) (k0_pay15 k0_pay3) k0_pay16) k mt) = cV (sc X true) Q Q := by
  subst hq hk hk' hm hb
  rw [qLow, scoreBot]
  exact cmDiag X _ _

theorem stOffF (Q K : ℕ) (h : K < Q) (q k : FVec Ideal S1x1x1x512x128 .bf16) (hq : q = eV 512 X 0 (512 * Q)) (hk : k = eV 512 X 1 (512 * K)) :
    shapeCast S512x512 (k0_pay98 (F := Ideal) (k0_pay18 k0_pay3 (k0_pay14 q)) k) shapeCasts_S512x512_S512x512 = tB 512 512 (sc X false) (512 * Q) (512 * K) := by
  subst hq hk
  rw [qHigh, scoreOff X _ _ _ (by omega)]
  exact tB_same _ _ _ _ _ _

theorem stTopF (Q : ℕ) (q : FVec Ideal S1x1x1x512x128 .bf16) (k : FVec Ideal S1x1x1x256x128 .bf16) (mt : FVec Ideal S1x256x512 .f32)
    (hq : q = eV 512 X 0 (512 * Q)) (hk : k = eV 256 X 1 (512 * Q)) (hm : mt = mkV 256 512 0 0) :
    shapeCast S256x512 (k0_pay27 (F := Ideal) (k0_pay18 k0_pay3 (k0_pay14 q)) k mt) shapeCasts_S256x512_S256x512 = tB 256 512 (sc X false) (512 * Q) (512 * Q) := by
  subst hq hk hm
  rw [qHigh, scoreTop]
  exact tB_same _ _ _ _ _ _

theorem stBotF (Q : ℕ) (q : FVec Ideal S1x1x1x512x128 .bf16) (k : FVec Ideal S1x1x1x256x128 .bf16) (mt : FVec Ideal S1x256x256 .f32)
    (hq : q = eV 512 X 0 (512 * Q)) (hk : k = eV 256 X 1 (512 * Q + 256)) (hm : mt = mkV 256 256 256 256) :
    shapeCast S256x256 (k0_pay28 (F := Ideal) (k0_pay18 k0_pay3 (k0_pay14 q)) k mt) shapeCasts_S256x256_S256x256 = tB 256 256 (sc X false) (512 * Q + 256) (512 * Q + 256) := by
  subst hq hk hm
  rw [qHigh, scoreBot]
  exact tB_same _ _ _ _ _ _

theorem cOffF (Q K : ℕ) (h : K < Q) (q k : FVec Ideal S1x1x1x512x128 .bf16) (hq : q = eV 512 X 0 (512 * Q)) (hk : k = eV 512 X 1 (512 * K)) :
    k0_pay215 (F := Ideal) (k0_pay98 (k0_pay18 k0_pay3 (k0_pay14 q)) k) = cV (sc X false) Q K := by
  subst hq hk
  rw [qHigh, scoreOff X _ _ _ (by omega)]
  exact cmOff _ _ _ h

theorem cDiagF (Q : ℕ) (q : FVec Ideal S1x1x1x512x128 .bf16) (k k' : FVec Ideal S1x1x1x256x128 .bf16) (mt : FVec Ideal S1x256x512 .f32) (mb : FVec Ideal S1x256x256 .f32)
    (hq : q = eV 512 X 0 (512 * Q)) (hk : k = eV 256 X 1 (512 * Q)) (hk' : k' = eV 256 X 1 (512 * Q + 256)) (hm : mt = mkV 256 512 0 0) (hb : mb = mkV 256 256 256 256) :
    k0_pay32 (F := Ideal) (k0_pay28 (k0_pay18 k0_pay3 (k0_pay14 q)) k' mb) (k0_pay31 (k0_pay18 k0_pay3 (k0_pay14 q)) k mt) = cV (sc X false) Q Q := by
  subst hq hk hk' hm hb
  rw [qHigh, scoreBot]
  exact cmDiag X _ _

theorem mInit (q : ℕ) : k0_pay33 (F := Ideal) = mV S q 0 := by
  funext y; idx_vars y
  pointwise [k0_pay33, mV, mS]
  exact mask

theorem aInit (q : ℕ) : k0_pay34 (F := Ideal) = aV 512 0 X S q 0 := by
  funext y; idx_vars y
  pointwise [k0_pay34, aV, aS]

theorem mSt (q t : ℕ) (mo : FVec Ideal S1x512 .f32) (cm : FVec Ideal S1x1x1x512 .f32) (hm : mo = mV S q t) (hc : cm = cV S q t) :
    k0_pay84 (F := Ideal) (k0_pay81 mo cm) = mV S q (t + 1) := by
  subst hm hc; exact mStep S q t

theorem aOffSt (q t : ℕ) (h : t < q) (mo : FVec Ideal S1x512 .f32) (cm : FVec Ideal S1x1x1x512 .f32) (s : FVec Ideal S512x512 .f32)
    (a : FVec Ideal S144x512 .f32) (v : FVec Ideal S1x144x512 .bf16) (hm : mo = mV S q t) (hc : cm = cV S q t)
    (hs : s = tB 512 512 S (512 * q) (512 * t)) (ha : a = aV 512 0 X S q t) (hv : v = vtV 512 (512 * t + 0) X) :
    k0_pay83 (F := Ideal) (k0_pay81 mo cm) (k0_pay82 mo cm) s a v = aV 512 0 X S q (t + 1) := by
  subst hm hc hs ha hv; exact aOff X S q t h

theorem aLeftSt (q : ℕ) (mo : FVec Ideal S1x512 .f32) (cm : FVec Ideal S1x1x1x512 .f32) (s : FVec Ideal S256x512 .f32)
    (v : FVec Ideal S1x144x256 .bf16) (a : FVec Ideal S144x256 .f32) (hm : mo = mV S q q) (hc : cm = cV S q q)
    (hs : s = tB 256 512 S (512 * q) (512 * q)) (hv : v = vtV 256 (512 * q + 0) X) (ha : a = aV 256 0 X S q q) :
    k0_pay51 (F := Ideal) mo cm s v a = aV 256 0 X S q (q + 1) := by
  subst hm hc hs ha hv; exact aLeft X S q

theorem aRightSt (q : ℕ) (mo : FVec Ideal S1x512 .f32) (cm : FVec Ideal S1x1x1x512 .f32) (s : FVec Ideal S256x512 .f32)
    (v : FVec Ideal S1x144x256 .bf16) (s' : FVec Ideal S256x256 .f32) (v' : FVec Ideal S1x144x256 .bf16) (a : FVec Ideal S144x256 .f32)
    (hm : mo = mV S q q) (hc : cm = cV S q q) (hs : s = tB 256 512 S (512 * q) (512 * q)) (hv : v = vtV 256 (512 * q + 0) X)
    (hs' : s' = tB 256 256 S (512 * q + 256) (512 * q + 256)) (hv' : v' = vtV 256 (512 * q + 256) X) (ha : a = aV 256 256 X S q q) :
    k0_pay53 (F := Ideal) (k0_pay49 mo cm s v) (k0_pay50 mo cm s' v') (k0_pay52 mo cm) a = aV 256 256 X S q (q + 1) := by
  subst hm hc hs ha hv hs' hv'; exact aRight X S q

end Cert.Diff
-- ==== Proof.Finish.lean ====
module

public import proofs.«01_k».proof.Proof.Stores

@[expose] public section

set_option maxRecDepth 16384

noncomputable section

namespace Cert.Diff

open Cert.KernelIdeal Cert.KernelIdeal.Gen Idealize.ShloMosaic Idealize.ShloMosaic.TcCoe

variable (X : Vec Ideal S1x1x4x2048x128 .bf16) (x1 x2 x3 x4 : Vec Ideal S2x64 .f32) (x5 : Vec Ideal S2x128 .f32)

/-- One head map's attention after its last step: the weighted sum over the sum of the weights. -/
def hd (S : ℕ → ℕ → EReal) (q c : ℕ) (d : Fin 128) : EReal :=
  aS X S q (q + 1) ⟨d.val, lt_trans d.isLt (by decide)⟩ c * Ideal.div (Ideal.ofBits .f32 0x3F800000#32) (aS X S q (q + 1) ⟨128, by decide⟩ c)

/-- The weight of the second head map. -/
def lamS : EReal :=
  FloatOps.exp (F := Ideal) (φ := .f32) (∑ d : Fin 64, x1 (ix2 0 d) * x2 (ix2 0 d)) - FloatOps.exp (F := Ideal) (φ := .f32) (∑ d : Fin 64, x3 (ix2 0 d) * x4 (ix2 0 d))
    + Ideal.ofBits .f32 0x3E4CCCCD#32

/-- The difference of the two head maps. -/
def dfS (q c : ℕ) (d : Fin 128) : EReal := hd X (sc X true) q c d - lamS x1 x2 x3 x4 * hd X (sc X false) q c d

/-- What one row of a query tile becomes, from its difference to the gated result. -/
def normGate (f : Fin 128 → EReal) (s g : EReal) (d : Fin 128) : EReal :=
  f d * FloatOps.rsqrt (F := Ideal) (φ := .f32) (Ideal.div (∑ e : Fin 128, f e * f e) (Ideal.ofBits .f32 0x43000000#32) + Ideal.ofBits .f32 0x358637BD#32)
    * s * Ideal.ofBits .f32 0x3F4CCCCD#32 * (g * FloatOps.logistic (F := Ideal) (φ := .f32) g)

def outS (q c : ℕ) (d : Fin 128) : EReal :=
  normGate (dfS X x1 x2 x3 x4 q c) (x5 (ix2 0 d)) (ent X 3 (512 * q + c) d) d

def outT (q : ℕ) : FVec Ideal S1x1x512x128 .bf16 := fun y => outS X x1 x2 x3 x4 x5 q (y 2).val (y 3)

/-- One entry of the result by the row it lies in. -/
def outN (n : ℕ) (d : Fin 128) : EReal := outS X x1 x2 x3 x4 x5 (n / 512) (n % 512) d

/-- The result block. -/
def outV : FVec Ideal S1x1x2048x128 .bf16 := fun y => outN X x1 x2 x3 x4 x5 (y 2).val (y 3)

def rowV (N : ℕ) (x : FVec Ideal ⟨2, ![2, N]⟩ .f32) : FVec Ideal ⟨2, ![1, N]⟩ .f32 := fun y => x (ix2 0 (y 1))

theorem readRow (N : ℕ) (M : Memref sig .tc .vmem ⟨2, ![2, N]⟩ .f32) (hM : M.IsWhole) (x : Vec Ideal ⟨2, ![2, N]⟩ .f32) (iH) :
    View.readAt (Elt Ideal) M.view (Rect.unit (s := ⟨2, ![2, N]⟩) ![0, 0] ![1, N] iH).toLoadRect (hM.unread x) = rowV N x := by
  rw [View.readAt_eq_ld, hM.read_unread]
  funext y
  refine congrArg x (funext fun a => Fin.ext ?_)
  have h0 : (y 0).val < 1 := (y 0).isLt
  fin_cases a
  · simp
  · simp

theorem head (S : ℕ → ℕ → EReal) (q : ℕ) : k0_pay63 (F := Ideal) (aV 512 0 X S q (q + 1)) = fun y => hd X S q (y 0).val (y 1) := by
  funext y; idx_vars y
  pointwise [k0_pay63, aV, hd]

theorem finEq (q : ℕ) (a1 a2 : FVec Ideal S144x512 .f32) (g : FVec Ideal S1x1x1x512x128 .bf16) (l1 l2 l3 l4 : FVec Ideal S1x64 .f32) (s : FVec Ideal S1x128 .f32)
    (h1 : a1 = aV 512 0 X (sc X true) q (q + 1)) (h2 : a2 = aV 512 0 X (sc X false) q (q + 1)) (hg : g = eV 512 X 3 (512 * q))
    (hl1 : l1 = rowV 64 x1) (hl2 : l2 = rowV 64 x2) (hl3 : l3 = rowV 64 x3) (hl4 : l4 = rowV 64 x4) (hs : s = rowV 128 x5) :
    k0_pay66 (F := Ideal) (k0_pay65 (k0_pay63 a1) (k0_pay64 a2) g l1 l2 l3 l4 s) = outT X x1 x2 x3 x4 x5 q := by
  subst h1 h2 hg hl1 hl2 hl3 hl4 hs
  rw [show k0_pay64 (F := Ideal) (aV 512 0 X (sc X false) q (q + 1)) = _ from head X (sc X false) q, head X (sc X true) q]
  funext y; idx_vars y
  pointwise [k0_pay65, k0_pay66, outT, outS, normGate, dfS, lamS, rowV, eV]

/-- Four tiles of 512 rows make a block of 2048 rows. -/
theorem canonRows (f : ℕ → Fin 128 → EReal) (w0 w1 w2 w3 : FVec Ideal S1x1x512x128 .bf16) (h0 : w0 = fun y => f (512 * 0 + (y 2).val) (y 3))
    (h1 : w1 = fun y => f (512 * 1 + (y 2).val) (y 3)) (h2 : w2 = fun y => f (512 * 2 + (y 2).val) (y 3)) (h3 : w3 = fun y => f (512 * 3 + (y 2).val) (y 3)) (i0 i1 i2 i3) :
    View.canon (Val := Elt Ideal) (s := S1x1x2048x128) (e := .bf16)
      [⟨Rect.unit ![0, 0, 1536, 0] S1x1x512x128.size i3, w3⟩, ⟨Rect.unit ![0, 0, 1024, 0] S1x1x512x128.size i2, w2⟩,
       ⟨Rect.unit ![0, 0, 512, 0] S1x1x512x128.size i1, w1⟩, ⟨Rect.unit ![0, 0, 0, 0] S1x1x512x128.size i0, w0⟩] = fun y => f (y 2).val (y 3) := by
  subst h0 h1 h2 h3
  funext y
  have tile (q o : ℕ) (ho : o = 512 * q) (inb) (x : (Rect.unit (s := S1x1x2048x128) ![0, 0, o, 0] S1x1x512x128.size inb).shape.Idx) :
      f (512 * q + (x 2).val) (x 3) = f ((Rect.unit (s := S1x1x2048x128) ![0, 0, o, 0] S1x1x512x128.size inb).emb x 2).val
        ((Rect.unit (s := S1x1x2048x128) ![0, 0, o, 0] S1x1x512x128.size inb).emb x 3) := by
    subst ho
    have e2 : ((Rect.unit (s := S1x1x2048x128) ![0, 0, 512 * q, 0] S1x1x512x128.size inb).emb x 2).val = 512 * q + (x 2).val := by simp
    have e3 : (Rect.unit (s := S1x1x2048x128) ![0, 0, 512 * q, 0] S1x1x512x128.size inb).emb x 3 = x 3 := Fin.ext (by simp)
    exact congrArg₂ f e2.symm e3.symm
  refine Eq.trans (congrArg (fun L => View.canon L y) (List.append_nil _).symm)
    (View.canon_append_of_piecesOf (Val := Elt Ideal) (e := .bf16) (fun y : S1x1x2048x128.Idx => f (y 2).val (y 3)) [] _ ?_ y ?_)
  · exact ⟨tile 3 1536 rfl i3, tile 2 1024 rfl i2, tile 1 512 rfl i1, tile 0 0 rfl i0, trivial⟩
  · have h0 : (y 0).val < 1 := (y 0).isLt
    have h1 : (y 1).val < 1 := (y 1).isLt
    have h2 : (y 2).val < 2048 := (y 2).isLt
    have h3 : (y 3).val < 128 := (y 3).isLt
    simp only [List.exists_mem_cons_iff, Rect.mem_set_unit, Fin.forall_fin_succ]
    simp
    omega

/-- A tile by the rows of the whole block. -/
theorem rows_of_tile (f : ℕ → ℕ → Fin 128 → EReal) (q : ℕ) : (fun y : S1x1x512x128.Idx => f q (y 2).val (y 3))
    = fun y => f ((512 * q + (y 2).val) / 512) ((512 * q + (y 2).val) % 512) (y 3) := by
  funext y
  have h2 : (y 2).val < 512 := (y 2).isLt
  have d1 : (512 * q + (y 2).val) / 512 = q := by omega
  have d2 : (512 * q + (y 2).val) % 512 = (y 2).val := by omega
  rw [d1, d2]

/-- The four tiles make the result block. -/
theorem canonOut (w0 w1 w2 w3 : FVec Ideal S1x1x512x128 .bf16) (h0 : w0 = outT X x1 x2 x3 x4 x5 0) (h1 : w1 = outT X x1 x2 x3 x4 x5 1)
    (h2 : w2 = outT X x1 x2 x3 x4 x5 2) (h3 : w3 = outT X x1 x2 x3 x4 x5 3) (i0 i1 i2 i3) :
    View.canon (Val := Elt Ideal) (s := S1x1x2048x128) (e := .bf16)
      [⟨Rect.unit ![0, 0, 1536, 0] S1x1x512x128.size i3, w3⟩, ⟨Rect.unit ![0, 0, 1024, 0] S1x1x512x128.size i2, w2⟩,
       ⟨Rect.unit ![0, 0, 512, 0] S1x1x512x128.size i1, w1⟩, ⟨Rect.unit ![0, 0, 0, 0] S1x1x512x128.size i0, w0⟩] = outV X x1 x2 x3 x4 x5 :=
  canonRows (outN X x1 x2 x3 x4 x5) w0 w1 w2 w3 (h0.trans (rows_of_tile (outS X x1 x2 x3 x4 x5) 0)) (h1.trans (rows_of_tile (outS X x1 x2 x3 x4 x5) 1))
    (h2.trans (rows_of_tile (outS X x1 x2 x3 x4 x5) 2)) (h3.trans (rows_of_tile (outS X x1 x2 x3 x4 x5) 3)) i0 i1 i2 i3

end Cert.Diff
-- ==== Proof.ChainA.lean ====
module

public import proofs.«01_k».proof.Proof.Stores

@[expose] public section

set_option maxRecDepth 16384

noncomputable section

namespace Cert.Diff.CaseA

open Cert.KernelIdeal Cert.KernelIdeal.Gen Idealize.ShloMosaic Idealize.ShloMosaic.TcCoe

variable {X : Vec Ideal S1x1x4x2048x128 .bf16} {c : Dev nD} {i : grid0.Coords}
  {arg2 : Memref sig .tc .vmem S1x1x4x2048x128 .bf16} {harg2 : arg2.IsWhole}
  {arg9 : Memref sig .tc .vmem S4x144x512 .bf16}
  {arg10 : Memref sig .tc .vmem S512x512 .f32}
  {arg11 : Memref sig .tc .vmem S512x512 .f32}
  {arg12 : Memref sig .tc .vmem S512x512 .f32}
  {arg13 : Memref sig .tc .vmem S512x512 .f32}
  {arg14 : Memref sig .tc .vmem S2x2x1x512 .f32}
  {arg15 : Memref sig .tc .vmem S1x512 .f32}
  {arg16 : Memref sig .tc .vmem S144x512 .f32}
  {arg17 : Memref sig .tc .vmem S1x512 .f32}
  {arg18 : Memref sig .tc .vmem S144x512 .f32}
  {arg19 : Memref sig .tc .vmem S1x512x512 .f32} {harg19 : arg19.IsWhole}

theorem vtFull : View.canon (kernelRun0_A.sl.HS0_8 c arg2 harg2 X) = vtAll X :=
  canonVt X _ (readRows X _ _ 2048 0 2 _) _ _ _ _ _ _ _ _

theorem st_m_true_0_0 : k0_pay33 = mV (sc X true) 0 0 :=
  mInit _ 0

theorem ld_v201 : kernelRun0_A.sl.v201 (F := Ideal) c arg15 = mV (sc X true) 0 0 :=
  readHit.trans st_m_true_0_0

theorem st_c_true_0_0 : kernelRun0_A.sl.v107 c arg2 harg2 arg19 X = cV (sc X true) 0 0 :=
  cDiagT X 0 _ _ _ _ _ (readRows X _ _ 512 0 0 _) (readRows X _ _ 256 0 1 _) (readRows X _ _ 256 256 1 _) (readMask _ _ 256 512 0 0 _ _) (readMask _ _ 256 256 256 256 _ _)

theorem ld_v202 : kernelRun0_A.sl.v202 c arg2 harg2 arg14 arg19 X = cV (sc X true) 0 0 := by
  refine (readSkip (by decide)).trans ?_
  refine (readSkip (by decide)).trans ?_
  refine (readSkip (by decide)).trans ?_
  exact readHit.trans st_c_true_0_0

theorem st_top_true_0 : kernelRun0_A.sl.v91 c arg2 harg2 arg19 X = tB 256 512 (sc X true) (512 * 0) (512 * 0) :=
  stTopT X 0 _ _ _ (readRows X _ _ 512 0 0 _) (readRows X _ _ 256 0 1 _) (readMask _ _ 256 512 0 0 _ _)

theorem ld_v208 : kernelRun0_A.sl.v208 c i arg2 harg2 arg10 arg19 X = tB 256 512 (sc X true) (512 * 0) (512 * 0) := by
  refine Eq.trans (readOff (off' := ![0, 0]) _ _ (placed_k0_off1 i) _ (by decide)) ?_
  refine (readSkip (by decide)).trans ?_
  exact readHit.trans st_top_true_0

theorem ld_v221 : kernelRun0_A.sl.v221 c arg2 harg2 arg9 X = vtV 256 (512 * 0 + 0) X :=
  readVt X _ _ (vtFull (X := X)) 256 0 0 _

theorem st_a_true_0_0 : k0_pay34 = aV 512 0 X (sc X true) 0 0 :=
  aInit X _ 0

theorem ld_v228 : kernelRun0_A.sl.v228 (F := Ideal) c arg16 = aV 256 0 X (sc X true) 0 0 :=
  readHalf X _ _ _ 0 0 0 _ _ _ st_a_true_0_0

theorem st_aL_true_0_1 : kernelRun0_A.sl.v235 c i arg2 harg2 arg9 arg10 arg14 arg15 arg16 arg19 X = aV 256 0 X (sc X true) 0 1 :=
  aLeftSt X _ 0 _ _ _ _ _ ld_v201 ld_v202 ld_v208 ld_v221 ld_v228

theorem st_bot_true_0 : kernelRun0_A.sl.v96 c arg2 harg2 arg19 X = tB 256 256 (sc X true) (512 * 0 + 256) (512 * 0 + 256) :=
  stBotT X 0 _ _ _ (readRows X _ _ 512 0 0 _) (readRows X _ _ 256 256 1 _) (readMask _ _ 256 256 256 256 _ _)

theorem ld_v215 : kernelRun0_A.sl.v215 c i arg2 harg2 arg10 arg19 X = tB 256 256 (sc X true) (512 * 0 + 256) (512 * 0 + 256) := by
  refine Eq.trans (readOff (off' := ![256, 256]) _ _ (placed_k0_off2 i) _ (by decide)) ?_
  exact readHit.trans st_bot_true_0

theorem ld_v224 : kernelRun0_A.sl.v224 c arg2 harg2 arg9 X = vtV 256 (512 * 0 + 256) X :=
  readVt X _ _ (vtFull (X := X)) 256 0 256 _

theorem ld_v237 : kernelRun0_A.sl.v237 c i arg2 harg2 arg9 arg10 arg14 arg15 arg16 arg19 X = aV 256 256 X (sc X true) 0 0 := by
  refine (readSkip (by decide)).trans ?_
  exact readHalf X _ _ _ 0 0 256 _ _ _ st_a_true_0_0

theorem st_aR_true_0_1 : kernelRun0_A.sl.v245 c i arg2 harg2 arg9 arg10 arg14 arg15 arg16 arg19 X = aV 256 256 X (sc X true) 0 1 :=
  aRightSt X _ 0 _ _ _ _ _ _ _ ld_v201 ld_v202 ld_v208 ld_v221 ld_v215 ld_v224 ld_v237

theorem ld_v297 : kernelRun0_A.sl.v297 c i arg2 harg2 arg9 arg10 arg14 arg15 arg16 arg19 X = aV 512 0 X (sc X true) 0 1 :=
  readHalves X _ _ _ 0 1 _ _ _ _ _ st_aL_true_0_1 st_aR_true_0_1

theorem st_m_false_0_0 : k0_pay35 = mV (sc X false) 0 0 :=
  mInit _ 0

theorem ld_v249 : kernelRun0_A.sl.v249 (F := Ideal) c arg17 = mV (sc X false) 0 0 :=
  readHit.trans st_m_false_0_0

theorem st_c_false_0_0 : k0_pay32 (kernelRun0_A.sl.v122 c arg2 harg2 arg19 X) (kernelRun0_A.sl.v133 c arg2 harg2 arg19 X) = cV (sc X false) 0 0 :=
  cDiagF X 0 _ _ _ _ _ (readRows X _ _ 512 0 0 _) (readRows X _ _ 256 0 1 _) (readRows X _ _ 256 256 1 _) (readMask _ _ 256 512 0 0 _ _) (readMask _ _ 256 256 256 256 _ _)

theorem ld_v250 : kernelRun0_A.sl.v250 c arg2 harg2 arg14 arg19 X = cV (sc X false) 0 0 := by
  refine (readSkip (by decide)).trans ?_
  refine (readSkip (by decide)).trans ?_
  exact readHit.trans st_c_false_0_0

theorem st_top_false_0 : kernelRun0_A.sl.v126 c arg2 harg2 arg19 X = tB 256 512 (sc X false) (512 * 0) (512 * 0) :=
  stTopF X 0 _ _ _ (readRows X _ _ 512 0 0 _) (readRows X _ _ 256 0 1 _) (readMask _ _ 256 512 0 0 _ _)

theorem ld_v256 : kernelRun0_A.sl.v256 c i arg2 harg2 arg11 arg19 X = tB 256 512 (sc X false) (512 * 0) (512 * 0) := by
  refine Eq.trans (readOff (off' := ![0, 0]) _ _ (placed_k0_off1 i) _ (by decide)) ?_
  refine (readSkip (by decide)).trans ?_
  exact readHit.trans st_top_false_0

theorem st_a_false_0_0 : k0_pay36 = aV 512 0 X (sc X false) 0 0 :=
  aInit X _ 0

theorem ld_v276 : kernelRun0_A.sl.v276 (F := Ideal) c arg18 = aV 256 0 X (sc X false) 0 0 :=
  readHalf X _ _ _ 0 0 0 _ _ _ st_a_false_0_0

theorem st_aL_false_0_1 : kernelRun0_A.sl.v283 c i arg2 harg2 arg9 arg11 arg14 arg17 arg18 arg19 X = aV 256 0 X (sc X false) 0 1 :=
  aLeftSt X _ 0 _ _ _ _ _ ld_v249 ld_v250 ld_v256 ld_v221 ld_v276

theorem st_bot_false_0 : kernelRun0_A.sl.v131 c arg2 harg2 arg19 X = tB 256 256 (sc X false) (512 * 0 + 256) (512 * 0 + 256) :=
  stBotF X 0 _ _ _ (readRows X _ _ 512 0 0 _) (readRows X _ _ 256 256 1 _) (readMask _ _ 256 256 256 256 _ _)

theorem ld_v263 : kernelRun0_A.sl.v263 c i arg2 harg2 arg11 arg19 X = tB 256 256 (sc X false) (512 * 0 + 256) (512 * 0 + 256) := by
  refine Eq.trans (readOff (off' := ![256, 256]) _ _ (placed_k0_off2 i) _ (by decide)) ?_
  exact readHit.trans st_bot_false_0

theorem ld_v285 : kernelRun0_A.sl.v285 c i arg2 harg2 arg9 arg11 arg14 arg17 arg18 arg19 X = aV 256 256 X (sc X false) 0 0 := by
  refine (readSkip (by decide)).trans ?_
  exact readHalf X _ _ _ 0 0 256 _ _ _ st_a_false_0_0

theorem st_aR_false_0_1 : kernelRun0_A.sl.v293 c i arg2 harg2 arg9 arg11 arg14 arg17 arg18 arg19 X = aV 256 256 X (sc X false) 0 1 :=
  aRightSt X _ 0 _ _ _ _ _ _ _ ld_v249 ld_v250 ld_v256 ld_v221 ld_v263 ld_v224 ld_v285

theorem ld_v305 : kernelRun0_A.sl.v305 c i arg2 harg2 arg9 arg11 arg14 arg17 arg18 arg19 X = aV 512 0 X (sc X false) 0 1 :=
  readHalves X _ _ _ 0 1 _ _ _ _ _ st_aL_false_0_1 st_aR_false_0_1

theorem st_m_true_1_0 : k0_pay67 = mV (sc X true) 1 0 :=
  mInit _ 1

theorem ld_v444 : kernelRun0_A.sl.v444 c arg2 harg2 arg14 arg15 arg19 X = mV (sc X true) 1 0 :=
  readHit.trans st_m_true_1_0

theorem st_c_true_1_0 : kernelRun0_A.sl.v187 c arg2 harg2 X = cV (sc X true) 1 0 :=
  cOffT X 1 0 (by decide) _ _ (readRows X _ _ 512 512 0 _) (readRows X _ _ 512 0 1 _)

theorem ld_v445 : kernelRun0_A.sl.v445 c arg2 harg2 arg14 arg19 X = cV (sc X true) 1 0 := by
  refine (readSkip (by decide)).trans ?_
  refine (readSkip (by decide)).trans ?_
  refine (readSkip (by decide)).trans ?_
  exact readHit.trans st_c_true_1_0

theorem st_m_true_1_1 : kernelRun0_A.sl.v468 c arg2 harg2 arg14 arg15 arg19 X = mV (sc X true) 1 1 :=
  mSt _ 1 0 _ _ ld_v444 ld_v445

theorem ld_v536 : kernelRun0_A.sl.v536 c arg2 harg2 arg14 arg15 arg19 X = mV (sc X true) 1 1 :=
  readHit.trans st_m_true_1_1

theorem st_c_true_1_1 : kernelRun0_A.sl.v408 c arg2 harg2 arg19 X = cV (sc X true) 1 1 :=
  cDiagT X 1 _ _ _ _ _ (readRows X _ _ 512 512 0 _) (readRows X _ _ 256 512 1 _) (readRows X _ _ 256 768 1 _) (readMask _ _ 256 512 0 0 _ _) (readMask _ _ 256 256 256 256 _ _)

theorem ld_v537 : kernelRun0_A.sl.v537 c arg2 harg2 arg14 arg19 X = cV (sc X true) 1 1 := by
  refine (readSkip (by decide)).trans ?_
  refine (readSkip (by decide)).trans ?_
  refine (readSkip (by decide)).trans ?_
  exact readHit.trans st_c_true_1_1

theorem st_top_true_1 : kernelRun0_A.sl.v392 c arg2 harg2 arg19 X = tB 256 512 (sc X true) (512 * 1) (512 * 1) :=
  stTopT X 1 _ _ _ (readRows X _ _ 512 512 0 _) (readRows X _ _ 256 512 1 _) (readMask _ _ 256 512 0 0 _ _)

theorem ld_v543 : kernelRun0_A.sl.v543 c i arg2 harg2 arg10 arg19 X = tB 256 512 (sc X true) (512 * 1) (512 * 1) := by
  refine Eq.trans (readOff (off' := ![0, 0]) _ _ (placed_k0_off1 i) _ (by decide)) ?_
  refine (readSkip (by decide)).trans ?_
  exact readHit.trans st_top_true_1

theorem ld_v556 : kernelRun0_A.sl.v556 c arg2 harg2 arg9 X = vtV 256 (512 * 1 + 0) X :=
  readVt X _ _ (vtFull (X := X)) 256 1 0 _

theorem st_off_true_1_0 : kernelRun0_A.sl.v182 c arg2 harg2 X = tB 512 512 (sc X true) (512 * 1) (512 * 0) :=
  stOffT X 1 0 (by decide) _ _ (readRows X _ _ 512 512 0 _) (readRows X _ _ 512 0 1 _)

theorem ld_v451 : kernelRun0_A.sl.v451 c i arg2 harg2 arg12 X = tB 512 512 (sc X true) (512 * 1) (512 * 0) := by
  refine Eq.trans (readOff (off' := ![0, 0]) _ _ (placed_k0_off3 i) _ (by decide)) ?_
  exact readHit.trans st_off_true_1_0

theorem st_a_true_1_0 : k0_pay68 = aV 512 0 X (sc X true) 1 0 :=
  aInit X _ 1

theorem ld_v456 : kernelRun0_A.sl.v456 c i arg2 harg2 arg9 arg10 arg14 arg15 arg16 arg19 X = aV 512 0 X (sc X true) 1 0 :=
  readHit.trans st_a_true_1_0

theorem ld_v459 : kernelRun0_A.sl.v459 c arg2 harg2 arg9 X = vtV 512 (512 * 0 + 0) X :=
  readVt X _ _ (vtFull (X := X)) 512 0 0 _

theorem st_a_true_1_1 : kernelRun0_A.sl.v465 c i arg2 harg2 arg9 arg10 arg12 arg14 arg15 arg16 arg19 X = aV 512 0 X (sc X true) 1 1 :=
  aOffSt X _ 1 0 (by decide) _ _ _ _ _ ld_v444 ld_v445 ld_v451 ld_v456 ld_v459

theorem ld_v563 : kernelRun0_A.sl.v563 c i arg2 harg2 arg9 arg10 arg12 arg14 arg15 arg16 arg19 X = aV 256 0 X (sc X true) 1 1 :=
  readHalf X _ _ _ 1 1 0 _ _ _ st_a_true_1_1

theorem st_aL_true_1_2 : kernelRun0_A.sl.v570 c i arg2 harg2 arg9 arg10 arg12 arg14 arg15 arg16 arg19 X = aV 256 0 X (sc X true) 1 2 :=
  aLeftSt X _ 1 _ _ _ _ _ ld_v536 ld_v537 ld_v543 ld_v556 ld_v563

theorem st_bot_true_1 : kernelRun0_A.sl.v397 c arg2 harg2 arg19 X = tB 256 256 (sc X true) (512 * 1 + 256) (512 * 1 + 256) :=
  stBotT X 1 _ _ _ (readRows X _ _ 512 512 0 _) (readRows X _ _ 256 768 1 _) (readMask _ _ 256 256 256 256 _ _)

theorem ld_v550 : kernelRun0_A.sl.v550 c i arg2 harg2 arg10 arg19 X = tB 256 256 (sc X true) (512 * 1 + 256) (512 * 1 + 256) := by
  refine Eq.trans (readOff (off' := ![256, 256]) _ _ (placed_k0_off2 i) _ (by decide)) ?_
  exact readHit.trans st_bot_true_1

theorem ld_v559 : kernelRun0_A.sl.v559 c arg2 harg2 arg9 X = vtV 256 (512 * 1 + 256) X :=
  readVt X _ _ (vtFull (X := X)) 256 1 256 _

theorem ld_v572 : kernelRun0_A.sl.v572 c i arg2 harg2 arg9 arg10 arg12 arg14 arg15 arg16 arg19 X = aV 256 256 X (sc X true) 1 1 := by
  refine (readSkip (by decide)).trans ?_
  exact readHalf X _ _ _ 1 1 256 _ _ _ st_a_true_1_1

theorem st_aR_true_1_2 : kernelRun0_A.sl.v580 c i arg2 harg2 arg9 arg10 arg12 arg14 arg15 arg16 arg19 X = aV 256 256 X (sc X true) 1 2 :=
  aRightSt X _ 1 _ _ _ _ _ _ _ ld_v536 ld_v537 ld_v543 ld_v556 ld_v550 ld_v559 ld_v572

theorem ld_v632 : kernelRun0_A.sl.v632 c i arg2 harg2 arg9 arg10 arg12 arg14 arg15 arg16 arg19 X = aV 512 0 X (sc X true) 1 2 :=
  readHalves X _ _ _ 1 2 _ _ _ _ _ st_aL_true_1_2 st_aR_true_1_2

theorem st_m_false_1_0 : k0_pay69 = mV (sc X false) 1 0 :=
  mInit _ 1

theorem ld_v469 : kernelRun0_A.sl.v469 c arg2 harg2 arg14 arg17 arg19 X = mV (sc X false) 1 0 :=
  readHit.trans st_m_false_1_0

theorem st_c_false_1_0 : kernelRun0_A.sl.v200 c arg2 harg2 X = cV (sc X false) 1 0 :=
  cOffF X 1 0 (by decide) _ _ (readRows X _ _ 512 512 0 _) (readRows X _ _ 512 0 1 _)

theorem ld_v470 : kernelRun0_A.sl.v470 c arg2 harg2 arg14 arg19 X = cV (sc X false) 1 0 := by
  refine (readSkip (by decide)).trans ?_
  refine (readSkip (by decide)).trans ?_
  exact readHit.trans st_c_false_1_0

theorem st_m_false_1_1 : k0_pay90 (kernelRun0_A.sl.v472 c arg2 harg2 arg14 arg17 arg19 X) = mV (sc X false) 1 1 :=
  mSt _ 1 0 _ _ ld_v469 ld_v470

theorem ld_v584 : kernelRun0_A.sl.v584 c arg2 harg2 arg14 arg17 arg19 X = mV (sc X false) 1 1 :=
  readHit.trans st_m_false_1_1

theorem st_c_false_1_1 : kernelRun0_A.sl.v443 c arg2 harg2 arg19 X = cV (sc X false) 1 1 :=
  cDiagF X 1 _ _ _ _ _ (readRows X _ _ 512 512 0 _) (readRows X _ _ 256 512 1 _) (readRows X _ _ 256 768 1 _) (readMask _ _ 256 512 0 0 _ _) (readMask _ _ 256 256 256 256 _ _)

theorem ld_v585 : kernelRun0_A.sl.v585 c arg2 harg2 arg14 arg19 X = cV (sc X false) 1 1 := by
  refine (readSkip (by decide)).trans ?_
  refine (readSkip (by decide)).trans ?_
  exact readHit.trans st_c_false_1_1

theorem st_top_false_1 : kernelRun0_A.sl.v427 c arg2 harg2 arg19 X = tB 256 512 (sc X false) (512 * 1) (512 * 1) :=
  stTopF X 1 _ _ _ (readRows X _ _ 512 512 0 _) (readRows X _ _ 256 512 1 _) (readMask _ _ 256 512 0 0 _ _)

theorem ld_v591 : kernelRun0_A.sl.v591 c i arg2 harg2 arg11 arg19 X = tB 256 512 (sc X false) (512 * 1) (512 * 1) := by
  refine Eq.trans (readOff (off' := ![0, 0]) _ _ (placed_k0_off1 i) _ (by decide)) ?_
  refine (readSkip (by decide)).trans ?_
  exact readHit.trans st_top_false_1

theorem st_off_false_1_0 : kernelRun0_A.sl.v195 c arg2 harg2 X = tB 512 512 (sc X false) (512 * 1) (512 * 0) :=
  stOffF X 1 0 (by decide) _ _ (readRows X _ _ 512 512 0 _) (readRows X _ _ 512 0 1 _)

theorem ld_v476 : kernelRun0_A.sl.v476 c i arg2 harg2 arg13 X = tB 512 512 (sc X false) (512 * 1) (512 * 0) := by
  refine Eq.trans (readOff (off' := ![0, 0]) _ _ (placed_k0_off3 i) _ (by decide)) ?_
  exact readHit.trans st_off_false_1_0

theorem st_a_false_1_0 : k0_pay70 = aV 512 0 X (sc X false) 1 0 :=
  aInit X _ 1

theorem ld_v481 : kernelRun0_A.sl.v481 c i arg2 harg2 arg9 arg11 arg14 arg17 arg18 arg19 X = aV 512 0 X (sc X false) 1 0 :=
  readHit.trans st_a_false_1_0

theorem st_a_false_1_1 : k0_pay89 (kernelRun0_A.sl.v480 c i arg2 harg2 arg13 arg14 arg17 arg19 X) (kernelRun0_A.sl.v483 c i arg2 harg2 arg9 arg11 arg14 arg17 arg18 arg19 X) (kernelRun0_A.sl.v460 c arg2 harg2 arg9 X) = aV 512 0 X (sc X false) 1 1 :=
  aOffSt X _ 1 0 (by decide) _ _ _ _ _ ld_v469 ld_v470 ld_v476 ld_v481 ld_v459

theorem ld_v611 : kernelRun0_A.sl.v611 c i arg2 harg2 arg9 arg11 arg13 arg14 arg17 arg18 arg19 X = aV 256 0 X (sc X false) 1 1 :=
  readHalf X _ _ _ 1 1 0 _ _ _ st_a_false_1_1

theorem st_aL_false_1_2 : kernelRun0_A.sl.v618 c i arg2 harg2 arg9 arg11 arg13 arg14 arg17 arg18 arg19 X = aV 256 0 X (sc X false) 1 2 :=
  aLeftSt X _ 1 _ _ _ _ _ ld_v584 ld_v585 ld_v591 ld_v556 ld_v611

theorem st_bot_false_1 : kernelRun0_A.sl.v432 c arg2 harg2 arg19 X = tB 256 256 (sc X false) (512 * 1 + 256) (512 * 1 + 256) :=
  stBotF X 1 _ _ _ (readRows X _ _ 512 512 0 _) (readRows X _ _ 256 768 1 _) (readMask _ _ 256 256 256 256 _ _)

theorem ld_v598 : kernelRun0_A.sl.v598 c i arg2 harg2 arg11 arg19 X = tB 256 256 (sc X false) (512 * 1 + 256) (512 * 1 + 256) := by
  refine Eq.trans (readOff (off' := ![256, 256]) _ _ (placed_k0_off2 i) _ (by decide)) ?_
  exact readHit.trans st_bot_false_1

theorem ld_v620 : kernelRun0_A.sl.v620 c i arg2 harg2 arg9 arg11 arg13 arg14 arg17 arg18 arg19 X = aV 256 256 X (sc X false) 1 1 := by
  refine (readSkip (by decide)).trans ?_
  exact readHalf X _ _ _ 1 1 256 _ _ _ st_a_false_1_1

theorem st_aR_false_1_2 : kernelRun0_A.sl.v628 c i arg2 harg2 arg9 arg11 arg13 arg14 arg17 arg18 arg19 X = aV 256 256 X (sc X false) 1 2 :=
  aRightSt X _ 1 _ _ _ _ _ _ _ ld_v584 ld_v585 ld_v591 ld_v556 ld_v598 ld_v559 ld_v620

theorem ld_v640 : kernelRun0_A.sl.v640 c i arg2 harg2 arg9 arg11 arg13 arg14 arg17 arg18 arg19 X = aV 512 0 X (sc X false) 1 2 :=
  readHalves X _ _ _ 1 2 _ _ _ _ _ st_aL_false_1_2 st_aR_false_1_2

theorem st_m_true_2_0 : k0_pay121 = mV (sc X true) 2 0 :=
  mInit _ 2

theorem ld_v735 : kernelRun0_A.sl.v735 c arg2 harg2 arg14 arg15 arg19 X = mV (sc X true) 2 0 :=
  readHit.trans st_m_true_2_0

theorem st_c_true_2_0 : kernelRun0_A.sl.v522 c arg2 harg2 X = cV (sc X true) 2 0 :=
  by
  refine Eq.trans ?_ (cOffT X 2 0 (by decide) _ _ (readRows X arg2 harg2 512 1024 0 (by decide)) (readRows X arg2 harg2 512 0 1 (by decide)))
  dsimp only [k0_pay18, k0_pay16, k0_pay3, k0_pay15, k0_pay14, k0_pay17, k0_pay98, k0_pay215, kernelRun0_A.sl.v522, kernelRun0_A.sl.r_6, k0_pay96, k0_pay94, k0_pay92, k0_pay91]
  rfl

theorem ld_v736 : kernelRun0_A.sl.v736 c arg2 harg2 arg14 arg19 X = cV (sc X true) 2 0 := by
  refine (readSkip (by decide)).trans ?_
  refine (readSkip (by decide)).trans ?_
  refine (readSkip (by decide)).trans ?_
  exact readHit.trans st_c_true_2_0

theorem st_m_true_2_1 : kernelRun0_A.sl.v759 c arg2 harg2 arg14 arg15 arg19 X = mV (sc X true) 2 1 :=
  mSt _ 2 0 _ _ ld_v735 ld_v736

theorem ld_v855 : kernelRun0_A.sl.v855 c arg2 harg2 arg14 arg15 arg19 X = mV (sc X true) 2 1 :=
  readHit.trans st_m_true_2_1

theorem st_c_true_2_1 : kernelRun0_A.sl.v721 c arg2 harg2 X = cV (sc X true) 2 1 :=
  cOffT X 2 1 (by decide) _ _ (readRows X _ _ 512 1024 0 _) (readRows X _ _ 512 512 1 _)

theorem ld_v856 : kernelRun0_A.sl.v856 c arg2 harg2 arg14 arg19 X = cV (sc X true) 2 1 := by
  refine (readSkip (by decide)).trans ?_
  refine (readSkip (by decide)).trans ?_
  refine (readSkip (by decide)).trans ?_
  exact readHit.trans st_c_true_2_1

theorem st_m_true_2_2 : kernelRun0_A.sl.v879 c arg2 harg2 arg14 arg15 arg19 X = mV (sc X true) 2 2 :=
  mSt _ 2 1 _ _ ld_v855 ld_v856

theorem ld_v947 : kernelRun0_A.sl.v947 c arg2 harg2 arg14 arg15 arg19 X = mV (sc X true) 2 2 :=
  readHit.trans st_m_true_2_2

theorem st_c_true_2_2 : kernelRun0_A.sl.v819 c arg2 harg2 arg19 X = cV (sc X true) 2 2 :=
  cDiagT X 2 _ _ _ _ _ (readRows X _ _ 512 1024 0 _) (readRows X _ _ 256 1024 1 _) (readRows X _ _ 256 1280 1 _) (readMask _ _ 256 512 0 0 _ _) (readMask _ _ 256 256 256 256 _ _)

theorem ld_v948 : kernelRun0_A.sl.v948 c arg2 harg2 arg14 arg19 X = cV (sc X true) 2 2 := by
  refine (readSkip (by decide)).trans ?_
  refine (readSkip (by decide)).trans ?_
  refine (readSkip (by decide)).trans ?_
  exact readHit.trans st_c_true_2_2

theorem st_top_true_2 : kernelRun0_A.sl.v803 c arg2 harg2 arg19 X = tB 256 512 (sc X true) (512 * 2) (512 * 2) :=
  stTopT X 2 _ _ _ (readRows X _ _ 512 1024 0 _) (readRows X _ _ 256 1024 1 _) (readMask _ _ 256 512 0 0 _ _)

theorem ld_v954 : kernelRun0_A.sl.v954 c i arg2 harg2 arg12 arg19 X = tB 256 512 (sc X true) (512 * 2) (512 * 2) := by
  refine Eq.trans (readOff (off' := ![0, 0]) _ _ (placed_k0_off1 i) _ (by decide)) ?_
  refine (readSkip (by decide)).trans ?_
  exact readHit.trans st_top_true_2

theorem ld_v967 : kernelRun0_A.sl.v967 c arg2 harg2 arg9 X = vtV 256 (512 * 2 + 0) X :=
  readVt X _ _ (vtFull (X := X)) 256 2 0 _

theorem st_off_true_2_1 : kernelRun0_A.sl.v716 c arg2 harg2 X = tB 512 512 (sc X true) (512 * 2) (512 * 1) :=
  stOffT X 2 1 (by decide) _ _ (readRows X _ _ 512 1024 0 _) (readRows X _ _ 512 512 1 _)

theorem ld_v862 : kernelRun0_A.sl.v862 c i arg2 harg2 arg10 arg19 X = tB 512 512 (sc X true) (512 * 2) (512 * 1) := by
  refine Eq.trans (readOff (off' := ![0, 0]) _ _ (placed_k0_off3 i) _ (by decide)) ?_
  exact readHit.trans st_off_true_2_1

theorem st_off_true_2_0 : k0_pay95 k0_pay3 (View.readAt (Elt Ideal) arg2.view (Rect.unit (s := S1x1x4x2048x128) ![0, 0, 0, 1024, 0] S1x1x1x512x128.size inb_S1x1x4x2048x128_S1x1x1x512x128_0_0_0_1024_0).toLoadRect (harg2.unread X)) (View.readAt (Elt Ideal) arg2.view (Rect.unit (s := S1x1x4x2048x128) ![0, 0, 1, 0, 0] S1x1x1x512x128.size inb_S1x1x4x2048x128_S1x1x1x512x128_0_0_1_0_0).toLoadRect (harg2.unread X)) = tB 512 512 (sc X true) (512 * 2) (512 * 0) :=
  stOffT X 2 0 (by decide) _ _ (readRows X _ _ 512 1024 0 _) (readRows X _ _ 512 0 1 _)

theorem ld_v742 : kernelRun0_A.sl.v742 c i arg2 harg2 arg12 X = tB 512 512 (sc X true) (512 * 2) (512 * 0) := by
  refine Eq.trans (readOff (off' := ![0, 0]) _ _ (placed_k0_off3 i) _ (by decide)) ?_
  exact readHit.trans st_off_true_2_0

theorem st_a_true_2_0 : k0_pay122 = aV 512 0 X (sc X true) 2 0 :=
  aInit X _ 2

theorem ld_v747 : kernelRun0_A.sl.v747 c i arg2 harg2 arg9 arg10 arg12 arg14 arg15 arg16 arg19 X = aV 512 0 X (sc X true) 2 0 :=
  readHit.trans st_a_true_2_0

theorem st_a_true_2_1 : kernelRun0_A.sl.v756 c i arg2 harg2 arg9 arg10 arg12 arg14 arg15 arg16 arg19 X = aV 512 0 X (sc X true) 2 1 :=
  aOffSt X _ 2 0 (by decide) _ _ _ _ _ ld_v735 ld_v736 ld_v742 ld_v747 ld_v459

theorem ld_v867 : kernelRun0_A.sl.v867 c i arg2 harg2 arg9 arg10 arg12 arg14 arg15 arg16 arg19 X = aV 512 0 X (sc X true) 2 1 :=
  readHit.trans st_a_true_2_1

theorem ld_v870 : kernelRun0_A.sl.v870 c arg2 harg2 arg9 X = vtV 512 (512 * 1 + 0) X :=
  readVt X _ _ (vtFull (X := X)) 512 1 0 _

theorem st_a_true_2_2 : kernelRun0_A.sl.v876 c i arg2 harg2 arg9 arg10 arg12 arg14 arg15 arg16 arg19 X = aV 512 0 X (sc X true) 2 2 :=
  aOffSt X _ 2 1 (by decide) _ _ _ _ _ ld_v855 ld_v856 ld_v862 ld_v867 ld_v870

theorem ld_v974 : kernelRun0_A.sl.v974 c i arg2 harg2 arg9 arg10 arg12 arg14 arg15 arg16 arg19 X = aV 256 0 X (sc X true) 2 2 :=
  readHalf X _ _ _ 2 2 0 _ _ _ st_a_true_2_2

theorem st_aL_true_2_3 : kernelRun0_A.sl.v981 c i arg2 harg2 arg9 arg10 arg12 arg14 arg15 arg16 arg19 X = aV 256 0 X (sc X true) 2 3 :=
  aLeftSt X _ 2 _ _ _ _ _ ld_v947 ld_v948 ld_v954 ld_v967 ld_v974

theorem st_bot_true_2 : kernelRun0_A.sl.v808 c arg2 harg2 arg19 X = tB 256 256 (sc X true) (512 * 2 + 256) (512 * 2 + 256) :=
  stBotT X 2 _ _ _ (readRows X _ _ 512 1024 0 _) (readRows X _ _ 256 1280 1 _) (readMask _ _ 256 256 256 256 _ _)

theorem ld_v961 : kernelRun0_A.sl.v961 c i arg2 harg2 arg12 arg19 X = tB 256 256 (sc X true) (512 * 2 + 256) (512 * 2 + 256) := by
  refine Eq.trans (readOff (off' := ![256, 256]) _ _ (placed_k0_off2 i) _ (by decide)) ?_
  exact readHit.trans st_bot_true_2

theorem ld_v970 : kernelRun0_A.sl.v970 c arg2 harg2 arg9 X = vtV 256 (512 * 2 + 256) X :=
  readVt X _ _ (vtFull (X := X)) 256 2 256 _

theorem ld_v983 : kernelRun0_A.sl.v983 c i arg2 harg2 arg9 arg10 arg12 arg14 arg15 arg16 arg19 X = aV 256 256 X (sc X true) 2 2 := by
  refine (readSkip (by decide)).trans ?_
  exact readHalf X _ _ _ 2 2 256 _ _ _ st_a_true_2_2

theorem st_aR_true_2_3 : kernelRun0_A.sl.v991 c i arg2 harg2 arg9 arg10 arg12 arg14 arg15 arg16 arg19 X = aV 256 256 X (sc X true) 2 3 :=
  aRightSt X _ 2 _ _ _ _ _ _ _ ld_v947 ld_v948 ld_v954 ld_v967 ld_v961 ld_v970 ld_v983

theorem ld_v1043 : kernelRun0_A.sl.v1043 c i arg2 harg2 arg9 arg10 arg12 arg14 arg15 arg16 arg19 X = aV 512 0 X (sc X true) 2 3 :=
  readHalves X _ _ _ 2 3 _ _ _ _ _ st_aL_true_2_3 st_aR_true_2_3

theorem st_m_false_2_0 : kernelRun0_A.sl.v704 (F := Ideal) = mV (sc X false) 2 0 :=
  mInit _ 2

theorem ld_v760 : kernelRun0_A.sl.v760 c arg2 harg2 arg14 arg17 arg19 X = mV (sc X false) 2 0 :=
  readHit.trans st_m_false_2_0

theorem st_c_false_2_0 : kernelRun0_A.sl.v535 c arg2 harg2 X = cV (sc X false) 2 0 :=
  cOffF X 2 0 (by decide) _ _ (readRows X _ _ 512 1024 0 _) (readRows X _ _ 512 0 1 _)

theorem ld_v761 : kernelRun0_A.sl.v761 c arg2 harg2 arg14 arg19 X = cV (sc X false) 2 0 := by
  refine (readSkip (by decide)).trans ?_
  refine (readSkip (by decide)).trans ?_
  exact readHit.trans st_c_false_2_0

theorem st_m_false_2_1 : kernelRun0_A.sl.v784 c arg2 harg2 arg14 arg17 arg19 X = mV (sc X false) 2 1 :=
  mSt _ 2 0 _ _ ld_v760 ld_v761

theorem ld_v880 : kernelRun0_A.sl.v880 c arg2 harg2 arg14 arg17 arg19 X = mV (sc X false) 2 1 :=
  readHit.trans st_m_false_2_1

theorem st_c_false_2_1 : kernelRun0_A.sl.v734 c arg2 harg2 X = cV (sc X false) 2 1 :=
  cOffF X 2 1 (by decide) _ _ (readRows X _ _ 512 1024 0 _) (readRows X _ _ 512 512 1 _)

theorem ld_v881 : kernelRun0_A.sl.v881 c arg2 harg2 arg14 arg19 X = cV (sc X false) 2 1 := by
  refine (readSkip (by decide)).trans ?_
  refine (readSkip (by decide)).trans ?_
  exact readHit.trans st_c_false_2_1

theorem st_m_false_2_2 : k0_pay160 (kernelRun0_A.sl.v883 c arg2 harg2 arg14 arg17 arg19 X) = mV (sc X false) 2 2 :=
  mSt _ 2 1 _ _ ld_v880 ld_v881

theorem ld_v995 : kernelRun0_A.sl.v995 c arg2 harg2 arg14 arg17 arg19 X = mV (sc X false) 2 2 :=
  readHit.trans st_m_false_2_2

theorem st_c_false_2_2 : kernelRun0_A.sl.v854 c arg2 harg2 arg19 X = cV (sc X false) 2 2 :=
  cDiagF X 2 _ _ _ _ _ (readRows X _ _ 512 1024 0 _) (readRows X _ _ 256 1024 1 _) (readRows X _ _ 256 1280 1 _) (readMask _ _ 256 512 0 0 _ _) (readMask _ _ 256 256 256 256 _ _)

theorem ld_v996 : kernelRun0_A.sl.v996 c arg2 harg2 arg14 arg19 X = cV (sc X false) 2 2 := by
  refine (readSkip (by decide)).trans ?_
  refine (readSkip (by decide)).trans ?_
  exact readHit.trans st_c_false_2_2

theorem st_top_false_2 : kernelRun0_A.sl.v838 c arg2 harg2 arg19 X = tB 256 512 (sc X false) (512 * 2) (512 * 2) :=
  stTopF X 2 _ _ _ (readRows X _ _ 512 1024 0 _) (readRows X _ _ 256 1024 1 _) (readMask _ _ 256 512 0 0 _ _)

theorem ld_v1002 : kernelRun0_A.sl.v1002 c i arg2 harg2 arg13 arg19 X = tB 256 512 (sc X false) (512 * 2) (512 * 2) := by
  refine Eq.trans (readOff (off' := ![0, 0]) _ _ (placed_k0_off1 i) _ (by decide)) ?_
  refine (readSkip (by decide)).trans ?_
  exact readHit.trans st_top_false_2

theorem st_off_false_2_1 : kernelRun0_A.sl.v729 c arg2 harg2 X = tB 512 512 (sc X false) (512 * 2) (512 * 1) :=
  stOffF X 2 1 (by decide) _ _ (readRows X _ _ 512 1024 0 _) (readRows X _ _ 512 512 1 _)

theorem ld_v887 : kernelRun0_A.sl.v887 c i arg2 harg2 arg11 arg19 X = tB 512 512 (sc X false) (512 * 2) (512 * 1) := by
  refine Eq.trans (readOff (off' := ![0, 0]) _ _ (placed_k0_off3 i) _ (by decide)) ?_
  exact readHit.trans st_off_false_2_1

theorem st_off_false_2_0 : kernelRun0_A.sl.v530 c arg2 harg2 X = tB 512 512 (sc X false) (512 * 2) (512 * 0) :=
  stOffF X 2 0 (by decide) _ _ (readRows X _ _ 512 1024 0 _) (readRows X _ _ 512 0 1 _)

theorem ld_v767 : kernelRun0_A.sl.v767 c i arg2 harg2 arg13 X = tB 512 512 (sc X false) (512 * 2) (512 * 0) := by
  refine Eq.trans (readOff (off' := ![0, 0]) _ _ (placed_k0_off3 i) _ (by decide)) ?_
  exact readHit.trans st_off_false_2_0

theorem st_a_false_2_0 : kernelRun0_A.sl.v708 (F := Ideal) = aV 512 0 X (sc X false) 2 0 :=
  aInit X _ 2

theorem ld_v772 : kernelRun0_A.sl.v772 c i arg2 harg2 arg9 arg11 arg13 arg14 arg17 arg18 arg19 X = aV 512 0 X (sc X false) 2 0 :=
  readHit.trans st_a_false_2_0

theorem st_a_false_2_1 : kernelRun0_A.sl.v781 c i arg2 harg2 arg9 arg11 arg13 arg14 arg17 arg18 arg19 X = aV 512 0 X (sc X false) 2 1 :=
  aOffSt X _ 2 0 (by decide) _ _ _ _ _ ld_v760 ld_v761 ld_v767 ld_v772 ld_v459

theorem ld_v892 : kernelRun0_A.sl.v892 c i arg2 harg2 arg9 arg11 arg13 arg14 arg17 arg18 arg19 X = aV 512 0 X (sc X false) 2 1 :=
  readHit.trans st_a_false_2_1

theorem st_a_false_2_2 : kernelRun0_A.sl.v901 c i arg2 harg2 arg9 arg11 arg13 arg14 arg17 arg18 arg19 X = aV 512 0 X (sc X false) 2 2 :=
  aOffSt X _ 2 1 (by decide) _ _ _ _ _ ld_v880 ld_v881 ld_v887 ld_v892 ld_v870

theorem ld_v1022 : kernelRun0_A.sl.v1022 c i arg2 harg2 arg9 arg11 arg13 arg14 arg17 arg18 arg19 X = aV 256 0 X (sc X false) 2 2 :=
  readHalf X _ _ _ 2 2 0 _ _ _ st_a_false_2_2

theorem st_aL_false_2_3 : kernelRun0_A.sl.v1029 c i arg2 harg2 arg9 arg11 arg13 arg14 arg17 arg18 arg19 X = aV 256 0 X (sc X false) 2 3 :=
  aLeftSt X _ 2 _ _ _ _ _ ld_v995 ld_v996 ld_v1002 ld_v967 ld_v1022

theorem st_bot_false_2 : kernelRun0_A.sl.v843 c arg2 harg2 arg19 X = tB 256 256 (sc X false) (512 * 2 + 256) (512 * 2 + 256) :=
  stBotF X 2 _ _ _ (readRows X _ _ 512 1024 0 _) (readRows X _ _ 256 1280 1 _) (readMask _ _ 256 256 256 256 _ _)

theorem ld_v1009 : kernelRun0_A.sl.v1009 c i arg2 harg2 arg13 arg19 X = tB 256 256 (sc X false) (512 * 2 + 256) (512 * 2 + 256) := by
  refine Eq.trans (readOff (off' := ![256, 256]) _ _ (placed_k0_off2 i) _ (by decide)) ?_
  exact readHit.trans st_bot_false_2

theorem ld_v1031 : kernelRun0_A.sl.v1031 c i arg2 harg2 arg9 arg11 arg13 arg14 arg17 arg18 arg19 X = aV 256 256 X (sc X false) 2 2 := by
  refine (readSkip (by decide)).trans ?_
  exact readHalf X _ _ _ 2 2 256 _ _ _ st_a_false_2_2

theorem st_aR_false_2_3 : kernelRun0_A.sl.v1039 c i arg2 harg2 arg9 arg11 arg13 arg14 arg17 arg18 arg19 X = aV 256 256 X (sc X false) 2 3 :=
  aRightSt X _ 2 _ _ _ _ _ _ _ ld_v995 ld_v996 ld_v1002 ld_v967 ld_v1009 ld_v970 ld_v1031

theorem ld_v1051 : kernelRun0_A.sl.v1051 c i arg2 harg2 arg9 arg11 arg13 arg14 arg17 arg18 arg19 X = aV 512 0 X (sc X false) 2 3 :=
  readHalves X _ _ _ 2 3 _ _ _ _ _ st_aL_false_2_3 st_aR_false_2_3

theorem st_m_true_3_0 : k0_pay191 = mV (sc X true) 3 0 :=
  mInit _ 3

theorem ld_v1146 : kernelRun0_A.sl.v1146 c arg2 harg2 arg14 arg15 arg19 X = mV (sc X true) 3 0 :=
  readHit.trans st_m_true_3_0

theorem st_c_true_3_0 : k0_pay166 k0_pay3 (View.readAt (Elt Ideal) arg2.view (Rect.unit (s := S1x1x4x2048x128) ![0, 0, 0, 1536, 0] S1x1x1x512x128.size inb_S1x1x4x2048x128_S1x1x1x512x128_0_0_0_1536_0).toLoadRect (harg2.unread X)) (View.readAt (Elt Ideal) arg2.view (Rect.unit (s := S1x1x4x2048x128) ![0, 0, 1, 0, 0] S1x1x1x512x128.size inb_S1x1x4x2048x128_S1x1x1x512x128_0_0_1_0_0).toLoadRect (harg2.unread X)) = cV (sc X true) 3 0 :=
  cOffT X 3 0 (by decide) _ _ (readRows X _ _ 512 1536 0 _) (readRows X _ _ 512 0 1 _)

theorem ld_v1147 : kernelRun0_A.sl.v1147 c arg2 harg2 arg14 arg19 X = cV (sc X true) 3 0 := by
  refine (readSkip (by decide)).trans ?_
  refine (readSkip (by decide)).trans ?_
  refine (readSkip (by decide)).trans ?_
  exact readHit.trans st_c_true_3_0

theorem st_m_true_3_1 : kernelRun0_A.sl.v1170 c arg2 harg2 arg14 arg15 arg19 X = mV (sc X true) 3 1 :=
  mSt _ 3 0 _ _ ld_v1146 ld_v1147

theorem ld_v1222 : kernelRun0_A.sl.v1222 c arg2 harg2 arg14 arg15 arg19 X = mV (sc X true) 3 1 :=
  readHit.trans st_m_true_3_1

theorem st_c_true_3_1 : kernelRun0_A.sl.v1132 c arg2 harg2 X = cV (sc X true) 3 1 :=
  cOffT X 3 1 (by decide) _ _ (readRows X _ _ 512 1536 0 _) (readRows X _ _ 512 512 1 _)

theorem ld_v1223 : kernelRun0_A.sl.v1223 c arg2 harg2 arg14 arg19 X = cV (sc X true) 3 1 := by
  refine (readSkip (by decide)).trans ?_
  refine (readSkip (by decide)).trans ?_
  refine (readSkip (by decide)).trans ?_
  exact readHit.trans st_c_true_3_1

theorem st_m_true_3_2 : kernelRun0_A.sl.v1246 c arg2 harg2 arg14 arg15 arg19 X = mV (sc X true) 3 2 :=
  mSt _ 3 1 _ _ ld_v1222 ld_v1223

theorem ld_v1342 : kernelRun0_A.sl.v1342 c arg2 harg2 arg14 arg15 arg19 X = mV (sc X true) 3 2 :=
  readHit.trans st_m_true_3_2

theorem st_c_true_3_2 : kernelRun0_A.sl.v1208 c arg2 harg2 X = cV (sc X true) 3 2 :=
  cOffT X 3 2 (by decide) _ _ (readRows X _ _ 512 1536 0 _) (readRows X _ _ 512 1024 1 _)

theorem ld_v1343 : kernelRun0_A.sl.v1343 c arg2 harg2 arg14 arg19 X = cV (sc X true) 3 2 := by
  refine (readSkip (by decide)).trans ?_
  refine (readSkip (by decide)).trans ?_
  refine (readSkip (by decide)).trans ?_
  exact readHit.trans st_c_true_3_2

theorem st_m_true_3_3 : kernelRun0_A.sl.v1366 c arg2 harg2 arg14 arg15 arg19 X = mV (sc X true) 3 3 :=
  mSt _ 3 2 _ _ ld_v1342 ld_v1343

theorem ld_v1392 : kernelRun0_A.sl.v1392 c arg2 harg2 arg14 arg15 arg19 X = mV (sc X true) 3 3 :=
  readHit.trans st_m_true_3_3

theorem st_c_true_3_3 : kernelRun0_A.sl.v1306 c arg2 harg2 arg19 X = cV (sc X true) 3 3 :=
  cDiagT X 3 _ _ _ _ _ (readRows X _ _ 512 1536 0 _) (readRows X _ _ 256 1536 1 _) (readRows X _ _ 256 1792 1 _) (readMask _ _ 256 512 0 0 _ _) (readMask _ _ 256 256 256 256 _ _)

theorem ld_v1393 : kernelRun0_A.sl.v1393 c arg2 harg2 arg14 arg19 X = cV (sc X true) 3 3 := by
  refine (readSkip (by decide)).trans ?_
  exact readHit.trans st_c_true_3_3

theorem st_top_true_3 : kernelRun0_A.sl.v1290 c arg2 harg2 arg19 X = tB 256 512 (sc X true) (512 * 3) (512 * 3) :=
  stTopT X 3 _ _ _ (readRows X _ _ 512 1536 0 _) (readRows X _ _ 256 1536 1 _) (readMask _ _ 256 512 0 0 _ _)

theorem ld_v1399 : kernelRun0_A.sl.v1399 c i arg2 harg2 arg12 arg19 X = tB 256 512 (sc X true) (512 * 3) (512 * 3) := by
  refine Eq.trans (readOff (off' := ![0, 0]) _ _ (placed_k0_off1 i) _ (by decide)) ?_
  refine (readSkip (by decide)).trans ?_
  exact readHit.trans st_top_true_3

theorem ld_v1412 : kernelRun0_A.sl.v1412 c arg2 harg2 arg9 X = vtV 256 (512 * 3 + 0) X :=
  readVt X _ _ (vtFull (X := X)) 256 3 0 _

theorem st_off_true_3_2 : kernelRun0_A.sl.v1203 c arg2 harg2 X = tB 512 512 (sc X true) (512 * 3) (512 * 2) :=
  stOffT X 3 2 (by decide) _ _ (readRows X _ _ 512 1536 0 _) (readRows X _ _ 512 1024 1 _)

theorem ld_v1349 : kernelRun0_A.sl.v1349 c i arg2 harg2 arg10 arg19 X = tB 512 512 (sc X true) (512 * 3) (512 * 2) := by
  refine Eq.trans (readOff (off' := ![0, 0]) _ _ (placed_k0_off3 i) _ (by decide)) ?_
  exact readHit.trans st_off_true_3_2

theorem st_off_true_3_1 : kernelRun0_A.sl.v1127 c arg2 harg2 X = tB 512 512 (sc X true) (512 * 3) (512 * 1) :=
  stOffT X 3 1 (by decide) _ _ (readRows X _ _ 512 1536 0 _) (readRows X _ _ 512 512 1 _)

theorem ld_v1229 : kernelRun0_A.sl.v1229 c i arg2 harg2 arg12 arg19 X = tB 512 512 (sc X true) (512 * 3) (512 * 1) := by
  refine Eq.trans (readOff (off' := ![0, 0]) _ _ (placed_k0_off3 i) _ (by decide)) ?_
  exact readHit.trans st_off_true_3_1

theorem st_off_true_3_0 : k0_pay165 k0_pay3 (View.readAt (Elt Ideal) arg2.view (Rect.unit (s := S1x1x4x2048x128) ![0, 0, 0, 1536, 0] S1x1x1x512x128.size inb_S1x1x4x2048x128_S1x1x1x512x128_0_0_0_1536_0).toLoadRect (harg2.unread X)) (View.readAt (Elt Ideal) arg2.view (Rect.unit (s := S1x1x4x2048x128) ![0, 0, 1, 0, 0] S1x1x1x512x128.size inb_S1x1x4x2048x128_S1x1x1x512x128_0_0_1_0_0).toLoadRect (harg2.unread X)) = tB 512 512 (sc X true) (512 * 3) (512 * 0) :=
  stOffT X 3 0 (by decide) _ _ (readRows X _ _ 512 1536 0 _) (readRows X _ _ 512 0 1 _)

theorem ld_v1153 : kernelRun0_A.sl.v1153 c i arg2 harg2 arg10 arg19 X = tB 512 512 (sc X true) (512 * 3) (512 * 0) := by
  refine Eq.trans (readOff (off' := ![0, 0]) _ _ (placed_k0_off3 i) _ (by decide)) ?_
  exact readHit.trans st_off_true_3_0

theorem st_a_true_3_0 : k0_pay192 = aV 512 0 X (sc X true) 3 0 :=
  aInit X _ 3

theorem ld_v1158 : kernelRun0_A.sl.v1158 c i arg2 harg2 arg9 arg10 arg12 arg14 arg15 arg16 arg19 X = aV 512 0 X (sc X true) 3 0 :=
  readHit.trans st_a_true_3_0

theorem st_a_true_3_1 : kernelRun0_A.sl.v1167 c i arg2 harg2 arg9 arg10 arg12 arg14 arg15 arg16 arg19 X = aV 512 0 X (sc X true) 3 1 :=
  aOffSt X _ 3 0 (by decide) _ _ _ _ _ ld_v1146 ld_v1147 ld_v1153 ld_v1158 ld_v459

theorem ld_v1234 : kernelRun0_A.sl.v1234 c i arg2 harg2 arg9 arg10 arg12 arg14 arg15 arg16 arg19 X = aV 512 0 X (sc X true) 3 1 :=
  readHit.trans st_a_true_3_1

theorem st_a_true_3_2 : kernelRun0_A.sl.v1243 c i arg2 harg2 arg9 arg10 arg12 arg14 arg15 arg16 arg19 X = aV 512 0 X (sc X true) 3 2 :=
  aOffSt X _ 3 1 (by decide) _ _ _ _ _ ld_v1222 ld_v1223 ld_v1229 ld_v1234 ld_v870

theorem ld_v1354 : kernelRun0_A.sl.v1354 c i arg2 harg2 arg9 arg10 arg12 arg14 arg15 arg16 arg19 X = aV 512 0 X (sc X true) 3 2 :=
  readHit.trans st_a_true_3_2

theorem ld_v1357 : kernelRun0_A.sl.v1357 c arg2 harg2 arg9 X = vtV 512 (512 * 2 + 0) X :=
  readVt X _ _ (vtFull (X := X)) 512 2 0 _

theorem st_a_true_3_3 : kernelRun0_A.sl.v1363 c i arg2 harg2 arg9 arg10 arg12 arg14 arg15 arg16 arg19 X = aV 512 0 X (sc X true) 3 3 :=
  aOffSt X _ 3 2 (by decide) _ _ _ _ _ ld_v1342 ld_v1343 ld_v1349 ld_v1354 ld_v1357

theorem ld_v1419 : kernelRun0_A.sl.v1419 c i arg2 harg2 arg9 arg10 arg12 arg14 arg15 arg16 arg19 X = aV 256 0 X (sc X true) 3 3 :=
  readHalf X _ _ _ 3 3 0 _ _ _ st_a_true_3_3

theorem st_aL_true_3_4 : kernelRun0_A.sl.v1426 c i arg2 harg2 arg9 arg10 arg12 arg14 arg15 arg16 arg19 X = aV 256 0 X (sc X true) 3 4 :=
  aLeftSt X _ 3 _ _ _ _ _ ld_v1392 ld_v1393 ld_v1399 ld_v1412 ld_v1419

theorem st_bot_true_3 : kernelRun0_A.sl.v1295 c arg2 harg2 arg19 X = tB 256 256 (sc X true) (512 * 3 + 256) (512 * 3 + 256) :=
  stBotT X 3 _ _ _ (readRows X _ _ 512 1536 0 _) (readRows X _ _ 256 1792 1 _) (readMask _ _ 256 256 256 256 _ _)

theorem ld_v1406 : kernelRun0_A.sl.v1406 c i arg2 harg2 arg12 arg19 X = tB 256 256 (sc X true) (512 * 3 + 256) (512 * 3 + 256) := by
  refine Eq.trans (readOff (off' := ![256, 256]) _ _ (placed_k0_off2 i) _ (by decide)) ?_
  exact readHit.trans st_bot_true_3

theorem ld_v1415 : kernelRun0_A.sl.v1415 c arg2 harg2 arg9 X = vtV 256 (512 * 3 + 256) X :=
  readVt X _ _ (vtFull (X := X)) 256 3 256 _

theorem ld_v1428 : kernelRun0_A.sl.v1428 c i arg2 harg2 arg9 arg10 arg12 arg14 arg15 arg16 arg19 X = aV 256 256 X (sc X true) 3 3 := by
  refine (readSkip (by decide)).trans ?_
  exact readHalf X _ _ _ 3 3 256 _ _ _ st_a_true_3_3

theorem st_aR_true_3_4 : kernelRun0_A.sl.v1436 c i arg2 harg2 arg9 arg10 arg12 arg14 arg15 arg16 arg19 X = aV 256 256 X (sc X true) 3 4 :=
  aRightSt X _ 3 _ _ _ _ _ _ _ ld_v1392 ld_v1393 ld_v1399 ld_v1412 ld_v1406 ld_v1415 ld_v1428

theorem ld_v1488 : kernelRun0_A.sl.v1488 c i arg2 harg2 arg9 arg10 arg12 arg14 arg15 arg16 arg19 X = aV 512 0 X (sc X true) 3 4 :=
  readHalves X _ _ _ 3 4 _ _ _ _ _ st_aL_true_3_4 st_aR_true_3_4

theorem st_m_false_3_0 : k0_pay193 = mV (sc X false) 3 0 :=
  mInit _ 3

theorem ld_v1171 : kernelRun0_A.sl.v1171 c arg2 harg2 arg14 arg17 arg19 X = mV (sc X false) 3 0 :=
  readHit.trans st_m_false_3_0

theorem st_c_false_3_0 : kernelRun0_A.sl.v946 c arg2 harg2 X = cV (sc X false) 3 0 :=
  by
  refine Eq.trans ?_ (cOffF X 3 0 (by decide) _ _ (readRows X arg2 harg2 512 1536 0 (by decide)) (readRows X arg2 harg2 512 0 1 (by decide)))
  dsimp only [k0_pay18, k0_pay16, k0_pay3, k0_pay15, k0_pay14, k0_pay17, k0_pay98, k0_pay215, kernelRun0_A.sl.v946, kernelRun0_A.sl.v943, kernelRun0_A.sl.v942, kernelRun0_A.sl.v937, kernelRun0_A.sl.cst_106, kernelRun0_A.sl.r_8, k0_pay163, k0_pay161, kernelRun0_A.sl.r_9, k0_pay167]
  rfl

theorem ld_v1172 : kernelRun0_A.sl.v1172 c arg2 harg2 arg14 arg19 X = cV (sc X false) 3 0 := by
  refine (readSkip (by decide)).trans ?_
  refine (readSkip (by decide)).trans ?_
  exact readHit.trans st_c_false_3_0

theorem st_m_false_3_1 : kernelRun0_A.sl.v1195 c arg2 harg2 arg14 arg17 arg19 X = mV (sc X false) 3 1 :=
  mSt _ 3 0 _ _ ld_v1171 ld_v1172

theorem ld_v1247 : kernelRun0_A.sl.v1247 c arg2 harg2 arg14 arg17 arg19 X = mV (sc X false) 3 1 :=
  readHit.trans st_m_false_3_1

theorem st_c_false_3_1 : kernelRun0_A.sl.v1145 c arg2 harg2 X = cV (sc X false) 3 1 :=
  cOffF X 3 1 (by decide) _ _ (readRows X _ _ 512 1536 0 _) (readRows X _ _ 512 512 1 _)

theorem ld_v1248 : kernelRun0_A.sl.v1248 c arg2 harg2 arg14 arg19 X = cV (sc X false) 3 1 := by
  refine (readSkip (by decide)).trans ?_
  refine (readSkip (by decide)).trans ?_
  exact readHit.trans st_c_false_3_1

theorem st_m_false_3_2 : kernelRun0_A.sl.v1271 c arg2 harg2 arg14 arg17 arg19 X = mV (sc X false) 3 2 :=
  mSt _ 3 1 _ _ ld_v1247 ld_v1248

theorem ld_v1367 : kernelRun0_A.sl.v1367 c arg2 harg2 arg14 arg17 arg19 X = mV (sc X false) 3 2 :=
  readHit.trans st_m_false_3_2

theorem st_c_false_3_2 : kernelRun0_A.sl.v1221 c arg2 harg2 X = cV (sc X false) 3 2 :=
  cOffF X 3 2 (by decide) _ _ (readRows X _ _ 512 1536 0 _) (readRows X _ _ 512 1024 1 _)

theorem ld_v1368 : kernelRun0_A.sl.v1368 c arg2 harg2 arg14 arg19 X = cV (sc X false) 3 2 := by
  refine (readSkip (by decide)).trans ?_
  refine (readSkip (by decide)).trans ?_
  exact readHit.trans st_c_false_3_2

theorem st_m_false_3_3 : kernelRun0_A.sl.v1391 c arg2 harg2 arg14 arg17 arg19 X = mV (sc X false) 3 3 :=
  mSt _ 3 2 _ _ ld_v1367 ld_v1368

theorem ld_v1440 : kernelRun0_A.sl.v1440 c arg2 harg2 arg14 arg17 arg19 X = mV (sc X false) 3 3 :=
  readHit.trans st_m_false_3_3

theorem st_c_false_3_3 : kernelRun0_A.sl.v1341 c arg2 harg2 arg19 X = cV (sc X false) 3 3 :=
  cDiagF X 3 _ _ _ _ _ (readRows X _ _ 512 1536 0 _) (readRows X _ _ 256 1536 1 _) (readRows X _ _ 256 1792 1 _) (readMask _ _ 256 512 0 0 _ _) (readMask _ _ 256 256 256 256 _ _)

theorem ld_v1441 : kernelRun0_A.sl.v1441 c arg2 harg2 arg14 arg19 X = cV (sc X false) 3 3 :=
  readHit.trans st_c_false_3_3

theorem st_top_false_3 : kernelRun0_A.sl.v1325 c arg2 harg2 arg19 X = tB 256 512 (sc X false) (512 * 3) (512 * 3) :=
  stTopF X 3 _ _ _ (readRows X _ _ 512 1536 0 _) (readRows X _ _ 256 1536 1 _) (readMask _ _ 256 512 0 0 _ _)

theorem ld_v1447 : kernelRun0_A.sl.v1447 c i arg2 harg2 arg13 arg19 X = tB 256 512 (sc X false) (512 * 3) (512 * 3) := by
  refine Eq.trans (readOff (off' := ![0, 0]) _ _ (placed_k0_off1 i) _ (by decide)) ?_
  refine (readSkip (by decide)).trans ?_
  exact readHit.trans st_top_false_3

theorem st_off_false_3_2 : kernelRun0_A.sl.v1216 c arg2 harg2 X = tB 512 512 (sc X false) (512 * 3) (512 * 2) :=
  stOffF X 3 2 (by decide) _ _ (readRows X _ _ 512 1536 0 _) (readRows X _ _ 512 1024 1 _)

theorem ld_v1374 : kernelRun0_A.sl.v1374 c i arg2 harg2 arg11 arg19 X = tB 512 512 (sc X false) (512 * 3) (512 * 2) := by
  refine Eq.trans (readOff (off' := ![0, 0]) _ _ (placed_k0_off3 i) _ (by decide)) ?_
  exact readHit.trans st_off_false_3_2

theorem st_off_false_3_1 : kernelRun0_A.sl.v1140 c arg2 harg2 X = tB 512 512 (sc X false) (512 * 3) (512 * 1) :=
  stOffF X 3 1 (by decide) _ _ (readRows X _ _ 512 1536 0 _) (readRows X _ _ 512 512 1 _)

theorem ld_v1254 : kernelRun0_A.sl.v1254 c i arg2 harg2 arg13 arg19 X = tB 512 512 (sc X false) (512 * 3) (512 * 1) := by
  refine Eq.trans (readOff (off' := ![0, 0]) _ _ (placed_k0_off3 i) _ (by decide)) ?_
  exact readHit.trans st_off_false_3_1

theorem st_off_false_3_0 : kernelRun0_A.sl.v941 c arg2 harg2 X = tB 512 512 (sc X false) (512 * 3) (512 * 0) :=
  by
  refine Eq.trans ?_ (stOffF X 3 0 (by decide) _ _ (readRows X arg2 harg2 512 1536 0 (by decide)) (readRows X arg2 harg2 512 0 1 (by decide)))
  dsimp only [k0_pay18, k0_pay16, k0_pay3, k0_pay15, k0_pay14, k0_pay17, k0_pay98, k0_pay215, kernelRun0_A.sl.v941, kernelRun0_A.sl.v937, kernelRun0_A.sl.cst_106, kernelRun0_A.sl.r_8, k0_pay163, k0_pay161, kernelRun0_A.sl.r_9, k0_pay167]
  rfl

theorem ld_v1178 : kernelRun0_A.sl.v1178 c i arg2 harg2 arg11 arg19 X = tB 512 512 (sc X false) (512 * 3) (512 * 0) := by
  refine Eq.trans (readOff (off' := ![0, 0]) _ _ (placed_k0_off3 i) _ (by decide)) ?_
  exact readHit.trans st_off_false_3_0

theorem st_a_false_3_0 : k0_pay194 = aV 512 0 X (sc X false) 3 0 :=
  aInit X _ 3

theorem ld_v1183 : kernelRun0_A.sl.v1183 c i arg2 harg2 arg9 arg11 arg13 arg14 arg17 arg18 arg19 X = aV 512 0 X (sc X false) 3 0 :=
  readHit.trans st_a_false_3_0

theorem st_a_false_3_1 : kernelRun0_A.sl.v1192 c i arg2 harg2 arg9 arg11 arg13 arg14 arg17 arg18 arg19 X = aV 512 0 X (sc X false) 3 1 :=
  aOffSt X _ 3 0 (by decide) _ _ _ _ _ ld_v1171 ld_v1172 ld_v1178 ld_v1183 ld_v459

theorem ld_v1259 : kernelRun0_A.sl.v1259 c i arg2 harg2 arg9 arg11 arg13 arg14 arg17 arg18 arg19 X = aV 512 0 X (sc X false) 3 1 :=
  readHit.trans st_a_false_3_1

theorem st_a_false_3_2 : kernelRun0_A.sl.v1268 c i arg2 harg2 arg9 arg11 arg13 arg14 arg17 arg18 arg19 X = aV 512 0 X (sc X false) 3 2 :=
  aOffSt X _ 3 1 (by decide) _ _ _ _ _ ld_v1247 ld_v1248 ld_v1254 ld_v1259 ld_v870

theorem ld_v1379 : kernelRun0_A.sl.v1379 c i arg2 harg2 arg9 arg11 arg13 arg14 arg17 arg18 arg19 X = aV 512 0 X (sc X false) 3 2 :=
  readHit.trans st_a_false_3_2

theorem st_a_false_3_3 : kernelRun0_A.sl.v1388 c i arg2 harg2 arg9 arg11 arg13 arg14 arg17 arg18 arg19 X = aV 512 0 X (sc X false) 3 3 :=
  aOffSt X _ 3 2 (by decide) _ _ _ _ _ ld_v1367 ld_v1368 ld_v1374 ld_v1379 ld_v1357

theorem ld_v1467 : kernelRun0_A.sl.v1467 c i arg2 harg2 arg9 arg11 arg13 arg14 arg17 arg18 arg19 X = aV 256 0 X (sc X false) 3 3 :=
  readHalf X _ _ _ 3 3 0 _ _ _ st_a_false_3_3

theorem st_aL_false_3_4 : kernelRun0_A.sl.v1474 c i arg2 harg2 arg9 arg11 arg13 arg14 arg17 arg18 arg19 X = aV 256 0 X (sc X false) 3 4 :=
  aLeftSt X _ 3 _ _ _ _ _ ld_v1440 ld_v1441 ld_v1447 ld_v1412 ld_v1467

theorem st_bot_false_3 : kernelRun0_A.sl.v1330 c arg2 harg2 arg19 X = tB 256 256 (sc X false) (512 * 3 + 256) (512 * 3 + 256) :=
  stBotF X 3 _ _ _ (readRows X _ _ 512 1536 0 _) (readRows X _ _ 256 1792 1 _) (readMask _ _ 256 256 256 256 _ _)

theorem ld_v1454 : kernelRun0_A.sl.v1454 c i arg2 harg2 arg13 arg19 X = tB 256 256 (sc X false) (512 * 3 + 256) (512 * 3 + 256) := by
  refine Eq.trans (readOff (off' := ![256, 256]) _ _ (placed_k0_off2 i) _ (by decide)) ?_
  exact readHit.trans st_bot_false_3

theorem ld_v1476 : kernelRun0_A.sl.v1476 c i arg2 harg2 arg9 arg11 arg13 arg14 arg17 arg18 arg19 X = aV 256 256 X (sc X false) 3 3 := by
  refine (readSkip (by decide)).trans ?_
  exact readHalf X _ _ _ 3 3 256 _ _ _ st_a_false_3_3

theorem st_aR_false_3_4 : kernelRun0_A.sl.v1484 c i arg2 harg2 arg9 arg11 arg13 arg14 arg17 arg18 arg19 X = aV 256 256 X (sc X false) 3 4 :=
  aRightSt X _ 3 _ _ _ _ _ _ _ ld_v1440 ld_v1441 ld_v1447 ld_v1412 ld_v1454 ld_v1415 ld_v1476

theorem ld_v1496 : kernelRun0_A.sl.v1496 c i arg2 harg2 arg9 arg11 arg13 arg14 arg17 arg18 arg19 X = aV 512 0 X (sc X false) 3 4 :=
  readHalves X _ _ _ 3 4 _ _ _ _ _ st_aL_false_3_4 st_aR_false_3_4

end Cert.Diff.CaseA
-- ==== Proof.OutA.lean ====
module

public import proofs.«01_k».proof.Proof.Finish
public import proofs.«01_k».proof.Proof.ChainA
public import Idealize.ShloMosaic.Lib.Pipeline.ValueKit

@[expose] public section

set_option maxRecDepth 16384

noncomputable section

namespace Cert.Diff.CaseA

open Cert.KernelIdeal Cert.KernelIdeal.Gen Idealize.ShloMosaic Idealize.ShloMosaic.TcCoe

variable (X : Vec Ideal S1x1x4x2048x128 .bf16) (x1 x2 x3 x4 : Vec Ideal S2x64 .f32) (x5 : Vec Ideal S2x128 .f32) {c : Dev nD} {i : grid0.Coords}
  {arg2 : Memref sig .tc .vmem S1x1x4x2048x128 .bf16} {harg2 : arg2.IsWhole}
  {arg3 : Memref sig .tc .vmem S2x64 .f32} {harg3 : arg3.IsWhole}
  {arg4 : Memref sig .tc .vmem S2x64 .f32} {harg4 : arg4.IsWhole}
  {arg5 : Memref sig .tc .vmem S2x64 .f32} {harg5 : arg5.IsWhole}
  {arg6 : Memref sig .tc .vmem S2x64 .f32} {harg6 : arg6.IsWhole}
  {arg7 : Memref sig .tc .vmem S2x128 .f32} {harg7 : arg7.IsWhole}
  {arg8 : Memref sig .tc .vmem S1x1x2048x128 .bf16} {harg8 : arg8.IsWhole}
  {arg9 : Memref sig .tc .vmem S4x144x512 .bf16} {harg9 : arg9.IsWhole}
  {arg10 : Memref sig .tc .vmem S512x512 .f32} {harg10 : arg10.IsWhole}
  {arg11 : Memref sig .tc .vmem S512x512 .f32} {harg11 : arg11.IsWhole}
  {arg12 : Memref sig .tc .vmem S512x512 .f32} {harg12 : arg12.IsWhole}
  {arg13 : Memref sig .tc .vmem S512x512 .f32} {harg13 : arg13.IsWhole}
  {arg14 : Memref sig .tc .vmem S2x2x1x512 .f32} {harg14 : arg14.IsWhole}
  {arg15 : Memref sig .tc .vmem S1x512 .f32} {harg15 : arg15.IsWhole}
  {arg16 : Memref sig .tc .vmem S144x512 .f32} {harg16 : arg16.IsWhole}
  {arg17 : Memref sig .tc .vmem S1x512 .f32} {harg17 : arg17.IsWhole}
  {arg18 : Memref sig .tc .vmem S144x512 .f32} {harg18 : arg18.IsWhole}
  {arg19 : Memref sig .tc .vmem S1x512x512 .f32} {harg19 : arg19.IsWhole}

theorem tile0 : k0_pay66 (kernelRun0_A.sl.v352 (F := Ideal) c i arg2 harg2 arg3 harg3 arg4 harg4 arg5 harg5 arg6 harg6 arg7 harg7 arg9 arg10 arg11 arg14 arg15 arg16 arg17 arg18 arg19 X x1 x2 x3 x4 x5) = outT X x1 x2 x3 x4 x5 0 := by
  refine Eq.trans ?_ (finEq X x1 x2 x3 x4 x5 0 _ _ _ _ _ _ _ _ (ld_v297 (c := c) (i := i) (arg2 := arg2) (harg2 := harg2) (arg9 := arg9) (arg10 := arg10) (arg14 := arg14) (arg15 := arg15) (arg16 := arg16) (arg19 := arg19)) (ld_v305 (c := c) (i := i) (arg2 := arg2) (harg2 := harg2) (arg9 := arg9) (arg11 := arg11) (arg14 := arg14) (arg17 := arg17) (arg18 := arg18) (arg19 := arg19)) (readRows X arg2 harg2 512 0 3 (by decide)) (readRow 64 arg3 harg3 x1 (by decide)) (readRow 64 arg4 harg4 x2 (by decide)) (readRow 64 arg5 harg5 x3 (by decide)) (readRow 64 arg6 harg6 x4 (by decide)) (readRow 128 arg7 harg7 x5 (by decide)))
  rfl

theorem tile1 : k0_pay120 (kernelRun0_A.sl.v639 (F := Ideal) c i arg2 harg2 arg9 arg10 arg12 arg14 arg15 arg16 arg19 X) (kernelRun0_A.sl.v647 (F := Ideal) c i arg2 harg2 arg9 arg11 arg13 arg14 arg17 arg18 arg19 X) (kernelRun0_A.sl.v653 (F := Ideal) c arg2 harg2 X) (kernelRun0_A.sl.v324 (F := Ideal) c arg3 harg3 arg4 harg4 x1 x2) (kernelRun0_A.sl.v330 (F := Ideal) c arg5 harg5 arg6 harg6 x3 x4) (View.readAt (Elt Ideal) arg7.view (Rect.unit (s := S2x128) ![0, 0] S1x128.size inb_S2x128_S1x128_0_0).toLoadRect (harg7.unread x5)) = outT X x1 x2 x3 x4 x5 1 := by
  refine Eq.trans ?_ (finEq X x1 x2 x3 x4 x5 1 _ _ _ _ _ _ _ _ (ld_v632 (c := c) (i := i) (arg2 := arg2) (harg2 := harg2) (arg9 := arg9) (arg10 := arg10) (arg12 := arg12) (arg14 := arg14) (arg15 := arg15) (arg16 := arg16) (arg19 := arg19)) (ld_v640 (c := c) (i := i) (arg2 := arg2) (harg2 := harg2) (arg9 := arg9) (arg11 := arg11) (arg13 := arg13) (arg14 := arg14) (arg17 := arg17) (arg18 := arg18) (arg19 := arg19)) (readRows X arg2 harg2 512 512 3 (by decide)) (readRow 64 arg3 harg3 x1 (by decide)) (readRow 64 arg4 harg4 x2 (by decide)) (readRow 64 arg5 harg5 x3 (by decide)) (readRow 64 arg6 harg6 x4 (by decide)) (readRow 128 arg7 harg7 x5 (by decide)))
  rfl

theorem tile2 : k0_pay190 (kernelRun0_A.sl.v1064 (F := Ideal) c arg2 harg2 X) (kernelRun0_A.sl.v1082 (F := Ideal) c i arg2 harg2 arg3 harg3 arg4 harg4 arg5 harg5 arg6 harg6 arg9 arg10 arg11 arg12 arg13 arg14 arg15 arg16 arg17 arg18 arg19 X x1 x2 x3 x4) (kernelRun0_A.sl.v1085 (F := Ideal) c i arg2 harg2 arg3 harg3 arg4 harg4 arg5 harg5 arg6 harg6 arg9 arg10 arg11 arg12 arg13 arg14 arg15 arg16 arg17 arg18 arg19 X x1 x2 x3 x4) (View.readAt (Elt Ideal) arg7.view (Rect.unit (s := S2x128) ![0, 0] S1x128.size inb_S2x128_S1x128_0_0).toLoadRect (harg7.unread x5)) = outT X x1 x2 x3 x4 x5 2 := by
  refine Eq.trans ?_ (finEq X x1 x2 x3 x4 x5 2 _ _ _ _ _ _ _ _ (ld_v1043 (c := c) (i := i) (arg2 := arg2) (harg2 := harg2) (arg9 := arg9) (arg10 := arg10) (arg12 := arg12) (arg14 := arg14) (arg15 := arg15) (arg16 := arg16) (arg19 := arg19)) (ld_v1051 (c := c) (i := i) (arg2 := arg2) (harg2 := harg2) (arg9 := arg9) (arg11 := arg11) (arg13 := arg13) (arg14 := arg14) (arg17 := arg17) (arg18 := arg18) (arg19 := arg19)) (readRows X arg2 harg2 512 1024 3 (by decide)) (readRow 64 arg3 harg3 x1 (by decide)) (readRow 64 arg4 harg4 x2 (by decide)) (readRow 64 arg5 harg5 x3 (by decide)) (readRow 64 arg6 harg6 x4 (by decide)) (readRow 128 arg7 harg7 x5 (by decide)))
  rfl

theorem tile3 : k0_pay1 (kernelRun0_A.sl.r_11 (F := Ideal) c i arg2 harg2 arg3 harg3 arg4 harg4 arg5 harg5 arg6 harg6 arg7 harg7 arg9 arg10 arg11 arg12 arg13 arg14 arg15 arg16 arg17 arg18 arg19 X x1 x2 x3 x4 x5) = outT X x1 x2 x3 x4 x5 3 := by
  refine Eq.trans ?_ (finEq X x1 x2 x3 x4 x5 3 _ _ _ _ _ _ _ _ (ld_v1488 (c := c) (i := i) (arg2 := arg2) (harg2 := harg2) (arg9 := arg9) (arg10 := arg10) (arg12 := arg12) (arg14 := arg14) (arg15 := arg15) (arg16 := arg16) (arg19 := arg19)) (ld_v1496 (c := c) (i := i) (arg2 := arg2) (harg2 := harg2) (arg9 := arg9) (arg11 := arg11) (arg13 := arg13) (arg14 := arg14) (arg17 := arg17) (arg18 := arg18) (arg19 := arg19)) (readRows X arg2 harg2 512 1536 3 (by decide)) (readRow 64 arg3 harg3 x1 (by decide)) (readRow 64 arg4 harg4 x2 (by decide)) (readRow 64 arg5 harg5 x3 (by decide)) (readRow 64 arg6 harg6 x4 (by decide)) (readRow 128 arg7 harg7 x5 (by decide)))
  rfl

theorem out (hc : cond0_0 i) : out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X x1 x2 x3 x4 x5 = outV X x1 x2 x3 x4 x5 := by
  rw [out0_A_6]
  refine (View.read_writes_junk_eq_canon _ _).trans ?_
  exact canonOut X x1 x2 x3 x4 x5 _ _ _ _ (tile0 X x1 x2 x3 x4 x5) (tile1 X x1 x2 x3 x4 x5) (tile2 X x1 x2 x3 x4 x5) (tile3 X x1 x2 x3 x4 x5) _ _ _ _

theorem tableOut (hc : cond0_0 i) : sout0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X x1 x2 x3 x4 x5 = mkV 512 512 0 0 := by
  rw [sout0_A_10]
  refine (View.read_writes_junk_eq_canon _ _).trans ?_
  refine Eq.trans ?_ table
  exact View.canon_cons_unit_lit _ _ _ (by decide)

end Cert.Diff.CaseA
-- ==== Proof.ChainB.lean ====
module

public import proofs.«01_k».proof.Proof.Stores

@[expose] public section

set_option maxRecDepth 16384

noncomputable section

namespace Cert.Diff.CaseB

open Cert.KernelIdeal Cert.KernelIdeal.Gen Idealize.ShloMosaic Idealize.ShloMosaic.TcCoe

variable {X : Vec Ideal S1x1x4x2048x128 .bf16} {c : Dev nD} {i : grid0.Coords}
  {arg2 : Memref sig .tc .vmem S1x1x4x2048x128 .bf16} {harg2 : arg2.IsWhole}
  {arg9 : Memref sig .tc .vmem S4x144x512 .bf16}
  {arg10 : Memref sig .tc .vmem S512x512 .f32}
  {arg11 : Memref sig .tc .vmem S512x512 .f32}
  {arg12 : Memref sig .tc .vmem S512x512 .f32}
  {arg13 : Memref sig .tc .vmem S512x512 .f32}
  {arg14 : Memref sig .tc .vmem S2x2x1x512 .f32}
  {arg15 : Memref sig .tc .vmem S1x512 .f32}
  {arg16 : Memref sig .tc .vmem S144x512 .f32}
  {arg17 : Memref sig .tc .vmem S1x512 .f32}
  {arg18 : Memref sig .tc .vmem S144x512 .f32}
  {arg19 : Memref sig .tc .vmem S1x512x512 .f32} {harg19 : arg19.IsWhole}

theorem vtFull : View.canon (kernelRun0_B.sl.HS0_8 c arg2 harg2 X) = vtAll X :=
  canonVt X _ (readRows X _ _ 2048 0 2 _) _ _ _ _ _ _ _ _

theorem st_m_true_0_0 : k0_pay33 = mV (sc X true) 0 0 :=
  mInit _ 0

theorem ld_v201 : kernelRun0_B.sl.v201 (F := Ideal) c arg15 = mV (sc X true) 0 0 :=
  readHit.trans st_m_true_0_0

theorem st_c_true_0_0 : kernelRun0_B.sl.v107 c arg2 harg2 arg19 harg19 X (mkV 512 512 0 0) = cV (sc X true) 0 0 :=
  cDiagT X 0 _ _ _ _ _ (readRows X _ _ 512 0 0 _) (readRows X _ _ 256 0 1 _) (readRows X _ _ 256 256 1 _) (readMask' _ _ 256 512 0 0 _) (readMask' _ _ 256 256 256 256 _)

theorem ld_v202 : kernelRun0_B.sl.v202 c arg2 harg2 arg14 arg19 harg19 X (mkV 512 512 0 0) = cV (sc X true) 0 0 := by
  refine (readSkip (by decide)).trans ?_
  refine (readSkip (by decide)).trans ?_
  refine (readSkip (by decide)).trans ?_
  exact readHit.trans st_c_true_0_0

theorem st_top_true_0 : kernelRun0_B.sl.v91 c arg2 harg2 arg19 harg19 X (mkV 512 512 0 0) = tB 256 512 (sc X true) (512 * 0) (512 * 0) :=
  stTopT X 0 _ _ _ (readRows X _ _ 512 0 0 _) (readRows X _ _ 256 0 1 _) (readMask' _ _ 256 512 0 0 _)

theorem ld_v208 : kernelRun0_B.sl.v208 c i arg2 harg2 arg10 arg19 harg19 X (mkV 512 512 0 0) = tB 256 512 (sc X true) (512 * 0) (512 * 0) := by
  refine Eq.trans (readOff (off' := ![0, 0]) _ _ (placed_k0_off1 i) _ (by decide)) ?_
  refine (readSkip (by decide)).trans ?_
  exact readHit.trans st_top_true_0

theorem ld_v221 : kernelRun0_B.sl.v221 c arg2 harg2 arg9 X = vtV 256 (512 * 0 + 0) X :=
  readVt X _ _ (vtFull (X := X)) 256 0 0 _

theorem st_a_true_0_0 : k0_pay34 = aV 512 0 X (sc X true) 0 0 :=
  aInit X _ 0

theorem ld_v228 : kernelRun0_B.sl.v228 (F := Ideal) c arg16 = aV 256 0 X (sc X true) 0 0 :=
  readHalf X _ _ _ 0 0 0 _ _ _ st_a_true_0_0

theorem st_aL_true_0_1 : kernelRun0_B.sl.v235 c i arg2 harg2 arg9 arg10 arg14 arg15 arg16 arg19 harg19 X (mkV 512 512 0 0) = aV 256 0 X (sc X true) 0 1 :=
  aLeftSt X _ 0 _ _ _ _ _ ld_v201 ld_v202 ld_v208 ld_v221 ld_v228

theorem st_bot_true_0 : kernelRun0_B.sl.v96 c arg2 harg2 arg19 harg19 X (mkV 512 512 0 0) = tB 256 256 (sc X true) (512 * 0 + 256) (512 * 0 + 256) :=
  stBotT X 0 _ _ _ (readRows X _ _ 512 0 0 _) (readRows X _ _ 256 256 1 _) (readMask' _ _ 256 256 256 256 _)

theorem ld_v215 : kernelRun0_B.sl.v215 c i arg2 harg2 arg10 arg19 harg19 X (mkV 512 512 0 0) = tB 256 256 (sc X true) (512 * 0 + 256) (512 * 0 + 256) := by
  refine Eq.trans (readOff (off' := ![256, 256]) _ _ (placed_k0_off2 i) _ (by decide)) ?_
  exact readHit.trans st_bot_true_0

theorem ld_v224 : kernelRun0_B.sl.v224 c arg2 harg2 arg9 X = vtV 256 (512 * 0 + 256) X :=
  readVt X _ _ (vtFull (X := X)) 256 0 256 _

theorem ld_v237 : kernelRun0_B.sl.v237 c i arg2 harg2 arg9 arg10 arg14 arg15 arg16 arg19 harg19 X (mkV 512 512 0 0) = aV 256 256 X (sc X true) 0 0 := by
  refine (readSkip (by decide)).trans ?_
  exact readHalf X _ _ _ 0 0 256 _ _ _ st_a_true_0_0

theorem st_aR_true_0_1 : kernelRun0_B.sl.v245 c i arg2 harg2 arg9 arg10 arg14 arg15 arg16 arg19 harg19 X (mkV 512 512 0 0) = aV 256 256 X (sc X true) 0 1 :=
  aRightSt X _ 0 _ _ _ _ _ _ _ ld_v201 ld_v202 ld_v208 ld_v221 ld_v215 ld_v224 ld_v237

theorem ld_v297 : kernelRun0_B.sl.v297 c i arg2 harg2 arg9 arg10 arg14 arg15 arg16 arg19 harg19 X (mkV 512 512 0 0) = aV 512 0 X (sc X true) 0 1 :=
  readHalves X _ _ _ 0 1 _ _ _ _ _ st_aL_true_0_1 st_aR_true_0_1

theorem st_m_false_0_0 : k0_pay35 = mV (sc X false) 0 0 :=
  mInit _ 0

theorem ld_v249 : kernelRun0_B.sl.v249 (F := Ideal) c arg17 = mV (sc X false) 0 0 :=
  readHit.trans st_m_false_0_0

theorem st_c_false_0_0 : k0_pay32 (kernelRun0_B.sl.v122 c arg2 harg2 arg19 harg19 X (mkV 512 512 0 0)) (kernelRun0_B.sl.v133 c arg2 harg2 arg19 harg19 X (mkV 512 512 0 0)) = cV (sc X false) 0 0 :=
  cDiagF X 0 _ _ _ _ _ (readRows X _ _ 512 0 0 _) (readRows X _ _ 256 0 1 _) (readRows X _ _ 256 256 1 _) (readMask' _ _ 256 512 0 0 _) (readMask' _ _ 256 256 256 256 _)

theorem ld_v250 : kernelRun0_B.sl.v250 c arg2 harg2 arg14 arg19 harg19 X (mkV 512 512 0 0) = cV (sc X false) 0 0 := by
  refine (readSkip (by decide)).trans ?_
  refine (readSkip (by decide)).trans ?_
  exact readHit.trans st_c_false_0_0

theorem st_top_false_0 : kernelRun0_B.sl.v126 c arg2 harg2 arg19 harg19 X (mkV 512 512 0 0) = tB 256 512 (sc X false) (512 * 0) (512 * 0) :=
  stTopF X 0 _ _ _ (readRows X _ _ 512 0 0 _) (readRows X _ _ 256 0 1 _) (readMask' _ _ 256 512 0 0 _)

theorem ld_v256 : kernelRun0_B.sl.v256 c i arg2 harg2 arg11 arg19 harg19 X (mkV 512 512 0 0) = tB 256 512 (sc X false) (512 * 0) (512 * 0) := by
  refine Eq.trans (readOff (off' := ![0, 0]) _ _ (placed_k0_off1 i) _ (by decide)) ?_
  refine (readSkip (by decide)).trans ?_
  exact readHit.trans st_top_false_0

theorem st_a_false_0_0 : k0_pay36 = aV 512 0 X (sc X false) 0 0 :=
  aInit X _ 0

theorem ld_v276 : kernelRun0_B.sl.v276 (F := Ideal) c arg18 = aV 256 0 X (sc X false) 0 0 :=
  readHalf X _ _ _ 0 0 0 _ _ _ st_a_false_0_0

theorem st_aL_false_0_1 : kernelRun0_B.sl.v283 c i arg2 harg2 arg9 arg11 arg14 arg17 arg18 arg19 harg19 X (mkV 512 512 0 0) = aV 256 0 X (sc X false) 0 1 :=
  aLeftSt X _ 0 _ _ _ _ _ ld_v249 ld_v250 ld_v256 ld_v221 ld_v276

theorem st_bot_false_0 : kernelRun0_B.sl.v131 c arg2 harg2 arg19 harg19 X (mkV 512 512 0 0) = tB 256 256 (sc X false) (512 * 0 + 256) (512 * 0 + 256) :=
  stBotF X 0 _ _ _ (readRows X _ _ 512 0 0 _) (readRows X _ _ 256 256 1 _) (readMask' _ _ 256 256 256 256 _)

theorem ld_v263 : kernelRun0_B.sl.v263 c i arg2 harg2 arg11 arg19 harg19 X (mkV 512 512 0 0) = tB 256 256 (sc X false) (512 * 0 + 256) (512 * 0 + 256) := by
  refine Eq.trans (readOff (off' := ![256, 256]) _ _ (placed_k0_off2 i) _ (by decide)) ?_
  exact readHit.trans st_bot_false_0

theorem ld_v285 : kernelRun0_B.sl.v285 c i arg2 harg2 arg9 arg11 arg14 arg17 arg18 arg19 harg19 X (mkV 512 512 0 0) = aV 256 256 X (sc X false) 0 0 := by
  refine (readSkip (by decide)).trans ?_
  exact readHalf X _ _ _ 0 0 256 _ _ _ st_a_false_0_0

theorem st_aR_false_0_1 : kernelRun0_B.sl.v293 c i arg2 harg2 arg9 arg11 arg14 arg17 arg18 arg19 harg19 X (mkV 512 512 0 0) = aV 256 256 X (sc X false) 0 1 :=
  aRightSt X _ 0 _ _ _ _ _ _ _ ld_v249 ld_v250 ld_v256 ld_v221 ld_v263 ld_v224 ld_v285

theorem ld_v305 : kernelRun0_B.sl.v305 c i arg2 harg2 arg9 arg11 arg14 arg17 arg18 arg19 harg19 X (mkV 512 512 0 0) = aV 512 0 X (sc X false) 0 1 :=
  readHalves X _ _ _ 0 1 _ _ _ _ _ st_aL_false_0_1 st_aR_false_0_1

theorem st_m_true_1_0 : k0_pay67 = mV (sc X true) 1 0 :=
  mInit _ 1

theorem ld_v444 : kernelRun0_B.sl.v444 c arg2 harg2 arg14 arg15 arg19 harg19 X (mkV 512 512 0 0) = mV (sc X true) 1 0 :=
  readHit.trans st_m_true_1_0

theorem st_c_true_1_0 : kernelRun0_B.sl.v187 c arg2 harg2 X = cV (sc X true) 1 0 :=
  cOffT X 1 0 (by decide) _ _ (readRows X _ _ 512 512 0 _) (readRows X _ _ 512 0 1 _)

theorem ld_v445 : kernelRun0_B.sl.v445 c arg2 harg2 arg14 arg19 harg19 X (mkV 512 512 0 0) = cV (sc X true) 1 0 := by
  refine (readSkip (by decide)).trans ?_
  refine (readSkip (by decide)).trans ?_
  refine (readSkip (by decide)).trans ?_
  exact readHit.trans st_c_true_1_0

theorem st_m_true_1_1 : kernelRun0_B.sl.v468 c arg2 harg2 arg14 arg15 arg19 harg19 X (mkV 512 512 0 0) = mV (sc X true) 1 1 :=
  mSt _ 1 0 _ _ ld_v444 ld_v445

theorem ld_v536 : kernelRun0_B.sl.v536 c arg2 harg2 arg14 arg15 arg19 harg19 X (mkV 512 512 0 0) = mV (sc X true) 1 1 :=
  readHit.trans st_m_true_1_1

theorem st_c_true_1_1 : kernelRun0_B.sl.v408 c arg2 harg2 arg19 harg19 X (mkV 512 512 0 0) = cV (sc X true) 1 1 :=
  cDiagT X 1 _ _ _ _ _ (readRows X _ _ 512 512 0 _) (readRows X _ _ 256 512 1 _) (readRows X _ _ 256 768 1 _) (readMask' _ _ 256 512 0 0 _) (readMask' _ _ 256 256 256 256 _)

theorem ld_v537 : kernelRun0_B.sl.v537 c arg2 harg2 arg14 arg19 harg19 X (mkV 512 512 0 0) = cV (sc X true) 1 1 := by
  refine (readSkip (by decide)).trans ?_
  refine (readSkip (by decide)).trans ?_
  refine (readSkip (by decide)).trans ?_
  exact readHit.trans st_c_true_1_1

theorem st_top_true_1 : kernelRun0_B.sl.v392 c arg2 harg2 arg19 harg19 X (mkV 512 512 0 0) = tB 256 512 (sc X true) (512 * 1) (512 * 1) :=
  stTopT X 1 _ _ _ (readRows X _ _ 512 512 0 _) (readRows X _ _ 256 512 1 _) (readMask' _ _ 256 512 0 0 _)

theorem ld_v543 : kernelRun0_B.sl.v543 c i arg2 harg2 arg10 arg19 harg19 X (mkV 512 512 0 0) = tB 256 512 (sc X true) (512 * 1) (512 * 1) := by
  refine Eq.trans (readOff (off' := ![0, 0]) _ _ (placed_k0_off1 i) _ (by decide)) ?_
  refine (readSkip (by decide)).trans ?_
  exact readHit.trans st_top_true_1

theorem ld_v556 : kernelRun0_B.sl.v556 c arg2 harg2 arg9 X = vtV 256 (512 * 1 + 0) X :=
  readVt X _ _ (vtFull (X := X)) 256 1 0 _

theorem st_off_true_1_0 : kernelRun0_B.sl.v182 c arg2 harg2 X = tB 512 512 (sc X true) (512 * 1) (512 * 0) :=
  stOffT X 1 0 (by decide) _ _ (readRows X _ _ 512 512 0 _) (readRows X _ _ 512 0 1 _)

theorem ld_v451 : kernelRun0_B.sl.v451 c i arg2 harg2 arg12 X = tB 512 512 (sc X true) (512 * 1) (512 * 0) := by
  refine Eq.trans (readOff (off' := ![0, 0]) _ _ (placed_k0_off3 i) _ (by decide)) ?_
  exact readHit.trans st_off_true_1_0

theorem st_a_true_1_0 : k0_pay68 = aV 512 0 X (sc X true) 1 0 :=
  aInit X _ 1

theorem ld_v456 : kernelRun0_B.sl.v456 c i arg2 harg2 arg9 arg10 arg14 arg15 arg16 arg19 harg19 X (mkV 512 512 0 0) = aV 512 0 X (sc X true) 1 0 :=
  readHit.trans st_a_true_1_0

theorem ld_v459 : kernelRun0_B.sl.v459 c arg2 harg2 arg9 X = vtV 512 (512 * 0 + 0) X :=
  readVt X _ _ (vtFull (X := X)) 512 0 0 _

theorem st_a_true_1_1 : kernelRun0_B.sl.v465 c i arg2 harg2 arg9 arg10 arg12 arg14 arg15 arg16 arg19 harg19 X (mkV 512 512 0 0) = aV 512 0 X (sc X true) 1 1 :=
  aOffSt X _ 1 0 (by decide) _ _ _ _ _ ld_v444 ld_v445 ld_v451 ld_v456 ld_v459

theorem ld_v563 : kernelRun0_B.sl.v563 c i arg2 harg2 arg9 arg10 arg12 arg14 arg15 arg16 arg19 harg19 X (mkV 512 512 0 0) = aV 256 0 X (sc X true) 1 1 :=
  readHalf X _ _ _ 1 1 0 _ _ _ st_a_true_1_1

theorem st_aL_true_1_2 : kernelRun0_B.sl.v570 c i arg2 harg2 arg9 arg10 arg12 arg14 arg15 arg16 arg19 harg19 X (mkV 512 512 0 0) = aV 256 0 X (sc X true) 1 2 :=
  aLeftSt X _ 1 _ _ _ _ _ ld_v536 ld_v537 ld_v543 ld_v556 ld_v563

theorem st_bot_true_1 : kernelRun0_B.sl.v397 c arg2 harg2 arg19 harg19 X (mkV 512 512 0 0) = tB 256 256 (sc X true) (512 * 1 + 256) (512 * 1 + 256) :=
  stBotT X 1 _ _ _ (readRows X _ _ 512 512 0 _) (readRows X _ _ 256 768 1 _) (readMask' _ _ 256 256 256 256 _)

theorem ld_v550 : kernelRun0_B.sl.v550 c i arg2 harg2 arg10 arg19 harg19 X (mkV 512 512 0 0) = tB 256 256 (sc X true) (512 * 1 + 256) (512 * 1 + 256) := by
  refine Eq.trans (readOff (off' := ![256, 256]) _ _ (placed_k0_off2 i) _ (by decide)) ?_
  exact readHit.trans st_bot_true_1

theorem ld_v559 : kernelRun0_B.sl.v559 c arg2 harg2 arg9 X = vtV 256 (512 * 1 + 256) X :=
  readVt X _ _ (vtFull (X := X)) 256 1 256 _

theorem ld_v572 : kernelRun0_B.sl.v572 c i arg2 harg2 arg9 arg10 arg12 arg14 arg15 arg16 arg19 harg19 X (mkV 512 512 0 0) = aV 256 256 X (sc X true) 1 1 := by
  refine (readSkip (by decide)).trans ?_
  exact readHalf X _ _ _ 1 1 256 _ _ _ st_a_true_1_1

theorem st_aR_true_1_2 : kernelRun0_B.sl.v580 c i arg2 harg2 arg9 arg10 arg12 arg14 arg15 arg16 arg19 harg19 X (mkV 512 512 0 0) = aV 256 256 X (sc X true) 1 2 :=
  aRightSt X _ 1 _ _ _ _ _ _ _ ld_v536 ld_v537 ld_v543 ld_v556 ld_v550 ld_v559 ld_v572

theorem ld_v632 : kernelRun0_B.sl.v632 c i arg2 harg2 arg9 arg10 arg12 arg14 arg15 arg16 arg19 harg19 X (mkV 512 512 0 0) = aV 512 0 X (sc X true) 1 2 :=
  readHalves X _ _ _ 1 2 _ _ _ _ _ st_aL_true_1_2 st_aR_true_1_2

theorem st_m_false_1_0 : k0_pay69 = mV (sc X false) 1 0 :=
  mInit _ 1

theorem ld_v469 : kernelRun0_B.sl.v469 c arg2 harg2 arg14 arg17 arg19 harg19 X (mkV 512 512 0 0) = mV (sc X false) 1 0 :=
  readHit.trans st_m_false_1_0

theorem st_c_false_1_0 : kernelRun0_B.sl.v200 c arg2 harg2 X = cV (sc X false) 1 0 :=
  cOffF X 1 0 (by decide) _ _ (readRows X _ _ 512 512 0 _) (readRows X _ _ 512 0 1 _)

theorem ld_v470 : kernelRun0_B.sl.v470 c arg2 harg2 arg14 arg19 harg19 X (mkV 512 512 0 0) = cV (sc X false) 1 0 := by
  refine (readSkip (by decide)).trans ?_
  refine (readSkip (by decide)).trans ?_
  exact readHit.trans st_c_false_1_0

theorem st_m_false_1_1 : k0_pay90 (kernelRun0_B.sl.v472 c arg2 harg2 arg14 arg17 arg19 harg19 X (mkV 512 512 0 0)) = mV (sc X false) 1 1 :=
  mSt _ 1 0 _ _ ld_v469 ld_v470

theorem ld_v584 : kernelRun0_B.sl.v584 c arg2 harg2 arg14 arg17 arg19 harg19 X (mkV 512 512 0 0) = mV (sc X false) 1 1 :=
  readHit.trans st_m_false_1_1

theorem st_c_false_1_1 : kernelRun0_B.sl.v443 c arg2 harg2 arg19 harg19 X (mkV 512 512 0 0) = cV (sc X false) 1 1 :=
  cDiagF X 1 _ _ _ _ _ (readRows X _ _ 512 512 0 _) (readRows X _ _ 256 512 1 _) (readRows X _ _ 256 768 1 _) (readMask' _ _ 256 512 0 0 _) (readMask' _ _ 256 256 256 256 _)

theorem ld_v585 : kernelRun0_B.sl.v585 c arg2 harg2 arg14 arg19 harg19 X (mkV 512 512 0 0) = cV (sc X false) 1 1 := by
  refine (readSkip (by decide)).trans ?_
  refine (readSkip (by decide)).trans ?_
  exact readHit.trans st_c_false_1_1

theorem st_top_false_1 : kernelRun0_B.sl.v427 c arg2 harg2 arg19 harg19 X (mkV 512 512 0 0) = tB 256 512 (sc X false) (512 * 1) (512 * 1) :=
  stTopF X 1 _ _ _ (readRows X _ _ 512 512 0 _) (readRows X _ _ 256 512 1 _) (readMask' _ _ 256 512 0 0 _)

theorem ld_v591 : kernelRun0_B.sl.v591 c i arg2 harg2 arg11 arg19 harg19 X (mkV 512 512 0 0) = tB 256 512 (sc X false) (512 * 1) (512 * 1) := by
  refine Eq.trans (readOff (off' := ![0, 0]) _ _ (placed_k0_off1 i) _ (by decide)) ?_
  refine (readSkip (by decide)).trans ?_
  exact readHit.trans st_top_false_1

theorem st_off_false_1_0 : kernelRun0_B.sl.v195 c arg2 harg2 X = tB 512 512 (sc X false) (512 * 1) (512 * 0) :=
  stOffF X 1 0 (by decide) _ _ (readRows X _ _ 512 512 0 _) (readRows X _ _ 512 0 1 _)

theorem ld_v476 : kernelRun0_B.sl.v476 c i arg2 harg2 arg13 X = tB 512 512 (sc X false) (512 * 1) (512 * 0) := by
  refine Eq.trans (readOff (off' := ![0, 0]) _ _ (placed_k0_off3 i) _ (by decide)) ?_
  exact readHit.trans st_off_false_1_0

theorem st_a_false_1_0 : k0_pay70 = aV 512 0 X (sc X false) 1 0 :=
  aInit X _ 1

theorem ld_v481 : kernelRun0_B.sl.v481 c i arg2 harg2 arg9 arg11 arg14 arg17 arg18 arg19 harg19 X (mkV 512 512 0 0) = aV 512 0 X (sc X false) 1 0 :=
  readHit.trans st_a_false_1_0

theorem st_a_false_1_1 : k0_pay89 (kernelRun0_B.sl.v480 c i arg2 harg2 arg13 arg14 arg17 arg19 harg19 X (mkV 512 512 0 0)) (kernelRun0_B.sl.v483 c i arg2 harg2 arg9 arg11 arg14 arg17 arg18 arg19 harg19 X (mkV 512 512 0 0)) (kernelRun0_B.sl.v460 c arg2 harg2 arg9 X) = aV 512 0 X (sc X false) 1 1 :=
  aOffSt X _ 1 0 (by decide) _ _ _ _ _ ld_v469 ld_v470 ld_v476 ld_v481 ld_v459

theorem ld_v611 : kernelRun0_B.sl.v611 c i arg2 harg2 arg9 arg11 arg13 arg14 arg17 arg18 arg19 harg19 X (mkV 512 512 0 0) = aV 256 0 X (sc X false) 1 1 :=
  readHalf X _ _ _ 1 1 0 _ _ _ st_a_false_1_1

theorem st_aL_false_1_2 : kernelRun0_B.sl.v618 c i arg2 harg2 arg9 arg11 arg13 arg14 arg17 arg18 arg19 harg19 X (mkV 512 512 0 0) = aV 256 0 X (sc X false) 1 2 :=
  aLeftSt X _ 1 _ _ _ _ _ ld_v584 ld_v585 ld_v591 ld_v556 ld_v611

theorem st_bot_false_1 : kernelRun0_B.sl.v432 c arg2 harg2 arg19 harg19 X (mkV 512 512 0 0) = tB 256 256 (sc X false) (512 * 1 + 256) (512 * 1 + 256) :=
  stBotF X 1 _ _ _ (readRows X _ _ 512 512 0 _) (readRows X _ _ 256 768 1 _) (readMask' _ _ 256 256 256 256 _)

theorem ld_v598 : kernelRun0_B.sl.v598 c i arg2 harg2 arg11 arg19 harg19 X (mkV 512 512 0 0) = tB 256 256 (sc X false) (512 * 1 + 256) (512 * 1 + 256) := by
  refine Eq.trans (readOff (off' := ![256, 256]) _ _ (placed_k0_off2 i) _ (by decide)) ?_
  exact readHit.trans st_bot_false_1

theorem ld_v620 : kernelRun0_B.sl.v620 c i arg2 harg2 arg9 arg11 arg13 arg14 arg17 arg18 arg19 harg19 X (mkV 512 512 0 0) = aV 256 256 X (sc X false) 1 1 := by
  refine (readSkip (by decide)).trans ?_
  exact readHalf X _ _ _ 1 1 256 _ _ _ st_a_false_1_1

theorem st_aR_false_1_2 : kernelRun0_B.sl.v628 c i arg2 harg2 arg9 arg11 arg13 arg14 arg17 arg18 arg19 harg19 X (mkV 512 512 0 0) = aV 256 256 X (sc X false) 1 2 :=
  aRightSt X _ 1 _ _ _ _ _ _ _ ld_v584 ld_v585 ld_v591 ld_v556 ld_v598 ld_v559 ld_v620

theorem ld_v640 : kernelRun0_B.sl.v640 c i arg2 harg2 arg9 arg11 arg13 arg14 arg17 arg18 arg19 harg19 X (mkV 512 512 0 0) = aV 512 0 X (sc X false) 1 2 :=
  readHalves X _ _ _ 1 2 _ _ _ _ _ st_aL_false_1_2 st_aR_false_1_2

theorem st_m_true_2_0 : k0_pay121 = mV (sc X true) 2 0 :=
  mInit _ 2

theorem ld_v735 : kernelRun0_B.sl.v735 c arg2 harg2 arg14 arg15 arg19 harg19 X (mkV 512 512 0 0) = mV (sc X true) 2 0 :=
  readHit.trans st_m_true_2_0

theorem st_c_true_2_0 : kernelRun0_B.sl.v522 c arg2 harg2 X = cV (sc X true) 2 0 :=
  by
  refine Eq.trans ?_ (cOffT X 2 0 (by decide) _ _ (readRows X arg2 harg2 512 1024 0 (by decide)) (readRows X arg2 harg2 512 0 1 (by decide)))
  dsimp only [k0_pay18, k0_pay16, k0_pay3, k0_pay15, k0_pay14, k0_pay17, k0_pay98, k0_pay215, kernelRun0_B.sl.v522, kernelRun0_B.sl.r_6, k0_pay96, k0_pay94, k0_pay92, k0_pay91]
  rfl

theorem ld_v736 : kernelRun0_B.sl.v736 c arg2 harg2 arg14 arg19 harg19 X (mkV 512 512 0 0) = cV (sc X true) 2 0 := by
  refine (readSkip (by decide)).trans ?_
  refine (readSkip (by decide)).trans ?_
  refine (readSkip (by decide)).trans ?_
  exact readHit.trans st_c_true_2_0

theorem st_m_true_2_1 : kernelRun0_B.sl.v759 c arg2 harg2 arg14 arg15 arg19 harg19 X (mkV 512 512 0 0) = mV (sc X true) 2 1 :=
  mSt _ 2 0 _ _ ld_v735 ld_v736

theorem ld_v855 : kernelRun0_B.sl.v855 c arg2 harg2 arg14 arg15 arg19 harg19 X (mkV 512 512 0 0) = mV (sc X true) 2 1 :=
  readHit.trans st_m_true_2_1

theorem st_c_true_2_1 : kernelRun0_B.sl.v721 c arg2 harg2 X = cV (sc X true) 2 1 :=
  cOffT X 2 1 (by decide) _ _ (readRows X _ _ 512 1024 0 _) (readRows X _ _ 512 512 1 _)

theorem ld_v856 : kernelRun0_B.sl.v856 c arg2 harg2 arg14 arg19 harg19 X (mkV 512 512 0 0) = cV (sc X true) 2 1 := by
  refine (readSkip (by decide)).trans ?_
  refine (readSkip (by decide)).trans ?_
  refine (readSkip (by decide)).trans ?_
  exact readHit.trans st_c_true_2_1

theorem st_m_true_2_2 : kernelRun0_B.sl.v879 c arg2 harg2 arg14 arg15 arg19 harg19 X (mkV 512 512 0 0) = mV (sc X true) 2 2 :=
  mSt _ 2 1 _ _ ld_v855 ld_v856

theorem ld_v947 : kernelRun0_B.sl.v947 c arg2 harg2 arg14 arg15 arg19 harg19 X (mkV 512 512 0 0) = mV (sc X true) 2 2 :=
  readHit.trans st_m_true_2_2

theorem st_c_true_2_2 : kernelRun0_B.sl.v819 c arg2 harg2 arg19 harg19 X (mkV 512 512 0 0) = cV (sc X true) 2 2 :=
  cDiagT X 2 _ _ _ _ _ (readRows X _ _ 512 1024 0 _) (readRows X _ _ 256 1024 1 _) (readRows X _ _ 256 1280 1 _) (readMask' _ _ 256 512 0 0 _) (readMask' _ _ 256 256 256 256 _)

theorem ld_v948 : kernelRun0_B.sl.v948 c arg2 harg2 arg14 arg19 harg19 X (mkV 512 512 0 0) = cV (sc X true) 2 2 := by
  refine (readSkip (by decide)).trans ?_
  refine (readSkip (by decide)).trans ?_
  refine (readSkip (by decide)).trans ?_
  exact readHit.trans st_c_true_2_2

theorem st_top_true_2 : kernelRun0_B.sl.v803 c arg2 harg2 arg19 harg19 X (mkV 512 512 0 0) = tB 256 512 (sc X true) (512 * 2) (512 * 2) :=
  stTopT X 2 _ _ _ (readRows X _ _ 512 1024 0 _) (readRows X _ _ 256 1024 1 _) (readMask' _ _ 256 512 0 0 _)

theorem ld_v954 : kernelRun0_B.sl.v954 c i arg2 harg2 arg12 arg19 harg19 X (mkV 512 512 0 0) = tB 256 512 (sc X true) (512 * 2) (512 * 2) := by
  refine Eq.trans (readOff (off' := ![0, 0]) _ _ (placed_k0_off1 i) _ (by decide)) ?_
  refine (readSkip (by decide)).trans ?_
  exact readHit.trans st_top_true_2

theorem ld_v967 : kernelRun0_B.sl.v967 c arg2 harg2 arg9 X = vtV 256 (512 * 2 + 0) X :=
  readVt X _ _ (vtFull (X := X)) 256 2 0 _

theorem st_off_true_2_1 : kernelRun0_B.sl.v716 c arg2 harg2 X = tB 512 512 (sc X true) (512 * 2) (512 * 1) :=
  stOffT X 2 1 (by decide) _ _ (readRows X _ _ 512 1024 0 _) (readRows X _ _ 512 512 1 _)

theorem ld_v862 : kernelRun0_B.sl.v862 c i arg2 harg2 arg10 arg19 harg19 X (mkV 512 512 0 0) = tB 512 512 (sc X true) (512 * 2) (512 * 1) := by
  refine Eq.trans (readOff (off' := ![0, 0]) _ _ (placed_k0_off3 i) _ (by decide)) ?_
  exact readHit.trans st_off_true_2_1

theorem st_off_true_2_0 : k0_pay95 k0_pay3 (View.readAt (Elt Ideal) arg2.view (Rect.unit (s := S1x1x4x2048x128) ![0, 0, 0, 1024, 0] S1x1x1x512x128.size inb_S1x1x4x2048x128_S1x1x1x512x128_0_0_0_1024_0).toLoadRect (harg2.unread X)) (View.readAt (Elt Ideal) arg2.view (Rect.unit (s := S1x1x4x2048x128) ![0, 0, 1, 0, 0] S1x1x1x512x128.size inb_S1x1x4x2048x128_S1x1x1x512x128_0_0_1_0_0).toLoadRect (harg2.unread X)) = tB 512 512 (sc X true) (512 * 2) (512 * 0) :=
  by
  refine Eq.trans ?_ (stOffT X 2 0 (by decide) _ _ (readRows X arg2 harg2 512 1024 0 (by decide)) (readRows X arg2 harg2 512 0 1 (by decide)))
  dsimp only [k0_pay18, k0_pay16, k0_pay3, k0_pay15, k0_pay14, k0_pay17, k0_pay98, k0_pay215, k0_pay95, k0_pay94, k0_pay92, k0_pay91]
  rfl

theorem ld_v742 : kernelRun0_B.sl.v742 c i arg2 harg2 arg12 X = tB 512 512 (sc X true) (512 * 2) (512 * 0) := by
  refine Eq.trans (readOff (off' := ![0, 0]) _ _ (placed_k0_off3 i) _ (by decide)) ?_
  exact readHit.trans st_off_true_2_0

theorem st_a_true_2_0 : k0_pay122 = aV 512 0 X (sc X true) 2 0 :=
  aInit X _ 2

theorem ld_v747 : kernelRun0_B.sl.v747 c i arg2 harg2 arg9 arg10 arg12 arg14 arg15 arg16 arg19 harg19 X (mkV 512 512 0 0) = aV 512 0 X (sc X true) 2 0 :=
  readHit.trans st_a_true_2_0

theorem st_a_true_2_1 : kernelRun0_B.sl.v756 c i arg2 harg2 arg9 arg10 arg12 arg14 arg15 arg16 arg19 harg19 X (mkV 512 512 0 0) = aV 512 0 X (sc X true) 2 1 :=
  aOffSt X _ 2 0 (by decide) _ _ _ _ _ ld_v735 ld_v736 ld_v742 ld_v747 ld_v459

theorem ld_v867 : kernelRun0_B.sl.v867 c i arg2 harg2 arg9 arg10 arg12 arg14 arg15 arg16 arg19 harg19 X (mkV 512 512 0 0) = aV 512 0 X (sc X true) 2 1 :=
  readHit.trans st_a_true_2_1

theorem ld_v870 : kernelRun0_B.sl.v870 c arg2 harg2 arg9 X = vtV 512 (512 * 1 + 0) X :=
  readVt X _ _ (vtFull (X := X)) 512 1 0 _

theorem st_a_true_2_2 : kernelRun0_B.sl.v876 c i arg2 harg2 arg9 arg10 arg12 arg14 arg15 arg16 arg19 harg19 X (mkV 512 512 0 0) = aV 512 0 X (sc X true) 2 2 :=
  aOffSt X _ 2 1 (by decide) _ _ _ _ _ ld_v855 ld_v856 ld_v862 ld_v867 ld_v870

theorem ld_v974 : kernelRun0_B.sl.v974 c i arg2 harg2 arg9 arg10 arg12 arg14 arg15 arg16 arg19 harg19 X (mkV 512 512 0 0) = aV 256 0 X (sc X true) 2 2 :=
  readHalf X _ _ _ 2 2 0 _ _ _ st_a_true_2_2

theorem st_aL_true_2_3 : kernelRun0_B.sl.v981 c i arg2 harg2 arg9 arg10 arg12 arg14 arg15 arg16 arg19 harg19 X (mkV 512 512 0 0) = aV 256 0 X (sc X true) 2 3 :=
  aLeftSt X _ 2 _ _ _ _ _ ld_v947 ld_v948 ld_v954 ld_v967 ld_v974

theorem st_bot_true_2 : kernelRun0_B.sl.v808 c arg2 harg2 arg19 harg19 X (mkV 512 512 0 0) = tB 256 256 (sc X true) (512 * 2 + 256) (512 * 2 + 256) :=
  stBotT X 2 _ _ _ (readRows X _ _ 512 1024 0 _) (readRows X _ _ 256 1280 1 _) (readMask' _ _ 256 256 256 256 _)

theorem ld_v961 : kernelRun0_B.sl.v961 c i arg2 harg2 arg12 arg19 harg19 X (mkV 512 512 0 0) = tB 256 256 (sc X true) (512 * 2 + 256) (512 * 2 + 256) := by
  refine Eq.trans (readOff (off' := ![256, 256]) _ _ (placed_k0_off2 i) _ (by decide)) ?_
  exact readHit.trans st_bot_true_2

theorem ld_v970 : kernelRun0_B.sl.v970 c arg2 harg2 arg9 X = vtV 256 (512 * 2 + 256) X :=
  readVt X _ _ (vtFull (X := X)) 256 2 256 _

theorem ld_v983 : kernelRun0_B.sl.v983 c i arg2 harg2 arg9 arg10 arg12 arg14 arg15 arg16 arg19 harg19 X (mkV 512 512 0 0) = aV 256 256 X (sc X true) 2 2 := by
  refine (readSkip (by decide)).trans ?_
  exact readHalf X _ _ _ 2 2 256 _ _ _ st_a_true_2_2

theorem st_aR_true_2_3 : kernelRun0_B.sl.v991 c i arg2 harg2 arg9 arg10 arg12 arg14 arg15 arg16 arg19 harg19 X (mkV 512 512 0 0) = aV 256 256 X (sc X true) 2 3 :=
  aRightSt X _ 2 _ _ _ _ _ _ _ ld_v947 ld_v948 ld_v954 ld_v967 ld_v961 ld_v970 ld_v983

theorem ld_v1043 : kernelRun0_B.sl.v1043 c i arg2 harg2 arg9 arg10 arg12 arg14 arg15 arg16 arg19 harg19 X (mkV 512 512 0 0) = aV 512 0 X (sc X true) 2 3 :=
  readHalves X _ _ _ 2 3 _ _ _ _ _ st_aL_true_2_3 st_aR_true_2_3

theorem st_m_false_2_0 : kernelRun0_B.sl.v704 (F := Ideal) = mV (sc X false) 2 0 :=
  mInit _ 2

theorem ld_v760 : kernelRun0_B.sl.v760 c arg2 harg2 arg14 arg17 arg19 harg19 X (mkV 512 512 0 0) = mV (sc X false) 2 0 :=
  readHit.trans st_m_false_2_0

theorem st_c_false_2_0 : kernelRun0_B.sl.v535 c arg2 harg2 X = cV (sc X false) 2 0 :=
  cOffF X 2 0 (by decide) _ _ (readRows X _ _ 512 1024 0 _) (readRows X _ _ 512 0 1 _)

theorem ld_v761 : kernelRun0_B.sl.v761 c arg2 harg2 arg14 arg19 harg19 X (mkV 512 512 0 0) = cV (sc X false) 2 0 := by
  refine (readSkip (by decide)).trans ?_
  refine (readSkip (by decide)).trans ?_
  exact readHit.trans st_c_false_2_0

theorem st_m_false_2_1 : kernelRun0_B.sl.v784 c arg2 harg2 arg14 arg17 arg19 harg19 X (mkV 512 512 0 0) = mV (sc X false) 2 1 :=
  mSt _ 2 0 _ _ ld_v760 ld_v761

theorem ld_v880 : kernelRun0_B.sl.v880 c arg2 harg2 arg14 arg17 arg19 harg19 X (mkV 512 512 0 0) = mV (sc X false) 2 1 :=
  readHit.trans st_m_false_2_1

theorem st_c_false_2_1 : kernelRun0_B.sl.v734 c arg2 harg2 X = cV (sc X false) 2 1 :=
  cOffF X 2 1 (by decide) _ _ (readRows X _ _ 512 1024 0 _) (readRows X _ _ 512 512 1 _)

theorem ld_v881 : kernelRun0_B.sl.v881 c arg2 harg2 arg14 arg19 harg19 X (mkV 512 512 0 0) = cV (sc X false) 2 1 := by
  refine (readSkip (by decide)).trans ?_
  refine (readSkip (by decide)).trans ?_
  exact readHit.trans st_c_false_2_1

theorem st_m_false_2_2 : k0_pay160 (kernelRun0_B.sl.v883 c arg2 harg2 arg14 arg17 arg19 harg19 X (mkV 512 512 0 0)) = mV (sc X false) 2 2 :=
  mSt _ 2 1 _ _ ld_v880 ld_v881

theorem ld_v995 : kernelRun0_B.sl.v995 c arg2 harg2 arg14 arg17 arg19 harg19 X (mkV 512 512 0 0) = mV (sc X false) 2 2 :=
  readHit.trans st_m_false_2_2

theorem st_c_false_2_2 : kernelRun0_B.sl.v854 c arg2 harg2 arg19 harg19 X (mkV 512 512 0 0) = cV (sc X false) 2 2 :=
  cDiagF X 2 _ _ _ _ _ (readRows X _ _ 512 1024 0 _) (readRows X _ _ 256 1024 1 _) (readRows X _ _ 256 1280 1 _) (readMask' _ _ 256 512 0 0 _) (readMask' _ _ 256 256 256 256 _)

theorem ld_v996 : kernelRun0_B.sl.v996 c arg2 harg2 arg14 arg19 harg19 X (mkV 512 512 0 0) = cV (sc X false) 2 2 := by
  refine (readSkip (by decide)).trans ?_
  refine (readSkip (by decide)).trans ?_
  exact readHit.trans st_c_false_2_2

theorem st_top_false_2 : kernelRun0_B.sl.v838 c arg2 harg2 arg19 harg19 X (mkV 512 512 0 0) = tB 256 512 (sc X false) (512 * 2) (512 * 2) :=
  stTopF X 2 _ _ _ (readRows X _ _ 512 1024 0 _) (readRows X _ _ 256 1024 1 _) (readMask' _ _ 256 512 0 0 _)

theorem ld_v1002 : kernelRun0_B.sl.v1002 c i arg2 harg2 arg13 arg19 harg19 X (mkV 512 512 0 0) = tB 256 512 (sc X false) (512 * 2) (512 * 2) := by
  refine Eq.trans (readOff (off' := ![0, 0]) _ _ (placed_k0_off1 i) _ (by decide)) ?_
  refine (readSkip (by decide)).trans ?_
  exact readHit.trans st_top_false_2

theorem st_off_false_2_1 : kernelRun0_B.sl.v729 c arg2 harg2 X = tB 512 512 (sc X false) (512 * 2) (512 * 1) :=
  stOffF X 2 1 (by decide) _ _ (readRows X _ _ 512 1024 0 _) (readRows X _ _ 512 512 1 _)

theorem ld_v887 : kernelRun0_B.sl.v887 c i arg2 harg2 arg11 arg19 harg19 X (mkV 512 512 0 0) = tB 512 512 (sc X false) (512 * 2) (512 * 1) := by
  refine Eq.trans (readOff (off' := ![0, 0]) _ _ (placed_k0_off3 i) _ (by decide)) ?_
  exact readHit.trans st_off_false_2_1

theorem st_off_false_2_0 : kernelRun0_B.sl.v530 c arg2 harg2 X = tB 512 512 (sc X false) (512 * 2) (512 * 0) :=
  stOffF X 2 0 (by decide) _ _ (readRows X _ _ 512 1024 0 _) (readRows X _ _ 512 0 1 _)

theorem ld_v767 : kernelRun0_B.sl.v767 c i arg2 harg2 arg13 X = tB 512 512 (sc X false) (512 * 2) (512 * 0) := by
  refine Eq.trans (readOff (off' := ![0, 0]) _ _ (placed_k0_off3 i) _ (by decide)) ?_
  exact readHit.trans st_off_false_2_0

theorem st_a_false_2_0 : kernelRun0_B.sl.v708 (F := Ideal) = aV 512 0 X (sc X false) 2 0 :=
  aInit X _ 2

theorem ld_v772 : kernelRun0_B.sl.v772 c i arg2 harg2 arg9 arg11 arg13 arg14 arg17 arg18 arg19 harg19 X (mkV 512 512 0 0) = aV 512 0 X (sc X false) 2 0 :=
  readHit.trans st_a_false_2_0

theorem st_a_false_2_1 : kernelRun0_B.sl.v781 c i arg2 harg2 arg9 arg11 arg13 arg14 arg17 arg18 arg19 harg19 X (mkV 512 512 0 0) = aV 512 0 X (sc X false) 2 1 :=
  aOffSt X _ 2 0 (by decide) _ _ _ _ _ ld_v760 ld_v761 ld_v767 ld_v772 ld_v459

theorem ld_v892 : kernelRun0_B.sl.v892 c i arg2 harg2 arg9 arg11 arg13 arg14 arg17 arg18 arg19 harg19 X (mkV 512 512 0 0) = aV 512 0 X (sc X false) 2 1 :=
  readHit.trans st_a_false_2_1

theorem st_a_false_2_2 : kernelRun0_B.sl.v901 c i arg2 harg2 arg9 arg11 arg13 arg14 arg17 arg18 arg19 harg19 X (mkV 512 512 0 0) = aV 512 0 X (sc X false) 2 2 :=
  aOffSt X _ 2 1 (by decide) _ _ _ _ _ ld_v880 ld_v881 ld_v887 ld_v892 ld_v870

theorem ld_v1022 : kernelRun0_B.sl.v1022 c i arg2 harg2 arg9 arg11 arg13 arg14 arg17 arg18 arg19 harg19 X (mkV 512 512 0 0) = aV 256 0 X (sc X false) 2 2 :=
  readHalf X _ _ _ 2 2 0 _ _ _ st_a_false_2_2

theorem st_aL_false_2_3 : kernelRun0_B.sl.v1029 c i arg2 harg2 arg9 arg11 arg13 arg14 arg17 arg18 arg19 harg19 X (mkV 512 512 0 0) = aV 256 0 X (sc X false) 2 3 :=
  aLeftSt X _ 2 _ _ _ _ _ ld_v995 ld_v996 ld_v1002 ld_v967 ld_v1022

theorem st_bot_false_2 : kernelRun0_B.sl.v843 c arg2 harg2 arg19 harg19 X (mkV 512 512 0 0) = tB 256 256 (sc X false) (512 * 2 + 256) (512 * 2 + 256) :=
  stBotF X 2 _ _ _ (readRows X _ _ 512 1024 0 _) (readRows X _ _ 256 1280 1 _) (readMask' _ _ 256 256 256 256 _)

theorem ld_v1009 : kernelRun0_B.sl.v1009 c i arg2 harg2 arg13 arg19 harg19 X (mkV 512 512 0 0) = tB 256 256 (sc X false) (512 * 2 + 256) (512 * 2 + 256) := by
  refine Eq.trans (readOff (off' := ![256, 256]) _ _ (placed_k0_off2 i) _ (by decide)) ?_
  exact readHit.trans st_bot_false_2

theorem ld_v1031 : kernelRun0_B.sl.v1031 c i arg2 harg2 arg9 arg11 arg13 arg14 arg17 arg18 arg19 harg19 X (mkV 512 512 0 0) = aV 256 256 X (sc X false) 2 2 := by
  refine (readSkip (by decide)).trans ?_
  exact readHalf X _ _ _ 2 2 256 _ _ _ st_a_false_2_2

theorem st_aR_false_2_3 : kernelRun0_B.sl.v1039 c i arg2 harg2 arg9 arg11 arg13 arg14 arg17 arg18 arg19 harg19 X (mkV 512 512 0 0) = aV 256 256 X (sc X false) 2 3 :=
  aRightSt X _ 2 _ _ _ _ _ _ _ ld_v995 ld_v996 ld_v1002 ld_v967 ld_v1009 ld_v970 ld_v1031

theorem ld_v1051 : kernelRun0_B.sl.v1051 c i arg2 harg2 arg9 arg11 arg13 arg14 arg17 arg18 arg19 harg19 X (mkV 512 512 0 0) = aV 512 0 X (sc X false) 2 3 :=
  readHalves X _ _ _ 2 3 _ _ _ _ _ st_aL_false_2_3 st_aR_false_2_3

theorem st_m_true_3_0 : k0_pay191 = mV (sc X true) 3 0 :=
  mInit _ 3

theorem ld_v1146 : kernelRun0_B.sl.v1146 c arg2 harg2 arg14 arg15 arg19 harg19 X (mkV 512 512 0 0) = mV (sc X true) 3 0 :=
  readHit.trans st_m_true_3_0

theorem st_c_true_3_0 : k0_pay166 k0_pay3 (View.readAt (Elt Ideal) arg2.view (Rect.unit (s := S1x1x4x2048x128) ![0, 0, 0, 1536, 0] S1x1x1x512x128.size inb_S1x1x4x2048x128_S1x1x1x512x128_0_0_0_1536_0).toLoadRect (harg2.unread X)) (View.readAt (Elt Ideal) arg2.view (Rect.unit (s := S1x1x4x2048x128) ![0, 0, 1, 0, 0] S1x1x1x512x128.size inb_S1x1x4x2048x128_S1x1x1x512x128_0_0_1_0_0).toLoadRect (harg2.unread X)) = cV (sc X true) 3 0 :=
  cOffT X 3 0 (by decide) _ _ (readRows X _ _ 512 1536 0 _) (readRows X _ _ 512 0 1 _)

theorem ld_v1147 : kernelRun0_B.sl.v1147 c arg2 harg2 arg14 arg19 harg19 X (mkV 512 512 0 0) = cV (sc X true) 3 0 := by
  refine (readSkip (by decide)).trans ?_
  refine (readSkip (by decide)).trans ?_
  refine (readSkip (by decide)).trans ?_
  exact readHit.trans st_c_true_3_0

theorem st_m_true_3_1 : kernelRun0_B.sl.v1170 c arg2 harg2 arg14 arg15 arg19 harg19 X (mkV 512 512 0 0) = mV (sc X true) 3 1 :=
  mSt _ 3 0 _ _ ld_v1146 ld_v1147

theorem ld_v1222 : kernelRun0_B.sl.v1222 c arg2 harg2 arg14 arg15 arg19 harg19 X (mkV 512 512 0 0) = mV (sc X true) 3 1 :=
  readHit.trans st_m_true_3_1

theorem st_c_true_3_1 : kernelRun0_B.sl.v1132 c arg2 harg2 X = cV (sc X true) 3 1 :=
  cOffT X 3 1 (by decide) _ _ (readRows X _ _ 512 1536 0 _) (readRows X _ _ 512 512 1 _)

theorem ld_v1223 : kernelRun0_B.sl.v1223 c arg2 harg2 arg14 arg19 harg19 X (mkV 512 512 0 0) = cV (sc X true) 3 1 := by
  refine (readSkip (by decide)).trans ?_
  refine (readSkip (by decide)).trans ?_
  refine (readSkip (by decide)).trans ?_
  exact readHit.trans st_c_true_3_1

theorem st_m_true_3_2 : kernelRun0_B.sl.v1246 c arg2 harg2 arg14 arg15 arg19 harg19 X (mkV 512 512 0 0) = mV (sc X true) 3 2 :=
  mSt _ 3 1 _ _ ld_v1222 ld_v1223

theorem ld_v1342 : kernelRun0_B.sl.v1342 c arg2 harg2 arg14 arg15 arg19 harg19 X (mkV 512 512 0 0) = mV (sc X true) 3 2 :=
  readHit.trans st_m_true_3_2

theorem st_c_true_3_2 : kernelRun0_B.sl.v1208 c arg2 harg2 X = cV (sc X true) 3 2 :=
  cOffT X 3 2 (by decide) _ _ (readRows X _ _ 512 1536 0 _) (readRows X _ _ 512 1024 1 _)

theorem ld_v1343 : kernelRun0_B.sl.v1343 c arg2 harg2 arg14 arg19 harg19 X (mkV 512 512 0 0) = cV (sc X true) 3 2 := by
  refine (readSkip (by decide)).trans ?_
  refine (readSkip (by decide)).trans ?_
  refine (readSkip (by decide)).trans ?_
  exact readHit.trans st_c_true_3_2

theorem st_m_true_3_3 : kernelRun0_B.sl.v1366 c arg2 harg2 arg14 arg15 arg19 harg19 X (mkV 512 512 0 0) = mV (sc X true) 3 3 :=
  mSt _ 3 2 _ _ ld_v1342 ld_v1343

theorem ld_v1392 : kernelRun0_B.sl.v1392 c arg2 harg2 arg14 arg15 arg19 harg19 X (mkV 512 512 0 0) = mV (sc X true) 3 3 :=
  readHit.trans st_m_true_3_3

theorem st_c_true_3_3 : kernelRun0_B.sl.v1306 c arg2 harg2 arg19 harg19 X (mkV 512 512 0 0) = cV (sc X true) 3 3 :=
  cDiagT X 3 _ _ _ _ _ (readRows X _ _ 512 1536 0 _) (readRows X _ _ 256 1536 1 _) (readRows X _ _ 256 1792 1 _) (readMask' _ _ 256 512 0 0 _) (readMask' _ _ 256 256 256 256 _)

theorem ld_v1393 : kernelRun0_B.sl.v1393 c arg2 harg2 arg14 arg19 harg19 X (mkV 512 512 0 0) = cV (sc X true) 3 3 := by
  refine (readSkip (by decide)).trans ?_
  exact readHit.trans st_c_true_3_3

theorem st_top_true_3 : kernelRun0_B.sl.v1290 c arg2 harg2 arg19 harg19 X (mkV 512 512 0 0) = tB 256 512 (sc X true) (512 * 3) (512 * 3) :=
  stTopT X 3 _ _ _ (readRows X _ _ 512 1536 0 _) (readRows X _ _ 256 1536 1 _) (readMask' _ _ 256 512 0 0 _)

theorem ld_v1399 : kernelRun0_B.sl.v1399 c i arg2 harg2 arg12 arg19 harg19 X (mkV 512 512 0 0) = tB 256 512 (sc X true) (512 * 3) (512 * 3) := by
  refine Eq.trans (readOff (off' := ![0, 0]) _ _ (placed_k0_off1 i) _ (by decide)) ?_
  refine (readSkip (by decide)).trans ?_
  exact readHit.trans st_top_true_3

theorem ld_v1412 : kernelRun0_B.sl.v1412 c arg2 harg2 arg9 X = vtV 256 (512 * 3 + 0) X :=
  readVt X _ _ (vtFull (X := X)) 256 3 0 _

theorem st_off_true_3_2 : kernelRun0_B.sl.v1203 c arg2 harg2 X = tB 512 512 (sc X true) (512 * 3) (512 * 2) :=
  stOffT X 3 2 (by decide) _ _ (readRows X _ _ 512 1536 0 _) (readRows X _ _ 512 1024 1 _)

theorem ld_v1349 : kernelRun0_B.sl.v1349 c i arg2 harg2 arg10 arg19 harg19 X (mkV 512 512 0 0) = tB 512 512 (sc X true) (512 * 3) (512 * 2) := by
  refine Eq.trans (readOff (off' := ![0, 0]) _ _ (placed_k0_off3 i) _ (by decide)) ?_
  exact readHit.trans st_off_true_3_2

theorem st_off_true_3_1 : kernelRun0_B.sl.v1127 c arg2 harg2 X = tB 512 512 (sc X true) (512 * 3) (512 * 1) :=
  stOffT X 3 1 (by decide) _ _ (readRows X _ _ 512 1536 0 _) (readRows X _ _ 512 512 1 _)

theorem ld_v1229 : kernelRun0_B.sl.v1229 c i arg2 harg2 arg12 arg19 harg19 X (mkV 512 512 0 0) = tB 512 512 (sc X true) (512 * 3) (512 * 1) := by
  refine Eq.trans (readOff (off' := ![0, 0]) _ _ (placed_k0_off3 i) _ (by decide)) ?_
  exact readHit.trans st_off_true_3_1

theorem st_off_true_3_0 : k0_pay165 k0_pay3 (View.readAt (Elt Ideal) arg2.view (Rect.unit (s := S1x1x4x2048x128) ![0, 0, 0, 1536, 0] S1x1x1x512x128.size inb_S1x1x4x2048x128_S1x1x1x512x128_0_0_0_1536_0).toLoadRect (harg2.unread X)) (View.readAt (Elt Ideal) arg2.view (Rect.unit (s := S1x1x4x2048x128) ![0, 0, 1, 0, 0] S1x1x1x512x128.size inb_S1x1x4x2048x128_S1x1x1x512x128_0_0_1_0_0).toLoadRect (harg2.unread X)) = tB 512 512 (sc X true) (512 * 3) (512 * 0) :=
  stOffT X 3 0 (by decide) _ _ (readRows X _ _ 512 1536 0 _) (readRows X _ _ 512 0 1 _)

theorem ld_v1153 : kernelRun0_B.sl.v1153 c i arg2 harg2 arg10 arg19 harg19 X (mkV 512 512 0 0) = tB 512 512 (sc X true) (512 * 3) (512 * 0) := by
  refine Eq.trans (readOff (off' := ![0, 0]) _ _ (placed_k0_off3 i) _ (by decide)) ?_
  exact readHit.trans st_off_true_3_0

theorem st_a_true_3_0 : k0_pay192 = aV 512 0 X (sc X true) 3 0 :=
  aInit X _ 3

theorem ld_v1158 : kernelRun0_B.sl.v1158 c i arg2 harg2 arg9 arg10 arg12 arg14 arg15 arg16 arg19 harg19 X (mkV 512 512 0 0) = aV 512 0 X (sc X true) 3 0 :=
  readHit.trans st_a_true_3_0

theorem st_a_true_3_1 : kernelRun0_B.sl.v1167 c i arg2 harg2 arg9 arg10 arg12 arg14 arg15 arg16 arg19 harg19 X (mkV 512 512 0 0) = aV 512 0 X (sc X true) 3 1 :=
  aOffSt X _ 3 0 (by decide) _ _ _ _ _ ld_v1146 ld_v1147 ld_v1153 ld_v1158 ld_v459

theorem ld_v1234 : kernelRun0_B.sl.v1234 c i arg2 harg2 arg9 arg10 arg12 arg14 arg15 arg16 arg19 harg19 X (mkV 512 512 0 0) = aV 512 0 X (sc X true) 3 1 :=
  readHit.trans st_a_true_3_1

theorem st_a_true_3_2 : kernelRun0_B.sl.v1243 c i arg2 harg2 arg9 arg10 arg12 arg14 arg15 arg16 arg19 harg19 X (mkV 512 512 0 0) = aV 512 0 X (sc X true) 3 2 :=
  aOffSt X _ 3 1 (by decide) _ _ _ _ _ ld_v1222 ld_v1223 ld_v1229 ld_v1234 ld_v870

theorem ld_v1354 : kernelRun0_B.sl.v1354 c i arg2 harg2 arg9 arg10 arg12 arg14 arg15 arg16 arg19 harg19 X (mkV 512 512 0 0) = aV 512 0 X (sc X true) 3 2 :=
  readHit.trans st_a_true_3_2

theorem ld_v1357 : kernelRun0_B.sl.v1357 c arg2 harg2 arg9 X = vtV 512 (512 * 2 + 0) X :=
  readVt X _ _ (vtFull (X := X)) 512 2 0 _

theorem st_a_true_3_3 : kernelRun0_B.sl.v1363 c i arg2 harg2 arg9 arg10 arg12 arg14 arg15 arg16 arg19 harg19 X (mkV 512 512 0 0) = aV 512 0 X (sc X true) 3 3 :=
  aOffSt X _ 3 2 (by decide) _ _ _ _ _ ld_v1342 ld_v1343 ld_v1349 ld_v1354 ld_v1357

theorem ld_v1419 : kernelRun0_B.sl.v1419 c i arg2 harg2 arg9 arg10 arg12 arg14 arg15 arg16 arg19 harg19 X (mkV 512 512 0 0) = aV 256 0 X (sc X true) 3 3 :=
  readHalf X _ _ _ 3 3 0 _ _ _ st_a_true_3_3

theorem st_aL_true_3_4 : kernelRun0_B.sl.v1426 c i arg2 harg2 arg9 arg10 arg12 arg14 arg15 arg16 arg19 harg19 X (mkV 512 512 0 0) = aV 256 0 X (sc X true) 3 4 :=
  aLeftSt X _ 3 _ _ _ _ _ ld_v1392 ld_v1393 ld_v1399 ld_v1412 ld_v1419

theorem st_bot_true_3 : kernelRun0_B.sl.v1295 c arg2 harg2 arg19 harg19 X (mkV 512 512 0 0) = tB 256 256 (sc X true) (512 * 3 + 256) (512 * 3 + 256) :=
  stBotT X 3 _ _ _ (readRows X _ _ 512 1536 0 _) (readRows X _ _ 256 1792 1 _) (readMask' _ _ 256 256 256 256 _)

theorem ld_v1406 : kernelRun0_B.sl.v1406 c i arg2 harg2 arg12 arg19 harg19 X (mkV 512 512 0 0) = tB 256 256 (sc X true) (512 * 3 + 256) (512 * 3 + 256) := by
  refine Eq.trans (readOff (off' := ![256, 256]) _ _ (placed_k0_off2 i) _ (by decide)) ?_
  exact readHit.trans st_bot_true_3

theorem ld_v1415 : kernelRun0_B.sl.v1415 c arg2 harg2 arg9 X = vtV 256 (512 * 3 + 256) X :=
  readVt X _ _ (vtFull (X := X)) 256 3 256 _

theorem ld_v1428 : kernelRun0_B.sl.v1428 c i arg2 harg2 arg9 arg10 arg12 arg14 arg15 arg16 arg19 harg19 X (mkV 512 512 0 0) = aV 256 256 X (sc X true) 3 3 := by
  refine (readSkip (by decide)).trans ?_
  exact readHalf X _ _ _ 3 3 256 _ _ _ st_a_true_3_3

theorem st_aR_true_3_4 : kernelRun0_B.sl.v1436 c i arg2 harg2 arg9 arg10 arg12 arg14 arg15 arg16 arg19 harg19 X (mkV 512 512 0 0) = aV 256 256 X (sc X true) 3 4 :=
  aRightSt X _ 3 _ _ _ _ _ _ _ ld_v1392 ld_v1393 ld_v1399 ld_v1412 ld_v1406 ld_v1415 ld_v1428

theorem ld_v1488 : kernelRun0_B.sl.v1488 c i arg2 harg2 arg9 arg10 arg12 arg14 arg15 arg16 arg19 harg19 X (mkV 512 512 0 0) = aV 512 0 X (sc X true) 3 4 :=
  readHalves X _ _ _ 3 4 _ _ _ _ _ st_aL_true_3_4 st_aR_true_3_4

theorem st_m_false_3_0 : k0_pay193 = mV (sc X false) 3 0 :=
  mInit _ 3

theorem ld_v1171 : kernelRun0_B.sl.v1171 c arg2 harg2 arg14 arg17 arg19 harg19 X (mkV 512 512 0 0) = mV (sc X false) 3 0 :=
  readHit.trans st_m_false_3_0

theorem st_c_false_3_0 : kernelRun0_B.sl.v946 c arg2 harg2 X = cV (sc X false) 3 0 :=
  by
  refine Eq.trans ?_ (cOffF X 3 0 (by decide) _ _ (readRows X arg2 harg2 512 1536 0 (by decide)) (readRows X arg2 harg2 512 0 1 (by decide)))
  dsimp only [k0_pay18, k0_pay16, k0_pay3, k0_pay15, k0_pay14, k0_pay17, k0_pay98, k0_pay215, kernelRun0_B.sl.v946, kernelRun0_B.sl.v943, kernelRun0_B.sl.v942, kernelRun0_B.sl.v937, kernelRun0_B.sl.cst_106, kernelRun0_B.sl.r_8, k0_pay163, k0_pay161, kernelRun0_B.sl.r_9, k0_pay167]
  rfl

theorem ld_v1172 : kernelRun0_B.sl.v1172 c arg2 harg2 arg14 arg19 harg19 X (mkV 512 512 0 0) = cV (sc X false) 3 0 := by
  refine (readSkip (by decide)).trans ?_
  refine (readSkip (by decide)).trans ?_
  exact readHit.trans st_c_false_3_0

theorem st_m_false_3_1 : kernelRun0_B.sl.v1195 c arg2 harg2 arg14 arg17 arg19 harg19 X (mkV 512 512 0 0) = mV (sc X false) 3 1 :=
  mSt _ 3 0 _ _ ld_v1171 ld_v1172

theorem ld_v1247 : kernelRun0_B.sl.v1247 c arg2 harg2 arg14 arg17 arg19 harg19 X (mkV 512 512 0 0) = mV (sc X false) 3 1 :=
  readHit.trans st_m_false_3_1

theorem st_c_false_3_1 : kernelRun0_B.sl.v1145 c arg2 harg2 X = cV (sc X false) 3 1 :=
  cOffF X 3 1 (by decide) _ _ (readRows X _ _ 512 1536 0 _) (readRows X _ _ 512 512 1 _)

theorem ld_v1248 : kernelRun0_B.sl.v1248 c arg2 harg2 arg14 arg19 harg19 X (mkV 512 512 0 0) = cV (sc X false) 3 1 := by
  refine (readSkip (by decide)).trans ?_
  refine (readSkip (by decide)).trans ?_
  exact readHit.trans st_c_false_3_1

theorem st_m_false_3_2 : kernelRun0_B.sl.v1271 c arg2 harg2 arg14 arg17 arg19 harg19 X (mkV 512 512 0 0) = mV (sc X false) 3 2 :=
  mSt _ 3 1 _ _ ld_v1247 ld_v1248

theorem ld_v1367 : kernelRun0_B.sl.v1367 c arg2 harg2 arg14 arg17 arg19 harg19 X (mkV 512 512 0 0) = mV (sc X false) 3 2 :=
  readHit.trans st_m_false_3_2

theorem st_c_false_3_2 : kernelRun0_B.sl.v1221 c arg2 harg2 X = cV (sc X false) 3 2 :=
  cOffF X 3 2 (by decide) _ _ (readRows X _ _ 512 1536 0 _) (readRows X _ _ 512 1024 1 _)

theorem ld_v1368 : kernelRun0_B.sl.v1368 c arg2 harg2 arg14 arg19 harg19 X (mkV 512 512 0 0) = cV (sc X false) 3 2 := by
  refine (readSkip (by decide)).trans ?_
  refine (readSkip (by decide)).trans ?_
  exact readHit.trans st_c_false_3_2

theorem st_m_false_3_3 : kernelRun0_B.sl.v1391 c arg2 harg2 arg14 arg17 arg19 harg19 X (mkV 512 512 0 0) = mV (sc X false) 3 3 :=
  mSt _ 3 2 _ _ ld_v1367 ld_v1368

theorem ld_v1440 : kernelRun0_B.sl.v1440 c arg2 harg2 arg14 arg17 arg19 harg19 X (mkV 512 512 0 0) = mV (sc X false) 3 3 :=
  readHit.trans st_m_false_3_3

theorem st_c_false_3_3 : kernelRun0_B.sl.v1341 c arg2 harg2 arg19 harg19 X (mkV 512 512 0 0) = cV (sc X false) 3 3 :=
  cDiagF X 3 _ _ _ _ _ (readRows X _ _ 512 1536 0 _) (readRows X _ _ 256 1536 1 _) (readRows X _ _ 256 1792 1 _) (readMask' _ _ 256 512 0 0 _) (readMask' _ _ 256 256 256 256 _)

theorem ld_v1441 : kernelRun0_B.sl.v1441 c arg2 harg2 arg14 arg19 harg19 X (mkV 512 512 0 0) = cV (sc X false) 3 3 :=
  readHit.trans st_c_false_3_3

theorem st_top_false_3 : kernelRun0_B.sl.v1325 c arg2 harg2 arg19 harg19 X (mkV 512 512 0 0) = tB 256 512 (sc X false) (512 * 3) (512 * 3) :=
  stTopF X 3 _ _ _ (readRows X _ _ 512 1536 0 _) (readRows X _ _ 256 1536 1 _) (readMask' _ _ 256 512 0 0 _)

theorem ld_v1447 : kernelRun0_B.sl.v1447 c i arg2 harg2 arg13 arg19 harg19 X (mkV 512 512 0 0) = tB 256 512 (sc X false) (512 * 3) (512 * 3) := by
  refine Eq.trans (readOff (off' := ![0, 0]) _ _ (placed_k0_off1 i) _ (by decide)) ?_
  refine (readSkip (by decide)).trans ?_
  exact readHit.trans st_top_false_3

theorem st_off_false_3_2 : kernelRun0_B.sl.v1216 c arg2 harg2 X = tB 512 512 (sc X false) (512 * 3) (512 * 2) :=
  stOffF X 3 2 (by decide) _ _ (readRows X _ _ 512 1536 0 _) (readRows X _ _ 512 1024 1 _)

theorem ld_v1374 : kernelRun0_B.sl.v1374 c i arg2 harg2 arg11 arg19 harg19 X (mkV 512 512 0 0) = tB 512 512 (sc X false) (512 * 3) (512 * 2) := by
  refine Eq.trans (readOff (off' := ![0, 0]) _ _ (placed_k0_off3 i) _ (by decide)) ?_
  exact readHit.trans st_off_false_3_2

theorem st_off_false_3_1 : kernelRun0_B.sl.v1140 c arg2 harg2 X = tB 512 512 (sc X false) (512 * 3) (512 * 1) :=
  stOffF X 3 1 (by decide) _ _ (readRows X _ _ 512 1536 0 _) (readRows X _ _ 512 512 1 _)

theorem ld_v1254 : kernelRun0_B.sl.v1254 c i arg2 harg2 arg13 arg19 harg19 X (mkV 512 512 0 0) = tB 512 512 (sc X false) (512 * 3) (512 * 1) := by
  refine Eq.trans (readOff (off' := ![0, 0]) _ _ (placed_k0_off3 i) _ (by decide)) ?_
  exact readHit.trans st_off_false_3_1

theorem st_off_false_3_0 : kernelRun0_B.sl.v941 c arg2 harg2 X = tB 512 512 (sc X false) (512 * 3) (512 * 0) :=
  by
  refine Eq.trans ?_ (stOffF X 3 0 (by decide) _ _ (readRows X arg2 harg2 512 1536 0 (by decide)) (readRows X arg2 harg2 512 0 1 (by decide)))
  dsimp only [k0_pay18, k0_pay16, k0_pay3, k0_pay15, k0_pay14, k0_pay17, k0_pay98, k0_pay215, kernelRun0_B.sl.v941, kernelRun0_B.sl.v937, kernelRun0_B.sl.cst_106, kernelRun0_B.sl.r_8, k0_pay163, k0_pay161, kernelRun0_B.sl.r_9, k0_pay167]
  rfl

theorem ld_v1178 : kernelRun0_B.sl.v1178 c i arg2 harg2 arg11 arg19 harg19 X (mkV 512 512 0 0) = tB 512 512 (sc X false) (512 * 3) (512 * 0) := by
  refine Eq.trans (readOff (off' := ![0, 0]) _ _ (placed_k0_off3 i) _ (by decide)) ?_
  exact readHit.trans st_off_false_3_0

theorem st_a_false_3_0 : k0_pay194 = aV 512 0 X (sc X false) 3 0 :=
  aInit X _ 3

theorem ld_v1183 : kernelRun0_B.sl.v1183 c i arg2 harg2 arg9 arg11 arg13 arg14 arg17 arg18 arg19 harg19 X (mkV 512 512 0 0) = aV 512 0 X (sc X false) 3 0 :=
  readHit.trans st_a_false_3_0

theorem st_a_false_3_1 : kernelRun0_B.sl.v1192 c i arg2 harg2 arg9 arg11 arg13 arg14 arg17 arg18 arg19 harg19 X (mkV 512 512 0 0) = aV 512 0 X (sc X false) 3 1 :=
  aOffSt X _ 3 0 (by decide) _ _ _ _ _ ld_v1171 ld_v1172 ld_v1178 ld_v1183 ld_v459

theorem ld_v1259 : kernelRun0_B.sl.v1259 c i arg2 harg2 arg9 arg11 arg13 arg14 arg17 arg18 arg19 harg19 X (mkV 512 512 0 0) = aV 512 0 X (sc X false) 3 1 :=
  readHit.trans st_a_false_3_1

theorem st_a_false_3_2 : kernelRun0_B.sl.v1268 c i arg2 harg2 arg9 arg11 arg13 arg14 arg17 arg18 arg19 harg19 X (mkV 512 512 0 0) = aV 512 0 X (sc X false) 3 2 :=
  aOffSt X _ 3 1 (by decide) _ _ _ _ _ ld_v1247 ld_v1248 ld_v1254 ld_v1259 ld_v870

theorem ld_v1379 : kernelRun0_B.sl.v1379 c i arg2 harg2 arg9 arg11 arg13 arg14 arg17 arg18 arg19 harg19 X (mkV 512 512 0 0) = aV 512 0 X (sc X false) 3 2 :=
  readHit.trans st_a_false_3_2

theorem st_a_false_3_3 : kernelRun0_B.sl.v1388 c i arg2 harg2 arg9 arg11 arg13 arg14 arg17 arg18 arg19 harg19 X (mkV 512 512 0 0) = aV 512 0 X (sc X false) 3 3 :=
  aOffSt X _ 3 2 (by decide) _ _ _ _ _ ld_v1367 ld_v1368 ld_v1374 ld_v1379 ld_v1357

theorem ld_v1467 : kernelRun0_B.sl.v1467 c i arg2 harg2 arg9 arg11 arg13 arg14 arg17 arg18 arg19 harg19 X (mkV 512 512 0 0) = aV 256 0 X (sc X false) 3 3 :=
  readHalf X _ _ _ 3 3 0 _ _ _ st_a_false_3_3

theorem st_aL_false_3_4 : kernelRun0_B.sl.v1474 c i arg2 harg2 arg9 arg11 arg13 arg14 arg17 arg18 arg19 harg19 X (mkV 512 512 0 0) = aV 256 0 X (sc X false) 3 4 :=
  aLeftSt X _ 3 _ _ _ _ _ ld_v1440 ld_v1441 ld_v1447 ld_v1412 ld_v1467

theorem st_bot_false_3 : kernelRun0_B.sl.v1330 c arg2 harg2 arg19 harg19 X (mkV 512 512 0 0) = tB 256 256 (sc X false) (512 * 3 + 256) (512 * 3 + 256) :=
  stBotF X 3 _ _ _ (readRows X _ _ 512 1536 0 _) (readRows X _ _ 256 1792 1 _) (readMask' _ _ 256 256 256 256 _)

theorem ld_v1454 : kernelRun0_B.sl.v1454 c i arg2 harg2 arg13 arg19 harg19 X (mkV 512 512 0 0) = tB 256 256 (sc X false) (512 * 3 + 256) (512 * 3 + 256) := by
  refine Eq.trans (readOff (off' := ![256, 256]) _ _ (placed_k0_off2 i) _ (by decide)) ?_
  exact readHit.trans st_bot_false_3

theorem ld_v1476 : kernelRun0_B.sl.v1476 c i arg2 harg2 arg9 arg11 arg13 arg14 arg17 arg18 arg19 harg19 X (mkV 512 512 0 0) = aV 256 256 X (sc X false) 3 3 := by
  refine (readSkip (by decide)).trans ?_
  exact readHalf X _ _ _ 3 3 256 _ _ _ st_a_false_3_3

theorem st_aR_false_3_4 : kernelRun0_B.sl.v1484 c i arg2 harg2 arg9 arg11 arg13 arg14 arg17 arg18 arg19 harg19 X (mkV 512 512 0 0) = aV 256 256 X (sc X false) 3 4 :=
  aRightSt X _ 3 _ _ _ _ _ _ _ ld_v1440 ld_v1441 ld_v1447 ld_v1412 ld_v1454 ld_v1415 ld_v1476

theorem ld_v1496 : kernelRun0_B.sl.v1496 c i arg2 harg2 arg9 arg11 arg13 arg14 arg17 arg18 arg19 harg19 X (mkV 512 512 0 0) = aV 512 0 X (sc X false) 3 4 :=
  readHalves X _ _ _ 3 4 _ _ _ _ _ st_aL_false_3_4 st_aR_false_3_4

end Cert.Diff.CaseB
-- ==== Proof.OutB.lean ====
module

public import proofs.«01_k».proof.Proof.Finish
public import proofs.«01_k».proof.Proof.ChainB
public import Idealize.ShloMosaic.Lib.Pipeline.ValueKit

@[expose] public section

set_option maxRecDepth 16384

noncomputable section

namespace Cert.Diff.CaseB

open Cert.KernelIdeal Cert.KernelIdeal.Gen Idealize.ShloMosaic Idealize.ShloMosaic.TcCoe

variable (X : Vec Ideal S1x1x4x2048x128 .bf16) (x1 x2 x3 x4 : Vec Ideal S2x64 .f32) (x5 : Vec Ideal S2x128 .f32) {c : Dev nD} {i : grid0.Coords}
  {arg2 : Memref sig .tc .vmem S1x1x4x2048x128 .bf16} {harg2 : arg2.IsWhole}
  {arg3 : Memref sig .tc .vmem S2x64 .f32} {harg3 : arg3.IsWhole}
  {arg4 : Memref sig .tc .vmem S2x64 .f32} {harg4 : arg4.IsWhole}
  {arg5 : Memref sig .tc .vmem S2x64 .f32} {harg5 : arg5.IsWhole}
  {arg6 : Memref sig .tc .vmem S2x64 .f32} {harg6 : arg6.IsWhole}
  {arg7 : Memref sig .tc .vmem S2x128 .f32} {harg7 : arg7.IsWhole}
  {arg8 : Memref sig .tc .vmem S1x1x2048x128 .bf16} {harg8 : arg8.IsWhole}
  {arg9 : Memref sig .tc .vmem S4x144x512 .bf16} {harg9 : arg9.IsWhole}
  {arg10 : Memref sig .tc .vmem S512x512 .f32} {harg10 : arg10.IsWhole}
  {arg11 : Memref sig .tc .vmem S512x512 .f32} {harg11 : arg11.IsWhole}
  {arg12 : Memref sig .tc .vmem S512x512 .f32} {harg12 : arg12.IsWhole}
  {arg13 : Memref sig .tc .vmem S512x512 .f32} {harg13 : arg13.IsWhole}
  {arg14 : Memref sig .tc .vmem S2x2x1x512 .f32} {harg14 : arg14.IsWhole}
  {arg15 : Memref sig .tc .vmem S1x512 .f32} {harg15 : arg15.IsWhole}
  {arg16 : Memref sig .tc .vmem S144x512 .f32} {harg16 : arg16.IsWhole}
  {arg17 : Memref sig .tc .vmem S1x512 .f32} {harg17 : arg17.IsWhole}
  {arg18 : Memref sig .tc .vmem S144x512 .f32} {harg18 : arg18.IsWhole}
  {arg19 : Memref sig .tc .vmem S1x512x512 .f32} {harg19 : arg19.IsWhole}

theorem tile0 : k0_pay66 (kernelRun0_B.sl.v352 (F := Ideal) c i arg2 harg2 arg3 harg3 arg4 harg4 arg5 harg5 arg6 harg6 arg7 harg7 arg9 arg10 arg11 arg14 arg15 arg16 arg17 arg18 arg19 harg19 X x1 x2 x3 x4 x5 (mkV 512 512 0 0)) = outT X x1 x2 x3 x4 x5 0 := by
  refine Eq.trans ?_ (finEq X x1 x2 x3 x4 x5 0 _ _ _ _ _ _ _ _ (ld_v297 (c := c) (i := i) (arg2 := arg2) (harg2 := harg2) (arg9 := arg9) (arg10 := arg10) (arg14 := arg14) (arg15 := arg15) (arg16 := arg16) (arg19 := arg19) (harg19 := harg19)) (ld_v305 (c := c) (i := i) (arg2 := arg2) (harg2 := harg2) (arg9 := arg9) (arg11 := arg11) (arg14 := arg14) (arg17 := arg17) (arg18 := arg18) (arg19 := arg19) (harg19 := harg19)) (readRows X arg2 harg2 512 0 3 (by decide)) (readRow 64 arg3 harg3 x1 (by decide)) (readRow 64 arg4 harg4 x2 (by decide)) (readRow 64 arg5 harg5 x3 (by decide)) (readRow 64 arg6 harg6 x4 (by decide)) (readRow 128 arg7 harg7 x5 (by decide)))
  rfl

theorem tile1 : k0_pay120 (kernelRun0_B.sl.v639 (F := Ideal) c i arg2 harg2 arg9 arg10 arg12 arg14 arg15 arg16 arg19 harg19 X (mkV 512 512 0 0)) (kernelRun0_B.sl.v647 (F := Ideal) c i arg2 harg2 arg9 arg11 arg13 arg14 arg17 arg18 arg19 harg19 X (mkV 512 512 0 0)) (kernelRun0_B.sl.v653 (F := Ideal) c arg2 harg2 X) (kernelRun0_B.sl.v324 (F := Ideal) c arg3 harg3 arg4 harg4 x1 x2) (kernelRun0_B.sl.v330 (F := Ideal) c arg5 harg5 arg6 harg6 x3 x4) (View.readAt (Elt Ideal) arg7.view (Rect.unit (s := S2x128) ![0, 0] S1x128.size inb_S2x128_S1x128_0_0).toLoadRect (harg7.unread x5)) = outT X x1 x2 x3 x4 x5 1 := by
  refine Eq.trans ?_ (finEq X x1 x2 x3 x4 x5 1 _ _ _ _ _ _ _ _ (ld_v632 (c := c) (i := i) (arg2 := arg2) (harg2 := harg2) (arg9 := arg9) (arg10 := arg10) (arg12 := arg12) (arg14 := arg14) (arg15 := arg15) (arg16 := arg16) (arg19 := arg19) (harg19 := harg19)) (ld_v640 (c := c) (i := i) (arg2 := arg2) (harg2 := harg2) (arg9 := arg9) (arg11 := arg11) (arg13 := arg13) (arg14 := arg14) (arg17 := arg17) (arg18 := arg18) (arg19 := arg19) (harg19 := harg19)) (readRows X arg2 harg2 512 512 3 (by decide)) (readRow 64 arg3 harg3 x1 (by decide)) (readRow 64 arg4 harg4 x2 (by decide)) (readRow 64 arg5 harg5 x3 (by decide)) (readRow 64 arg6 harg6 x4 (by decide)) (readRow 128 arg7 harg7 x5 (by decide)))
  rfl

theorem tile2 : k0_pay190 (kernelRun0_B.sl.v1064 (F := Ideal) c arg2 harg2 X) (kernelRun0_B.sl.v1082 (F := Ideal) c i arg2 harg2 arg3 harg3 arg4 harg4 arg5 harg5 arg6 harg6 arg9 arg10 arg11 arg12 arg13 arg14 arg15 arg16 arg17 arg18 arg19 harg19 X x1 x2 x3 x4 (mkV 512 512 0 0)) (kernelRun0_B.sl.v1085 (F := Ideal) c i arg2 harg2 arg3 harg3 arg4 harg4 arg5 harg5 arg6 harg6 arg9 arg10 arg11 arg12 arg13 arg14 arg15 arg16 arg17 arg18 arg19 harg19 X x1 x2 x3 x4 (mkV 512 512 0 0)) (View.readAt (Elt Ideal) arg7.view (Rect.unit (s := S2x128) ![0, 0] S1x128.size inb_S2x128_S1x128_0_0).toLoadRect (harg7.unread x5)) = outT X x1 x2 x3 x4 x5 2 := by
  refine Eq.trans ?_ (finEq X x1 x2 x3 x4 x5 2 _ _ _ _ _ _ _ _ (ld_v1043 (c := c) (i := i) (arg2 := arg2) (harg2 := harg2) (arg9 := arg9) (arg10 := arg10) (arg12 := arg12) (arg14 := arg14) (arg15 := arg15) (arg16 := arg16) (arg19 := arg19) (harg19 := harg19)) (ld_v1051 (c := c) (i := i) (arg2 := arg2) (harg2 := harg2) (arg9 := arg9) (arg11 := arg11) (arg13 := arg13) (arg14 := arg14) (arg17 := arg17) (arg18 := arg18) (arg19 := arg19) (harg19 := harg19)) (readRows X arg2 harg2 512 1024 3 (by decide)) (readRow 64 arg3 harg3 x1 (by decide)) (readRow 64 arg4 harg4 x2 (by decide)) (readRow 64 arg5 harg5 x3 (by decide)) (readRow 64 arg6 harg6 x4 (by decide)) (readRow 128 arg7 harg7 x5 (by decide)))
  rfl

theorem tile3 : k0_pay1 (kernelRun0_B.sl.r_11 (F := Ideal) c i arg2 harg2 arg3 harg3 arg4 harg4 arg5 harg5 arg6 harg6 arg7 harg7 arg9 arg10 arg11 arg12 arg13 arg14 arg15 arg16 arg17 arg18 arg19 harg19 X x1 x2 x3 x4 x5 (mkV 512 512 0 0)) = outT X x1 x2 x3 x4 x5 3 := by
  refine Eq.trans ?_ (finEq X x1 x2 x3 x4 x5 3 _ _ _ _ _ _ _ _ (ld_v1488 (c := c) (i := i) (arg2 := arg2) (harg2 := harg2) (arg9 := arg9) (arg10 := arg10) (arg12 := arg12) (arg14 := arg14) (arg15 := arg15) (arg16 := arg16) (arg19 := arg19) (harg19 := harg19)) (ld_v1496 (c := c) (i := i) (arg2 := arg2) (harg2 := harg2) (arg9 := arg9) (arg11 := arg11) (arg13 := arg13) (arg14 := arg14) (arg17 := arg17) (arg18 := arg18) (arg19 := arg19) (harg19 := harg19)) (readRows X arg2 harg2 512 1536 3 (by decide)) (readRow 64 arg3 harg3 x1 (by decide)) (readRow 64 arg4 harg4 x2 (by decide)) (readRow 64 arg5 harg5 x3 (by decide)) (readRow 64 arg6 harg6 x4 (by decide)) (readRow 128 arg7 harg7 x5 (by decide)))
  rfl

theorem out (hc : ¬cond0_0 i) : out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X x1 x2 x3 x4 x5 (mkV 512 512 0 0) = outV X x1 x2 x3 x4 x5 := by
  rw [out0_B_6]
  refine (View.read_writes_junk_eq_canon _ _).trans ?_
  exact canonOut X x1 x2 x3 x4 x5 _ _ _ _ (tile0 X x1 x2 x3 x4 x5) (tile1 X x1 x2 x3 x4 x5) (tile2 X x1 x2 x3 x4 x5) (tile3 X x1 x2 x3 x4 x5) _ _ _ _

end Cert.Diff.CaseB
-- ==== Proof.Array.lean ====
module

public import proofs.«01_k».proof.Proof.OutA
public import proofs.«01_k».proof.Proof.OutB
public import proofs.«01_k».proof.Proof.Gen.KernelIdeal.Value
public import Idealize.ShloMosaic.Lib.Pipeline.ValueKit

@[expose] public section

set_option maxRecDepth 16384

noncomputable section

namespace Cert.Diff

open Cert.KernelIdeal Cert.KernelIdeal.Gen Idealize.ShloMosaic Idealize.ShloMosaic.TcCoe

variable (m : (ℓ : Loc nD τ sig) → Buf (Elt Ideal) ℓ)

theorem afterA (c : Dev nD) (t : Fin cfg0.N) (h : t.val % 32 = 0) : outsAt0 m c t.val t.isLt
    = (outV (iblk m c 0 t) (iblk m c 1 t) (iblk m c 2 t) (iblk m c 3 t) (iblk m c 4 t) (iblk m c 5 t), mkV 512 512 0 0) := by
  rw [outsAt0_A m c t h]
  refine Prod.ext ?_ ?_
  · dsimp only
    exact CaseA.out _ _ _ _ _ _ _
  · dsimp only
    exact CaseA.tableOut _ _ _ _ _ _ _

theorem afterB (c : Dev nD) (t : Fin cfg0.N) (h : ¬ t.val % 32 = 0) (hT : (outsAt0 m c (t.val - 1) (Nat.lt_of_le_of_lt (Nat.sub_le _ _) t.isLt)).2 = mkV 512 512 0 0) :
    outsAt0 m c t.val t.isLt
    = (outV (iblk m c 0 t) (iblk m c 1 t) (iblk m c 2 t) (iblk m c 3 t) (iblk m c 4 t) (iblk m c 5 t), mkV 512 512 0 0) := by
  rw [outsAt0_B m c t h]
  refine Prod.ext ?_ ?_
  · dsimp only
    rw [hT]
    exact CaseB.out _ _ _ _ _ _ _
  · dsimp only
    exact hT

/-- Every grid point leaves the mask table in the carried scratch buffer. -/
theorem tableAfter (c : Dev nD) : ∀ (n : ℕ) (hn : n < cfg0.N), (outsAt0 m c n hn).2 = mkV 512 512 0 0
  | 0, hn => congrArg Prod.snd (afterA m c ⟨0, hn⟩ rfl)
  | n + 1, hn =>
    congrArg Prod.snd (afterB m c ⟨n + 1, hn⟩ (by
      have h : n + 1 < 32 := lt_of_lt_of_eq hn N_0
      show ¬ (n + 1) % 32 = 0
      omega) (tableAfter c n (Nat.lt_of_succ_lt hn)))

/-- What every grid point leaves in its result block. -/
theorem blockAfter (c : Dev nD) (t : Fin cfg0.N) : (outsAt0 m c t.val t.isLt).1
    = outV (iblk m c 0 t) (iblk m c 1 t) (iblk m c 2 t) (iblk m c 3 t) (iblk m c 4 t) (iblk m c 5 t) := by
  by_cases h : t.val % 32 = 0
  · exact congrArg Prod.fst (afterA m c t h)
  · exact congrArg Prod.fst (afterB m c t h (tableAfter m c _ _))

/-- The block of the packed operands one batch and head reads. -/
def pack (A : FVec Ideal S8x8x4x2048x128 .bf16) (b : Fin 8) (p : Fin 4) : FVec Ideal S1x1x4x2048x128 .bf16 :=
  fun y => A (ix5 b ⟨4 + p.val, by omega⟩ (y 2) (y 3) (y 4))

theorem idx : ∀ t : Fin cfg0.N, win0_0.index t = ![t.val / 4, 4 + t.val % 4, 0, 0, 0] ∧ win0_1.index t = ![0, 0] ∧ win0_2.index t = ![0, 0]
    ∧ win0_3.index t = ![0, 0] ∧ win0_4.index t = ![0, 0] ∧ win0_5.index t = ![0, 0] ∧ win0_6.index t = ![t.val / 4, t.val % 4, 0, 0] :=
  (by decide +kernel : ∀ t : Fin grid0.N, _)

theorem blk0 (c : Dev nD) (t : Fin cfg0.N) (b : Fin 8) (p : Fin 4) (hb : b.val = t.val / 4) (hp : p.val = t.val % 4) :
    iblk m c 0 t = pack (V m c main_v9) b p := by
  funext y
  have h0 : (y 0).val < 1 := (y 0).isLt
  have h1 : (y 1).val < 1 := (y 1).isLt
  refine congrArg (V m c main_v9) (funext fun a => Fin.ext ?_)
  fin_cases a <;> blk_simp [idx t]
  · exact hb.symm
  · exact congrArg (4 + ·) hp.symm
  · rfl
  · rfl
  · rfl

theorem blk1 (c : Dev nD) (t : Fin cfg0.N) : iblk m c 1 t = m ((c : Thread nD τ).loc main_arg6) := by blk_ext! [iblk, V, idx t]
theorem blk2 (c : Dev nD) (t : Fin cfg0.N) : iblk m c 2 t = m ((c : Thread nD τ).loc main_arg7) := by blk_ext! [iblk, V, idx t]
theorem blk3 (c : Dev nD) (t : Fin cfg0.N) : iblk m c 3 t = m ((c : Thread nD τ).loc main_arg8) := by blk_ext! [iblk, V, idx t]
theorem blk4 (c : Dev nD) (t : Fin cfg0.N) : iblk m c 4 t = m ((c : Thread nD τ).loc main_arg9) := by blk_ext! [iblk, V, idx t]
theorem blk5 (c : Dev nD) (t : Fin cfg0.N) : iblk m c 5 t = m ((c : Thread nD τ).loc main_arg10) := by blk_ext! [iblk, V, idx t]

theorem emb6 (t : Fin cfg0.N) (y : S1x1x2048x128.Idx) : (win0_6.blk t).view.emb y
    = ix4 (⟨t.val / 4, by have := lt_of_lt_of_eq t.isLt N_0; omega⟩ : Fin 8) (⟨t.val % 4, by omega⟩ : Fin 4) (y 2) (y 3) := by
  have h0 : (y 0).val < 1 := (y 0).isLt
  have h1 : (y 1).val < 1 := (y 1).isLt
  refine funext fun a => Fin.ext ?_
  fin_cases a <;> blk_simp [idx t]
  all_goals rfl

/-- The whole result array, entry by entry. -/
def result (A : FVec Ideal S8x8x4x2048x128 .bf16) (x1 x2 x3 x4 : FVec Ideal S2x64 .f32) (x5 : FVec Ideal S2x128 .f32) :
    FVec Ideal S8x4x2048x128 .bf16 := fun y => outN (pack A (y 0) (y 1)) x1 x2 x3 x4 x5 (y 2).val (y 3)

theorem final (c : Dev nD) : (dats m 0 c).arrAt 6 cfg0.N
    = result (V m c main_v9) (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 6 _ (by decide +kernel) fun t _ y => ?_
  blk_simp
  rw [after0_6]
  rw [show (outsAt0 m c t.val t.isLt).1 = _ from blockAfter m c t]
  have ht : t.val < 32 := lt_of_lt_of_eq t.isLt N_0
  rw [blk0 m c t ⟨t.val / 4, by omega⟩ ⟨t.val % 4, by omega⟩ rfl rfl, blk1, blk2, blk3, blk4, blk5]
  rw [emb6 t y]
  rfl

end Cert.Diff
-- ==== Proof.Pack.lean ====
module

public import proofs.«01_k».proof.Proof.Gen.KernelIdeal.Value
public import Idealize.ShloMosaic.Lib.Pipeline.ValueKit
public import Idealize.ShloMosaic.Lib.Claim

@[expose] public section

set_option maxRecDepth 16384

noncomputable section

namespace Cert.Diff

open Cert.KernelIdeal Cert.KernelIdeal.Gen Idealize.ShloMosaic Idealize.ShloMosaic.TcCoe

variable (m : (ℓ : Loc nD τ sig) → Buf (Elt Ideal) ℓ)

/-- The operands side by side, and four empty heads before them. -/
def packed (q1 q2 k1 k2 : FVec Ideal S8x4x2048x64 .f32) (v g : FVec Ideal S8x4x2048x128 .f32) : FVec Ideal S8x8x4x2048x128 .bf16 :=
  concatenate S8x8x4x2048x128 1 [⟨S8x4x4x2048x128, broadcastInDim S8x4x4x2048x128 ![] bcast_S_S8x4x4x2048x128 (constant S_ .bf16 0x0000#16)⟩,
    ⟨S8x4x4x2048x128, truncf .bf16 (concatenate S8x4x4x2048x128 2
      [⟨S8x4x1x2048x128, broadcastInDim S8x4x1x2048x128 ![0, 1, 3, 4] bcast_S8x4x2048x128_S8x4x1x2048x128_0_1_3_4
        (concatenate S8x4x2048x128 3 [⟨S8x4x2048x64, q1⟩, ⟨S8x4x2048x64, q2⟩] concatenates_S8x4x2048x64_S8x4x2048x64_S8x4x2048x128_d3)⟩,
       ⟨S8x4x1x2048x128, broadcastInDim S8x4x1x2048x128 ![0, 1, 3, 4] bcast_S8x4x2048x128_S8x4x1x2048x128_0_1_3_4
        (concatenate S8x4x2048x128 3 [⟨S8x4x2048x64, k1⟩, ⟨S8x4x2048x64, k2⟩] concatenates_S8x4x2048x64_S8x4x2048x64_S8x4x2048x128_d3)⟩,
       ⟨S8x4x1x2048x128, broadcastInDim S8x4x1x2048x128 ![0, 1, 3, 4] bcast_S8x4x2048x128_S8x4x1x2048x128_0_1_3_4 v⟩,
       ⟨S8x4x1x2048x128, broadcastInDim S8x4x1x2048x128 ![0, 1, 3, 4] bcast_S8x4x2048x128_S8x4x1x2048x128_0_1_3_4 g⟩]
      concatenates_S8x4x1x2048x128_S8x4x1x2048x128_S8x4x1x2048x128_S8x4x1x2048x128_S8x4x4x2048x128_d2) bitsLt_bf16_f32⟩]
    concatenates_S8x4x4x2048x128_S8x4x4x2048x128_S8x8x4x2048x128_d1

set_option maxHeartbeats 2000000 in
theorem V9 (c : Dev nD) : V m c main_v9 = packed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  rfl

section
variable (q1 q2 k1 k2 : FVec Ideal S8x4x2048x64 .f32) (v g : FVec Ideal S8x4x2048x128 .f32) (b : Fin 8) (p : Fin 4) (n : Fin 2048) (d : Fin 128)

theorem packed_v : packed q1 q2 k1 k2 v g (ix5 b ⟨4 + p.val, by omega⟩ 2 n d) = v (ix4 b p n d) := by
  pointwise [packed]

theorem packed_q : packed q1 q2 k1 k2 v g (ix5 b ⟨4 + p.val, by omega⟩ 0 n d)
    = if h : d.val < 64 then q1 (ix4 b p n ⟨d.val, h⟩) else q2 (ix4 b p n ⟨d.val - 64, by omega⟩) := by
  pointwise [packed]

theorem packed_g : packed q1 q2 k1 k2 v g (ix5 b ⟨4 + p.val, by omega⟩ 3 n d) = g (ix4 b p n d) := by
  pointwise [packed]

theorem packed_k : packed q1 q2 k1 k2 v g (ix5 b ⟨4 + p.val, by omega⟩ 1 n d)
    = if h : d.val < 64 then k1 (ix4 b p n ⟨d.val, h⟩) else k2 (ix4 b p n ⟨d.val - 64, by omega⟩) := by
  pointwise [packed]
end

end Cert.Diff
-- ==== Proof.Softmax.lean ====
module

public import proofs.«01_k».proof.Proof.Finish

@[expose] public section

set_option maxRecDepth 16384

noncomputable section

namespace Cert.Diff

open Cert.KernelIdeal Cert.KernelIdeal.Gen Idealize.ShloMosaic Idealize.ShloMosaic.TcCoe

/-- The sum of finitely many reals is the same among the extended reals. -/
theorem coe_sum {ι : Type} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- A nonnegative real factor goes into a sum of extended reals. -/
theorem coe_mul_sum {ι : Type} (s : Finset ι) (r : ℝ) (hr : 0 ≤ r) (f : ι → EReal) : (r : EReal) * ∑ j ∈ s, f j = ∑ j ∈ s, (r : EReal) * f j := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

theorem exp2_sub (w M : ℝ) : FloatOps.exp2 (F := Ideal) (φ := .f32) ((w : EReal) - (M : EReal)) = (((2 : ℝ) ^ (w - M) : ℝ) : EReal) := by
  rw [← EReal.coe_sub]; rfl

theorem exp2_bot_sub (M : ℝ) : FloatOps.exp2 (F := Ideal) (φ := .f32) ((⊥ : EReal) - (M : EReal)) = 0 := by
  rw [show (⊥ : EReal) - (M : EReal) = ⊥ from EReal.bot_sub _]; rfl

theorem pow_two_log (x : ℝ) : (2 : ℝ) ^ (x * (Real.log 2)⁻¹) = Real.exp x := by
  have h : Real.log 2 ≠ 0 := (Real.log_pos (by norm_num)).ne'
  rw [Real.rpow_def_of_pos (by norm_num)]
  congr 1
  field_simp

section
variable (X : Vec Ideal S1x1x4x2048x128 .bf16) (S : ℕ → ℕ → EReal) (q c : ℕ) (w : ℕ → ℝ)

theorem sm_eq (hw : ∀ j, S (512 * q + c) j = (w j : EReal)) (j : ℕ) :
    sm S (512 * q + c) j = if j ≤ 512 * q + c then (w j : EReal) else ⊥ := by
  rw [sm, hw, mk]
  split
  · exact add_zero _
  · exact EReal.add_bot _

theorem stop_min (t : ℕ) (ht : t ≤ q) (hc : c < 512) : min (stop q t c) (512 * q + c + 1) = min (512 * (t + 1)) (512 * q + c + 1) := by
  unfold stop
  split
  · rfl
  · split <;> omega

/-- What one step adds to a column: its keys up to the query, each weighted. -/
theorem step_sum (hw : ∀ j, S (512 * q + c) j = (w j : EReal)) (hc : c < 512)
    (t : ℕ) (ht : t ≤ q) (M : ℝ) (r : Fin 144) :
    ∑ j ∈ Finset.Ico (512 * t) (stop q t c), vt X r j * FloatOps.exp2 (F := Ideal) (φ := .f32) (sm S (512 * q + c) j - (M : EReal))
      = ∑ j ∈ Finset.Ico (512 * t) (min (512 * (t + 1)) (512 * q + c + 1)), vt X r j * (((2 : ℝ) ^ (w j - M) : ℝ) : EReal) := by
  have h : ∀ j, vt X r j * FloatOps.exp2 (F := Ideal) (φ := .f32) (sm S (512 * q + c) j - (M : EReal))
      = if j < 512 * q + c + 1 then vt X r j * (((2 : ℝ) ^ (w j - M) : ℝ) : EReal) else 0 := by
    intro j
    rw [sm_eq S q c w hw]
    by_cases hj : j ≤ 512 * q + c
    · rw [if_pos hj, if_pos (by omega), exp2_sub]
    · rw [if_neg hj, if_neg (by omega), exp2_bot_sub, mul_zero]
  rw [Finset.sum_congr rfl fun j _ => h j, ← Finset.sum_filter, ← stop_min q c t ht hc]
  refine Finset.sum_congr ?_ fun _ _ => rfl
  ext j
  simp only [Finset.mem_filter, Finset.mem_Ico, lt_min_iff]
  omega

/-- The maximum over one step's keys is a real: its first key is not past the query. -/
theorem step_sup (hw : ∀ j, S (512 * q + c) j = (w j : EReal)) (hc : c < 512) (t : ℕ) (ht : t ≤ q) :
    ∃ M : ℝ, (Finset.Ico (512 * t) (stop q t c)).sup (sm S (512 * q + c)) = (M : EReal) := by
  have hs : 512 * t < stop q t c := by
    unfold stop
    split
    · omega
    · split <;> omega
  have hlow : (w (512 * t) : EReal) ≤ (Finset.Ico (512 * t) (stop q t c)).sup (sm S (512 * q + c)) := by
    have h := Finset.le_sup (f := sm S (512 * q + c)) (Finset.mem_Ico.mpr ⟨le_refl _, hs⟩)
    rw [sm_eq S q c w hw, if_pos (by omega)] at h
    exact h
  have htop : (Finset.Ico (512 * t) (stop q t c)).sup (sm S (512 * q + c)) < ⊤ := by
    rw [Finset.sup_lt_iff (by exact bot_lt_top)]
    intro j _
    rw [sm_eq S q c w hw]
    split
    · exact EReal.coe_lt_top _
    · exact bot_lt_top
  exact ⟨_, (EReal.coe_toReal htop.ne (lt_of_lt_of_le (EReal.bot_lt_coe _) hlow).ne').symm⟩

theorem range_split (f : ℕ → EReal) (t N : ℕ) (h : 512 * t ≤ N) :
    ∑ j ∈ Finset.range (min (512 * t) N), f j + ∑ j ∈ Finset.Ico (512 * t) (min (512 * (t + 1)) N), f j
      = ∑ j ∈ Finset.range (min (512 * (t + 1)) N), f j := by
  rw [min_eq_left h, Finset.range_eq_Ico, Finset.range_eq_Ico]
  exact Finset.sum_Ico_consecutive f (Nat.zero_le _) (by rw [le_min_iff]; omega)

/-- After `t + 1` steps a column holds its keys' weighted sum so far, relative to a real maximum. -/
theorem after_steps (hw : ∀ j, S (512 * q + c) j = (w j : EReal)) (hc : c < 512) :
    ∀ t, t ≤ q → ∃ M : ℝ, mS S q (t + 1) c = (M : EReal) ∧
      ∀ r, aS X S q (t + 1) r c = ∑ j ∈ Finset.range (min (512 * (t + 1)) (512 * q + c + 1)), vt X r j * (((2 : ℝ) ^ (w j - M) : ℝ) : EReal)
  | 0, ht => by
    obtain ⟨M, hM⟩ := step_sup S q c w hw hc 0 ht
    have hm : mS S q 1 c = (M : EReal) := by
      rw [mS, hM, mS]
      exact max_bot_left _
    refine ⟨M, hm, fun r => ?_⟩
    rw [aS, hm, step_sum X S q c w hw hc 0 ht M r, aS, mul_zero, zero_add, Finset.range_eq_Ico]
  | t + 1, ht => by
    obtain ⟨M', hm', ha'⟩ := after_steps hw hc t (by omega)
    obtain ⟨M0, hM0⟩ := step_sup S q c w hw hc (t + 1) ht
    have hm : mS S q (t + 1 + 1) c = ((max M' M0 : ℝ) : EReal) := by
      rw [mS, hM0, hm']
      exact (EReal.coe_strictMono.monotone.map_max).symm
    refine ⟨max M' M0, hm, fun r => ?_⟩
    rw [aS, hm, step_sum X S q c w hw hc (t + 1) ht _ r, ha', hm', exp2_sub, coe_mul_sum _ _ (Real.rpow_pos_of_pos (by norm_num) _).le,
      ← range_split _ (t + 1) _ (by omega)]
    refine congrArg (· + _) (Finset.sum_congr rfl fun j _ => ?_)
    rw [mul_left_comm, ← EReal.coe_mul, ← Real.rpow_add (by norm_num)]
    congr 3
    ring

end

/-- The softmax average of `v` over the first `n + 1` keys, with scores `s`. -/
def avg (n : ℕ) (s v : ℕ → ℝ) : ℝ := (∑ j ∈ Finset.range (n + 1), Real.exp (s j) * v j) / ∑ j ∈ Finset.range (n + 1), Real.exp (s j)

theorem exp_sum_pos (n : ℕ) (s : ℕ → ℝ) : 0 < ∑ j ∈ Finset.range (n + 1), Real.exp (s j) :=
  Finset.sum_pos (fun _ _ => Real.exp_pos _) ⟨0, by simp⟩

theorem ofBits_one : Ideal.ofBits .f32 0x3F800000#32 = 1 := by
  simp [Ideal.ofBits, Ideal.ieee, -EReal.coe_mul]; norm_num

/-- The softmax weight of one of the first `n + 1` keys. -/
def part (n : ℕ) (s : ℕ → ℝ) (j : ℕ) : ℝ := Real.exp (s j) / ∑ k ∈ Finset.range (n + 1), Real.exp (s k)

section
variable (X : Vec Ideal S1x1x4x2048x128 .bf16) (S : ℕ → ℕ → EReal) (q c : ℕ) (hc : c < 512) (s : ℕ → ℝ)
  (hs : ∀ j, S (512 * q + c) j = ((s j * (Real.log 2)⁻¹ : ℝ) : EReal))
include hc hs

/-- One head map of the kernel weights the values by the softmax, whatever they are. -/
theorem hd_sum (d : Fin 128) : hd X S q c d = ∑ j ∈ Finset.range (512 * q + c + 1), (part (512 * q + c) s j : EReal) * ent X 2 j d := by
  obtain ⟨M, -, ha⟩ := after_steps X S q c _ hs hc q (le_refl q)
  have hE : min (512 * (q + 1)) (512 * q + c + 1) = 512 * q + c + 1 := by omega
  rw [hE] at ha
  have hpw : ∀ j, (2 : ℝ) ^ (s j * (Real.log 2)⁻¹ - M) = Real.exp (s j) * (2 : ℝ) ^ (-M) := by
    intro j
    rw [sub_eq_add_neg, Real.rpow_add (by norm_num), pow_two_log]
  have hp : (0 : ℝ) < (2 : ℝ) ^ (-M) := Real.rpow_pos_of_pos (by norm_num) _
  have hv : ∀ j, vt X ⟨d.val, lt_trans d.isLt (by decide)⟩ j = ent X 2 j d := fun j => dif_pos d.isLt
  have h2 : ∑ j ∈ Finset.range (512 * q + c + 1), vt X ⟨128, by decide⟩ j * (((2 : ℝ) ^ (s j * (Real.log 2)⁻¹ - M) : ℝ) : EReal)
      = (((∑ j ∈ Finset.range (512 * q + c + 1), Real.exp (s j)) * (2 : ℝ) ^ (-M) : ℝ) : EReal) := by
    rw [Finset.sum_mul, ← coe_sum]
    refine Finset.sum_congr rfl fun j _ => ?_
    rw [hpw, show vt X ⟨128, by decide⟩ j = 1 from rfl, one_mul]
  have hpos := exp_sum_pos (512 * q + c) s
  have hL := mul_pos hpos hp
  rw [hd, ha, ha, h2, Ideal.div, if_neg (EReal.coe_eq_zero.not.mpr hL.ne'), ofBits_one, one_mul, ← EReal.coe_inv, mul_comm, coe_mul_sum _ _ (inv_pos.mpr hL).le]
  refine Finset.sum_congr rfl fun j _ => ?_
  rw [hv, hpw, mul_left_comm, ← EReal.coe_mul, mul_comm, part]
  refine congrArg (fun r : ℝ => (r : EReal) * ent X 2 j d) ?_
  field_simp

/-- Of real values this is the softmax average. -/
theorem hd_eq (v : ℕ → Fin 128 → ℝ) (hv : ∀ j d, ent X 2 j d = (v j d : EReal)) (d : Fin 128) :
    hd X S q c d = ((avg (512 * q + c) s (fun j => v j d) : ℝ) : EReal) := by
  rw [hd_sum X S q c hc s hs d, Finset.sum_congr rfl fun j _ => by rw [hv, ← EReal.coe_mul], coe_sum, avg, Finset.sum_div]
  refine congrArg _ (Finset.sum_congr rfl fun j _ => ?_)
  rw [part]
  ring

end

end Cert.Diff
-- ==== Proof.Prob.lean ====
module

public import proofs.«01_k».proof.Proof.Softmax

@[expose] public section

set_option maxRecDepth 16384

noncomputable section

namespace Cert.Diff

open Idealize.ShloMosaic Idealize.ShloMosaic.TcCoe

theorem exp_sub (w M : ℝ) : FloatOps.exp (F := Ideal) (φ := .f32) ((w : EReal) - (M : EReal)) = ((Real.exp (w - M) : ℝ) : EReal) := by
  rw [← EReal.coe_sub]; rfl

theorem exp_bot_sub (M : ℝ) : FloatOps.exp (F := Ideal) (φ := .f32) ((⊥ : EReal) - (M : EReal)) = 0 := by
  rw [show (⊥ : EReal) - (M : EReal) = ⊥ from EReal.bot_sub _]; rfl

theorem sum_causal {R : Type} [AddCommMonoid R] (n : Fin 2048) (f : ℕ → R) :
    ∑ j : Fin 2048, (if j.val ≤ n.val then f j.val else 0) = ∑ j ∈ Finset.range (n.val + 1), f j := by
  have hn := n.isLt
  rw [Fin.sum_univ_eq_sum_range (fun j => if j ≤ n.val then f j else 0) 2048, ← Finset.sum_filter]
  refine Finset.sum_congr ?_ fun _ _ => rfl
  ext j
  simp only [Finset.mem_filter, Finset.mem_range]
  omega

section
variable (n : Fin 2048) (s : ℕ → ℝ) (x : Fin 2048 → EReal) (hx : ∀ j, x j = if j.val ≤ n.val then (s j.val : EReal) else ⊥)

include hx in
/-- The maximum of a causal row is a real. -/
theorem row_max : ∃ M : ℝ, max (Ideal.ofBits .f32 0xFF800000#32) (Finset.fold max (Ideal.ofBits .f32 0xFF800000#32) x Finset.univ) = (M : EReal) := by
  rw [Consts.ofBits_negInf, max_bot_left]
  change ∃ M : ℝ, Finset.univ.sup x = (M : EReal)
  have hlow : (s 0 : EReal) ≤ Finset.univ.sup x := by
    have h := Finset.le_sup (f := x) (Finset.mem_univ (0 : Fin 2048))
    rw [hx, if_pos (show (0 : Fin 2048).val ≤ n.val from Nat.zero_le _)] at h
    exact h
  have htop : Finset.univ.sup x < ⊤ := by
    rw [Finset.sup_lt_iff (by exact bot_lt_top)]
    intro j _
    rw [hx]
    split
    · exact EReal.coe_lt_top _
    · exact bot_lt_top
  exact ⟨_, (EReal.coe_toReal htop.ne (lt_of_lt_of_le (EReal.bot_lt_coe _) hlow).ne').symm⟩

/-- The weight a causal softmax gives key `j`. -/
def wt (j : ℕ) : ℝ := if j ≤ n.val then part n.val s j else 0

include hx in
theorem softmax_at (M : ℝ) (j : Fin 2048) :
    Ideal.div (FloatOps.exp (F := Ideal) (φ := .f32) (x j - (M : EReal))) (∑ k : Fin 2048, FloatOps.exp (F := Ideal) (φ := .f32) (x k - (M : EReal)))
      = (wt n s j.val : EReal) := by
  have he : ∀ k : Fin 2048, FloatOps.exp (F := Ideal) (φ := .f32) (x k - (M : EReal)) = ((if k.val ≤ n.val then Real.exp (s k.val - M) else 0 : ℝ) : EReal) := by
    intro k
    rw [hx]
    split
    · exact exp_sub _ _
    · exact exp_bot_sub _
  have hpos := exp_sum_pos n.val s
  have hM := Real.exp_pos (-M)
  have hsplit : ∀ k, Real.exp (s k - M) = Real.exp (s k) * Real.exp (-M) := fun k => by rw [sub_eq_add_neg, Real.exp_add]
  have hsum : ∑ k ∈ Finset.range (n.val + 1), Real.exp (s k - M) = (∑ k ∈ Finset.range (n.val + 1), Real.exp (s k)) * Real.exp (-M) := by
    rw [Finset.sum_mul]; exact Finset.sum_congr rfl fun k _ => hsplit k
  rw [he, Finset.sum_congr rfl fun k _ => he k, coe_sum, sum_causal n fun k => Real.exp (s k - M), hsum, Ideal.div,
    if_neg (EReal.coe_eq_zero.not.mpr (mul_pos hpos hM).ne'), ← EReal.coe_inv, ← EReal.coe_mul, wt]
  refine congrArg _ ?_
  split
  · rw [hsplit, part]; field_simp
  · exact zero_mul _
end

theorem wt_sum (n : Fin 2048) (s v : ℕ → ℝ) : ∑ j : Fin 2048, wt n s j.val * v j.val = avg n.val s v := by
  rw [avg, Finset.sum_div, ← sum_causal]
  refine Finset.sum_congr rfl fun j _ => ?_
  unfold wt part
  split
  · ring
  · ring

/-- Values weighted by a causal softmax, whatever they are. -/
theorem wt_sum' (n : Fin 2048) (s : ℕ → ℝ) (v : ℕ → EReal) :
    ∑ j : Fin 2048, (wt n s j.val : EReal) * v j.val = ∑ j ∈ Finset.range (n.val + 1), (part n.val s j : EReal) * v j := by
  rw [← sum_causal]
  refine Finset.sum_congr rfl fun j _ => ?_
  unfold wt
  split
  · rfl
  · rw [EReal.coe_zero, zero_mul]

/-- The difference of two causal softmaxes, applied to the values, is the difference of the two averages. -/
theorem diff_eq (n : Fin 2048) (s1 s2 v : ℕ → ℝ) (l : ℝ) :
    ∑ j : Fin 2048, ((wt n s1 j.val : EReal) - (l : EReal) * (wt n s2 j.val : EReal)) * (v j.val : EReal)
      = (avg n.val s1 v : EReal) - (l : EReal) * (avg n.val s2 v : EReal) := by
  rw [← EReal.coe_mul, ← EReal.coe_sub, ← wt_sum, ← wt_sum, Finset.mul_sum, ← Finset.sum_sub_distrib, ← coe_sum]
  refine Finset.sum_congr rfl fun j _ => ?_
  rw [← EReal.coe_mul, ← EReal.coe_sub, ← EReal.coe_mul]
  refine congrArg _ ?_
  ring

end Cert.Diff
-- ==== Proof.RefAt.lean ====
module

public import proofs.«01_k».proof.Proof.Gen.ReferenceIdeal.Run
public import Idealize.ShloMosaic.Lib.Pointwise
public import Idealize.ShloMosaic.Lib.WordCmp
public import Idealize.ShloMosaic.Lib.KernelVsHost

@[expose] public section

set_option maxRecDepth 16384

noncomputable section

namespace Cert.Ref

open Cert.ReferenceIdeal Cert.ReferenceIdeal.Gen Idealize.ShloMosaic Idealize.ShloMosaic.TcCoe

section
variable (x y : FVec Ideal S8x4x2048x64 .f32)

/-- The masked scores of one head map. -/
def scores : FVec Ideal S8x4x2048x2048 .f32 :=
  select (broadcastInDim S8x4x2048x2048 ![2, 3] bcast_S2048x2048_S8x4x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (Host.dotGeneral dot_S8x4x2048x64_S8x4x2048x64_S8x4x2048x2048_3_3_2_2_01_01 none x y) (broadcastInDim S8x4x2048x2048 ![] bcast_S_S8x4x2048x2048 (constant S_ .f32 0x3E000000#32))) (broadcastInDim S8x4x2048x2048 ![] bcast_S_S8x4x2048x2048 (id (constant S_ .f32 0xFF800000#32)))

/-- The maximum of every row. -/
def rowMax (s : FVec Ideal S8x4x2048x2048 .f32) : FVec Ideal S8x4x2048 .f32 :=
  maximumf (broadcastInDim S8x4x2048 ![] bcast_S_S8x4x2048 (constant S_ .f32 0xFF800000#32)) (Host.reduce FloatOps.maximumf s (constant S_ .f32 0xFF800000#32) reducesTo_S8x4x2048x2048_S8x4x2048_d3 h_S_)

/-- The exponentials of the scores, each relative to its row's maximum. -/
def expo (s : FVec Ideal S8x4x2048x2048 .f32) : FVec Ideal S8x4x2048x2048 .f32 :=
  Host.exp (subf s (broadcastInDim S8x4x2048x2048 ![0, 1, 2, 3] bcast_S8x4x2048x1_S8x4x2048x2048_0_1_2_3 (broadcastInDim S8x4x2048x1 ![0, 1, 2] bcast_S8x4x2048_S8x4x2048x1_0_1_2 (rowMax s))))

/-- The softmax of the rows. -/
def prob (e : FVec Ideal S8x4x2048x2048 .f32) : FVec Ideal S8x4x2048x2048 .f32 :=
  Host.divf e (broadcastInDim S8x4x2048x2048 ![0, 1, 2, 3] bcast_S8x4x2048x1_S8x4x2048x2048_0_1_2_3 (broadcastInDim S8x4x2048x1 ![0, 1, 2] bcast_S8x4x2048_S8x4x2048x1_0_1_2 (Host.reduceAdd e (constant S_ .f32 0x00000000#32) reducesTo_S8x4x2048x2048_S8x4x2048_d3 h_S_)))

theorem scores_at (b : Fin 8) (p : Fin 4) (i j : Fin 2048) : scores x y (ix4 b p i j)
    = if j.val ≤ i.val then (∑ d : Fin 64, x (ix4 b p i d) * y (ix4 b p j d)) * Ideal.ofBits .f32 0x3E000000#32 else Ideal.ofBits .f32 0xFF800000#32 := by
  pointwise [scores]
  rw [WordCmp.cmpi_sle_ofNat (by omega) (by omega)]
  by_cases h : j.val ≤ i.val
  · rw [if_pos h, decide_eq_true h]; rfl
  · rw [if_neg h, decide_eq_false h]; rfl

theorem expo_at (s : FVec Ideal S8x4x2048x2048 .f32) (b : Fin 8) (p : Fin 4) (i j : Fin 2048) : expo s (ix4 b p i j)
    = FloatOps.exp (F := Ideal) (φ := .f32) (s (ix4 b p i j) - rowMax s (ix3 b p i)) := by
  pointwise [expo]

/-- A maximum over the last axis is the fold over that axis's coordinates. -/
theorem fold_last {A B C N : ℕ} (x : FVec Ideal ⟨4, ![A, B, C, N]⟩ .f32) (init : FVec Ideal S_ .f32)
    (h' : (⟨4, ![A, B, C, N]⟩ : Shape).ReducesTo [3] ⟨3, ![A, B, C]⟩) (h : (⟨4, ![A, B, C, N]⟩ : Shape).Reduces [3] ⟨3, ![A, B, C]⟩) (hu : 0 < S_.numel)
    (a : Fin A) (b : Fin B) (c : Fin C) :
    Host.reduce (FloatOps.maximumf (F := Ideal) (φ := .f32)) x init h' hu (ix3 a b c)
      = Finset.fold max (init (Shape.Idx.first hu)) (fun k : Fin N => x (ix4 a b c k)) Finset.univ := by
  refine (Host.reduce_eq_fold_single (FloatOps.maximumf (F := Ideal) (φ := .f32)) x init h' h hu _).trans ?_
  refine congrArg (fun f : Fin N → EReal => Finset.fold max (init (Shape.Idx.first hu)) f Finset.univ) (funext fun k => congrArg x (funext fun e => Fin.ext ?_))
  rw [h.lift_val]
  fin_cases e <;> rfl

theorem max_at {s : Shape} (x y : FVec Ideal s .f32) (i : s.Idx) : maximumf x y i = max (x i) (y i) := rfl

theorem lastAxis : S8x4x2048x2048.Reduces [3] S8x4x2048 := by decide

theorem rowMax_at (s : FVec Ideal S8x4x2048x2048 .f32) (b : Fin 8) (p : Fin 4) (i : Fin 2048) : rowMax s (ix3 b p i)
    = max (Ideal.ofBits .f32 0xFF800000#32) (Finset.fold max (Ideal.ofBits .f32 0xFF800000#32) (fun k : Fin 2048 => s (ix4 b p i k)) Finset.univ) := by
  have h := fold_last (A := 8) (B := 4) (C := 2048) (N := 2048) s (constant (F := Ideal) S_ .f32 0xFF800000#32) reducesTo_S8x4x2048x2048_S8x4x2048_d3 lastAxis h_S_ b p i
  have hc : (constant S_ .f32 0xFF800000#32 : FVec Ideal S_ .f32) (Shape.Idx.first h_S_) = Ideal.ofBits .f32 0xFF800000#32 := rfl
  rw [hc] at h
  rw [rowMax, max_at]
  refine congrArg₂ max ?_ ?_
  · rfl
  · exact h

theorem prob_at (e : FVec Ideal S8x4x2048x2048 .f32) (b : Fin 8) (p : Fin 4) (i j : Fin 2048) : prob e (ix4 b p i j)
    = Ideal.div (e (ix4 b p i j)) (∑ k : Fin 2048, e (ix4 b p i k)) := by
  pointwise [prob]
end

/-- One learned weight: the exponential of a row's dot product. -/
def lexp (x y : FVec Ideal S2x64 .f32) : FVec Ideal S_ .f32 :=
  Host.exp (Host.reduceAdd (mulf (shapeCast _ (extractStridedSlice S1x64 ![0, 0] x slices_S2x64_S1x64_0_0) shapeCasts_S1x64_S64) (shapeCast _ (extractStridedSlice S1x64 ![0, 0] y slices_S2x64_S1x64_0_0) shapeCasts_S1x64_S64)) (constant S_ .f32 0x00000000#32) reducesTo_S64_S_d0 h_S_)

theorem lexp_at (x y : FVec Ideal S2x64 .f32) (i : S_.Idx) : lexp x y i = FloatOps.exp (F := Ideal) (φ := .f32) (∑ d : Fin 64, x (ix2 0 d) * y (ix2 0 d)) := by
  pointwise [lexp]

/-- The difference of the two softmaxes, applied to the values. -/
def attend (p1 p2 : FVec Ideal S8x4x2048x2048 .f32) (l1 l2 : FVec Ideal S_ .f32) (v : FVec Ideal S8x4x2048x128 .f32) : FVec Ideal S8x4x2048x128 .f32 :=
  Host.dotGeneral dot_S8x4x2048x2048_S8x4x2048x128_S8x4x2048x128_3_2_2_3_01_01 none (subf p1 (mulf (broadcastInDim S8x4x2048x2048 ![] bcast_S_S8x4x2048x2048 (addf (subf l1 l2) (constant S_ .f32 0x3E4CCCCD#32))) p2)) v

theorem attend_at (p1 p2 : FVec Ideal S8x4x2048x2048 .f32) (l1 l2 : FVec Ideal S_ .f32) (v : FVec Ideal S8x4x2048x128 .f32) (b : Fin 8) (p : Fin 4) (i : Fin 2048) (d : Fin 128) :
    attend p1 p2 l1 l2 v (ix4 b p i d)
    = ∑ j : Fin 2048, (p1 (ix4 b p i j) - (l1 ix0 - l2 ix0 + Ideal.ofBits .f32 0x3E4CCCCD#32) * p2 (ix4 b p i j)) * v (ix4 b p j d) := by
  pointwise [attend]

/-- The sub-layer norm, the fixed factor and the gate of an attention. -/
def gated (o : FVec Ideal S8x4x2048x128 .f32) (w : FVec Ideal S2x128 .f32) (g : FVec Ideal S8x4x2048x128 .f32) : FVec Ideal S8x4x2048x128 .bf16 :=
  truncf .bf16 (mulf (mulf (mulf (mulf o (broadcastInDim S8x4x2048x128 ![0, 1, 2, 3] bcast_S8x4x2048x1_S8x4x2048x128_0_1_2_3 (Host.rsqrt (addf (Host.divf (broadcastInDim S8x4x2048x1 ![0, 1, 2] bcast_S8x4x2048_S8x4x2048x1_0_1_2 (Host.reduceAdd (mulf o o) (constant S_ .f32 0x00000000#32) reducesTo_S8x4x2048x128_S8x4x2048_d3 h_S_)) (broadcastInDim S8x4x2048x1 ![] bcast_S_S8x4x2048x1 (constant S_ .f32 0x43000000#32))) (broadcastInDim S8x4x2048x1 ![] bcast_S_S8x4x2048x1 (constant S_ .f32 0x358637BD#32)))))) (broadcastInDim S8x4x2048x128 ![0, 1, 2, 3] bcast_S1x1x1x128_S8x4x2048x128_0_1_2_3 (broadcastInDim S1x1x1x128 ![3] bcast_S128_S1x1x1x128_3 (shapeCast _ (extractStridedSlice S1x128 ![0, 0] w slices_S2x128_S1x128_0_0) shapeCasts_S1x128_S128)))) (broadcastInDim S8x4x2048x128 ![] bcast_S_S8x4x2048x128 (constant S_ .f32 0x3F4CCCCD#32))) (mulf g (Host.divf (broadcastInDim S8x4x2048x128 ![] bcast_S_S8x4x2048x128 (constant S_ .f32 0x3F800000#32)) (addf (broadcastInDim S8x4x2048x128 ![] bcast_S_S8x4x2048x128 (constant S_ .f32 0x3F800000#32)) (Host.exp (Host.negf g)))))) bitsLt_bf16_f32

theorem gated_at (o : FVec Ideal S8x4x2048x128 .f32) (w : FVec Ideal S2x128 .f32) (g : FVec Ideal S8x4x2048x128 .f32) (b : Fin 8) (p : Fin 4) (i : Fin 2048) (d : Fin 128) :
    gated o w g (ix4 b p i d)
    = o (ix4 b p i d) * FloatOps.rsqrt (F := Ideal) (φ := .f32) (Ideal.div (∑ e : Fin 128, o (ix4 b p i e) * o (ix4 b p i e)) (Ideal.ofBits .f32 0x43000000#32) + Ideal.ofBits .f32 0x358637BD#32)
      * w (ix2 0 d) * Ideal.ofBits .f32 0x3F4CCCCD#32
      * (g (ix4 b p i d) * Ideal.div (Ideal.ofBits .f32 0x3F800000#32) (Ideal.ofBits .f32 0x3F800000#32 + FloatOps.exp (F := Ideal) (φ := .f32) (-g (ix4 b p i d)))) := by
  pointwise [gated]

/-- The reference's result, in the pieces above. -/
theorem res_eq (m : (ℓ : Loc nD τ sig) → Buf (Elt Ideal) ℓ) (c : Dev nD) : Value.res_main_v76 m c
    = gated (attend (prob (expo (scores (m ((c.tc : Thread nD τ).loc main_arg0)) (m ((c.tc : Thread nD τ).loc main_arg2)))))
        (prob (expo (scores (m ((c.tc : Thread nD τ).loc main_arg1)) (m ((c.tc : Thread nD τ).loc main_arg3)))))
        (lexp (m ((c.tc : Thread nD τ).loc main_arg6)) (m ((c.tc : Thread nD τ).loc main_arg7)))
        (lexp (m ((c.tc : Thread nD τ).loc main_arg8)) (m ((c.tc : Thread nD τ).loc main_arg9))) (m ((c.tc : Thread nD τ).loc main_arg4)))
      (m ((c.tc : Thread nD τ).loc main_arg10)) (m ((c.tc : Thread nD τ).loc main_arg5)) := rfl

end Cert.Ref
-- ==== Proof.Join.lean ====
module

public import proofs.«01_k».proof.Proof.Array
public import proofs.«01_k».proof.Proof.Pack
public import proofs.«01_k».proof.Proof.Prob
public import proofs.«01_k».proof.Proof.RefAt

@[expose] public section

set_option maxRecDepth 16384

noncomputable section

namespace Cert.Diff

open Cert.KernelIdeal Cert.KernelIdeal.Gen Idealize.ShloMosaic Idealize.ShloMosaic.TcCoe

/-- The lane of one head map's coordinate. -/
def lane (b : Bool) (e : Fin 64) : Fin 128 := if b then Fin.castAdd 64 e else Fin.natAdd 64 e

/-- The score of one head map: only its own lanes count. -/
theorem sc_real (X : Vec Ideal S1x1x4x2048x128 .bf16) (b : Bool) (i j : ℕ) (Q K : Fin 64 → ℝ)
    (hq : ∀ e, ent X 0 i (lane b e) = (Q e : EReal)) (hk : ∀ e, ent X 1 j (lane b e) = (K e : EReal)) :
    sc X b i j = (((∑ e, Q e * K e) * (1 / 8) * (Real.log 2)⁻¹ : ℝ) : EReal) := by
  have hlane : sc X b i j = ∑ e : Fin 64, ent X 1 j (lane b e) * (ent X 0 i (lane b e) * (((1 / 8) * (Real.log 2)⁻¹ : ℝ) : EReal)) := by
    refine (Fin.sum_univ_add (a := 64) (b := 64) fun d : Fin (64 + 64) => ent X 1 j d * qz X b i d).trans ?_
    cases b with
    | true =>
      refine (congrArg₂ (· + ·) (Finset.sum_congr rfl fun e _ => ?_) (Finset.sum_eq_zero fun e _ => ?_)).trans (add_zero _)
      · refine congrArg (ent X 1 j (lane true e) * ·) (if_pos ?_)
        exact decide_eq_true e.isLt
      · refine (congrArg (ent X 1 j (Fin.natAdd 64 e) * ·) (if_neg ?_)).trans (mul_zero _)
        simp
    | false =>
      refine (congrArg₂ (· + ·) (Finset.sum_eq_zero fun e _ => ?_) (Finset.sum_congr rfl fun e _ => ?_)).trans (zero_add _)
      · refine (congrArg (ent X 1 j (Fin.castAdd 64 e) * ·) (if_neg ?_)).trans (mul_zero _)
        have := e.isLt
        simp
      · refine congrArg (ent X 1 j (lane false e) * ·) (if_pos ?_)
        exact decide_eq_false (by show ¬ 64 + e.val < 64; omega)
  rw [hlane, Finset.sum_congr rfl fun e _ => by rw [hq, hk, ← EReal.coe_mul, ← EReal.coe_mul], coe_sum, Finset.sum_mul, Finset.sum_mul]
  refine congrArg _ (Finset.sum_congr rfl fun e _ => ?_)
  ring

theorem sc_past (X : Vec Ideal S1x1x4x2048x128 .bf16) (b : Bool) (i j : ℕ) (h : ¬ j < 2048) : sc X b i j = 0 :=
  Finset.sum_eq_zero fun d _ => by
    rw [show ent X 1 j d = 0 from dif_neg h]
    exact zero_mul _

/-- An array all of whose entries are reals. -/
def Finite {s : Shape} (x : FVec Ideal s .f32) : Prop := ∀ i, ∃ r : ℝ, x i = (r : EReal)

section
variable (q1 q2 k1 k2 : FVec Ideal S8x4x2048x64 .f32) (v g : FVec Ideal S8x4x2048x128 .f32) (x1 x2 x3 x4 : FVec Ideal S2x64 .f32) (x5 : FVec Ideal S2x128 .f32)
  (b : Fin 8) (p : Fin 4)

theorem ent_eq (A : FVec Ideal S8x8x4x2048x128 .bf16) (kd : Fin 4) (n : Fin 2048) (d : Fin 128) :
    ent (pack A b p) kd n.val d = A (ix5 b ⟨4 + p.val, by omega⟩ kd n d) := dif_pos n.isLt

theorem ent_q (h : Bool) (n : Fin 2048) (e : Fin 64) :
    ent (pack (packed q1 q2 k1 k2 v g) b p) 0 n.val (lane h e) = (if h then q1 else q2) (ix4 b p n e) := by
  rw [ent_eq, packed_q]
  cases h with
  | true => exact dif_pos e.isLt
  | false =>
    refine (dif_neg (by show ¬ 64 + e.val < 64; omega)).trans ?_
    refine congrArg q2 (congrArg (ix4 b p n) (Fin.ext ?_))
    show 64 + e.val - 64 = e.val
    omega

theorem ent_k (h : Bool) (n : Fin 2048) (e : Fin 64) :
    ent (pack (packed q1 q2 k1 k2 v g) b p) 1 n.val (lane h e) = (if h then k1 else k2) (ix4 b p n e) := by
  rw [ent_eq, packed_k]
  cases h with
  | true => exact dif_pos e.isLt
  | false =>
    refine (dif_neg (by show ¬ 64 + e.val < 64; omega)).trans ?_
    refine congrArg k2 (congrArg (ix4 b p n) (Fin.ext ?_))
    show 64 + e.val - 64 = e.val
    omega

/-- The real score of key `j` for query `n` under one head map. -/
def score (Q K : S8x4x2048x64.Idx → ℝ) (n : Fin 2048) (j : ℕ) : ℝ :=
  if h : j < 2048 then (∑ e : Fin 64, Q (ix4 b p n e) * K (ix4 b p ⟨j, h⟩ e)) * (1 / 8) else 0

theorem sc_score (h : Bool) (Q K : S8x4x2048x64.Idx → ℝ) (hQ : ∀ i, (if h then q1 else q2) i = (Q i : EReal)) (hK : ∀ i, (if h then k1 else k2) i = (K i : EReal))
    (n : Fin 2048) (j : ℕ) : sc (pack (packed q1 q2 k1 k2 v g) b p) h n.val j = ((score b p Q K n j * (Real.log 2)⁻¹ : ℝ) : EReal) := by
  by_cases hj : j < 2048
  · rw [score, dif_pos hj]
    exact sc_real _ h n.val j _ _ (fun e => (ent_q q1 q2 k1 k2 v g b p h n e).trans (hQ _)) (fun e => (ent_k q1 q2 k1 k2 v g b p h ⟨j, hj⟩ e).trans (hK _))
  · rw [score, dif_neg hj, sc_past _ _ _ _ hj, zero_mul, EReal.coe_zero]

/-- The reference's softmax weights. -/
theorem prob_eq (q k : FVec Ideal S8x4x2048x64 .f32) (Q K : S8x4x2048x64.Idx → ℝ) (hQ : ∀ i, q i = (Q i : EReal)) (hK : ∀ i, k i = (K i : EReal)) (n j : Fin 2048) :
    Ref.prob (Ref.expo (Ref.scores q k)) (ix4 b p n j) = (wt n (score b p Q K n) j.val : EReal) := by
  have hx : ∀ j : Fin 2048, Ref.scores q k (ix4 b p n j) = if j.val ≤ n.val then (score b p Q K n j.val : EReal) else ⊥ := by
    intro j
    rw [Ref.scores_at, Consts.ofBits_negInf, Consts.ofBits_eighth, score, dif_pos j.isLt, EReal.coe_mul, ← coe_sum]
    refine if_congr Iff.rfl (congrArg (· * _) (Finset.sum_congr rfl fun e _ => ?_)) rfl
    rw [hQ, hK, EReal.coe_mul]
  obtain ⟨M, hM⟩ := row_max n _ (fun j => Ref.scores q k (ix4 b p n j)) hx
  rw [Ref.prob_at, Ref.expo_at, Finset.sum_congr rfl fun k _ => Ref.expo_at _ b p n k, Ref.rowMax_at, hM]
  exact softmax_at n _ _ hx M j

theorem lamS_real (h1 : Finite x1) (h2 : Finite x2) (h3 : Finite x3) (h4 : Finite x4) : ∃ l : ℝ, lamS x1 x2 x3 x4 = (l : EReal) := by
  choose y1 e1 using h1
  choose y2 e2 using h2
  choose y3 e3 using h3
  choose y4 e4 using h4
  obtain ⟨r, hr⟩ := Consts.ofBits_lam
  refine ⟨Real.exp (∑ d : Fin 64, y1 (ix2 0 d) * y2 (ix2 0 d)) - Real.exp (∑ d : Fin 64, y3 (ix2 0 d) * y4 (ix2 0 d)) + r, ?_⟩
  rw [lamS, hr, Finset.sum_congr rfl fun d _ => show x1 (ix2 0 d) * x2 (ix2 0 d) = ((y1 (ix2 0 d) * y2 (ix2 0 d) : ℝ) : EReal) by rw [e1, e2, EReal.coe_mul],
    Finset.sum_congr rfl fun d _ => show x3 (ix2 0 d) * x4 (ix2 0 d) = ((y3 (ix2 0 d) * y4 (ix2 0 d) : ℝ) : EReal) by rw [e3, e4, EReal.coe_mul], coe_sum, coe_sum, EReal.coe_add, EReal.coe_sub]
  rfl

/-- The reference's difference of head maps is the kernel's. -/
theorem attend_eq (hq1 : Finite q1) (hq2 : Finite q2) (hk1 : Finite k1) (hk2 : Finite k2) (hv : Finite v)
    (h1 : Finite x1) (h2 : Finite x2) (h3 : Finite x3) (h4 : Finite x4) (n : Fin 2048) (d : Fin 128) :
    dfS (pack (packed q1 q2 k1 k2 v g) b p) x1 x2 x3 x4 (n.val / 512) (n.val % 512) d
      = Ref.attend (Ref.prob (Ref.expo (Ref.scores q1 k1))) (Ref.prob (Ref.expo (Ref.scores q2 k2))) (Ref.lexp x1 x2) (Ref.lexp x3 x4) v (ix4 b p n d) := by
  choose Q1 eQ1 using hq1
  choose Q2 eQ2 using hq2
  choose K1 eK1 using hk1
  choose K2 eK2 using hk2
  choose W eW using hv
  obtain ⟨l, hl⟩ := lamS_real x1 x2 x3 x4 h1 h2 h3 h4
  have hn : 512 * (n.val / 512) + n.val % 512 = n.val := Nat.div_add_mod _ _
  let w : ℕ → Fin 128 → ℝ := fun j d => if h : j < 2048 then W (ix4 b p ⟨j, h⟩ d) else 0
  have hw : ∀ j d, ent (pack (packed q1 q2 k1 k2 v g) b p) 2 j d = (w j d : EReal) := by
    intro j d
    by_cases h : j < 2048
    · rw [show w j d = W (ix4 b p ⟨j, h⟩ d) from dif_pos h, ← eW]
      exact (ent_eq b p _ 2 ⟨j, h⟩ d).trans (packed_v q1 q2 k1 k2 v g b p _ _)
    · rw [show w j d = 0 from dif_neg h, EReal.coe_zero]
      exact dif_neg h
  have t1 := hd_eq (pack (packed q1 q2 k1 k2 v g) b p) (sc _ true) (n.val / 512) (n.val % 512) (Nat.mod_lt _ (by decide)) (score b p Q1 K1 n)
    (fun j => by rw [hn]; exact sc_score q1 q2 k1 k2 v g b p true Q1 K1 eQ1 eK1 n j) w hw d
  have t2 := hd_eq (pack (packed q1 q2 k1 k2 v g) b p) (sc _ false) (n.val / 512) (n.val % 512) (Nat.mod_lt _ (by decide)) (score b p Q2 K2 n)
    (fun j => by rw [hn]; exact sc_score q1 q2 k1 k2 v g b p false Q2 K2 eQ2 eK2 n j) w hw d
  rw [hn] at t1 t2
  rw [dfS, t1, t2, hl, ← diff_eq, Ref.attend_at]
  refine Finset.sum_congr rfl fun j _ => ?_
  rw [prob_eq b p q1 k1 Q1 K1 eQ1 eK1, prob_eq b p q2 k2 Q2 K2 eQ2 eK2, Ref.lexp_at, Ref.lexp_at, eW,
    show w j.val d = W (ix4 b p j d) from dif_pos j.isLt, ← hl]
  rfl

/-- The kernel's result array is the reference's. -/
theorem result_eq (hq1 : Finite q1) (hq2 : Finite q2) (hk1 : Finite k1) (hk2 : Finite k2) (hv : Finite v)
    (h1 : Finite x1) (h2 : Finite x2) (h3 : Finite x3) (h4 : Finite x4) :
    result (packed q1 q2 k1 k2 v g) x1 x2 x3 x4 x5
      = Ref.gated (Ref.attend (Ref.prob (Ref.expo (Ref.scores q1 k1))) (Ref.prob (Ref.expo (Ref.scores q2 k2))) (Ref.lexp x1 x2) (Ref.lexp x3 x4) v) x5 g := by
  funext y
  idx_vars y
  refine Eq.trans ?_ (Ref.gated_at _ _ _ y0 y1 y2 y3).symm
  show outS (pack (packed q1 q2 k1 k2 v g) y0 y1) x1 x2 x3 x4 x5 (y2.val / 512) (y2.val % 512) y3 = _
  rw [outS, normGate, Nat.div_add_mod, ent_eq, packed_g, ofBits_one]
  simp only [attend_eq q1 q2 k1 k2 v g x1 x2 x3 x4 y0 y1 hq1 hq2 hk1 hk2 hv h1 h2 h3 h4 y2]
  rfl

end

end Cert.Diff
-- ==== Proof.ProjRow.lean ====
module

public import proofs.«01_k».proof.Proof.Gen.ProjectIdeal.Frame
public import Idealize.ShloMosaic.Lib.Pipeline.ValueKit

@[expose] public section

set_option maxRecDepth 16384

noncomputable section

namespace Cert.Proj

open Cert.ProjectIdeal Cert.ProjectIdeal.Gen Idealize.ShloMosaic Idealize.ShloMosaic.TcCoe

/-- A row scaled to unit mean square, times a weight. -/
def nrm (y w : Fin 1024 → EReal) (d : Fin 1024) : EReal :=
  y d * FloatOps.rsqrt (F := Ideal) (φ := .f32) (Ideal.div (∑ e : Fin 1024, y e * y e) (Ideal.ofBits .f32 0x44800000#32) + Ideal.ofBits .f32 0x358637BD#32) * w d

/-- The residual stream's row after a mixer: the projected, normed and gated output added to it. -/
def upd (o : Fin 1024 → EReal) (W : Fin 1024 → Fin 1024 → EReal) (x gate w : Fin 1024 → EReal) (d : Fin 1024) : EReal :=
  x d + gate d * nrm (fun f => ∑ e : Fin 1024, o e * W e f) w d

/-- The row that enters the projection: normed, scaled and shifted. -/
def mdl (x w scale shift : Fin 1024 → EReal) (d : Fin 1024) : EReal :=
  nrm x w d * (Ideal.ofBits .f32 0x3F800000#32 + scale d) + shift d

/-- Eight slabs of 128 lanes as one row. -/
def cat8 (o : Fin 8 → FVec Ideal S256x128 .bf16) (r : Fin 256) (e : Fin 1024) : EReal :=
  o ⟨e.val / 128, by omega⟩ (ix2 r ⟨e.val % 128, by omega⟩)

theorem cat_at (o : Fin 8 → FVec Ideal S256x128 .bf16) (h) (r : Fin 256) (e : Fin 1024) :
    concatenate S256x1024 1 [⟨S256x128, o 0⟩, ⟨S256x128, o 1⟩, ⟨S256x128, o 2⟩, ⟨S256x128, o 3⟩, ⟨S256x128, o 4⟩, ⟨S256x128, o 5⟩, ⟨S256x128, o 6⟩, ⟨S256x128, o 7⟩] h (ix2 r e)
      = cat8 o r e := by
  have key (j : Fin 8) (x : Fin 128) (h1 : j.val = e.val / 128) (h2 : x.val = e.val % 128) : o j (ix2 r x) = cat8 o r e :=
    congrArg₂ (fun a b => o a (ix2 r b)) (Fin.ext h1) (Fin.ext h2)
  pointwise
  by_cases h0 : e.val < 128
  · rw [dif_pos h0]
    exact key _ _ (by change 0 = _; omega) (by change e.val = _; omega)
  rw [dif_neg h0]
  by_cases h1 : e.val - 128 < 128
  · rw [dif_pos h1]
    exact key _ _ (by change 1 = _; omega) (by change e.val - 128 = _; omega)
  rw [dif_neg h1]
  by_cases h2 : e.val - 128 - 128 < 128
  · rw [dif_pos h2]
    exact key _ _ (by change 2 = _; omega) (by change e.val - 128 - 128 = _; omega)
  rw [dif_neg h2]
  by_cases h3 : e.val - 128 - 128 - 128 < 128
  · rw [dif_pos h3]
    exact key _ _ (by change 3 = _; omega) (by change e.val - 128 - 128 - 128 = _; omega)
  rw [dif_neg h3]
  by_cases h4 : e.val - 128 - 128 - 128 - 128 < 128
  · rw [dif_pos h4]
    exact key _ _ (by change 4 = _; omega) (by change e.val - 128 - 128 - 128 - 128 = _; omega)
  rw [dif_neg h4]
  by_cases h5 : e.val - 128 - 128 - 128 - 128 - 128 < 128
  · rw [dif_pos h5]
    exact key _ _ (by change 5 = _; omega) (by change e.val - 128 - 128 - 128 - 128 - 128 = _; omega)
  rw [dif_neg h5]
  by_cases h6 : e.val - 128 - 128 - 128 - 128 - 128 - 128 < 128
  · rw [dif_pos h6]
    exact key _ _ (by change 6 = _; omega) (by change e.val - 128 - 128 - 128 - 128 - 128 - 128 = _; omega)
  rw [dif_neg h6]
  exact key _ _ (by change 7 = _; omega) (by change e.val - 128 - 128 - 128 - 128 - 128 - 128 - 128 = _; omega)

theorem pay13 (v1 : FVec Ideal S256x1024 .f32) (v3 v5 : FVec Ideal S1x1024 .f32) (o0 o1 o2 o3 o4 o5 : FVec Ideal S256x128 .bf16) (o6 o7 : Vec Ideal S1x1x256x128 .bf16)
    (w : Vec Ideal S1x1024x1024 .bf16) (r : Fin 256) (d : Fin 1024) :
    k0_pay13 v1 v3 v5 o0 o1 o2 o3 o4 o5 o6 o7 w (ix2 r d)
      = upd (cat8 ![o0, o1, o2, o3, o4, o5, k0_pay11 o6, k0_pay12 o7] r) (fun e f => w (ix3 0 e f)) (fun f => v1 (ix2 r f)) (fun f => v3 (ix2 0 f)) (fun f => v5 (ix2 0 f)) d := by
  have h := cat_at ![o0, o1, o2, o3, o4, o5, k0_pay11 o6, k0_pay12 o7] concatenates_S256x128_S256x128_S256x128_S256x128_S256x128_S256x128_S256x128_S256x128_S256x1024_d1 r
  generalize hc : cat8 ![o0, o1, o2, o3, o4, o5, k0_pay11 o6, k0_pay12 o7] r = cc at h ⊢
  unfold k0_pay13
  change ∀ e, concatenate S256x1024 1 [⟨S256x128, o0⟩, ⟨S256x128, o1⟩, ⟨S256x128, o2⟩, ⟨S256x128, o3⟩, ⟨S256x128, o4⟩, ⟨S256x128, o5⟩, ⟨S256x128, shapeCast S256x128 o6 shapeCasts_S1x1x256x128_S256x128⟩, ⟨S256x128, shapeCast S256x128 o7 shapeCasts_S1x1x256x128_S256x128⟩] concatenates_S256x128_S256x128_S256x128_S256x128_S256x128_S256x128_S256x128_S256x128_S256x1024_d1 (ix2 r e) = _ at h
  generalize concatenate S256x1024 1 [⟨S256x128, o0⟩, ⟨S256x128, o1⟩, ⟨S256x128, o2⟩, ⟨S256x128, o3⟩, ⟨S256x128, o4⟩, ⟨S256x128, o5⟩, ⟨S256x128, shapeCast S256x128 o6 shapeCasts_S1x1x256x128_S256x128⟩, ⟨S256x128, shapeCast S256x128 o7 shapeCasts_S1x1x256x128_S256x128⟩] concatenates_S256x128_S256x128_S256x128_S256x128_S256x128_S256x128_S256x128_S256x128_S256x1024_d1 = C at h ⊢
  pointwise [upd, nrm, h]

theorem pay15 (v57 : FVec Ideal S256x1024 .f32) (v123 : Vec Ideal S1x1x1024 .f32) (v127 v133 : Vec Ideal S1x1x1x1x1024 .f32) (r : Fin 256) (d : Fin 1024) :
    k0_pay25 v57 v123 v127 v133 (ix2 r d)
      = mdl (fun f => v57 (ix2 r f)) (fun f => v123 (ix3 0 0 f)) (fun f => v127 (ix5 0 0 0 0 f)) (fun f => v133 (ix5 0 0 0 0 f)) d := by
  pointwise [k0_pay25, mdl, nrm]

/-- A slab of the projection as it is stored. -/
def plainP (o : ℕ) (hs : S256x256.Slices ![0, o] S256x128) (h : FVec Ideal S256x1024 .bf16) (w : Vec Ideal S1x1024x256 .bf16) : FVec Ideal S1x1x1x256x128 .bf16 :=
  shapeCast S1x1x1x256x128 (truncf .bf16 (extractStridedSlice S256x128 ![0, o] (k0_pay1 h w) hs) bitsLt_bf16_f32) shapeCasts_S256x128_S1x1x1x256x128

/-- A slab of queries or keys as it is stored: the lanes times a cosine, plus two rotations of the lanes times a sine each. -/
def ropeP (o : ℕ) (hs : S256x256.Slices ![0, o] S256x128) (h : FVec Ideal S256x1024 .bf16) (w : Vec Ideal S1x1024x256 .bf16) (c s t : FVec Ideal S256x128 .f32) : FVec Ideal S1x1x1x256x128 .bf16 :=
  shapeCast S1x1x1x256x128 (truncf .bf16 (addf (addf (mulf (extractStridedSlice S256x128 ![0, o] (k0_pay1 h w) hs) c)
    (mulf (dynamicRotate 1 120#32 none (extractStridedSlice S256x128 ![0, o] (k0_pay1 h w) hs) rotates_S256x128_d1) s))
    (mulf (dynamicRotate 1 8#32 none (extractStridedSlice S256x128 ![0, o] (k0_pay1 h w) hs) rotates_S256x128_d1) t)) bitsLt_bf16_f32) shapeCasts_S256x128_S1x1x1x256x128

theorem pay1 (h : FVec Ideal S256x1024 .bf16) (w : Vec Ideal S1x1024x256 .bf16) (r : Fin 256) (l : Fin 256) :
    k0_pay1 h w (ix2 r l) = ∑ e : Fin 1024, h (ix2 r e) * w (ix3 0 e l) := by
  pointwise [k0_pay1]

theorem slice_at (o : ℕ) (ho : o + 128 ≤ 256) (hs : S256x256.Slices ![0, o] S256x128) (x : FVec Ideal S256x256 .f32) (r : Fin 256) (l : Fin 128) :
    extractStridedSlice S256x128 ![0, o] x hs (ix2 r l) = x (ix2 r ⟨o + l.val, by omega⟩) := by
  pointwise

theorem rot_at (n : BitVec 32) (k : ℕ) (hk : n.toNat = 128 - k) (hk' : k < 128) (x : FVec Ideal S256x128 .f32) (r : Fin 256) (l : Fin 128) :
    dynamicRotate 1 n none x rotates_S256x128_d1 (ix2 r l) = x (ix2 r ⟨(l.val + k) % 128, Nat.mod_lt _ (by decide)⟩) := by
  refine congrArg x (funext fun b => Fin.ext ?_)
  fin_cases b
  · simp
  · simp [hk]
    omega

theorem plain_at (o : ℕ) (ho : o + 128 ≤ 256) (hs) (h : FVec Ideal S256x1024 .bf16) (w : Vec Ideal S1x1024x256 .bf16) (r : Fin 256) (l : Fin 128) :
    plainP o hs h w (ix5 0 0 0 r l) = ∑ e : Fin 1024, h (ix2 r e) * w (ix3 0 e ⟨o + l.val, by omega⟩) := by
  refine Eq.trans ?_ ((slice_at o ho hs (k0_pay1 h w) r l).trans (pay1 h w r _))
  unfold plainP
  generalize extractStridedSlice S256x128 ![0, o] (k0_pay1 h w) hs = X
  pointwise

theorem rope_at (o : ℕ) (ho : o + 128 ≤ 256) (hs) (h : FVec Ideal S256x1024 .bf16) (w : Vec Ideal S1x1024x256 .bf16) (c s t : FVec Ideal S256x128 .f32) (r : Fin 256) (l : Fin 128) :
    ropeP o hs h w c s t (ix5 0 0 0 r l)
      = (∑ e : Fin 1024, h (ix2 r e) * w (ix3 0 e ⟨o + l.val, by omega⟩)) * c (ix2 r l)
        + (∑ e : Fin 1024, h (ix2 r e) * w (ix3 0 e ⟨o + (l.val + 8) % 128, by omega⟩)) * s (ix2 r l)
        + (∑ e : Fin 1024, h (ix2 r e) * w (ix3 0 e ⟨o + (l.val + 120) % 128, by omega⟩)) * t (ix2 r l) := by
  have e (k : Fin 128) := (slice_at o ho hs (k0_pay1 h w) r k).trans (pay1 h w r _)
  unfold ropeP
  generalize extractStridedSlice S256x128 ![0, o] (k0_pay1 h w) hs = X at e ⊢
  have e8 := rot_at 120#32 8 rfl (by decide) X r l
  have e120 := rot_at 8#32 120 rfl (by decide) X r l
  rw [e] at e8 e120
  rw [← e l, ← e8, ← e120]
  generalize dynamicRotate 1 120#32 none X rotates_S256x128_d1 = Y
  generalize dynamicRotate 1 8#32 none X rotates_S256x128_d1 = Z
  pointwise

end Cert.Proj
-- ==== Proof.ProjOut.lean ====
module

public import proofs.«01_k».proof.Proof.ProjRow
public import Idealize.ShloMosaic.Lib.Pipeline.ReadBack

@[expose] public section

set_option maxRecDepth 16384

noncomputable section

namespace Cert.Proj

open Cert.ProjectIdeal Cert.ProjectIdeal.Gen Idealize.ShloMosaic Idealize.ShloMosaic.TcCoe

variable (x0 x1 : Vec Ideal S1x4x512x128 .bf16) (x2 : Vec Ideal S1x1024x1024 .bf16) (x3 : Vec Ideal S1x1x1x1x1024 .f32) (x4 : Vec Ideal S1x1x1024 .f32)
  (x5 : Vec Ideal S1x512x1024 .f32) (x6 x7 : Vec Ideal S1x1x1x1x1024 .f32) (x8 : Vec Ideal S1x1x1024 .f32) (x9 : Vec Ideal S1x1024x4096 .bf16)
  (x10 x11 x12 : Vec Ideal S1x512x128 .f32)

/-- A row of the mixers' outputs, one slab of lanes after the other. -/
def slabB (j : Fin 8) (r : Fin 512) (l : Fin 128) : EReal :=
  if h : j.val < 4 then x0 (ix4 0 ⟨j.val, h⟩ r l) else x1 (ix4 0 ⟨j.val - 4, by omega⟩ r l)

def catB (r : Fin 512) (e : Fin 1024) : EReal := slabB x0 x1 ⟨e.val / 128, by omega⟩ r ⟨e.val % 128, by omega⟩

/-- A row of the new residual stream. -/
def xB (r : Fin 512) (d : Fin 1024) : EReal :=
  upd (catB x0 x1 r) (fun e f => x2 (ix3 0 e f)) (fun f => x5 (ix3 0 r f)) (fun f => x3 (ix5 0 0 0 0 f)) (fun f => x4 (ix3 0 0 f)) d

/-- A row that enters the projection. -/
def hB (r : Fin 512) (d : Fin 1024) : EReal :=
  mdl (xB x0 x1 x2 x3 x4 x5 r) (fun f => x8 (ix3 0 0 f)) (fun f => x7 (ix5 0 0 0 0 f)) (fun f => x6 (ix5 0 0 0 0 f)) d

/-- One column of a row's projection. -/
def col (h : Fin 1024 → EReal) (W : Fin 1024 → Fin 4096 → EReal) (n : ℕ) : EReal :=
  if hn : n < 4096 then ∑ e : Fin 1024, h e * W e ⟨n, hn⟩ else 0

/-- One entry of a projected slab: queries and keys are rotated, values and gates are not. -/
def slabE (h : Fin 1024 → EReal) (W : Fin 1024 → Fin 4096 → EReal) (c s t : Fin 128 → EReal) (u k : ℕ) (l : Fin 128) : EReal :=
  if k < 2 then col h W (1024 * k + 128 * u + l.val) * c l + col h W (1024 * k + 128 * u + (l.val + 8) % 128) * s l
      + col h W (1024 * k + 128 * u + (l.val + 120) % 128) * t l
  else col h W (1024 * k + 128 * u + l.val)

/-- A row of the tile that starts at row `o`. -/
def row (o : ℕ) (ho : o + 256 ≤ 512) (r : Fin 256) : Fin 512 := ⟨o + r.val, by omega⟩

section
variable (o : ℕ) (ho : o + 256 ≤ 512)
include ho

theorem ld_x (i) (y0 : Fin 1) (y1 : Fin 256) (y2 : Fin 1024) :
    View.ld x5 (Rect.unit (s := S1x512x1024) ![0, o, 0] S1x256x1024.size i) (ix3 y0 y1 y2) = x5 (ix3 0 (row o ho y1) y2) := by
  refine congrArg x5 (funext fun a => Fin.ext ?_)
  fin_cases a
  · simp
  · simp [row]
  · simp

theorem ld_tab (i) (y0 : Fin 1) (y1 : Fin 256) (y2 : Fin 128) :
    View.ld x10 (Rect.unit (s := S1x512x128) ![0, o, 0] S1x256x128.size i) (ix3 y0 y1 y2) = x10 (ix3 0 (row o ho y1) y2) := by
  refine congrArg x10 (funext fun a => Fin.ext ?_)
  fin_cases a
  · simp
  · simp [row]
  · simp

theorem ld_o (j : Fin 4) (i) (y0 y1 : Fin 1) (y2 : Fin 256) (y3 : Fin 128) :
    View.ld x0 (Rect.unit (s := S1x4x512x128) ![0, j.val, o, 0] S1x1x256x128.size i) (ix4 y0 y1 y2 y3) = x0 (ix4 0 j (row o ho y2) y3) := by
  refine congrArg x0 (funext fun a => Fin.ext ?_)
  fin_cases a
  · simp
  · simp
  · simp [row]
  · simp
end

theorem ld_v1 (i) : View.ld x3 (Rect.unit (s := S1x1x1x1x1024) ![0, 0, 0, 0, 0] S1x1x1x1x1024.size i) = x3 := by
  funext y
  refine congrArg x3 (funext fun a => Fin.ext ?_)
  fin_cases a <;> simp

theorem ld_v2 (i) : View.ld x4 (Rect.unit (s := S1x1x1024) ![0, 0, 0] S1x1x1024.size i) = x4 := by
  funext y
  refine congrArg x4 (funext fun a => Fin.ext ?_)
  fin_cases a <;> simp

theorem ld_w (i) : View.ld x2 (Rect.unit (s := S1x1024x1024) ![0, 0, 0] S1x1024x1024.size i) = x2 := by
  funext y
  refine congrArg x2 (funext fun a => Fin.ext ?_)
  fin_cases a <;> simp

theorem ld_W (n : ℕ) (hn : n + 256 ≤ 4096) (i) (y0 : Fin 1) (y1 : Fin 1024) (y2 : Fin 256) :
    View.ld x9 (Rect.unit (s := S1x1024x4096) ![0, 0, n] S1x1024x256.size i) (ix3 y0 y1 y2) = x9 (ix3 0 y1 ⟨n + y2.val, by omega⟩) := by
  refine congrArg x9 (funext fun a => Fin.ext ?_)
  fin_cases a
  · simp
  · simp
  · simp

/-- Rows of the residual stream as the kernel computes them. -/
def xT (o : ℕ) (h5 : ∀ a, ![0, o, 0] a + S1x256x1024.size a ≤ S1x512x1024.size a) (h0 : ∀ (j : Fin 4) a, ![0, j.val, o, 0] a + S1x1x256x128.size a ≤ S1x4x512x128.size a) : FVec Ideal S256x1024 .f32 :=
  k0_pay13 (k0_pay4 (View.ld x5 (Rect.unit (s := S1x512x1024) ![0, o, 0] S1x256x1024.size h5))) (k0_pay5 (View.ld x3 r0_1)) (k0_pay6 (View.ld x4 r0_2))
    (k0_pay7 (View.ld x0 (Rect.unit (s := S1x4x512x128) ![0, (0 : Fin 4).val, o, 0] S1x1x256x128.size (h0 0))))
    (k0_pay8 (View.ld x0 (Rect.unit (s := S1x4x512x128) ![0, (1 : Fin 4).val, o, 0] S1x1x256x128.size (h0 1))))
    (k0_pay9 (View.ld x0 (Rect.unit (s := S1x4x512x128) ![0, (2 : Fin 4).val, o, 0] S1x1x256x128.size (h0 2))))
    (k0_pay10 (View.ld x0 (Rect.unit (s := S1x4x512x128) ![0, (3 : Fin 4).val, o, 0] S1x1x256x128.size (h0 3))))
    (k0_pay11 (View.ld x1 (Rect.unit (s := S1x4x512x128) ![0, (0 : Fin 4).val, o, 0] S1x1x256x128.size (h0 0))))
    (k0_pay12 (View.ld x1 (Rect.unit (s := S1x4x512x128) ![0, (1 : Fin 4).val, o, 0] S1x1x256x128.size (h0 1))))
    (View.ld x1 (Rect.unit (s := S1x4x512x128) ![0, (2 : Fin 4).val, o, 0] S1x1x256x128.size (h0 2)))
    (View.ld x1 (Rect.unit (s := S1x4x512x128) ![0, (3 : Fin 4).val, o, 0] S1x1x256x128.size (h0 3))) (View.ld x2 r0_7)

theorem pay7_at (p : Vec Ideal S1x1x256x128 .bf16) (r : Fin 256) (l : Fin 128) : k0_pay7 p (ix2 r l) = p (ix4 0 0 r l) := by
  pointwise [k0_pay7]

theorem xT_at (o : ℕ) (ho : o + 256 ≤ 512) (h5 h0) (r : Fin 256) (d : Fin 1024) :
    xT x0 x1 x2 x3 x4 x5 o h5 h0 (ix2 r d) = xB x0 x1 x2 x3 x4 x5 (row o ho r) d := by
  unfold xT
  rw [pay13, ld_w, ld_v1, ld_v2]
  unfold xB
  congr 1
  · funext e
    refine Eq.trans (b := slabB x0 x1 ⟨e.val / 128, by omega⟩ (row o ho r) ⟨e.val % 128, by omega⟩) ?_ rfl
    unfold cat8
    generalize (⟨e.val / 128, _⟩ : Fin 8) = j
    generalize (⟨e.val % 128, _⟩ : Fin 128) = l
    fin_cases j
    · exact (pay7_at _ r l).trans (ld_o x0 o ho 0 _ _ _ _ _)
    · exact (pay7_at _ r l).trans (ld_o x0 o ho 1 _ _ _ _ _)
    · exact (pay7_at _ r l).trans (ld_o x0 o ho 2 _ _ _ _ _)
    · exact (pay7_at _ r l).trans (ld_o x0 o ho 3 _ _ _ _ _)
    · exact (pay7_at _ r l).trans (ld_o x1 o ho 0 _ _ _ _ _)
    · exact (pay7_at _ r l).trans (ld_o x1 o ho 1 _ _ _ _ _)
    · exact (pay7_at _ r l).trans (ld_o x1 o ho 2 _ _ _ _ _)
    · exact (pay7_at _ r l).trans (ld_o x1 o ho 3 _ _ _ _ _)
  · funext f
    pointwise [k0_pay4]
    rfl
  · funext f
    pointwise [k0_pay5]
  · funext f
    pointwise [k0_pay6]

/-- Rows that enter the projection as the kernel computes them. -/
def hT (o : ℕ) (h5 : ∀ a, ![0, o, 0] a + S1x256x1024.size a ≤ S1x512x1024.size a) (h0 : ∀ (j : Fin 4) a, ![0, j.val, o, 0] a + S1x1x256x128.size a ≤ S1x4x512x128.size a) : FVec Ideal S256x1024 .bf16 :=
  k0_pay25 (xT x0 x1 x2 x3 x4 x5 o h5 h0) (View.ld x8 r0_2) (View.ld x7 r0_1) (View.ld x6 r0_1)

theorem hT_at (o : ℕ) (ho : o + 256 ≤ 512) (h5 h0) (r : Fin 256) (d : Fin 1024) :
    hT x0 x1 x2 x3 x4 x5 x6 x7 x8 o h5 h0 (ix2 r d) = hB x0 x1 x2 x3 x4 x5 x6 x7 x8 (row o ho r) d := by
  unfold hT
  rw [pay15, ld_v1, ld_v1, ld_v2]
  unfold hB
  congr 1
  funext f
  exact xT_at x0 x1 x2 x3 x4 x5 o ho h5 h0 r f

/-- The block of the new residual stream. -/
def outX : FVec Ideal S1x512x1024 .f32 := fun y => xB x0 x1 x2 x3 x4 x5 (y 1) (y 2)

/-- The block of the projection. -/
def outP : FVec Ideal S1x8x4x512x128 .bf16 := fun y =>
  slabE (hB x0 x1 x2 x3 x4 x5 x6 x7 x8 (y 3)) (fun e f => x9 (ix3 0 e f)) (fun l => x10 (ix3 0 (y 3) l)) (fun l => x11 (ix3 0 (y 3) l)) (fun l => x12 (ix3 0 (y 3) l))
    (y 1).val (y 2).val (y 4)

theorem cast_at (X : FVec Ideal S256x1024 .f32) (r : Fin 256) (d : Fin 1024) : shapeCast S1x256x1024 X shapeCasts_S256x1024_S1x256x1024 (ix3 0 r d) = X (ix2 r d) := by
  pointwise

theorem tileX (o : ℕ) (ho : o + 256 ≤ 512) (h5 h0) (x : (Rect.unit (s := S1x512x1024) ![0, o, 0] S1x256x1024.size h5).shape.Idx) :
    shapeCast S1x256x1024 (xT x0 x1 x2 x3 x4 x5 o h5 h0) shapeCasts_S256x1024_S1x256x1024 x
      = outX x0 x1 x2 x3 x4 x5 ((Rect.unit (s := S1x512x1024) ![0, o, 0] S1x256x1024.size h5).emb x) := by
  have e1 : (Rect.unit (s := S1x512x1024) ![0, o, 0] S1x256x1024.size h5).emb x 1 = row o ho (x 1) := Fin.ext (by simp [row])
  have e2 : (Rect.unit (s := S1x512x1024) ![0, o, 0] S1x256x1024.size h5).emb x 2 = x 2 := Fin.ext (by simp)
  have ex : x = (ix3 0 (x 1) (x 2) : S1x256x1024.Idx) := by
    refine funext fun a => Fin.ext ?_
    have h0 : (x 0).val < 1 := (x 0).isLt
    fin_cases a
    · exact Nat.lt_one_iff.mp h0
    · rfl
    · rfl
  refine Eq.trans ?_ (congrArg₂ (xB x0 x1 x2 x3 x4 x5) e1.symm e2.symm)
  refine Eq.trans ?_ (xT_at x0 x1 x2 x3 x4 x5 o ho h5 h0 (x 1) (x 2))
  refine (congrArg _ ex).trans ?_
  exact cast_at _ _ _

theorem out13 : out0_13 x0 x1 x2 x3 x4 x5 x6 x7 x8 x9 x10 x11 x12 = outX x0 x1 x2 x3 x4 x5 := by
  funext y
  unfold out0_13
  refine View.canon_apply_of_pieces (Val := Elt Ideal) (e := .f32) (outX x0 x1 x2 x3 x4 x5) _ (View.PiecesOf.mem ?_) y (cover0_13 _ _ y)
  refine ⟨fun x => ?_, fun x => ?_, trivial⟩
  · exact tileX x0 x1 x2 x3 x4 x5 256 (by decide) (by decide) (by decide) x
  · exact tileX x0 x1 x2 x3 x4 x5 0 (by decide) (by decide) (by decide) x

/-- The sum behind one entry of a slab is a column of the projection. -/
theorem col_at (o : ℕ) (ho : o + 256 ≤ 512) (h5 h0) (n m off : ℕ) (hn : n + 256 ≤ 4096) (hm : m = n + off) (hoff : off < 256) (i) (r : Fin 256) :
    ∑ e : Fin 1024, hT x0 x1 x2 x3 x4 x5 x6 x7 x8 o h5 h0 (ix2 r e) * View.ld x9 (Rect.unit (s := S1x1024x4096) ![0, 0, n] S1x1024x256.size i) (ix3 0 e ⟨off, hoff⟩)
      = col (hB x0 x1 x2 x3 x4 x5 x6 x7 x8 (row o ho r)) (fun e f => x9 (ix3 0 e f)) m := by
  subst hm
  unfold col
  rw [dif_pos (by omega)]
  exact Finset.sum_congr rfl fun e _ => congrArg₂ _ (hT_at x0 x1 x2 x3 x4 x5 x6 x7 x8 o ho h5 h0 r e) (ld_W x9 n hn i 0 e ⟨off, hoff⟩)

/-- Where an entry of a stored slab lies in the block. -/
theorem outP_at (o : ℕ) (ho : o + 256 ≤ 512) (k u : ℕ) (ip) (x : (Rect.unit (s := S1x8x4x512x128) ![0, u, k, o, 0] S1x1x1x256x128.size ip).shape.Idx) :
    outP x0 x1 x2 x3 x4 x5 x6 x7 x8 x9 x10 x11 x12 ((Rect.unit (s := S1x8x4x512x128) ![0, u, k, o, 0] S1x1x1x256x128.size ip).emb x)
      = slabE (hB x0 x1 x2 x3 x4 x5 x6 x7 x8 (row o ho (x 3))) (fun e f => x9 (ix3 0 e f)) (fun l => x10 (ix3 0 (row o ho (x 3)) l)) (fun l => x11 (ix3 0 (row o ho (x 3)) l))
        (fun l => x12 (ix3 0 (row o ho (x 3)) l)) u k (x 4) := by
  have h1 : (x 1).val < 1 := (x 1).isLt
  have h2 : (x 2).val < 1 := (x 2).isLt
  have e1 : ((Rect.unit (s := S1x8x4x512x128) ![0, u, k, o, 0] S1x1x1x256x128.size ip).emb x 1).val = u := by
    refine Eq.trans (b := u + (x 1).val) (by simp) (by omega)
  have e2 : ((Rect.unit (s := S1x8x4x512x128) ![0, u, k, o, 0] S1x1x1x256x128.size ip).emb x 2).val = k := by
    refine Eq.trans (b := k + (x 2).val) (by simp) (by omega)
  have e3 : (Rect.unit (s := S1x8x4x512x128) ![0, u, k, o, 0] S1x1x1x256x128.size ip).emb x 3 = row o ho (x 3) := Fin.ext (by simp [row])
  have e4 : (Rect.unit (s := S1x8x4x512x128) ![0, u, k, o, 0] S1x1x1x256x128.size ip).emb x 4 = x 4 := Fin.ext (by simp)
  unfold outP
  rw [e1, e2, e3, e4]

theorem piece_idx (o u k : ℕ) (ip) (x : (Rect.unit (s := S1x8x4x512x128) ![0, u, k, o, 0] S1x1x1x256x128.size ip).shape.Idx) :
    x = (ix5 0 0 0 (x 3) (x 4) : S1x1x1x256x128.Idx) := by
  refine funext fun a => Fin.ext ?_
  have h0 : (x 0).val < 1 := (x 0).isLt
  have h1 : (x 1).val < 1 := (x 1).isLt
  have h2 : (x 2).val < 1 := (x 2).isLt
  fin_cases a
  · exact Nat.lt_one_iff.mp h0
  · exact Nat.lt_one_iff.mp h1
  · exact Nat.lt_one_iff.mp h2
  · rfl
  · rfl

theorem tilePlain (o : ℕ) (ho : o + 256 ≤ 512) (h5 h0) (k u n off : ℕ) (hk : ¬ k < 2) (hm : 1024 * k + 128 * u = n + off) (hn : n + 256 ≤ 4096) (hoff : off + 128 ≤ 256) (hs i ip)
    (x : (Rect.unit (s := S1x8x4x512x128) ![0, u, k, o, 0] S1x1x1x256x128.size ip).shape.Idx) :
    plainP off hs (hT x0 x1 x2 x3 x4 x5 x6 x7 x8 o h5 h0) (View.ld x9 (Rect.unit (s := S1x1024x4096) ![0, 0, n] S1x1024x256.size i)) x
      = outP x0 x1 x2 x3 x4 x5 x6 x7 x8 x9 x10 x11 x12 ((Rect.unit (s := S1x8x4x512x128) ![0, u, k, o, 0] S1x1x1x256x128.size ip).emb x) := by
  rw [outP_at x0 x1 x2 x3 x4 x5 x6 x7 x8 x9 x10 x11 x12 o ho]
  refine (congrArg _ (piece_idx o u k ip x)).trans ((plain_at off hoff hs _ _ _ _).trans ?_)
  unfold slabE
  rw [if_neg hk]
  have hl : (x 4).val < 128 := (x 4).isLt
  exact col_at x0 x1 x2 x3 x4 x5 x6 x7 x8 x9 o ho h5 h0 n _ (off + (x 4).val) hn (by omega) (by omega) i _

theorem pay26_at (p : Vec Ideal S1x256x128 .f32) (r : Fin 256) (l : Fin 128) : k0_pay26 p (ix2 r l) = p (ix3 0 r l) := by
  pointwise [k0_pay26]

theorem tileRope (o : ℕ) (ho : o + 256 ≤ 512) (h5 h0) (k u n off : ℕ) (hk : k < 2) (hm : 1024 * k + 128 * u = n + off) (hn : n + 256 ≤ 4096) (hoff : off + 128 ≤ 256) (hs i it ip)
    (x : (Rect.unit (s := S1x8x4x512x128) ![0, u, k, o, 0] S1x1x1x256x128.size ip).shape.Idx) :
    ropeP off hs (hT x0 x1 x2 x3 x4 x5 x6 x7 x8 o h5 h0) (View.ld x9 (Rect.unit (s := S1x1024x4096) ![0, 0, n] S1x1024x256.size i))
      (k0_pay26 (View.ld x10 (Rect.unit (s := S1x512x128) ![0, o, 0] S1x256x128.size it))) (k0_pay26 (View.ld x11 (Rect.unit (s := S1x512x128) ![0, o, 0] S1x256x128.size it)))
      (k0_pay26 (View.ld x12 (Rect.unit (s := S1x512x128) ![0, o, 0] S1x256x128.size it))) x
      = outP x0 x1 x2 x3 x4 x5 x6 x7 x8 x9 x10 x11 x12 ((Rect.unit (s := S1x8x4x512x128) ![0, u, k, o, 0] S1x1x1x256x128.size ip).emb x) := by
  rw [outP_at x0 x1 x2 x3 x4 x5 x6 x7 x8 x9 x10 x11 x12 o ho]
  refine (congrArg _ (piece_idx o u k ip x)).trans ((rope_at off hoff hs _ _ _ _ _ _ _).trans ?_)
  unfold slabE
  rw [if_pos hk]
  have hl : (x 4).val < 128 := (x 4).isLt
  refine congrArg₂ _ (congrArg₂ _ (congrArg₂ _ ?_ ?_) (congrArg₂ _ ?_ ?_)) (congrArg₂ _ ?_ ?_)
  · exact col_at x0 x1 x2 x3 x4 x5 x6 x7 x8 x9 o ho h5 h0 n _ (off + (x 4).val) hn (by omega) (by omega) i _
  · exact (pay26_at _ _ _).trans (ld_tab x10 o ho it _ _ _)
  · exact col_at x0 x1 x2 x3 x4 x5 x6 x7 x8 x9 o ho h5 h0 n _ (off + ((x 4).val + 8) % 128) hn (by omega) (by omega) i _
  · exact (pay26_at _ _ _).trans (ld_tab x11 o ho it _ _ _)
  · exact col_at x0 x1 x2 x3 x4 x5 x6 x7 x8 x9 o ho h5 h0 n _ (off + ((x 4).val + 120) % 128) hn (by omega) (by omega) i _
  · exact (pay26_at _ _ _).trans (ld_tab x12 o ho it _ _ _)

end Cert.Proj
-- ==== Proof.ProjBlock.lean ====
module

public import proofs.«01_k».proof.Proof.ProjOut

@[expose] public section

set_option maxRecDepth 16384

noncomputable section

namespace Cert.Proj

open Cert.ProjectIdeal Cert.ProjectIdeal.Gen Idealize.ShloMosaic Idealize.ShloMosaic.TcCoe

variable (x0 x1 : Vec Ideal S1x4x512x128 .bf16) (x2 : Vec Ideal S1x1024x1024 .bf16) (x3 : Vec Ideal S1x1x1x1x1024 .f32) (x4 : Vec Ideal S1x1x1024 .f32)
  (x5 : Vec Ideal S1x512x1024 .f32) (x6 x7 : Vec Ideal S1x1x1x1x1024 .f32) (x8 : Vec Ideal S1x1x1024 .f32) (x9 : Vec Ideal S1x1024x4096 .bf16)
  (x10 x11 x12 : Vec Ideal S1x512x128 .f32)

theorem out14 : out0_14 x0 x1 x2 x3 x4 x5 x6 x7 x8 x9 x10 x11 x12 = outP x0 x1 x2 x3 x4 x5 x6 x7 x8 x9 x10 x11 x12 := by
  funext y
  unfold out0_14
  refine View.canon_apply_of_pieces (Val := Elt Ideal) (e := .bf16) (outP x0 x1 x2 x3 x4 x5 x6 x7 x8 x9 x10 x11 x12) _ (View.PiecesOf.mem ?_) y (cover0_14 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact tilePlain x0 x1 x2 x3 x4 x5 x6 x7 x8 x9 x10 x11 x12 256 (by decide) (by decide) (by decide) 3 7 3840 128 (by decide) (by decide) (by decide) (by decide) slices_S256x256_o0_128_S256x128 (by decide) (by decide) x
  · exact tilePlain x0 x1 x2 x3 x4 x5 x6 x7 x8 x9 x10 x11 x12 256 (by decide) (by decide) (by decide) 3 6 3840 0 (by decide) (by decide) (by decide) (by decide) slices_S256x256_o0_0_S256x128 (by decide) (by decide) x
  · exact tilePlain x0 x1 x2 x3 x4 x5 x6 x7 x8 x9 x10 x11 x12 256 (by decide) (by decide) (by decide) 3 5 3584 128 (by decide) (by decide) (by decide) (by decide) slices_S256x256_o0_128_S256x128 (by decide) (by decide) x
  · exact tilePlain x0 x1 x2 x3 x4 x5 x6 x7 x8 x9 x10 x11 x12 256 (by decide) (by decide) (by decide) 3 4 3584 0 (by decide) (by decide) (by decide) (by decide) slices_S256x256_o0_0_S256x128 (by decide) (by decide) x
  · exact tilePlain x0 x1 x2 x3 x4 x5 x6 x7 x8 x9 x10 x11 x12 256 (by decide) (by decide) (by decide) 3 3 3328 128 (by decide) (by decide) (by decide) (by decide) slices_S256x256_o0_128_S256x128 (by decide) (by decide) x
  · exact tilePlain x0 x1 x2 x3 x4 x5 x6 x7 x8 x9 x10 x11 x12 256 (by decide) (by decide) (by decide) 3 2 3328 0 (by decide) (by decide) (by decide) (by decide) slices_S256x256_o0_0_S256x128 (by decide) (by decide) x
  · exact tilePlain x0 x1 x2 x3 x4 x5 x6 x7 x8 x9 x10 x11 x12 256 (by decide) (by decide) (by decide) 3 1 3072 128 (by decide) (by decide) (by decide) (by decide) slices_S256x256_o0_128_S256x128 (by decide) (by decide) x
  · exact tilePlain x0 x1 x2 x3 x4 x5 x6 x7 x8 x9 x10 x11 x12 256 (by decide) (by decide) (by decide) 3 0 3072 0 (by decide) (by decide) (by decide) (by decide) slices_S256x256_o0_0_S256x128 (by decide) (by decide) x
  · exact tilePlain x0 x1 x2 x3 x4 x5 x6 x7 x8 x9 x10 x11 x12 256 (by decide) (by decide) (by decide) 2 7 2816 128 (by decide) (by decide) (by decide) (by decide) slices_S256x256_o0_128_S256x128 (by decide) (by decide) x
  · exact tilePlain x0 x1 x2 x3 x4 x5 x6 x7 x8 x9 x10 x11 x12 256 (by decide) (by decide) (by decide) 2 6 2816 0 (by decide) (by decide) (by decide) (by decide) slices_S256x256_o0_0_S256x128 (by decide) (by decide) x
  · exact tilePlain x0 x1 x2 x3 x4 x5 x6 x7 x8 x9 x10 x11 x12 256 (by decide) (by decide) (by decide) 2 5 2560 128 (by decide) (by decide) (by decide) (by decide) slices_S256x256_o0_128_S256x128 (by decide) (by decide) x
  · exact tilePlain x0 x1 x2 x3 x4 x5 x6 x7 x8 x9 x10 x11 x12 256 (by decide) (by decide) (by decide) 2 4 2560 0 (by decide) (by decide) (by decide) (by decide) slices_S256x256_o0_0_S256x128 (by decide) (by decide) x
  · exact tilePlain x0 x1 x2 x3 x4 x5 x6 x7 x8 x9 x10 x11 x12 256 (by decide) (by decide) (by decide) 2 3 2304 128 (by decide) (by decide) (by decide) (by decide) slices_S256x256_o0_128_S256x128 (by decide) (by decide) x
  · exact tilePlain x0 x1 x2 x3 x4 x5 x6 x7 x8 x9 x10 x11 x12 256 (by decide) (by decide) (by decide) 2 2 2304 0 (by decide) (by decide) (by decide) (by decide) slices_S256x256_o0_0_S256x128 (by decide) (by decide) x
  · exact tilePlain x0 x1 x2 x3 x4 x5 x6 x7 x8 x9 x10 x11 x12 256 (by decide) (by decide) (by decide) 2 1 2048 128 (by decide) (by decide) (by decide) (by decide) slices_S256x256_o0_128_S256x128 (by decide) (by decide) x
  · exact tilePlain x0 x1 x2 x3 x4 x5 x6 x7 x8 x9 x10 x11 x12 256 (by decide) (by decide) (by decide) 2 0 2048 0 (by decide) (by decide) (by decide) (by decide) slices_S256x256_o0_0_S256x128 (by decide) (by decide) x
  · exact tileRope x0 x1 x2 x3 x4 x5 x6 x7 x8 x9 x10 x11 x12 256 (by decide) (by decide) (by decide) 1 7 1792 128 (by decide) (by decide) (by decide) (by decide) slices_S256x256_o0_128_S256x128 (by decide) (by decide) (by decide) x
  · exact tileRope x0 x1 x2 x3 x4 x5 x6 x7 x8 x9 x10 x11 x12 256 (by decide) (by decide) (by decide) 1 6 1792 0 (by decide) (by decide) (by decide) (by decide) slices_S256x256_o0_0_S256x128 (by decide) (by decide) (by decide) x
  · exact tileRope x0 x1 x2 x3 x4 x5 x6 x7 x8 x9 x10 x11 x12 256 (by decide) (by decide) (by decide) 1 5 1536 128 (by decide) (by decide) (by decide) (by decide) slices_S256x256_o0_128_S256x128 (by decide) (by decide) (by decide) x
  · exact tileRope x0 x1 x2 x3 x4 x5 x6 x7 x8 x9 x10 x11 x12 256 (by decide) (by decide) (by decide) 1 4 1536 0 (by decide) (by decide) (by decide) (by decide) slices_S256x256_o0_0_S256x128 (by decide) (by decide) (by decide) x
  · exact tileRope x0 x1 x2 x3 x4 x5 x6 x7 x8 x9 x10 x11 x12 256 (by decide) (by decide) (by decide) 1 3 1280 128 (by decide) (by decide) (by decide) (by decide) slices_S256x256_o0_128_S256x128 (by decide) (by decide) (by decide) x
  · exact tileRope x0 x1 x2 x3 x4 x5 x6 x7 x8 x9 x10 x11 x12 256 (by decide) (by decide) (by decide) 1 2 1280 0 (by decide) (by decide) (by decide) (by decide) slices_S256x256_o0_0_S256x128 (by decide) (by decide) (by decide) x
  · exact tileRope x0 x1 x2 x3 x4 x5 x6 x7 x8 x9 x10 x11 x12 256 (by decide) (by decide) (by decide) 1 1 1024 128 (by decide) (by decide) (by decide) (by decide) slices_S256x256_o0_128_S256x128 (by decide) (by decide) (by decide) x
  · exact tileRope x0 x1 x2 x3 x4 x5 x6 x7 x8 x9 x10 x11 x12 256 (by decide) (by decide) (by decide) 1 0 1024 0 (by decide) (by decide) (by decide) (by decide) slices_S256x256_o0_0_S256x128 (by decide) (by decide) (by decide) x
  · exact tileRope x0 x1 x2 x3 x4 x5 x6 x7 x8 x9 x10 x11 x12 256 (by decide) (by decide) (by decide) 0 7 768 128 (by decide) (by decide) (by decide) (by decide) slices_S256x256_o0_128_S256x128 (by decide) (by decide) (by decide) x
  · exact tileRope x0 x1 x2 x3 x4 x5 x6 x7 x8 x9 x10 x11 x12 256 (by decide) (by decide) (by decide) 0 6 768 0 (by decide) (by decide) (by decide) (by decide) slices_S256x256_o0_0_S256x128 (by decide) (by decide) (by decide) x
  · exact tileRope x0 x1 x2 x3 x4 x5 x6 x7 x8 x9 x10 x11 x12 256 (by decide) (by decide) (by decide) 0 5 512 128 (by decide) (by decide) (by decide) (by decide) slices_S256x256_o0_128_S256x128 (by decide) (by decide) (by decide) x
  · exact tileRope x0 x1 x2 x3 x4 x5 x6 x7 x8 x9 x10 x11 x12 256 (by decide) (by decide) (by decide) 0 4 512 0 (by decide) (by decide) (by decide) (by decide) slices_S256x256_o0_0_S256x128 (by decide) (by decide) (by decide) x
  · exact tileRope x0 x1 x2 x3 x4 x5 x6 x7 x8 x9 x10 x11 x12 256 (by decide) (by decide) (by decide) 0 3 256 128 (by decide) (by decide) (by decide) (by decide) slices_S256x256_o0_128_S256x128 (by decide) (by decide) (by decide) x
  · exact tileRope x0 x1 x2 x3 x4 x5 x6 x7 x8 x9 x10 x11 x12 256 (by decide) (by decide) (by decide) 0 2 256 0 (by decide) (by decide) (by decide) (by decide) slices_S256x256_o0_0_S256x128 (by decide) (by decide) (by decide) x
  · exact tileRope x0 x1 x2 x3 x4 x5 x6 x7 x8 x9 x10 x11 x12 256 (by decide) (by decide) (by decide) 0 1 0 128 (by decide) (by decide) (by decide) (by decide) slices_S256x256_o0_128_S256x128 (by decide) (by decide) (by decide) x
  · exact tileRope x0 x1 x2 x3 x4 x5 x6 x7 x8 x9 x10 x11 x12 256 (by decide) (by decide) (by decide) 0 0 0 0 (by decide) (by decide) (by decide) (by decide) slices_S256x256_o0_0_S256x128 (by decide) (by decide) (by decide) x
  · exact tilePlain x0 x1 x2 x3 x4 x5 x6 x7 x8 x9 x10 x11 x12 0 (by decide) (by decide) (by decide) 3 7 3840 128 (by decide) (by decide) (by decide) (by decide) slices_S256x256_o0_128_S256x128 (by decide) (by decide) x
  · exact tilePlain x0 x1 x2 x3 x4 x5 x6 x7 x8 x9 x10 x11 x12 0 (by decide) (by decide) (by decide) 3 6 3840 0 (by decide) (by decide) (by decide) (by decide) slices_S256x256_o0_0_S256x128 (by decide) (by decide) x
  · exact tilePlain x0 x1 x2 x3 x4 x5 x6 x7 x8 x9 x10 x11 x12 0 (by decide) (by decide) (by decide) 3 5 3584 128 (by decide) (by decide) (by decide) (by decide) slices_S256x256_o0_128_S256x128 (by decide) (by decide) x
  · exact tilePlain x0 x1 x2 x3 x4 x5 x6 x7 x8 x9 x10 x11 x12 0 (by decide) (by decide) (by decide) 3 4 3584 0 (by decide) (by decide) (by decide) (by decide) slices_S256x256_o0_0_S256x128 (by decide) (by decide) x
  · exact tilePlain x0 x1 x2 x3 x4 x5 x6 x7 x8 x9 x10 x11 x12 0 (by decide) (by decide) (by decide) 3 3 3328 128 (by decide) (by decide) (by decide) (by decide) slices_S256x256_o0_128_S256x128 (by decide) (by decide) x
  · exact tilePlain x0 x1 x2 x3 x4 x5 x6 x7 x8 x9 x10 x11 x12 0 (by decide) (by decide) (by decide) 3 2 3328 0 (by decide) (by decide) (by decide) (by decide) slices_S256x256_o0_0_S256x128 (by decide) (by decide) x
  · exact tilePlain x0 x1 x2 x3 x4 x5 x6 x7 x8 x9 x10 x11 x12 0 (by decide) (by decide) (by decide) 3 1 3072 128 (by decide) (by decide) (by decide) (by decide) slices_S256x256_o0_128_S256x128 (by decide) (by decide) x
  · exact tilePlain x0 x1 x2 x3 x4 x5 x6 x7 x8 x9 x10 x11 x12 0 (by decide) (by decide) (by decide) 3 0 3072 0 (by decide) (by decide) (by decide) (by decide) slices_S256x256_o0_0_S256x128 (by decide) (by decide) x
  · exact tilePlain x0 x1 x2 x3 x4 x5 x6 x7 x8 x9 x10 x11 x12 0 (by decide) (by decide) (by decide) 2 7 2816 128 (by decide) (by decide) (by decide) (by decide) slices_S256x256_o0_128_S256x128 (by decide) (by decide) x
  · exact tilePlain x0 x1 x2 x3 x4 x5 x6 x7 x8 x9 x10 x11 x12 0 (by decide) (by decide) (by decide) 2 6 2816 0 (by decide) (by decide) (by decide) (by decide) slices_S256x256_o0_0_S256x128 (by decide) (by decide) x
  · exact tilePlain x0 x1 x2 x3 x4 x5 x6 x7 x8 x9 x10 x11 x12 0 (by decide) (by decide) (by decide) 2 5 2560 128 (by decide) (by decide) (by decide) (by decide) slices_S256x256_o0_128_S256x128 (by decide) (by decide) x
  · exact tilePlain x0 x1 x2 x3 x4 x5 x6 x7 x8 x9 x10 x11 x12 0 (by decide) (by decide) (by decide) 2 4 2560 0 (by decide) (by decide) (by decide) (by decide) slices_S256x256_o0_0_S256x128 (by decide) (by decide) x
  · exact tilePlain x0 x1 x2 x3 x4 x5 x6 x7 x8 x9 x10 x11 x12 0 (by decide) (by decide) (by decide) 2 3 2304 128 (by decide) (by decide) (by decide) (by decide) slices_S256x256_o0_128_S256x128 (by decide) (by decide) x
  · exact tilePlain x0 x1 x2 x3 x4 x5 x6 x7 x8 x9 x10 x11 x12 0 (by decide) (by decide) (by decide) 2 2 2304 0 (by decide) (by decide) (by decide) (by decide) slices_S256x256_o0_0_S256x128 (by decide) (by decide) x
  · exact tilePlain x0 x1 x2 x3 x4 x5 x6 x7 x8 x9 x10 x11 x12 0 (by decide) (by decide) (by decide) 2 1 2048 128 (by decide) (by decide) (by decide) (by decide) slices_S256x256_o0_128_S256x128 (by decide) (by decide) x
  · exact tilePlain x0 x1 x2 x3 x4 x5 x6 x7 x8 x9 x10 x11 x12 0 (by decide) (by decide) (by decide) 2 0 2048 0 (by decide) (by decide) (by decide) (by decide) slices_S256x256_o0_0_S256x128 (by decide) (by decide) x
  · exact tileRope x0 x1 x2 x3 x4 x5 x6 x7 x8 x9 x10 x11 x12 0 (by decide) (by decide) (by decide) 1 7 1792 128 (by decide) (by decide) (by decide) (by decide) slices_S256x256_o0_128_S256x128 (by decide) (by decide) (by decide) x
  · exact tileRope x0 x1 x2 x3 x4 x5 x6 x7 x8 x9 x10 x11 x12 0 (by decide) (by decide) (by decide) 1 6 1792 0 (by decide) (by decide) (by decide) (by decide) slices_S256x256_o0_0_S256x128 (by decide) (by decide) (by decide) x
  · exact tileRope x0 x1 x2 x3 x4 x5 x6 x7 x8 x9 x10 x11 x12 0 (by decide) (by decide) (by decide) 1 5 1536 128 (by decide) (by decide) (by decide) (by decide) slices_S256x256_o0_128_S256x128 (by decide) (by decide) (by decide) x
  · exact tileRope x0 x1 x2 x3 x4 x5 x6 x7 x8 x9 x10 x11 x12 0 (by decide) (by decide) (by decide) 1 4 1536 0 (by decide) (by decide) (by decide) (by decide) slices_S256x256_o0_0_S256x128 (by decide) (by decide) (by decide) x
  · exact tileRope x0 x1 x2 x3 x4 x5 x6 x7 x8 x9 x10 x11 x12 0 (by decide) (by decide) (by decide) 1 3 1280 128 (by decide) (by decide) (by decide) (by decide) slices_S256x256_o0_128_S256x128 (by decide) (by decide) (by decide) x
  · exact tileRope x0 x1 x2 x3 x4 x5 x6 x7 x8 x9 x10 x11 x12 0 (by decide) (by decide) (by decide) 1 2 1280 0 (by decide) (by decide) (by decide) (by decide) slices_S256x256_o0_0_S256x128 (by decide) (by decide) (by decide) x
  · exact tileRope x0 x1 x2 x3 x4 x5 x6 x7 x8 x9 x10 x11 x12 0 (by decide) (by decide) (by decide) 1 1 1024 128 (by decide) (by decide) (by decide) (by decide) slices_S256x256_o0_128_S256x128 (by decide) (by decide) (by decide) x
  · exact tileRope x0 x1 x2 x3 x4 x5 x6 x7 x8 x9 x10 x11 x12 0 (by decide) (by decide) (by decide) 1 0 1024 0 (by decide) (by decide) (by decide) (by decide) slices_S256x256_o0_0_S256x128 (by decide) (by decide) (by decide) x
  · exact tileRope x0 x1 x2 x3 x4 x5 x6 x7 x8 x9 x10 x11 x12 0 (by decide) (by decide) (by decide) 0 7 768 128 (by decide) (by decide) (by decide) (by decide) slices_S256x256_o0_128_S256x128 (by decide) (by decide) (by decide) x
  · exact tileRope x0 x1 x2 x3 x4 x5 x6 x7 x8 x9 x10 x11 x12 0 (by decide) (by decide) (by decide) 0 6 768 0 (by decide) (by decide) (by decide) (by decide) slices_S256x256_o0_0_S256x128 (by decide) (by decide) (by decide) x
  · exact tileRope x0 x1 x2 x3 x4 x5 x6 x7 x8 x9 x10 x11 x12 0 (by decide) (by decide) (by decide) 0 5 512 128 (by decide) (by decide) (by decide) (by decide) slices_S256x256_o0_128_S256x128 (by decide) (by decide) (by decide) x
  · exact tileRope x0 x1 x2 x3 x4 x5 x6 x7 x8 x9 x10 x11 x12 0 (by decide) (by decide) (by decide) 0 4 512 0 (by decide) (by decide) (by decide) (by decide) slices_S256x256_o0_0_S256x128 (by decide) (by decide) (by decide) x
  · exact tileRope x0 x1 x2 x3 x4 x5 x6 x7 x8 x9 x10 x11 x12 0 (by decide) (by decide) (by decide) 0 3 256 128 (by decide) (by decide) (by decide) (by decide) slices_S256x256_o0_128_S256x128 (by decide) (by decide) (by decide) x
  · exact tileRope x0 x1 x2 x3 x4 x5 x6 x7 x8 x9 x10 x11 x12 0 (by decide) (by decide) (by decide) 0 2 256 0 (by decide) (by decide) (by decide) (by decide) slices_S256x256_o0_0_S256x128 (by decide) (by decide) (by decide) x
  · exact tileRope x0 x1 x2 x3 x4 x5 x6 x7 x8 x9 x10 x11 x12 0 (by decide) (by decide) (by decide) 0 1 0 128 (by decide) (by decide) (by decide) (by decide) slices_S256x256_o0_128_S256x128 (by decide) (by decide) (by decide) x
  · exact tileRope x0 x1 x2 x3 x4 x5 x6 x7 x8 x9 x10 x11 x12 0 (by decide) (by decide) (by decide) 0 0 0 0 (by decide) (by decide) (by decide) (by decide) slices_S256x256_o0_0_S256x128 (by decide) (by decide) (by decide) x

end Cert.Proj
-- ==== Proof.ProjPack.lean ====
module

public import proofs.«01_k».proof.Proof.ProjRow
public import Idealize.ShloMosaic.Lib.Claim

@[expose] public section

set_option maxRecDepth 16384

noncomputable section

namespace Cert.Proj

open Cert.ProjectIdeal Cert.ProjectIdeal.Gen Idealize.ShloMosaic Idealize.ShloMosaic.TcCoe

variable (m : (ℓ : Loc nD τ sig) → Buf (Elt Ideal) ℓ)

/-- A mixer's output in slabs of 128 lanes. -/
def slabsH (x : FVec Ideal S8x2048x512 .f32) : FVec Ideal S8x4x2048x128 .bf16 :=
  truncf .bf16 (transpose S8x4x2048x128 [0, 2, 1, 3] (shapeCast S8x2048x4x128 x shapeCasts_S8x2048x512_S8x2048x4x128) transposes_S8x2048x4x128_S8x4x2048x128_0_2_1_3) bitsLt_bf16_f32

def zeros48 : FVec Ideal S8x2048x48 .f32 := broadcastInDim S8x2048x48 ![] bcast_S_S8x2048x48 (constant S_ .f32 0x00000000#32)
def ones48 : FVec Ideal S8x2048x48 .f32 := addf zeros48 (broadcastInDim S8x2048x48 ![] bcast_S_S8x2048x48 (constant S_ .f32 0x3F800000#32))
def zeros8 : FVec Ideal S8x2048x8 .f32 := broadcastInDim S8x2048x8 ![] bcast_S_S8x2048x8 (constant S_ .f32 0x00000000#32)

/-- One table over the lanes of a pair of heads. -/
def lanes (x y : FVec Ideal S8x2048x8 .f32) (z : FVec Ideal S8x2048x48 .f32) : FVec Ideal S8x2048x128 .f32 :=
  concatenate S8x2048x128 2 [⟨S8x2048x8, x⟩, ⟨S8x2048x8, y⟩, ⟨S8x2048x48, z⟩, ⟨S8x2048x8, x⟩, ⟨S8x2048x8, y⟩, ⟨S8x2048x48, z⟩]
    concatenates_S8x2048x8_S8x2048x8_S8x2048x48_S8x2048x8_S8x2048x8_S8x2048x48_S8x2048x128_d2

theorem V12 (c : Dev nD) : V m c main_v12 = slabsH (m ((c : Thread nD τ).loc main_arg0)) := by rfl
theorem V15 (c : Dev nD) : V m c main_v15 = slabsH (m ((c : Thread nD τ).loc main_arg1)) := by rfl
theorem V16 (c : Dev nD) : V m c main_v16 = (truncf .bf16 (m ((c : Thread nD τ).loc main_arg8) : FVec Ideal S2x1024x1024 .f32) bitsLt_bf16_f32 : FVec Ideal S2x1024x1024 .bf16) := by rfl
theorem V17 (c : Dev nD) : V m c main_v17 = shapeCast S4x3x8x1x1024 (m ((c : Thread nD τ).loc main_arg3)) shapeCasts_S4x3x8x1024_S4x3x8x1x1024 := by rfl
theorem V9 (c : Dev nD) : V m c main_v9 = shapeCast S4x1x1024 (m ((c : Thread nD τ).loc main_arg7)) shapeCasts_S4x1024_S4x1x1024 := by rfl
theorem V8 (c : Dev nD) : V m c main_v8 = shapeCast S4x1x1024 (m ((c : Thread nD τ).loc main_arg6)) shapeCasts_S4x1024_S4x1x1024 := by rfl
theorem V18 (c : Dev nD) : V m c main_v18 = (truncf .bf16 (m ((c : Thread nD τ).loc main_arg9) : FVec Ideal S2x1024x4096 .f32) bitsLt_bf16_f32 : FVec Ideal S2x1024x4096 .bf16) := by rfl
theorem V4 (c : Dev nD) : V m c main_v4 = lanes (m ((c : Thread nD τ).loc main_arg4)) (m ((c : Thread nD τ).loc main_arg4)) ones48 := by rfl
theorem V6 (c : Dev nD) : V m c main_v6 = lanes (Host.negf (m ((c : Thread nD τ).loc main_arg5))) zeros8 zeros48 := by rfl
theorem V7 (c : Dev nD) : V m c main_v7 = lanes zeros8 (m ((c : Thread nD τ).loc main_arg5)) zeros48 := by rfl

theorem slabsH_at (x : FVec Ideal S8x2048x512 .f32) (b : Fin 8) (j : Fin 4) (n : Fin 2048) (l : Fin 128) :
    slabsH x (ix4 b j n l) = x (ix3 b n ⟨128 * j.val + l.val, by omega⟩) := by
  pointwise [slabsH]
  exact congrArg (fun k => x (ix3 b n k)) (Fin.ext (congrArg (· + l.val) (Nat.mul_comm _ _)))

/-- One lane of a table: eight entries of each part, then the rest, and the same again for the second head. -/
def lane (x y : Fin 8 → EReal) (z : EReal) (l : ℕ) : EReal :=
  if h : l % 64 < 8 then x ⟨l % 64, h⟩ else if h : l % 64 - 8 < 8 then y ⟨l % 64 - 8, h⟩ else z

theorem lanes_at (x y : FVec Ideal S8x2048x8 .f32) (z : FVec Ideal S8x2048x48 .f32) (w : EReal) (hz : ∀ i, z i = w) (b : Fin 8) (n : Fin 2048) (l : Fin 128) :
    lanes x y z (ix3 b n l) = lane (fun d => x (ix3 b n d)) (fun d => y (ix3 b n d)) w l.val := by
  have kx (a : Fin 8) (h : a.val = l.val % 64) : x (ix3 b n a) = lane (fun d => x (ix3 b n d)) (fun d => y (ix3 b n d)) w l.val := by
    have ha := a.isLt
    unfold lane
    rw [dif_pos (by omega)]
    exact congrArg (fun k => x (ix3 b n k)) (Fin.ext h)
  have ky (a : Fin 8) (h : a.val + 8 = l.val % 64) : y (ix3 b n a) = lane (fun d => x (ix3 b n d)) (fun d => y (ix3 b n d)) w l.val := by
    have ha := a.isLt
    unfold lane
    rw [dif_neg (by omega), dif_pos (by omega)]
    exact congrArg (fun k => y (ix3 b n k)) (Fin.ext (by change a.val = l.val % 64 - 8; omega))
  have kz (i) (h : 16 ≤ l.val % 64) : z i = lane (fun d => x (ix3 b n d)) (fun d => y (ix3 b n d)) w l.val := by
    unfold lane
    rw [dif_neg (by omega), dif_neg (by omega), hz]
  pointwise [lanes]
  by_cases h0 : l.val < 8
  · rw [dif_pos h0]
    exact kx _ (by change l.val = _; omega)
  rw [dif_neg h0]
  by_cases h1 : l.val - 8 < 8
  · rw [dif_pos h1]
    exact ky _ (by change l.val - 8 + 8 = _; omega)
  rw [dif_neg h1]
  by_cases h2 : l.val - 8 - 8 < 48
  · rw [dif_pos h2]
    exact kz _ (by omega)
  rw [dif_neg h2]
  by_cases h3 : l.val - 8 - 8 - 48 < 8
  · rw [dif_pos h3]
    exact kx _ (by change l.val - 8 - 8 - 48 = _; omega)
  rw [dif_neg h3]
  by_cases h4 : l.val - 8 - 8 - 48 - 8 < 8
  · rw [dif_pos h4]
    exact ky _ (by change l.val - 8 - 8 - 48 - 8 + 8 = _; omega)
  rw [dif_neg h4]
  exact kz _ (by omega)

theorem cast17_at (x : FVec Ideal S4x3x8x1024 .f32) (i : Fin 4) (w : Fin 3) (b : Fin 8) (d : Fin 1024) :
    shapeCast S4x3x8x1x1024 x shapeCasts_S4x3x8x1024_S4x3x8x1x1024 (ix5 i w b 0 d) = x (ix4 i w b d) := by
  pointwise

theorem cast8_at (x : FVec Ideal S4x1024 .f32) (i : Fin 4) (d : Fin 1024) : shapeCast S4x1x1024 x shapeCasts_S4x1024_S4x1x1024 (ix3 i 0 d) = x (ix2 i d) := by
  pointwise

theorem zeros48_at (i) : zeros48 i = 0 := by
  idx_vars i
  pointwise [zeros48]
theorem ones48_at (i) : ones48 i = Ideal.ofBits .f32 0x3F800000#32 := by
  idx_vars i
  pointwise [zeros48, ones48]
theorem zeros8_at (i) : zeros8 i = 0 := by
  idx_vars i
  pointwise [zeros8]

end Cert.Proj
-- ==== Proof.ProjArray.lean ====
module

public import proofs.«01_k».proof.Proof.ProjBlock
public import proofs.«01_k».proof.Proof.ProjPack
public import proofs.«01_k».proof.Proof.Gen.ProjectIdeal.Value

@[expose] public section

set_option maxRecDepth 16384

noncomputable section

namespace Cert.Proj

open Cert.ProjectIdeal Cert.ProjectIdeal.Gen Idealize.ShloMosaic Idealize.ShloMosaic.TcCoe

section
variable (a0 a1 : FVec Ideal S8x2048x512 .f32) (x : FVec Ideal S8x2048x1024 .f32) (md : FVec Ideal S4x3x8x1024 .f32) (co si : FVec Ideal S8x2048x8 .f32)
  (pre post : FVec Ideal S4x1024 .f32) (wo : FVec Ideal S2x1024x1024 .f32) (wi : FVec Ideal S2x1024x4096 .f32)

/-- The two mixers' outputs of one position side by side. -/
def oRow (b : Fin 8) (n : Fin 2048) (e : Fin 1024) : EReal :=
  if h : e.val < 512 then a0 (ix3 b n ⟨e.val, h⟩) else a1 (ix3 b n ⟨e.val - 512, by omega⟩)

/-- The new residual stream of one position. -/
def xRow (b : Fin 8) (n : Fin 2048) (d : Fin 1024) : EReal :=
  upd (oRow a0 a1 b n) (fun e f => wo (ix3 0 e f)) (fun f => x (ix3 b n f)) (fun f => md (ix4 0 2 b f)) (fun f => post (ix2 0 f)) d

/-- What enters the projection at one position. -/
def hRow (b : Fin 8) (n : Fin 2048) (d : Fin 1024) : EReal :=
  mdl (xRow a0 a1 x md post wo b n) (fun f => pre (ix2 1 f)) (fun f => md (ix4 1 1 b f)) (fun f => md (ix4 1 0 b f)) d

/-- The whole array of the residual stream. -/
def resX : FVec Ideal S8x2048x1024 .f32 := fun y => xRow a0 a1 x md post wo (y 0) (y 1) (y 2)

/-- The whole array of the projections, slab by slab. -/
def resP : FVec Ideal S8x8x4x2048x128 .bf16 := fun y =>
  slabE (hRow a0 a1 x md pre post wo (y 0) (y 3)) (fun e f => wi (ix3 0 e f))
    (fun l => lane (fun d => co (ix3 (y 0) (y 3) d)) (fun d => co (ix3 (y 0) (y 3) d)) (Ideal.ofBits .f32 0x3F800000#32) l.val)
    (fun l => lane (fun d => -si (ix3 (y 0) (y 3) d)) (fun _ => 0) 0 l.val) (fun l => lane (fun _ => 0) (fun d => si (ix3 (y 0) (y 3) d)) 0 l.val)
    (y 1).val (y 2).val (y 4)
end

variable (m : (ℓ : Loc nD τ sig) → Buf (Elt Ideal) ℓ)

theorem idx : ∀ t : Fin cfg0.N, win0_0.index t = ![t.val / 4, 0, t.val % 4, 0] ∧ win0_1.index t = ![t.val / 4, 0, t.val % 4, 0] ∧ win0_2.index t = ![0, 0, 0]
    ∧ win0_3.index t = ![0, 2, t.val / 4, 0, 0] ∧ win0_4.index t = ![0, 0, 0] ∧ win0_5.index t = ![t.val / 4, t.val % 4, 0] ∧ win0_6.index t = ![1, 0, t.val / 4, 0, 0]
    ∧ win0_7.index t = ![1, 1, t.val / 4, 0, 0] ∧ win0_8.index t = ![1, 0, 0] ∧ win0_9.index t = ![0, 0, 0] ∧ win0_10.index t = ![t.val / 4, t.val % 4, 0]
    ∧ win0_11.index t = ![t.val / 4, t.val % 4, 0] ∧ win0_12.index t = ![t.val / 4, t.val % 4, 0] ∧ win0_13.index t = ![t.val / 4, t.val % 4, 0]
    ∧ win0_14.index t = ![t.val / 4, 0, 0, t.val % 4, 0] :=
  (by decide +kernel : ∀ t : Fin grid0.N, _)

/-- A row of a block by its position in the sequence. -/
def pos (i : Fin 4) (r : Fin 512) : Fin 2048 := ⟨512 * i.val + r.val, by omega⟩

section
variable (c : Dev nD) (t : Fin cfg0.N) (b : Fin 8) (i : Fin 4) (hb : b.val = t.val / 4) (hi : i.val = t.val % 4)
include hb hi

theorem read0 (j : Fin 4) (r : Fin 512) (l : Fin 128) : iblk m c 0 t (ix4 0 j r l) = V m c main_v12 (ix4 b j (pos i r) l) := by
  refine congrArg (V m c main_v12) (funext fun a => Fin.ext ?_)
  fin_cases a <;> blk_simp [idx t]
  all_goals simp [pos, hb, hi, Nat.mul_comm]

theorem read1 (j : Fin 4) (r : Fin 512) (l : Fin 128) : iblk m c 1 t (ix4 0 j r l) = V m c main_v15 (ix4 b j (pos i r) l) := by
  refine congrArg (V m c main_v15) (funext fun a => Fin.ext ?_)
  fin_cases a <;> blk_simp [idx t]
  all_goals simp [pos, hb, hi, Nat.mul_comm]

theorem read2 (e f : Fin 1024) : iblk m c 2 t (ix3 0 e f) = V m c main_v16 (ix3 0 e f) := by
  refine congrArg (V m c main_v16) (funext fun a => Fin.ext ?_)
  fin_cases a <;> blk_simp [idx t]
  all_goals simp [pos, hb, hi, Nat.mul_comm]

theorem read3 (f : Fin 1024) : iblk m c 3 t (ix5 0 0 0 0 f) = V m c main_v17 (ix5 0 2 b 0 f) := by
  refine congrArg (V m c main_v17) (funext fun a => Fin.ext ?_)
  fin_cases a <;> blk_simp [idx t]
  all_goals simp [pos, hb, hi, Nat.mul_comm]

theorem read4 (f : Fin 1024) : iblk m c 4 t (ix3 0 0 f) = V m c main_v9 (ix3 0 0 f) := by
  refine congrArg (V m c main_v9) (funext fun a => Fin.ext ?_)
  fin_cases a <;> blk_simp [idx t]
  all_goals simp [pos, hb, hi, Nat.mul_comm]

theorem read5 (r : Fin 512) (f : Fin 1024) : iblk m c 5 t (ix3 0 r f) = V m c main_arg2 (ix3 b (pos i r) f) := by
  refine congrArg (V m c main_arg2) (funext fun a => Fin.ext ?_)
  fin_cases a <;> blk_simp [idx t]
  all_goals simp [pos, hb, hi, Nat.mul_comm]

theorem read6 (f : Fin 1024) : iblk m c 6 t (ix5 0 0 0 0 f) = V m c main_v17 (ix5 1 0 b 0 f) := by
  refine congrArg (V m c main_v17) (funext fun a => Fin.ext ?_)
  fin_cases a <;> blk_simp [idx t]
  all_goals simp [pos, hb, hi, Nat.mul_comm]

theorem read7 (f : Fin 1024) : iblk m c 7 t (ix5 0 0 0 0 f) = V m c main_v17 (ix5 1 1 b 0 f) := by
  refine congrArg (V m c main_v17) (funext fun a => Fin.ext ?_)
  fin_cases a <;> blk_simp [idx t]
  all_goals simp [pos, hb, hi, Nat.mul_comm]

theorem read8 (f : Fin 1024) : iblk m c 8 t (ix3 0 0 f) = V m c main_v8 (ix3 1 0 f) := by
  refine congrArg (V m c main_v8) (funext fun a => Fin.ext ?_)
  fin_cases a <;> blk_simp [idx t]
  all_goals simp [pos, hb, hi, Nat.mul_comm]

theorem read9 (e : Fin 1024) (f : Fin 4096) : iblk m c 9 t (ix3 0 e f) = V m c main_v18 (ix3 0 e f) := by
  refine congrArg (V m c main_v18) (funext fun a => Fin.ext ?_)
  fin_cases a <;> blk_simp [idx t]
  all_goals simp [pos, hb, hi, Nat.mul_comm]

theorem read10 (r : Fin 512) (l : Fin 128) : iblk m c 10 t (ix3 0 r l) = V m c main_v4 (ix3 b (pos i r) l) := by
  refine congrArg (V m c main_v4) (funext fun a => Fin.ext ?_)
  fin_cases a <;> blk_simp [idx t]
  all_goals simp [pos, hb, hi, Nat.mul_comm]

theorem read11 (r : Fin 512) (l : Fin 128) : iblk m c 11 t (ix3 0 r l) = V m c main_v6 (ix3 b (pos i r) l) := by
  refine congrArg (V m c main_v6) (funext fun a => Fin.ext ?_)
  fin_cases a <;> blk_simp [idx t]
  all_goals simp [pos, hb, hi, Nat.mul_comm]

theorem read12 (r : Fin 512) (l : Fin 128) : iblk m c 12 t (ix3 0 r l) = V m c main_v7 (ix3 b (pos i r) l) := by
  refine congrArg (V m c main_v7) (funext fun a => Fin.ext ?_)
  fin_cases a <;> blk_simp [idx t]
  all_goals simp [pos, hb, hi, Nat.mul_comm]

/-- A block's row of the mixers' outputs is the arguments' row. -/
theorem catB_eq (r : Fin 512) : catB (iblk m c 0 t) (iblk m c 1 t) r = oRow (m ((c : Thread nD τ).loc main_arg0)) (m ((c : Thread nD τ).loc main_arg1)) b (pos i r) := by
  funext e
  unfold catB slabB oRow
  by_cases h : e.val < 512
  · rw [dif_pos (show (⟨e.val / 128, _⟩ : Fin 8).val < 4 by change e.val / 128 < 4; omega), dif_pos h, read0 m c t b i hb hi, V12, slabsH_at]
    exact congrArg (fun k => (m ((c : Thread nD τ).loc main_arg0)) (ix3 b (pos i r) k)) (Fin.ext (by change 128 * (e.val / 128) + e.val % 128 = e.val; omega))
  · rw [dif_neg (show ¬ (⟨e.val / 128, _⟩ : Fin 8).val < 4 by change ¬ e.val / 128 < 4; omega), dif_neg h, read1 m c t b i hb hi, V15, slabsH_at]
    exact congrArg (fun k => (m ((c : Thread nD τ).loc main_arg1)) (ix3 b (pos i r) k)) (Fin.ext (by change 128 * (e.val / 128 - 4) + e.val % 128 = e.val - 512; omega))

theorem xB_eq (r : Fin 512) : xB (iblk m c 0 t) (iblk m c 1 t) (iblk m c 2 t) (iblk m c 3 t) (iblk m c 4 t) (iblk m c 5 t) r
    = xRow (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) b (pos i r) := by
  funext d
  unfold xB xRow
  rw [catB_eq m c t b i hb hi r]
  congr 1
  · funext e f
    rw [read2 m c t b i hb hi, V16]
    rfl
  · funext f
    exact (read5 m c t b i hb hi r f).trans rfl
  · funext f
    rw [read3 m c t b i hb hi, V17, cast17_at]
  · funext f
    rw [read4 m c t b i hb hi, V9, cast8_at]

theorem hB_eq (r : Fin 512) : hB (iblk m c 0 t) (iblk m c 1 t) (iblk m c 2 t) (iblk m c 3 t) (iblk m c 4 t) (iblk m c 5 t) (iblk m c 6 t) (iblk m c 7 t) (iblk m c 8 t) r
    = hRow (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) b (pos i r) := by
  funext d
  unfold hB hRow
  rw [xB_eq m c t b i hb hi r]
  congr 1
  · funext f
    rw [read8 m c t b i hb hi, V8, cast8_at]
  · funext f
    rw [read7 m c t b i hb hi, V17, cast17_at]
  · funext f
    rw [read6 m c t b i hb hi, V17, cast17_at]

theorem wi_eq (e : Fin 1024) (f : Fin 4096) : iblk m c 9 t (ix3 0 e f) = (m ((c : Thread nD τ).loc main_arg9)) (ix3 0 e f) := by
  rw [read9 m c t b i hb hi, V18]
  rfl

theorem co_eq (r : Fin 512) (l : Fin 128) : iblk m c 10 t (ix3 0 r l)
    = lane (fun d => (m ((c : Thread nD τ).loc main_arg4)) (ix3 b (pos i r) d)) (fun d => (m ((c : Thread nD τ).loc main_arg4)) (ix3 b (pos i r) d)) (Ideal.ofBits .f32 0x3F800000#32) l.val := by
  rw [read10 m c t b i hb hi, V4, lanes_at _ _ _ _ ones48_at]

theorem down_eq (r : Fin 512) (l : Fin 128) : iblk m c 11 t (ix3 0 r l)
    = lane (fun d => Neg.neg (α := EReal) ((m ((c : Thread nD τ).loc main_arg5)) (ix3 b (pos i r) d))) (fun _ => 0) 0 l.val := by
  rw [read11 m c t b i hb hi, V6, lanes_at _ _ _ _ zeros48_at]
  simp only [zeros8_at]
  rfl

theorem up_eq (r : Fin 512) (l : Fin 128) : iblk m c 12 t (ix3 0 r l)
    = lane (fun _ => 0) (fun d => (m ((c : Thread nD τ).loc main_arg5)) (ix3 b (pos i r) d)) 0 l.val := by
  rw [read12 m c t b i hb hi, V7, lanes_at _ _ _ _ zeros48_at]
  simp only [zeros8_at]
end

theorem emb13 (t : Fin cfg0.N) (y : S1x512x1024.Idx) : (win0_13.blk t).view.emb y
    = ix3 (⟨t.val / 4, by have := lt_of_lt_of_eq t.isLt N_0; omega⟩ : Fin 8) (pos (⟨t.val % 4, by omega⟩ : Fin 4) (y 1)) (y 2) := by
  have h0 : (y 0).val < 1 := (y 0).isLt
  refine funext fun a => Fin.ext ?_
  fin_cases a <;> blk_simp [idx t]
  all_goals simp [pos, Nat.mul_comm]

theorem emb14 (t : Fin cfg0.N) (y : S1x8x4x512x128.Idx) : (win0_14.blk t).view.emb y
    = ix5 (⟨t.val / 4, by have := lt_of_lt_of_eq t.isLt N_0; omega⟩ : Fin 8) (y 1) (y 2) (pos (⟨t.val % 4, by omega⟩ : Fin 4) (y 3)) (y 4) := by
  have h0 : (y 0).val < 1 := (y 0).isLt
  refine funext fun a => Fin.ext ?_
  fin_cases a <;> blk_simp [idx t]
  all_goals simp [pos, Nat.mul_comm]

theorem final13 (c : Dev nD) : (dats m 0 c).arrAt 13 cfg0.N
    = resX (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) := by
  refine (dats m 0 c).arrAt_eq_of_covers 13 _ (by decide +kernel) fun t _ y => ?_
  blk_simp
  have ht : t.val < 32 := lt_of_lt_of_eq t.isLt N_0
  rw [after0_13, out13, emb13 t y]
  exact congrFun (xB_eq m c t ⟨t.val / 4, by omega⟩ ⟨t.val % 4, by omega⟩ rfl rfl (y 1)) (y 2)

theorem final14 (c : Dev nD) : (dats m 0 c).arrAt 14 cfg0.N
    = resP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 14 _ (by decide +kernel) fun t _ y => ?_
  blk_simp
  have ht : t.val < 32 := lt_of_lt_of_eq t.isLt N_0
  rw [after0_14, out14, emb14 t y]
  have hb : (⟨t.val / 4, by omega⟩ : Fin 8).val = t.val / 4 := rfl
  have hi : (⟨t.val % 4, by omega⟩ : Fin 4).val = t.val % 4 := rfl
  unfold outP
  rw [hB_eq m c t _ _ hb hi (y 3), funext fun e => funext fun f => wi_eq m c t _ _ hb hi e f, funext fun l => co_eq m c t _ _ hb hi (y 3) l,
    funext fun l => down_eq m c t _ _ hb hi (y 3) l, funext fun l => up_eq m c t _ _ hb hi (y 3) l]
  rfl

end Cert.Proj
-- ==== Proof.ProjRefAt.lean ====
module

public import proofs.«01_k».proof.Proof.Gen.ProjectReferenceIdeal.Run
public import proofs.«01_k».proof.Proof.ProjRow
public import Idealize.ShloMosaic.Lib.Pointwise
public import Idealize.ShloMosaic.Lib.KernelVsHost

@[expose] public section

set_option maxRecDepth 16384

noncomputable section

namespace Cert.ProjRef

open Cert.ProjectReferenceIdeal Cert.ProjectReferenceIdeal.Gen Idealize.ShloMosaic Idealize.ShloMosaic.TcCoe Idealize.SL.Sem Idealize.ShloMosaic.StableHlo

/-- The two mixers' outputs side by side. -/
def cat (a b : FVec Ideal S8x2048x512 .f32) : FVec Ideal S8x2048x1024 .f32 :=
  concatenate S8x2048x1024 2 [⟨S8x2048x512, a⟩, ⟨S8x2048x512, b⟩] concatenates_S8x2048x512_S8x2048x512_S8x2048x1024_d2

theorem cat_at (x y : FVec Ideal S8x2048x512 .f32) (b : Fin 8) (n : Fin 2048) (e : Fin 1024) :
    cat x y (ix3 b n e) = if h : e.val < 512 then x (ix3 b n ⟨e.val, h⟩) else y (ix3 b n ⟨e.val - 512, by omega⟩) := by
  pointwise [cat]

/-- The output projection. -/
def out (o : FVec Ideal S8x2048x1024 .f32) (w : FVec Ideal S2x1024x1024 .f32) : FVec Ideal S8x2048x1024 .f32 :=
  Host.dotGeneral dot_S8x2048x1024_S1024x1024_S8x2048x1024_2_0_01_1_n_n none o (shapeCast _ (extractStridedSlice S1x1024x1024 ![0, 0, 0] w slices_S2x1024x1024_S1x1024x1024_0_0_0) shapeCasts_S1x1024x1024_S1024x1024)

theorem out_at (o : FVec Ideal S8x2048x1024 .f32) (w : FVec Ideal S2x1024x1024 .f32) (b : Fin 8) (n : Fin 2048) (d : Fin 1024) :
    out o w (ix3 b n d) = ∑ e : Fin 1024, o (ix3 b n e) * w (ix3 0 e d) := by
  pointwise [out]

/-- The norm over the model width, times a weight. -/
def normed (y : FVec Ideal S8x2048x1024 .f32) (w : FVec Ideal S1024 .f32) : FVec Ideal S8x2048x1024 .f32 :=
  mulf (mulf y (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf y y) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 w))

theorem normed_at (y : FVec Ideal S8x2048x1024 .f32) (w : FVec Ideal S1024 .f32) (b : Fin 8) (n : Fin 2048) (d : Fin 1024) :
    normed y w (ix3 b n d) = Proj.nrm (fun e => y (ix3 b n e)) (fun e => w (ix1 e)) d := by
  unfold Proj.nrm
  pointwise [normed]

/-- A row of the layers' weights. -/
def weight0 (w : FVec Ideal S4x1024 .f32) : FVec Ideal S1024 .f32 := shapeCast _ (extractStridedSlice S1x1024 ![0, 0] w slices_S4x1024_S1x1024_0_0) shapeCasts_S1x1024_S1024
def weight1 (w : FVec Ideal S4x1024 .f32) : FVec Ideal S1024 .f32 := shapeCast _ (extractStridedSlice S1x1024 ![1, 0] w slices_S4x1024_S1x1024_1_0) shapeCasts_S1x1024_S1024

theorem weight0_at (w : FVec Ideal S4x1024 .f32) (d : Fin 1024) : weight0 w (ix1 d) = w (ix2 0 d) := by
  pointwise [weight0]
theorem weight1_at (w : FVec Ideal S4x1024 .f32) (d : Fin 1024) : weight1 w (ix1 d) = w (ix2 1 d) := by
  pointwise [weight1]

/-- A row of the modulation for every batch. -/
def gate (md : FVec Ideal S4x3x8x1024 .f32) : FVec Ideal S8x1x1024 .f32 := broadcastInDim S8x1x1024 ![0, 2] bcast_S8x1024_S8x1x1024_0_2 (shapeCast _ (extractStridedSlice S1x1x8x1024 ![0, 2, 0, 0] md slices_S4x3x8x1024_S1x1x8x1024_0_2_0_0) shapeCasts_S1x1x8x1024_S8x1024)
def scale (md : FVec Ideal S4x3x8x1024 .f32) : FVec Ideal S8x1x1024 .f32 := broadcastInDim S8x1x1024 ![0, 2] bcast_S8x1024_S8x1x1024_0_2 (shapeCast _ (extractStridedSlice S1x1x8x1024 ![1, 1, 0, 0] md slices_S4x3x8x1024_S1x1x8x1024_1_1_0_0) shapeCasts_S1x1x8x1024_S8x1024)
def shift (md : FVec Ideal S4x3x8x1024 .f32) : FVec Ideal S8x1x1024 .f32 := broadcastInDim S8x1x1024 ![0, 2] bcast_S8x1024_S8x1x1024_0_2 (shapeCast _ (extractStridedSlice S1x1x8x1024 ![1, 0, 0, 0] md slices_S4x3x8x1024_S1x1x8x1024_1_0_0_0) shapeCasts_S1x1x8x1024_S8x1024)

theorem gate_at (md : FVec Ideal S4x3x8x1024 .f32) (b : Fin 8) (d : Fin 1024) : gate md (ix3 b 0 d) = md (ix4 0 2 b d) := by
  pointwise [gate]
theorem scale_at (md : FVec Ideal S4x3x8x1024 .f32) (b : Fin 8) (d : Fin 1024) : scale md (ix3 b 0 d) = md (ix4 1 1 b d) := by
  pointwise [scale]
theorem shift_at (md : FVec Ideal S4x3x8x1024 .f32) (b : Fin 8) (d : Fin 1024) : shift md (ix3 b 0 d) = md (ix4 1 0 b d) := by
  pointwise [shift]

/-- The residual stream after the mixer. -/
def stream (x y : FVec Ideal S8x2048x1024 .f32) (g : FVec Ideal S8x1x1024 .f32) (w : FVec Ideal S1024 .f32) : FVec Ideal S8x2048x1024 .f32 :=
  addf x (mulf (broadcastInDim S8x2048x1024 ![0, 1, 2] bcast_S8x1x1024_S8x2048x1024_0_1_2 g) (normed y w))

theorem stream_at (x y : FVec Ideal S8x2048x1024 .f32) (g : FVec Ideal S8x1x1024 .f32) (w : FVec Ideal S1024 .f32) (b : Fin 8) (n : Fin 2048) (d : Fin 1024) :
    stream x y g w (ix3 b n d) = x (ix3 b n d) + g (ix3 b 0 d) * Proj.nrm (fun e => y (ix3 b n e)) (fun e => w (ix1 e)) d := by
  rw [← normed_at y w b n d]
  pointwise [stream]

/-- The modulated stream that enters the projection. -/
def modulated (x : FVec Ideal S8x2048x1024 .f32) (sc sh : FVec Ideal S8x1x1024 .f32) (w : FVec Ideal S1024 .f32) : FVec Ideal S8x2048x1024 .f32 :=
  addf (mulf (normed x w) (broadcastInDim S8x2048x1024 ![0, 1, 2] bcast_S8x1x1024_S8x2048x1024_0_1_2 (addf (broadcastInDim S8x1x1024 ![] bcast_S_S8x1x1024 (constant S_ .f32 0x3F800000#32)) sc))) (broadcastInDim S8x2048x1024 ![0, 1, 2] bcast_S8x1x1024_S8x2048x1024_0_1_2 sh)

theorem modulated_at (x : FVec Ideal S8x2048x1024 .f32) (sc sh : FVec Ideal S8x1x1024 .f32) (w : FVec Ideal S1024 .f32) (b : Fin 8) (n : Fin 2048) (d : Fin 1024) :
    modulated x sc sh w (ix3 b n d) = Proj.nrm (fun e => x (ix3 b n e)) (fun e => w (ix1 e)) d * (Ideal.ofBits .f32 0x3F800000#32 + sc (ix3 b 0 d)) + sh (ix3 b 0 d) := by
  rw [← normed_at x w b n d]
  pointwise [modulated]

/-- The input projection. -/
def into (h : FVec Ideal S8x2048x1024 .f32) (w : FVec Ideal S2x1024x4096 .f32) : FVec Ideal S8x2048x4096 .f32 :=
  Host.dotGeneral dot_S8x2048x1024_S1024x4096_S8x2048x4096_2_0_01_1_n_n none h (shapeCast _ (extractStridedSlice S1x1024x4096 ![0, 0, 0] w slices_S2x1024x4096_S1x1024x4096_0_0_0) shapeCasts_S1x1024x4096_S1024x4096)

theorem into_at (h : FVec Ideal S8x2048x1024 .f32) (w : FVec Ideal S2x1024x4096 .f32) (b : Fin 8) (n : Fin 2048) (d : Fin 4096) :
    into h w (ix3 b n d) = ∑ e : Fin 1024, h (ix3 b n e) * w (ix3 0 e d) := by
  pointwise [into]

/-- The rotation of the first lanes of every head. -/
def rotate (t : FVec Ideal S8x2048x1024 .f32) (co si : FVec Ideal S8x2048x8 .f32) : FVec Ideal S8x2048x1024 .f32 :=
  shapeCast S8x2048x1024 (concatenate S8x2048x16x64 3 [
    ⟨S8x2048x16x8, subf (mulf (extractStridedSlice S8x2048x16x8 ![0, 0, 0, 0] (shapeCast S8x2048x16x64 t shapeCasts_S8x2048x1024_S8x2048x16x64) slices_S8x2048x16x64_S8x2048x16x8_0_0_0_0) (broadcastInDim S8x2048x16x8 ![0, 1, 2, 3] bcast_S8x2048x1x8_S8x2048x16x8_0_1_2_3 (broadcastInDim S8x2048x1x8 ![0, 1, 3] bcast_S8x2048x8_S8x2048x1x8_0_1_3 co)))
      (mulf (extractStridedSlice S8x2048x16x8 ![0, 0, 0, 8] (shapeCast S8x2048x16x64 t shapeCasts_S8x2048x1024_S8x2048x16x64) slices_S8x2048x16x64_S8x2048x16x8_0_0_0_8) (broadcastInDim S8x2048x16x8 ![0, 1, 2, 3] bcast_S8x2048x1x8_S8x2048x16x8_0_1_2_3 (broadcastInDim S8x2048x1x8 ![0, 1, 3] bcast_S8x2048x8_S8x2048x1x8_0_1_3 si)))⟩,
    ⟨S8x2048x16x8, addf (mulf (extractStridedSlice S8x2048x16x8 ![0, 0, 0, 8] (shapeCast S8x2048x16x64 t shapeCasts_S8x2048x1024_S8x2048x16x64) slices_S8x2048x16x64_S8x2048x16x8_0_0_0_8) (broadcastInDim S8x2048x16x8 ![0, 1, 2, 3] bcast_S8x2048x1x8_S8x2048x16x8_0_1_2_3 (broadcastInDim S8x2048x1x8 ![0, 1, 3] bcast_S8x2048x8_S8x2048x1x8_0_1_3 co)))
      (mulf (extractStridedSlice S8x2048x16x8 ![0, 0, 0, 0] (shapeCast S8x2048x16x64 t shapeCasts_S8x2048x1024_S8x2048x16x64) slices_S8x2048x16x64_S8x2048x16x8_0_0_0_0) (broadcastInDim S8x2048x16x8 ![0, 1, 2, 3] bcast_S8x2048x1x8_S8x2048x16x8_0_1_2_3 (broadcastInDim S8x2048x1x8 ![0, 1, 3] bcast_S8x2048x8_S8x2048x1x8_0_1_3 si)))⟩,
    ⟨S8x2048x16x48, extractStridedSlice S8x2048x16x48 ![0, 0, 0, 16] (shapeCast S8x2048x16x64 t shapeCasts_S8x2048x1024_S8x2048x16x64) slices_S8x2048x16x64_S8x2048x16x48_0_0_0_16⟩]
    concatenates_S8x2048x16x8_S8x2048x16x8_S8x2048x16x48_S8x2048x16x64_d3) shapeCasts_S8x2048x16x64_S8x2048x1024

theorem rotate_at (t : FVec Ideal S8x2048x1024 .f32) (co si : FVec Ideal S8x2048x8 .f32) (b : Fin 8) (n : Fin 2048) (e : Fin 1024) :
    rotate t co si (ix3 b n e) = if h : e.val % 64 < 8 then t (ix3 b n e) * co (ix3 b n ⟨e.val % 64, h⟩) - t (ix3 b n ⟨e.val + 8, by omega⟩) * si (ix3 b n ⟨e.val % 64, h⟩)
      else if h8 : e.val % 64 - 8 < 8 then t (ix3 b n e) * co (ix3 b n ⟨e.val % 64 - 8, h8⟩) + t (ix3 b n ⟨e.val - 8, by omega⟩) * si (ix3 b n ⟨e.val % 64 - 8, h8⟩)
      else t (ix3 b n e) := by
  have key (a : Fin 1024) (a' : Fin 1024) (h : a.val = a'.val) : t (ix3 b n a) = t (ix3 b n a') := congrArg (fun k => t (ix3 b n k)) (Fin.ext h)
  pointwise [rotate]
  by_cases h : e.val % 64 < 8
  · rw [dif_pos h, dif_pos h]
    refine congrArg (fun r => _ - r * _) (key _ _ ?_)
    change e.val / 64 * 64 + (8 + e.val % 64) = e.val + 8
    omega
  rw [dif_neg h, dif_neg h]
  by_cases h8 : e.val % 64 - 8 < 8
  · rw [dif_pos h8, dif_pos h8]
    refine congrArg₂ (fun r r' => r * _ + r' * _) (key _ _ ?_) (key _ _ ?_)
    · change e.val / 64 * 64 + (8 + (e.val % 64 - 8)) = e.val
      omega
    · change e.val / 64 * 64 + (e.val % 64 - 8) = e.val - 8
      omega
  rw [dif_neg h8, dif_neg h8]
  refine key _ _ ?_
  change e.val / 64 * 64 + (16 + (e.val % 64 - 8 - 8)) = e.val
  omega

/-- One quarter of the projection's columns. -/
def quarter (o : ℕ) (z : FVec Ideal S8x2048x4096 .f32) (h : S8x2048x4096.Slices ![0, 0, o] S8x2048x1024) : FVec Ideal S8x2048x1024 .f32 :=
  extractStridedSlice S8x2048x1024 ![0, 0, o] z h

/-- The four parts in slabs of 128 lanes. -/
def packed (q k v g : FVec Ideal S8x2048x1024 .f32) : FVec Ideal S8x8x4x2048x128 .bf16 :=
  transpose S8x8x4x2048x128 [0, 3, 1, 2, 4] (shapeCast S8x4x2048x8x128 (truncf .bf16 (concatenate S8x4x2048x1024 1 [
    ⟨S8x1x2048x1024, broadcastInDim S8x1x2048x1024 ![0, 2, 3] bcast_S8x2048x1024_S8x1x2048x1024_0_2_3 q⟩,
    ⟨S8x1x2048x1024, broadcastInDim S8x1x2048x1024 ![0, 2, 3] bcast_S8x2048x1024_S8x1x2048x1024_0_2_3 k⟩,
    ⟨S8x1x2048x1024, broadcastInDim S8x1x2048x1024 ![0, 2, 3] bcast_S8x2048x1024_S8x1x2048x1024_0_2_3 v⟩,
    ⟨S8x1x2048x1024, broadcastInDim S8x1x2048x1024 ![0, 2, 3] bcast_S8x2048x1024_S8x1x2048x1024_0_2_3 g⟩]
    concatenates_S8x1x2048x1024_S8x1x2048x1024_S8x1x2048x1024_S8x1x2048x1024_S8x4x2048x1024_d1) bitsLt_bf16_f32)
    shapeCasts_S8x4x2048x1024_S8x4x2048x8x128) transposes_S8x4x2048x8x128_S8x8x4x2048x128_0_3_1_2_4

theorem packed_at (q k v g : FVec Ideal S8x2048x1024 .f32) (b u : Fin 8) (j : Fin 4) (n : Fin 2048) (l : Fin 128) :
    packed q k v g (ix5 b u j n l) = (![q, k, v, g] j) (ix3 b n ⟨128 * u.val + l.val, by omega⟩) := by
  have key (x : FVec Ideal S8x2048x1024 .f32) (a : Fin 1024) (h : a.val = u.val * 128 + l.val) : x (ix3 b n a) = x (ix3 b n ⟨128 * u.val + l.val, by omega⟩) :=
    congrArg (fun i => x (ix3 b n i)) (Fin.ext (h.trans (congrArg (· + l.val) (Nat.mul_comm _ _))))
  pointwise [packed]
  fin_cases j
  · exact key q _ rfl
  · exact key k _ rfl
  · exact key v _ rfl
  · exact key g _ rfl

theorem packed0_at (q k v g : FVec Ideal S8x2048x1024 .f32) (b u : Fin 8) (n : Fin 2048) (l : Fin 128) :
    packed q k v g (ix5 b u 0 n l) = q (ix3 b n ⟨128 * u.val + l.val, by omega⟩) := packed_at q k v g b u 0 n l

theorem packed1_at (q k v g : FVec Ideal S8x2048x1024 .f32) (b u : Fin 8) (n : Fin 2048) (l : Fin 128) :
    packed q k v g (ix5 b u 1 n l) = k (ix3 b n ⟨128 * u.val + l.val, by omega⟩) := packed_at q k v g b u 1 n l

theorem packed2_at (q k v g : FVec Ideal S8x2048x1024 .f32) (b u : Fin 8) (n : Fin 2048) (l : Fin 128) :
    packed q k v g (ix5 b u 2 n l) = v (ix3 b n ⟨128 * u.val + l.val, by omega⟩) := packed_at q k v g b u 2 n l

theorem packed3_at (q k v g : FVec Ideal S8x2048x1024 .f32) (b u : Fin 8) (n : Fin 2048) (l : Fin 128) :
    packed q k v g (ix5 b u 3 n l) = g (ix3 b n ⟨128 * u.val + l.val, by omega⟩) := packed_at q k v g b u 3 n l

section
variable (a0 a1 : FVec Ideal S8x2048x512 .f32) (x : FVec Ideal S8x2048x1024 .f32) (md : FVec Ideal S4x3x8x1024 .f32) (co si : FVec Ideal S8x2048x8 .f32)
  (pre post : FVec Ideal S4x1024 .f32) (wo : FVec Ideal S2x1024x1024 .f32) (wi : FVec Ideal S2x1024x4096 .f32)

/-- The reference's residual stream of the arguments. -/
def refX : FVec Ideal S8x2048x1024 .f32 := stream x (out (cat a0 a1) wo) (gate md) (weight0 post)

/-- The reference's projections of the arguments. -/
def refZ : FVec Ideal S8x2048x4096 .f32 := into (modulated (refX a0 a1 x md post wo) (scale md) (shift md) (weight1 pre)) wi

/-- The reference's packed result from its projections. -/
def refP (z : FVec Ideal S8x2048x4096 .f32) : FVec Ideal S8x8x4x2048x128 .bf16 :=
  packed (rotate (quarter 0 z slices_S8x2048x4096_S8x2048x1024_0_0_0) co si) (rotate (quarter 1024 z slices_S8x2048x4096_S8x2048x1024_0_0_1024) co si)
    (quarter 2048 z slices_S8x2048x4096_S8x2048x1024_0_0_2048) (quarter 3072 z slices_S8x2048x4096_S8x2048x1024_0_0_3072)
end

section
variable (m : (ℓ : Loc nD τ sig) → Buf (Elt Ideal) ℓ) (c : Dev nD)

theorem res0 : Value.res_main_v24 (F := Ideal) (launchContents m c) = refX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) := rfl

theorem resZ : Value.res_main_v54 (F := Ideal) (launchContents m c) = refZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) := rfl
end

end Cert.ProjRef
-- ==== Proof.ProjJoin.lean ====
module

public import proofs.«01_k».proof.Proof.ProjArray
public import proofs.«01_k».proof.Proof.ProjRefAt

@[expose] public section

set_option maxRecDepth 16384

noncomputable section

namespace Cert.Proj

open Cert.ProjectIdeal Cert.ProjectIdeal.Gen Idealize.ShloMosaic Idealize.ShloMosaic.TcCoe

section
variable (a0 a1 : FVec Ideal S8x2048x512 .f32) (x : FVec Ideal S8x2048x1024 .f32) (md : FVec Ideal S4x3x8x1024 .f32) (co si : FVec Ideal S8x2048x8 .f32)
  (pre post : FVec Ideal S4x1024 .f32) (wo : FVec Ideal S2x1024x1024 .f32) (wi : FVec Ideal S2x1024x4096 .f32) (b : Fin 8) (n : Fin 2048)

theorem refX_at (d : Fin 1024) : ProjRef.refX a0 a1 x md post wo (ix3 b n d) = xRow a0 a1 x md post wo b n d := by
  unfold ProjRef.refX xRow upd
  rw [ProjRef.stream_at, ProjRef.gate_at]
  refine congrArg (x (ix3 b n d) + md (ix4 0 2 b d) * ·) (congrArg₂ (nrm · · d) (funext fun f => ?_) (funext fun f => ProjRef.weight0_at post f))
  rw [ProjRef.out_at]
  refine Finset.sum_congr rfl fun e _ => congrArg (· * wo (ix3 0 e f)) ?_
  exact ProjRef.cat_at a0 a1 b n e

theorem refH_at (d : Fin 1024) : ProjRef.modulated (ProjRef.refX a0 a1 x md post wo) (ProjRef.scale md) (ProjRef.shift md) (ProjRef.weight1 pre) (ix3 b n d)
    = hRow a0 a1 x md pre post wo b n d := by
  unfold hRow mdl
  rw [ProjRef.modulated_at, ProjRef.scale_at, ProjRef.shift_at]
  refine congrArg (· * (Ideal.ofBits .f32 0x3F800000#32 + md (ix4 1 1 b d)) + md (ix4 1 0 b d)) ?_
  exact congrArg₂ (nrm · · d) (funext fun f => refX_at a0 a1 x md post wo b n f) (funext fun f => ProjRef.weight1_at pre f)

theorem refZ_at (d : Fin 4096) : ProjRef.refZ a0 a1 x md pre post wo wi (ix3 b n d)
    = col (hRow a0 a1 x md pre post wo b n) (fun e f => wi (ix3 0 e f)) d.val := by
  unfold ProjRef.refZ col
  rw [ProjRef.into_at, dif_pos d.isLt]
  exact Finset.sum_congr rfl fun e _ => congrArg (· * wi (ix3 0 e d)) (refH_at a0 a1 x md pre post wo b n e)

theorem quarter_at (o : ℕ) (h) (e : Fin 1024) (ho : o + 1024 ≤ 4096) (k : ℕ) (hk : k = o + e.val) :
    ProjRef.quarter o (ProjRef.refZ a0 a1 x md pre post wo wi) h (ix3 b n e) = col (hRow a0 a1 x md pre post wo b n) (fun e f => wi (ix3 0 e f)) k := by
  subst hk
  refine Eq.trans ?_ (refZ_at a0 a1 x md pre post wo wi b n ⟨o + e.val, by omega⟩)
  refine congrArg (ProjRef.refZ a0 a1 x md pre post wo wi) (funext fun a => Fin.ext ?_)
  fin_cases a
  · exact Nat.zero_add _
  · exact Nat.zero_add _
  · rfl

theorem lane_lo (x y : Fin 8 → EReal) (z : EReal) (l : ℕ) (e : Fin 8) (h : l % 64 = e.val) : lane x y z l = x e := by
  unfold lane
  rw [dif_pos (by omega)]
  exact congrArg x (Fin.ext h)

theorem lane_mid (x y : Fin 8 → EReal) (z : EReal) (l : ℕ) (e : Fin 8) (h : l % 64 = e.val + 8) : lane x y z l = y e := by
  unfold lane
  rw [dif_neg (by omega), dif_pos (by omega)]
  exact congrArg y (Fin.ext (by change l % 64 - 8 = e.val; omega))

theorem lane_hi (x y : Fin 8 → EReal) (z : EReal) (l : ℕ) (h : 16 ≤ l % 64) : lane x y z l = z := by
  unfold lane
  rw [dif_neg (by omega), dif_neg (by omega)]

/-- The word of one. -/
theorem ofBits_one : Ideal.ofBits .f32 0x3F800000#32 = 1 := by
  simp [Ideal.ofBits, Ideal.ieee, -EReal.coe_mul]; norm_num

/-- A rotated entry: the lane tables leave out, at every lane, the partner that does not belong to it. -/
theorem rotated (o : ℕ) (h) (k u : ℕ) (hk : k < 2) (hu : u < 8) (ho : o = 1024 * k) (l : Fin 128) (e : Fin 1024) (he : e.val = 128 * u + l.val) :
    ProjRef.rotate (ProjRef.quarter o (ProjRef.refZ a0 a1 x md pre post wo wi) h) co si (ix3 b n e)
      = slabE (hRow a0 a1 x md pre post wo b n) (fun e f => wi (ix3 0 e f))
          (fun l => lane (fun d => co (ix3 b n d)) (fun d => co (ix3 b n d)) (Ideal.ofBits .f32 0x3F800000#32) l.val)
          (fun l => lane (fun d => -si (ix3 b n d)) (fun _ => 0) 0 l.val) (fun l => lane (fun _ => 0) (fun d => si (ix3 b n d)) 0 l.val) u k l := by
  have hl := l.isLt
  unfold slabE
  rw [if_pos hk, ProjRef.rotate_at]
  dsimp only
  by_cases h1 : e.val % 64 < 8
  · have hm : l.val % 64 = (⟨e.val % 64, h1⟩ : Fin 8).val := by change _ = e.val % 64; omega
    rw [dif_pos h1, quarter_at _ _ _ _ _ _ _ _ _ _ o h e (by omega) (1024 * k + 128 * u + l.val) (by omega),
      quarter_at _ _ _ _ _ _ _ _ _ _ o h ⟨e.val + 8, _⟩ (by omega) (1024 * k + 128 * u + (l.val + 8) % 128) (by change _ = o + (e.val + 8); omega)]
    rw [lane_lo _ _ _ _ _ hm, lane_lo _ _ _ _ _ hm, lane_lo _ _ _ _ _ hm, mul_zero, add_zero, sub_eq_add_neg, ← mul_neg]
  rw [dif_neg h1]
  by_cases h2 : e.val % 64 - 8 < 8
  · have hm : l.val % 64 = (⟨e.val % 64 - 8, h2⟩ : Fin 8).val + 8 := by change _ = e.val % 64 - 8 + 8; omega
    rw [dif_pos h2, quarter_at _ _ _ _ _ _ _ _ _ _ o h e (by omega) (1024 * k + 128 * u + l.val) (by omega),
      quarter_at _ _ _ _ _ _ _ _ _ _ o h ⟨e.val - 8, _⟩ (by omega) (1024 * k + 128 * u + (l.val + 120) % 128) (by change _ = o + (e.val - 8); omega)]
    rw [lane_mid _ _ _ _ _ hm, lane_mid _ _ _ _ _ hm, lane_mid _ _ _ _ _ hm, mul_zero, add_zero]
  rw [dif_neg h2]
  have hm : 16 ≤ l.val % 64 := by omega
  rw [quarter_at _ _ _ _ _ _ _ _ _ _ o h e (by omega) (1024 * k + 128 * u + l.val) (by omega)]
  rw [lane_hi _ _ _ _ hm, lane_hi _ _ _ _ hm, lane_hi _ _ _ _ hm, mul_zero, mul_zero, add_zero, add_zero, ofBits_one, mul_one]

theorem plain (o : ℕ) (h) (k u : ℕ) (hk : ¬ k < 2) (hk4 : k < 4) (ho : o = 1024 * k) (l : Fin 128) (e : Fin 1024) (he : e.val = 128 * u + l.val) (c s t : Fin 128 → EReal) :
    ProjRef.quarter o (ProjRef.refZ a0 a1 x md pre post wo wi) h (ix3 b n e)
      = slabE (hRow a0 a1 x md pre post wo b n) (fun e f => wi (ix3 0 e f)) c s t u k l := by
  unfold slabE
  rw [if_neg hk]
  exact quarter_at _ _ _ _ _ _ _ _ _ _ o h e (by omega) _ (by omega)
end

section
variable (a0 a1 : FVec Ideal S8x2048x512 .f32) (x : FVec Ideal S8x2048x1024 .f32) (md : FVec Ideal S4x3x8x1024 .f32) (co si : FVec Ideal S8x2048x8 .f32)
  (pre post : FVec Ideal S4x1024 .f32) (wo : FVec Ideal S2x1024x1024 .f32) (wi : FVec Ideal S2x1024x4096 .f32)

theorem resX_eq : resX a0 a1 x md post wo = ProjRef.refX a0 a1 x md post wo := by
  funext y
  idx_vars y
  exact (refX_at a0 a1 x md post wo _ _ _).symm

theorem resP_at (b u : Fin 8) (j : Fin 4) (n : Fin 2048) (l : Fin 128) : resP a0 a1 x md co si pre post wo wi (ix5 b u j n l)
    = slabE (hRow a0 a1 x md pre post wo b n) (fun e f => wi (ix3 0 e f))
        (fun l => lane (fun d => co (ix3 b n d)) (fun d => co (ix3 b n d)) (Ideal.ofBits .f32 0x3F800000#32) l.val)
        (fun l => lane (fun d => -si (ix3 b n d)) (fun _ => 0) 0 l.val) (fun l => lane (fun _ => 0) (fun d => si (ix3 b n d)) 0 l.val) u.val j.val l := rfl

theorem resP_eq : resP a0 a1 x md co si pre post wo wi = ProjRef.refP co si (ProjRef.refZ a0 a1 x md pre post wo wi) := by
  funext y
  obtain ⟨b, u, j, n, l, rfl⟩ : ∃ (b u : Fin 8) (j : Fin 4) (n : Fin 2048) (l : Fin 128), y = ix5 b u j n l :=
    ⟨y 0, y 1, y 2, y 3, y 4, funext fun a => by fin_cases a <;> rfl⟩
  rw [resP_at]
  unfold ProjRef.refP
  have r0 := rotated a0 a1 x md co si pre post wo wi b n 0 ProjectReferenceIdeal.Gen.slices_S8x2048x4096_S8x2048x1024_0_0_0 0 u.val (by decide) u.isLt rfl l ⟨128 * u.val + l.val, by omega⟩ rfl
  have r1 := rotated a0 a1 x md co si pre post wo wi b n 1024 ProjectReferenceIdeal.Gen.slices_S8x2048x4096_S8x2048x1024_0_0_1024 1 u.val (by decide) u.isLt rfl l ⟨128 * u.val + l.val, by omega⟩ rfl
  have r2 := plain a0 a1 x md pre post wo wi b n 2048 ProjectReferenceIdeal.Gen.slices_S8x2048x4096_S8x2048x1024_0_0_2048 2 u.val (by decide) (by decide) rfl l ⟨128 * u.val + l.val, by omega⟩ rfl
  have r3 := plain a0 a1 x md pre post wo wi b n 3072 ProjectReferenceIdeal.Gen.slices_S8x2048x4096_S8x2048x1024_0_0_3072 3 u.val (by decide) (by decide) rfl l ⟨128 * u.val + l.val, by omega⟩ rfl
  have hj : j = 0 ∨ j = 1 ∨ j = 2 ∨ j = 3 := by omega
  rcases hj with rfl | rfl | rfl | rfl
  · rw [ProjRef.packed0_at, r0]
    rfl
  · rw [ProjRef.packed1_at, r1]
    rfl
  · rw [ProjRef.packed2_at, r2]
    rfl
  · rw [ProjRef.packed3_at, r3]
    rfl
end

end Cert.Proj
-- ==== Proof.EvenOut.lean ====
module

public import proofs.«01_k».proof.Proof.Gen.EvenIdeal.Frame
public import proofs.«01_k».proof.Proof.ProjOut

@[expose] public section

set_option maxRecDepth 16384

noncomputable section

namespace Cert.Even

open Cert.EvenIdeal Cert.EvenIdeal.Gen Idealize.ShloMosaic Idealize.ShloMosaic.TcCoe Cert.Proj

/-- One column of a row's projection by two weights side by side. -/
def col2 (h : Fin 1024 → EReal) (W : Fin 1024 → Fin 1536 → EReal) (W' : Fin 1024 → Fin 2560 → EReal) (n : ℕ) : EReal :=
  if hn : n < 1536 then ∑ e : Fin 1024, h e * W e ⟨n, hn⟩ else if hn : n - 1536 < 2560 then ∑ e : Fin 1024, h e * W' e ⟨n - 1536, hn⟩ else 0

/-- The first column of a slab: the columns of the first mixer's four units, then those of the second's. -/
def base (u k : ℕ) : ℕ := if u < 4 then 512 * k + 128 * u else 2048 + 512 * k + 128 * (u - 4)

/-- One entry of a projected slab: the second mixer's queries and keys are rotated, nothing else is. -/
def slabG (f : ℕ → EReal) (c s t : Fin 128 → EReal) (u k : ℕ) (l : Fin 128) : EReal :=
  if 4 ≤ u ∧ k < 2 then f (base u k + l.val) * c l + f (base u k + (l.val + 8) % 128) * s l + f (base u k + (l.val + 120) % 128) * t l
  else f (base u k + l.val)

section
variable (x0 : Vec Ideal S1x8x512x128 .bf16) (x8 : Vec Ideal S1x1024x1536 .bf16) (x9 : Vec Ideal S1x1024x2560 .bf16) (x10 : Vec Ideal S1x1024x128 .bf16)

theorem ld_slab (o : ℕ) (ho : o + 256 ≤ 512) (j : Fin 8) (i) (y0 y1 : Fin 1) (y2 : Fin 256) (y3 : Fin 128) :
    View.ld x0 (Rect.unit (s := S1x8x512x128) ![0, j.val, o, 0] S1x1x256x128.size i) (ix4 y0 y1 y2 y3) = x0 (ix4 0 j (row o ho y2) y3) := by
  refine congrArg x0 (funext fun a => Fin.ext ?_)
  fin_cases a
  · simp
  · simp
  · simp [row]
  · simp

theorem ld_W1 (n : ℕ) (hn : n + 256 ≤ 1536) (i) (y0 : Fin 1) (y1 : Fin 1024) (y2 : Fin 256) :
    View.ld x8 (Rect.unit (s := S1x1024x1536) ![0, 0, n] S1x1024x256.size i) (ix3 y0 y1 y2) = x8 (ix3 0 y1 ⟨n + y2.val, by omega⟩) := by
  refine congrArg x8 (funext fun a => Fin.ext ?_)
  fin_cases a <;> simp

theorem ld_W2 (n : ℕ) (hn : n + 256 ≤ 2560) (i) (y0 : Fin 1) (y1 : Fin 1024) (y2 : Fin 256) :
    View.ld x9 (Rect.unit (s := S1x1024x2560) ![0, 0, n] S1x1024x256.size i) (ix3 y0 y1 y2) = x9 (ix3 0 y1 ⟨n + y2.val, by omega⟩) := by
  refine congrArg x9 (funext fun a => Fin.ext ?_)
  fin_cases a <;> simp

theorem ld_Wf (i) : View.ld x10 (Rect.unit (s := S1x1024x128) ![0, 0, 0] S1x1024x128.size i) = x10 := by
  funext y
  refine congrArg x10 (funext fun a => Fin.ext ?_)
  fin_cases a <;> simp
end

/-- A row of the mixer's output, one slab of lanes after the other. -/
def catB (x0 : Vec Ideal S1x8x512x128 .bf16) (r : Fin 512) (e : Fin 1024) : EReal := x0 (ix4 0 ⟨e.val / 128, by omega⟩ r ⟨e.val % 128, by omega⟩)

section
variable (x0 : Vec Ideal S1x8x512x128 .bf16) (x1 : Vec Ideal S1x1024x1024 .bf16) (x2 : Vec Ideal S1x1x1x1x1024 .f32) (x3 : Vec Ideal S1x1x1024 .f32)
  (x4 : Vec Ideal S1x512x1024 .f32) (x5 x6 : Vec Ideal S1x1x1x1x1024 .f32) (x7 : Vec Ideal S1x1x1024 .f32)

/-- A row of the new residual stream. -/
def xB (r : Fin 512) (d : Fin 1024) : EReal :=
  upd (catB x0 r) (fun e f => x1 (ix3 0 e f)) (fun f => x4 (ix3 0 r f)) (fun f => x2 (ix5 0 0 0 0 f)) (fun f => x3 (ix3 0 0 f)) d

/-- A row that enters the projection. -/
def hB (r : Fin 512) (d : Fin 1024) : EReal :=
  mdl (xB x0 x1 x2 x3 x4 r) (fun f => x7 (ix3 0 0 f)) (fun f => x6 (ix5 0 0 0 0 f)) (fun f => x5 (ix5 0 0 0 0 f)) d

/-- Rows of the residual stream as the kernel computes them. -/
def xT (o : ℕ) (h4 : ∀ a, ![0, o, 0] a + S1x256x1024.size a ≤ S1x512x1024.size a) (h0 : ∀ (j : Fin 8) a, ![0, j.val, o, 0] a + S1x1x256x128.size a ≤ S1x8x512x128.size a) : FVec Ideal S256x1024 .f32 :=
  ProjectIdeal.Gen.k0_pay13 (k0_pay4 (View.ld x4 (Rect.unit (s := S1x512x1024) ![0, o, 0] S1x256x1024.size h4))) (k0_pay5 (View.ld x2 r0_1)) (k0_pay6 (View.ld x3 r0_2))
    (k0_pay7 (View.ld x0 (Rect.unit (s := S1x8x512x128) ![0, (0 : Fin 8).val, o, 0] S1x1x256x128.size (h0 0))))
    (k0_pay7 (View.ld x0 (Rect.unit (s := S1x8x512x128) ![0, (1 : Fin 8).val, o, 0] S1x1x256x128.size (h0 1))))
    (k0_pay7 (View.ld x0 (Rect.unit (s := S1x8x512x128) ![0, (2 : Fin 8).val, o, 0] S1x1x256x128.size (h0 2))))
    (k0_pay7 (View.ld x0 (Rect.unit (s := S1x8x512x128) ![0, (3 : Fin 8).val, o, 0] S1x1x256x128.size (h0 3))))
    (k0_pay7 (View.ld x0 (Rect.unit (s := S1x8x512x128) ![0, (4 : Fin 8).val, o, 0] S1x1x256x128.size (h0 4))))
    (k0_pay7 (View.ld x0 (Rect.unit (s := S1x8x512x128) ![0, (5 : Fin 8).val, o, 0] S1x1x256x128.size (h0 5))))
    (View.ld x0 (Rect.unit (s := S1x8x512x128) ![0, (6 : Fin 8).val, o, 0] S1x1x256x128.size (h0 6)))
    (View.ld x0 (Rect.unit (s := S1x8x512x128) ![0, (7 : Fin 8).val, o, 0] S1x1x256x128.size (h0 7)))
    (View.ld x1 r0_11)

theorem slab_at (p : Vec Ideal S1x1x256x128 .bf16) (r : Fin 256) (l : Fin 128) : k0_pay7 p (ix2 r l) = p (ix4 0 0 r l) := by
  pointwise [k0_pay7]

theorem xT_at (o : ℕ) (ho : o + 256 ≤ 512) (h4 h0) (r : Fin 256) (d : Fin 1024) :
    xT x0 x1 x2 x3 x4 o h4 h0 (ix2 r d) = xB x0 x1 x2 x3 x4 (row o ho r) d := by
  unfold xT
  rw [pay13, ld_w, ld_v1, ld_v2]
  unfold xB
  congr 1
  · funext e
    refine Eq.trans (b := x0 (ix4 0 ⟨e.val / 128, by omega⟩ (row o ho r) ⟨e.val % 128, by omega⟩)) ?_ rfl
    unfold cat8
    generalize (⟨e.val / 128, _⟩ : Fin 8) = j
    generalize (⟨e.val % 128, _⟩ : Fin 128) = l
    fin_cases j
    · exact (slab_at _ r l).trans (ld_slab x0 o ho 0 _ _ _ _ _)
    · exact (slab_at _ r l).trans (ld_slab x0 o ho 1 _ _ _ _ _)
    · exact (slab_at _ r l).trans (ld_slab x0 o ho 2 _ _ _ _ _)
    · exact (slab_at _ r l).trans (ld_slab x0 o ho 3 _ _ _ _ _)
    · exact (slab_at _ r l).trans (ld_slab x0 o ho 4 _ _ _ _ _)
    · exact (slab_at _ r l).trans (ld_slab x0 o ho 5 _ _ _ _ _)
    · exact (slab_at _ r l).trans (ld_slab x0 o ho 6 _ _ _ _ _)
    · exact (slab_at _ r l).trans (ld_slab x0 o ho 7 _ _ _ _ _)
  · funext f
    pointwise [k0_pay4]
    rfl
  · funext f
    pointwise [k0_pay5]
  · funext f
    pointwise [k0_pay6]

/-- Rows that enter the projection as the kernel computes them. -/
def hT (o : ℕ) (h4 : ∀ a, ![0, o, 0] a + S1x256x1024.size a ≤ S1x512x1024.size a) (h0 : ∀ (j : Fin 8) a, ![0, j.val, o, 0] a + S1x1x256x128.size a ≤ S1x8x512x128.size a) : FVec Ideal S256x1024 .bf16 :=
  ProjectIdeal.Gen.k0_pay25 (xT x0 x1 x2 x3 x4 o h4 h0) (View.ld x7 r0_2) (View.ld x6 r0_1) (View.ld x5 r0_1)

theorem hT_at (o : ℕ) (ho : o + 256 ≤ 512) (h4 h0) (r : Fin 256) (d : Fin 1024) :
    hT x0 x1 x2 x3 x4 x5 x6 x7 o h4 h0 (ix2 r d) = hB x0 x1 x2 x3 x4 x5 x6 x7 (row o ho r) d := by
  unfold hT
  rw [pay15, ld_v1, ld_v1, ld_v2]
  unfold hB
  congr 1
  funext f
  exact xT_at x0 x1 x2 x3 x4 o ho h4 h0 r f
end

/-- A block of rows. -/
def outX (G : Fin 512 → Fin 1024 → EReal) : FVec Ideal S1x512x1024 .f32 := fun y => G (y 1) (y 2)

/-- The block of the gate logits: every row times the padded weight. -/
def outF (H : Fin 512 → Fin 1024 → EReal) (x10 : Vec Ideal S1x1024x128 .bf16) : FVec Ideal S1x512x128 .f32 :=
  fun y => ∑ e : Fin 1024, H (y 1) e * x10 (ix3 0 e (y 2))

/-- The block of the projection. -/
def outP (H : Fin 512 → Fin 1024 → EReal) (x8 : Vec Ideal S1x1024x1536 .bf16) (x9 : Vec Ideal S1x1024x2560 .bf16) (x11 x12 x13 : Vec Ideal S1x512x128 .f32) : FVec Ideal S1x8x4x512x128 .bf16 := fun y =>
  slabG (col2 (H (y 3)) (fun e f => x8 (ix3 0 e f)) (fun e f => x9 (ix3 0 e f))) (fun l => x11 (ix3 0 (y 3) l)) (fun l => x12 (ix3 0 (y 3) l)) (fun l => x13 (ix3 0 (y 3) l))
    (y 1).val (y 2).val (y 4)

section
variable (H : Fin 512 → Fin 1024 → EReal) (o : ℕ) (ho : o + 256 ≤ 512)

theorem tileX (X : FVec Ideal S256x1024 .f32) (hX : ∀ r d, X (ix2 r d) = H (row o ho r) d) (h4) (x : (Rect.unit (s := S1x512x1024) ![0, o, 0] S1x256x1024.size h4).shape.Idx) :
    shapeCast S1x256x1024 X shapeCasts_S256x1024_S1x256x1024 x = outX H ((Rect.unit (s := S1x512x1024) ![0, o, 0] S1x256x1024.size h4).emb x) := by
  have e1 : (Rect.unit (s := S1x512x1024) ![0, o, 0] S1x256x1024.size h4).emb x 1 = row o ho (x 1) := Fin.ext (by simp [row])
  have e2 : (Rect.unit (s := S1x512x1024) ![0, o, 0] S1x256x1024.size h4).emb x 2 = x 2 := Fin.ext (by simp)
  have ex : x = (ix3 0 (x 1) (x 2) : S1x256x1024.Idx) := by
    refine funext fun a => Fin.ext ?_
    have h0 : (x 0).val < 1 := (x 0).isLt
    fin_cases a
    · exact Nat.lt_one_iff.mp h0
    · rfl
    · rfl
  refine Eq.trans ?_ (congrArg₂ H e1.symm e2.symm)
  refine Eq.trans ?_ (hX (x 1) (x 2))
  exact (congrArg _ ex).trans (Proj.cast_at _ _ _)

variable (h : FVec Ideal S256x1024 .bf16) (hh : ∀ r d, h (ix2 r d) = H (row o ho r) d)
include hh

theorem logit_at (w : Vec Ideal S1x1024x128 .bf16) (r : Fin 256) (l : Fin 128) : k0_pay3 h w (ix3 0 r l) = ∑ e : Fin 1024, H (row o ho r) e * w (ix3 0 e l) := by
  refine Eq.trans (b := ∑ e : Fin 1024, h (ix2 r e) * w (ix3 0 e l)) ?_ (Finset.sum_congr rfl fun e _ => congrArg (· * _) (hh r e))
  pointwise [k0_pay3]

theorem tileF (x10 : Vec Ideal S1x1024x128 .bf16) (i) (ip) (x : (Rect.unit (s := S1x512x128) ![0, o, 0] S1x256x128.size ip).shape.Idx) :
    k0_pay3 h (View.ld x10 (Rect.unit (s := S1x1024x128) ![0, 0, 0] S1x1024x128.size i)) x = outF H x10 ((Rect.unit (s := S1x512x128) ![0, o, 0] S1x256x128.size ip).emb x) := by
  have e1 : (Rect.unit (s := S1x512x128) ![0, o, 0] S1x256x128.size ip).emb x 1 = row o ho (x 1) := Fin.ext (by simp [row])
  have e2 : (Rect.unit (s := S1x512x128) ![0, o, 0] S1x256x128.size ip).emb x 2 = x 2 := Fin.ext (by simp)
  have ex : x = (ix3 0 (x 1) (x 2) : S1x256x128.Idx) := by
    refine funext fun a => Fin.ext ?_
    have h0 : (x 0).val < 1 := (x 0).isLt
    fin_cases a
    · exact Nat.lt_one_iff.mp h0
    · rfl
    · rfl
  rw [ld_Wf]
  unfold outF
  rw [e1, e2]
  exact (congrArg _ ex).trans (logit_at H o ho h hh x10 _ _)

variable (x8 : Vec Ideal S1x1024x1536 .bf16) (x9 : Vec Ideal S1x1024x2560 .bf16) (x11 x12 x13 : Vec Ideal S1x512x128 .f32)

/-- The sum behind one entry of a slab is a column of the projection, by the first weight. -/
theorem col_lo (n m off : ℕ) (hn : n + 256 ≤ 1536) (hm : m = n + off) (hoff : off < 256) (i) (r : Fin 256) :
    ∑ e : Fin 1024, h (ix2 r e) * View.ld x8 (Rect.unit (s := S1x1024x1536) ![0, 0, n] S1x1024x256.size i) (ix3 0 e ⟨off, hoff⟩)
      = col2 (H (row o ho r)) (fun e f => x8 (ix3 0 e f)) (fun e f => x9 (ix3 0 e f)) m := by
  subst hm
  unfold col2
  rw [dif_pos (by omega)]
  exact Finset.sum_congr rfl fun e _ => congrArg₂ _ (hh r e) (ld_W1 x8 n hn i 0 e ⟨off, hoff⟩)

/-- And by the second. -/
theorem col_hi (n m off : ℕ) (hn : n + 256 ≤ 2560) (hm : m = 1536 + n + off) (hoff : off < 256) (i) (r : Fin 256) :
    ∑ e : Fin 1024, h (ix2 r e) * View.ld x9 (Rect.unit (s := S1x1024x2560) ![0, 0, n] S1x1024x256.size i) (ix3 0 e ⟨off, hoff⟩)
      = col2 (H (row o ho r)) (fun e f => x8 (ix3 0 e f)) (fun e f => x9 (ix3 0 e f)) m := by
  subst hm
  unfold col2
  rw [dif_neg (by omega), dif_pos (by omega)]
  refine Finset.sum_congr rfl fun e _ => congrArg₂ _ (hh r e) ((ld_W2 x9 n hn i 0 e ⟨off, hoff⟩).trans ?_)
  exact congrArg (fun k => x9 (ix3 0 e k)) (Fin.ext (by change n + off = 1536 + n + off - 1536; omega))

omit hh in
/-- Where an entry of a stored slab lies in the block. -/
theorem outP_at (k u : ℕ) (ip) (x : (Rect.unit (s := S1x8x4x512x128) ![0, u, k, o, 0] S1x1x1x256x128.size ip).shape.Idx) :
    outP H x8 x9 x11 x12 x13 ((Rect.unit (s := S1x8x4x512x128) ![0, u, k, o, 0] S1x1x1x256x128.size ip).emb x)
      = slabG (col2 (H (row o ho (x 3))) (fun e f => x8 (ix3 0 e f)) (fun e f => x9 (ix3 0 e f))) (fun l => x11 (ix3 0 (row o ho (x 3)) l)) (fun l => x12 (ix3 0 (row o ho (x 3)) l))
        (fun l => x13 (ix3 0 (row o ho (x 3)) l)) u k (x 4) := by
  have h1 : (x 1).val < 1 := (x 1).isLt
  have h2 : (x 2).val < 1 := (x 2).isLt
  have e1 : ((Rect.unit (s := S1x8x4x512x128) ![0, u, k, o, 0] S1x1x1x256x128.size ip).emb x 1).val = u := by
    refine Eq.trans (b := u + (x 1).val) (by simp) (by omega)
  have e2 : ((Rect.unit (s := S1x8x4x512x128) ![0, u, k, o, 0] S1x1x1x256x128.size ip).emb x 2).val = k := by
    refine Eq.trans (b := k + (x 2).val) (by simp) (by omega)
  have e3 : (Rect.unit (s := S1x8x4x512x128) ![0, u, k, o, 0] S1x1x1x256x128.size ip).emb x 3 = row o ho (x 3) := Fin.ext (by simp [row])
  have e4 : (Rect.unit (s := S1x8x4x512x128) ![0, u, k, o, 0] S1x1x1x256x128.size ip).emb x 4 = x 4 := Fin.ext (by simp)
  unfold outP
  rw [e1, e2, e3, e4]

theorem tileLo (k u n off : ℕ) (hk : ¬ (4 ≤ u ∧ k < 2)) (hm : base u k = n + off) (hn : n + 256 ≤ 1536) (hoff : off + 128 ≤ 256) (hs i ip)
    (x : (Rect.unit (s := S1x8x4x512x128) ![0, u, k, o, 0] S1x1x1x256x128.size ip).shape.Idx) :
    plainP off hs h (View.ld x8 (Rect.unit (s := S1x1024x1536) ![0, 0, n] S1x1024x256.size i)) x
      = outP H x8 x9 x11 x12 x13 ((Rect.unit (s := S1x8x4x512x128) ![0, u, k, o, 0] S1x1x1x256x128.size ip).emb x) := by
  rw [outP_at H o ho]
  refine (congrArg _ (piece_idx o u k ip x)).trans ((plain_at off hoff hs _ _ _ _).trans ?_)
  unfold slabG
  rw [if_neg hk]
  have hl : (x 4).val < 128 := (x 4).isLt
  exact col_lo H o ho h hh x8 x9 n _ (off + (x 4).val) hn (by omega) (by omega) i _

theorem tileHi (k u n off : ℕ) (hk : ¬ (4 ≤ u ∧ k < 2)) (hm : base u k = 1536 + n + off) (hn : n + 256 ≤ 2560) (hoff : off + 128 ≤ 256) (hs i ip)
    (x : (Rect.unit (s := S1x8x4x512x128) ![0, u, k, o, 0] S1x1x1x256x128.size ip).shape.Idx) :
    plainP off hs h (View.ld x9 (Rect.unit (s := S1x1024x2560) ![0, 0, n] S1x1024x256.size i)) x
      = outP H x8 x9 x11 x12 x13 ((Rect.unit (s := S1x8x4x512x128) ![0, u, k, o, 0] S1x1x1x256x128.size ip).emb x) := by
  rw [outP_at H o ho]
  refine (congrArg _ (piece_idx o u k ip x)).trans ((plain_at off hoff hs _ _ _ _).trans ?_)
  unfold slabG
  rw [if_neg hk]
  have hl : (x 4).val < 128 := (x 4).isLt
  exact col_hi H o ho h hh x8 x9 n _ (off + (x 4).val) hn (by omega) (by omega) i _

theorem tileRope (k u n off : ℕ) (hk : 4 ≤ u ∧ k < 2) (hm : base u k = 1536 + n + off) (hn : n + 256 ≤ 2560) (hoff : off + 128 ≤ 256) (hs i it ip)
    (x : (Rect.unit (s := S1x8x4x512x128) ![0, u, k, o, 0] S1x1x1x256x128.size ip).shape.Idx) :
    ropeP off hs h (View.ld x9 (Rect.unit (s := S1x1024x2560) ![0, 0, n] S1x1024x256.size i)) (k0_pay26 (View.ld x11 (Rect.unit (s := S1x512x128) ![0, o, 0] S1x256x128.size it))) (k0_pay26 (View.ld x12 (Rect.unit (s := S1x512x128) ![0, o, 0] S1x256x128.size it))) (k0_pay26 (View.ld x13 (Rect.unit (s := S1x512x128) ![0, o, 0] S1x256x128.size it))) x
      = outP H x8 x9 x11 x12 x13 ((Rect.unit (s := S1x8x4x512x128) ![0, u, k, o, 0] S1x1x1x256x128.size ip).emb x) := by
  rw [outP_at H o ho]
  refine (congrArg _ (piece_idx o u k ip x)).trans ((rope_at off hoff hs _ _ _ _ _ _ _).trans ?_)
  unfold slabG
  rw [if_pos hk]
  have hl : (x 4).val < 128 := (x 4).isLt
  refine congrArg₂ _ (congrArg₂ _ (congrArg₂ _ ?_ ?_) (congrArg₂ _ ?_ ?_)) (congrArg₂ _ ?_ ?_)
  · exact col_hi H o ho h hh x8 x9 n _ (off + (x 4).val) hn (by omega) (by omega) i _
  · exact (pay26_at _ _ _).trans (ld_tab x11 o ho it _ _ _)
  · exact col_hi H o ho h hh x8 x9 n _ (off + ((x 4).val + 8) % 128) hn (by omega) (by omega) i _
  · exact (pay26_at _ _ _).trans (ld_tab x12 o ho it _ _ _)
  · exact col_hi H o ho h hh x8 x9 n _ (off + ((x 4).val + 120) % 128) hn (by omega) (by omega) i _
  · exact (pay26_at _ _ _).trans (ld_tab x13 o ho it _ _ _)
end

end Cert.Even
-- ==== Proof.EvenBlock.lean ====
module

public import proofs.«01_k».proof.Proof.EvenOut

@[expose] public section

set_option maxRecDepth 16384

noncomputable section

namespace Cert.Even

open Cert.EvenIdeal Cert.EvenIdeal.Gen Idealize.ShloMosaic Idealize.ShloMosaic.TcCoe Cert.Proj

variable (x0 : Vec Ideal S1x8x512x128 .bf16) (x1 : Vec Ideal S1x1024x1024 .bf16) (x2 : Vec Ideal S1x1x1x1x1024 .f32) (x3 : Vec Ideal S1x1x1024 .f32)
  (x4 : Vec Ideal S1x512x1024 .f32) (x5 x6 : Vec Ideal S1x1x1x1x1024 .f32) (x7 : Vec Ideal S1x1x1024 .f32) (x8 : Vec Ideal S1x1024x1536 .bf16) (x9 : Vec Ideal S1x1024x2560 .bf16)
  (x10 : Vec Ideal S1x1024x128 .bf16) (x11 x12 x13 : Vec Ideal S1x512x128 .f32)

theorem out14 : out0_14 x0 x1 x2 x3 x4 x5 x6 x7 x8 x9 x10 x11 x12 x13 = outX (xB x0 x1 x2 x3 x4) := by
  funext y
  unfold out0_14
  refine View.canon_apply_of_pieces (Val := Elt Ideal) (e := .f32) (outX (xB x0 x1 x2 x3 x4)) _ (View.PiecesOf.mem ?_) y (cover0_14 _ _ y)
  refine ⟨fun x => ?_, fun x => ?_, trivial⟩
  · exact tileX (xB x0 x1 x2 x3 x4) 256 (by decide) (xT x0 x1 x2 x3 x4 256 (by decide) (by decide)) (xT_at x0 x1 x2 x3 x4 256 (by decide) (by decide) (by decide)) (by decide) x
  · exact tileX (xB x0 x1 x2 x3 x4) 0 (by decide) (xT x0 x1 x2 x3 x4 0 (by decide) (by decide)) (xT_at x0 x1 x2 x3 x4 0 (by decide) (by decide) (by decide)) (by decide) x

theorem out16 : out0_16 x0 x1 x2 x3 x4 x5 x6 x7 x8 x9 x10 x11 x12 x13 = outF (hB x0 x1 x2 x3 x4 x5 x6 x7) x10 := by
  funext y
  unfold out0_16
  refine View.canon_apply_of_pieces (Val := Elt Ideal) (e := .f32) (outF (hB x0 x1 x2 x3 x4 x5 x6 x7) x10) _ (View.PiecesOf.mem ?_) y (cover0_16 _ _ y)
  refine ⟨fun x => ?_, fun x => ?_, trivial⟩
  · exact tileF (hB x0 x1 x2 x3 x4 x5 x6 x7) 256 (by decide) (hT x0 x1 x2 x3 x4 x5 x6 x7 256 (by decide) (by decide)) (hT_at x0 x1 x2 x3 x4 x5 x6 x7 256 (by decide) (by decide) (by decide)) x10 (by decide) (by decide) x
  · exact tileF (hB x0 x1 x2 x3 x4 x5 x6 x7) 0 (by decide) (hT x0 x1 x2 x3 x4 x5 x6 x7 0 (by decide) (by decide)) (hT_at x0 x1 x2 x3 x4 x5 x6 x7 0 (by decide) (by decide) (by decide)) x10 (by decide) (by decide) x

theorem out15 : out0_15 x0 x1 x2 x3 x4 x5 x6 x7 x8 x9 x10 x11 x12 x13 = outP (hB x0 x1 x2 x3 x4 x5 x6 x7) x8 x9 x11 x12 x13 := by
  funext y
  unfold out0_15
  refine View.canon_apply_of_pieces (Val := Elt Ideal) (e := .bf16) (outP (hB x0 x1 x2 x3 x4 x5 x6 x7) x8 x9 x11 x12 x13) _ (View.PiecesOf.mem ?_) y (cover0_15 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact tileHi (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 3 7 2304 128 (by decide) (by decide) (by decide) (by decide) slices_S256x256_o0_128_S256x128 (by decide) (by decide) x
  · exact tileHi (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 3 6 2304 0 (by decide) (by decide) (by decide) (by decide) slices_S256x256_o0_0_S256x128 (by decide) (by decide) x
  · exact tileHi (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 3 5 2048 128 (by decide) (by decide) (by decide) (by decide) slices_S256x256_o0_128_S256x128 (by decide) (by decide) x
  · exact tileHi (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 3 4 2048 0 (by decide) (by decide) (by decide) (by decide) slices_S256x256_o0_0_S256x128 (by decide) (by decide) x
  · exact tileHi (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 2 7 1792 128 (by decide) (by decide) (by decide) (by decide) slices_S256x256_o0_128_S256x128 (by decide) (by decide) x
  · exact tileHi (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 2 6 1792 0 (by decide) (by decide) (by decide) (by decide) slices_S256x256_o0_0_S256x128 (by decide) (by decide) x
  · exact tileHi (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 2 5 1536 128 (by decide) (by decide) (by decide) (by decide) slices_S256x256_o0_128_S256x128 (by decide) (by decide) x
  · exact tileHi (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 2 4 1536 0 (by decide) (by decide) (by decide) (by decide) slices_S256x256_o0_0_S256x128 (by decide) (by decide) x
  · exact tileRope (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 1 7 1280 128 (by decide) (by decide) (by decide) (by decide) slices_S256x256_o0_128_S256x128 (by decide) (by decide) (by decide) x
  · exact tileRope (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 1 6 1280 0 (by decide) (by decide) (by decide) (by decide) slices_S256x256_o0_0_S256x128 (by decide) (by decide) (by decide) x
  · exact tileRope (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 1 5 1024 128 (by decide) (by decide) (by decide) (by decide) slices_S256x256_o0_128_S256x128 (by decide) (by decide) (by decide) x
  · exact tileRope (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 1 4 1024 0 (by decide) (by decide) (by decide) (by decide) slices_S256x256_o0_0_S256x128 (by decide) (by decide) (by decide) x
  · exact tileRope (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 0 7 768 128 (by decide) (by decide) (by decide) (by decide) slices_S256x256_o0_128_S256x128 (by decide) (by decide) (by decide) x
  · exact tileRope (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 0 6 768 0 (by decide) (by decide) (by decide) (by decide) slices_S256x256_o0_0_S256x128 (by decide) (by decide) (by decide) x
  · exact tileRope (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 0 5 512 128 (by decide) (by decide) (by decide) (by decide) slices_S256x256_o0_128_S256x128 (by decide) (by decide) (by decide) x
  · exact tileRope (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 0 4 512 0 (by decide) (by decide) (by decide) (by decide) slices_S256x256_o0_0_S256x128 (by decide) (by decide) (by decide) x
  · exact tileHi (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 3 3 256 128 (by decide) (by decide) (by decide) (by decide) slices_S256x256_o0_128_S256x128 (by decide) (by decide) x
  · exact tileHi (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 3 2 256 0 (by decide) (by decide) (by decide) (by decide) slices_S256x256_o0_0_S256x128 (by decide) (by decide) x
  · exact tileHi (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 3 1 0 128 (by decide) (by decide) (by decide) (by decide) slices_S256x256_o0_128_S256x128 (by decide) (by decide) x
  · exact tileHi (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 3 0 0 0 (by decide) (by decide) (by decide) (by decide) slices_S256x256_o0_0_S256x128 (by decide) (by decide) x
  · exact tileLo (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 2 3 1280 128 (by decide) (by decide) (by decide) (by decide) slices_S256x256_o0_128_S256x128 (by decide) (by decide) x
  · exact tileLo (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 2 2 1280 0 (by decide) (by decide) (by decide) (by decide) slices_S256x256_o0_0_S256x128 (by decide) (by decide) x
  · exact tileLo (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 2 1 1024 128 (by decide) (by decide) (by decide) (by decide) slices_S256x256_o0_128_S256x128 (by decide) (by decide) x
  · exact tileLo (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 2 0 1024 0 (by decide) (by decide) (by decide) (by decide) slices_S256x256_o0_0_S256x128 (by decide) (by decide) x
  · exact tileLo (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 1 3 768 128 (by decide) (by decide) (by decide) (by decide) slices_S256x256_o0_128_S256x128 (by decide) (by decide) x
  · exact tileLo (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 1 2 768 0 (by decide) (by decide) (by decide) (by decide) slices_S256x256_o0_0_S256x128 (by decide) (by decide) x
  · exact tileLo (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 1 1 512 128 (by decide) (by decide) (by decide) (by decide) slices_S256x256_o0_128_S256x128 (by decide) (by decide) x
  · exact tileLo (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 1 0 512 0 (by decide) (by decide) (by decide) (by decide) slices_S256x256_o0_0_S256x128 (by decide) (by decide) x
  · exact tileLo (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 0 3 256 128 (by decide) (by decide) (by decide) (by decide) slices_S256x256_o0_128_S256x128 (by decide) (by decide) x
  · exact tileLo (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 0 2 256 0 (by decide) (by decide) (by decide) (by decide) slices_S256x256_o0_0_S256x128 (by decide) (by decide) x
  · exact tileLo (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 0 1 0 128 (by decide) (by decide) (by decide) (by decide) slices_S256x256_o0_128_S256x128 (by decide) (by decide) x
  · exact tileLo (hB x0 x1 x2 x3 x4 x5 x6 x7) 256 (by decide) (hT x0 x1 x2 x3 x4 x5 x6 x7 256 (by decide) (by decide)) (hT_at x0 x1 x2 x3 x4 x5 x6 x7 256 (by decide) (by decide) (by decide)) x8 x9 x11 x12 x13 0 0 0 0 (by decide) (by decide) (by decide) (by decide) slices_S256x256_o0_0_S256x128 (by decide) (by decide) x
  · exact tileHi (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 3 7 2304 128 (by decide) (by decide) (by decide) (by decide) slices_S256x256_o0_128_S256x128 (by decide) (by decide) x
  · exact tileHi (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 3 6 2304 0 (by decide) (by decide) (by decide) (by decide) slices_S256x256_o0_0_S256x128 (by decide) (by decide) x
  · exact tileHi (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 3 5 2048 128 (by decide) (by decide) (by decide) (by decide) slices_S256x256_o0_128_S256x128 (by decide) (by decide) x
  · exact tileHi (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 3 4 2048 0 (by decide) (by decide) (by decide) (by decide) slices_S256x256_o0_0_S256x128 (by decide) (by decide) x
  · exact tileHi (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 2 7 1792 128 (by decide) (by decide) (by decide) (by decide) slices_S256x256_o0_128_S256x128 (by decide) (by decide) x
  · exact tileHi (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 2 6 1792 0 (by decide) (by decide) (by decide) (by decide) slices_S256x256_o0_0_S256x128 (by decide) (by decide) x
  · exact tileHi (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 2 5 1536 128 (by decide) (by decide) (by decide) (by decide) slices_S256x256_o0_128_S256x128 (by decide) (by decide) x
  · exact tileHi (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 2 4 1536 0 (by decide) (by decide) (by decide) (by decide) slices_S256x256_o0_0_S256x128 (by decide) (by decide) x
  · exact tileRope (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 1 7 1280 128 (by decide) (by decide) (by decide) (by decide) slices_S256x256_o0_128_S256x128 (by decide) (by decide) (by decide) x
  · exact tileRope (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 1 6 1280 0 (by decide) (by decide) (by decide) (by decide) slices_S256x256_o0_0_S256x128 (by decide) (by decide) (by decide) x
  · exact tileRope (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 1 5 1024 128 (by decide) (by decide) (by decide) (by decide) slices_S256x256_o0_128_S256x128 (by decide) (by decide) (by decide) x
  · exact tileRope (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 1 4 1024 0 (by decide) (by decide) (by decide) (by decide) slices_S256x256_o0_0_S256x128 (by decide) (by decide) (by decide) x
  · exact tileRope (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 0 7 768 128 (by decide) (by decide) (by decide) (by decide) slices_S256x256_o0_128_S256x128 (by decide) (by decide) (by decide) x
  · exact tileRope (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 0 6 768 0 (by decide) (by decide) (by decide) (by decide) slices_S256x256_o0_0_S256x128 (by decide) (by decide) (by decide) x
  · exact tileRope (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 0 5 512 128 (by decide) (by decide) (by decide) (by decide) slices_S256x256_o0_128_S256x128 (by decide) (by decide) (by decide) x
  · exact tileRope (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 0 4 512 0 (by decide) (by decide) (by decide) (by decide) slices_S256x256_o0_0_S256x128 (by decide) (by decide) (by decide) x
  · exact tileHi (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 3 3 256 128 (by decide) (by decide) (by decide) (by decide) slices_S256x256_o0_128_S256x128 (by decide) (by decide) x
  · exact tileHi (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 3 2 256 0 (by decide) (by decide) (by decide) (by decide) slices_S256x256_o0_0_S256x128 (by decide) (by decide) x
  · exact tileHi (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 3 1 0 128 (by decide) (by decide) (by decide) (by decide) slices_S256x256_o0_128_S256x128 (by decide) (by decide) x
  · exact tileHi (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 3 0 0 0 (by decide) (by decide) (by decide) (by decide) slices_S256x256_o0_0_S256x128 (by decide) (by decide) x
  · exact tileLo (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 2 3 1280 128 (by decide) (by decide) (by decide) (by decide) slices_S256x256_o0_128_S256x128 (by decide) (by decide) x
  · exact tileLo (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 2 2 1280 0 (by decide) (by decide) (by decide) (by decide) slices_S256x256_o0_0_S256x128 (by decide) (by decide) x
  · exact tileLo (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 2 1 1024 128 (by decide) (by decide) (by decide) (by decide) slices_S256x256_o0_128_S256x128 (by decide) (by decide) x
  · exact tileLo (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 2 0 1024 0 (by decide) (by decide) (by decide) (by decide) slices_S256x256_o0_0_S256x128 (by decide) (by decide) x
  · exact tileLo (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 1 3 768 128 (by decide) (by decide) (by decide) (by decide) slices_S256x256_o0_128_S256x128 (by decide) (by decide) x
  · exact tileLo (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 1 2 768 0 (by decide) (by decide) (by decide) (by decide) slices_S256x256_o0_0_S256x128 (by decide) (by decide) x
  · exact tileLo (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 1 1 512 128 (by decide) (by decide) (by decide) (by decide) slices_S256x256_o0_128_S256x128 (by decide) (by decide) x
  · exact tileLo (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 1 0 512 0 (by decide) (by decide) (by decide) (by decide) slices_S256x256_o0_0_S256x128 (by decide) (by decide) x
  · exact tileLo (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 0 3 256 128 (by decide) (by decide) (by decide) (by decide) slices_S256x256_o0_128_S256x128 (by decide) (by decide) x
  · exact tileLo (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 0 2 256 0 (by decide) (by decide) (by decide) (by decide) slices_S256x256_o0_0_S256x128 (by decide) (by decide) x
  · exact tileLo (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 0 1 0 128 (by decide) (by decide) (by decide) (by decide) slices_S256x256_o0_128_S256x128 (by decide) (by decide) x
  · exact tileLo (hB x0 x1 x2 x3 x4 x5 x6 x7) 0 (by decide) (hT x0 x1 x2 x3 x4 x5 x6 x7 0 (by decide) (by decide)) (hT_at x0 x1 x2 x3 x4 x5 x6 x7 0 (by decide) (by decide) (by decide)) x8 x9 x11 x12 x13 0 0 0 0 (by decide) (by decide) (by decide) (by decide) slices_S256x256_o0_0_S256x128 (by decide) (by decide) x

end Cert.Even
-- ==== Proof.EvenPack.lean ====
module

public import proofs.«01_k».proof.Proof.EvenOut
public import proofs.«01_k».proof.Proof.ProjPack

@[expose] public section

set_option maxRecDepth 16384

noncomputable section

namespace Cert.Even

open Cert.EvenIdeal Cert.EvenIdeal.Gen Idealize.ShloMosaic Idealize.ShloMosaic.TcCoe Cert.Proj

variable (m : (ℓ : Loc nD τ sig) → Buf (Elt Ideal) ℓ)

/-- The mixer's output in slabs of 128 lanes. -/
def slabsH (x : FVec Ideal S8x2048x1024 .f32) : FVec Ideal S8x8x2048x128 .bf16 :=
  truncf .bf16 (transpose S8x8x2048x128 [0, 2, 1, 3] (shapeCast S8x2048x8x128 x shapeCasts_S8x2048x1024_S8x2048x8x128) transposes_S8x2048x8x128_S8x8x2048x128_0_2_1_3) bitsLt_bf16_f32

/-- The columns of the gate logits, padded with zeros to 128 lanes. -/
def padded (x : FVec Ideal S2x1024x4104 .f32) : FVec Ideal S2x1024x128 .bf16 :=
  truncf .bf16 (pad S2x1024x128 ![0, 0, 0] ![0, 0, 120] ![0, 0, 0] (extractStridedSlice S2x1024x8 ![0, 0, 1536] x slices_S2x1024x4104_S2x1024x8_0_0_1536)
    (sitofp .f32 (constantI S_ 32 0#32) : FVec Ideal S_ .f32) pads_S2x1024x8_S2x1024x128_000_000_01200 h_S_) bitsLt_bf16_f32

theorem V19 (c : Dev nD) : V m c main_v19 = slabsH (m ((c : Thread nD τ).loc main_arg0)) := by rfl
theorem V20 (c : Dev nD) : V m c main_v20 = (truncf .bf16 (m ((c : Thread nD τ).loc main_arg7) : FVec Ideal S2x1024x1024 .f32) bitsLt_bf16_f32 : FVec Ideal S2x1024x1024 .bf16) := by rfl
theorem V21 (c : Dev nD) : V m c main_v21 = shapeCast S4x3x8x1x1024 (m ((c : Thread nD τ).loc main_arg2)) shapeCasts_S4x3x8x1024_S4x3x8x1x1024 := by rfl
theorem V16 (c : Dev nD) : V m c main_v16 = shapeCast S4x1x1024 (m ((c : Thread nD τ).loc main_arg6)) shapeCasts_S4x1024_S4x1x1024 := by rfl
theorem V15 (c : Dev nD) : V m c main_v15 = shapeCast S4x1x1024 (m ((c : Thread nD τ).loc main_arg5)) shapeCasts_S4x1024_S4x1x1024 := by rfl
theorem V9 (c : Dev nD) : V m c main_v9 = (truncf .bf16 (extractStridedSlice S2x1024x1536 ![0, 0, 0] (m ((c : Thread nD τ).loc main_arg8) : FVec Ideal S2x1024x4104 .f32) slices_S2x1024x4104_S2x1024x1536_0_0_0) bitsLt_bf16_f32 : FVec Ideal S2x1024x1536 .bf16) := by rfl
theorem V11 (c : Dev nD) : V m c main_v11 = (truncf .bf16 (extractStridedSlice S2x1024x2560 ![0, 0, 1544] (m ((c : Thread nD τ).loc main_arg8) : FVec Ideal S2x1024x4104 .f32) slices_S2x1024x4104_S2x1024x2560_0_0_1544) bitsLt_bf16_f32 : FVec Ideal S2x1024x2560 .bf16) := by rfl
theorem V14 (c : Dev nD) : V m c main_v14 = padded (m ((c : Thread nD τ).loc main_arg8)) := by rfl
theorem V4 (c : Dev nD) : V m c main_v4 = lanes (m ((c : Thread nD τ).loc main_arg3)) (m ((c : Thread nD τ).loc main_arg3)) ones48 := by rfl
theorem V6 (c : Dev nD) : V m c main_v6 = lanes (Host.negf (m ((c : Thread nD τ).loc main_arg4))) zeros8 zeros48 := by rfl
theorem V7 (c : Dev nD) : V m c main_v7 = lanes zeros8 (m ((c : Thread nD τ).loc main_arg4)) zeros48 := by rfl

theorem slabsH_at (x : FVec Ideal S8x2048x1024 .f32) (b j : Fin 8) (n : Fin 2048) (l : Fin 128) :
    slabsH x (ix4 b j n l) = x (ix3 b n ⟨128 * j.val + l.val, by omega⟩) := by
  pointwise [slabsH]
  exact congrArg (fun k => x (ix3 b n k)) (Fin.ext (congrArg (· + l.val) (Nat.mul_comm _ _)))

theorem lo_at (x : FVec Ideal S2x1024x4104 .f32) (i : Fin 2) (e : Fin 1024) (f : Fin 1536) :
    (truncf .bf16 (extractStridedSlice S2x1024x1536 ![0, 0, 0] x slices_S2x1024x4104_S2x1024x1536_0_0_0) bitsLt_bf16_f32 : FVec Ideal S2x1024x1536 .bf16) (ix3 i e f)
      = x (ix3 i e ⟨f.val, by omega⟩) := by
  pointwise

theorem hi_at (x : FVec Ideal S2x1024x4104 .f32) (i : Fin 2) (e : Fin 1024) (f : Fin 2560) :
    (truncf .bf16 (extractStridedSlice S2x1024x2560 ![0, 0, 1544] x slices_S2x1024x4104_S2x1024x2560_0_0_1544) bitsLt_bf16_f32 : FVec Ideal S2x1024x2560 .bf16) (ix3 i e f)
      = x (ix3 i e ⟨1544 + f.val, by omega⟩) := by
  pointwise

theorem padded_at (x : FVec Ideal S2x1024x4104 .f32) (i : Fin 2) (e : Fin 1024) (l : Fin 128) :
    padded x (ix3 i e l) = if h : l.val < 8 then x (ix3 i e ⟨1536 + l.val, by omega⟩) else 0 := by
  have hz : FloatOps.sitofp (F := Ideal) .f32 0#32 = (0 : EReal) := by
    change ((((0#32 : BitVec 32).toInt : ℝ) : EReal)) = 0
    simp
  pointwise [padded]
  by_cases h : l.val < 8
  · rw [dif_pos h, dif_pos h]
  · rw [dif_neg h, dif_neg h]
    exact hz

end Cert.Even
-- ==== Proof.EvenArray.lean ====
module

public import proofs.«01_k».proof.Proof.EvenBlock
public import proofs.«01_k».proof.Proof.EvenPack
public import proofs.«01_k».proof.Proof.ProjArray
public import proofs.«01_k».proof.Proof.Gen.EvenIdeal.Value

@[expose] public section

set_option maxRecDepth 16384

noncomputable section

namespace Cert.Even

open Cert.EvenIdeal Cert.EvenIdeal.Gen Idealize.ShloMosaic Idealize.ShloMosaic.TcCoe Cert.Proj

/-- What a row of the projection reads of the weight: the columns before the gate logits and those after. -/
def colW (h : Fin 1024 → EReal) (wi : FVec Ideal S2x1024x4104 .f32) (j : Fin 2) (n : ℕ) : EReal :=
  col2 h (fun e f => wi (ix3 j e ⟨f.val, by omega⟩)) (fun e f => wi (ix3 j e ⟨1544 + f.val, by omega⟩)) n

/-- The gate logits of a row, padded to 128 lanes. -/
def logits (h : Fin 1024 → EReal) (wi : FVec Ideal S2x1024x4104 .f32) (j : Fin 2) (l : Fin 128) : EReal :=
  if hl : l.val < 8 then ∑ e : Fin 1024, h e * wi (ix3 j e ⟨1536 + l.val, by omega⟩) else 0

section
variable (a0 x : FVec Ideal S8x2048x1024 .f32) (md : FVec Ideal S4x3x8x1024 .f32) (co si : FVec Ideal S8x2048x8 .f32)
  (pre post : FVec Ideal S4x1024 .f32) (wo : FVec Ideal S2x1024x1024 .f32) (wi : FVec Ideal S2x1024x4104 .f32)

/-- The new residual stream of one position. -/
def xRow (b : Fin 8) (n : Fin 2048) (d : Fin 1024) : EReal :=
  upd (fun e => a0 (ix3 b n e)) (fun e f => wo (ix3 0 e f)) (fun f => x (ix3 b n f)) (fun f => md (ix4 1 2 b f)) (fun f => post (ix2 1 f)) d

/-- What enters the projection at one position. -/
def hRow (b : Fin 8) (n : Fin 2048) (d : Fin 1024) : EReal :=
  mdl (xRow a0 x md post wo b n) (fun f => pre (ix2 2 f)) (fun f => md (ix4 2 1 b f)) (fun f => md (ix4 2 0 b f)) d

/-- The whole array of the residual stream. -/
def resX : FVec Ideal S8x2048x1024 .f32 := fun y => xRow a0 x md post wo (y 0) (y 1) (y 2)
end

section
variable (h : Fin 8 → Fin 2048 → Fin 1024 → EReal) (co si : FVec Ideal S8x2048x8 .f32) (wi : FVec Ideal S2x1024x4104 .f32) (j : Fin 2)

/-- The whole array of the projections of given rows, slab by slab. -/
def resP : FVec Ideal S8x8x4x2048x128 .bf16 := fun y =>
  slabG (colW (h (y 0) (y 3)) wi j)
    (fun l => lane (fun d => co (ix3 (y 0) (y 3) d)) (fun d => co (ix3 (y 0) (y 3) d)) (Ideal.ofBits .f32 0x3F800000#32) l.val)
    (fun l => lane (fun d => -si (ix3 (y 0) (y 3) d)) (fun _ => 0) 0 l.val) (fun l => lane (fun _ => 0) (fun d => si (ix3 (y 0) (y 3) d)) 0 l.val)
    (y 1).val (y 2).val (y 4)

/-- The whole array of the gate logits of given rows. -/
def resF : FVec Ideal S8x2048x128 .f32 := fun y => logits (h (y 0) (y 1)) wi j (y 2)
end

variable (m : (ℓ : Loc nD τ sig) → Buf (Elt Ideal) ℓ)

theorem idx : ∀ t : Fin cfg0.N, win0_0.index t = ![t.val / 4, 0, t.val % 4, 0] ∧ win0_1.index t = ![0, 0, 0] ∧ win0_2.index t = ![1, 2, t.val / 4, 0, 0] ∧ win0_3.index t = ![1, 0, 0] ∧ win0_4.index t = ![t.val / 4, t.val % 4, 0] ∧ win0_5.index t = ![2, 0, t.val / 4, 0, 0] ∧ win0_6.index t = ![2, 1, t.val / 4, 0, 0] ∧ win0_7.index t = ![2, 0, 0] ∧ win0_8.index t = ![1, 0, 0] ∧ win0_9.index t = ![1, 0, 0] ∧ win0_10.index t = ![1, 0, 0] ∧ win0_11.index t = ![t.val / 4, t.val % 4, 0] ∧ win0_12.index t = ![t.val / 4, t.val % 4, 0] ∧ win0_13.index t = ![t.val / 4, t.val % 4, 0] ∧ win0_14.index t = ![t.val / 4, t.val % 4, 0] ∧ win0_15.index t = ![t.val / 4, 0, 0, t.val % 4, 0] ∧ win0_16.index t = ![t.val / 4, t.val % 4, 0] :=
  (by decide +kernel : ∀ t : Fin grid0.N, _)

section
variable (c : Dev nD) (t : Fin cfg0.N) (b : Fin 8) (i : Fin 4) (hb : b.val = t.val / 4) (hi : i.val = t.val % 4)
include hb hi

theorem read0 (j : Fin 8) (r : Fin 512) (l : Fin 128) : iblk m c 0 t (ix4 0 j r l) = V m c main_v19 (ix4 b j (pos i r) l) := by
  refine congrArg (V m c main_v19) (funext fun a => Fin.ext ?_)
  fin_cases a <;> blk_simp [idx t]
  all_goals simp [pos, hb, hi, Nat.mul_comm]

theorem read1 (e f : Fin 1024) : iblk m c 1 t (ix3 0 e f) = V m c main_v20 (ix3 0 e f) := by
  refine congrArg (V m c main_v20) (funext fun a => Fin.ext ?_)
  fin_cases a <;> blk_simp [idx t]
  all_goals simp [pos, hb, hi, Nat.mul_comm]

theorem read2 (f : Fin 1024) : iblk m c 2 t (ix5 0 0 0 0 f) = V m c main_v21 (ix5 1 2 b 0 f) := by
  refine congrArg (V m c main_v21) (funext fun a => Fin.ext ?_)
  fin_cases a <;> blk_simp [idx t]
  all_goals simp [pos, hb, hi, Nat.mul_comm]

theorem read3 (f : Fin 1024) : iblk m c 3 t (ix3 0 0 f) = V m c main_v16 (ix3 1 0 f) := by
  refine congrArg (V m c main_v16) (funext fun a => Fin.ext ?_)
  fin_cases a <;> blk_simp [idx t]
  all_goals simp [pos, hb, hi, Nat.mul_comm]

theorem read4 (r : Fin 512) (f : Fin 1024) : iblk m c 4 t (ix3 0 r f) = V m c main_arg1 (ix3 b (pos i r) f) := by
  refine congrArg (V m c main_arg1) (funext fun a => Fin.ext ?_)
  fin_cases a <;> blk_simp [idx t]
  all_goals simp [pos, hb, hi, Nat.mul_comm]

theorem read5 (f : Fin 1024) : iblk m c 5 t (ix5 0 0 0 0 f) = V m c main_v21 (ix5 2 0 b 0 f) := by
  refine congrArg (V m c main_v21) (funext fun a => Fin.ext ?_)
  fin_cases a <;> blk_simp [idx t]
  all_goals simp [pos, hb, hi, Nat.mul_comm]

theorem read6 (f : Fin 1024) : iblk m c 6 t (ix5 0 0 0 0 f) = V m c main_v21 (ix5 2 1 b 0 f) := by
  refine congrArg (V m c main_v21) (funext fun a => Fin.ext ?_)
  fin_cases a <;> blk_simp [idx t]
  all_goals simp [pos, hb, hi, Nat.mul_comm]

theorem read7 (f : Fin 1024) : iblk m c 7 t (ix3 0 0 f) = V m c main_v15 (ix3 2 0 f) := by
  refine congrArg (V m c main_v15) (funext fun a => Fin.ext ?_)
  fin_cases a <;> blk_simp [idx t]
  all_goals simp [pos, hb, hi, Nat.mul_comm]

theorem read8 (e : Fin 1024) (f : Fin 1536) : iblk m c 8 t (ix3 0 e f) = V m c main_v9 (ix3 1 e f) := by
  refine congrArg (V m c main_v9) (funext fun a => Fin.ext ?_)
  fin_cases a <;> blk_simp [idx t]
  all_goals simp [pos, hb, hi, Nat.mul_comm]

theorem read9 (e : Fin 1024) (f : Fin 2560) : iblk m c 9 t (ix3 0 e f) = V m c main_v11 (ix3 1 e f) := by
  refine congrArg (V m c main_v11) (funext fun a => Fin.ext ?_)
  fin_cases a <;> blk_simp [idx t]
  all_goals simp [pos, hb, hi, Nat.mul_comm]

theorem read10 (e : Fin 1024) (f : Fin 128) : iblk m c 10 t (ix3 0 e f) = V m c main_v14 (ix3 1 e f) := by
  refine congrArg (V m c main_v14) (funext fun a => Fin.ext ?_)
  fin_cases a <;> blk_simp [idx t]
  all_goals simp [pos, hb, hi, Nat.mul_comm]

theorem read11 (r : Fin 512) (l : Fin 128) : iblk m c 11 t (ix3 0 r l) = V m c main_v4 (ix3 b (pos i r) l) := by
  refine congrArg (V m c main_v4) (funext fun a => Fin.ext ?_)
  fin_cases a <;> blk_simp [idx t]
  all_goals simp [pos, hb, hi, Nat.mul_comm]

theorem read12 (r : Fin 512) (l : Fin 128) : iblk m c 12 t (ix3 0 r l) = V m c main_v6 (ix3 b (pos i r) l) := by
  refine congrArg (V m c main_v6) (funext fun a => Fin.ext ?_)
  fin_cases a <;> blk_simp [idx t]
  all_goals simp [pos, hb, hi, Nat.mul_comm]

theorem read13 (r : Fin 512) (l : Fin 128) : iblk m c 13 t (ix3 0 r l) = V m c main_v7 (ix3 b (pos i r) l) := by
  refine congrArg (V m c main_v7) (funext fun a => Fin.ext ?_)
  fin_cases a <;> blk_simp [idx t]
  all_goals simp [pos, hb, hi, Nat.mul_comm]

/-- A block's row of the mixer's output is the argument's row. -/
theorem catB_eq (r : Fin 512) : catB (iblk m c 0 t) r = fun e => (m ((c : Thread nD τ).loc main_arg0)) (ix3 b (pos i r) e) := by
  funext e
  unfold catB
  rw [read0 m c t b i hb hi, V19, slabsH_at]
  exact congrArg (fun k => (m ((c : Thread nD τ).loc main_arg0)) (ix3 b (pos i r) k)) (Fin.ext (by change 128 * (e.val / 128) + e.val % 128 = e.val; omega))

theorem xB_eq (r : Fin 512) : xB (iblk m c 0 t) (iblk m c 1 t) (iblk m c 2 t) (iblk m c 3 t) (iblk m c 4 t) r
    = xRow (m ((c : Thread nD τ).loc main_arg0)) (m ((c : Thread nD τ).loc main_arg1)) (m ((c : Thread nD τ).loc main_arg2)) (m ((c : Thread nD τ).loc main_arg6)) (m ((c : Thread nD τ).loc main_arg7)) b (pos i r) := by
  funext d
  unfold xB xRow
  rw [catB_eq m c t b i hb hi r]
  congr 1
  · funext e f
    rw [read1 m c t b i hb hi, V20]
    rfl
  · funext f
    exact (read4 m c t b i hb hi r f).trans rfl
  · funext f
    rw [read2 m c t b i hb hi, V21, cast17_at]
  · funext f
    rw [read3 m c t b i hb hi, V16, cast8_at]

theorem hB_eq (r : Fin 512) : hB (iblk m c 0 t) (iblk m c 1 t) (iblk m c 2 t) (iblk m c 3 t) (iblk m c 4 t) (iblk m c 5 t) (iblk m c 6 t) (iblk m c 7 t) r
    = hRow (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) b (pos i r) := by
  funext d
  unfold hB hRow
  rw [xB_eq m c t b i hb hi r]
  congr 1
  · funext f
    rw [read7 m c t b i hb hi, V15, cast8_at]
  · funext f
    rw [read6 m c t b i hb hi, V21, cast17_at]
  · funext f
    rw [read5 m c t b i hb hi, V21, cast17_at]

theorem lo_eq (e : Fin 1024) (f : Fin 1536) : iblk m c 8 t (ix3 0 e f) = (m ((c : Thread nD τ).loc main_arg8)) (ix3 1 e ⟨f.val, by omega⟩) := by
  rw [read8 m c t b i hb hi, V9, lo_at]

theorem hi_eq (e : Fin 1024) (f : Fin 2560) : iblk m c 9 t (ix3 0 e f) = (m ((c : Thread nD τ).loc main_arg8)) (ix3 1 e ⟨1544 + f.val, by omega⟩) := by
  rw [read9 m c t b i hb hi, V11, hi_at]

theorem logits_eq (h : Fin 1024 → EReal) (l : Fin 128) : ∑ e : Fin 1024, h e * iblk m c 10 t (ix3 0 e l) = logits h (m ((c : Thread nD τ).loc main_arg8)) 1 l := by
  unfold logits
  by_cases hl : l.val < 8
  · rw [dif_pos hl]
    refine Finset.sum_congr rfl fun e _ => congrArg (h e * ·) ?_
    rw [read10 m c t b i hb hi, V14, padded_at, dif_pos hl]
  · rw [dif_neg hl]
    refine Finset.sum_eq_zero fun e _ => ?_
    rw [read10 m c t b i hb hi, V14, padded_at, dif_neg hl]
    exact mul_zero _

theorem co_eq (r : Fin 512) (l : Fin 128) : iblk m c 11 t (ix3 0 r l)
    = lane (fun d => (m ((c : Thread nD τ).loc main_arg3)) (ix3 b (pos i r) d)) (fun d => (m ((c : Thread nD τ).loc main_arg3)) (ix3 b (pos i r) d)) (Ideal.ofBits .f32 0x3F800000#32) l.val := by
  rw [read11 m c t b i hb hi, V4, lanes_at _ _ _ _ ones48_at]

theorem down_eq (r : Fin 512) (l : Fin 128) : iblk m c 12 t (ix3 0 r l)
    = lane (fun d => Neg.neg (α := EReal) ((m ((c : Thread nD τ).loc main_arg4)) (ix3 b (pos i r) d))) (fun _ => 0) 0 l.val := by
  rw [read12 m c t b i hb hi, V6, lanes_at _ _ _ _ zeros48_at]
  simp only [zeros8_at]
  rfl

theorem up_eq (r : Fin 512) (l : Fin 128) : iblk m c 13 t (ix3 0 r l)
    = lane (fun _ => 0) (fun d => (m ((c : Thread nD τ).loc main_arg4)) (ix3 b (pos i r) d)) 0 l.val := by
  rw [read13 m c t b i hb hi, V7, lanes_at _ _ _ _ zeros48_at]
  simp only [zeros8_at]
end

theorem emb14 (t : Fin cfg0.N) (y : S1x512x1024.Idx) : (win0_14.blk t).view.emb y
    = ix3 (⟨t.val / 4, by have := lt_of_lt_of_eq t.isLt N_0; omega⟩ : Fin 8) (pos (⟨t.val % 4, by omega⟩ : Fin 4) (y 1)) (y 2) := by
  have h0 : (y 0).val < 1 := (y 0).isLt
  refine funext fun a => Fin.ext ?_
  fin_cases a <;> blk_simp [idx t]
  all_goals simp [pos, Nat.mul_comm]

theorem emb15 (t : Fin cfg0.N) (y : S1x8x4x512x128.Idx) : (win0_15.blk t).view.emb y
    = ix5 (⟨t.val / 4, by have := lt_of_lt_of_eq t.isLt N_0; omega⟩ : Fin 8) (y 1) (y 2) (pos (⟨t.val % 4, by omega⟩ : Fin 4) (y 3)) (y 4) := by
  have h0 : (y 0).val < 1 := (y 0).isLt
  refine funext fun a => Fin.ext ?_
  fin_cases a <;> blk_simp [idx t]
  all_goals simp [pos, Nat.mul_comm]

theorem emb16 (t : Fin cfg0.N) (y : S1x512x128.Idx) : (win0_16.blk t).view.emb y
    = ix3 (⟨t.val / 4, by have := lt_of_lt_of_eq t.isLt N_0; omega⟩ : Fin 8) (pos (⟨t.val % 4, by omega⟩ : Fin 4) (y 1)) (y 2) := by
  have h0 : (y 0).val < 1 := (y 0).isLt
  refine funext fun a => Fin.ext ?_
  fin_cases a <;> blk_simp [idx t]
  all_goals simp [pos, Nat.mul_comm]

theorem final14 (c : Dev nD) : (dats m 0 c).arrAt 14 cfg0.N
    = resX (m ((c : Thread nD τ).loc main_arg0)) (m ((c : Thread nD τ).loc main_arg1)) (m ((c : Thread nD τ).loc main_arg2)) (m ((c : Thread nD τ).loc main_arg6)) (m ((c : Thread nD τ).loc main_arg7)) := by
  refine (dats m 0 c).arrAt_eq_of_covers 14 _ (by decide +kernel) fun t _ y => ?_
  blk_simp
  have ht : t.val < 32 := lt_of_lt_of_eq t.isLt N_0
  rw [after0_14, out14, emb14 t y]
  exact congrFun (xB_eq m c t ⟨t.val / 4, by omega⟩ ⟨t.val % 4, by omega⟩ rfl rfl (y 1)) (y 2)

theorem final15 (c : Dev nD) : (dats m 0 c).arrAt 15 cfg0.N
    = resP (hRow (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (m ((c : Thread nD τ).loc main_arg3)) (m ((c : Thread nD τ).loc main_arg4)) (m ((c : Thread nD τ).loc main_arg8)) 1 := by
  refine (dats m 0 c).arrAt_eq_of_covers 15 _ (by decide +kernel) fun t _ y => ?_
  blk_simp
  have ht : t.val < 32 := lt_of_lt_of_eq t.isLt N_0
  rw [after0_15, out15, emb15 t y]
  have hb : (⟨t.val / 4, by omega⟩ : Fin 8).val = t.val / 4 := rfl
  have hi : (⟨t.val % 4, by omega⟩ : Fin 4).val = t.val % 4 := rfl
  unfold outP
  rw [hB_eq m c t _ _ hb hi (y 3), funext fun e => funext fun f => lo_eq m c t _ _ hb hi e f, funext fun e => funext fun f => hi_eq m c t _ _ hb hi e f,
    funext fun l => co_eq m c t _ _ hb hi (y 3) l, funext fun l => down_eq m c t _ _ hb hi (y 3) l, funext fun l => up_eq m c t _ _ hb hi (y 3) l]
  rfl

theorem final16 (c : Dev nD) : (dats m 0 c).arrAt 16 cfg0.N
    = resF (hRow (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (m ((c : Thread nD τ).loc main_arg8)) 1 := by
  refine (dats m 0 c).arrAt_eq_of_covers 16 _ (by decide +kernel) fun t _ y => ?_
  blk_simp
  have ht : t.val < 32 := lt_of_lt_of_eq t.isLt N_0
  rw [after0_16, out16, emb16 t y]
  have hb : (⟨t.val / 4, by omega⟩ : Fin 8).val = t.val / 4 := rfl
  have hi : (⟨t.val % 4, by omega⟩ : Fin 4).val = t.val % 4 := rfl
  unfold outF
  rw [hB_eq m c t _ _ hb hi (y 1)]
  exact logits_eq m c t _ _ hb hi _ (y 2)

end Cert.Even
-- ==== Proof.EvenRefAt.lean ====
module

public import proofs.«01_k».proof.Proof.Gen.EvenReferenceIdeal.Run
public import proofs.«01_k».proof.Proof.ProjRefAt

@[expose] public section

set_option maxRecDepth 16384

noncomputable section

namespace Cert.EvenRef

open Cert.EvenReferenceIdeal Cert.EvenReferenceIdeal.Gen Idealize.ShloMosaic Idealize.ShloMosaic.TcCoe Idealize.SL.Sem Idealize.ShloMosaic.StableHlo Cert.ProjRef

/-- A row of the layers' weights. -/
def weight2 (w : FVec Ideal S4x1024 .f32) : FVec Ideal S1024 .f32 := shapeCast _ (extractStridedSlice S1x1024 ![2, 0] w slices_S4x1024_S1x1024_2_0) shapeCasts_S1x1024_S1024

theorem weight2_at (w : FVec Ideal S4x1024 .f32) (d : Fin 1024) : weight2 w (ix1 d) = w (ix2 2 d) := by
  pointwise [weight2]

/-- A row of the modulation for every batch. -/
def gate (md : FVec Ideal S4x3x8x1024 .f32) : FVec Ideal S8x1x1024 .f32 := broadcastInDim S8x1x1024 ![0, 2] bcast_S8x1024_S8x1x1024_0_2 (shapeCast _ (extractStridedSlice S1x1x8x1024 ![1, 2, 0, 0] md slices_S4x3x8x1024_S1x1x8x1024_1_2_0_0) shapeCasts_S1x1x8x1024_S8x1024)
def scale (md : FVec Ideal S4x3x8x1024 .f32) : FVec Ideal S8x1x1024 .f32 := broadcastInDim S8x1x1024 ![0, 2] bcast_S8x1024_S8x1x1024_0_2 (shapeCast _ (extractStridedSlice S1x1x8x1024 ![2, 1, 0, 0] md slices_S4x3x8x1024_S1x1x8x1024_2_1_0_0) shapeCasts_S1x1x8x1024_S8x1024)
def shift (md : FVec Ideal S4x3x8x1024 .f32) : FVec Ideal S8x1x1024 .f32 := broadcastInDim S8x1x1024 ![0, 2] bcast_S8x1024_S8x1x1024_0_2 (shapeCast _ (extractStridedSlice S1x1x8x1024 ![2, 0, 0, 0] md slices_S4x3x8x1024_S1x1x8x1024_2_0_0_0) shapeCasts_S1x1x8x1024_S8x1024)

theorem gate_at (md : FVec Ideal S4x3x8x1024 .f32) (b : Fin 8) (d : Fin 1024) : gate md (ix3 b 0 d) = md (ix4 1 2 b d) := by
  pointwise [gate]
theorem scale_at (md : FVec Ideal S4x3x8x1024 .f32) (b : Fin 8) (d : Fin 1024) : scale md (ix3 b 0 d) = md (ix4 2 1 b d) := by
  pointwise [scale]
theorem shift_at (md : FVec Ideal S4x3x8x1024 .f32) (b : Fin 8) (d : Fin 1024) : shift md (ix3 b 0 d) = md (ix4 2 0 b d) := by
  pointwise [shift]

/-- The input projection. -/
def into (h : FVec Ideal S8x2048x1024 .f32) (w : FVec Ideal S2x1024x4104 .f32) : FVec Ideal S8x2048x4104 .f32 :=
  Host.dotGeneral dot_S8x2048x1024_S1024x4104_S8x2048x4104_2_0_01_1_n_n none h (shapeCast _ (extractStridedSlice S1x1024x4104 ![1, 0, 0] w slices_S2x1024x4104_S1x1024x4104_1_0_0) shapeCasts_S1x1024x4104_S1024x4104)

theorem into_at (h : FVec Ideal S8x2048x1024 .f32) (w : FVec Ideal S2x1024x4104 .f32) (b : Fin 8) (n : Fin 2048) (d : Fin 4104) :
    into h w (ix3 b n d) = ∑ e : Fin 1024, h (ix3 b n e) * w (ix3 1 e d) := by
  pointwise [into]

/-- The rotation of the first lanes of every head. -/
def rotate (t : FVec Ideal S8x2048x512 .f32) (co si : FVec Ideal S8x2048x8 .f32) : FVec Ideal S8x2048x512 .f32 :=
  shapeCast S8x2048x512 (concatenate S8x2048x8x64 3 [
    ⟨S8x2048x8x8, subf (mulf (extractStridedSlice S8x2048x8x8 ![0, 0, 0, 0] (shapeCast S8x2048x8x64 t shapeCasts_S8x2048x512_S8x2048x8x64) slices_S8x2048x8x64_S8x2048x8x8_0_0_0_0) (broadcastInDim S8x2048x8x8 ![0, 1, 2, 3] bcast_S8x2048x1x8_S8x2048x8x8_0_1_2_3 (broadcastInDim S8x2048x1x8 ![0, 1, 3] bcast_S8x2048x8_S8x2048x1x8_0_1_3 co)))
      (mulf (extractStridedSlice S8x2048x8x8 ![0, 0, 0, 8] (shapeCast S8x2048x8x64 t shapeCasts_S8x2048x512_S8x2048x8x64) slices_S8x2048x8x64_S8x2048x8x8_0_0_0_8) (broadcastInDim S8x2048x8x8 ![0, 1, 2, 3] bcast_S8x2048x1x8_S8x2048x8x8_0_1_2_3 (broadcastInDim S8x2048x1x8 ![0, 1, 3] bcast_S8x2048x8_S8x2048x1x8_0_1_3 si)))⟩,
    ⟨S8x2048x8x8, addf (mulf (extractStridedSlice S8x2048x8x8 ![0, 0, 0, 8] (shapeCast S8x2048x8x64 t shapeCasts_S8x2048x512_S8x2048x8x64) slices_S8x2048x8x64_S8x2048x8x8_0_0_0_8) (broadcastInDim S8x2048x8x8 ![0, 1, 2, 3] bcast_S8x2048x1x8_S8x2048x8x8_0_1_2_3 (broadcastInDim S8x2048x1x8 ![0, 1, 3] bcast_S8x2048x8_S8x2048x1x8_0_1_3 co)))
      (mulf (extractStridedSlice S8x2048x8x8 ![0, 0, 0, 0] (shapeCast S8x2048x8x64 t shapeCasts_S8x2048x512_S8x2048x8x64) slices_S8x2048x8x64_S8x2048x8x8_0_0_0_0) (broadcastInDim S8x2048x8x8 ![0, 1, 2, 3] bcast_S8x2048x1x8_S8x2048x8x8_0_1_2_3 (broadcastInDim S8x2048x1x8 ![0, 1, 3] bcast_S8x2048x8_S8x2048x1x8_0_1_3 si)))⟩,
    ⟨S8x2048x8x48, extractStridedSlice S8x2048x8x48 ![0, 0, 0, 16] (shapeCast S8x2048x8x64 t shapeCasts_S8x2048x512_S8x2048x8x64) slices_S8x2048x8x64_S8x2048x8x48_0_0_0_16⟩]
    concatenates_S8x2048x8x8_S8x2048x8x8_S8x2048x8x48_S8x2048x8x64_d3) shapeCasts_S8x2048x8x64_S8x2048x512

theorem rotate_at (t : FVec Ideal S8x2048x512 .f32) (co si : FVec Ideal S8x2048x8 .f32) (b : Fin 8) (n : Fin 2048) (e : Fin 512) :
    rotate t co si (ix3 b n e) = if h : e.val % 64 < 8 then t (ix3 b n e) * co (ix3 b n ⟨e.val % 64, h⟩) - t (ix3 b n ⟨e.val + 8, by omega⟩) * si (ix3 b n ⟨e.val % 64, h⟩)
      else if h8 : e.val % 64 - 8 < 8 then t (ix3 b n e) * co (ix3 b n ⟨e.val % 64 - 8, h8⟩) + t (ix3 b n ⟨e.val - 8, by omega⟩) * si (ix3 b n ⟨e.val % 64 - 8, h8⟩)
      else t (ix3 b n e) := by
  have key (a : Fin 512) (a' : Fin 512) (h : a.val = a'.val) : t (ix3 b n a) = t (ix3 b n a') := congrArg (fun k => t (ix3 b n k)) (Fin.ext h)
  pointwise [rotate]
  by_cases h : e.val % 64 < 8
  · rw [dif_pos h, dif_pos h]
    refine congrArg (fun r => _ - r * _) (key _ _ ?_)
    change e.val / 64 * 64 + (8 + e.val % 64) = e.val + 8
    omega
  rw [dif_neg h, dif_neg h]
  by_cases h8 : e.val % 64 - 8 < 8
  · rw [dif_pos h8, dif_pos h8]
    refine congrArg₂ (fun r r' => r * _ + r' * _) (key _ _ ?_) (key _ _ ?_)
    · change e.val / 64 * 64 + (8 + (e.val % 64 - 8)) = e.val
      omega
    · change e.val / 64 * 64 + (e.val % 64 - 8) = e.val - 8
      omega
  rw [dif_neg h8, dif_neg h8]
  refine key _ _ ?_
  change e.val / 64 * 64 + (16 + (e.val % 64 - 8 - 8)) = e.val
  omega

/-- One mixer's operand among the projection's columns. -/
def part (o : ℕ) (z : FVec Ideal S8x2048x4104 .f32) (h : S8x2048x4104.Slices ![0, 0, o] S8x2048x512) : FVec Ideal S8x2048x512 .f32 :=
  extractStridedSlice S8x2048x512 ![0, 0, o] z h

theorem part_at (o : ℕ) (z : FVec Ideal S8x2048x4104 .f32) (h) (b : Fin 8) (n : Fin 2048) (e : Fin 512) (k : Fin 4104) (hk : k.val = o + e.val) : part o z h (ix3 b n e) = z (ix3 b n k) := by
  refine congrArg z (funext fun a => Fin.ext ?_)
  fin_cases a
  · exact Nat.zero_add _
  · exact Nat.zero_add _
  · exact hk.symm

/-- One mixer's four parts in slabs of 128 lanes. -/
def packed (q k v g : FVec Ideal S8x2048x512 .f32) : FVec Ideal S8x4x4x2048x128 .bf16 :=
  transpose S8x4x4x2048x128 [0, 3, 1, 2, 4] (shapeCast S8x4x2048x4x128 (truncf .bf16 (concatenate S8x4x2048x512 1 [
    ⟨S8x1x2048x512, broadcastInDim S8x1x2048x512 ![0, 2, 3] bcast_S8x2048x512_S8x1x2048x512_0_2_3 q⟩,
    ⟨S8x1x2048x512, broadcastInDim S8x1x2048x512 ![0, 2, 3] bcast_S8x2048x512_S8x1x2048x512_0_2_3 k⟩,
    ⟨S8x1x2048x512, broadcastInDim S8x1x2048x512 ![0, 2, 3] bcast_S8x2048x512_S8x1x2048x512_0_2_3 v⟩,
    ⟨S8x1x2048x512, broadcastInDim S8x1x2048x512 ![0, 2, 3] bcast_S8x2048x512_S8x1x2048x512_0_2_3 g⟩]
    concatenates_S8x1x2048x512_S8x1x2048x512_S8x1x2048x512_S8x1x2048x512_S8x4x2048x512_d1) bitsLt_bf16_f32)
    shapeCasts_S8x4x2048x512_S8x4x2048x4x128) transposes_S8x4x2048x4x128_S8x4x4x2048x128_0_3_1_2_4

theorem packed_at (q k v g : FVec Ideal S8x2048x512 .f32) (b : Fin 8) (u j : Fin 4) (n : Fin 2048) (l : Fin 128) :
    packed q k v g (ix5 b u j n l) = (![q, k, v, g] j) (ix3 b n ⟨128 * u.val + l.val, by omega⟩) := by
  have key (x : FVec Ideal S8x2048x512 .f32) (a : Fin 512) (h : a.val = u.val * 128 + l.val) : x (ix3 b n a) = x (ix3 b n ⟨128 * u.val + l.val, by omega⟩) :=
    congrArg (fun i => x (ix3 b n i)) (Fin.ext (h.trans (congrArg (· + l.val) (Nat.mul_comm _ _))))
  pointwise [packed]
  fin_cases j
  · exact key q _ rfl
  · exact key k _ rfl
  · exact key v _ rfl
  · exact key g _ rfl

theorem packed0_at (q k v g : FVec Ideal S8x2048x512 .f32) (b : Fin 8) (u : Fin 4) (n : Fin 2048) (l : Fin 128) :
    packed q k v g (ix5 b u 0 n l) = q (ix3 b n ⟨128 * u.val + l.val, by omega⟩) := packed_at q k v g b u 0 n l

theorem packed1_at (q k v g : FVec Ideal S8x2048x512 .f32) (b : Fin 8) (u : Fin 4) (n : Fin 2048) (l : Fin 128) :
    packed q k v g (ix5 b u 1 n l) = k (ix3 b n ⟨128 * u.val + l.val, by omega⟩) := packed_at q k v g b u 1 n l

theorem packed2_at (q k v g : FVec Ideal S8x2048x512 .f32) (b : Fin 8) (u : Fin 4) (n : Fin 2048) (l : Fin 128) :
    packed q k v g (ix5 b u 2 n l) = v (ix3 b n ⟨128 * u.val + l.val, by omega⟩) := packed_at q k v g b u 2 n l

theorem packed3_at (q k v g : FVec Ideal S8x2048x512 .f32) (b : Fin 8) (u : Fin 4) (n : Fin 2048) (l : Fin 128) :
    packed q k v g (ix5 b u 3 n l) = g (ix3 b n ⟨128 * u.val + l.val, by omega⟩) := packed_at q k v g b u 3 n l

/-- The two mixers' slabs, one after the other. -/
def both (p p' : FVec Ideal S8x4x4x2048x128 .bf16) : FVec Ideal S8x8x4x2048x128 .bf16 :=
  concatenate S8x8x4x2048x128 1 [⟨S8x4x4x2048x128, p⟩, ⟨S8x4x4x2048x128, p'⟩] concatenates_S8x4x4x2048x128_S8x4x4x2048x128_S8x8x4x2048x128_d1

theorem both_at (p p' : FVec Ideal S8x4x4x2048x128 .bf16) (b u : Fin 8) (j : Fin 4) (n : Fin 2048) (l : Fin 128) :
    both p p' (ix5 b u j n l) = if h : u.val < 4 then p (ix5 b ⟨u.val, h⟩ j n l) else p' (ix5 b ⟨u.val - 4, by omega⟩ j n l) := by
  pointwise [both]

/-- The gate logits, padded with zeros to 128 lanes. -/
def logits (z : FVec Ideal S8x2048x4104 .f32) : FVec Ideal S8x2048x128 .f32 :=
  concatenate S8x2048x128 2 [⟨S8x2048x8, extractStridedSlice S8x2048x8 ![0, 0, 1536] z slices_S8x2048x4104_S8x2048x8_0_0_1536⟩,
    ⟨S8x2048x120, broadcastInDim S8x2048x120 ![] bcast_S_S8x2048x120 (constant S_ .f32 0x00000000#32)⟩] concatenates_S8x2048x8_S8x2048x120_S8x2048x128_d2

theorem logits_at (z : FVec Ideal S8x2048x4104 .f32) (b : Fin 8) (n : Fin 2048) (l : Fin 128) :
    logits z (ix3 b n l) = if h : l.val < 8 then z (ix3 b n ⟨1536 + l.val, by omega⟩) else 0 := by
  pointwise [logits]

section
variable (a0 x : FVec Ideal S8x2048x1024 .f32) (md : FVec Ideal S4x3x8x1024 .f32) (co si : FVec Ideal S8x2048x8 .f32)
  (pre post : FVec Ideal S4x1024 .f32) (wo : FVec Ideal S2x1024x1024 .f32) (wi : FVec Ideal S2x1024x4104 .f32)

/-- The reference's residual stream of the arguments. -/
def refX : FVec Ideal S8x2048x1024 .f32 := stream x (out a0 wo) (gate md) (weight1 post)

/-- The reference's projections of the arguments. -/
def refZ : FVec Ideal S8x2048x4104 .f32 := into (modulated (refX a0 x md post wo) (scale md) (shift md) (weight2 pre)) wi

/-- The reference's packed result from its projections. -/
def refP (z : FVec Ideal S8x2048x4104 .f32) : FVec Ideal S8x8x4x2048x128 .bf16 :=
  both (packed (part 0 z slices_S8x2048x4104_S8x2048x512_0_0_0) (part 512 z slices_S8x2048x4104_S8x2048x512_0_0_512)
      (part 1024 z slices_S8x2048x4104_S8x2048x512_0_0_1024) (part 1544 z slices_S8x2048x4104_S8x2048x512_0_0_1544))
    (packed (rotate (part 2056 z slices_S8x2048x4104_S8x2048x512_0_0_2056) co si) (rotate (part 2568 z slices_S8x2048x4104_S8x2048x512_0_0_2568) co si)
      (part 3080 z slices_S8x2048x4104_S8x2048x512_0_0_3080) (part 3592 z slices_S8x2048x4104_S8x2048x512_0_0_3592))
end

section
variable (m : (ℓ : Loc nD τ sig) → Buf (Elt Ideal) ℓ) (c : Dev nD)

theorem res0 : Value.res_main_v23 (F := Ideal) (launchContents m c) = refX (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) := rfl

theorem resZ : Value.res_main_v53 (F := Ideal) (launchContents m c) = refZ (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := rfl
end

end Cert.EvenRef
-- ==== Proof.EvenJoin.lean ====
module

public import proofs.«01_k».proof.Proof.EvenArray
public import proofs.«01_k».proof.Proof.EvenRefAt
public import proofs.«01_k».proof.Proof.ProjJoin

@[expose] public section

set_option maxRecDepth 16384

noncomputable section

namespace Cert.Even

open Cert.EvenIdeal Cert.EvenIdeal.Gen Idealize.ShloMosaic Idealize.ShloMosaic.TcCoe Cert.Proj

section
variable (a0 x : FVec Ideal S8x2048x1024 .f32) (md : FVec Ideal S4x3x8x1024 .f32)
  (pre post : FVec Ideal S4x1024 .f32) (wo : FVec Ideal S2x1024x1024 .f32) (wi : FVec Ideal S2x1024x4104 .f32) (b : Fin 8) (n : Fin 2048)

theorem refX_at (d : Fin 1024) : EvenRef.refX a0 x md post wo (ix3 b n d) = xRow a0 x md post wo b n d := by
  unfold EvenRef.refX xRow upd
  rw [ProjRef.stream_at, EvenRef.gate_at]
  refine congrArg (x (ix3 b n d) + md (ix4 1 2 b d) * ·) (congrArg₂ (nrm · · d) (funext fun f => ?_) (funext fun f => ProjRef.weight1_at post f))
  rw [ProjRef.out_at]

theorem refH_at (d : Fin 1024) : ProjRef.modulated (EvenRef.refX a0 x md post wo) (EvenRef.scale md) (EvenRef.shift md) (EvenRef.weight2 pre) (ix3 b n d)
    = hRow a0 x md pre post wo b n d := by
  unfold hRow mdl
  rw [ProjRef.modulated_at, EvenRef.scale_at, EvenRef.shift_at]
  refine congrArg (· * (Ideal.ofBits .f32 0x3F800000#32 + md (ix4 2 1 b d)) + md (ix4 2 0 b d)) ?_
  exact congrArg₂ (nrm · · d) (funext fun f => refX_at a0 x md post wo b n f) (funext fun f => EvenRef.weight2_at pre f)

theorem refZ_at (d : Fin 4104) : EvenRef.refZ a0 x md pre post wo wi (ix3 b n d) = ∑ e : Fin 1024, hRow a0 x md pre post wo b n e * wi (ix3 1 e d) := by
  unfold EvenRef.refZ
  rw [EvenRef.into_at]
  exact Finset.sum_congr rfl fun e _ => congrArg (· * wi (ix3 1 e d)) (refH_at a0 x md pre post wo b n e)
end

section
variable (z : FVec Ideal EvenReferenceIdeal.S8x2048x4104 .f32) (h : Fin 8 → Fin 2048 → Fin 1024 → EReal) (wi : FVec Ideal S2x1024x4104 .f32) (j : Fin 2)
  (hz : ∀ b n d, z (ix3 b n d) = ∑ e : Fin 1024, h b n e * wi (ix3 j e d)) (co si : FVec Ideal S8x2048x8 .f32)
include hz

section
variable (b : Fin 8) (n : Fin 2048)

/-- A column of a mixer's operand is the column the kernel's two weights hold it in. -/
theorem part_eq (o : ℕ) (hs) (e : Fin 512) (k : ℕ) (hk : (k < 1536 ∧ k = o + e.val) ∨ (1536 ≤ k ∧ k < 4096 ∧ k + 8 = o + e.val)) :
    EvenRef.part o z hs (ix3 b n e) = colW (h b n) wi j k := by
  unfold colW col2
  rcases hk with ⟨h1, h2⟩ | ⟨h1, h2, h3⟩
  · rw [dif_pos h1, EvenRef.part_at o z hs b n e ⟨k, by omega⟩ h2, hz]
  · rw [dif_neg (by omega), dif_pos (by omega), EvenRef.part_at o z hs b n e ⟨k + 8, by omega⟩ h3, hz]
    exact Finset.sum_congr rfl fun a _ => congrArg (fun i => h b n a * wi (ix3 j a i)) (Fin.ext (by change k + 8 = 1544 + (k - 1536); omega))

theorem plain (o : ℕ) (hs) (k u : ℕ) (l : Fin 128) (e : Fin 512) (hk : ¬ (4 ≤ u ∧ k < 2))
    (he : (base u k + l.val < 1536 ∧ base u k + l.val = o + e.val) ∨ (1536 ≤ base u k + l.val ∧ base u k + l.val < 4096 ∧ base u k + l.val + 8 = o + e.val)) (c s t : Fin 128 → EReal) :
    EvenRef.part o z hs (ix3 b n e) = slabG (colW (h b n) wi j) c s t u k l := by
  unfold slabG
  rw [if_neg hk]
  exact part_eq z h wi j hz b n o hs e _ he

/-- A rotated entry: the lane tables leave out, at every lane, the partner that does not belong to it. -/
theorem rotated (o : ℕ) (hs) (k u : ℕ) (hk : k < 2) (hu : u < 4) (ho : o = 2056 + 512 * k) (l : Fin 128) (e : Fin 512) (he : e.val = 128 * u + l.val) :
    EvenRef.rotate (EvenRef.part o z hs) co si (ix3 b n e)
      = slabG (colW (h b n) wi j)
          (fun l => lane (fun d => co (ix3 b n d)) (fun d => co (ix3 b n d)) (Ideal.ofBits .f32 0x3F800000#32) l.val)
          (fun l => lane (fun d => -si (ix3 b n d)) (fun _ => 0) 0 l.val) (fun l => lane (fun _ => 0) (fun d => si (ix3 b n d)) 0 l.val) (u + 4) k l := by
  have hl := l.isLt
  have hbase : base (u + 4) k = 2048 + 512 * k + 128 * u := by
    unfold base
    rw [if_neg (by omega)]
    omega
  unfold slabG
  rw [if_pos ⟨by omega, hk⟩, EvenRef.rotate_at, hbase]
  dsimp only
  by_cases h1 : e.val % 64 < 8
  · have hm : l.val % 64 = (⟨e.val % 64, h1⟩ : Fin 8).val := by change _ = e.val % 64; omega
    rw [dif_pos h1, part_eq z h wi j hz b n o hs e (2048 + 512 * k + 128 * u + l.val) (by omega),
      part_eq z h wi j hz b n o hs ⟨e.val + 8, _⟩ (2048 + 512 * k + 128 * u + (l.val + 8) % 128) (by dsimp only; omega)]
    rw [lane_lo _ _ _ _ _ hm, lane_lo _ _ _ _ _ hm, lane_lo _ _ _ _ _ hm, mul_zero, add_zero, sub_eq_add_neg, ← mul_neg]
  rw [dif_neg h1]
  by_cases h2 : e.val % 64 - 8 < 8
  · have hm : l.val % 64 = (⟨e.val % 64 - 8, h2⟩ : Fin 8).val + 8 := by change _ = e.val % 64 - 8 + 8; omega
    rw [dif_pos h2, part_eq z h wi j hz b n o hs e (2048 + 512 * k + 128 * u + l.val) (by omega),
      part_eq z h wi j hz b n o hs ⟨e.val - 8, _⟩ (2048 + 512 * k + 128 * u + (l.val + 120) % 128) (by dsimp only; omega)]
    rw [lane_mid _ _ _ _ _ hm, lane_mid _ _ _ _ _ hm, lane_mid _ _ _ _ _ hm, mul_zero, add_zero]
  rw [dif_neg h2]
  have hm : 16 ≤ l.val % 64 := by omega
  rw [part_eq z h wi j hz b n o hs e (2048 + 512 * k + 128 * u + l.val) (by omega)]
  rw [lane_hi _ _ _ _ hm, lane_hi _ _ _ _ hm, lane_hi _ _ _ _ hm, mul_zero, mul_zero, add_zero, add_zero, ofBits_one, mul_one]
end

omit hz in
theorem resP_at (b u : Fin 8) (q : Fin 4) (n : Fin 2048) (l : Fin 128) : resP h co si wi j (ix5 b u q n l)
    = slabG (colW (h b n) wi j)
        (fun l => lane (fun d => co (ix3 b n d)) (fun d => co (ix3 b n d)) (Ideal.ofBits .f32 0x3F800000#32) l.val)
        (fun l => lane (fun d => -si (ix3 b n d)) (fun _ => 0) 0 l.val) (fun l => lane (fun _ => 0) (fun d => si (ix3 b n d)) 0 l.val) u.val q.val l := rfl

theorem resP_eq : resP h co si wi j = EvenRef.refP co si z := by
  funext y
  obtain ⟨b, u, q, n, l, rfl⟩ : ∃ (b u : Fin 8) (q : Fin 4) (n : Fin 2048) (l : Fin 128), y = ix5 b u q n l :=
    ⟨y 0, y 1, y 2, y 3, y 4, funext fun a => by fin_cases a <;> rfl⟩
  rw [resP_at]
  unfold EvenRef.refP
  rw [EvenRef.both_at]
  have hq : q = 0 ∨ q = 1 ∨ q = 2 ∨ q = 3 := by omega
  have hl := l.isLt
  by_cases hu : u.val < 4
  · rw [dif_pos hu]
    have hbase (k : ℕ) : base u.val k = 512 * k + 128 * u.val := if_pos hu
    have p0 := plain z h wi j hz b n 0 EvenReferenceIdeal.Gen.slices_S8x2048x4104_S8x2048x512_0_0_0 0 u.val l ⟨128 * u.val + l.val, by omega⟩ (by omega) (by rw [hbase]; dsimp only; omega)
    have p1 := plain z h wi j hz b n 512 EvenReferenceIdeal.Gen.slices_S8x2048x4104_S8x2048x512_0_0_512 1 u.val l ⟨128 * u.val + l.val, by omega⟩ (by omega) (by rw [hbase]; dsimp only; omega)
    have p2 := plain z h wi j hz b n 1024 EvenReferenceIdeal.Gen.slices_S8x2048x4104_S8x2048x512_0_0_1024 2 u.val l ⟨128 * u.val + l.val, by omega⟩ (by omega) (by rw [hbase]; dsimp only; omega)
    have p3 := plain z h wi j hz b n 1544 EvenReferenceIdeal.Gen.slices_S8x2048x4104_S8x2048x512_0_0_1544 3 u.val l ⟨128 * u.val + l.val, by omega⟩ (by omega) (by rw [hbase]; dsimp only; omega)
    rcases hq with rfl | rfl | rfl | rfl
    · rw [EvenRef.packed0_at, p0]
      rfl
    · rw [EvenRef.packed1_at, p1]
      rfl
    · rw [EvenRef.packed2_at, p2]
      rfl
    · rw [EvenRef.packed3_at, p3]
      rfl
  · rw [dif_neg hu]
    obtain ⟨v, rfl⟩ : ∃ v : Fin 4, u = ⟨v.val + 4, Nat.add_lt_add_right v.isLt 4⟩ := ⟨⟨u.val - 4, by omega⟩, Fin.ext (by change u.val = u.val - 4 + 4; omega)⟩
    have hv := v.isLt
    have hbase (k : ℕ) : base (v.val + 4) k = 2048 + 512 * k + 128 * v.val := by
      unfold base
      rw [if_neg (by omega)]
      omega
    have p0 := rotated z h wi j hz co si b n 2056 EvenReferenceIdeal.Gen.slices_S8x2048x4104_S8x2048x512_0_0_2056 0 v.val (by decide) v.isLt rfl l ⟨128 * v.val + l.val, by omega⟩ rfl
    have p1 := rotated z h wi j hz co si b n 2568 EvenReferenceIdeal.Gen.slices_S8x2048x4104_S8x2048x512_0_0_2568 1 v.val (by decide) v.isLt rfl l ⟨128 * v.val + l.val, by omega⟩ rfl
    have p2 := plain z h wi j hz b n 3080 EvenReferenceIdeal.Gen.slices_S8x2048x4104_S8x2048x512_0_0_3080 2 (v.val + 4) l ⟨128 * v.val + l.val, by omega⟩ (by omega) (by rw [hbase]; dsimp only; omega)
    have p3 := plain z h wi j hz b n 3592 EvenReferenceIdeal.Gen.slices_S8x2048x4104_S8x2048x512_0_0_3592 3 (v.val + 4) l ⟨128 * v.val + l.val, by omega⟩ (by omega) (by rw [hbase]; dsimp only; omega)
    have hw : (⟨v.val + 4 - 4, by omega⟩ : Fin 4) = v := Fin.ext (Nat.add_sub_cancel _ _)
    rw [hw]
    rcases hq with rfl | rfl | rfl | rfl
    · rw [EvenRef.packed0_at, p0]
      rfl
    · rw [EvenRef.packed1_at, p1]
      rfl
    · rw [EvenRef.packed2_at, p2]
      rfl
    · rw [EvenRef.packed3_at, p3]
      rfl

theorem resF_eq : resF h wi j = EvenRef.logits z := by
  funext y
  obtain ⟨b, n, l, rfl⟩ : ∃ (b : Fin 8) (n : Fin 2048) (l : Fin 128), y = ix3 b n l :=
    ⟨y 0, y 1, y 2, funext fun a => by fin_cases a <;> rfl⟩
  rw [EvenRef.logits_at]
  refine Eq.trans (b := logits (h b n) wi j l) rfl ?_
  unfold logits
  by_cases hl : l.val < 8
  · rw [dif_pos hl, dif_pos hl, hz]
  · rw [dif_neg hl, dif_neg hl]
end

theorem resX_eq (a0 x : FVec Ideal S8x2048x1024 .f32) (md : FVec Ideal S4x3x8x1024 .f32) (post : FVec Ideal S4x1024 .f32) (wo : FVec Ideal S2x1024x1024 .f32) :
    resX a0 x md post wo = EvenRef.refX a0 x md post wo := by
  funext y
  idx_vars y
  exact (refX_at a0 x md post wo _ _ _).symm

end Cert.Even
-- ==== Proof.FirstBlock.lean ====
module

public import proofs.«01_k».proof.Proof.Gen.FirstIdeal.Frame
public import proofs.«01_k».proof.Proof.EvenOut

@[expose] public section

set_option maxRecDepth 16384

noncomputable section

namespace Cert.First

open Cert.FirstIdeal Cert.FirstIdeal.Gen Idealize.ShloMosaic Idealize.ShloMosaic.TcCoe Cert.Proj

variable (x0 : Vec Ideal S1x512x1024 .f32) (x1 x2 : Vec Ideal S1x1x1x1x1024 .f32) (x3 : Vec Ideal S1x1x1024 .f32) (x4 : Vec Ideal S1x1024x1536 .bf16) (x5 : Vec Ideal S1x1024x2560 .bf16)
  (x6 : Vec Ideal S1x1024x128 .bf16) (x7 x8 x9 : Vec Ideal S1x512x128 .f32)

/-- A row that enters the projection. -/
def hB (r : Fin 512) (d : Fin 1024) : EReal :=
  mdl (fun f => x0 (ix3 0 r f)) (fun f => x3 (ix3 0 0 f)) (fun f => x2 (ix5 0 0 0 0 f)) (fun f => x1 (ix5 0 0 0 0 f)) d

/-- Rows that enter the projection as the kernel computes them. -/
def hT (o : ℕ) (h0 : ∀ a, ![0, o, 0] a + S1x256x1024.size a ≤ S1x512x1024.size a) : FVec Ideal S256x1024 .bf16 :=
  ProjectIdeal.Gen.k0_pay25 (k0_pay4 (View.ld x0 (Rect.unit (s := S1x512x1024) ![0, o, 0] S1x256x1024.size h0))) (View.ld x3 r0_1) (View.ld x2 r0_2) (View.ld x1 r0_2)

theorem hT_at (o : ℕ) (ho : o + 256 ≤ 512) (h0) (r : Fin 256) (d : Fin 1024) : hT x0 x1 x2 x3 o h0 (ix2 r d) = hB x0 x1 x2 x3 (row o ho r) d := by
  unfold hT
  rw [pay15, ld_v1, ld_v1, ld_v2]
  unfold hB
  congr 1
  funext f
  pointwise [k0_pay4]
  rfl

theorem out11 : out0_11 x0 x1 x2 x3 x4 x5 x6 x7 x8 x9 = Even.outF (hB x0 x1 x2 x3) x6 := by
  funext y
  unfold out0_11
  refine View.canon_apply_of_pieces (Val := Elt Ideal) (e := .f32) (Even.outF (hB x0 x1 x2 x3) x6) _ (View.PiecesOf.mem ?_) y (cover0_11 _ _ y)
  refine ⟨fun x => ?_, fun x => ?_, trivial⟩
  · exact Even.tileF (hB x0 x1 x2 x3) 256 (by decide) (hT x0 x1 x2 x3 256 (by decide)) (hT_at x0 x1 x2 x3 256 (by decide) (by decide)) x6 (by decide) (by decide) x
  · exact Even.tileF (hB x0 x1 x2 x3) 0 (by decide) (hT x0 x1 x2 x3 0 (by decide)) (hT_at x0 x1 x2 x3 0 (by decide) (by decide)) x6 (by decide) (by decide) x

theorem out10 : out0_10 x0 x1 x2 x3 x4 x5 x6 x7 x8 x9 = Even.outP (hB x0 x1 x2 x3) x4 x5 x7 x8 x9 := by
  funext y
  unfold out0_10
  refine View.canon_apply_of_pieces (Val := Elt Ideal) (e := .bf16) (Even.outP (hB x0 x1 x2 x3) x4 x5 x7 x8 x9) _ (View.PiecesOf.mem ?_) y (cover0_10 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact Even.tileHi (hB x0 x1 x2 x3) 256 (by decide) (hT x0 x1 x2 x3 256 (by decide)) (hT_at x0 x1 x2 x3 256 (by decide) (by decide)) x4 x5 x7 x8 x9 3 7 2304 128 (by decide) (by decide) (by decide) (by decide) slices_S256x256_o0_128_S256x128 (by decide) (by decide) x
  · exact Even.tileHi (hB x0 x1 x2 x3) 256 (by decide) (hT x0 x1 x2 x3 256 (by decide)) (hT_at x0 x1 x2 x3 256 (by decide) (by decide)) x4 x5 x7 x8 x9 3 6 2304 0 (by decide) (by decide) (by decide) (by decide) slices_S256x256_o0_0_S256x128 (by decide) (by decide) x
  · exact Even.tileHi (hB x0 x1 x2 x3) 256 (by decide) (hT x0 x1 x2 x3 256 (by decide)) (hT_at x0 x1 x2 x3 256 (by decide) (by decide)) x4 x5 x7 x8 x9 3 5 2048 128 (by decide) (by decide) (by decide) (by decide) slices_S256x256_o0_128_S256x128 (by decide) (by decide) x
  · exact Even.tileHi (hB x0 x1 x2 x3) 256 (by decide) (hT x0 x1 x2 x3 256 (by decide)) (hT_at x0 x1 x2 x3 256 (by decide) (by decide)) x4 x5 x7 x8 x9 3 4 2048 0 (by decide) (by decide) (by decide) (by decide) slices_S256x256_o0_0_S256x128 (by decide) (by decide) x
  · exact Even.tileHi (hB x0 x1 x2 x3) 256 (by decide) (hT x0 x1 x2 x3 256 (by decide)) (hT_at x0 x1 x2 x3 256 (by decide) (by decide)) x4 x5 x7 x8 x9 2 7 1792 128 (by decide) (by decide) (by decide) (by decide) slices_S256x256_o0_128_S256x128 (by decide) (by decide) x
  · exact Even.tileHi (hB x0 x1 x2 x3) 256 (by decide) (hT x0 x1 x2 x3 256 (by decide)) (hT_at x0 x1 x2 x3 256 (by decide) (by decide)) x4 x5 x7 x8 x9 2 6 1792 0 (by decide) (by decide) (by decide) (by decide) slices_S256x256_o0_0_S256x128 (by decide) (by decide) x
  · exact Even.tileHi (hB x0 x1 x2 x3) 256 (by decide) (hT x0 x1 x2 x3 256 (by decide)) (hT_at x0 x1 x2 x3 256 (by decide) (by decide)) x4 x5 x7 x8 x9 2 5 1536 128 (by decide) (by decide) (by decide) (by decide) slices_S256x256_o0_128_S256x128 (by decide) (by decide) x
  · exact Even.tileHi (hB x0 x1 x2 x3) 256 (by decide) (hT x0 x1 x2 x3 256 (by decide)) (hT_at x0 x1 x2 x3 256 (by decide) (by decide)) x4 x5 x7 x8 x9 2 4 1536 0 (by decide) (by decide) (by decide) (by decide) slices_S256x256_o0_0_S256x128 (by decide) (by decide) x
  · exact Even.tileRope (hB x0 x1 x2 x3) 256 (by decide) (hT x0 x1 x2 x3 256 (by decide)) (hT_at x0 x1 x2 x3 256 (by decide) (by decide)) x4 x5 x7 x8 x9 1 7 1280 128 (by decide) (by decide) (by decide) (by decide) slices_S256x256_o0_128_S256x128 (by decide) (by decide) (by decide) x
  · exact Even.tileRope (hB x0 x1 x2 x3) 256 (by decide) (hT x0 x1 x2 x3 256 (by decide)) (hT_at x0 x1 x2 x3 256 (by decide) (by decide)) x4 x5 x7 x8 x9 1 6 1280 0 (by decide) (by decide) (by decide) (by decide) slices_S256x256_o0_0_S256x128 (by decide) (by decide) (by decide) x
  · exact Even.tileRope (hB x0 x1 x2 x3) 256 (by decide) (hT x0 x1 x2 x3 256 (by decide)) (hT_at x0 x1 x2 x3 256 (by decide) (by decide)) x4 x5 x7 x8 x9 1 5 1024 128 (by decide) (by decide) (by decide) (by decide) slices_S256x256_o0_128_S256x128 (by decide) (by decide) (by decide) x
  · exact Even.tileRope (hB x0 x1 x2 x3) 256 (by decide) (hT x0 x1 x2 x3 256 (by decide)) (hT_at x0 x1 x2 x3 256 (by decide) (by decide)) x4 x5 x7 x8 x9 1 4 1024 0 (by decide) (by decide) (by decide) (by decide) slices_S256x256_o0_0_S256x128 (by decide) (by decide) (by decide) x
  · exact Even.tileRope (hB x0 x1 x2 x3) 256 (by decide) (hT x0 x1 x2 x3 256 (by decide)) (hT_at x0 x1 x2 x3 256 (by decide) (by decide)) x4 x5 x7 x8 x9 0 7 768 128 (by decide) (by decide) (by decide) (by decide) slices_S256x256_o0_128_S256x128 (by decide) (by decide) (by decide) x
  · exact Even.tileRope (hB x0 x1 x2 x3) 256 (by decide) (hT x0 x1 x2 x3 256 (by decide)) (hT_at x0 x1 x2 x3 256 (by decide) (by decide)) x4 x5 x7 x8 x9 0 6 768 0 (by decide) (by decide) (by decide) (by decide) slices_S256x256_o0_0_S256x128 (by decide) (by decide) (by decide) x
  · exact Even.tileRope (hB x0 x1 x2 x3) 256 (by decide) (hT x0 x1 x2 x3 256 (by decide)) (hT_at x0 x1 x2 x3 256 (by decide) (by decide)) x4 x5 x7 x8 x9 0 5 512 128 (by decide) (by decide) (by decide) (by decide) slices_S256x256_o0_128_S256x128 (by decide) (by decide) (by decide) x
  · exact Even.tileRope (hB x0 x1 x2 x3) 256 (by decide) (hT x0 x1 x2 x3 256 (by decide)) (hT_at x0 x1 x2 x3 256 (by decide) (by decide)) x4 x5 x7 x8 x9 0 4 512 0 (by decide) (by decide) (by decide) (by decide) slices_S256x256_o0_0_S256x128 (by decide) (by decide) (by decide) x
  · exact Even.tileHi (hB x0 x1 x2 x3) 256 (by decide) (hT x0 x1 x2 x3 256 (by decide)) (hT_at x0 x1 x2 x3 256 (by decide) (by decide)) x4 x5 x7 x8 x9 3 3 256 128 (by decide) (by decide) (by decide) (by decide) slices_S256x256_o0_128_S256x128 (by decide) (by decide) x
  · exact Even.tileHi (hB x0 x1 x2 x3) 256 (by decide) (hT x0 x1 x2 x3 256 (by decide)) (hT_at x0 x1 x2 x3 256 (by decide) (by decide)) x4 x5 x7 x8 x9 3 2 256 0 (by decide) (by decide) (by decide) (by decide) slices_S256x256_o0_0_S256x128 (by decide) (by decide) x
  · exact Even.tileHi (hB x0 x1 x2 x3) 256 (by decide) (hT x0 x1 x2 x3 256 (by decide)) (hT_at x0 x1 x2 x3 256 (by decide) (by decide)) x4 x5 x7 x8 x9 3 1 0 128 (by decide) (by decide) (by decide) (by decide) slices_S256x256_o0_128_S256x128 (by decide) (by decide) x
  · exact Even.tileHi (hB x0 x1 x2 x3) 256 (by decide) (hT x0 x1 x2 x3 256 (by decide)) (hT_at x0 x1 x2 x3 256 (by decide) (by decide)) x4 x5 x7 x8 x9 3 0 0 0 (by decide) (by decide) (by decide) (by decide) slices_S256x256_o0_0_S256x128 (by decide) (by decide) x
  · exact Even.tileLo (hB x0 x1 x2 x3) 256 (by decide) (hT x0 x1 x2 x3 256 (by decide)) (hT_at x0 x1 x2 x3 256 (by decide) (by decide)) x4 x5 x7 x8 x9 2 3 1280 128 (by decide) (by decide) (by decide) (by decide) slices_S256x256_o0_128_S256x128 (by decide) (by decide) x
  · exact Even.tileLo (hB x0 x1 x2 x3) 256 (by decide) (hT x0 x1 x2 x3 256 (by decide)) (hT_at x0 x1 x2 x3 256 (by decide) (by decide)) x4 x5 x7 x8 x9 2 2 1280 0 (by decide) (by decide) (by decide) (by decide) slices_S256x256_o0_0_S256x128 (by decide) (by decide) x
  · exact Even.tileLo (hB x0 x1 x2 x3) 256 (by decide) (hT x0 x1 x2 x3 256 (by decide)) (hT_at x0 x1 x2 x3 256 (by decide) (by decide)) x4 x5 x7 x8 x9 2 1 1024 128 (by decide) (by decide) (by decide) (by decide) slices_S256x256_o0_128_S256x128 (by decide) (by decide) x
  · exact Even.tileLo (hB x0 x1 x2 x3) 256 (by decide) (hT x0 x1 x2 x3 256 (by decide)) (hT_at x0 x1 x2 x3 256 (by decide) (by decide)) x4 x5 x7 x8 x9 2 0 1024 0 (by decide) (by decide) (by decide) (by decide) slices_S256x256_o0_0_S256x128 (by decide) (by decide) x
  · exact Even.tileLo (hB x0 x1 x2 x3) 256 (by decide) (hT x0 x1 x2 x3 256 (by decide)) (hT_at x0 x1 x2 x3 256 (by decide) (by decide)) x4 x5 x7 x8 x9 1 3 768 128 (by decide) (by decide) (by decide) (by decide) slices_S256x256_o0_128_S256x128 (by decide) (by decide) x
  · exact Even.tileLo (hB x0 x1 x2 x3) 256 (by decide) (hT x0 x1 x2 x3 256 (by decide)) (hT_at x0 x1 x2 x3 256 (by decide) (by decide)) x4 x5 x7 x8 x9 1 2 768 0 (by decide) (by decide) (by decide) (by decide) slices_S256x256_o0_0_S256x128 (by decide) (by decide) x
  · exact Even.tileLo (hB x0 x1 x2 x3) 256 (by decide) (hT x0 x1 x2 x3 256 (by decide)) (hT_at x0 x1 x2 x3 256 (by decide) (by decide)) x4 x5 x7 x8 x9 1 1 512 128 (by decide) (by decide) (by decide) (by decide) slices_S256x256_o0_128_S256x128 (by decide) (by decide) x
  · exact Even.tileLo (hB x0 x1 x2 x3) 256 (by decide) (hT x0 x1 x2 x3 256 (by decide)) (hT_at x0 x1 x2 x3 256 (by decide) (by decide)) x4 x5 x7 x8 x9 1 0 512 0 (by decide) (by decide) (by decide) (by decide) slices_S256x256_o0_0_S256x128 (by decide) (by decide) x
  · exact Even.tileLo (hB x0 x1 x2 x3) 256 (by decide) (hT x0 x1 x2 x3 256 (by decide)) (hT_at x0 x1 x2 x3 256 (by decide) (by decide)) x4 x5 x7 x8 x9 0 3 256 128 (by decide) (by decide) (by decide) (by decide) slices_S256x256_o0_128_S256x128 (by decide) (by decide) x
  · exact Even.tileLo (hB x0 x1 x2 x3) 256 (by decide) (hT x0 x1 x2 x3 256 (by decide)) (hT_at x0 x1 x2 x3 256 (by decide) (by decide)) x4 x5 x7 x8 x9 0 2 256 0 (by decide) (by decide) (by decide) (by decide) slices_S256x256_o0_0_S256x128 (by decide) (by decide) x
  · exact Even.tileLo (hB x0 x1 x2 x3) 256 (by decide) (hT x0 x1 x2 x3 256 (by decide)) (hT_at x0 x1 x2 x3 256 (by decide) (by decide)) x4 x5 x7 x8 x9 0 1 0 128 (by decide) (by decide) (by decide) (by decide) slices_S256x256_o0_128_S256x128 (by decide) (by decide) x
  · exact Even.tileLo (hB x0 x1 x2 x3) 256 (by decide) (hT x0 x1 x2 x3 256 (by decide)) (hT_at x0 x1 x2 x3 256 (by decide) (by decide)) x4 x5 x7 x8 x9 0 0 0 0 (by decide) (by decide) (by decide) (by decide) slices_S256x256_o0_0_S256x128 (by decide) (by decide) x
  · exact Even.tileHi (hB x0 x1 x2 x3) 0 (by decide) (hT x0 x1 x2 x3 0 (by decide)) (hT_at x0 x1 x2 x3 0 (by decide) (by decide)) x4 x5 x7 x8 x9 3 7 2304 128 (by decide) (by decide) (by decide) (by decide) slices_S256x256_o0_128_S256x128 (by decide) (by decide) x
  · exact Even.tileHi (hB x0 x1 x2 x3) 0 (by decide) (hT x0 x1 x2 x3 0 (by decide)) (hT_at x0 x1 x2 x3 0 (by decide) (by decide)) x4 x5 x7 x8 x9 3 6 2304 0 (by decide) (by decide) (by decide) (by decide) slices_S256x256_o0_0_S256x128 (by decide) (by decide) x
  · exact Even.tileHi (hB x0 x1 x2 x3) 0 (by decide) (hT x0 x1 x2 x3 0 (by decide)) (hT_at x0 x1 x2 x3 0 (by decide) (by decide)) x4 x5 x7 x8 x9 3 5 2048 128 (by decide) (by decide) (by decide) (by decide) slices_S256x256_o0_128_S256x128 (by decide) (by decide) x
  · exact Even.tileHi (hB x0 x1 x2 x3) 0 (by decide) (hT x0 x1 x2 x3 0 (by decide)) (hT_at x0 x1 x2 x3 0 (by decide) (by decide)) x4 x5 x7 x8 x9 3 4 2048 0 (by decide) (by decide) (by decide) (by decide) slices_S256x256_o0_0_S256x128 (by decide) (by decide) x
  · exact Even.tileHi (hB x0 x1 x2 x3) 0 (by decide) (hT x0 x1 x2 x3 0 (by decide)) (hT_at x0 x1 x2 x3 0 (by decide) (by decide)) x4 x5 x7 x8 x9 2 7 1792 128 (by decide) (by decide) (by decide) (by decide) slices_S256x256_o0_128_S256x128 (by decide) (by decide) x
  · exact Even.tileHi (hB x0 x1 x2 x3) 0 (by decide) (hT x0 x1 x2 x3 0 (by decide)) (hT_at x0 x1 x2 x3 0 (by decide) (by decide)) x4 x5 x7 x8 x9 2 6 1792 0 (by decide) (by decide) (by decide) (by decide) slices_S256x256_o0_0_S256x128 (by decide) (by decide) x
  · exact Even.tileHi (hB x0 x1 x2 x3) 0 (by decide) (hT x0 x1 x2 x3 0 (by decide)) (hT_at x0 x1 x2 x3 0 (by decide) (by decide)) x4 x5 x7 x8 x9 2 5 1536 128 (by decide) (by decide) (by decide) (by decide) slices_S256x256_o0_128_S256x128 (by decide) (by decide) x
  · exact Even.tileHi (hB x0 x1 x2 x3) 0 (by decide) (hT x0 x1 x2 x3 0 (by decide)) (hT_at x0 x1 x2 x3 0 (by decide) (by decide)) x4 x5 x7 x8 x9 2 4 1536 0 (by decide) (by decide) (by decide) (by decide) slices_S256x256_o0_0_S256x128 (by decide) (by decide) x
  · exact Even.tileRope (hB x0 x1 x2 x3) 0 (by decide) (hT x0 x1 x2 x3 0 (by decide)) (hT_at x0 x1 x2 x3 0 (by decide) (by decide)) x4 x5 x7 x8 x9 1 7 1280 128 (by decide) (by decide) (by decide) (by decide) slices_S256x256_o0_128_S256x128 (by decide) (by decide) (by decide) x
  · exact Even.tileRope (hB x0 x1 x2 x3) 0 (by decide) (hT x0 x1 x2 x3 0 (by decide)) (hT_at x0 x1 x2 x3 0 (by decide) (by decide)) x4 x5 x7 x8 x9 1 6 1280 0 (by decide) (by decide) (by decide) (by decide) slices_S256x256_o0_0_S256x128 (by decide) (by decide) (by decide) x
  · exact Even.tileRope (hB x0 x1 x2 x3) 0 (by decide) (hT x0 x1 x2 x3 0 (by decide)) (hT_at x0 x1 x2 x3 0 (by decide) (by decide)) x4 x5 x7 x8 x9 1 5 1024 128 (by decide) (by decide) (by decide) (by decide) slices_S256x256_o0_128_S256x128 (by decide) (by decide) (by decide) x
  · exact Even.tileRope (hB x0 x1 x2 x3) 0 (by decide) (hT x0 x1 x2 x3 0 (by decide)) (hT_at x0 x1 x2 x3 0 (by decide) (by decide)) x4 x5 x7 x8 x9 1 4 1024 0 (by decide) (by decide) (by decide) (by decide) slices_S256x256_o0_0_S256x128 (by decide) (by decide) (by decide) x
  · exact Even.tileRope (hB x0 x1 x2 x3) 0 (by decide) (hT x0 x1 x2 x3 0 (by decide)) (hT_at x0 x1 x2 x3 0 (by decide) (by decide)) x4 x5 x7 x8 x9 0 7 768 128 (by decide) (by decide) (by decide) (by decide) slices_S256x256_o0_128_S256x128 (by decide) (by decide) (by decide) x
  · exact Even.tileRope (hB x0 x1 x2 x3) 0 (by decide) (hT x0 x1 x2 x3 0 (by decide)) (hT_at x0 x1 x2 x3 0 (by decide) (by decide)) x4 x5 x7 x8 x9 0 6 768 0 (by decide) (by decide) (by decide) (by decide) slices_S256x256_o0_0_S256x128 (by decide) (by decide) (by decide) x
  · exact Even.tileRope (hB x0 x1 x2 x3) 0 (by decide) (hT x0 x1 x2 x3 0 (by decide)) (hT_at x0 x1 x2 x3 0 (by decide) (by decide)) x4 x5 x7 x8 x9 0 5 512 128 (by decide) (by decide) (by decide) (by decide) slices_S256x256_o0_128_S256x128 (by decide) (by decide) (by decide) x
  · exact Even.tileRope (hB x0 x1 x2 x3) 0 (by decide) (hT x0 x1 x2 x3 0 (by decide)) (hT_at x0 x1 x2 x3 0 (by decide) (by decide)) x4 x5 x7 x8 x9 0 4 512 0 (by decide) (by decide) (by decide) (by decide) slices_S256x256_o0_0_S256x128 (by decide) (by decide) (by decide) x
  · exact Even.tileHi (hB x0 x1 x2 x3) 0 (by decide) (hT x0 x1 x2 x3 0 (by decide)) (hT_at x0 x1 x2 x3 0 (by decide) (by decide)) x4 x5 x7 x8 x9 3 3 256 128 (by decide) (by decide) (by decide) (by decide) slices_S256x256_o0_128_S256x128 (by decide) (by decide) x
  · exact Even.tileHi (hB x0 x1 x2 x3) 0 (by decide) (hT x0 x1 x2 x3 0 (by decide)) (hT_at x0 x1 x2 x3 0 (by decide) (by decide)) x4 x5 x7 x8 x9 3 2 256 0 (by decide) (by decide) (by decide) (by decide) slices_S256x256_o0_0_S256x128 (by decide) (by decide) x
  · exact Even.tileHi (hB x0 x1 x2 x3) 0 (by decide) (hT x0 x1 x2 x3 0 (by decide)) (hT_at x0 x1 x2 x3 0 (by decide) (by decide)) x4 x5 x7 x8 x9 3 1 0 128 (by decide) (by decide) (by decide) (by decide) slices_S256x256_o0_128_S256x128 (by decide) (by decide) x
  · exact Even.tileHi (hB x0 x1 x2 x3) 0 (by decide) (hT x0 x1 x2 x3 0 (by decide)) (hT_at x0 x1 x2 x3 0 (by decide) (by decide)) x4 x5 x7 x8 x9 3 0 0 0 (by decide) (by decide) (by decide) (by decide) slices_S256x256_o0_0_S256x128 (by decide) (by decide) x
  · exact Even.tileLo (hB x0 x1 x2 x3) 0 (by decide) (hT x0 x1 x2 x3 0 (by decide)) (hT_at x0 x1 x2 x3 0 (by decide) (by decide)) x4 x5 x7 x8 x9 2 3 1280 128 (by decide) (by decide) (by decide) (by decide) slices_S256x256_o0_128_S256x128 (by decide) (by decide) x
  · exact Even.tileLo (hB x0 x1 x2 x3) 0 (by decide) (hT x0 x1 x2 x3 0 (by decide)) (hT_at x0 x1 x2 x3 0 (by decide) (by decide)) x4 x5 x7 x8 x9 2 2 1280 0 (by decide) (by decide) (by decide) (by decide) slices_S256x256_o0_0_S256x128 (by decide) (by decide) x
  · exact Even.tileLo (hB x0 x1 x2 x3) 0 (by decide) (hT x0 x1 x2 x3 0 (by decide)) (hT_at x0 x1 x2 x3 0 (by decide) (by decide)) x4 x5 x7 x8 x9 2 1 1024 128 (by decide) (by decide) (by decide) (by decide) slices_S256x256_o0_128_S256x128 (by decide) (by decide) x
  · exact Even.tileLo (hB x0 x1 x2 x3) 0 (by decide) (hT x0 x1 x2 x3 0 (by decide)) (hT_at x0 x1 x2 x3 0 (by decide) (by decide)) x4 x5 x7 x8 x9 2 0 1024 0 (by decide) (by decide) (by decide) (by decide) slices_S256x256_o0_0_S256x128 (by decide) (by decide) x
  · exact Even.tileLo (hB x0 x1 x2 x3) 0 (by decide) (hT x0 x1 x2 x3 0 (by decide)) (hT_at x0 x1 x2 x3 0 (by decide) (by decide)) x4 x5 x7 x8 x9 1 3 768 128 (by decide) (by decide) (by decide) (by decide) slices_S256x256_o0_128_S256x128 (by decide) (by decide) x
  · exact Even.tileLo (hB x0 x1 x2 x3) 0 (by decide) (hT x0 x1 x2 x3 0 (by decide)) (hT_at x0 x1 x2 x3 0 (by decide) (by decide)) x4 x5 x7 x8 x9 1 2 768 0 (by decide) (by decide) (by decide) (by decide) slices_S256x256_o0_0_S256x128 (by decide) (by decide) x
  · exact Even.tileLo (hB x0 x1 x2 x3) 0 (by decide) (hT x0 x1 x2 x3 0 (by decide)) (hT_at x0 x1 x2 x3 0 (by decide) (by decide)) x4 x5 x7 x8 x9 1 1 512 128 (by decide) (by decide) (by decide) (by decide) slices_S256x256_o0_128_S256x128 (by decide) (by decide) x
  · exact Even.tileLo (hB x0 x1 x2 x3) 0 (by decide) (hT x0 x1 x2 x3 0 (by decide)) (hT_at x0 x1 x2 x3 0 (by decide) (by decide)) x4 x5 x7 x8 x9 1 0 512 0 (by decide) (by decide) (by decide) (by decide) slices_S256x256_o0_0_S256x128 (by decide) (by decide) x
  · exact Even.tileLo (hB x0 x1 x2 x3) 0 (by decide) (hT x0 x1 x2 x3 0 (by decide)) (hT_at x0 x1 x2 x3 0 (by decide) (by decide)) x4 x5 x7 x8 x9 0 3 256 128 (by decide) (by decide) (by decide) (by decide) slices_S256x256_o0_128_S256x128 (by decide) (by decide) x
  · exact Even.tileLo (hB x0 x1 x2 x3) 0 (by decide) (hT x0 x1 x2 x3 0 (by decide)) (hT_at x0 x1 x2 x3 0 (by decide) (by decide)) x4 x5 x7 x8 x9 0 2 256 0 (by decide) (by decide) (by decide) (by decide) slices_S256x256_o0_0_S256x128 (by decide) (by decide) x
  · exact Even.tileLo (hB x0 x1 x2 x3) 0 (by decide) (hT x0 x1 x2 x3 0 (by decide)) (hT_at x0 x1 x2 x3 0 (by decide) (by decide)) x4 x5 x7 x8 x9 0 1 0 128 (by decide) (by decide) (by decide) (by decide) slices_S256x256_o0_128_S256x128 (by decide) (by decide) x
  · exact Even.tileLo (hB x0 x1 x2 x3) 0 (by decide) (hT x0 x1 x2 x3 0 (by decide)) (hT_at x0 x1 x2 x3 0 (by decide) (by decide)) x4 x5 x7 x8 x9 0 0 0 0 (by decide) (by decide) (by decide) (by decide) slices_S256x256_o0_0_S256x128 (by decide) (by decide) x

end Cert.First
-- ==== Proof.FirstArray.lean ====
module

public import proofs.«01_k».proof.Proof.FirstBlock
public import proofs.«01_k».proof.Proof.EvenArray
public import proofs.«01_k».proof.Proof.Gen.FirstIdeal.Value

@[expose] public section

set_option maxRecDepth 16384

noncomputable section

namespace Cert.First

open Cert.FirstIdeal Cert.FirstIdeal.Gen Idealize.ShloMosaic Idealize.ShloMosaic.TcCoe Cert.Proj

/-- What enters the projection at one position. -/
def hRow (x : FVec Ideal S8x2048x1024 .f32) (md : FVec Ideal S4x3x8x1024 .f32) (pre : FVec Ideal S4x1024 .f32) (b : Fin 8) (n : Fin 2048) (d : Fin 1024) : EReal :=
  mdl (fun f => x (ix3 b n f)) (fun f => pre (ix2 0 f)) (fun f => md (ix4 0 1 b f)) (fun f => md (ix4 0 0 b f)) d

variable (m : (ℓ : Loc nD τ sig) → Buf (Elt Ideal) ℓ)

theorem V15 (c : Dev nD) : V m c main_v15 = shapeCast S4x3x8x1x1024 (m ((c : Thread nD τ).loc main_arg1)) shapeCasts_S4x3x8x1024_S4x3x8x1x1024 := by rfl
theorem V16 (c : Dev nD) : V m c main_v16 = shapeCast S4x1x1024 (m ((c : Thread nD τ).loc main_arg4)) shapeCasts_S4x1024_S4x1x1024 := by rfl
theorem V9 (c : Dev nD) : V m c main_v9 = (truncf .bf16 (extractStridedSlice S2x1024x1536 ![0, 0, 0] ((m ((c : Thread nD τ).loc main_arg5)) : FVec Ideal S2x1024x4104 .f32) slices_S2x1024x4104_S2x1024x1536_0_0_0) bitsLt_bf16_f32 : FVec Ideal S2x1024x1536 .bf16) := by rfl
theorem V11 (c : Dev nD) : V m c main_v11 = (truncf .bf16 (extractStridedSlice S2x1024x2560 ![0, 0, 1544] ((m ((c : Thread nD τ).loc main_arg5)) : FVec Ideal S2x1024x4104 .f32) slices_S2x1024x4104_S2x1024x2560_0_0_1544) bitsLt_bf16_f32 : FVec Ideal S2x1024x2560 .bf16) := by rfl
theorem V14 (c : Dev nD) : V m c main_v14 = Even.padded (m ((c : Thread nD τ).loc main_arg5)) := by rfl
theorem V4 (c : Dev nD) : V m c main_v4 = lanes (m ((c : Thread nD τ).loc main_arg2)) (m ((c : Thread nD τ).loc main_arg2)) ones48 := by rfl
theorem V6 (c : Dev nD) : V m c main_v6 = lanes (Host.negf (m ((c : Thread nD τ).loc main_arg3))) zeros8 zeros48 := by rfl
theorem V7 (c : Dev nD) : V m c main_v7 = lanes zeros8 (m ((c : Thread nD τ).loc main_arg3)) zeros48 := by rfl

theorem idx : ∀ t : Fin cfg0.N, win0_0.index t = ![t.val / 4, t.val % 4, 0] ∧ win0_1.index t = ![0, 0, t.val / 4, 0, 0] ∧ win0_2.index t = ![0, 1, t.val / 4, 0, 0] ∧ win0_3.index t = ![0, 0, 0] ∧ win0_4.index t = ![0, 0, 0] ∧ win0_5.index t = ![0, 0, 0] ∧ win0_6.index t = ![0, 0, 0] ∧ win0_7.index t = ![t.val / 4, t.val % 4, 0] ∧ win0_8.index t = ![t.val / 4, t.val % 4, 0] ∧ win0_9.index t = ![t.val / 4, t.val % 4, 0] ∧ win0_10.index t = ![t.val / 4, 0, 0, t.val % 4, 0] ∧ win0_11.index t = ![t.val / 4, t.val % 4, 0] :=
  (by decide +kernel : ∀ t : Fin grid0.N, _)

section
variable (c : Dev nD) (t : Fin cfg0.N) (b : Fin 8) (i : Fin 4) (hb : b.val = t.val / 4) (hi : i.val = t.val % 4)
include hb hi

theorem read0 (r : Fin 512) (f : Fin 1024) : iblk m c 0 t (ix3 0 r f) = V m c main_arg0 (ix3 b (pos i r) f) := by
  refine congrArg (V m c main_arg0) (funext fun a => Fin.ext ?_)
  fin_cases a <;> blk_simp [idx t]
  all_goals simp [pos, hb, hi, Nat.mul_comm]

theorem read1 (f : Fin 1024) : iblk m c 1 t (ix5 0 0 0 0 f) = V m c main_v15 (ix5 0 0 b 0 f) := by
  refine congrArg (V m c main_v15) (funext fun a => Fin.ext ?_)
  fin_cases a <;> blk_simp [idx t]
  all_goals simp [pos, hb, hi, Nat.mul_comm]

theorem read2 (f : Fin 1024) : iblk m c 2 t (ix5 0 0 0 0 f) = V m c main_v15 (ix5 0 1 b 0 f) := by
  refine congrArg (V m c main_v15) (funext fun a => Fin.ext ?_)
  fin_cases a <;> blk_simp [idx t]
  all_goals simp [pos, hb, hi, Nat.mul_comm]

theorem read3 (f : Fin 1024) : iblk m c 3 t (ix3 0 0 f) = V m c main_v16 (ix3 0 0 f) := by
  refine congrArg (V m c main_v16) (funext fun a => Fin.ext ?_)
  fin_cases a <;> blk_simp [idx t]
  all_goals simp [pos, hb, hi, Nat.mul_comm]

theorem read4 (e : Fin 1024) (f : Fin 1536) : iblk m c 4 t (ix3 0 e f) = V m c main_v9 (ix3 0 e f) := by
  refine congrArg (V m c main_v9) (funext fun a => Fin.ext ?_)
  fin_cases a <;> blk_simp [idx t]
  all_goals simp [pos, hb, hi, Nat.mul_comm]

theorem read5 (e : Fin 1024) (f : Fin 2560) : iblk m c 5 t (ix3 0 e f) = V m c main_v11 (ix3 0 e f) := by
  refine congrArg (V m c main_v11) (funext fun a => Fin.ext ?_)
  fin_cases a <;> blk_simp [idx t]
  all_goals simp [pos, hb, hi, Nat.mul_comm]

theorem read6 (e : Fin 1024) (f : Fin 128) : iblk m c 6 t (ix3 0 e f) = V m c main_v14 (ix3 0 e f) := by
  refine congrArg (V m c main_v14) (funext fun a => Fin.ext ?_)
  fin_cases a <;> blk_simp [idx t]
  all_goals simp [pos, hb, hi, Nat.mul_comm]

theorem read7 (r : Fin 512) (l : Fin 128) : iblk m c 7 t (ix3 0 r l) = V m c main_v4 (ix3 b (pos i r) l) := by
  refine congrArg (V m c main_v4) (funext fun a => Fin.ext ?_)
  fin_cases a <;> blk_simp [idx t]
  all_goals simp [pos, hb, hi, Nat.mul_comm]

theorem read8 (r : Fin 512) (l : Fin 128) : iblk m c 8 t (ix3 0 r l) = V m c main_v6 (ix3 b (pos i r) l) := by
  refine congrArg (V m c main_v6) (funext fun a => Fin.ext ?_)
  fin_cases a <;> blk_simp [idx t]
  all_goals simp [pos, hb, hi, Nat.mul_comm]

theorem read9 (r : Fin 512) (l : Fin 128) : iblk m c 9 t (ix3 0 r l) = V m c main_v7 (ix3 b (pos i r) l) := by
  refine congrArg (V m c main_v7) (funext fun a => Fin.ext ?_)
  fin_cases a <;> blk_simp [idx t]
  all_goals simp [pos, hb, hi, Nat.mul_comm]

theorem hB_eq (r : Fin 512) : hB (iblk m c 0 t) (iblk m c 1 t) (iblk m c 2 t) (iblk m c 3 t) r = hRow (m ((c : Thread nD τ).loc main_arg0)) (m ((c : Thread nD τ).loc main_arg1)) (m ((c : Thread nD τ).loc main_arg4)) b (pos i r) := by
  funext d
  unfold hB hRow
  congr 1
  · funext f
    exact (read0 m c t b i hb hi r f).trans rfl
  · funext f
    rw [read3 m c t b i hb hi, V16, cast8_at]
  · funext f
    rw [read2 m c t b i hb hi, V15, cast17_at]
  · funext f
    rw [read1 m c t b i hb hi, V15, cast17_at]

theorem lo_eq (e : Fin 1024) (f : Fin 1536) : iblk m c 4 t (ix3 0 e f) = (m ((c : Thread nD τ).loc main_arg5)) (ix3 0 e ⟨f.val, by omega⟩) := by
  rw [read4 m c t b i hb hi, V9, Even.lo_at]

theorem hi_eq (e : Fin 1024) (f : Fin 2560) : iblk m c 5 t (ix3 0 e f) = (m ((c : Thread nD τ).loc main_arg5)) (ix3 0 e ⟨1544 + f.val, by omega⟩) := by
  rw [read5 m c t b i hb hi, V11, Even.hi_at]

theorem logits_eq (h : Fin 1024 → EReal) (l : Fin 128) : ∑ e : Fin 1024, h e * iblk m c 6 t (ix3 0 e l) = Even.logits h (m ((c : Thread nD τ).loc main_arg5)) 0 l := by
  unfold Even.logits
  by_cases hl : l.val < 8
  · rw [dif_pos hl]
    refine Finset.sum_congr rfl fun e _ => congrArg (h e * ·) ?_
    rw [read6 m c t b i hb hi, V14, Even.padded_at, dif_pos hl]
  · rw [dif_neg hl]
    refine Finset.sum_eq_zero fun e _ => ?_
    rw [read6 m c t b i hb hi, V14, Even.padded_at, dif_neg hl]
    exact mul_zero _

theorem co_eq (r : Fin 512) (l : Fin 128) : iblk m c 7 t (ix3 0 r l)
    = lane (fun d => (m ((c : Thread nD τ).loc main_arg2)) (ix3 b (pos i r) d)) (fun d => (m ((c : Thread nD τ).loc main_arg2)) (ix3 b (pos i r) d)) (Ideal.ofBits .f32 0x3F800000#32) l.val := by
  rw [read7 m c t b i hb hi, V4, lanes_at _ _ _ _ ones48_at]

theorem down_eq (r : Fin 512) (l : Fin 128) : iblk m c 8 t (ix3 0 r l)
    = lane (fun d => Neg.neg (α := EReal) ((m ((c : Thread nD τ).loc main_arg3)) (ix3 b (pos i r) d))) (fun _ => 0) 0 l.val := by
  rw [read8 m c t b i hb hi, V6, lanes_at _ _ _ _ zeros48_at]
  simp only [zeros8_at]
  rfl

theorem up_eq (r : Fin 512) (l : Fin 128) : iblk m c 9 t (ix3 0 r l)
    = lane (fun _ => 0) (fun d => (m ((c : Thread nD τ).loc main_arg3)) (ix3 b (pos i r) d)) 0 l.val := by
  rw [read9 m c t b i hb hi, V7, lanes_at _ _ _ _ zeros48_at]
  simp only [zeros8_at]
end

theorem emb10 (t : Fin cfg0.N) (y : S1x8x4x512x128.Idx) : (win0_10.blk t).view.emb y
    = ix5 (⟨t.val / 4, by have := lt_of_lt_of_eq t.isLt N_0; omega⟩ : Fin 8) (y 1) (y 2) (pos (⟨t.val % 4, by omega⟩ : Fin 4) (y 3)) (y 4) := by
  have h0 : (y 0).val < 1 := (y 0).isLt
  refine funext fun a => Fin.ext ?_
  fin_cases a <;> blk_simp [idx t]
  all_goals simp [pos, Nat.mul_comm]

theorem emb11 (t : Fin cfg0.N) (y : S1x512x128.Idx) : (win0_11.blk t).view.emb y
    = ix3 (⟨t.val / 4, by have := lt_of_lt_of_eq t.isLt N_0; omega⟩ : Fin 8) (pos (⟨t.val % 4, by omega⟩ : Fin 4) (y 1)) (y 2) := by
  have h0 : (y 0).val < 1 := (y 0).isLt
  refine funext fun a => Fin.ext ?_
  fin_cases a <;> blk_simp [idx t]
  all_goals simp [pos, Nat.mul_comm]

theorem final10 (c : Dev nD) : (dats m 0 c).arrAt 10 cfg0.N
    = Even.resP (hRow (m ((c : Thread nD τ).loc main_arg0)) (m ((c : Thread nD τ).loc main_arg1)) (m ((c : Thread nD τ).loc main_arg4))) (m ((c : Thread nD τ).loc main_arg2)) (m ((c : Thread nD τ).loc main_arg3)) (m ((c : Thread nD τ).loc main_arg5)) 0 := by
  refine (dats m 0 c).arrAt_eq_of_covers 10 _ (by decide +kernel) fun t _ y => ?_
  blk_simp
  have ht : t.val < 32 := lt_of_lt_of_eq t.isLt N_0
  rw [after0_10, out10, emb10 t y]
  have hb : (⟨t.val / 4, by omega⟩ : Fin 8).val = t.val / 4 := rfl
  have hi : (⟨t.val % 4, by omega⟩ : Fin 4).val = t.val % 4 := rfl
  unfold Even.outP
  rw [hB_eq m c t _ _ hb hi (y 3), funext fun e => funext fun f => lo_eq m c t _ _ hb hi e f, funext fun e => funext fun f => hi_eq m c t _ _ hb hi e f,
    funext fun l => co_eq m c t _ _ hb hi (y 3) l, funext fun l => down_eq m c t _ _ hb hi (y 3) l, funext fun l => up_eq m c t _ _ hb hi (y 3) l]
  rfl

theorem final11 (c : Dev nD) : (dats m 0 c).arrAt 11 cfg0.N
    = Even.resF (hRow (m ((c : Thread nD τ).loc main_arg0)) (m ((c : Thread nD τ).loc main_arg1)) (m ((c : Thread nD τ).loc main_arg4))) (m ((c : Thread nD τ).loc main_arg5)) 0 := by
  refine (dats m 0 c).arrAt_eq_of_covers 11 _ (by decide +kernel) fun t _ y => ?_
  blk_simp
  have ht : t.val < 32 := lt_of_lt_of_eq t.isLt N_0
  rw [after0_11, out11, emb11 t y]
  have hb : (⟨t.val / 4, by omega⟩ : Fin 8).val = t.val / 4 := rfl
  have hi : (⟨t.val % 4, by omega⟩ : Fin 4).val = t.val % 4 := rfl
  unfold Even.outF
  rw [hB_eq m c t _ _ hb hi (y 1)]
  exact logits_eq m c t _ _ hb hi _ (y 2)

end Cert.First
-- ==== Proof.FirstJoin.lean ====
module

public import proofs.«01_k».proof.Proof.Gen.FirstReferenceIdeal.Run
public import proofs.«01_k».proof.Proof.FirstArray
public import proofs.«01_k».proof.Proof.EvenJoin

@[expose] public section

set_option maxRecDepth 16384

noncomputable section

namespace Cert.FirstRef

open Cert.FirstReferenceIdeal Cert.FirstReferenceIdeal.Gen Idealize.ShloMosaic Idealize.ShloMosaic.TcCoe Idealize.SL.Sem Idealize.ShloMosaic.StableHlo Cert.ProjRef

/-- The first row of the layers' weights. -/
def weight0 (w : FVec Ideal S4x1024 .f32) : FVec Ideal S1024 .f32 := shapeCast _ (extractStridedSlice S1x1024 ![0, 0] w slices_S4x1024_S1x1024_0_0) shapeCasts_S1x1024_S1024

/-- The first layer's scale and shift for every batch. -/
def scale (md : FVec Ideal S4x3x8x1024 .f32) : FVec Ideal S8x1x1024 .f32 := broadcastInDim S8x1x1024 ![0, 2] bcast_S8x1024_S8x1x1024_0_2 (shapeCast _ (extractStridedSlice S1x1x8x1024 ![0, 1, 0, 0] md slices_S4x3x8x1024_S1x1x8x1024_0_1_0_0) shapeCasts_S1x1x8x1024_S8x1024)
def shift (md : FVec Ideal S4x3x8x1024 .f32) : FVec Ideal S8x1x1024 .f32 := broadcastInDim S8x1x1024 ![0, 2] bcast_S8x1024_S8x1x1024_0_2 (shapeCast _ (extractStridedSlice S1x1x8x1024 ![0, 0, 0, 0] md slices_S4x3x8x1024_S1x1x8x1024_0_0_0_0) shapeCasts_S1x1x8x1024_S8x1024)

/-- The input projection. -/
def into (h : FVec Ideal S8x2048x1024 .f32) (w : FVec Ideal S2x1024x4104 .f32) : FVec Ideal S8x2048x4104 .f32 :=
  Host.dotGeneral dot_S8x2048x1024_S1024x4104_S8x2048x4104_2_0_01_1_n_n none h (shapeCast _ (extractStridedSlice S1x1024x4104 ![0, 0, 0] w slices_S2x1024x4104_S1x1024x4104_0_0_0) shapeCasts_S1x1024x4104_S1024x4104)

theorem weight0_at (w : FVec Ideal S4x1024 .f32) (d : Fin 1024) : weight0 w (ix1 d) = w (ix2 0 d) := by
  pointwise [weight0]
theorem scale_at (md : FVec Ideal S4x3x8x1024 .f32) (b : Fin 8) (d : Fin 1024) : scale md (ix3 b 0 d) = md (ix4 0 1 b d) := by
  pointwise [scale]
theorem shift_at (md : FVec Ideal S4x3x8x1024 .f32) (b : Fin 8) (d : Fin 1024) : shift md (ix3 b 0 d) = md (ix4 0 0 b d) := by
  pointwise [shift]
theorem into_at (h : FVec Ideal S8x2048x1024 .f32) (w : FVec Ideal S2x1024x4104 .f32) (b : Fin 8) (n : Fin 2048) (d : Fin 4104) :
    into h w (ix3 b n d) = ∑ e : Fin 1024, h (ix3 b n e) * w (ix3 0 e d) := by
  pointwise [into]

section
variable (x : FVec Ideal S8x2048x1024 .f32) (md : FVec Ideal S4x3x8x1024 .f32) (pre : FVec Ideal S4x1024 .f32) (wi : FVec Ideal S2x1024x4104 .f32)

/-- The reference's projections of the arguments. -/
def refZ : FVec Ideal S8x2048x4104 .f32 := into (modulated x (scale md) (shift md) (weight0 pre)) wi

theorem refZ_at (b : Fin 8) (n : Fin 2048) (d : Fin 4104) : refZ x md pre wi (ix3 b n d) = ∑ e : Fin 1024, First.hRow x md pre b n e * wi (ix3 0 e d) := by
  unfold refZ
  rw [into_at]
  refine Finset.sum_congr rfl fun e _ => congrArg (· * wi (ix3 0 e d)) ?_
  unfold First.hRow Proj.mdl
  rw [modulated_at, scale_at, shift_at]
  refine congrArg (· * (Ideal.ofBits .f32 0x3F800000#32 + md (ix4 0 1 b e)) + md (ix4 0 0 b e)) ?_
  exact congrArg (Proj.nrm _ · e) (funext fun f => weight0_at pre f)
end

section
variable (m : (ℓ : Loc nD τ sig) → Buf (Elt Ideal) ℓ) (c : Dev nD)

theorem res0 : Value.res_main_v91 (F := Ideal) m c = EvenRef.refP (m ((c.tc : Thread nD τ).loc main_arg2)) (m ((c.tc : Thread nD τ).loc main_arg3)) (refZ (m ((c.tc : Thread nD τ).loc main_arg0)) (m ((c.tc : Thread nD τ).loc main_arg1)) (m ((c.tc : Thread nD τ).loc main_arg4)) (m ((c.tc : Thread nD τ).loc main_arg5))) := rfl
end

end Cert.FirstRef
-- ==== Proof.FoxSteps.lean ====
module

public import proofs.«01_k».proof.Proof.Gen.FoxIdeal.Frame
public import proofs.«01_k».proof.Proof.Stores

@[expose] public section

set_option maxRecDepth 16384

noncomputable section

namespace Cert.Fox

open Cert.FoxIdeal Cert.FoxIdeal.Gen Cert.Diff Idealize.ShloMosaic Idealize.ShloMosaic.TcCoe

/-- Row `n` of the added lanes (0 for keys, 1 for queries) at lane `l`. -/
def ag (A : Vec Ideal S1x2x2048x128 .bf16) (k : Fin 2) (n : ℕ) (l : Fin 128) : EReal :=
  if h : n < 2048 then A (ix4 0 k ⟨n, h⟩ l) else 0

/-- The added lanes of a query with all but one head's cleared. -/
def az (A : Vec Ideal S1x2x2048x128 .bf16) (h n : ℕ) (l : Fin 128) : EReal :=
  if l.val % 8 = h ∧ l.val < 48 then ag A 1 n l else 0

/-- The head a pair's half holds. -/
def hdOf (u : ℕ) (b : Bool) : ℕ := 2 * u + if b then 0 else 1

/-- The score of key `j` for query `i`, with what the added lanes give. -/
def fs (X : Vec Ideal S1x1x4x2048x128 .bf16) (A : Vec Ideal S1x2x2048x128 .bf16) (u : ℕ) (b : Bool) (i j : ℕ) : EReal :=
  sc X b i j + ∑ l : Fin 128, ag A 0 j l * az A (hdOf u b) i l

/-- Query rows beside their added lanes. -/
def lhV (X : Vec Ideal S1x1x4x2048x128 .bf16) (A : Vec Ideal S1x2x2048x128 .bf16) (u : ℕ) (b : Bool) (i0 : ℕ) : FVec Ideal S512x256 .bf16 :=
  fun y => if h : (y 1).val < 128 then qz X b (i0 + (y 0).val) ⟨(y 1).val, h⟩
    else az A (hdOf u b) (i0 + (y 0).val) ⟨(y 1).val - 128, by have : (y 1).val < 256 := (y 1).isLt; omega⟩

/-- Rows of the added lanes. -/
def agV (R : ℕ) (A : Vec Ideal S1x2x2048x128 .bf16) (k : Fin 2) (n : ℕ) : FVec Ideal ⟨4, ![1, 1, R, 128]⟩ .bf16 :=
  fun y => ag A k (n + (y 2).val) (y 3)

theorem score_scale : Named.named (F := Ideal) κ "score_scale" (φ := .f32) 1043900987#32 = (((1 / 8) * (Real.log 2)⁻¹ : ℝ) : EReal) :=
  IdealRules.named_const.ideal_named_scalar _ _ _ _ rfl

theorem mask : Named.named (F := Ideal) κ "mask" (φ := .f32) 4048155338#32 = ⊥ :=
  IdealRules.named_const.ideal_named_scalar _ _ _ _ rfl

/-- Whether a lane belongs to a head, as the kernel computes it in words. -/
def ofHead (l h : BitVec 32) : BitVec 1 :=
  IntOp.andi
    (IntOp.cmpi .eq
      (Scalar.select
        (IntOp.andi
          (IntOp.xori
            (IntOp.cmpi .slt (IntOp.remsi .vector l (Scalar.select (Scalar.cmpi .eq 8#32 0#32) 1#32 8#32)) 0#32)
            (Scalar.cmpi .slt (Scalar.select (Scalar.cmpi .eq 8#32 0#32) 1#32 8#32) 0#32))
          (IntOp.cmpi .ne (IntOp.remsi .vector l (Scalar.select (Scalar.cmpi .eq 8#32 0#32) 1#32 8#32)) 0#32))
        (IntOp.addi (IntOp.remsi .vector l (Scalar.select (Scalar.cmpi .eq 8#32 0#32) 1#32 8#32)) (Scalar.select (Scalar.cmpi .eq 8#32 0#32) 1#32 8#32))
        (IntOp.remsi .vector l (Scalar.select (Scalar.cmpi .eq 8#32 0#32) 1#32 8#32)))
      h)
    (IntOp.cmpi .slt l 48#32)

theorem ofHead_eq : ∀ (l : Fin 128) (u : Fin 4) (b : Bool),
    ofHead (BitVec.ofNat 32 l.val) (Scalar.addi (Scalar.muli (2#32) (BitVec.ofNat 32 u.val)) (if b then 0#32 else 1#32))
      = BitVec.ofBool (decide (l.val % 8 = hdOf u.val b ∧ l.val < 48)) := by
  decide +kernel

theorem select_ofHead (l : Fin 128) (u : ℕ) (hu : u < 4) (b : Bool) (x y : EReal) :
    Scalar.select (ofHead (BitVec.ofNat 32 l.val) (Scalar.addi (Scalar.muli (2#32) (BitVec.ofNat 32 u)) (if b then 0#32 else 1#32))) x y
      = if l.val % 8 = hdOf u b ∧ l.val < 48 then x else y := by
  rw [ofHead_eq l ⟨u, hu⟩ b]
  by_cases h : l.val % 8 = hdOf u b ∧ l.val < 48
  · rw [if_pos h, decide_eq_true h]; rfl
  · rw [if_neg h, decide_eq_false h]; rfl

variable (X : Vec Ideal S1x1x4x2048x128 .bf16) (A : Vec Ideal S1x2x2048x128 .bf16) (u : ℕ)

theorem lhLow (hu : u < 4) (i0 : ℕ) : k0_pay20 (F := Ideal) (BitVec.ofNat 32 u) (iota Kind.tc S1x128 32 [1] iota_S1x128_d1_w32) k0_pay3 (k0_pay15 (eV 512 X 0 i0)) k0_pay16 (agV 512 A 1 i0)
    = lhV X A u true i0 := by
  funext y; idx_vars y
  pointwise [k0_pay20, k0_pay17, k0_pay15, k0_pay16, k0_pay19, k0_pay3, eV, agV, lhV]
  by_cases h : y1.val < 128
  · rw [dif_pos h, dif_pos h, select_lt64 _ h, score_scale, qz]
    by_cases h' : y1.val < 64 <;> simp [h']
  · rw [dif_neg h, dif_neg h]
    exact select_ofHead ⟨y1.val - 128, by omega⟩ u hu true _ _

theorem lhHigh (hu : u < 4) (i0 : ℕ) : k0_pay21 (F := Ideal) (BitVec.ofNat 32 u) (iota Kind.tc S1x128 32 [1] iota_S1x128_d1_w32) (k0_pay18 k0_pay3 (k0_pay15 (eV 512 X 0 i0)) k0_pay16) (k0_pay19 (agV 512 A 1 i0)) 2#32
    = lhV X A u false i0 := by
  funext y; idx_vars y
  pointwise [k0_pay21, k0_pay18, k0_pay17, k0_pay15, k0_pay16, k0_pay19, k0_pay3, eV, agV, lhV]
  by_cases h : y1.val < 128
  · rw [dif_pos h, dif_pos h, select_lt64 _ h, score_scale, qz]
    by_cases h' : y1.val < 64 <;> simp [h']
  · rw [dif_neg h, dif_neg h]
    exact select_ofHead ⟨y1.val - 128, by omega⟩ u hu false _ _

theorem scoreOff (b : Bool) (i0 j0 : ℕ) (h : j0 + 512 ≤ i0) :
    k0_pay198 (F := Ideal) (lhV X A u b i0) (eV 512 X 1 j0) (agV 512 A 0 j0) = tB 512 512 (fs X A u b) i0 j0 := by
  funext y; idx_vars y
  pointwise [k0_pay198, eV, lhV, agV, tB, sm]
  rw [mk, if_pos (by omega), add_zero, fs, sc]

theorem scoreTop (b : Bool) (i0 : ℕ) :
    k0_pay22 (F := Ideal) (lhV X A u b i0) (eV 256 X 1 i0) (agV 256 A 0 i0) (mkV 256 512 0 0) = tB 256 512 (fs X A u b) i0 i0 := by
  funext y; idx_vars y
  pointwise [k0_pay22, eV, lhV, agV, tB, sm, mkV]
  rw [mk_add, fs, sc]

theorem scoreBot (b : Bool) (i0 : ℕ) :
    k0_pay23 (F := Ideal) (lhV X A u b i0) (eV 256 X 1 (i0 + 256)) (agV 256 A 0 (i0 + 256)) (mkV 256 256 256 256)
      = tB 256 256 (fs X A u b) (i0 + 256) (i0 + 256) := by
  funext y; idx_vars y
  pointwise [k0_pay23, eV, lhV, agV, tB, sm, mkV]
  simp only [mk_add, Nat.add_assoc, fs, sc]

theorem table : k0_pay2 (F := Ideal) = mkV 512 512 0 0 := by
  funext y; idx_vars y
  pointwise [k0_pay2, mkV, mk]
  rw [select_causal _ _ y2.isLt y1.isLt, mask]

/-- A block of the mask stored whole. -/
theorem readMask {κ' : Kind} {sp : Space} {sg : RefSig} (v : View sg κ' sp S1x512x512 .f32) (L : List (View.Piece (Elt Ideal) S1x512x512 .f32))
    (R C a b : ℕ) (iW iH) :
    v.readCov (⟨Rect.unit (s := S1x512x512) ![0, 0, 0] S1x512x512.size iW, k0_pay2 (F := Ideal)⟩ :: L)
      (Rect.unit (s := S1x512x512) ![0, a, b] ![1, R, C] iH).toLoadRect = mkV R C a b := by
  refine (View.readCov_fill v iW _ L _ (by decide)).trans ?_
  rw [table]
  funext y
  exact congrArg₂ mk (by simp) (by simp)

/-- A block of the mask carried from the point before. -/
theorem readMask' (M : Memref sig .tc .vmem S1x512x512 .f32) (hM : M.IsWhole) (R C a b : ℕ) (iH) :
    View.readAt (Elt Ideal) M.view (Rect.unit (s := S1x512x512) ![0, a, b] ![1, R, C] iH).toLoadRect (hM.unread (mkV 512 512 0 0)) = mkV R C a b := by
  rw [View.readAt_eq_ld, hM.read_unread]
  funext y
  exact congrArg₂ mk (by simp) (by simp)

/-- Rows of one operand's block. -/
theorem readRows (M : Memref sig .tc .vmem S1x1x4x2048x128 .bf16) (hM : M.IsWhole) (R n : ℕ) (kd : Fin 4) (iH) :
    View.readAt (Elt Ideal) M.view (Rect.unit (s := S1x1x4x2048x128) ![0, 0, kd.val, n, 0] ![1, 1, 1, R, 128] iH).toLoadRect (hM.unread X) = eV R X kd n := by
  rw [View.readAt_eq_ld, hM.read_unread]
  funext y
  have h3 : n + R ≤ 2048 := iH 3
  have hy : (y 3).val < R := (y 3).isLt
  refine ((dif_pos (show n + (y 3).val < 2048 by omega)).trans (congrArg X (funext fun a => Fin.ext ?_))).symm
  fin_cases a
  · simp
  · simp
  · simp
  · simp
  · simp

/-- Rows of the added lanes' block. -/
theorem readAug (M : Memref sig .tc .vmem S1x2x2048x128 .bf16) (hM : M.IsWhole) (R n : ℕ) (k : Fin 2) (iH) :
    View.readAt (Elt Ideal) M.view (Rect.unit (s := S1x2x2048x128) ![0, k.val, n, 0] ![1, 1, R, 128] iH).toLoadRect (hM.unread A) = agV R A k n := by
  rw [View.readAt_eq_ld, hM.read_unread]
  funext y
  have h2 : n + R ≤ 2048 := iH 2
  have hy : (y 2).val < R := (y 2).isLt
  refine ((dif_pos (show n + (y 2).val < 2048 by omega)).trans (congrArg A (funext fun a => Fin.ext ?_))).symm
  fin_cases a
  · simp
  · simp
  · simp
  · simp

/-- The unit a grid point treats, as the kernel computes it in words. -/
def unitW (i : grid0.Coords) : BitVec 32 := Scalar.addi (Scalar.addi (Scalar.muli (BitVec.ofNat 32 (i 1).val) 1#32) 0#32) 0#32

theorem unitW_eq (i : grid0.Coords) : unitW i = BitVec.ofNat 32 (i 1).val := by
  simp [unitW, Scalar.addi, Scalar.muli, IntOp.addi, IntOp.muli]

variable (i : grid0.Coords)

theorem lhT (n : ℕ) (q : FVec Ideal S1x1x1x512x128 .bf16) (g : FVec Ideal S1x1x512x128 .bf16) (hq : q = eV 512 X 0 n) (hg : g = agV 512 A 1 n) :
    k0_pay20 (F := Ideal) (unitW i) (iota Kind.tc S1x128 32 [1] iota_S1x128_d1_w32) k0_pay3 (k0_pay15 q) k0_pay16 g = lhV X A (i 1).val true n := by
  subst hq hg
  rw [unitW_eq]
  exact lhLow X A _ (i 1).isLt n

theorem lhF (n : ℕ) (q : FVec Ideal S1x1x1x512x128 .bf16) (g : FVec Ideal S1x1x512x128 .bf16) (hq : q = eV 512 X 0 n) (hg : g = agV 512 A 1 n) :
    k0_pay21 (F := Ideal) (unitW i) (iota Kind.tc S1x128 32 [1] iota_S1x128_d1_w32) (k0_pay18 k0_pay3 (k0_pay15 q) k0_pay16) (k0_pay19 g) 2#32 = lhV X A (i 1).val false n := by
  subst hq hg
  rw [unitW_eq]
  exact lhHigh X A _ (i 1).isLt n

section
variable (b : Bool) (Q : ℕ) (lh : FVec Ideal S512x256 .bf16) (hl : lh = lhV X A u b (512 * Q))

include hl in
theorem stOff (K : ℕ) (h : K < Q) (k : FVec Ideal S1x1x1x512x128 .bf16) (a : FVec Ideal S1x1x512x128 .bf16) (hk : k = eV 512 X 1 (512 * K)) (ha : a = agV 512 A 0 (512 * K)) :
    shapeCast S512x512 (k0_pay198 (F := Ideal) lh k a) shapeCasts_S512x512_S512x512 = tB 512 512 (fs X A u b) (512 * Q) (512 * K) := by
  subst hl hk ha
  rw [scoreOff X A _ _ _ _ (by omega)]
  exact tB_same _ _ _ _ _ _

include hl in
theorem stTop (k : FVec Ideal S1x1x1x256x128 .bf16) (a : FVec Ideal S1x1x256x128 .bf16) (mt : FVec Ideal S1x256x512 .f32)
    (hk : k = eV 256 X 1 (512 * Q)) (ha : a = agV 256 A 0 (512 * Q)) (hm : mt = mkV 256 512 0 0) :
    shapeCast S256x512 (k0_pay22 (F := Ideal) lh k a mt) shapeCasts_S256x512_S256x512 = tB 256 512 (fs X A u b) (512 * Q) (512 * Q) := by
  subst hl hk ha hm
  rw [scoreTop]
  exact tB_same _ _ _ _ _ _

include hl in
theorem stBot (k : FVec Ideal S1x1x1x256x128 .bf16) (a : FVec Ideal S1x1x256x128 .bf16) (mb : FVec Ideal S1x256x256 .f32)
    (hk : k = eV 256 X 1 (512 * Q + 256)) (ha : a = agV 256 A 0 (512 * Q + 256)) (hm : mb = mkV 256 256 256 256) :
    shapeCast S256x256 (k0_pay23 (F := Ideal) lh k a mb) shapeCasts_S256x256_S256x256 = tB 256 256 (fs X A u b) (512 * Q + 256) (512 * Q + 256) := by
  subst hl hk ha hm
  rw [scoreBot]
  exact tB_same _ _ _ _ _ _

include hl in
theorem cOff (K : ℕ) (h : K < Q) (k : FVec Ideal S1x1x1x512x128 .bf16) (a : FVec Ideal S1x1x512x128 .bf16) (hk : k = eV 512 X 1 (512 * K)) (ha : a = agV 512 A 0 (512 * K)) :
    Cert.KernelIdeal.Gen.k0_pay215 (F := Ideal) (k0_pay198 lh k a) = cV (fs X A u b) Q K := by
  subst hl hk ha
  rw [scoreOff X A _ _ _ _ (by omega)]
  exact cmOff _ _ _ h

include hl in
theorem cDiag (k k' : FVec Ideal S1x1x1x256x128 .bf16) (a a' : FVec Ideal S1x1x256x128 .bf16) (mt : FVec Ideal S1x256x512 .f32) (mb : FVec Ideal S1x256x256 .f32)
    (hk : k = eV 256 X 1 (512 * Q)) (ha : a = agV 256 A 0 (512 * Q)) (hk' : k' = eV 256 X 1 (512 * Q + 256)) (ha' : a' = agV 256 A 0 (512 * Q + 256))
    (hm : mt = mkV 256 512 0 0) (hb : mb = mkV 256 256 256 256) :
    k0_pay26 (F := Ideal) lh (k0_pay22 lh k a mt) k' a' mb = cV (fs X A u b) Q Q := by
  subst hl hk hk' ha ha' hm hb
  refine Eq.trans ?_ (cmDiagOf _ Q)
  rw [← scoreTop, ← scoreBot]
  rfl
end

theorem mInit (S : ℕ → ℕ → EReal) (q : ℕ) : k0_pay34 (F := Ideal) = mV S q 0 := by
  funext y; idx_vars y
  pointwise [k0_pay34, mV, mS]
  exact mask

end Cert.Fox
-- ==== Proof.FoxFinish.lean ====
module

public import proofs.«01_k».proof.Proof.FoxSteps
public import proofs.«01_k».proof.Proof.Finish

@[expose] public section

set_option maxRecDepth 16384

noncomputable section

namespace Cert.Fox

open Cert.FoxIdeal Cert.FoxIdeal.Gen Cert.Diff Idealize.ShloMosaic Idealize.ShloMosaic.TcCoe

variable (X : Vec Ideal S1x1x4x2048x128 .bf16) (A : Vec Ideal S1x2x2048x128 .bf16) (u : ℕ)

/-- One entry of a query tile's result: the lane's head, gated. -/
def outS (q c : ℕ) (d : Fin 128) : EReal :=
  (if d.val < 64 then hd X (fs X A u true) q c d else hd X (fs X A u false) q c d)
    * (ent X 3 (512 * q + c) d * FloatOps.logistic (F := Ideal) (φ := .f32) (ent X 3 (512 * q + c) d))

def outT (q : ℕ) : FVec Ideal S1x1x512x128 .bf16 := fun y => outS X A u q (y 2).val (y 3)

/-- One entry of the result by the row it lies in. -/
def outN (n : ℕ) (d : Fin 128) : EReal := outS X A u (n / 512) (n % 512) d

/-- The result block. -/
def outV : FVec Ideal S1x1x2048x128 .bf16 := fun y => outN X A u (y 2).val (y 3)

theorem finEq (q : ℕ) (a1 a2 : FVec Ideal S144x512 .f32) (g : FVec Ideal S1x1x1x512x128 .bf16)
    (h1 : a1 = aV 512 0 X (fs X A u true) q (q + 1)) (h2 : a2 = aV 512 0 X (fs X A u false) q (q + 1)) (hg : g = eV 512 X 3 (512 * q)) :
    k0_pay67 (F := Ideal) k0_pay3 a1 a2 g = outT X A u q := by
  subst h1 h2 hg
  funext y; idx_vars y
  pointwise [k0_pay67, k0_pay3, aV, eV, outT, outS, hd]
  rw [select_lt64 _ y3.isLt]

theorem canonOut (w0 w1 w2 w3 : FVec Ideal S1x1x512x128 .bf16) (h0 : w0 = outT X A u 0) (h1 : w1 = outT X A u 1)
    (h2 : w2 = outT X A u 2) (h3 : w3 = outT X A u 3) (i0 i1 i2 i3) :
    View.canon (Val := Elt Ideal) (s := S1x1x2048x128) (e := .bf16)
      [⟨Rect.unit ![0, 0, 1536, 0] S1x1x512x128.size i3, w3⟩, ⟨Rect.unit ![0, 0, 1024, 0] S1x1x512x128.size i2, w2⟩,
       ⟨Rect.unit ![0, 0, 512, 0] S1x1x512x128.size i1, w1⟩, ⟨Rect.unit ![0, 0, 0, 0] S1x1x512x128.size i0, w0⟩] = outV X A u :=
  canonRows (outN X A u) w0 w1 w2 w3 (h0.trans (rows_of_tile (outS X A u) 0)) (h1.trans (rows_of_tile (outS X A u) 1))
    (h2.trans (rows_of_tile (outS X A u) 2)) (h3.trans (rows_of_tile (outS X A u) 3)) i0 i1 i2 i3

end Cert.Fox
-- ==== Proof.FoxChainA.lean ====
module

public import proofs.«01_k».proof.Proof.FoxSteps

@[expose] public section

set_option maxRecDepth 16384

noncomputable section

namespace Cert.Fox.CaseA

open Cert.FoxIdeal Cert.FoxIdeal.Gen Cert.Diff Idealize.ShloMosaic Idealize.ShloMosaic.TcCoe

variable {X : Vec Ideal S1x1x4x2048x128 .bf16} {A : Vec Ideal S1x2x2048x128 .bf16} {c : Dev nD} {i : grid0.Coords}
  {arg2 : Memref sig .tc .vmem S1x1x4x2048x128 .bf16} {harg2 : arg2.IsWhole}
  {arg3 : Memref sig .tc .vmem S1x2x2048x128 .bf16} {harg3 : arg3.IsWhole}
  {arg5 : Memref sig .tc .vmem S4x144x512 .bf16}
  {arg6 : Memref sig .tc .vmem S512x512 .f32}
  {arg7 : Memref sig .tc .vmem S512x512 .f32}
  {arg8 : Memref sig .tc .vmem S512x512 .f32}
  {arg9 : Memref sig .tc .vmem S512x512 .f32}
  {arg10 : Memref sig .tc .vmem S2x2x1x512 .f32}
  {arg11 : Memref sig .tc .vmem S1x512 .f32}
  {arg12 : Memref sig .tc .vmem S144x512 .f32}
  {arg13 : Memref sig .tc .vmem S1x512 .f32}
  {arg14 : Memref sig .tc .vmem S144x512 .f32}
  {arg15 : Memref sig .tc .vmem S1x512x512 .f32} {harg15 : arg15.IsWhole}

theorem vtFull : View.canon (kernelRun0_A.sl.HS0_8 c arg2 harg2 X) = vtAll X :=
  canonVt X _ (readRows X _ _ 2048 0 2 _) _ _ _ _ _ _ _ _

theorem st_m_true_0_0 : k0_pay34 = mV (fs X A (i 1).val true) 0 0 :=
  mInit _ 0

theorem ld_v344 : kernelRun0_A.sl.v344 (F := Ideal) c arg11 = mV (fs X A (i 1).val true) 0 0 :=
  readHit.trans st_m_true_0_0

theorem st_c_true_0_0 : kernelRun0_A.sl.v177 c i arg2 harg2 arg3 harg3 arg15 X A = cV (fs X A (i 1).val true) 0 0 :=
  cDiag X A _ true 0 _ (lhT X A i 0 _ _ (readRows X _ _ 512 0 0 _) (readAug A _ _ 512 0 1 _)) _ _ _ _ _ _ (readRows X _ _ 256 0 1 _) (readAug A _ _ 256 0 0 _) (readRows X _ _ 256 256 1 _) (readAug A _ _ 256 256 0 _) (readMask _ _ 256 512 0 0 _ _) (readMask _ _ 256 256 256 256 _ _)

theorem ld_v345 : kernelRun0_A.sl.v345 c i arg2 harg2 arg3 harg3 arg10 arg15 X A = cV (fs X A (i 1).val true) 0 0 := by
  refine (readSkip (by decide)).trans ?_
  refine (readSkip (by decide)).trans ?_
  refine (readSkip (by decide)).trans ?_
  exact readHit.trans st_c_true_0_0

theorem st_top_true_0 : kernelRun0_A.sl.v161 c i arg2 harg2 arg3 harg3 arg15 X A = tB 256 512 (fs X A (i 1).val true) (512 * 0) (512 * 0) :=
  stTop X A _ true 0 _ (lhT X A i 0 _ _ (readRows X _ _ 512 0 0 _) (readAug A _ _ 512 0 1 _)) _ _ _ (readRows X _ _ 256 0 1 _) (readAug A _ _ 256 0 0 _) (readMask _ _ 256 512 0 0 _ _)

theorem ld_v351 : kernelRun0_A.sl.v351 c i arg2 harg2 arg3 harg3 arg6 arg15 X A = tB 256 512 (fs X A (i 1).val true) (512 * 0) (512 * 0) := by
  refine Eq.trans (readOff (off' := ![0, 0]) _ _ (placed_k0_off1 i) _ (by decide)) ?_
  refine (readSkip (by decide)).trans ?_
  exact readHit.trans st_top_true_0

theorem ld_v364 : kernelRun0_A.sl.v364 c arg2 harg2 arg5 X = vtV 256 (512 * 0 + 0) X :=
  readVt X _ _ (vtFull (X := X)) 256 0 0 _

theorem st_a_true_0_0 : k0_pay35 = aV 512 0 X (fs X A (i 1).val true) 0 0 :=
  aInit X _ 0

theorem ld_v371 : kernelRun0_A.sl.v371 (F := Ideal) c arg12 = aV 256 0 X (fs X A (i 1).val true) 0 0 :=
  readHalf X _ _ _ 0 0 0 _ _ _ st_a_true_0_0

theorem st_aL_true_0_1 : kernelRun0_A.sl.v378 c i arg2 harg2 arg3 harg3 arg5 arg6 arg10 arg11 arg12 arg15 X A = aV 256 0 X (fs X A (i 1).val true) 0 1 :=
  aLeftSt X _ 0 _ _ _ _ _ ld_v344 ld_v345 ld_v351 ld_v364 ld_v371

theorem st_bot_true_0 : kernelRun0_A.sl.v166 c i arg2 harg2 arg3 harg3 arg15 X A = tB 256 256 (fs X A (i 1).val true) (512 * 0 + 256) (512 * 0 + 256) :=
  stBot X A _ true 0 _ (lhT X A i 0 _ _ (readRows X _ _ 512 0 0 _) (readAug A _ _ 512 0 1 _)) _ _ _ (readRows X _ _ 256 256 1 _) (readAug A _ _ 256 256 0 _) (readMask _ _ 256 256 256 256 _ _)

theorem ld_v358 : kernelRun0_A.sl.v358 c i arg2 harg2 arg3 harg3 arg6 arg15 X A = tB 256 256 (fs X A (i 1).val true) (512 * 0 + 256) (512 * 0 + 256) := by
  refine Eq.trans (readOff (off' := ![256, 256]) _ _ (placed_k0_off2 i) _ (by decide)) ?_
  exact readHit.trans st_bot_true_0

theorem ld_v367 : kernelRun0_A.sl.v367 c arg2 harg2 arg5 X = vtV 256 (512 * 0 + 256) X :=
  readVt X _ _ (vtFull (X := X)) 256 0 256 _

theorem ld_v380 : kernelRun0_A.sl.v380 c i arg2 harg2 arg3 harg3 arg5 arg6 arg10 arg11 arg12 arg15 X A = aV 256 256 X (fs X A (i 1).val true) 0 0 := by
  refine (readSkip (by decide)).trans ?_
  exact readHalf X _ _ _ 0 0 256 _ _ _ st_a_true_0_0

theorem st_aR_true_0_1 : kernelRun0_A.sl.v388 c i arg2 harg2 arg3 harg3 arg5 arg6 arg10 arg11 arg12 arg15 X A = aV 256 256 X (fs X A (i 1).val true) 0 1 :=
  aRightSt X _ 0 _ _ _ _ _ _ _ ld_v344 ld_v345 ld_v351 ld_v364 ld_v358 ld_v367 ld_v380

theorem ld_v440 : kernelRun0_A.sl.v440 c i arg2 harg2 arg3 harg3 arg5 arg6 arg10 arg11 arg12 arg15 X A = aV 512 0 X (fs X A (i 1).val true) 0 1 :=
  readHalves X _ _ _ 0 1 _ _ _ _ _ st_aL_true_0_1 st_aR_true_0_1

theorem st_m_false_0_0 : k0_pay36 = mV (fs X A (i 1).val false) 0 0 :=
  mInit _ 0

theorem ld_v392 : kernelRun0_A.sl.v392 (F := Ideal) c arg13 = mV (fs X A (i 1).val false) 0 0 :=
  readHit.trans st_m_false_0_0

theorem st_c_false_0_0 : k0_pay33 (kernelRun0_A.sl.v209 c i arg2 harg2 arg3 harg3 arg15 X A) (kernelRun0_A.sl.v211 c i arg2 harg2 arg3 harg3 arg15 X A) = cV (fs X A (i 1).val false) 0 0 :=
  cDiag X A _ false 0 _ (lhF X A i 0 _ _ (readRows X _ _ 512 0 0 _) (readAug A _ _ 512 0 1 _)) _ _ _ _ _ _ (readRows X _ _ 256 0 1 _) (readAug A _ _ 256 0 0 _) (readRows X _ _ 256 256 1 _) (readAug A _ _ 256 256 0 _) (readMask _ _ 256 512 0 0 _ _) (readMask _ _ 256 256 256 256 _ _)

theorem ld_v393 : kernelRun0_A.sl.v393 c i arg2 harg2 arg3 harg3 arg10 arg15 X A = cV (fs X A (i 1).val false) 0 0 := by
  refine (readSkip (by decide)).trans ?_
  refine (readSkip (by decide)).trans ?_
  exact readHit.trans st_c_false_0_0

theorem st_top_false_0 : kernelRun0_A.sl.v202 c i arg2 harg2 arg3 harg3 arg15 X A = tB 256 512 (fs X A (i 1).val false) (512 * 0) (512 * 0) :=
  stTop X A _ false 0 _ (lhF X A i 0 _ _ (readRows X _ _ 512 0 0 _) (readAug A _ _ 512 0 1 _)) _ _ _ (readRows X _ _ 256 0 1 _) (readAug A _ _ 256 0 0 _) (readMask _ _ 256 512 0 0 _ _)

theorem ld_v399 : kernelRun0_A.sl.v399 c i arg2 harg2 arg3 harg3 arg7 arg15 X A = tB 256 512 (fs X A (i 1).val false) (512 * 0) (512 * 0) := by
  refine Eq.trans (readOff (off' := ![0, 0]) _ _ (placed_k0_off1 i) _ (by decide)) ?_
  refine (readSkip (by decide)).trans ?_
  exact readHit.trans st_top_false_0

theorem st_a_false_0_0 : k0_pay37 = aV 512 0 X (fs X A (i 1).val false) 0 0 :=
  aInit X _ 0

theorem ld_v419 : kernelRun0_A.sl.v419 (F := Ideal) c arg14 = aV 256 0 X (fs X A (i 1).val false) 0 0 :=
  readHalf X _ _ _ 0 0 0 _ _ _ st_a_false_0_0

theorem st_aL_false_0_1 : kernelRun0_A.sl.v426 c i arg2 harg2 arg3 harg3 arg5 arg7 arg10 arg13 arg14 arg15 X A = aV 256 0 X (fs X A (i 1).val false) 0 1 :=
  aLeftSt X _ 0 _ _ _ _ _ ld_v392 ld_v393 ld_v399 ld_v364 ld_v419

theorem st_bot_false_0 : kernelRun0_A.sl.v207 c i arg2 harg2 arg3 harg3 arg15 X A = tB 256 256 (fs X A (i 1).val false) (512 * 0 + 256) (512 * 0 + 256) :=
  stBot X A _ false 0 _ (lhF X A i 0 _ _ (readRows X _ _ 512 0 0 _) (readAug A _ _ 512 0 1 _)) _ _ _ (readRows X _ _ 256 256 1 _) (readAug A _ _ 256 256 0 _) (readMask _ _ 256 256 256 256 _ _)

theorem ld_v406 : kernelRun0_A.sl.v406 c i arg2 harg2 arg3 harg3 arg7 arg15 X A = tB 256 256 (fs X A (i 1).val false) (512 * 0 + 256) (512 * 0 + 256) := by
  refine Eq.trans (readOff (off' := ![256, 256]) _ _ (placed_k0_off2 i) _ (by decide)) ?_
  exact readHit.trans st_bot_false_0

theorem ld_v428 : kernelRun0_A.sl.v428 c i arg2 harg2 arg3 harg3 arg5 arg7 arg10 arg13 arg14 arg15 X A = aV 256 256 X (fs X A (i 1).val false) 0 0 := by
  refine (readSkip (by decide)).trans ?_
  exact readHalf X _ _ _ 0 0 256 _ _ _ st_a_false_0_0

theorem st_aR_false_0_1 : k0_pay65 (kernelRun0_A.sl.v417 c i arg2 harg2 arg3 harg3 arg5 arg7 arg10 arg13 arg15 X A) (kernelRun0_A.sl.v430 c i arg2 harg2 arg3 harg3 arg5 arg7 arg10 arg13 arg14 arg15 X A) (kernelRun0_A.sl.v431 c i arg2 harg2 arg3 harg3 arg5 arg7 arg10 arg13 arg15 X A) = aV 256 256 X (fs X A (i 1).val false) 0 1 :=
  aRightSt X _ 0 _ _ _ _ _ _ _ ld_v392 ld_v393 ld_v399 ld_v364 ld_v406 ld_v367 ld_v428

theorem ld_v448 : kernelRun0_A.sl.v448 c i arg2 harg2 arg3 harg3 arg5 arg7 arg10 arg13 arg14 arg15 X A = aV 512 0 X (fs X A (i 1).val false) 0 1 :=
  readHalves X _ _ _ 0 1 _ _ _ _ _ st_aL_false_0_1 st_aR_false_0_1

theorem st_m_true_1_0 : k0_pay68 kernelRun0_A.sl.cst_261 (F := Ideal) = mV (fs X A (i 1).val true) 1 0 :=
  mInit _ 1

theorem ld_v569 : kernelRun0_A.sl.v569 c i arg2 harg2 arg3 harg3 arg10 arg11 arg15 X A = mV (fs X A (i 1).val true) 1 0 :=
  readHit.trans st_m_true_1_0

theorem st_c_true_1_0 : kernelRun0_A.sl.v327 c i arg2 harg2 arg3 harg3 X A = cV (fs X A (i 1).val true) 1 0 :=
  cOff X A _ true 1 _ (lhT X A i 512 _ _ (readRows X _ _ 512 512 0 _) (readAug A _ _ 512 512 1 _)) 0 (by decide) _ _ (readRows X _ _ 512 0 1 _) (readAug A _ _ 512 0 0 _)

theorem ld_v570 : kernelRun0_A.sl.v570 c i arg2 harg2 arg3 harg3 arg10 arg15 X A = cV (fs X A (i 1).val true) 1 0 := by
  refine (readSkip (by decide)).trans ?_
  refine (readSkip (by decide)).trans ?_
  refine (readSkip (by decide)).trans ?_
  exact readHit.trans st_c_true_1_0

theorem st_m_true_1_1 : kernelRun0_A.sl.v593 c i arg2 harg2 arg3 harg3 arg10 arg11 arg15 X A = mV (fs X A (i 1).val true) 1 1 :=
  mSt _ 1 0 _ _ ld_v569 ld_v570

theorem ld_v728 : kernelRun0_A.sl.v728 c i arg2 harg2 arg3 harg3 arg10 arg11 arg15 X A = mV (fs X A (i 1).val true) 1 1 :=
  readHit.trans st_m_true_1_1

theorem st_c_true_1_1 : kernelRun0_A.sl.v527 c i arg2 harg2 arg3 harg3 arg15 X A = cV (fs X A (i 1).val true) 1 1 :=
  by
  refine Eq.trans ?_ (cDiag X A _ true 1 _ (lhT X A i 512 _ _ (readRows X arg2 harg2 512 512 0 (by decide)) (readAug A arg3 harg3 512 512 1 (by decide))) _ _ _ _ _ _ (readRows X arg2 harg2 256 512 1 (by decide)) (readAug A arg3 harg3 256 512 0 (by decide)) (readRows X arg2 harg2 256 768 1 (by decide)) (readAug A arg3 harg3 256 768 0 (by decide)) (readMask arg15.view [] 256 512 0 0 (by decide) (by decide)) (readMask arg15.view [] 256 256 256 256 (by decide) (by decide)))
  dsimp only [unitW, k0_pay26, k0_pay31, k0_pay27, k0_pay32, k0_pay28, k0_pay30, k0_pay29, k0_pay23, k0_pay22, k0_pay25, k0_pay198, k0_pay16, k0_pay20, k0_pay19, k0_pay17, k0_pay18, k0_pay15, k0_pay21, kernelRun0_A.sl.v527, kernelRun0_A.sl.v524, kernelRun0_A.sl.v523, kernelRun0_A.sl.v520, kernelRun0_A.sl.v519, kernelRun0_A.sl.v507, kernelRun0_A.sl.v156, kernelRun0_A.sl.v155, kernelRun0_A.sl.v504, kernelRun0_A.sl.cst_77, kernelRun0_A.sl.v503, kernelRun0_A.sl.v282, kernelRun0_A.sl.v281, kernelRun0_A.sl.v280, kernelRun0_A.sl.v68, kernelRun0_A.sl.cst_35, kernelRun0_A.sl.v253, kernelRun0_A.sl.v252, kernelRun0_A.sl.v103, kernelRun0_A.sl.v102, kernelRun0_A.sl.v101, kernelRun0_A.sl.v99, kernelRun0_A.sl.v8, kernelRun0_A.sl.v98, kernelRun0_A.sl.v97, kernelRun0_A.sl.v80, kernelRun0_A.sl.v79, kernelRun0_A.sl.v7, kernelRun0_A.sl.v6, kernelRun0_A.sl.v5, kernelRun0_A.sl.v96, kernelRun0_A.sl.v83, kernelRun0_A.sl.v95, kernelRun0_A.sl.v86, kernelRun0_A.sl.v85, kernelRun0_A.sl.v92, kernelRun0_A.sl.v90, kernelRun0_A.sl.v88, kernelRun0_A.sl.v245, kernelRun0_A.sl.r_4, k0_pay3, k0_pay8, k0_pay4, k0_pay7, k0_pay5, k0_pay6, k0_pay39, k0_pay38, kernelRun0_A.sl.v502, kernelRun0_A.sl.v501, kernelRun0_A.sl.r_6, k0_pay73, k0_pay77, k0_pay74, k0_pay76, kernelRun0_A.sl.v522, kernelRun0_A.sl.v518, kernelRun0_A.sl.v517, kernelRun0_A.sl.r_5, kernelRun0_A.sl.v494, k0_pay72, kernelRun0_A.sl.v521]
  rfl

theorem ld_v729 : kernelRun0_A.sl.v729 c i arg2 harg2 arg3 harg3 arg10 arg15 X A = cV (fs X A (i 1).val true) 1 1 := by
  refine (readSkip (by decide)).trans ?_
  refine (readSkip (by decide)).trans ?_
  refine (readSkip (by decide)).trans ?_
  exact readHit.trans st_c_true_1_1

theorem st_top_true_1 : kernelRun0_A.sl.v511 c i arg2 harg2 arg3 harg3 arg15 X A = tB 256 512 (fs X A (i 1).val true) (512 * 1) (512 * 1) :=
  stTop X A _ true 1 _ (lhT X A i 512 _ _ (readRows X _ _ 512 512 0 _) (readAug A _ _ 512 512 1 _)) _ _ _ (readRows X _ _ 256 512 1 _) (readAug A _ _ 256 512 0 _) (readMask _ _ 256 512 0 0 _ _)

theorem ld_v735 : kernelRun0_A.sl.v735 c i arg2 harg2 arg3 harg3 arg6 arg15 X A = tB 256 512 (fs X A (i 1).val true) (512 * 1) (512 * 1) := by
  refine Eq.trans (readOff (off' := ![0, 0]) _ _ (placed_k0_off1 i) _ (by decide)) ?_
  refine (readSkip (by decide)).trans ?_
  exact readHit.trans st_top_true_1

theorem ld_v748 : kernelRun0_A.sl.v748 c arg2 harg2 arg5 X = vtV 256 (512 * 1 + 0) X :=
  readVt X _ _ (vtFull (X := X)) 256 1 0 _

theorem st_off_true_1_0 : kernelRun0_A.sl.v322 c i arg2 harg2 arg3 harg3 X A = tB 512 512 (fs X A (i 1).val true) (512 * 1) (512 * 0) :=
  stOff X A _ true 1 _ (lhT X A i 512 _ _ (readRows X _ _ 512 512 0 _) (readAug A _ _ 512 512 1 _)) 0 (by decide) _ _ (readRows X _ _ 512 0 1 _) (readAug A _ _ 512 0 0 _)

theorem ld_v576 : kernelRun0_A.sl.v576 c i arg2 harg2 arg3 harg3 arg8 X A = tB 512 512 (fs X A (i 1).val true) (512 * 1) (512 * 0) := by
  refine Eq.trans (readOff (off' := ![0, 0]) _ _ (placed_k0_off3 i) _ (by decide)) ?_
  exact readHit.trans st_off_true_1_0

theorem st_a_true_1_0 : k0_pay69 = aV 512 0 X (fs X A (i 1).val true) 1 0 :=
  aInit X _ 1

theorem ld_v581 : kernelRun0_A.sl.v581 c i arg2 harg2 arg3 harg3 arg5 arg6 arg10 arg11 arg12 arg15 X A = aV 512 0 X (fs X A (i 1).val true) 1 0 :=
  readHit.trans st_a_true_1_0

theorem ld_v584 : kernelRun0_A.sl.v584 c arg2 harg2 arg5 X = vtV 512 (512 * 0 + 0) X :=
  readVt X _ _ (vtFull (X := X)) 512 0 0 _

theorem st_a_true_1_1 : kernelRun0_A.sl.v590 c i arg2 harg2 arg3 harg3 arg5 arg6 arg8 arg10 arg11 arg12 arg15 X A = aV 512 0 X (fs X A (i 1).val true) 1 1 :=
  aOffSt X _ 1 0 (by decide) _ _ _ _ _ ld_v569 ld_v570 ld_v576 ld_v581 ld_v584

theorem ld_v755 : kernelRun0_A.sl.v755 c i arg2 harg2 arg3 harg3 arg5 arg6 arg8 arg10 arg11 arg12 arg15 X A = aV 256 0 X (fs X A (i 1).val true) 1 1 :=
  readHalf X _ _ _ 1 1 0 _ _ _ st_a_true_1_1

theorem st_aL_true_1_2 : kernelRun0_A.sl.v762 c i arg2 harg2 arg3 harg3 arg5 arg6 arg8 arg10 arg11 arg12 arg15 X A = aV 256 0 X (fs X A (i 1).val true) 1 2 :=
  aLeftSt X _ 1 _ _ _ _ _ ld_v728 ld_v729 ld_v735 ld_v748 ld_v755

theorem st_bot_true_1 : kernelRun0_A.sl.v516 c i arg2 harg2 arg3 harg3 arg15 X A = tB 256 256 (fs X A (i 1).val true) (512 * 1 + 256) (512 * 1 + 256) :=
  by
  refine Eq.trans ?_ (stBot X A _ true 1 _ (lhT X A i 512 _ _ (readRows X arg2 harg2 512 512 0 (by decide)) (readAug A arg3 harg3 512 512 1 (by decide))) _ _ _ (readRows X arg2 harg2 256 768 1 (by decide)) (readAug A arg3 harg3 256 768 0 (by decide)) (readMask arg15.view [] 256 256 256 256 (by decide) (by decide)))
  dsimp only [unitW, k0_pay26, k0_pay31, k0_pay27, k0_pay32, k0_pay28, k0_pay30, k0_pay29, k0_pay23, k0_pay22, k0_pay25, k0_pay198, k0_pay16, k0_pay20, k0_pay19, k0_pay17, k0_pay18, k0_pay15, k0_pay21, kernelRun0_A.sl.v516, kernelRun0_A.sl.v507, kernelRun0_A.sl.v156, kernelRun0_A.sl.v155, kernelRun0_A.sl.v504, kernelRun0_A.sl.cst_77, kernelRun0_A.sl.v503, kernelRun0_A.sl.v282, kernelRun0_A.sl.v281, kernelRun0_A.sl.v280, kernelRun0_A.sl.v68, kernelRun0_A.sl.cst_35, kernelRun0_A.sl.v253, kernelRun0_A.sl.v252, kernelRun0_A.sl.v103, kernelRun0_A.sl.v102, kernelRun0_A.sl.v101, kernelRun0_A.sl.v99, kernelRun0_A.sl.v8, kernelRun0_A.sl.v98, kernelRun0_A.sl.v97, kernelRun0_A.sl.v80, kernelRun0_A.sl.v79, kernelRun0_A.sl.v7, kernelRun0_A.sl.v6, kernelRun0_A.sl.v5, kernelRun0_A.sl.v96, kernelRun0_A.sl.v83, kernelRun0_A.sl.v95, kernelRun0_A.sl.v86, kernelRun0_A.sl.v85, kernelRun0_A.sl.v92, kernelRun0_A.sl.v90, kernelRun0_A.sl.v88, kernelRun0_A.sl.v245, kernelRun0_A.sl.r_4, k0_pay3, k0_pay8, k0_pay4, k0_pay7, k0_pay5, k0_pay6, k0_pay39, k0_pay38, kernelRun0_A.sl.v502, kernelRun0_A.sl.v501, kernelRun0_A.sl.r_6, k0_pay73, k0_pay77, k0_pay74, k0_pay76]
  rfl

theorem ld_v742 : kernelRun0_A.sl.v742 c i arg2 harg2 arg3 harg3 arg6 arg15 X A = tB 256 256 (fs X A (i 1).val true) (512 * 1 + 256) (512 * 1 + 256) := by
  refine Eq.trans (readOff (off' := ![256, 256]) _ _ (placed_k0_off2 i) _ (by decide)) ?_
  exact readHit.trans st_bot_true_1

theorem ld_v751 : kernelRun0_A.sl.v751 c arg2 harg2 arg5 X = vtV 256 (512 * 1 + 256) X :=
  readVt X _ _ (vtFull (X := X)) 256 1 256 _

theorem ld_v764 : kernelRun0_A.sl.v764 c i arg2 harg2 arg3 harg3 arg5 arg6 arg8 arg10 arg11 arg12 arg15 X A = aV 256 256 X (fs X A (i 1).val true) 1 1 := by
  refine (readSkip (by decide)).trans ?_
  exact readHalf X _ _ _ 1 1 256 _ _ _ st_a_true_1_1

theorem st_aR_true_1_2 : kernelRun0_A.sl.v772 c i arg2 harg2 arg3 harg3 arg5 arg6 arg8 arg10 arg11 arg12 arg15 X A = aV 256 256 X (fs X A (i 1).val true) 1 2 :=
  aRightSt X _ 1 _ _ _ _ _ _ _ ld_v728 ld_v729 ld_v735 ld_v748 ld_v742 ld_v751 ld_v764

theorem ld_v824 : kernelRun0_A.sl.v824 c i arg2 harg2 arg3 harg3 arg5 arg6 arg8 arg10 arg11 arg12 arg15 X A = aV 512 0 X (fs X A (i 1).val true) 1 2 :=
  readHalves X _ _ _ 1 2 _ _ _ _ _ st_aL_true_1_2 st_aR_true_1_2

theorem st_m_false_1_0 : k0_pay70 = mV (fs X A (i 1).val false) 1 0 :=
  mInit _ 1

theorem ld_v594 : kernelRun0_A.sl.v594 c i arg2 harg2 arg3 harg3 arg10 arg13 arg15 X A = mV (fs X A (i 1).val false) 1 0 :=
  readHit.trans st_m_false_1_0

theorem st_c_false_1_0 : kernelRun0_A.sl.v343 c i arg2 harg2 arg3 harg3 X A = cV (fs X A (i 1).val false) 1 0 :=
  cOff X A _ false 1 _ (lhF X A i 512 _ _ (readRows X _ _ 512 512 0 _) (readAug A _ _ 512 512 1 _)) 0 (by decide) _ _ (readRows X _ _ 512 0 1 _) (readAug A _ _ 512 0 0 _)

theorem ld_v595 : kernelRun0_A.sl.v595 c i arg2 harg2 arg3 harg3 arg10 arg15 X A = cV (fs X A (i 1).val false) 1 0 := by
  refine (readSkip (by decide)).trans ?_
  refine (readSkip (by decide)).trans ?_
  exact readHit.trans st_c_false_1_0

theorem st_m_false_1_1 : k0_pay91 (kernelRun0_A.sl.v597 c i arg2 harg2 arg3 harg3 arg10 arg13 arg15 X A) = mV (fs X A (i 1).val false) 1 1 :=
  mSt _ 1 0 _ _ ld_v594 ld_v595

theorem ld_v776 : kernelRun0_A.sl.v776 c i arg2 harg2 arg3 harg3 arg10 arg13 arg15 X A = mV (fs X A (i 1).val false) 1 1 :=
  readHit.trans st_m_false_1_1

theorem st_c_false_1_1 : kernelRun0_A.sl.v568 c i arg2 harg2 arg3 harg3 arg15 X A = cV (fs X A (i 1).val false) 1 1 :=
  cDiag X A _ false 1 _ (lhF X A i 512 _ _ (readRows X _ _ 512 512 0 _) (readAug A _ _ 512 512 1 _)) _ _ _ _ _ _ (readRows X _ _ 256 512 1 _) (readAug A _ _ 256 512 0 _) (readRows X _ _ 256 768 1 _) (readAug A _ _ 256 768 0 _) (readMask _ _ 256 512 0 0 _ _) (readMask _ _ 256 256 256 256 _ _)

theorem ld_v777 : kernelRun0_A.sl.v777 c i arg2 harg2 arg3 harg3 arg10 arg15 X A = cV (fs X A (i 1).val false) 1 1 := by
  refine (readSkip (by decide)).trans ?_
  refine (readSkip (by decide)).trans ?_
  exact readHit.trans st_c_false_1_1

theorem st_top_false_1 : kernelRun0_A.sl.v552 c i arg2 harg2 arg3 harg3 arg15 X A = tB 256 512 (fs X A (i 1).val false) (512 * 1) (512 * 1) :=
  stTop X A _ false 1 _ (lhF X A i 512 _ _ (readRows X _ _ 512 512 0 _) (readAug A _ _ 512 512 1 _)) _ _ _ (readRows X _ _ 256 512 1 _) (readAug A _ _ 256 512 0 _) (readMask _ _ 256 512 0 0 _ _)

theorem ld_v783 : kernelRun0_A.sl.v783 c i arg2 harg2 arg3 harg3 arg7 arg15 X A = tB 256 512 (fs X A (i 1).val false) (512 * 1) (512 * 1) := by
  refine Eq.trans (readOff (off' := ![0, 0]) _ _ (placed_k0_off1 i) _ (by decide)) ?_
  refine (readSkip (by decide)).trans ?_
  exact readHit.trans st_top_false_1

theorem st_off_false_1_0 : kernelRun0_A.sl.v338 c i arg2 harg2 arg3 harg3 X A = tB 512 512 (fs X A (i 1).val false) (512 * 1) (512 * 0) :=
  stOff X A _ false 1 _ (lhF X A i 512 _ _ (readRows X _ _ 512 512 0 _) (readAug A _ _ 512 512 1 _)) 0 (by decide) _ _ (readRows X _ _ 512 0 1 _) (readAug A _ _ 512 0 0 _)

theorem ld_v601 : kernelRun0_A.sl.v601 c i arg2 harg2 arg3 harg3 arg9 X A = tB 512 512 (fs X A (i 1).val false) (512 * 1) (512 * 0) := by
  refine Eq.trans (readOff (off' := ![0, 0]) _ _ (placed_k0_off3 i) _ (by decide)) ?_
  exact readHit.trans st_off_false_1_0

theorem st_a_false_1_0 : k0_pay71 = aV 512 0 X (fs X A (i 1).val false) 1 0 :=
  aInit X _ 1

theorem ld_v606 : kernelRun0_A.sl.v606 c i arg2 harg2 arg3 harg3 arg5 arg7 arg10 arg13 arg14 arg15 X A = aV 512 0 X (fs X A (i 1).val false) 1 0 :=
  readHit.trans st_a_false_1_0

theorem st_a_false_1_1 : k0_pay90 (kernelRun0_A.sl.v597 c i arg2 harg2 arg3 harg3 arg10 arg13 arg15 X A) (kernelRun0_A.sl.v598 c i arg2 harg2 arg3 harg3 arg10 arg13 arg15 X A) (kernelRun0_A.sl.v601 c i arg2 harg2 arg3 harg3 arg9 X A) (kernelRun0_A.sl.v606 c i arg2 harg2 arg3 harg3 arg5 arg7 arg10 arg13 arg14 arg15 X A) (kernelRun0_A.sl.v609 c arg2 harg2 arg5 X) = aV 512 0 X (fs X A (i 1).val false) 1 1 :=
  aOffSt X _ 1 0 (by decide) _ _ _ _ _ ld_v594 ld_v595 ld_v601 ld_v606 ld_v584

theorem ld_v803 : kernelRun0_A.sl.v803 c i arg2 harg2 arg3 harg3 arg5 arg7 arg9 arg10 arg13 arg14 arg15 X A = aV 256 0 X (fs X A (i 1).val false) 1 1 :=
  readHalf X _ _ _ 1 1 0 _ _ _ st_a_false_1_1

theorem st_aL_false_1_2 : kernelRun0_A.sl.v810 c i arg2 harg2 arg3 harg3 arg5 arg7 arg9 arg10 arg13 arg14 arg15 X A = aV 256 0 X (fs X A (i 1).val false) 1 2 :=
  aLeftSt X _ 1 _ _ _ _ _ ld_v776 ld_v777 ld_v783 ld_v748 ld_v803

theorem st_bot_false_1 : kernelRun0_A.sl.v557 c i arg2 harg2 arg3 harg3 arg15 X A = tB 256 256 (fs X A (i 1).val false) (512 * 1 + 256) (512 * 1 + 256) :=
  stBot X A _ false 1 _ (lhF X A i 512 _ _ (readRows X _ _ 512 512 0 _) (readAug A _ _ 512 512 1 _)) _ _ _ (readRows X _ _ 256 768 1 _) (readAug A _ _ 256 768 0 _) (readMask _ _ 256 256 256 256 _ _)

theorem ld_v790 : kernelRun0_A.sl.v790 c i arg2 harg2 arg3 harg3 arg7 arg15 X A = tB 256 256 (fs X A (i 1).val false) (512 * 1 + 256) (512 * 1 + 256) := by
  refine Eq.trans (readOff (off' := ![256, 256]) _ _ (placed_k0_off2 i) _ (by decide)) ?_
  exact readHit.trans st_bot_false_1

theorem ld_v812 : kernelRun0_A.sl.v812 c i arg2 harg2 arg3 harg3 arg5 arg7 arg9 arg10 arg13 arg14 arg15 X A = aV 256 256 X (fs X A (i 1).val false) 1 1 := by
  refine (readSkip (by decide)).trans ?_
  exact readHalf X _ _ _ 1 1 256 _ _ _ st_a_false_1_1

theorem st_aR_false_1_2 : kernelRun0_A.sl.v820 c i arg2 harg2 arg3 harg3 arg5 arg7 arg9 arg10 arg13 arg14 arg15 X A = aV 256 256 X (fs X A (i 1).val false) 1 2 :=
  aRightSt X _ 1 _ _ _ _ _ _ _ ld_v776 ld_v777 ld_v783 ld_v748 ld_v790 ld_v751 ld_v812

theorem ld_v832 : kernelRun0_A.sl.v832 c i arg2 harg2 arg3 harg3 arg5 arg7 arg9 arg10 arg13 arg14 arg15 X A = aV 512 0 X (fs X A (i 1).val false) 1 2 :=
  readHalves X _ _ _ 1 2 _ _ _ _ _ st_aL_false_1_2 st_aR_false_1_2

theorem st_m_true_2_0 : k0_pay122 = mV (fs X A (i 1).val true) 2 0 :=
  mInit _ 2

theorem ld_v903 : kernelRun0_A.sl.v903 c i arg2 harg2 arg3 harg3 arg10 arg11 arg15 X A = mV (fs X A (i 1).val true) 2 0 :=
  readHit.trans st_m_true_2_0

theorem st_c_true_2_0 : kernelRun0_A.sl.v711 c i arg2 harg2 arg3 harg3 X A = cV (fs X A (i 1).val true) 2 0 :=
  cOff X A _ true 2 _ (lhT X A i 1024 _ _ (readRows X _ _ 512 1024 0 _) (readAug A _ _ 512 1024 1 _)) 0 (by decide) _ _ (readRows X _ _ 512 0 1 _) (readAug A _ _ 512 0 0 _)

theorem ld_v904 : kernelRun0_A.sl.v904 c i arg2 harg2 arg3 harg3 arg10 arg15 X A = cV (fs X A (i 1).val true) 2 0 := by
  refine (readSkip (by decide)).trans ?_
  refine (readSkip (by decide)).trans ?_
  refine (readSkip (by decide)).trans ?_
  exact readHit.trans st_c_true_2_0

theorem st_m_true_2_1 : kernelRun0_A.sl.v927 c i arg2 harg2 arg3 harg3 arg10 arg11 arg15 X A = mV (fs X A (i 1).val true) 2 1 :=
  mSt _ 2 0 _ _ ld_v903 ld_v904

theorem ld_v1035 : kernelRun0_A.sl.v1035 c i arg2 harg2 arg3 harg3 arg10 arg11 arg15 X A = mV (fs X A (i 1).val true) 2 1 :=
  readHit.trans st_m_true_2_1

theorem st_c_true_2_1 : k0_pay129 (kernelRun0_A.sl.v666 c i arg2 harg2 arg3 harg3 X A) (View.readAt (Elt Ideal) arg2.view (Rect.unit (s := S1x1x4x2048x128) ![0, 0, 1, 512, 0] S1x1x1x512x128.size inb_S1x1x4x2048x128_S1x1x1x512x128_0_0_1_512_0).toLoadRect (harg2.unread X)) (View.readAt (Elt Ideal) arg3.view (Rect.unit (s := S1x2x2048x128) ![0, 0, 512, 0] S1x1x512x128.size inb_S1x2x2048x128_S1x1x512x128_0_0_512_0).toLoadRect (harg3.unread A)) = cV (fs X A (i 1).val true) 2 1 :=
  cOff X A _ true 2 _ (lhT X A i 1024 _ _ (readRows X _ _ 512 1024 0 _) (readAug A _ _ 512 1024 1 _)) 1 (by decide) _ _ (readRows X _ _ 512 512 1 _) (readAug A _ _ 512 512 0 _)

theorem ld_v1036 : kernelRun0_A.sl.v1036 c i arg2 harg2 arg3 harg3 arg10 arg15 X A = cV (fs X A (i 1).val true) 2 1 := by
  refine (readSkip (by decide)).trans ?_
  refine (readSkip (by decide)).trans ?_
  refine (readSkip (by decide)).trans ?_
  exact readHit.trans st_c_true_2_1

theorem st_m_true_2_2 : kernelRun0_A.sl.v1059 c i arg2 harg2 arg3 harg3 arg10 arg11 arg15 X A = mV (fs X A (i 1).val true) 2 2 :=
  mSt _ 2 1 _ _ ld_v1035 ld_v1036

theorem ld_v1194 : kernelRun0_A.sl.v1194 c i arg2 harg2 arg3 harg3 arg10 arg11 arg15 X A = mV (fs X A (i 1).val true) 2 2 :=
  readHit.trans st_m_true_2_2

theorem st_c_true_2_2 : kernelRun0_A.sl.v993 c i arg2 harg2 arg3 harg3 arg15 X A = cV (fs X A (i 1).val true) 2 2 :=
  cDiag X A _ true 2 _ (lhT X A i 1024 _ _ (readRows X _ _ 512 1024 0 _) (readAug A _ _ 512 1024 1 _)) _ _ _ _ _ _ (readRows X _ _ 256 1024 1 _) (readAug A _ _ 256 1024 0 _) (readRows X _ _ 256 1280 1 _) (readAug A _ _ 256 1280 0 _) (readMask _ _ 256 512 0 0 _ _) (readMask _ _ 256 256 256 256 _ _)

theorem ld_v1195 : kernelRun0_A.sl.v1195 c i arg2 harg2 arg3 harg3 arg10 arg15 X A = cV (fs X A (i 1).val true) 2 2 := by
  refine (readSkip (by decide)).trans ?_
  refine (readSkip (by decide)).trans ?_
  refine (readSkip (by decide)).trans ?_
  exact readHit.trans st_c_true_2_2

theorem st_top_true_2 : kernelRun0_A.sl.v977 c i arg2 harg2 arg3 harg3 arg15 X A = tB 256 512 (fs X A (i 1).val true) (512 * 2) (512 * 2) :=
  stTop X A _ true 2 _ (lhT X A i 1024 _ _ (readRows X _ _ 512 1024 0 _) (readAug A _ _ 512 1024 1 _)) _ _ _ (readRows X _ _ 256 1024 1 _) (readAug A _ _ 256 1024 0 _) (readMask _ _ 256 512 0 0 _ _)

theorem ld_v1201 : kernelRun0_A.sl.v1201 c i arg2 harg2 arg3 harg3 arg8 arg15 X A = tB 256 512 (fs X A (i 1).val true) (512 * 2) (512 * 2) := by
  refine Eq.trans (readOff (off' := ![0, 0]) _ _ (placed_k0_off1 i) _ (by decide)) ?_
  refine (readSkip (by decide)).trans ?_
  exact readHit.trans st_top_true_2

theorem ld_v1214 : kernelRun0_A.sl.v1214 c arg2 harg2 arg5 X = vtV 256 (512 * 2 + 0) X :=
  readVt X _ _ (vtFull (X := X)) 256 2 0 _

theorem st_off_true_2_1 : k0_pay128 (kernelRun0_A.sl.v666 c i arg2 harg2 arg3 harg3 X A) (View.readAt (Elt Ideal) arg2.view (Rect.unit (s := S1x1x4x2048x128) ![0, 0, 1, 512, 0] S1x1x1x512x128.size inb_S1x1x4x2048x128_S1x1x1x512x128_0_0_1_512_0).toLoadRect (harg2.unread X)) (View.readAt (Elt Ideal) arg3.view (Rect.unit (s := S1x2x2048x128) ![0, 0, 512, 0] S1x1x512x128.size inb_S1x2x2048x128_S1x1x512x128_0_0_512_0).toLoadRect (harg3.unread A)) = tB 512 512 (fs X A (i 1).val true) (512 * 2) (512 * 1) :=
  stOff X A _ true 2 _ (lhT X A i 1024 _ _ (readRows X _ _ 512 1024 0 _) (readAug A _ _ 512 1024 1 _)) 1 (by decide) _ _ (readRows X _ _ 512 512 1 _) (readAug A _ _ 512 512 0 _)

theorem ld_v1042 : kernelRun0_A.sl.v1042 c i arg2 harg2 arg3 harg3 arg6 arg15 X A = tB 512 512 (fs X A (i 1).val true) (512 * 2) (512 * 1) := by
  refine Eq.trans (readOff (off' := ![0, 0]) _ _ (placed_k0_off3 i) _ (by decide)) ?_
  exact readHit.trans st_off_true_2_1

theorem st_off_true_2_0 : kernelRun0_A.sl.v706 c i arg2 harg2 arg3 harg3 X A = tB 512 512 (fs X A (i 1).val true) (512 * 2) (512 * 0) :=
  stOff X A _ true 2 _ (lhT X A i 1024 _ _ (readRows X _ _ 512 1024 0 _) (readAug A _ _ 512 1024 1 _)) 0 (by decide) _ _ (readRows X _ _ 512 0 1 _) (readAug A _ _ 512 0 0 _)

theorem ld_v910 : kernelRun0_A.sl.v910 c i arg2 harg2 arg3 harg3 arg8 X A = tB 512 512 (fs X A (i 1).val true) (512 * 2) (512 * 0) := by
  refine Eq.trans (readOff (off' := ![0, 0]) _ _ (placed_k0_off3 i) _ (by decide)) ?_
  exact readHit.trans st_off_true_2_0

theorem st_a_true_2_0 : k0_pay124 k0_pay123 = aV 512 0 X (fs X A (i 1).val true) 2 0 :=
  aInit X _ 2

theorem ld_v915 : kernelRun0_A.sl.v915 c i arg2 harg2 arg3 harg3 arg5 arg6 arg8 arg10 arg11 arg12 arg15 X A = aV 512 0 X (fs X A (i 1).val true) 2 0 :=
  readHit.trans st_a_true_2_0

theorem st_a_true_2_1 : kernelRun0_A.sl.v924 c i arg2 harg2 arg3 harg3 arg5 arg6 arg8 arg10 arg11 arg12 arg15 X A = aV 512 0 X (fs X A (i 1).val true) 2 1 :=
  aOffSt X _ 2 0 (by decide) _ _ _ _ _ ld_v903 ld_v904 ld_v910 ld_v915 ld_v584

theorem ld_v1047 : kernelRun0_A.sl.v1047 c i arg2 harg2 arg3 harg3 arg5 arg6 arg8 arg10 arg11 arg12 arg15 X A = aV 512 0 X (fs X A (i 1).val true) 2 1 :=
  readHit.trans st_a_true_2_1

theorem ld_v1050 : kernelRun0_A.sl.v1050 c arg2 harg2 arg5 X = vtV 512 (512 * 1 + 0) X :=
  readVt X _ _ (vtFull (X := X)) 512 1 0 _

theorem st_a_true_2_2 : kernelRun0_A.sl.v1056 c i arg2 harg2 arg3 harg3 arg5 arg6 arg8 arg10 arg11 arg12 arg15 X A = aV 512 0 X (fs X A (i 1).val true) 2 2 :=
  aOffSt X _ 2 1 (by decide) _ _ _ _ _ ld_v1035 ld_v1036 ld_v1042 ld_v1047 ld_v1050

theorem ld_v1221 : kernelRun0_A.sl.v1221 c i arg2 harg2 arg3 harg3 arg5 arg6 arg8 arg10 arg11 arg12 arg15 X A = aV 256 0 X (fs X A (i 1).val true) 2 2 :=
  readHalf X _ _ _ 2 2 0 _ _ _ st_a_true_2_2

theorem st_aL_true_2_3 : kernelRun0_A.sl.v1228 c i arg2 harg2 arg3 harg3 arg5 arg6 arg8 arg10 arg11 arg12 arg15 X A = aV 256 0 X (fs X A (i 1).val true) 2 3 :=
  aLeftSt X _ 2 _ _ _ _ _ ld_v1194 ld_v1195 ld_v1201 ld_v1214 ld_v1221

theorem st_bot_true_2 : kernelRun0_A.sl.v982 c i arg2 harg2 arg3 harg3 arg15 X A = tB 256 256 (fs X A (i 1).val true) (512 * 2 + 256) (512 * 2 + 256) :=
  stBot X A _ true 2 _ (lhT X A i 1024 _ _ (readRows X _ _ 512 1024 0 _) (readAug A _ _ 512 1024 1 _)) _ _ _ (readRows X _ _ 256 1280 1 _) (readAug A _ _ 256 1280 0 _) (readMask _ _ 256 256 256 256 _ _)

theorem ld_v1208 : kernelRun0_A.sl.v1208 c i arg2 harg2 arg3 harg3 arg8 arg15 X A = tB 256 256 (fs X A (i 1).val true) (512 * 2 + 256) (512 * 2 + 256) := by
  refine Eq.trans (readOff (off' := ![256, 256]) _ _ (placed_k0_off2 i) _ (by decide)) ?_
  exact readHit.trans st_bot_true_2

theorem ld_v1217 : kernelRun0_A.sl.v1217 c arg2 harg2 arg5 X = vtV 256 (512 * 2 + 256) X :=
  readVt X _ _ (vtFull (X := X)) 256 2 256 _

theorem ld_v1230 : kernelRun0_A.sl.v1230 c i arg2 harg2 arg3 harg3 arg5 arg6 arg8 arg10 arg11 arg12 arg15 X A = aV 256 256 X (fs X A (i 1).val true) 2 2 := by
  refine (readSkip (by decide)).trans ?_
  exact readHalf X _ _ _ 2 2 256 _ _ _ st_a_true_2_2

theorem st_aR_true_2_3 : kernelRun0_A.sl.v1238 c i arg2 harg2 arg3 harg3 arg5 arg6 arg8 arg10 arg11 arg12 arg15 X A = aV 256 256 X (fs X A (i 1).val true) 2 3 :=
  aRightSt X _ 2 _ _ _ _ _ _ _ ld_v1194 ld_v1195 ld_v1201 ld_v1214 ld_v1208 ld_v1217 ld_v1230

theorem ld_v1290 : kernelRun0_A.sl.v1290 c i arg2 harg2 arg3 harg3 arg5 arg6 arg8 arg10 arg11 arg12 arg15 X A = aV 512 0 X (fs X A (i 1).val true) 2 3 :=
  readHalves X _ _ _ 2 3 _ _ _ _ _ st_aL_true_2_3 st_aR_true_2_3

theorem st_m_false_2_0 : k0_pay125 = mV (fs X A (i 1).val false) 2 0 :=
  mInit _ 2

theorem ld_v928 : kernelRun0_A.sl.v928 c i arg2 harg2 arg3 harg3 arg10 arg13 arg15 X A = mV (fs X A (i 1).val false) 2 0 :=
  readHit.trans st_m_false_2_0

theorem st_c_false_2_0 : kernelRun0_A.sl.v727 c i arg2 harg2 arg3 harg3 X A = cV (fs X A (i 1).val false) 2 0 :=
  cOff X A _ false 2 _ (lhF X A i 1024 _ _ (readRows X _ _ 512 1024 0 _) (readAug A _ _ 512 1024 1 _)) 0 (by decide) _ _ (readRows X _ _ 512 0 1 _) (readAug A _ _ 512 0 0 _)

theorem ld_v929 : kernelRun0_A.sl.v929 c i arg2 harg2 arg3 harg3 arg10 arg15 X A = cV (fs X A (i 1).val false) 2 0 := by
  refine (readSkip (by decide)).trans ?_
  refine (readSkip (by decide)).trans ?_
  exact readHit.trans st_c_false_2_0

theorem st_m_false_2_1 : kernelRun0_A.sl.v952 c i arg2 harg2 arg3 harg3 arg10 arg13 arg15 X A = mV (fs X A (i 1).val false) 2 1 :=
  mSt _ 2 0 _ _ ld_v928 ld_v929

theorem ld_v1060 : kernelRun0_A.sl.v1060 c i arg2 harg2 arg3 harg3 arg10 arg13 arg15 X A = mV (fs X A (i 1).val false) 2 1 :=
  readHit.trans st_m_false_2_1

theorem st_c_false_2_1 : kernelRun0_A.sl.v902 c i arg2 harg2 arg3 harg3 X A = cV (fs X A (i 1).val false) 2 1 :=
  by
  refine Eq.trans ?_ (cOff X A _ false 2 _ (lhF X A i 1024 _ _ (readRows X arg2 harg2 512 1024 0 (by decide)) (readAug A arg3 harg3 512 1024 1 (by decide))) 1 (by decide) _ _ (readRows X arg2 harg2 512 512 1 (by decide)) (readAug A arg3 harg3 512 512 0 (by decide)))
  dsimp only [unitW, k0_pay26, k0_pay31, k0_pay27, k0_pay32, k0_pay28, k0_pay30, k0_pay29, k0_pay23, k0_pay22, k0_pay25, k0_pay198, k0_pay16, k0_pay20, k0_pay19, k0_pay17, k0_pay18, k0_pay15, k0_pay21, kernelRun0_A.sl.v902, kernelRun0_A.sl.v899, kernelRun0_A.sl.v898, kernelRun0_A.sl.v893, kernelRun0_A.sl.cst_172, kernelRun0_A.sl.v695, kernelRun0_A.sl.v694, kernelRun0_A.sl.v693, kernelRun0_A.sl.v68, kernelRun0_A.sl.cst_35, kernelRun0_A.sl.v637, kernelRun0_A.sl.v636, kernelRun0_A.sl.v132, kernelRun0_A.sl.v131, kernelRun0_A.sl.v130, kernelRun0_A.sl.v99, kernelRun0_A.sl.v8, kernelRun0_A.sl.v127, kernelRun0_A.sl.v126, kernelRun0_A.sl.v109, kernelRun0_A.sl.v79, kernelRun0_A.sl.v7, kernelRun0_A.sl.v6, kernelRun0_A.sl.v5, kernelRun0_A.sl.v96, kernelRun0_A.sl.v83, kernelRun0_A.sl.v95, kernelRun0_A.sl.v86, kernelRun0_A.sl.v85, kernelRun0_A.sl.v92, kernelRun0_A.sl.v90, kernelRun0_A.sl.v88, kernelRun0_A.sl.r_9, k0_pay3, k0_pay8, k0_pay4, k0_pay7, k0_pay5, k0_pay6, k0_pay94, k0_pay96, k0_pay99, k0_pay97, k0_pay98, k0_pay95, k0_pay92, kernelRun0_A.sl.v892, kernelRun0_A.sl.v891, kernelRun0_A.sl.r_11, k0_pay130, k0_pay133, k0_pay135, k0_pay134, k0_pay131, k0_pay132]
  rfl

theorem ld_v1061 : kernelRun0_A.sl.v1061 c i arg2 harg2 arg3 harg3 arg10 arg15 X A = cV (fs X A (i 1).val false) 2 1 := by
  refine (readSkip (by decide)).trans ?_
  refine (readSkip (by decide)).trans ?_
  exact readHit.trans st_c_false_2_1

theorem st_m_false_2_2 : kernelRun0_A.sl.v1084 c i arg2 harg2 arg3 harg3 arg10 arg13 arg15 X A = mV (fs X A (i 1).val false) 2 2 :=
  mSt _ 2 1 _ _ ld_v1060 ld_v1061

theorem ld_v1242 : kernelRun0_A.sl.v1242 c i arg2 harg2 arg3 harg3 arg10 arg13 arg15 X A = mV (fs X A (i 1).val false) 2 2 :=
  readHit.trans st_m_false_2_2

theorem st_c_false_2_2 : kernelRun0_A.sl.v1034 c i arg2 harg2 arg3 harg3 arg15 X A = cV (fs X A (i 1).val false) 2 2 :=
  cDiag X A _ false 2 _ (lhF X A i 1024 _ _ (readRows X _ _ 512 1024 0 _) (readAug A _ _ 512 1024 1 _)) _ _ _ _ _ _ (readRows X _ _ 256 1024 1 _) (readAug A _ _ 256 1024 0 _) (readRows X _ _ 256 1280 1 _) (readAug A _ _ 256 1280 0 _) (readMask _ _ 256 512 0 0 _ _) (readMask _ _ 256 256 256 256 _ _)

theorem ld_v1243 : kernelRun0_A.sl.v1243 c i arg2 harg2 arg3 harg3 arg10 arg15 X A = cV (fs X A (i 1).val false) 2 2 := by
  refine (readSkip (by decide)).trans ?_
  refine (readSkip (by decide)).trans ?_
  exact readHit.trans st_c_false_2_2

theorem st_top_false_2 : kernelRun0_A.sl.v1018 c i arg2 harg2 arg3 harg3 arg15 X A = tB 256 512 (fs X A (i 1).val false) (512 * 2) (512 * 2) :=
  stTop X A _ false 2 _ (lhF X A i 1024 _ _ (readRows X _ _ 512 1024 0 _) (readAug A _ _ 512 1024 1 _)) _ _ _ (readRows X _ _ 256 1024 1 _) (readAug A _ _ 256 1024 0 _) (readMask _ _ 256 512 0 0 _ _)

theorem ld_v1249 : kernelRun0_A.sl.v1249 c i arg2 harg2 arg3 harg3 arg9 arg15 X A = tB 256 512 (fs X A (i 1).val false) (512 * 2) (512 * 2) := by
  refine Eq.trans (readOff (off' := ![0, 0]) _ _ (placed_k0_off1 i) _ (by decide)) ?_
  refine (readSkip (by decide)).trans ?_
  exact readHit.trans st_top_false_2

theorem st_off_false_2_1 : kernelRun0_A.sl.v897 c i arg2 harg2 arg3 harg3 X A = tB 512 512 (fs X A (i 1).val false) (512 * 2) (512 * 1) :=
  by
  refine Eq.trans ?_ (stOff X A _ false 2 _ (lhF X A i 1024 _ _ (readRows X arg2 harg2 512 1024 0 (by decide)) (readAug A arg3 harg3 512 1024 1 (by decide))) 1 (by decide) _ _ (readRows X arg2 harg2 512 512 1 (by decide)) (readAug A arg3 harg3 512 512 0 (by decide)))
  dsimp only [unitW, k0_pay26, k0_pay31, k0_pay27, k0_pay32, k0_pay28, k0_pay30, k0_pay29, k0_pay23, k0_pay22, k0_pay25, k0_pay198, k0_pay16, k0_pay20, k0_pay19, k0_pay17, k0_pay18, k0_pay15, k0_pay21, kernelRun0_A.sl.v897, kernelRun0_A.sl.v893, kernelRun0_A.sl.cst_172, kernelRun0_A.sl.v695, kernelRun0_A.sl.v694, kernelRun0_A.sl.v693, kernelRun0_A.sl.v68, kernelRun0_A.sl.cst_35, kernelRun0_A.sl.v637, kernelRun0_A.sl.v636, kernelRun0_A.sl.v132, kernelRun0_A.sl.v131, kernelRun0_A.sl.v130, kernelRun0_A.sl.v99, kernelRun0_A.sl.v8, kernelRun0_A.sl.v127, kernelRun0_A.sl.v126, kernelRun0_A.sl.v109, kernelRun0_A.sl.v79, kernelRun0_A.sl.v7, kernelRun0_A.sl.v6, kernelRun0_A.sl.v5, kernelRun0_A.sl.v96, kernelRun0_A.sl.v83, kernelRun0_A.sl.v95, kernelRun0_A.sl.v86, kernelRun0_A.sl.v85, kernelRun0_A.sl.v92, kernelRun0_A.sl.v90, kernelRun0_A.sl.v88, kernelRun0_A.sl.r_9, k0_pay3, k0_pay8, k0_pay4, k0_pay7, k0_pay5, k0_pay6, k0_pay94, k0_pay96, k0_pay99, k0_pay97, k0_pay98, k0_pay95, k0_pay92, kernelRun0_A.sl.v892, kernelRun0_A.sl.v891, kernelRun0_A.sl.r_11, k0_pay130, k0_pay133, k0_pay135, k0_pay134, k0_pay131, k0_pay132]
  rfl

theorem ld_v1067 : kernelRun0_A.sl.v1067 c i arg2 harg2 arg3 harg3 arg7 arg15 X A = tB 512 512 (fs X A (i 1).val false) (512 * 2) (512 * 1) := by
  refine Eq.trans (readOff (off' := ![0, 0]) _ _ (placed_k0_off3 i) _ (by decide)) ?_
  exact readHit.trans st_off_false_2_1

theorem st_off_false_2_0 : kernelRun0_A.sl.v722 c i arg2 harg2 arg3 harg3 X A = tB 512 512 (fs X A (i 1).val false) (512 * 2) (512 * 0) :=
  stOff X A _ false 2 _ (lhF X A i 1024 _ _ (readRows X _ _ 512 1024 0 _) (readAug A _ _ 512 1024 1 _)) 0 (by decide) _ _ (readRows X _ _ 512 0 1 _) (readAug A _ _ 512 0 0 _)

theorem ld_v935 : kernelRun0_A.sl.v935 c i arg2 harg2 arg3 harg3 arg9 X A = tB 512 512 (fs X A (i 1).val false) (512 * 2) (512 * 0) := by
  refine Eq.trans (readOff (off' := ![0, 0]) _ _ (placed_k0_off3 i) _ (by decide)) ?_
  exact readHit.trans st_off_false_2_0

theorem st_a_false_2_0 : k0_pay126 = aV 512 0 X (fs X A (i 1).val false) 2 0 :=
  aInit X _ 2

theorem ld_v940 : kernelRun0_A.sl.v940 c i arg2 harg2 arg3 harg3 arg5 arg7 arg9 arg10 arg13 arg14 arg15 X A = aV 512 0 X (fs X A (i 1).val false) 2 0 :=
  readHit.trans st_a_false_2_0

theorem st_a_false_2_1 : kernelRun0_A.sl.v949 c i arg2 harg2 arg3 harg3 arg5 arg7 arg9 arg10 arg13 arg14 arg15 X A = aV 512 0 X (fs X A (i 1).val false) 2 1 :=
  aOffSt X _ 2 0 (by decide) _ _ _ _ _ ld_v928 ld_v929 ld_v935 ld_v940 ld_v584

theorem ld_v1072 : kernelRun0_A.sl.v1072 c i arg2 harg2 arg3 harg3 arg5 arg7 arg9 arg10 arg13 arg14 arg15 X A = aV 512 0 X (fs X A (i 1).val false) 2 1 :=
  readHit.trans st_a_false_2_1

theorem st_a_false_2_2 : kernelRun0_A.sl.v1081 c i arg2 harg2 arg3 harg3 arg5 arg7 arg9 arg10 arg13 arg14 arg15 X A = aV 512 0 X (fs X A (i 1).val false) 2 2 :=
  aOffSt X _ 2 1 (by decide) _ _ _ _ _ ld_v1060 ld_v1061 ld_v1067 ld_v1072 ld_v1050

theorem ld_v1269 : kernelRun0_A.sl.v1269 c i arg2 harg2 arg3 harg3 arg5 arg7 arg9 arg10 arg13 arg14 arg15 X A = aV 256 0 X (fs X A (i 1).val false) 2 2 :=
  readHalf X _ _ _ 2 2 0 _ _ _ st_a_false_2_2

theorem st_aL_false_2_3 : kernelRun0_A.sl.v1276 c i arg2 harg2 arg3 harg3 arg5 arg7 arg9 arg10 arg13 arg14 arg15 X A = aV 256 0 X (fs X A (i 1).val false) 2 3 :=
  aLeftSt X _ 2 _ _ _ _ _ ld_v1242 ld_v1243 ld_v1249 ld_v1214 ld_v1269

theorem st_bot_false_2 : kernelRun0_A.sl.v1023 c i arg2 harg2 arg3 harg3 arg15 X A = tB 256 256 (fs X A (i 1).val false) (512 * 2 + 256) (512 * 2 + 256) :=
  stBot X A _ false 2 _ (lhF X A i 1024 _ _ (readRows X _ _ 512 1024 0 _) (readAug A _ _ 512 1024 1 _)) _ _ _ (readRows X _ _ 256 1280 1 _) (readAug A _ _ 256 1280 0 _) (readMask _ _ 256 256 256 256 _ _)

theorem ld_v1256 : kernelRun0_A.sl.v1256 c i arg2 harg2 arg3 harg3 arg9 arg15 X A = tB 256 256 (fs X A (i 1).val false) (512 * 2 + 256) (512 * 2 + 256) := by
  refine Eq.trans (readOff (off' := ![256, 256]) _ _ (placed_k0_off2 i) _ (by decide)) ?_
  exact readHit.trans st_bot_false_2

theorem ld_v1278 : kernelRun0_A.sl.v1278 c i arg2 harg2 arg3 harg3 arg5 arg7 arg9 arg10 arg13 arg14 arg15 X A = aV 256 256 X (fs X A (i 1).val false) 2 2 := by
  refine (readSkip (by decide)).trans ?_
  exact readHalf X _ _ _ 2 2 256 _ _ _ st_a_false_2_2

theorem st_aR_false_2_3 : kernelRun0_A.sl.v1286 c i arg2 harg2 arg3 harg3 arg5 arg7 arg9 arg10 arg13 arg14 arg15 X A = aV 256 256 X (fs X A (i 1).val false) 2 3 :=
  aRightSt X _ 2 _ _ _ _ _ _ _ ld_v1242 ld_v1243 ld_v1249 ld_v1214 ld_v1256 ld_v1217 ld_v1278

theorem ld_v1298 : kernelRun0_A.sl.v1298 c i arg2 harg2 arg3 harg3 arg5 arg7 arg9 arg10 arg13 arg14 arg15 X A = aV 512 0 X (fs X A (i 1).val false) 2 3 :=
  readHalves X _ _ _ 2 3 _ _ _ _ _ st_aL_false_2_3 st_aR_false_2_3

theorem st_m_true_3_0 : k0_pay194 = mV (fs X A (i 1).val true) 3 0 :=
  mInit _ 3

theorem ld_v1369 : kernelRun0_A.sl.v1369 c i arg2 harg2 arg3 harg3 arg10 arg11 arg15 X A = mV (fs X A (i 1).val true) 3 0 :=
  readHit.trans st_m_true_3_0

theorem st_c_true_3_0 : kernelRun0_A.sl.v1177 c i arg2 harg2 arg3 harg3 X A = cV (fs X A (i 1).val true) 3 0 :=
  cOff X A _ true 3 _ (lhT X A i 1536 _ _ (readRows X _ _ 512 1536 0 _) (readAug A _ _ 512 1536 1 _)) 0 (by decide) _ _ (readRows X _ _ 512 0 1 _) (readAug A _ _ 512 0 0 _)

theorem ld_v1370 : kernelRun0_A.sl.v1370 c i arg2 harg2 arg3 harg3 arg10 arg15 X A = cV (fs X A (i 1).val true) 3 0 := by
  refine (readSkip (by decide)).trans ?_
  refine (readSkip (by decide)).trans ?_
  refine (readSkip (by decide)).trans ?_
  exact readHit.trans st_c_true_3_0

theorem st_m_true_3_1 : kernelRun0_A.sl.v1393 c i arg2 harg2 arg3 harg3 arg10 arg11 arg15 X A = mV (fs X A (i 1).val true) 3 1 :=
  mSt _ 3 0 _ _ ld_v1369 ld_v1370

theorem ld_v1451 : kernelRun0_A.sl.v1451 c i arg2 harg2 arg3 harg3 arg10 arg11 arg15 X A = mV (fs X A (i 1).val true) 3 1 :=
  readHit.trans st_m_true_3_1

theorem st_c_true_3_1 : kernelRun0_A.sl.v1352 c i arg2 harg2 arg3 harg3 X A = cV (fs X A (i 1).val true) 3 1 :=
  cOff X A _ true 3 _ (lhT X A i 1536 _ _ (readRows X _ _ 512 1536 0 _) (readAug A _ _ 512 1536 1 _)) 1 (by decide) _ _ (readRows X _ _ 512 512 1 _) (readAug A _ _ 512 512 0 _)

theorem ld_v1452 : kernelRun0_A.sl.v1452 c i arg2 harg2 arg3 harg3 arg10 arg15 X A = cV (fs X A (i 1).val true) 3 1 := by
  refine (readSkip (by decide)).trans ?_
  refine (readSkip (by decide)).trans ?_
  refine (readSkip (by decide)).trans ?_
  exact readHit.trans st_c_true_3_1

theorem st_m_true_3_2 : kernelRun0_A.sl.v1475 c i arg2 harg2 arg3 harg3 arg10 arg11 arg15 X A = mV (fs X A (i 1).val true) 3 2 :=
  mSt _ 3 1 _ _ ld_v1451 ld_v1452

theorem ld_v1583 : kernelRun0_A.sl.v1583 c i arg2 harg2 arg3 harg3 arg10 arg11 arg15 X A = mV (fs X A (i 1).val true) 3 2 :=
  readHit.trans st_m_true_3_2

theorem st_c_true_3_2 : kernelRun0_A.sl.v1434 c i arg2 harg2 arg3 harg3 X A = cV (fs X A (i 1).val true) 3 2 :=
  cOff X A _ true 3 _ (lhT X A i 1536 _ _ (readRows X _ _ 512 1536 0 _) (readAug A _ _ 512 1536 1 _)) 2 (by decide) _ _ (readRows X _ _ 512 1024 1 _) (readAug A _ _ 512 1024 0 _)

theorem ld_v1584 : kernelRun0_A.sl.v1584 c i arg2 harg2 arg3 harg3 arg10 arg15 X A = cV (fs X A (i 1).val true) 3 2 := by
  refine (readSkip (by decide)).trans ?_
  refine (readSkip (by decide)).trans ?_
  refine (readSkip (by decide)).trans ?_
  exact readHit.trans st_c_true_3_2

theorem st_m_true_3_3 : kernelRun0_A.sl.v1607 c i arg2 harg2 arg3 harg3 arg10 arg11 arg15 X A = mV (fs X A (i 1).val true) 3 3 :=
  mSt _ 3 2 _ _ ld_v1583 ld_v1584

theorem ld_v1633 : kernelRun0_A.sl.v1633 c i arg2 harg2 arg3 harg3 arg10 arg11 arg15 X A = mV (fs X A (i 1).val true) 3 3 :=
  readHit.trans st_m_true_3_3

theorem st_c_true_3_3 : kernelRun0_A.sl.v1541 c i arg2 harg2 arg3 harg3 arg15 X A = cV (fs X A (i 1).val true) 3 3 :=
  cDiag X A _ true 3 _ (lhT X A i 1536 _ _ (readRows X _ _ 512 1536 0 _) (readAug A _ _ 512 1536 1 _)) _ _ _ _ _ _ (readRows X _ _ 256 1536 1 _) (readAug A _ _ 256 1536 0 _) (readRows X _ _ 256 1792 1 _) (readAug A _ _ 256 1792 0 _) (readMask _ _ 256 512 0 0 _ _) (readMask _ _ 256 256 256 256 _ _)

theorem ld_v1634 : kernelRun0_A.sl.v1634 c i arg2 harg2 arg3 harg3 arg10 arg15 X A = cV (fs X A (i 1).val true) 3 3 := by
  refine (readSkip (by decide)).trans ?_
  exact readHit.trans st_c_true_3_3

theorem st_top_true_3 : kernelRun0_A.sl.v1525 c i arg2 harg2 arg3 harg3 arg15 X A = tB 256 512 (fs X A (i 1).val true) (512 * 3) (512 * 3) :=
  stTop X A _ true 3 _ (lhT X A i 1536 _ _ (readRows X _ _ 512 1536 0 _) (readAug A _ _ 512 1536 1 _)) _ _ _ (readRows X _ _ 256 1536 1 _) (readAug A _ _ 256 1536 0 _) (readMask _ _ 256 512 0 0 _ _)

theorem ld_v1640 : kernelRun0_A.sl.v1640 c i arg2 harg2 arg3 harg3 arg8 arg15 X A = tB 256 512 (fs X A (i 1).val true) (512 * 3) (512 * 3) := by
  refine Eq.trans (readOff (off' := ![0, 0]) _ _ (placed_k0_off1 i) _ (by decide)) ?_
  refine (readSkip (by decide)).trans ?_
  exact readHit.trans st_top_true_3

theorem ld_v1653 : kernelRun0_A.sl.v1653 c arg2 harg2 arg5 X = vtV 256 (512 * 3 + 0) X :=
  readVt X _ _ (vtFull (X := X)) 256 3 0 _

theorem st_off_true_3_2 : kernelRun0_A.sl.v1429 c i arg2 harg2 arg3 harg3 X A = tB 512 512 (fs X A (i 1).val true) (512 * 3) (512 * 2) :=
  stOff X A _ true 3 _ (lhT X A i 1536 _ _ (readRows X _ _ 512 1536 0 _) (readAug A _ _ 512 1536 1 _)) 2 (by decide) _ _ (readRows X _ _ 512 1024 1 _) (readAug A _ _ 512 1024 0 _)

theorem ld_v1590 : kernelRun0_A.sl.v1590 c i arg2 harg2 arg3 harg3 arg6 arg15 X A = tB 512 512 (fs X A (i 1).val true) (512 * 3) (512 * 2) := by
  refine Eq.trans (readOff (off' := ![0, 0]) _ _ (placed_k0_off3 i) _ (by decide)) ?_
  exact readHit.trans st_off_true_3_2

theorem st_off_true_3_1 : kernelRun0_A.sl.v1347 c i arg2 harg2 arg3 harg3 X A = tB 512 512 (fs X A (i 1).val true) (512 * 3) (512 * 1) :=
  stOff X A _ true 3 _ (lhT X A i 1536 _ _ (readRows X _ _ 512 1536 0 _) (readAug A _ _ 512 1536 1 _)) 1 (by decide) _ _ (readRows X _ _ 512 512 1 _) (readAug A _ _ 512 512 0 _)

theorem ld_v1458 : kernelRun0_A.sl.v1458 c i arg2 harg2 arg3 harg3 arg8 arg15 X A = tB 512 512 (fs X A (i 1).val true) (512 * 3) (512 * 1) := by
  refine Eq.trans (readOff (off' := ![0, 0]) _ _ (placed_k0_off3 i) _ (by decide)) ?_
  exact readHit.trans st_off_true_3_1

theorem st_off_true_3_0 : kernelRun0_A.sl.v1172 c i arg2 harg2 arg3 harg3 X A = tB 512 512 (fs X A (i 1).val true) (512 * 3) (512 * 0) :=
  stOff X A _ true 3 _ (lhT X A i 1536 _ _ (readRows X _ _ 512 1536 0 _) (readAug A _ _ 512 1536 1 _)) 0 (by decide) _ _ (readRows X _ _ 512 0 1 _) (readAug A _ _ 512 0 0 _)

theorem ld_v1376 : kernelRun0_A.sl.v1376 c i arg2 harg2 arg3 harg3 arg6 arg15 X A = tB 512 512 (fs X A (i 1).val true) (512 * 3) (512 * 0) := by
  refine Eq.trans (readOff (off' := ![0, 0]) _ _ (placed_k0_off3 i) _ (by decide)) ?_
  exact readHit.trans st_off_true_3_0

theorem st_a_true_3_0 : k0_pay195 = aV 512 0 X (fs X A (i 1).val true) 3 0 :=
  aInit X _ 3

theorem ld_v1381 : kernelRun0_A.sl.v1381 c i arg2 harg2 arg3 harg3 arg5 arg6 arg8 arg10 arg11 arg12 arg15 X A = aV 512 0 X (fs X A (i 1).val true) 3 0 :=
  readHit.trans st_a_true_3_0

theorem st_a_true_3_1 : kernelRun0_A.sl.v1390 c i arg2 harg2 arg3 harg3 arg5 arg6 arg8 arg10 arg11 arg12 arg15 X A = aV 512 0 X (fs X A (i 1).val true) 3 1 :=
  aOffSt X _ 3 0 (by decide) _ _ _ _ _ ld_v1369 ld_v1370 ld_v1376 ld_v1381 ld_v584

theorem ld_v1463 : kernelRun0_A.sl.v1463 c i arg2 harg2 arg3 harg3 arg5 arg6 arg8 arg10 arg11 arg12 arg15 X A = aV 512 0 X (fs X A (i 1).val true) 3 1 :=
  readHit.trans st_a_true_3_1

theorem st_a_true_3_2 : kernelRun0_A.sl.v1472 c i arg2 harg2 arg3 harg3 arg5 arg6 arg8 arg10 arg11 arg12 arg15 X A = aV 512 0 X (fs X A (i 1).val true) 3 2 :=
  aOffSt X _ 3 1 (by decide) _ _ _ _ _ ld_v1451 ld_v1452 ld_v1458 ld_v1463 ld_v1050

theorem ld_v1595 : kernelRun0_A.sl.v1595 c i arg2 harg2 arg3 harg3 arg5 arg6 arg8 arg10 arg11 arg12 arg15 X A = aV 512 0 X (fs X A (i 1).val true) 3 2 :=
  readHit.trans st_a_true_3_2

theorem ld_v1598 : kernelRun0_A.sl.v1598 c arg2 harg2 arg5 X = vtV 512 (512 * 2 + 0) X :=
  readVt X _ _ (vtFull (X := X)) 512 2 0 _

theorem st_a_true_3_3 : kernelRun0_A.sl.v1604 c i arg2 harg2 arg3 harg3 arg5 arg6 arg8 arg10 arg11 arg12 arg15 X A = aV 512 0 X (fs X A (i 1).val true) 3 3 :=
  aOffSt X _ 3 2 (by decide) _ _ _ _ _ ld_v1583 ld_v1584 ld_v1590 ld_v1595 ld_v1598

theorem ld_v1660 : kernelRun0_A.sl.v1660 c i arg2 harg2 arg3 harg3 arg5 arg6 arg8 arg10 arg11 arg12 arg15 X A = aV 256 0 X (fs X A (i 1).val true) 3 3 :=
  readHalf X _ _ _ 3 3 0 _ _ _ st_a_true_3_3

theorem st_aL_true_3_4 : kernelRun0_A.sl.v1667 c i arg2 harg2 arg3 harg3 arg5 arg6 arg8 arg10 arg11 arg12 arg15 X A = aV 256 0 X (fs X A (i 1).val true) 3 4 :=
  aLeftSt X _ 3 _ _ _ _ _ ld_v1633 ld_v1634 ld_v1640 ld_v1653 ld_v1660

theorem st_bot_true_3 : kernelRun0_A.sl.v1530 c i arg2 harg2 arg3 harg3 arg15 X A = tB 256 256 (fs X A (i 1).val true) (512 * 3 + 256) (512 * 3 + 256) :=
  stBot X A _ true 3 _ (lhT X A i 1536 _ _ (readRows X _ _ 512 1536 0 _) (readAug A _ _ 512 1536 1 _)) _ _ _ (readRows X _ _ 256 1792 1 _) (readAug A _ _ 256 1792 0 _) (readMask _ _ 256 256 256 256 _ _)

theorem ld_v1647 : kernelRun0_A.sl.v1647 c i arg2 harg2 arg3 harg3 arg8 arg15 X A = tB 256 256 (fs X A (i 1).val true) (512 * 3 + 256) (512 * 3 + 256) := by
  refine Eq.trans (readOff (off' := ![256, 256]) _ _ (placed_k0_off2 i) _ (by decide)) ?_
  exact readHit.trans st_bot_true_3

theorem ld_v1656 : kernelRun0_A.sl.v1656 c arg2 harg2 arg5 X = vtV 256 (512 * 3 + 256) X :=
  readVt X _ _ (vtFull (X := X)) 256 3 256 _

theorem ld_v1669 : kernelRun0_A.sl.v1669 c i arg2 harg2 arg3 harg3 arg5 arg6 arg8 arg10 arg11 arg12 arg15 X A = aV 256 256 X (fs X A (i 1).val true) 3 3 := by
  refine (readSkip (by decide)).trans ?_
  exact readHalf X _ _ _ 3 3 256 _ _ _ st_a_true_3_3

theorem st_aR_true_3_4 : kernelRun0_A.sl.v1677 c i arg2 harg2 arg3 harg3 arg5 arg6 arg8 arg10 arg11 arg12 arg15 X A = aV 256 256 X (fs X A (i 1).val true) 3 4 :=
  aRightSt X _ 3 _ _ _ _ _ _ _ ld_v1633 ld_v1634 ld_v1640 ld_v1653 ld_v1647 ld_v1656 ld_v1669

theorem ld_v1729 : kernelRun0_A.sl.v1729 c i arg2 harg2 arg3 harg3 arg5 arg6 arg8 arg10 arg11 arg12 arg15 X A = aV 512 0 X (fs X A (i 1).val true) 3 4 :=
  readHalves X _ _ _ 3 4 _ _ _ _ _ st_aL_true_3_4 st_aR_true_3_4

theorem st_m_false_3_0 : k0_pay196 = mV (fs X A (i 1).val false) 3 0 :=
  mInit _ 3

theorem ld_v1394 : kernelRun0_A.sl.v1394 c i arg2 harg2 arg3 harg3 arg10 arg13 arg15 X A = mV (fs X A (i 1).val false) 3 0 :=
  readHit.trans st_m_false_3_0

theorem st_c_false_3_0 : kernelRun0_A.sl.v1193 c i arg2 harg2 arg3 harg3 X A = cV (fs X A (i 1).val false) 3 0 :=
  cOff X A _ false 3 _ (lhF X A i 1536 _ _ (readRows X _ _ 512 1536 0 _) (readAug A _ _ 512 1536 1 _)) 0 (by decide) _ _ (readRows X _ _ 512 0 1 _) (readAug A _ _ 512 0 0 _)

theorem ld_v1395 : kernelRun0_A.sl.v1395 c i arg2 harg2 arg3 harg3 arg10 arg15 X A = cV (fs X A (i 1).val false) 3 0 := by
  refine (readSkip (by decide)).trans ?_
  refine (readSkip (by decide)).trans ?_
  exact readHit.trans st_c_false_3_0

theorem st_m_false_3_1 : kernelRun0_A.sl.v1418 c i arg2 harg2 arg3 harg3 arg10 arg13 arg15 X A = mV (fs X A (i 1).val false) 3 1 :=
  mSt _ 3 0 _ _ ld_v1394 ld_v1395

theorem ld_v1476 : kernelRun0_A.sl.v1476 c i arg2 harg2 arg3 harg3 arg10 arg13 arg15 X A = mV (fs X A (i 1).val false) 3 1 :=
  readHit.trans st_m_false_3_1

theorem st_c_false_3_1 : kernelRun0_A.sl.v1368 c i arg2 harg2 arg3 harg3 X A = cV (fs X A (i 1).val false) 3 1 :=
  cOff X A _ false 3 _ (lhF X A i 1536 _ _ (readRows X _ _ 512 1536 0 _) (readAug A _ _ 512 1536 1 _)) 1 (by decide) _ _ (readRows X _ _ 512 512 1 _) (readAug A _ _ 512 512 0 _)

theorem ld_v1477 : kernelRun0_A.sl.v1477 c i arg2 harg2 arg3 harg3 arg10 arg15 X A = cV (fs X A (i 1).val false) 3 1 := by
  refine (readSkip (by decide)).trans ?_
  refine (readSkip (by decide)).trans ?_
  exact readHit.trans st_c_false_3_1

theorem st_m_false_3_2 : kernelRun0_A.sl.v1500 c i arg2 harg2 arg3 harg3 arg10 arg13 arg15 X A = mV (fs X A (i 1).val false) 3 2 :=
  mSt _ 3 1 _ _ ld_v1476 ld_v1477

theorem ld_v1608 : kernelRun0_A.sl.v1608 c i arg2 harg2 arg3 harg3 arg10 arg13 arg15 X A = mV (fs X A (i 1).val false) 3 2 :=
  readHit.trans st_m_false_3_2

theorem st_c_false_3_2 : kernelRun0_A.sl.v1450 c i arg2 harg2 arg3 harg3 X A = cV (fs X A (i 1).val false) 3 2 :=
  cOff X A _ false 3 _ (lhF X A i 1536 _ _ (readRows X _ _ 512 1536 0 _) (readAug A _ _ 512 1536 1 _)) 2 (by decide) _ _ (readRows X _ _ 512 1024 1 _) (readAug A _ _ 512 1024 0 _)

theorem ld_v1609 : kernelRun0_A.sl.v1609 c i arg2 harg2 arg3 harg3 arg10 arg15 X A = cV (fs X A (i 1).val false) 3 2 := by
  refine (readSkip (by decide)).trans ?_
  refine (readSkip (by decide)).trans ?_
  exact readHit.trans st_c_false_3_2

theorem st_m_false_3_3 : kernelRun0_A.sl.v1632 c i arg2 harg2 arg3 harg3 arg10 arg13 arg15 X A = mV (fs X A (i 1).val false) 3 3 :=
  mSt _ 3 2 _ _ ld_v1608 ld_v1609

theorem ld_v1681 : kernelRun0_A.sl.v1681 c i arg2 harg2 arg3 harg3 arg10 arg13 arg15 X A = mV (fs X A (i 1).val false) 3 3 :=
  readHit.trans st_m_false_3_3

theorem st_c_false_3_3 : kernelRun0_A.sl.v1582 c i arg2 harg2 arg3 harg3 arg15 X A = cV (fs X A (i 1).val false) 3 3 :=
  cDiag X A _ false 3 _ (lhF X A i 1536 _ _ (readRows X _ _ 512 1536 0 _) (readAug A _ _ 512 1536 1 _)) _ _ _ _ _ _ (readRows X _ _ 256 1536 1 _) (readAug A _ _ 256 1536 0 _) (readRows X _ _ 256 1792 1 _) (readAug A _ _ 256 1792 0 _) (readMask _ _ 256 512 0 0 _ _) (readMask _ _ 256 256 256 256 _ _)

theorem ld_v1682 : kernelRun0_A.sl.v1682 c i arg2 harg2 arg3 harg3 arg10 arg15 X A = cV (fs X A (i 1).val false) 3 3 :=
  readHit.trans st_c_false_3_3

theorem st_top_false_3 : kernelRun0_A.sl.v1566 c i arg2 harg2 arg3 harg3 arg15 X A = tB 256 512 (fs X A (i 1).val false) (512 * 3) (512 * 3) :=
  stTop X A _ false 3 _ (lhF X A i 1536 _ _ (readRows X _ _ 512 1536 0 _) (readAug A _ _ 512 1536 1 _)) _ _ _ (readRows X _ _ 256 1536 1 _) (readAug A _ _ 256 1536 0 _) (readMask _ _ 256 512 0 0 _ _)

theorem ld_v1688 : kernelRun0_A.sl.v1688 c i arg2 harg2 arg3 harg3 arg9 arg15 X A = tB 256 512 (fs X A (i 1).val false) (512 * 3) (512 * 3) := by
  refine Eq.trans (readOff (off' := ![0, 0]) _ _ (placed_k0_off1 i) _ (by decide)) ?_
  refine (readSkip (by decide)).trans ?_
  exact readHit.trans st_top_false_3

theorem st_off_false_3_2 : kernelRun0_A.sl.v1445 c i arg2 harg2 arg3 harg3 X A = tB 512 512 (fs X A (i 1).val false) (512 * 3) (512 * 2) :=
  stOff X A _ false 3 _ (lhF X A i 1536 _ _ (readRows X _ _ 512 1536 0 _) (readAug A _ _ 512 1536 1 _)) 2 (by decide) _ _ (readRows X _ _ 512 1024 1 _) (readAug A _ _ 512 1024 0 _)

theorem ld_v1615 : kernelRun0_A.sl.v1615 c i arg2 harg2 arg3 harg3 arg7 arg15 X A = tB 512 512 (fs X A (i 1).val false) (512 * 3) (512 * 2) := by
  refine Eq.trans (readOff (off' := ![0, 0]) _ _ (placed_k0_off3 i) _ (by decide)) ?_
  exact readHit.trans st_off_false_3_2

theorem st_off_false_3_1 : kernelRun0_A.sl.v1363 c i arg2 harg2 arg3 harg3 X A = tB 512 512 (fs X A (i 1).val false) (512 * 3) (512 * 1) :=
  stOff X A _ false 3 _ (lhF X A i 1536 _ _ (readRows X _ _ 512 1536 0 _) (readAug A _ _ 512 1536 1 _)) 1 (by decide) _ _ (readRows X _ _ 512 512 1 _) (readAug A _ _ 512 512 0 _)

theorem ld_v1483 : kernelRun0_A.sl.v1483 c i arg2 harg2 arg3 harg3 arg9 arg15 X A = tB 512 512 (fs X A (i 1).val false) (512 * 3) (512 * 1) := by
  refine Eq.trans (readOff (off' := ![0, 0]) _ _ (placed_k0_off3 i) _ (by decide)) ?_
  exact readHit.trans st_off_false_3_1

theorem st_off_false_3_0 : kernelRun0_A.sl.v1188 c i arg2 harg2 arg3 harg3 X A = tB 512 512 (fs X A (i 1).val false) (512 * 3) (512 * 0) :=
  stOff X A _ false 3 _ (lhF X A i 1536 _ _ (readRows X _ _ 512 1536 0 _) (readAug A _ _ 512 1536 1 _)) 0 (by decide) _ _ (readRows X _ _ 512 0 1 _) (readAug A _ _ 512 0 0 _)

theorem ld_v1401 : kernelRun0_A.sl.v1401 c i arg2 harg2 arg3 harg3 arg7 arg15 X A = tB 512 512 (fs X A (i 1).val false) (512 * 3) (512 * 0) := by
  refine Eq.trans (readOff (off' := ![0, 0]) _ _ (placed_k0_off3 i) _ (by decide)) ?_
  exact readHit.trans st_off_false_3_0

theorem st_a_false_3_0 : k0_pay197 = aV 512 0 X (fs X A (i 1).val false) 3 0 :=
  aInit X _ 3

theorem ld_v1406 : kernelRun0_A.sl.v1406 c i arg2 harg2 arg3 harg3 arg5 arg7 arg9 arg10 arg13 arg14 arg15 X A = aV 512 0 X (fs X A (i 1).val false) 3 0 :=
  readHit.trans st_a_false_3_0

theorem st_a_false_3_1 : kernelRun0_A.sl.v1415 c i arg2 harg2 arg3 harg3 arg5 arg7 arg9 arg10 arg13 arg14 arg15 X A = aV 512 0 X (fs X A (i 1).val false) 3 1 :=
  aOffSt X _ 3 0 (by decide) _ _ _ _ _ ld_v1394 ld_v1395 ld_v1401 ld_v1406 ld_v584

theorem ld_v1488 : kernelRun0_A.sl.v1488 c i arg2 harg2 arg3 harg3 arg5 arg7 arg9 arg10 arg13 arg14 arg15 X A = aV 512 0 X (fs X A (i 1).val false) 3 1 :=
  readHit.trans st_a_false_3_1

theorem st_a_false_3_2 : kernelRun0_A.sl.v1497 c i arg2 harg2 arg3 harg3 arg5 arg7 arg9 arg10 arg13 arg14 arg15 X A = aV 512 0 X (fs X A (i 1).val false) 3 2 :=
  aOffSt X _ 3 1 (by decide) _ _ _ _ _ ld_v1476 ld_v1477 ld_v1483 ld_v1488 ld_v1050

theorem ld_v1620 : kernelRun0_A.sl.v1620 c i arg2 harg2 arg3 harg3 arg5 arg7 arg9 arg10 arg13 arg14 arg15 X A = aV 512 0 X (fs X A (i 1).val false) 3 2 :=
  readHit.trans st_a_false_3_2

theorem st_a_false_3_3 : kernelRun0_A.sl.v1629 c i arg2 harg2 arg3 harg3 arg5 arg7 arg9 arg10 arg13 arg14 arg15 X A = aV 512 0 X (fs X A (i 1).val false) 3 3 :=
  aOffSt X _ 3 2 (by decide) _ _ _ _ _ ld_v1608 ld_v1609 ld_v1615 ld_v1620 ld_v1598

theorem ld_v1708 : kernelRun0_A.sl.v1708 c i arg2 harg2 arg3 harg3 arg5 arg7 arg9 arg10 arg13 arg14 arg15 X A = aV 256 0 X (fs X A (i 1).val false) 3 3 :=
  readHalf X _ _ _ 3 3 0 _ _ _ st_a_false_3_3

theorem st_aL_false_3_4 : kernelRun0_A.sl.v1715 c i arg2 harg2 arg3 harg3 arg5 arg7 arg9 arg10 arg13 arg14 arg15 X A = aV 256 0 X (fs X A (i 1).val false) 3 4 :=
  aLeftSt X _ 3 _ _ _ _ _ ld_v1681 ld_v1682 ld_v1688 ld_v1653 ld_v1708

theorem st_bot_false_3 : kernelRun0_A.sl.v1571 c i arg2 harg2 arg3 harg3 arg15 X A = tB 256 256 (fs X A (i 1).val false) (512 * 3 + 256) (512 * 3 + 256) :=
  stBot X A _ false 3 _ (lhF X A i 1536 _ _ (readRows X _ _ 512 1536 0 _) (readAug A _ _ 512 1536 1 _)) _ _ _ (readRows X _ _ 256 1792 1 _) (readAug A _ _ 256 1792 0 _) (readMask _ _ 256 256 256 256 _ _)

theorem ld_v1695 : kernelRun0_A.sl.v1695 c i arg2 harg2 arg3 harg3 arg9 arg15 X A = tB 256 256 (fs X A (i 1).val false) (512 * 3 + 256) (512 * 3 + 256) := by
  refine Eq.trans (readOff (off' := ![256, 256]) _ _ (placed_k0_off2 i) _ (by decide)) ?_
  exact readHit.trans st_bot_false_3

theorem ld_v1717 : kernelRun0_A.sl.v1717 c i arg2 harg2 arg3 harg3 arg5 arg7 arg9 arg10 arg13 arg14 arg15 X A = aV 256 256 X (fs X A (i 1).val false) 3 3 := by
  refine (readSkip (by decide)).trans ?_
  exact readHalf X _ _ _ 3 3 256 _ _ _ st_a_false_3_3

theorem st_aR_false_3_4 : kernelRun0_A.sl.v1725 c i arg2 harg2 arg3 harg3 arg5 arg7 arg9 arg10 arg13 arg14 arg15 X A = aV 256 256 X (fs X A (i 1).val false) 3 4 :=
  aRightSt X _ 3 _ _ _ _ _ _ _ ld_v1681 ld_v1682 ld_v1688 ld_v1653 ld_v1695 ld_v1656 ld_v1717

theorem ld_v1737 : kernelRun0_A.sl.v1737 c i arg2 harg2 arg3 harg3 arg5 arg7 arg9 arg10 arg13 arg14 arg15 X A = aV 512 0 X (fs X A (i 1).val false) 3 4 :=
  readHalves X _ _ _ 3 4 _ _ _ _ _ st_aL_false_3_4 st_aR_false_3_4

end Cert.Fox.CaseA
-- ==== Proof.FoxOutA.lean ====
module

public import proofs.«01_k».proof.Proof.FoxFinish
public import proofs.«01_k».proof.Proof.FoxChainA
public import Idealize.ShloMosaic.Lib.Pipeline.ValueKit

@[expose] public section

set_option maxRecDepth 16384

noncomputable section

namespace Cert.Fox.CaseA

open Cert.FoxIdeal Cert.FoxIdeal.Gen Cert.Diff Idealize.ShloMosaic Idealize.ShloMosaic.TcCoe

variable (X : Vec Ideal S1x1x4x2048x128 .bf16) (A : Vec Ideal S1x2x2048x128 .bf16) {c : Dev nD} {i : grid0.Coords}
  {arg2 : Memref sig .tc .vmem S1x1x4x2048x128 .bf16} {harg2 : arg2.IsWhole}
  {arg3 : Memref sig .tc .vmem S1x2x2048x128 .bf16} {harg3 : arg3.IsWhole}
  {arg4 : Memref sig .tc .vmem S1x1x2048x128 .bf16} {harg4 : arg4.IsWhole}
  {arg5 : Memref sig .tc .vmem S4x144x512 .bf16} {harg5 : arg5.IsWhole}
  {arg6 : Memref sig .tc .vmem S512x512 .f32} {harg6 : arg6.IsWhole}
  {arg7 : Memref sig .tc .vmem S512x512 .f32} {harg7 : arg7.IsWhole}
  {arg8 : Memref sig .tc .vmem S512x512 .f32} {harg8 : arg8.IsWhole}
  {arg9 : Memref sig .tc .vmem S512x512 .f32} {harg9 : arg9.IsWhole}
  {arg10 : Memref sig .tc .vmem S2x2x1x512 .f32} {harg10 : arg10.IsWhole}
  {arg11 : Memref sig .tc .vmem S1x512 .f32} {harg11 : arg11.IsWhole}
  {arg12 : Memref sig .tc .vmem S144x512 .f32} {harg12 : arg12.IsWhole}
  {arg13 : Memref sig .tc .vmem S1x512 .f32} {harg13 : arg13.IsWhole}
  {arg14 : Memref sig .tc .vmem S144x512 .f32} {harg14 : arg14.IsWhole}
  {arg15 : Memref sig .tc .vmem S1x512x512 .f32} {harg15 : arg15.IsWhole}

theorem tile0 : k0_pay67 k0_pay3 (kernelRun0_A.sl.v440 (F := Ideal) c i arg2 harg2 arg3 harg3 arg5 arg6 arg10 arg11 arg12 arg15 X A) (kernelRun0_A.sl.v448 (F := Ideal) c i arg2 harg2 arg3 harg3 arg5 arg7 arg10 arg13 arg14 arg15 X A) (View.readAt (Elt Ideal) arg2.view (Rect.unit (s := S1x1x4x2048x128) ![0, 0, 3, 0, 0] S1x1x1x512x128.size inb_S1x1x4x2048x128_S1x1x1x512x128_0_0_3_0_0).toLoadRect (harg2.unread X)) = outT X A (i 1).val 0 := by
  refine Eq.trans ?_ (finEq X A (i 1).val 0 _ _ _ (ld_v440 (c := c) (i := i) (arg2 := arg2) (harg2 := harg2) (arg3 := arg3) (harg3 := harg3) (arg5 := arg5) (arg6 := arg6) (arg10 := arg10) (arg11 := arg11) (arg12 := arg12) (arg15 := arg15)) (ld_v448 (c := c) (i := i) (arg2 := arg2) (harg2 := harg2) (arg3 := arg3) (harg3 := harg3) (arg5 := arg5) (arg7 := arg7) (arg10 := arg10) (arg13 := arg13) (arg14 := arg14) (arg15 := arg15)) (readRows X arg2 harg2 512 0 3 (by decide)))
  rfl

theorem tile1 : k0_pay121 k0_pay3 (kernelRun0_A.sl.v824 (F := Ideal) c i arg2 harg2 arg3 harg3 arg5 arg6 arg8 arg10 arg11 arg12 arg15 X A) (kernelRun0_A.sl.v832 (F := Ideal) c i arg2 harg2 arg3 harg3 arg5 arg7 arg9 arg10 arg13 arg14 arg15 X A) (View.readAt (Elt Ideal) arg2.view (Rect.unit (s := S1x1x4x2048x128) ![0, 0, 3, 512, 0] S1x1x1x512x128.size inb_S1x1x4x2048x128_S1x1x1x512x128_0_0_3_512_0).toLoadRect (harg2.unread X)) = outT X A (i 1).val 1 := by
  refine Eq.trans ?_ (finEq X A (i 1).val 1 _ _ _ (ld_v824 (c := c) (i := i) (arg2 := arg2) (harg2 := harg2) (arg3 := arg3) (harg3 := harg3) (arg5 := arg5) (arg6 := arg6) (arg8 := arg8) (arg10 := arg10) (arg11 := arg11) (arg12 := arg12) (arg15 := arg15)) (ld_v832 (c := c) (i := i) (arg2 := arg2) (harg2 := harg2) (arg3 := arg3) (harg3 := harg3) (arg5 := arg5) (arg7 := arg7) (arg9 := arg9) (arg10 := arg10) (arg13 := arg13) (arg14 := arg14) (arg15 := arg15)) (readRows X arg2 harg2 512 512 3 (by decide)))
  rfl

theorem tile2 : k0_pay193 (kernelRun0_A.sl.v1297 (F := Ideal) c i arg2 harg2 arg3 harg3 arg5 arg6 arg8 arg10 arg11 arg12 arg15 X A) (kernelRun0_A.sl.v1305 (F := Ideal) c i arg2 harg2 arg3 harg3 arg5 arg7 arg9 arg10 arg13 arg14 arg15 X A) (kernelRun0_A.sl.v1311 (F := Ideal) c arg2 harg2 X) (k0_pay192 k0_pay3) = outT X A (i 1).val 2 := by
  refine Eq.trans ?_ (finEq X A (i 1).val 2 _ _ _ (ld_v1290 (c := c) (i := i) (arg2 := arg2) (harg2 := harg2) (arg3 := arg3) (harg3 := harg3) (arg5 := arg5) (arg6 := arg6) (arg8 := arg8) (arg10 := arg10) (arg11 := arg11) (arg12 := arg12) (arg15 := arg15)) (ld_v1298 (c := c) (i := i) (arg2 := arg2) (harg2 := harg2) (arg3 := arg3) (harg3 := harg3) (arg5 := arg5) (arg7 := arg7) (arg9 := arg9) (arg10 := arg10) (arg13 := arg13) (arg14 := arg14) (arg15 := arg15)) (readRows X arg2 harg2 512 1024 3 (by decide)))
  rfl

theorem tile3 : k0_pay1 (kernelRun0_A.sl.r_18 (F := Ideal) c i arg2 harg2 arg3 harg3 arg5 arg6 arg7 arg8 arg9 arg10 arg11 arg12 arg13 arg14 arg15 X A) = outT X A (i 1).val 3 := by
  refine Eq.trans ?_ (finEq X A (i 1).val 3 _ _ _ (ld_v1729 (c := c) (i := i) (arg2 := arg2) (harg2 := harg2) (arg3 := arg3) (harg3 := harg3) (arg5 := arg5) (arg6 := arg6) (arg8 := arg8) (arg10 := arg10) (arg11 := arg11) (arg12 := arg12) (arg15 := arg15)) (ld_v1737 (c := c) (i := i) (arg2 := arg2) (harg2 := harg2) (arg3 := arg3) (harg3 := harg3) (arg5 := arg5) (arg7 := arg7) (arg9 := arg9) (arg10 := arg10) (arg13 := arg13) (arg14 := arg14) (arg15 := arg15)) (readRows X arg2 harg2 512 1536 3 (by decide)))
  rfl

theorem out (hc : cond0_0 i) : out0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc X A = outV X A (i 1).val := by
  rw [out0_A_2]
  refine (View.read_writes_junk_eq_canon _ _).trans ?_
  exact canonOut X A (i 1).val _ _ _ _ (tile0 X A) (tile1 X A) (tile2 X A) (tile3 X A) _ _ _ _

theorem tableOut (hc : cond0_0 i) : sout0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc X A = mkV 512 512 0 0 := by
  rw [sout0_A_10]
  refine (View.read_writes_junk_eq_canon _ _).trans ?_
  refine Eq.trans ?_ table
  exact View.canon_cons_unit_lit _ _ _ (by decide)

end Cert.Fox.CaseA
-- ==== Proof.FoxChainB.lean ====
module

public import proofs.«01_k».proof.Proof.FoxSteps

@[expose] public section

set_option maxRecDepth 16384

noncomputable section

namespace Cert.Fox.CaseB

open Cert.FoxIdeal Cert.FoxIdeal.Gen Cert.Diff Idealize.ShloMosaic Idealize.ShloMosaic.TcCoe

variable {X : Vec Ideal S1x1x4x2048x128 .bf16} {A : Vec Ideal S1x2x2048x128 .bf16} {c : Dev nD} {i : grid0.Coords}
  {arg2 : Memref sig .tc .vmem S1x1x4x2048x128 .bf16} {harg2 : arg2.IsWhole}
  {arg3 : Memref sig .tc .vmem S1x2x2048x128 .bf16} {harg3 : arg3.IsWhole}
  {arg5 : Memref sig .tc .vmem S4x144x512 .bf16}
  {arg6 : Memref sig .tc .vmem S512x512 .f32}
  {arg7 : Memref sig .tc .vmem S512x512 .f32}
  {arg8 : Memref sig .tc .vmem S512x512 .f32}
  {arg9 : Memref sig .tc .vmem S512x512 .f32}
  {arg10 : Memref sig .tc .vmem S2x2x1x512 .f32}
  {arg11 : Memref sig .tc .vmem S1x512 .f32}
  {arg12 : Memref sig .tc .vmem S144x512 .f32}
  {arg13 : Memref sig .tc .vmem S1x512 .f32}
  {arg14 : Memref sig .tc .vmem S144x512 .f32}
  {arg15 : Memref sig .tc .vmem S1x512x512 .f32} {harg15 : arg15.IsWhole}

theorem vtFull : View.canon (kernelRun0_B.sl.HS0_8 c arg2 harg2 X) = vtAll X :=
  canonVt X _ (readRows X _ _ 2048 0 2 _) _ _ _ _ _ _ _ _

theorem st_m_true_0_0 : k0_pay34 = mV (fs X A (i 1).val true) 0 0 :=
  mInit _ 0

theorem ld_v344 : kernelRun0_B.sl.v344 (F := Ideal) c arg11 = mV (fs X A (i 1).val true) 0 0 :=
  readHit.trans st_m_true_0_0

theorem st_c_true_0_0 : kernelRun0_B.sl.v177 c i arg2 harg2 arg3 harg3 arg15 harg15 X A (mkV 512 512 0 0) = cV (fs X A (i 1).val true) 0 0 :=
  cDiag X A _ true 0 _ (lhT X A i 0 _ _ (readRows X _ _ 512 0 0 _) (readAug A _ _ 512 0 1 _)) _ _ _ _ _ _ (readRows X _ _ 256 0 1 _) (readAug A _ _ 256 0 0 _) (readRows X _ _ 256 256 1 _) (readAug A _ _ 256 256 0 _) (readMask' _ _ 256 512 0 0 _) (readMask' _ _ 256 256 256 256 _)

theorem ld_v345 : kernelRun0_B.sl.v345 c i arg2 harg2 arg3 harg3 arg10 arg15 harg15 X A (mkV 512 512 0 0) = cV (fs X A (i 1).val true) 0 0 := by
  refine (readSkip (by decide)).trans ?_
  refine (readSkip (by decide)).trans ?_
  refine (readSkip (by decide)).trans ?_
  exact readHit.trans st_c_true_0_0

theorem st_top_true_0 : kernelRun0_B.sl.v161 c i arg2 harg2 arg3 harg3 arg15 harg15 X A (mkV 512 512 0 0) = tB 256 512 (fs X A (i 1).val true) (512 * 0) (512 * 0) :=
  stTop X A _ true 0 _ (lhT X A i 0 _ _ (readRows X _ _ 512 0 0 _) (readAug A _ _ 512 0 1 _)) _ _ _ (readRows X _ _ 256 0 1 _) (readAug A _ _ 256 0 0 _) (readMask' _ _ 256 512 0 0 _)

theorem ld_v351 : kernelRun0_B.sl.v351 c i arg2 harg2 arg3 harg3 arg6 arg15 harg15 X A (mkV 512 512 0 0) = tB 256 512 (fs X A (i 1).val true) (512 * 0) (512 * 0) := by
  refine Eq.trans (readOff (off' := ![0, 0]) _ _ (placed_k0_off1 i) _ (by decide)) ?_
  refine (readSkip (by decide)).trans ?_
  exact readHit.trans st_top_true_0

theorem ld_v364 : kernelRun0_B.sl.v364 c arg2 harg2 arg5 X = vtV 256 (512 * 0 + 0) X :=
  readVt X _ _ (vtFull (X := X)) 256 0 0 _

theorem st_a_true_0_0 : k0_pay35 = aV 512 0 X (fs X A (i 1).val true) 0 0 :=
  aInit X _ 0

theorem ld_v371 : kernelRun0_B.sl.v371 (F := Ideal) c arg12 = aV 256 0 X (fs X A (i 1).val true) 0 0 :=
  readHalf X _ _ _ 0 0 0 _ _ _ st_a_true_0_0

theorem st_aL_true_0_1 : kernelRun0_B.sl.v378 c i arg2 harg2 arg3 harg3 arg5 arg6 arg10 arg11 arg12 arg15 harg15 X A (mkV 512 512 0 0) = aV 256 0 X (fs X A (i 1).val true) 0 1 :=
  aLeftSt X _ 0 _ _ _ _ _ ld_v344 ld_v345 ld_v351 ld_v364 ld_v371

theorem st_bot_true_0 : kernelRun0_B.sl.v166 c i arg2 harg2 arg3 harg3 arg15 harg15 X A (mkV 512 512 0 0) = tB 256 256 (fs X A (i 1).val true) (512 * 0 + 256) (512 * 0 + 256) :=
  stBot X A _ true 0 _ (lhT X A i 0 _ _ (readRows X _ _ 512 0 0 _) (readAug A _ _ 512 0 1 _)) _ _ _ (readRows X _ _ 256 256 1 _) (readAug A _ _ 256 256 0 _) (readMask' _ _ 256 256 256 256 _)

theorem ld_v358 : kernelRun0_B.sl.v358 c i arg2 harg2 arg3 harg3 arg6 arg15 harg15 X A (mkV 512 512 0 0) = tB 256 256 (fs X A (i 1).val true) (512 * 0 + 256) (512 * 0 + 256) := by
  refine Eq.trans (readOff (off' := ![256, 256]) _ _ (placed_k0_off2 i) _ (by decide)) ?_
  exact readHit.trans st_bot_true_0

theorem ld_v367 : kernelRun0_B.sl.v367 c arg2 harg2 arg5 X = vtV 256 (512 * 0 + 256) X :=
  readVt X _ _ (vtFull (X := X)) 256 0 256 _

theorem ld_v380 : kernelRun0_B.sl.v380 c i arg2 harg2 arg3 harg3 arg5 arg6 arg10 arg11 arg12 arg15 harg15 X A (mkV 512 512 0 0) = aV 256 256 X (fs X A (i 1).val true) 0 0 := by
  refine (readSkip (by decide)).trans ?_
  exact readHalf X _ _ _ 0 0 256 _ _ _ st_a_true_0_0

theorem st_aR_true_0_1 : kernelRun0_B.sl.v388 c i arg2 harg2 arg3 harg3 arg5 arg6 arg10 arg11 arg12 arg15 harg15 X A (mkV 512 512 0 0) = aV 256 256 X (fs X A (i 1).val true) 0 1 :=
  aRightSt X _ 0 _ _ _ _ _ _ _ ld_v344 ld_v345 ld_v351 ld_v364 ld_v358 ld_v367 ld_v380

theorem ld_v440 : kernelRun0_B.sl.v440 c i arg2 harg2 arg3 harg3 arg5 arg6 arg10 arg11 arg12 arg15 harg15 X A (mkV 512 512 0 0) = aV 512 0 X (fs X A (i 1).val true) 0 1 :=
  readHalves X _ _ _ 0 1 _ _ _ _ _ st_aL_true_0_1 st_aR_true_0_1

theorem st_m_false_0_0 : k0_pay36 = mV (fs X A (i 1).val false) 0 0 :=
  mInit _ 0

theorem ld_v392 : kernelRun0_B.sl.v392 (F := Ideal) c arg13 = mV (fs X A (i 1).val false) 0 0 :=
  readHit.trans st_m_false_0_0

theorem st_c_false_0_0 : k0_pay33 (kernelRun0_B.sl.v209 c i arg2 harg2 arg3 harg3 arg15 harg15 X A (mkV 512 512 0 0)) (kernelRun0_B.sl.v211 c i arg2 harg2 arg3 harg3 arg15 harg15 X A (mkV 512 512 0 0)) = cV (fs X A (i 1).val false) 0 0 :=
  cDiag X A _ false 0 _ (lhF X A i 0 _ _ (readRows X _ _ 512 0 0 _) (readAug A _ _ 512 0 1 _)) _ _ _ _ _ _ (readRows X _ _ 256 0 1 _) (readAug A _ _ 256 0 0 _) (readRows X _ _ 256 256 1 _) (readAug A _ _ 256 256 0 _) (readMask' _ _ 256 512 0 0 _) (readMask' _ _ 256 256 256 256 _)

theorem ld_v393 : kernelRun0_B.sl.v393 c i arg2 harg2 arg3 harg3 arg10 arg15 harg15 X A (mkV 512 512 0 0) = cV (fs X A (i 1).val false) 0 0 := by
  refine (readSkip (by decide)).trans ?_
  refine (readSkip (by decide)).trans ?_
  exact readHit.trans st_c_false_0_0

theorem st_top_false_0 : kernelRun0_B.sl.v202 c i arg2 harg2 arg3 harg3 arg15 harg15 X A (mkV 512 512 0 0) = tB 256 512 (fs X A (i 1).val false) (512 * 0) (512 * 0) :=
  stTop X A _ false 0 _ (lhF X A i 0 _ _ (readRows X _ _ 512 0 0 _) (readAug A _ _ 512 0 1 _)) _ _ _ (readRows X _ _ 256 0 1 _) (readAug A _ _ 256 0 0 _) (readMask' _ _ 256 512 0 0 _)

theorem ld_v399 : kernelRun0_B.sl.v399 c i arg2 harg2 arg3 harg3 arg7 arg15 harg15 X A (mkV 512 512 0 0) = tB 256 512 (fs X A (i 1).val false) (512 * 0) (512 * 0) := by
  refine Eq.trans (readOff (off' := ![0, 0]) _ _ (placed_k0_off1 i) _ (by decide)) ?_
  refine (readSkip (by decide)).trans ?_
  exact readHit.trans st_top_false_0

theorem st_a_false_0_0 : k0_pay37 = aV 512 0 X (fs X A (i 1).val false) 0 0 :=
  aInit X _ 0

theorem ld_v419 : kernelRun0_B.sl.v419 (F := Ideal) c arg14 = aV 256 0 X (fs X A (i 1).val false) 0 0 :=
  readHalf X _ _ _ 0 0 0 _ _ _ st_a_false_0_0

theorem st_aL_false_0_1 : kernelRun0_B.sl.v426 c i arg2 harg2 arg3 harg3 arg5 arg7 arg10 arg13 arg14 arg15 harg15 X A (mkV 512 512 0 0) = aV 256 0 X (fs X A (i 1).val false) 0 1 :=
  aLeftSt X _ 0 _ _ _ _ _ ld_v392 ld_v393 ld_v399 ld_v364 ld_v419

theorem st_bot_false_0 : kernelRun0_B.sl.v207 c i arg2 harg2 arg3 harg3 arg15 harg15 X A (mkV 512 512 0 0) = tB 256 256 (fs X A (i 1).val false) (512 * 0 + 256) (512 * 0 + 256) :=
  stBot X A _ false 0 _ (lhF X A i 0 _ _ (readRows X _ _ 512 0 0 _) (readAug A _ _ 512 0 1 _)) _ _ _ (readRows X _ _ 256 256 1 _) (readAug A _ _ 256 256 0 _) (readMask' _ _ 256 256 256 256 _)

theorem ld_v406 : kernelRun0_B.sl.v406 c i arg2 harg2 arg3 harg3 arg7 arg15 harg15 X A (mkV 512 512 0 0) = tB 256 256 (fs X A (i 1).val false) (512 * 0 + 256) (512 * 0 + 256) := by
  refine Eq.trans (readOff (off' := ![256, 256]) _ _ (placed_k0_off2 i) _ (by decide)) ?_
  exact readHit.trans st_bot_false_0

theorem ld_v428 : kernelRun0_B.sl.v428 c i arg2 harg2 arg3 harg3 arg5 arg7 arg10 arg13 arg14 arg15 harg15 X A (mkV 512 512 0 0) = aV 256 256 X (fs X A (i 1).val false) 0 0 := by
  refine (readSkip (by decide)).trans ?_
  exact readHalf X _ _ _ 0 0 256 _ _ _ st_a_false_0_0

theorem st_aR_false_0_1 : k0_pay65 (kernelRun0_B.sl.v417 c i arg2 harg2 arg3 harg3 arg5 arg7 arg10 arg13 arg15 harg15 X A (mkV 512 512 0 0)) (kernelRun0_B.sl.v430 c i arg2 harg2 arg3 harg3 arg5 arg7 arg10 arg13 arg14 arg15 harg15 X A (mkV 512 512 0 0)) (kernelRun0_B.sl.v431 c i arg2 harg2 arg3 harg3 arg5 arg7 arg10 arg13 arg15 harg15 X A (mkV 512 512 0 0)) = aV 256 256 X (fs X A (i 1).val false) 0 1 :=
  aRightSt X _ 0 _ _ _ _ _ _ _ ld_v392 ld_v393 ld_v399 ld_v364 ld_v406 ld_v367 ld_v428

theorem ld_v448 : kernelRun0_B.sl.v448 c i arg2 harg2 arg3 harg3 arg5 arg7 arg10 arg13 arg14 arg15 harg15 X A (mkV 512 512 0 0) = aV 512 0 X (fs X A (i 1).val false) 0 1 :=
  readHalves X _ _ _ 0 1 _ _ _ _ _ st_aL_false_0_1 st_aR_false_0_1

theorem st_m_true_1_0 : k0_pay68 kernelRun0_B.sl.cst_261 (F := Ideal) = mV (fs X A (i 1).val true) 1 0 :=
  mInit _ 1

theorem ld_v569 : kernelRun0_B.sl.v569 c i arg2 harg2 arg3 harg3 arg10 arg11 arg15 harg15 X A (mkV 512 512 0 0) = mV (fs X A (i 1).val true) 1 0 :=
  readHit.trans st_m_true_1_0

theorem st_c_true_1_0 : kernelRun0_B.sl.v327 c i arg2 harg2 arg3 harg3 X A = cV (fs X A (i 1).val true) 1 0 :=
  cOff X A _ true 1 _ (lhT X A i 512 _ _ (readRows X _ _ 512 512 0 _) (readAug A _ _ 512 512 1 _)) 0 (by decide) _ _ (readRows X _ _ 512 0 1 _) (readAug A _ _ 512 0 0 _)

theorem ld_v570 : kernelRun0_B.sl.v570 c i arg2 harg2 arg3 harg3 arg10 arg15 harg15 X A (mkV 512 512 0 0) = cV (fs X A (i 1).val true) 1 0 := by
  refine (readSkip (by decide)).trans ?_
  refine (readSkip (by decide)).trans ?_
  refine (readSkip (by decide)).trans ?_
  exact readHit.trans st_c_true_1_0

theorem st_m_true_1_1 : kernelRun0_B.sl.v593 c i arg2 harg2 arg3 harg3 arg10 arg11 arg15 harg15 X A (mkV 512 512 0 0) = mV (fs X A (i 1).val true) 1 1 :=
  mSt _ 1 0 _ _ ld_v569 ld_v570

theorem ld_v728 : kernelRun0_B.sl.v728 c i arg2 harg2 arg3 harg3 arg10 arg11 arg15 harg15 X A (mkV 512 512 0 0) = mV (fs X A (i 1).val true) 1 1 :=
  readHit.trans st_m_true_1_1

theorem st_c_true_1_1 : kernelRun0_B.sl.v527 c i arg2 harg2 arg3 harg3 arg15 harg15 X A (mkV 512 512 0 0) = cV (fs X A (i 1).val true) 1 1 :=
  by
  refine Eq.trans ?_ (cDiag X A _ true 1 _ (lhT X A i 512 _ _ (readRows X arg2 harg2 512 512 0 (by decide)) (readAug A arg3 harg3 512 512 1 (by decide))) _ _ _ _ _ _ (readRows X arg2 harg2 256 512 1 (by decide)) (readAug A arg3 harg3 256 512 0 (by decide)) (readRows X arg2 harg2 256 768 1 (by decide)) (readAug A arg3 harg3 256 768 0 (by decide)) (readMask' arg15 harg15 256 512 0 0 (by decide)) (readMask' arg15 harg15 256 256 256 256 (by decide)))
  dsimp only [unitW, k0_pay26, k0_pay31, k0_pay27, k0_pay32, k0_pay28, k0_pay30, k0_pay29, k0_pay23, k0_pay22, k0_pay25, k0_pay198, k0_pay16, k0_pay20, k0_pay19, k0_pay17, k0_pay18, k0_pay15, k0_pay21, kernelRun0_B.sl.v527, kernelRun0_B.sl.v524, kernelRun0_B.sl.v523, kernelRun0_B.sl.v520, kernelRun0_B.sl.v519, kernelRun0_B.sl.v507, kernelRun0_B.sl.v156, kernelRun0_B.sl.v504, kernelRun0_B.sl.cst_77, kernelRun0_B.sl.v503, kernelRun0_B.sl.v282, kernelRun0_B.sl.v281, kernelRun0_B.sl.v280, kernelRun0_B.sl.v68, kernelRun0_B.sl.cst_35, kernelRun0_B.sl.v253, kernelRun0_B.sl.v252, kernelRun0_B.sl.v103, kernelRun0_B.sl.v102, kernelRun0_B.sl.v101, kernelRun0_B.sl.v99, kernelRun0_B.sl.v8, kernelRun0_B.sl.v98, kernelRun0_B.sl.v97, kernelRun0_B.sl.v80, kernelRun0_B.sl.v79, kernelRun0_B.sl.v7, kernelRun0_B.sl.v6, kernelRun0_B.sl.v5, kernelRun0_B.sl.v96, kernelRun0_B.sl.v83, kernelRun0_B.sl.v95, kernelRun0_B.sl.v86, kernelRun0_B.sl.v85, kernelRun0_B.sl.v92, kernelRun0_B.sl.v90, kernelRun0_B.sl.v88, kernelRun0_B.sl.v245, kernelRun0_B.sl.r_4, k0_pay3, k0_pay8, k0_pay4, k0_pay7, k0_pay5, k0_pay6, k0_pay39, k0_pay38, kernelRun0_B.sl.v502, kernelRun0_B.sl.v501, kernelRun0_B.sl.r_6, k0_pay73, k0_pay77, k0_pay74, k0_pay76, kernelRun0_B.sl.v522, kernelRun0_B.sl.v518, kernelRun0_B.sl.v517, kernelRun0_B.sl.r_5, k0_pay72, kernelRun0_B.sl.v521]
  rfl

theorem ld_v729 : kernelRun0_B.sl.v729 c i arg2 harg2 arg3 harg3 arg10 arg15 harg15 X A (mkV 512 512 0 0) = cV (fs X A (i 1).val true) 1 1 := by
  refine (readSkip (by decide)).trans ?_
  refine (readSkip (by decide)).trans ?_
  refine (readSkip (by decide)).trans ?_
  exact readHit.trans st_c_true_1_1

theorem st_top_true_1 : kernelRun0_B.sl.v511 c i arg2 harg2 arg3 harg3 arg15 harg15 X A (mkV 512 512 0 0) = tB 256 512 (fs X A (i 1).val true) (512 * 1) (512 * 1) :=
  stTop X A _ true 1 _ (lhT X A i 512 _ _ (readRows X _ _ 512 512 0 _) (readAug A _ _ 512 512 1 _)) _ _ _ (readRows X _ _ 256 512 1 _) (readAug A _ _ 256 512 0 _) (readMask' _ _ 256 512 0 0 _)

theorem ld_v735 : kernelRun0_B.sl.v735 c i arg2 harg2 arg3 harg3 arg6 arg15 harg15 X A (mkV 512 512 0 0) = tB 256 512 (fs X A (i 1).val true) (512 * 1) (512 * 1) := by
  refine Eq.trans (readOff (off' := ![0, 0]) _ _ (placed_k0_off1 i) _ (by decide)) ?_
  refine (readSkip (by decide)).trans ?_
  exact readHit.trans st_top_true_1

theorem ld_v748 : kernelRun0_B.sl.v748 c arg2 harg2 arg5 X = vtV 256 (512 * 1 + 0) X :=
  readVt X _ _ (vtFull (X := X)) 256 1 0 _

theorem st_off_true_1_0 : kernelRun0_B.sl.v322 c i arg2 harg2 arg3 harg3 X A = tB 512 512 (fs X A (i 1).val true) (512 * 1) (512 * 0) :=
  stOff X A _ true 1 _ (lhT X A i 512 _ _ (readRows X _ _ 512 512 0 _) (readAug A _ _ 512 512 1 _)) 0 (by decide) _ _ (readRows X _ _ 512 0 1 _) (readAug A _ _ 512 0 0 _)

theorem ld_v576 : kernelRun0_B.sl.v576 c i arg2 harg2 arg3 harg3 arg8 X A = tB 512 512 (fs X A (i 1).val true) (512 * 1) (512 * 0) := by
  refine Eq.trans (readOff (off' := ![0, 0]) _ _ (placed_k0_off3 i) _ (by decide)) ?_
  exact readHit.trans st_off_true_1_0

theorem st_a_true_1_0 : k0_pay69 = aV 512 0 X (fs X A (i 1).val true) 1 0 :=
  aInit X _ 1

theorem ld_v581 : kernelRun0_B.sl.v581 c i arg2 harg2 arg3 harg3 arg5 arg6 arg10 arg11 arg12 arg15 harg15 X A (mkV 512 512 0 0) = aV 512 0 X (fs X A (i 1).val true) 1 0 :=
  readHit.trans st_a_true_1_0

theorem ld_v584 : kernelRun0_B.sl.v584 c arg2 harg2 arg5 X = vtV 512 (512 * 0 + 0) X :=
  readVt X _ _ (vtFull (X := X)) 512 0 0 _

theorem st_a_true_1_1 : kernelRun0_B.sl.v590 c i arg2 harg2 arg3 harg3 arg5 arg6 arg8 arg10 arg11 arg12 arg15 harg15 X A (mkV 512 512 0 0) = aV 512 0 X (fs X A (i 1).val true) 1 1 :=
  aOffSt X _ 1 0 (by decide) _ _ _ _ _ ld_v569 ld_v570 ld_v576 ld_v581 ld_v584

theorem ld_v755 : kernelRun0_B.sl.v755 c i arg2 harg2 arg3 harg3 arg5 arg6 arg8 arg10 arg11 arg12 arg15 harg15 X A (mkV 512 512 0 0) = aV 256 0 X (fs X A (i 1).val true) 1 1 :=
  readHalf X _ _ _ 1 1 0 _ _ _ st_a_true_1_1

theorem st_aL_true_1_2 : kernelRun0_B.sl.v762 c i arg2 harg2 arg3 harg3 arg5 arg6 arg8 arg10 arg11 arg12 arg15 harg15 X A (mkV 512 512 0 0) = aV 256 0 X (fs X A (i 1).val true) 1 2 :=
  aLeftSt X _ 1 _ _ _ _ _ ld_v728 ld_v729 ld_v735 ld_v748 ld_v755

theorem st_bot_true_1 : kernelRun0_B.sl.v516 c i arg2 harg2 arg3 harg3 arg15 harg15 X A (mkV 512 512 0 0) = tB 256 256 (fs X A (i 1).val true) (512 * 1 + 256) (512 * 1 + 256) :=
  by
  refine Eq.trans ?_ (stBot X A _ true 1 _ (lhT X A i 512 _ _ (readRows X arg2 harg2 512 512 0 (by decide)) (readAug A arg3 harg3 512 512 1 (by decide))) _ _ _ (readRows X arg2 harg2 256 768 1 (by decide)) (readAug A arg3 harg3 256 768 0 (by decide)) (readMask' arg15 harg15 256 256 256 256 (by decide)))
  dsimp only [unitW, k0_pay26, k0_pay31, k0_pay27, k0_pay32, k0_pay28, k0_pay30, k0_pay29, k0_pay23, k0_pay22, k0_pay25, k0_pay198, k0_pay16, k0_pay20, k0_pay19, k0_pay17, k0_pay18, k0_pay15, k0_pay21, kernelRun0_B.sl.v516, kernelRun0_B.sl.v507, kernelRun0_B.sl.v156, kernelRun0_B.sl.v504, kernelRun0_B.sl.cst_77, kernelRun0_B.sl.v503, kernelRun0_B.sl.v282, kernelRun0_B.sl.v281, kernelRun0_B.sl.v280, kernelRun0_B.sl.v68, kernelRun0_B.sl.cst_35, kernelRun0_B.sl.v253, kernelRun0_B.sl.v252, kernelRun0_B.sl.v103, kernelRun0_B.sl.v102, kernelRun0_B.sl.v101, kernelRun0_B.sl.v99, kernelRun0_B.sl.v8, kernelRun0_B.sl.v98, kernelRun0_B.sl.v97, kernelRun0_B.sl.v80, kernelRun0_B.sl.v79, kernelRun0_B.sl.v7, kernelRun0_B.sl.v6, kernelRun0_B.sl.v5, kernelRun0_B.sl.v96, kernelRun0_B.sl.v83, kernelRun0_B.sl.v95, kernelRun0_B.sl.v86, kernelRun0_B.sl.v85, kernelRun0_B.sl.v92, kernelRun0_B.sl.v90, kernelRun0_B.sl.v88, kernelRun0_B.sl.v245, kernelRun0_B.sl.r_4, k0_pay3, k0_pay8, k0_pay4, k0_pay7, k0_pay5, k0_pay6, k0_pay39, k0_pay38, kernelRun0_B.sl.v502, kernelRun0_B.sl.v501, kernelRun0_B.sl.r_6, k0_pay73, k0_pay77, k0_pay74, k0_pay76]
  rfl

theorem ld_v742 : kernelRun0_B.sl.v742 c i arg2 harg2 arg3 harg3 arg6 arg15 harg15 X A (mkV 512 512 0 0) = tB 256 256 (fs X A (i 1).val true) (512 * 1 + 256) (512 * 1 + 256) := by
  refine Eq.trans (readOff (off' := ![256, 256]) _ _ (placed_k0_off2 i) _ (by decide)) ?_
  exact readHit.trans st_bot_true_1

theorem ld_v751 : kernelRun0_B.sl.v751 c arg2 harg2 arg5 X = vtV 256 (512 * 1 + 256) X :=
  readVt X _ _ (vtFull (X := X)) 256 1 256 _

theorem ld_v764 : kernelRun0_B.sl.v764 c i arg2 harg2 arg3 harg3 arg5 arg6 arg8 arg10 arg11 arg12 arg15 harg15 X A (mkV 512 512 0 0) = aV 256 256 X (fs X A (i 1).val true) 1 1 := by
  refine (readSkip (by decide)).trans ?_
  exact readHalf X _ _ _ 1 1 256 _ _ _ st_a_true_1_1

theorem st_aR_true_1_2 : kernelRun0_B.sl.v772 c i arg2 harg2 arg3 harg3 arg5 arg6 arg8 arg10 arg11 arg12 arg15 harg15 X A (mkV 512 512 0 0) = aV 256 256 X (fs X A (i 1).val true) 1 2 :=
  aRightSt X _ 1 _ _ _ _ _ _ _ ld_v728 ld_v729 ld_v735 ld_v748 ld_v742 ld_v751 ld_v764

theorem ld_v824 : kernelRun0_B.sl.v824 c i arg2 harg2 arg3 harg3 arg5 arg6 arg8 arg10 arg11 arg12 arg15 harg15 X A (mkV 512 512 0 0) = aV 512 0 X (fs X A (i 1).val true) 1 2 :=
  readHalves X _ _ _ 1 2 _ _ _ _ _ st_aL_true_1_2 st_aR_true_1_2

theorem st_m_false_1_0 : k0_pay70 = mV (fs X A (i 1).val false) 1 0 :=
  mInit _ 1

theorem ld_v594 : kernelRun0_B.sl.v594 c i arg2 harg2 arg3 harg3 arg10 arg13 arg15 harg15 X A (mkV 512 512 0 0) = mV (fs X A (i 1).val false) 1 0 :=
  readHit.trans st_m_false_1_0

theorem st_c_false_1_0 : kernelRun0_B.sl.v343 c i arg2 harg2 arg3 harg3 X A = cV (fs X A (i 1).val false) 1 0 :=
  cOff X A _ false 1 _ (lhF X A i 512 _ _ (readRows X _ _ 512 512 0 _) (readAug A _ _ 512 512 1 _)) 0 (by decide) _ _ (readRows X _ _ 512 0 1 _) (readAug A _ _ 512 0 0 _)

theorem ld_v595 : kernelRun0_B.sl.v595 c i arg2 harg2 arg3 harg3 arg10 arg15 harg15 X A (mkV 512 512 0 0) = cV (fs X A (i 1).val false) 1 0 := by
  refine (readSkip (by decide)).trans ?_
  refine (readSkip (by decide)).trans ?_
  exact readHit.trans st_c_false_1_0

theorem st_m_false_1_1 : k0_pay91 (kernelRun0_B.sl.v597 c i arg2 harg2 arg3 harg3 arg10 arg13 arg15 harg15 X A (mkV 512 512 0 0)) = mV (fs X A (i 1).val false) 1 1 :=
  mSt _ 1 0 _ _ ld_v594 ld_v595

theorem ld_v776 : kernelRun0_B.sl.v776 c i arg2 harg2 arg3 harg3 arg10 arg13 arg15 harg15 X A (mkV 512 512 0 0) = mV (fs X A (i 1).val false) 1 1 :=
  readHit.trans st_m_false_1_1

theorem st_c_false_1_1 : kernelRun0_B.sl.v568 c i arg2 harg2 arg3 harg3 arg15 harg15 X A (mkV 512 512 0 0) = cV (fs X A (i 1).val false) 1 1 :=
  cDiag X A _ false 1 _ (lhF X A i 512 _ _ (readRows X _ _ 512 512 0 _) (readAug A _ _ 512 512 1 _)) _ _ _ _ _ _ (readRows X _ _ 256 512 1 _) (readAug A _ _ 256 512 0 _) (readRows X _ _ 256 768 1 _) (readAug A _ _ 256 768 0 _) (readMask' _ _ 256 512 0 0 _) (readMask' _ _ 256 256 256 256 _)

theorem ld_v777 : kernelRun0_B.sl.v777 c i arg2 harg2 arg3 harg3 arg10 arg15 harg15 X A (mkV 512 512 0 0) = cV (fs X A (i 1).val false) 1 1 := by
  refine (readSkip (by decide)).trans ?_
  refine (readSkip (by decide)).trans ?_
  exact readHit.trans st_c_false_1_1

theorem st_top_false_1 : kernelRun0_B.sl.v552 c i arg2 harg2 arg3 harg3 arg15 harg15 X A (mkV 512 512 0 0) = tB 256 512 (fs X A (i 1).val false) (512 * 1) (512 * 1) :=
  stTop X A _ false 1 _ (lhF X A i 512 _ _ (readRows X _ _ 512 512 0 _) (readAug A _ _ 512 512 1 _)) _ _ _ (readRows X _ _ 256 512 1 _) (readAug A _ _ 256 512 0 _) (readMask' _ _ 256 512 0 0 _)

theorem ld_v783 : kernelRun0_B.sl.v783 c i arg2 harg2 arg3 harg3 arg7 arg15 harg15 X A (mkV 512 512 0 0) = tB 256 512 (fs X A (i 1).val false) (512 * 1) (512 * 1) := by
  refine Eq.trans (readOff (off' := ![0, 0]) _ _ (placed_k0_off1 i) _ (by decide)) ?_
  refine (readSkip (by decide)).trans ?_
  exact readHit.trans st_top_false_1

theorem st_off_false_1_0 : kernelRun0_B.sl.v338 c i arg2 harg2 arg3 harg3 X A = tB 512 512 (fs X A (i 1).val false) (512 * 1) (512 * 0) :=
  stOff X A _ false 1 _ (lhF X A i 512 _ _ (readRows X _ _ 512 512 0 _) (readAug A _ _ 512 512 1 _)) 0 (by decide) _ _ (readRows X _ _ 512 0 1 _) (readAug A _ _ 512 0 0 _)

theorem ld_v601 : kernelRun0_B.sl.v601 c i arg2 harg2 arg3 harg3 arg9 X A = tB 512 512 (fs X A (i 1).val false) (512 * 1) (512 * 0) := by
  refine Eq.trans (readOff (off' := ![0, 0]) _ _ (placed_k0_off3 i) _ (by decide)) ?_
  exact readHit.trans st_off_false_1_0

theorem st_a_false_1_0 : k0_pay71 = aV 512 0 X (fs X A (i 1).val false) 1 0 :=
  aInit X _ 1

theorem ld_v606 : kernelRun0_B.sl.v606 c i arg2 harg2 arg3 harg3 arg5 arg7 arg10 arg13 arg14 arg15 harg15 X A (mkV 512 512 0 0) = aV 512 0 X (fs X A (i 1).val false) 1 0 :=
  readHit.trans st_a_false_1_0

theorem st_a_false_1_1 : k0_pay90 (kernelRun0_B.sl.v597 c i arg2 harg2 arg3 harg3 arg10 arg13 arg15 harg15 X A (mkV 512 512 0 0)) (kernelRun0_B.sl.v598 c i arg2 harg2 arg3 harg3 arg10 arg13 arg15 harg15 X A (mkV 512 512 0 0)) (kernelRun0_B.sl.v601 c i arg2 harg2 arg3 harg3 arg9 X A) (kernelRun0_B.sl.v606 c i arg2 harg2 arg3 harg3 arg5 arg7 arg10 arg13 arg14 arg15 harg15 X A (mkV 512 512 0 0)) (kernelRun0_B.sl.v609 c arg2 harg2 arg5 X) = aV 512 0 X (fs X A (i 1).val false) 1 1 :=
  aOffSt X _ 1 0 (by decide) _ _ _ _ _ ld_v594 ld_v595 ld_v601 ld_v606 ld_v584

theorem ld_v803 : kernelRun0_B.sl.v803 c i arg2 harg2 arg3 harg3 arg5 arg7 arg9 arg10 arg13 arg14 arg15 harg15 X A (mkV 512 512 0 0) = aV 256 0 X (fs X A (i 1).val false) 1 1 :=
  readHalf X _ _ _ 1 1 0 _ _ _ st_a_false_1_1

theorem st_aL_false_1_2 : kernelRun0_B.sl.v810 c i arg2 harg2 arg3 harg3 arg5 arg7 arg9 arg10 arg13 arg14 arg15 harg15 X A (mkV 512 512 0 0) = aV 256 0 X (fs X A (i 1).val false) 1 2 :=
  aLeftSt X _ 1 _ _ _ _ _ ld_v776 ld_v777 ld_v783 ld_v748 ld_v803

theorem st_bot_false_1 : kernelRun0_B.sl.v557 c i arg2 harg2 arg3 harg3 arg15 harg15 X A (mkV 512 512 0 0) = tB 256 256 (fs X A (i 1).val false) (512 * 1 + 256) (512 * 1 + 256) :=
  stBot X A _ false 1 _ (lhF X A i 512 _ _ (readRows X _ _ 512 512 0 _) (readAug A _ _ 512 512 1 _)) _ _ _ (readRows X _ _ 256 768 1 _) (readAug A _ _ 256 768 0 _) (readMask' _ _ 256 256 256 256 _)

theorem ld_v790 : kernelRun0_B.sl.v790 c i arg2 harg2 arg3 harg3 arg7 arg15 harg15 X A (mkV 512 512 0 0) = tB 256 256 (fs X A (i 1).val false) (512 * 1 + 256) (512 * 1 + 256) := by
  refine Eq.trans (readOff (off' := ![256, 256]) _ _ (placed_k0_off2 i) _ (by decide)) ?_
  exact readHit.trans st_bot_false_1

theorem ld_v812 : kernelRun0_B.sl.v812 c i arg2 harg2 arg3 harg3 arg5 arg7 arg9 arg10 arg13 arg14 arg15 harg15 X A (mkV 512 512 0 0) = aV 256 256 X (fs X A (i 1).val false) 1 1 := by
  refine (readSkip (by decide)).trans ?_
  exact readHalf X _ _ _ 1 1 256 _ _ _ st_a_false_1_1

theorem st_aR_false_1_2 : kernelRun0_B.sl.v820 c i arg2 harg2 arg3 harg3 arg5 arg7 arg9 arg10 arg13 arg14 arg15 harg15 X A (mkV 512 512 0 0) = aV 256 256 X (fs X A (i 1).val false) 1 2 :=
  aRightSt X _ 1 _ _ _ _ _ _ _ ld_v776 ld_v777 ld_v783 ld_v748 ld_v790 ld_v751 ld_v812

theorem ld_v832 : kernelRun0_B.sl.v832 c i arg2 harg2 arg3 harg3 arg5 arg7 arg9 arg10 arg13 arg14 arg15 harg15 X A (mkV 512 512 0 0) = aV 512 0 X (fs X A (i 1).val false) 1 2 :=
  readHalves X _ _ _ 1 2 _ _ _ _ _ st_aL_false_1_2 st_aR_false_1_2

theorem st_m_true_2_0 : k0_pay122 = mV (fs X A (i 1).val true) 2 0 :=
  mInit _ 2

theorem ld_v903 : kernelRun0_B.sl.v903 c i arg2 harg2 arg3 harg3 arg10 arg11 arg15 harg15 X A (mkV 512 512 0 0) = mV (fs X A (i 1).val true) 2 0 :=
  readHit.trans st_m_true_2_0

theorem st_c_true_2_0 : kernelRun0_B.sl.v711 c i arg2 harg2 arg3 harg3 X A = cV (fs X A (i 1).val true) 2 0 :=
  cOff X A _ true 2 _ (lhT X A i 1024 _ _ (readRows X _ _ 512 1024 0 _) (readAug A _ _ 512 1024 1 _)) 0 (by decide) _ _ (readRows X _ _ 512 0 1 _) (readAug A _ _ 512 0 0 _)

theorem ld_v904 : kernelRun0_B.sl.v904 c i arg2 harg2 arg3 harg3 arg10 arg15 harg15 X A (mkV 512 512 0 0) = cV (fs X A (i 1).val true) 2 0 := by
  refine (readSkip (by decide)).trans ?_
  refine (readSkip (by decide)).trans ?_
  refine (readSkip (by decide)).trans ?_
  exact readHit.trans st_c_true_2_0

theorem st_m_true_2_1 : kernelRun0_B.sl.v927 c i arg2 harg2 arg3 harg3 arg10 arg11 arg15 harg15 X A (mkV 512 512 0 0) = mV (fs X A (i 1).val true) 2 1 :=
  mSt _ 2 0 _ _ ld_v903 ld_v904

theorem ld_v1035 : kernelRun0_B.sl.v1035 c i arg2 harg2 arg3 harg3 arg10 arg11 arg15 harg15 X A (mkV 512 512 0 0) = mV (fs X A (i 1).val true) 2 1 :=
  readHit.trans st_m_true_2_1

theorem st_c_true_2_1 : k0_pay129 (kernelRun0_B.sl.v666 c i arg2 harg2 arg3 harg3 X A) (View.readAt (Elt Ideal) arg2.view (Rect.unit (s := S1x1x4x2048x128) ![0, 0, 1, 512, 0] S1x1x1x512x128.size inb_S1x1x4x2048x128_S1x1x1x512x128_0_0_1_512_0).toLoadRect (harg2.unread X)) (View.readAt (Elt Ideal) arg3.view (Rect.unit (s := S1x2x2048x128) ![0, 0, 512, 0] S1x1x512x128.size inb_S1x2x2048x128_S1x1x512x128_0_0_512_0).toLoadRect (harg3.unread A)) = cV (fs X A (i 1).val true) 2 1 :=
  cOff X A _ true 2 _ (lhT X A i 1024 _ _ (readRows X _ _ 512 1024 0 _) (readAug A _ _ 512 1024 1 _)) 1 (by decide) _ _ (readRows X _ _ 512 512 1 _) (readAug A _ _ 512 512 0 _)

theorem ld_v1036 : kernelRun0_B.sl.v1036 c i arg2 harg2 arg3 harg3 arg10 arg15 harg15 X A (mkV 512 512 0 0) = cV (fs X A (i 1).val true) 2 1 := by
  refine (readSkip (by decide)).trans ?_
  refine (readSkip (by decide)).trans ?_
  refine (readSkip (by decide)).trans ?_
  exact readHit.trans st_c_true_2_1

theorem st_m_true_2_2 : kernelRun0_B.sl.v1059 c i arg2 harg2 arg3 harg3 arg10 arg11 arg15 harg15 X A (mkV 512 512 0 0) = mV (fs X A (i 1).val true) 2 2 :=
  mSt _ 2 1 _ _ ld_v1035 ld_v1036

theorem ld_v1194 : kernelRun0_B.sl.v1194 c i arg2 harg2 arg3 harg3 arg10 arg11 arg15 harg15 X A (mkV 512 512 0 0) = mV (fs X A (i 1).val true) 2 2 :=
  readHit.trans st_m_true_2_2

theorem st_c_true_2_2 : kernelRun0_B.sl.v993 c i arg2 harg2 arg3 harg3 arg15 harg15 X A (mkV 512 512 0 0) = cV (fs X A (i 1).val true) 2 2 :=
  cDiag X A _ true 2 _ (lhT X A i 1024 _ _ (readRows X _ _ 512 1024 0 _) (readAug A _ _ 512 1024 1 _)) _ _ _ _ _ _ (readRows X _ _ 256 1024 1 _) (readAug A _ _ 256 1024 0 _) (readRows X _ _ 256 1280 1 _) (readAug A _ _ 256 1280 0 _) (readMask' _ _ 256 512 0 0 _) (readMask' _ _ 256 256 256 256 _)

theorem ld_v1195 : kernelRun0_B.sl.v1195 c i arg2 harg2 arg3 harg3 arg10 arg15 harg15 X A (mkV 512 512 0 0) = cV (fs X A (i 1).val true) 2 2 := by
  refine (readSkip (by decide)).trans ?_
  refine (readSkip (by decide)).trans ?_
  refine (readSkip (by decide)).trans ?_
  exact readHit.trans st_c_true_2_2

theorem st_top_true_2 : kernelRun0_B.sl.v977 c i arg2 harg2 arg3 harg3 arg15 harg15 X A (mkV 512 512 0 0) = tB 256 512 (fs X A (i 1).val true) (512 * 2) (512 * 2) :=
  stTop X A _ true 2 _ (lhT X A i 1024 _ _ (readRows X _ _ 512 1024 0 _) (readAug A _ _ 512 1024 1 _)) _ _ _ (readRows X _ _ 256 1024 1 _) (readAug A _ _ 256 1024 0 _) (readMask' _ _ 256 512 0 0 _)

theorem ld_v1201 : kernelRun0_B.sl.v1201 c i arg2 harg2 arg3 harg3 arg8 arg15 harg15 X A (mkV 512 512 0 0) = tB 256 512 (fs X A (i 1).val true) (512 * 2) (512 * 2) := by
  refine Eq.trans (readOff (off' := ![0, 0]) _ _ (placed_k0_off1 i) _ (by decide)) ?_
  refine (readSkip (by decide)).trans ?_
  exact readHit.trans st_top_true_2

theorem ld_v1214 : kernelRun0_B.sl.v1214 c arg2 harg2 arg5 X = vtV 256 (512 * 2 + 0) X :=
  readVt X _ _ (vtFull (X := X)) 256 2 0 _

theorem st_off_true_2_1 : k0_pay128 (kernelRun0_B.sl.v666 c i arg2 harg2 arg3 harg3 X A) (View.readAt (Elt Ideal) arg2.view (Rect.unit (s := S1x1x4x2048x128) ![0, 0, 1, 512, 0] S1x1x1x512x128.size inb_S1x1x4x2048x128_S1x1x1x512x128_0_0_1_512_0).toLoadRect (harg2.unread X)) (View.readAt (Elt Ideal) arg3.view (Rect.unit (s := S1x2x2048x128) ![0, 0, 512, 0] S1x1x512x128.size inb_S1x2x2048x128_S1x1x512x128_0_0_512_0).toLoadRect (harg3.unread A)) = tB 512 512 (fs X A (i 1).val true) (512 * 2) (512 * 1) :=
  stOff X A _ true 2 _ (lhT X A i 1024 _ _ (readRows X _ _ 512 1024 0 _) (readAug A _ _ 512 1024 1 _)) 1 (by decide) _ _ (readRows X _ _ 512 512 1 _) (readAug A _ _ 512 512 0 _)

theorem ld_v1042 : kernelRun0_B.sl.v1042 c i arg2 harg2 arg3 harg3 arg6 arg15 harg15 X A (mkV 512 512 0 0) = tB 512 512 (fs X A (i 1).val true) (512 * 2) (512 * 1) := by
  refine Eq.trans (readOff (off' := ![0, 0]) _ _ (placed_k0_off3 i) _ (by decide)) ?_
  exact readHit.trans st_off_true_2_1

theorem st_off_true_2_0 : kernelRun0_B.sl.v706 c i arg2 harg2 arg3 harg3 X A = tB 512 512 (fs X A (i 1).val true) (512 * 2) (512 * 0) :=
  stOff X A _ true 2 _ (lhT X A i 1024 _ _ (readRows X _ _ 512 1024 0 _) (readAug A _ _ 512 1024 1 _)) 0 (by decide) _ _ (readRows X _ _ 512 0 1 _) (readAug A _ _ 512 0 0 _)

theorem ld_v910 : kernelRun0_B.sl.v910 c i arg2 harg2 arg3 harg3 arg8 X A = tB 512 512 (fs X A (i 1).val true) (512 * 2) (512 * 0) := by
  refine Eq.trans (readOff (off' := ![0, 0]) _ _ (placed_k0_off3 i) _ (by decide)) ?_
  exact readHit.trans st_off_true_2_0

theorem st_a_true_2_0 : k0_pay124 k0_pay123 = aV 512 0 X (fs X A (i 1).val true) 2 0 :=
  aInit X _ 2

theorem ld_v915 : kernelRun0_B.sl.v915 c i arg2 harg2 arg3 harg3 arg5 arg6 arg8 arg10 arg11 arg12 arg15 harg15 X A (mkV 512 512 0 0) = aV 512 0 X (fs X A (i 1).val true) 2 0 :=
  readHit.trans st_a_true_2_0

theorem st_a_true_2_1 : kernelRun0_B.sl.v924 c i arg2 harg2 arg3 harg3 arg5 arg6 arg8 arg10 arg11 arg12 arg15 harg15 X A (mkV 512 512 0 0) = aV 512 0 X (fs X A (i 1).val true) 2 1 :=
  aOffSt X _ 2 0 (by decide) _ _ _ _ _ ld_v903 ld_v904 ld_v910 ld_v915 ld_v584

theorem ld_v1047 : kernelRun0_B.sl.v1047 c i arg2 harg2 arg3 harg3 arg5 arg6 arg8 arg10 arg11 arg12 arg15 harg15 X A (mkV 512 512 0 0) = aV 512 0 X (fs X A (i 1).val true) 2 1 :=
  readHit.trans st_a_true_2_1

theorem ld_v1050 : kernelRun0_B.sl.v1050 c arg2 harg2 arg5 X = vtV 512 (512 * 1 + 0) X :=
  readVt X _ _ (vtFull (X := X)) 512 1 0 _

theorem st_a_true_2_2 : kernelRun0_B.sl.v1056 c i arg2 harg2 arg3 harg3 arg5 arg6 arg8 arg10 arg11 arg12 arg15 harg15 X A (mkV 512 512 0 0) = aV 512 0 X (fs X A (i 1).val true) 2 2 :=
  aOffSt X _ 2 1 (by decide) _ _ _ _ _ ld_v1035 ld_v1036 ld_v1042 ld_v1047 ld_v1050

theorem ld_v1221 : kernelRun0_B.sl.v1221 c i arg2 harg2 arg3 harg3 arg5 arg6 arg8 arg10 arg11 arg12 arg15 harg15 X A (mkV 512 512 0 0) = aV 256 0 X (fs X A (i 1).val true) 2 2 :=
  readHalf X _ _ _ 2 2 0 _ _ _ st_a_true_2_2

theorem st_aL_true_2_3 : kernelRun0_B.sl.v1228 c i arg2 harg2 arg3 harg3 arg5 arg6 arg8 arg10 arg11 arg12 arg15 harg15 X A (mkV 512 512 0 0) = aV 256 0 X (fs X A (i 1).val true) 2 3 :=
  aLeftSt X _ 2 _ _ _ _ _ ld_v1194 ld_v1195 ld_v1201 ld_v1214 ld_v1221

theorem st_bot_true_2 : kernelRun0_B.sl.v982 c i arg2 harg2 arg3 harg3 arg15 harg15 X A (mkV 512 512 0 0) = tB 256 256 (fs X A (i 1).val true) (512 * 2 + 256) (512 * 2 + 256) :=
  stBot X A _ true 2 _ (lhT X A i 1024 _ _ (readRows X _ _ 512 1024 0 _) (readAug A _ _ 512 1024 1 _)) _ _ _ (readRows X _ _ 256 1280 1 _) (readAug A _ _ 256 1280 0 _) (readMask' _ _ 256 256 256 256 _)

theorem ld_v1208 : kernelRun0_B.sl.v1208 c i arg2 harg2 arg3 harg3 arg8 arg15 harg15 X A (mkV 512 512 0 0) = tB 256 256 (fs X A (i 1).val true) (512 * 2 + 256) (512 * 2 + 256) := by
  refine Eq.trans (readOff (off' := ![256, 256]) _ _ (placed_k0_off2 i) _ (by decide)) ?_
  exact readHit.trans st_bot_true_2

theorem ld_v1217 : kernelRun0_B.sl.v1217 c arg2 harg2 arg5 X = vtV 256 (512 * 2 + 256) X :=
  readVt X _ _ (vtFull (X := X)) 256 2 256 _

theorem ld_v1230 : kernelRun0_B.sl.v1230 c i arg2 harg2 arg3 harg3 arg5 arg6 arg8 arg10 arg11 arg12 arg15 harg15 X A (mkV 512 512 0 0) = aV 256 256 X (fs X A (i 1).val true) 2 2 := by
  refine (readSkip (by decide)).trans ?_
  exact readHalf X _ _ _ 2 2 256 _ _ _ st_a_true_2_2

theorem st_aR_true_2_3 : kernelRun0_B.sl.v1238 c i arg2 harg2 arg3 harg3 arg5 arg6 arg8 arg10 arg11 arg12 arg15 harg15 X A (mkV 512 512 0 0) = aV 256 256 X (fs X A (i 1).val true) 2 3 :=
  aRightSt X _ 2 _ _ _ _ _ _ _ ld_v1194 ld_v1195 ld_v1201 ld_v1214 ld_v1208 ld_v1217 ld_v1230

theorem ld_v1290 : kernelRun0_B.sl.v1290 c i arg2 harg2 arg3 harg3 arg5 arg6 arg8 arg10 arg11 arg12 arg15 harg15 X A (mkV 512 512 0 0) = aV 512 0 X (fs X A (i 1).val true) 2 3 :=
  readHalves X _ _ _ 2 3 _ _ _ _ _ st_aL_true_2_3 st_aR_true_2_3

theorem st_m_false_2_0 : k0_pay125 = mV (fs X A (i 1).val false) 2 0 :=
  mInit _ 2

theorem ld_v928 : kernelRun0_B.sl.v928 c i arg2 harg2 arg3 harg3 arg10 arg13 arg15 harg15 X A (mkV 512 512 0 0) = mV (fs X A (i 1).val false) 2 0 :=
  readHit.trans st_m_false_2_0

theorem st_c_false_2_0 : kernelRun0_B.sl.v727 c i arg2 harg2 arg3 harg3 X A = cV (fs X A (i 1).val false) 2 0 :=
  cOff X A _ false 2 _ (lhF X A i 1024 _ _ (readRows X _ _ 512 1024 0 _) (readAug A _ _ 512 1024 1 _)) 0 (by decide) _ _ (readRows X _ _ 512 0 1 _) (readAug A _ _ 512 0 0 _)

theorem ld_v929 : kernelRun0_B.sl.v929 c i arg2 harg2 arg3 harg3 arg10 arg15 harg15 X A (mkV 512 512 0 0) = cV (fs X A (i 1).val false) 2 0 := by
  refine (readSkip (by decide)).trans ?_
  refine (readSkip (by decide)).trans ?_
  exact readHit.trans st_c_false_2_0

theorem st_m_false_2_1 : kernelRun0_B.sl.v952 c i arg2 harg2 arg3 harg3 arg10 arg13 arg15 harg15 X A (mkV 512 512 0 0) = mV (fs X A (i 1).val false) 2 1 :=
  mSt _ 2 0 _ _ ld_v928 ld_v929

theorem ld_v1060 : kernelRun0_B.sl.v1060 c i arg2 harg2 arg3 harg3 arg10 arg13 arg15 harg15 X A (mkV 512 512 0 0) = mV (fs X A (i 1).val false) 2 1 :=
  readHit.trans st_m_false_2_1

theorem st_c_false_2_1 : kernelRun0_B.sl.v902 c i arg2 harg2 arg3 harg3 X A = cV (fs X A (i 1).val false) 2 1 :=
  by
  refine Eq.trans ?_ (cOff X A _ false 2 _ (lhF X A i 1024 _ _ (readRows X arg2 harg2 512 1024 0 (by decide)) (readAug A arg3 harg3 512 1024 1 (by decide))) 1 (by decide) _ _ (readRows X arg2 harg2 512 512 1 (by decide)) (readAug A arg3 harg3 512 512 0 (by decide)))
  dsimp only [unitW, k0_pay26, k0_pay31, k0_pay27, k0_pay32, k0_pay28, k0_pay30, k0_pay29, k0_pay23, k0_pay22, k0_pay25, k0_pay198, k0_pay16, k0_pay20, k0_pay19, k0_pay17, k0_pay18, k0_pay15, k0_pay21, kernelRun0_B.sl.v902, kernelRun0_B.sl.v899, kernelRun0_B.sl.v898, kernelRun0_B.sl.v893, kernelRun0_B.sl.cst_172, kernelRun0_B.sl.v695, kernelRun0_B.sl.v694, kernelRun0_B.sl.v693, kernelRun0_B.sl.v68, kernelRun0_B.sl.cst_35, kernelRun0_B.sl.v637, kernelRun0_B.sl.v636, kernelRun0_B.sl.v132, kernelRun0_B.sl.v131, kernelRun0_B.sl.v130, kernelRun0_B.sl.v99, kernelRun0_B.sl.v8, kernelRun0_B.sl.v127, kernelRun0_B.sl.v126, kernelRun0_B.sl.v109, kernelRun0_B.sl.v79, kernelRun0_B.sl.v7, kernelRun0_B.sl.v6, kernelRun0_B.sl.v5, kernelRun0_B.sl.v96, kernelRun0_B.sl.v83, kernelRun0_B.sl.v95, kernelRun0_B.sl.v86, kernelRun0_B.sl.v85, kernelRun0_B.sl.v92, kernelRun0_B.sl.v90, kernelRun0_B.sl.v88, kernelRun0_B.sl.r_9, k0_pay3, k0_pay8, k0_pay4, k0_pay7, k0_pay5, k0_pay6, k0_pay94, k0_pay96, k0_pay99, k0_pay97, k0_pay98, k0_pay95, k0_pay92, kernelRun0_B.sl.v892, kernelRun0_B.sl.v891, kernelRun0_B.sl.r_11, k0_pay130, k0_pay133, k0_pay135, k0_pay134, k0_pay131, k0_pay132]
  rfl

theorem ld_v1061 : kernelRun0_B.sl.v1061 c i arg2 harg2 arg3 harg3 arg10 arg15 harg15 X A (mkV 512 512 0 0) = cV (fs X A (i 1).val false) 2 1 := by
  refine (readSkip (by decide)).trans ?_
  refine (readSkip (by decide)).trans ?_
  exact readHit.trans st_c_false_2_1

theorem st_m_false_2_2 : kernelRun0_B.sl.v1084 c i arg2 harg2 arg3 harg3 arg10 arg13 arg15 harg15 X A (mkV 512 512 0 0) = mV (fs X A (i 1).val false) 2 2 :=
  mSt _ 2 1 _ _ ld_v1060 ld_v1061

theorem ld_v1242 : kernelRun0_B.sl.v1242 c i arg2 harg2 arg3 harg3 arg10 arg13 arg15 harg15 X A (mkV 512 512 0 0) = mV (fs X A (i 1).val false) 2 2 :=
  readHit.trans st_m_false_2_2

theorem st_c_false_2_2 : kernelRun0_B.sl.v1034 c i arg2 harg2 arg3 harg3 arg15 harg15 X A (mkV 512 512 0 0) = cV (fs X A (i 1).val false) 2 2 :=
  cDiag X A _ false 2 _ (lhF X A i 1024 _ _ (readRows X _ _ 512 1024 0 _) (readAug A _ _ 512 1024 1 _)) _ _ _ _ _ _ (readRows X _ _ 256 1024 1 _) (readAug A _ _ 256 1024 0 _) (readRows X _ _ 256 1280 1 _) (readAug A _ _ 256 1280 0 _) (readMask' _ _ 256 512 0 0 _) (readMask' _ _ 256 256 256 256 _)

theorem ld_v1243 : kernelRun0_B.sl.v1243 c i arg2 harg2 arg3 harg3 arg10 arg15 harg15 X A (mkV 512 512 0 0) = cV (fs X A (i 1).val false) 2 2 := by
  refine (readSkip (by decide)).trans ?_
  refine (readSkip (by decide)).trans ?_
  exact readHit.trans st_c_false_2_2

theorem st_top_false_2 : kernelRun0_B.sl.v1018 c i arg2 harg2 arg3 harg3 arg15 harg15 X A (mkV 512 512 0 0) = tB 256 512 (fs X A (i 1).val false) (512 * 2) (512 * 2) :=
  stTop X A _ false 2 _ (lhF X A i 1024 _ _ (readRows X _ _ 512 1024 0 _) (readAug A _ _ 512 1024 1 _)) _ _ _ (readRows X _ _ 256 1024 1 _) (readAug A _ _ 256 1024 0 _) (readMask' _ _ 256 512 0 0 _)

theorem ld_v1249 : kernelRun0_B.sl.v1249 c i arg2 harg2 arg3 harg3 arg9 arg15 harg15 X A (mkV 512 512 0 0) = tB 256 512 (fs X A (i 1).val false) (512 * 2) (512 * 2) := by
  refine Eq.trans (readOff (off' := ![0, 0]) _ _ (placed_k0_off1 i) _ (by decide)) ?_
  refine (readSkip (by decide)).trans ?_
  exact readHit.trans st_top_false_2

theorem st_off_false_2_1 : kernelRun0_B.sl.v897 c i arg2 harg2 arg3 harg3 X A = tB 512 512 (fs X A (i 1).val false) (512 * 2) (512 * 1) :=
  by
  refine Eq.trans ?_ (stOff X A _ false 2 _ (lhF X A i 1024 _ _ (readRows X arg2 harg2 512 1024 0 (by decide)) (readAug A arg3 harg3 512 1024 1 (by decide))) 1 (by decide) _ _ (readRows X arg2 harg2 512 512 1 (by decide)) (readAug A arg3 harg3 512 512 0 (by decide)))
  dsimp only [unitW, k0_pay26, k0_pay31, k0_pay27, k0_pay32, k0_pay28, k0_pay30, k0_pay29, k0_pay23, k0_pay22, k0_pay25, k0_pay198, k0_pay16, k0_pay20, k0_pay19, k0_pay17, k0_pay18, k0_pay15, k0_pay21, kernelRun0_B.sl.v897, kernelRun0_B.sl.v893, kernelRun0_B.sl.cst_172, kernelRun0_B.sl.v695, kernelRun0_B.sl.v694, kernelRun0_B.sl.v693, kernelRun0_B.sl.v68, kernelRun0_B.sl.cst_35, kernelRun0_B.sl.v637, kernelRun0_B.sl.v636, kernelRun0_B.sl.v132, kernelRun0_B.sl.v131, kernelRun0_B.sl.v130, kernelRun0_B.sl.v99, kernelRun0_B.sl.v8, kernelRun0_B.sl.v127, kernelRun0_B.sl.v126, kernelRun0_B.sl.v109, kernelRun0_B.sl.v79, kernelRun0_B.sl.v7, kernelRun0_B.sl.v6, kernelRun0_B.sl.v5, kernelRun0_B.sl.v96, kernelRun0_B.sl.v83, kernelRun0_B.sl.v95, kernelRun0_B.sl.v86, kernelRun0_B.sl.v85, kernelRun0_B.sl.v92, kernelRun0_B.sl.v90, kernelRun0_B.sl.v88, kernelRun0_B.sl.r_9, k0_pay3, k0_pay8, k0_pay4, k0_pay7, k0_pay5, k0_pay6, k0_pay94, k0_pay96, k0_pay99, k0_pay97, k0_pay98, k0_pay95, k0_pay92, kernelRun0_B.sl.v892, kernelRun0_B.sl.v891, kernelRun0_B.sl.r_11, k0_pay130, k0_pay133, k0_pay135, k0_pay134, k0_pay131, k0_pay132]
  rfl

theorem ld_v1067 : kernelRun0_B.sl.v1067 c i arg2 harg2 arg3 harg3 arg7 arg15 harg15 X A (mkV 512 512 0 0) = tB 512 512 (fs X A (i 1).val false) (512 * 2) (512 * 1) := by
  refine Eq.trans (readOff (off' := ![0, 0]) _ _ (placed_k0_off3 i) _ (by decide)) ?_
  exact readHit.trans st_off_false_2_1

theorem st_off_false_2_0 : kernelRun0_B.sl.v722 c i arg2 harg2 arg3 harg3 X A = tB 512 512 (fs X A (i 1).val false) (512 * 2) (512 * 0) :=
  stOff X A _ false 2 _ (lhF X A i 1024 _ _ (readRows X _ _ 512 1024 0 _) (readAug A _ _ 512 1024 1 _)) 0 (by decide) _ _ (readRows X _ _ 512 0 1 _) (readAug A _ _ 512 0 0 _)

theorem ld_v935 : kernelRun0_B.sl.v935 c i arg2 harg2 arg3 harg3 arg9 X A = tB 512 512 (fs X A (i 1).val false) (512 * 2) (512 * 0) := by
  refine Eq.trans (readOff (off' := ![0, 0]) _ _ (placed_k0_off3 i) _ (by decide)) ?_
  exact readHit.trans st_off_false_2_0

theorem st_a_false_2_0 : k0_pay126 = aV 512 0 X (fs X A (i 1).val false) 2 0 :=
  aInit X _ 2

theorem ld_v940 : kernelRun0_B.sl.v940 c i arg2 harg2 arg3 harg3 arg5 arg7 arg9 arg10 arg13 arg14 arg15 harg15 X A (mkV 512 512 0 0) = aV 512 0 X (fs X A (i 1).val false) 2 0 :=
  readHit.trans st_a_false_2_0

theorem st_a_false_2_1 : kernelRun0_B.sl.v949 c i arg2 harg2 arg3 harg3 arg5 arg7 arg9 arg10 arg13 arg14 arg15 harg15 X A (mkV 512 512 0 0) = aV 512 0 X (fs X A (i 1).val false) 2 1 :=
  aOffSt X _ 2 0 (by decide) _ _ _ _ _ ld_v928 ld_v929 ld_v935 ld_v940 ld_v584

theorem ld_v1072 : kernelRun0_B.sl.v1072 c i arg2 harg2 arg3 harg3 arg5 arg7 arg9 arg10 arg13 arg14 arg15 harg15 X A (mkV 512 512 0 0) = aV 512 0 X (fs X A (i 1).val false) 2 1 :=
  readHit.trans st_a_false_2_1

theorem st_a_false_2_2 : kernelRun0_B.sl.v1081 c i arg2 harg2 arg3 harg3 arg5 arg7 arg9 arg10 arg13 arg14 arg15 harg15 X A (mkV 512 512 0 0) = aV 512 0 X (fs X A (i 1).val false) 2 2 :=
  aOffSt X _ 2 1 (by decide) _ _ _ _ _ ld_v1060 ld_v1061 ld_v1067 ld_v1072 ld_v1050

theorem ld_v1269 : kernelRun0_B.sl.v1269 c i arg2 harg2 arg3 harg3 arg5 arg7 arg9 arg10 arg13 arg14 arg15 harg15 X A (mkV 512 512 0 0) = aV 256 0 X (fs X A (i 1).val false) 2 2 :=
  readHalf X _ _ _ 2 2 0 _ _ _ st_a_false_2_2

theorem st_aL_false_2_3 : kernelRun0_B.sl.v1276 c i arg2 harg2 arg3 harg3 arg5 arg7 arg9 arg10 arg13 arg14 arg15 harg15 X A (mkV 512 512 0 0) = aV 256 0 X (fs X A (i 1).val false) 2 3 :=
  aLeftSt X _ 2 _ _ _ _ _ ld_v1242 ld_v1243 ld_v1249 ld_v1214 ld_v1269

theorem st_bot_false_2 : kernelRun0_B.sl.v1023 c i arg2 harg2 arg3 harg3 arg15 harg15 X A (mkV 512 512 0 0) = tB 256 256 (fs X A (i 1).val false) (512 * 2 + 256) (512 * 2 + 256) :=
  stBot X A _ false 2 _ (lhF X A i 1024 _ _ (readRows X _ _ 512 1024 0 _) (readAug A _ _ 512 1024 1 _)) _ _ _ (readRows X _ _ 256 1280 1 _) (readAug A _ _ 256 1280 0 _) (readMask' _ _ 256 256 256 256 _)

theorem ld_v1256 : kernelRun0_B.sl.v1256 c i arg2 harg2 arg3 harg3 arg9 arg15 harg15 X A (mkV 512 512 0 0) = tB 256 256 (fs X A (i 1).val false) (512 * 2 + 256) (512 * 2 + 256) := by
  refine Eq.trans (readOff (off' := ![256, 256]) _ _ (placed_k0_off2 i) _ (by decide)) ?_
  exact readHit.trans st_bot_false_2

theorem ld_v1278 : kernelRun0_B.sl.v1278 c i arg2 harg2 arg3 harg3 arg5 arg7 arg9 arg10 arg13 arg14 arg15 harg15 X A (mkV 512 512 0 0) = aV 256 256 X (fs X A (i 1).val false) 2 2 := by
  refine (readSkip (by decide)).trans ?_
  exact readHalf X _ _ _ 2 2 256 _ _ _ st_a_false_2_2

theorem st_aR_false_2_3 : kernelRun0_B.sl.v1286 c i arg2 harg2 arg3 harg3 arg5 arg7 arg9 arg10 arg13 arg14 arg15 harg15 X A (mkV 512 512 0 0) = aV 256 256 X (fs X A (i 1).val false) 2 3 :=
  aRightSt X _ 2 _ _ _ _ _ _ _ ld_v1242 ld_v1243 ld_v1249 ld_v1214 ld_v1256 ld_v1217 ld_v1278

theorem ld_v1298 : kernelRun0_B.sl.v1298 c i arg2 harg2 arg3 harg3 arg5 arg7 arg9 arg10 arg13 arg14 arg15 harg15 X A (mkV 512 512 0 0) = aV 512 0 X (fs X A (i 1).val false) 2 3 :=
  readHalves X _ _ _ 2 3 _ _ _ _ _ st_aL_false_2_3 st_aR_false_2_3

theorem st_m_true_3_0 : k0_pay194 = mV (fs X A (i 1).val true) 3 0 :=
  mInit _ 3

theorem ld_v1369 : kernelRun0_B.sl.v1369 c i arg2 harg2 arg3 harg3 arg10 arg11 arg15 harg15 X A (mkV 512 512 0 0) = mV (fs X A (i 1).val true) 3 0 :=
  readHit.trans st_m_true_3_0

theorem st_c_true_3_0 : kernelRun0_B.sl.v1177 c i arg2 harg2 arg3 harg3 X A = cV (fs X A (i 1).val true) 3 0 :=
  cOff X A _ true 3 _ (lhT X A i 1536 _ _ (readRows X _ _ 512 1536 0 _) (readAug A _ _ 512 1536 1 _)) 0 (by decide) _ _ (readRows X _ _ 512 0 1 _) (readAug A _ _ 512 0 0 _)

theorem ld_v1370 : kernelRun0_B.sl.v1370 c i arg2 harg2 arg3 harg3 arg10 arg15 harg15 X A (mkV 512 512 0 0) = cV (fs X A (i 1).val true) 3 0 := by
  refine (readSkip (by decide)).trans ?_
  refine (readSkip (by decide)).trans ?_
  refine (readSkip (by decide)).trans ?_
  exact readHit.trans st_c_true_3_0

theorem st_m_true_3_1 : kernelRun0_B.sl.v1393 c i arg2 harg2 arg3 harg3 arg10 arg11 arg15 harg15 X A (mkV 512 512 0 0) = mV (fs X A (i 1).val true) 3 1 :=
  mSt _ 3 0 _ _ ld_v1369 ld_v1370

theorem ld_v1451 : kernelRun0_B.sl.v1451 c i arg2 harg2 arg3 harg3 arg10 arg11 arg15 harg15 X A (mkV 512 512 0 0) = mV (fs X A (i 1).val true) 3 1 :=
  readHit.trans st_m_true_3_1

theorem st_c_true_3_1 : kernelRun0_B.sl.v1352 c i arg2 harg2 arg3 harg3 X A = cV (fs X A (i 1).val true) 3 1 :=
  cOff X A _ true 3 _ (lhT X A i 1536 _ _ (readRows X _ _ 512 1536 0 _) (readAug A _ _ 512 1536 1 _)) 1 (by decide) _ _ (readRows X _ _ 512 512 1 _) (readAug A _ _ 512 512 0 _)

theorem ld_v1452 : kernelRun0_B.sl.v1452 c i arg2 harg2 arg3 harg3 arg10 arg15 harg15 X A (mkV 512 512 0 0) = cV (fs X A (i 1).val true) 3 1 := by
  refine (readSkip (by decide)).trans ?_
  refine (readSkip (by decide)).trans ?_
  refine (readSkip (by decide)).trans ?_
  exact readHit.trans st_c_true_3_1

theorem st_m_true_3_2 : kernelRun0_B.sl.v1475 c i arg2 harg2 arg3 harg3 arg10 arg11 arg15 harg15 X A (mkV 512 512 0 0) = mV (fs X A (i 1).val true) 3 2 :=
  mSt _ 3 1 _ _ ld_v1451 ld_v1452

theorem ld_v1583 : kernelRun0_B.sl.v1583 c i arg2 harg2 arg3 harg3 arg10 arg11 arg15 harg15 X A (mkV 512 512 0 0) = mV (fs X A (i 1).val true) 3 2 :=
  readHit.trans st_m_true_3_2

theorem st_c_true_3_2 : kernelRun0_B.sl.v1434 c i arg2 harg2 arg3 harg3 X A = cV (fs X A (i 1).val true) 3 2 :=
  cOff X A _ true 3 _ (lhT X A i 1536 _ _ (readRows X _ _ 512 1536 0 _) (readAug A _ _ 512 1536 1 _)) 2 (by decide) _ _ (readRows X _ _ 512 1024 1 _) (readAug A _ _ 512 1024 0 _)

theorem ld_v1584 : kernelRun0_B.sl.v1584 c i arg2 harg2 arg3 harg3 arg10 arg15 harg15 X A (mkV 512 512 0 0) = cV (fs X A (i 1).val true) 3 2 := by
  refine (readSkip (by decide)).trans ?_
  refine (readSkip (by decide)).trans ?_
  refine (readSkip (by decide)).trans ?_
  exact readHit.trans st_c_true_3_2

theorem st_m_true_3_3 : kernelRun0_B.sl.v1607 c i arg2 harg2 arg3 harg3 arg10 arg11 arg15 harg15 X A (mkV 512 512 0 0) = mV (fs X A (i 1).val true) 3 3 :=
  mSt _ 3 2 _ _ ld_v1583 ld_v1584

theorem ld_v1633 : kernelRun0_B.sl.v1633 c i arg2 harg2 arg3 harg3 arg10 arg11 arg15 harg15 X A (mkV 512 512 0 0) = mV (fs X A (i 1).val true) 3 3 :=
  readHit.trans st_m_true_3_3

theorem st_c_true_3_3 : kernelRun0_B.sl.v1541 c i arg2 harg2 arg3 harg3 arg15 harg15 X A (mkV 512 512 0 0) = cV (fs X A (i 1).val true) 3 3 :=
  cDiag X A _ true 3 _ (lhT X A i 1536 _ _ (readRows X _ _ 512 1536 0 _) (readAug A _ _ 512 1536 1 _)) _ _ _ _ _ _ (readRows X _ _ 256 1536 1 _) (readAug A _ _ 256 1536 0 _) (readRows X _ _ 256 1792 1 _) (readAug A _ _ 256 1792 0 _) (readMask' _ _ 256 512 0 0 _) (readMask' _ _ 256 256 256 256 _)

theorem ld_v1634 : kernelRun0_B.sl.v1634 c i arg2 harg2 arg3 harg3 arg10 arg15 harg15 X A (mkV 512 512 0 0) = cV (fs X A (i 1).val true) 3 3 := by
  refine (readSkip (by decide)).trans ?_
  exact readHit.trans st_c_true_3_3

theorem st_top_true_3 : kernelRun0_B.sl.v1525 c i arg2 harg2 arg3 harg3 arg15 harg15 X A (mkV 512 512 0 0) = tB 256 512 (fs X A (i 1).val true) (512 * 3) (512 * 3) :=
  stTop X A _ true 3 _ (lhT X A i 1536 _ _ (readRows X _ _ 512 1536 0 _) (readAug A _ _ 512 1536 1 _)) _ _ _ (readRows X _ _ 256 1536 1 _) (readAug A _ _ 256 1536 0 _) (readMask' _ _ 256 512 0 0 _)

theorem ld_v1640 : kernelRun0_B.sl.v1640 c i arg2 harg2 arg3 harg3 arg8 arg15 harg15 X A (mkV 512 512 0 0) = tB 256 512 (fs X A (i 1).val true) (512 * 3) (512 * 3) := by
  refine Eq.trans (readOff (off' := ![0, 0]) _ _ (placed_k0_off1 i) _ (by decide)) ?_
  refine (readSkip (by decide)).trans ?_
  exact readHit.trans st_top_true_3

theorem ld_v1653 : kernelRun0_B.sl.v1653 c arg2 harg2 arg5 X = vtV 256 (512 * 3 + 0) X :=
  readVt X _ _ (vtFull (X := X)) 256 3 0 _

theorem st_off_true_3_2 : kernelRun0_B.sl.v1429 c i arg2 harg2 arg3 harg3 X A = tB 512 512 (fs X A (i 1).val true) (512 * 3) (512 * 2) :=
  stOff X A _ true 3 _ (lhT X A i 1536 _ _ (readRows X _ _ 512 1536 0 _) (readAug A _ _ 512 1536 1 _)) 2 (by decide) _ _ (readRows X _ _ 512 1024 1 _) (readAug A _ _ 512 1024 0 _)

theorem ld_v1590 : kernelRun0_B.sl.v1590 c i arg2 harg2 arg3 harg3 arg6 arg15 harg15 X A (mkV 512 512 0 0) = tB 512 512 (fs X A (i 1).val true) (512 * 3) (512 * 2) := by
  refine Eq.trans (readOff (off' := ![0, 0]) _ _ (placed_k0_off3 i) _ (by decide)) ?_
  exact readHit.trans st_off_true_3_2

theorem st_off_true_3_1 : kernelRun0_B.sl.v1347 c i arg2 harg2 arg3 harg3 X A = tB 512 512 (fs X A (i 1).val true) (512 * 3) (512 * 1) :=
  stOff X A _ true 3 _ (lhT X A i 1536 _ _ (readRows X _ _ 512 1536 0 _) (readAug A _ _ 512 1536 1 _)) 1 (by decide) _ _ (readRows X _ _ 512 512 1 _) (readAug A _ _ 512 512 0 _)

theorem ld_v1458 : kernelRun0_B.sl.v1458 c i arg2 harg2 arg3 harg3 arg8 arg15 harg15 X A (mkV 512 512 0 0) = tB 512 512 (fs X A (i 1).val true) (512 * 3) (512 * 1) := by
  refine Eq.trans (readOff (off' := ![0, 0]) _ _ (placed_k0_off3 i) _ (by decide)) ?_
  exact readHit.trans st_off_true_3_1

theorem st_off_true_3_0 : kernelRun0_B.sl.v1172 c i arg2 harg2 arg3 harg3 X A = tB 512 512 (fs X A (i 1).val true) (512 * 3) (512 * 0) :=
  stOff X A _ true 3 _ (lhT X A i 1536 _ _ (readRows X _ _ 512 1536 0 _) (readAug A _ _ 512 1536 1 _)) 0 (by decide) _ _ (readRows X _ _ 512 0 1 _) (readAug A _ _ 512 0 0 _)

theorem ld_v1376 : kernelRun0_B.sl.v1376 c i arg2 harg2 arg3 harg3 arg6 arg15 harg15 X A (mkV 512 512 0 0) = tB 512 512 (fs X A (i 1).val true) (512 * 3) (512 * 0) := by
  refine Eq.trans (readOff (off' := ![0, 0]) _ _ (placed_k0_off3 i) _ (by decide)) ?_
  exact readHit.trans st_off_true_3_0

theorem st_a_true_3_0 : k0_pay195 = aV 512 0 X (fs X A (i 1).val true) 3 0 :=
  aInit X _ 3

theorem ld_v1381 : kernelRun0_B.sl.v1381 c i arg2 harg2 arg3 harg3 arg5 arg6 arg8 arg10 arg11 arg12 arg15 harg15 X A (mkV 512 512 0 0) = aV 512 0 X (fs X A (i 1).val true) 3 0 :=
  readHit.trans st_a_true_3_0

theorem st_a_true_3_1 : kernelRun0_B.sl.v1390 c i arg2 harg2 arg3 harg3 arg5 arg6 arg8 arg10 arg11 arg12 arg15 harg15 X A (mkV 512 512 0 0) = aV 512 0 X (fs X A (i 1).val true) 3 1 :=
  aOffSt X _ 3 0 (by decide) _ _ _ _ _ ld_v1369 ld_v1370 ld_v1376 ld_v1381 ld_v584

theorem ld_v1463 : kernelRun0_B.sl.v1463 c i arg2 harg2 arg3 harg3 arg5 arg6 arg8 arg10 arg11 arg12 arg15 harg15 X A (mkV 512 512 0 0) = aV 512 0 X (fs X A (i 1).val true) 3 1 :=
  readHit.trans st_a_true_3_1

theorem st_a_true_3_2 : kernelRun0_B.sl.v1472 c i arg2 harg2 arg3 harg3 arg5 arg6 arg8 arg10 arg11 arg12 arg15 harg15 X A (mkV 512 512 0 0) = aV 512 0 X (fs X A (i 1).val true) 3 2 :=
  aOffSt X _ 3 1 (by decide) _ _ _ _ _ ld_v1451 ld_v1452 ld_v1458 ld_v1463 ld_v1050

theorem ld_v1595 : kernelRun0_B.sl.v1595 c i arg2 harg2 arg3 harg3 arg5 arg6 arg8 arg10 arg11 arg12 arg15 harg15 X A (mkV 512 512 0 0) = aV 512 0 X (fs X A (i 1).val true) 3 2 :=
  readHit.trans st_a_true_3_2

theorem ld_v1598 : kernelRun0_B.sl.v1598 c arg2 harg2 arg5 X = vtV 512 (512 * 2 + 0) X :=
  readVt X _ _ (vtFull (X := X)) 512 2 0 _

theorem st_a_true_3_3 : kernelRun0_B.sl.v1604 c i arg2 harg2 arg3 harg3 arg5 arg6 arg8 arg10 arg11 arg12 arg15 harg15 X A (mkV 512 512 0 0) = aV 512 0 X (fs X A (i 1).val true) 3 3 :=
  aOffSt X _ 3 2 (by decide) _ _ _ _ _ ld_v1583 ld_v1584 ld_v1590 ld_v1595 ld_v1598

theorem ld_v1660 : kernelRun0_B.sl.v1660 c i arg2 harg2 arg3 harg3 arg5 arg6 arg8 arg10 arg11 arg12 arg15 harg15 X A (mkV 512 512 0 0) = aV 256 0 X (fs X A (i 1).val true) 3 3 :=
  readHalf X _ _ _ 3 3 0 _ _ _ st_a_true_3_3

theorem st_aL_true_3_4 : kernelRun0_B.sl.v1667 c i arg2 harg2 arg3 harg3 arg5 arg6 arg8 arg10 arg11 arg12 arg15 harg15 X A (mkV 512 512 0 0) = aV 256 0 X (fs X A (i 1).val true) 3 4 :=
  aLeftSt X _ 3 _ _ _ _ _ ld_v1633 ld_v1634 ld_v1640 ld_v1653 ld_v1660

theorem st_bot_true_3 : kernelRun0_B.sl.v1530 c i arg2 harg2 arg3 harg3 arg15 harg15 X A (mkV 512 512 0 0) = tB 256 256 (fs X A (i 1).val true) (512 * 3 + 256) (512 * 3 + 256) :=
  stBot X A _ true 3 _ (lhT X A i 1536 _ _ (readRows X _ _ 512 1536 0 _) (readAug A _ _ 512 1536 1 _)) _ _ _ (readRows X _ _ 256 1792 1 _) (readAug A _ _ 256 1792 0 _) (readMask' _ _ 256 256 256 256 _)

theorem ld_v1647 : kernelRun0_B.sl.v1647 c i arg2 harg2 arg3 harg3 arg8 arg15 harg15 X A (mkV 512 512 0 0) = tB 256 256 (fs X A (i 1).val true) (512 * 3 + 256) (512 * 3 + 256) := by
  refine Eq.trans (readOff (off' := ![256, 256]) _ _ (placed_k0_off2 i) _ (by decide)) ?_
  exact readHit.trans st_bot_true_3

theorem ld_v1656 : kernelRun0_B.sl.v1656 c arg2 harg2 arg5 X = vtV 256 (512 * 3 + 256) X :=
  readVt X _ _ (vtFull (X := X)) 256 3 256 _

theorem ld_v1669 : kernelRun0_B.sl.v1669 c i arg2 harg2 arg3 harg3 arg5 arg6 arg8 arg10 arg11 arg12 arg15 harg15 X A (mkV 512 512 0 0) = aV 256 256 X (fs X A (i 1).val true) 3 3 := by
  refine (readSkip (by decide)).trans ?_
  exact readHalf X _ _ _ 3 3 256 _ _ _ st_a_true_3_3

theorem st_aR_true_3_4 : kernelRun0_B.sl.v1677 c i arg2 harg2 arg3 harg3 arg5 arg6 arg8 arg10 arg11 arg12 arg15 harg15 X A (mkV 512 512 0 0) = aV 256 256 X (fs X A (i 1).val true) 3 4 :=
  aRightSt X _ 3 _ _ _ _ _ _ _ ld_v1633 ld_v1634 ld_v1640 ld_v1653 ld_v1647 ld_v1656 ld_v1669

theorem ld_v1729 : kernelRun0_B.sl.v1729 c i arg2 harg2 arg3 harg3 arg5 arg6 arg8 arg10 arg11 arg12 arg15 harg15 X A (mkV 512 512 0 0) = aV 512 0 X (fs X A (i 1).val true) 3 4 :=
  readHalves X _ _ _ 3 4 _ _ _ _ _ st_aL_true_3_4 st_aR_true_3_4

theorem st_m_false_3_0 : k0_pay196 = mV (fs X A (i 1).val false) 3 0 :=
  mInit _ 3

theorem ld_v1394 : kernelRun0_B.sl.v1394 c i arg2 harg2 arg3 harg3 arg10 arg13 arg15 harg15 X A (mkV 512 512 0 0) = mV (fs X A (i 1).val false) 3 0 :=
  readHit.trans st_m_false_3_0

theorem st_c_false_3_0 : kernelRun0_B.sl.v1193 c i arg2 harg2 arg3 harg3 X A = cV (fs X A (i 1).val false) 3 0 :=
  cOff X A _ false 3 _ (lhF X A i 1536 _ _ (readRows X _ _ 512 1536 0 _) (readAug A _ _ 512 1536 1 _)) 0 (by decide) _ _ (readRows X _ _ 512 0 1 _) (readAug A _ _ 512 0 0 _)

theorem ld_v1395 : kernelRun0_B.sl.v1395 c i arg2 harg2 arg3 harg3 arg10 arg15 harg15 X A (mkV 512 512 0 0) = cV (fs X A (i 1).val false) 3 0 := by
  refine (readSkip (by decide)).trans ?_
  refine (readSkip (by decide)).trans ?_
  exact readHit.trans st_c_false_3_0

theorem st_m_false_3_1 : kernelRun0_B.sl.v1418 c i arg2 harg2 arg3 harg3 arg10 arg13 arg15 harg15 X A (mkV 512 512 0 0) = mV (fs X A (i 1).val false) 3 1 :=
  mSt _ 3 0 _ _ ld_v1394 ld_v1395

theorem ld_v1476 : kernelRun0_B.sl.v1476 c i arg2 harg2 arg3 harg3 arg10 arg13 arg15 harg15 X A (mkV 512 512 0 0) = mV (fs X A (i 1).val false) 3 1 :=
  readHit.trans st_m_false_3_1

theorem st_c_false_3_1 : kernelRun0_B.sl.v1368 c i arg2 harg2 arg3 harg3 X A = cV (fs X A (i 1).val false) 3 1 :=
  cOff X A _ false 3 _ (lhF X A i 1536 _ _ (readRows X _ _ 512 1536 0 _) (readAug A _ _ 512 1536 1 _)) 1 (by decide) _ _ (readRows X _ _ 512 512 1 _) (readAug A _ _ 512 512 0 _)

theorem ld_v1477 : kernelRun0_B.sl.v1477 c i arg2 harg2 arg3 harg3 arg10 arg15 harg15 X A (mkV 512 512 0 0) = cV (fs X A (i 1).val false) 3 1 := by
  refine (readSkip (by decide)).trans ?_
  refine (readSkip (by decide)).trans ?_
  exact readHit.trans st_c_false_3_1

theorem st_m_false_3_2 : kernelRun0_B.sl.v1500 c i arg2 harg2 arg3 harg3 arg10 arg13 arg15 harg15 X A (mkV 512 512 0 0) = mV (fs X A (i 1).val false) 3 2 :=
  mSt _ 3 1 _ _ ld_v1476 ld_v1477

theorem ld_v1608 : kernelRun0_B.sl.v1608 c i arg2 harg2 arg3 harg3 arg10 arg13 arg15 harg15 X A (mkV 512 512 0 0) = mV (fs X A (i 1).val false) 3 2 :=
  readHit.trans st_m_false_3_2

theorem st_c_false_3_2 : kernelRun0_B.sl.v1450 c i arg2 harg2 arg3 harg3 X A = cV (fs X A (i 1).val false) 3 2 :=
  cOff X A _ false 3 _ (lhF X A i 1536 _ _ (readRows X _ _ 512 1536 0 _) (readAug A _ _ 512 1536 1 _)) 2 (by decide) _ _ (readRows X _ _ 512 1024 1 _) (readAug A _ _ 512 1024 0 _)

theorem ld_v1609 : kernelRun0_B.sl.v1609 c i arg2 harg2 arg3 harg3 arg10 arg15 harg15 X A (mkV 512 512 0 0) = cV (fs X A (i 1).val false) 3 2 := by
  refine (readSkip (by decide)).trans ?_
  refine (readSkip (by decide)).trans ?_
  exact readHit.trans st_c_false_3_2

theorem st_m_false_3_3 : kernelRun0_B.sl.v1632 c i arg2 harg2 arg3 harg3 arg10 arg13 arg15 harg15 X A (mkV 512 512 0 0) = mV (fs X A (i 1).val false) 3 3 :=
  mSt _ 3 2 _ _ ld_v1608 ld_v1609

theorem ld_v1681 : kernelRun0_B.sl.v1681 c i arg2 harg2 arg3 harg3 arg10 arg13 arg15 harg15 X A (mkV 512 512 0 0) = mV (fs X A (i 1).val false) 3 3 :=
  readHit.trans st_m_false_3_3

theorem st_c_false_3_3 : kernelRun0_B.sl.v1582 c i arg2 harg2 arg3 harg3 arg15 harg15 X A (mkV 512 512 0 0) = cV (fs X A (i 1).val false) 3 3 :=
  cDiag X A _ false 3 _ (lhF X A i 1536 _ _ (readRows X _ _ 512 1536 0 _) (readAug A _ _ 512 1536 1 _)) _ _ _ _ _ _ (readRows X _ _ 256 1536 1 _) (readAug A _ _ 256 1536 0 _) (readRows X _ _ 256 1792 1 _) (readAug A _ _ 256 1792 0 _) (readMask' _ _ 256 512 0 0 _) (readMask' _ _ 256 256 256 256 _)

theorem ld_v1682 : kernelRun0_B.sl.v1682 c i arg2 harg2 arg3 harg3 arg10 arg15 harg15 X A (mkV 512 512 0 0) = cV (fs X A (i 1).val false) 3 3 :=
  readHit.trans st_c_false_3_3

theorem st_top_false_3 : kernelRun0_B.sl.v1566 c i arg2 harg2 arg3 harg3 arg15 harg15 X A (mkV 512 512 0 0) = tB 256 512 (fs X A (i 1).val false) (512 * 3) (512 * 3) :=
  stTop X A _ false 3 _ (lhF X A i 1536 _ _ (readRows X _ _ 512 1536 0 _) (readAug A _ _ 512 1536 1 _)) _ _ _ (readRows X _ _ 256 1536 1 _) (readAug A _ _ 256 1536 0 _) (readMask' _ _ 256 512 0 0 _)

theorem ld_v1688 : kernelRun0_B.sl.v1688 c i arg2 harg2 arg3 harg3 arg9 arg15 harg15 X A (mkV 512 512 0 0) = tB 256 512 (fs X A (i 1).val false) (512 * 3) (512 * 3) := by
  refine Eq.trans (readOff (off' := ![0, 0]) _ _ (placed_k0_off1 i) _ (by decide)) ?_
  refine (readSkip (by decide)).trans ?_
  exact readHit.trans st_top_false_3

theorem st_off_false_3_2 : kernelRun0_B.sl.v1445 c i arg2 harg2 arg3 harg3 X A = tB 512 512 (fs X A (i 1).val false) (512 * 3) (512 * 2) :=
  stOff X A _ false 3 _ (lhF X A i 1536 _ _ (readRows X _ _ 512 1536 0 _) (readAug A _ _ 512 1536 1 _)) 2 (by decide) _ _ (readRows X _ _ 512 1024 1 _) (readAug A _ _ 512 1024 0 _)

theorem ld_v1615 : kernelRun0_B.sl.v1615 c i arg2 harg2 arg3 harg3 arg7 arg15 harg15 X A (mkV 512 512 0 0) = tB 512 512 (fs X A (i 1).val false) (512 * 3) (512 * 2) := by
  refine Eq.trans (readOff (off' := ![0, 0]) _ _ (placed_k0_off3 i) _ (by decide)) ?_
  exact readHit.trans st_off_false_3_2

theorem st_off_false_3_1 : kernelRun0_B.sl.v1363 c i arg2 harg2 arg3 harg3 X A = tB 512 512 (fs X A (i 1).val false) (512 * 3) (512 * 1) :=
  stOff X A _ false 3 _ (lhF X A i 1536 _ _ (readRows X _ _ 512 1536 0 _) (readAug A _ _ 512 1536 1 _)) 1 (by decide) _ _ (readRows X _ _ 512 512 1 _) (readAug A _ _ 512 512 0 _)

theorem ld_v1483 : kernelRun0_B.sl.v1483 c i arg2 harg2 arg3 harg3 arg9 arg15 harg15 X A (mkV 512 512 0 0) = tB 512 512 (fs X A (i 1).val false) (512 * 3) (512 * 1) := by
  refine Eq.trans (readOff (off' := ![0, 0]) _ _ (placed_k0_off3 i) _ (by decide)) ?_
  exact readHit.trans st_off_false_3_1

theorem st_off_false_3_0 : kernelRun0_B.sl.v1188 c i arg2 harg2 arg3 harg3 X A = tB 512 512 (fs X A (i 1).val false) (512 * 3) (512 * 0) :=
  stOff X A _ false 3 _ (lhF X A i 1536 _ _ (readRows X _ _ 512 1536 0 _) (readAug A _ _ 512 1536 1 _)) 0 (by decide) _ _ (readRows X _ _ 512 0 1 _) (readAug A _ _ 512 0 0 _)

theorem ld_v1401 : kernelRun0_B.sl.v1401 c i arg2 harg2 arg3 harg3 arg7 arg15 harg15 X A (mkV 512 512 0 0) = tB 512 512 (fs X A (i 1).val false) (512 * 3) (512 * 0) := by
  refine Eq.trans (readOff (off' := ![0, 0]) _ _ (placed_k0_off3 i) _ (by decide)) ?_
  exact readHit.trans st_off_false_3_0

theorem st_a_false_3_0 : k0_pay197 = aV 512 0 X (fs X A (i 1).val false) 3 0 :=
  aInit X _ 3

theorem ld_v1406 : kernelRun0_B.sl.v1406 c i arg2 harg2 arg3 harg3 arg5 arg7 arg9 arg10 arg13 arg14 arg15 harg15 X A (mkV 512 512 0 0) = aV 512 0 X (fs X A (i 1).val false) 3 0 :=
  readHit.trans st_a_false_3_0

theorem st_a_false_3_1 : kernelRun0_B.sl.v1415 c i arg2 harg2 arg3 harg3 arg5 arg7 arg9 arg10 arg13 arg14 arg15 harg15 X A (mkV 512 512 0 0) = aV 512 0 X (fs X A (i 1).val false) 3 1 :=
  aOffSt X _ 3 0 (by decide) _ _ _ _ _ ld_v1394 ld_v1395 ld_v1401 ld_v1406 ld_v584

theorem ld_v1488 : kernelRun0_B.sl.v1488 c i arg2 harg2 arg3 harg3 arg5 arg7 arg9 arg10 arg13 arg14 arg15 harg15 X A (mkV 512 512 0 0) = aV 512 0 X (fs X A (i 1).val false) 3 1 :=
  readHit.trans st_a_false_3_1

theorem st_a_false_3_2 : kernelRun0_B.sl.v1497 c i arg2 harg2 arg3 harg3 arg5 arg7 arg9 arg10 arg13 arg14 arg15 harg15 X A (mkV 512 512 0 0) = aV 512 0 X (fs X A (i 1).val false) 3 2 :=
  aOffSt X _ 3 1 (by decide) _ _ _ _ _ ld_v1476 ld_v1477 ld_v1483 ld_v1488 ld_v1050

theorem ld_v1620 : kernelRun0_B.sl.v1620 c i arg2 harg2 arg3 harg3 arg5 arg7 arg9 arg10 arg13 arg14 arg15 harg15 X A (mkV 512 512 0 0) = aV 512 0 X (fs X A (i 1).val false) 3 2 :=
  readHit.trans st_a_false_3_2

theorem st_a_false_3_3 : kernelRun0_B.sl.v1629 c i arg2 harg2 arg3 harg3 arg5 arg7 arg9 arg10 arg13 arg14 arg15 harg15 X A (mkV 512 512 0 0) = aV 512 0 X (fs X A (i 1).val false) 3 3 :=
  aOffSt X _ 3 2 (by decide) _ _ _ _ _ ld_v1608 ld_v1609 ld_v1615 ld_v1620 ld_v1598

theorem ld_v1708 : kernelRun0_B.sl.v1708 c i arg2 harg2 arg3 harg3 arg5 arg7 arg9 arg10 arg13 arg14 arg15 harg15 X A (mkV 512 512 0 0) = aV 256 0 X (fs X A (i 1).val false) 3 3 :=
  readHalf X _ _ _ 3 3 0 _ _ _ st_a_false_3_3

theorem st_aL_false_3_4 : kernelRun0_B.sl.v1715 c i arg2 harg2 arg3 harg3 arg5 arg7 arg9 arg10 arg13 arg14 arg15 harg15 X A (mkV 512 512 0 0) = aV 256 0 X (fs X A (i 1).val false) 3 4 :=
  aLeftSt X _ 3 _ _ _ _ _ ld_v1681 ld_v1682 ld_v1688 ld_v1653 ld_v1708

theorem st_bot_false_3 : kernelRun0_B.sl.v1571 c i arg2 harg2 arg3 harg3 arg15 harg15 X A (mkV 512 512 0 0) = tB 256 256 (fs X A (i 1).val false) (512 * 3 + 256) (512 * 3 + 256) :=
  stBot X A _ false 3 _ (lhF X A i 1536 _ _ (readRows X _ _ 512 1536 0 _) (readAug A _ _ 512 1536 1 _)) _ _ _ (readRows X _ _ 256 1792 1 _) (readAug A _ _ 256 1792 0 _) (readMask' _ _ 256 256 256 256 _)

theorem ld_v1695 : kernelRun0_B.sl.v1695 c i arg2 harg2 arg3 harg3 arg9 arg15 harg15 X A (mkV 512 512 0 0) = tB 256 256 (fs X A (i 1).val false) (512 * 3 + 256) (512 * 3 + 256) := by
  refine Eq.trans (readOff (off' := ![256, 256]) _ _ (placed_k0_off2 i) _ (by decide)) ?_
  exact readHit.trans st_bot_false_3

theorem ld_v1717 : kernelRun0_B.sl.v1717 c i arg2 harg2 arg3 harg3 arg5 arg7 arg9 arg10 arg13 arg14 arg15 harg15 X A (mkV 512 512 0 0) = aV 256 256 X (fs X A (i 1).val false) 3 3 := by
  refine (readSkip (by decide)).trans ?_
  exact readHalf X _ _ _ 3 3 256 _ _ _ st_a_false_3_3

theorem st_aR_false_3_4 : kernelRun0_B.sl.v1725 c i arg2 harg2 arg3 harg3 arg5 arg7 arg9 arg10 arg13 arg14 arg15 harg15 X A (mkV 512 512 0 0) = aV 256 256 X (fs X A (i 1).val false) 3 4 :=
  aRightSt X _ 3 _ _ _ _ _ _ _ ld_v1681 ld_v1682 ld_v1688 ld_v1653 ld_v1695 ld_v1656 ld_v1717

theorem ld_v1737 : kernelRun0_B.sl.v1737 c i arg2 harg2 arg3 harg3 arg5 arg7 arg9 arg10 arg13 arg14 arg15 harg15 X A (mkV 512 512 0 0) = aV 512 0 X (fs X A (i 1).val false) 3 4 :=
  readHalves X _ _ _ 3 4 _ _ _ _ _ st_aL_false_3_4 st_aR_false_3_4

end Cert.Fox.CaseB
-- ==== Proof.FoxOutB.lean ====
module

public import proofs.«01_k».proof.Proof.FoxFinish
public import proofs.«01_k».proof.Proof.FoxChainB
public import Idealize.ShloMosaic.Lib.Pipeline.ValueKit

@[expose] public section

set_option maxRecDepth 16384

noncomputable section

namespace Cert.Fox.CaseB

open Cert.FoxIdeal Cert.FoxIdeal.Gen Cert.Diff Idealize.ShloMosaic Idealize.ShloMosaic.TcCoe

variable (X : Vec Ideal S1x1x4x2048x128 .bf16) (A : Vec Ideal S1x2x2048x128 .bf16) {c : Dev nD} {i : grid0.Coords}
  {arg2 : Memref sig .tc .vmem S1x1x4x2048x128 .bf16} {harg2 : arg2.IsWhole}
  {arg3 : Memref sig .tc .vmem S1x2x2048x128 .bf16} {harg3 : arg3.IsWhole}
  {arg4 : Memref sig .tc .vmem S1x1x2048x128 .bf16} {harg4 : arg4.IsWhole}
  {arg5 : Memref sig .tc .vmem S4x144x512 .bf16} {harg5 : arg5.IsWhole}
  {arg6 : Memref sig .tc .vmem S512x512 .f32} {harg6 : arg6.IsWhole}
  {arg7 : Memref sig .tc .vmem S512x512 .f32} {harg7 : arg7.IsWhole}
  {arg8 : Memref sig .tc .vmem S512x512 .f32} {harg8 : arg8.IsWhole}
  {arg9 : Memref sig .tc .vmem S512x512 .f32} {harg9 : arg9.IsWhole}
  {arg10 : Memref sig .tc .vmem S2x2x1x512 .f32} {harg10 : arg10.IsWhole}
  {arg11 : Memref sig .tc .vmem S1x512 .f32} {harg11 : arg11.IsWhole}
  {arg12 : Memref sig .tc .vmem S144x512 .f32} {harg12 : arg12.IsWhole}
  {arg13 : Memref sig .tc .vmem S1x512 .f32} {harg13 : arg13.IsWhole}
  {arg14 : Memref sig .tc .vmem S144x512 .f32} {harg14 : arg14.IsWhole}
  {arg15 : Memref sig .tc .vmem S1x512x512 .f32} {harg15 : arg15.IsWhole}

theorem tile0 : k0_pay67 k0_pay3 (kernelRun0_B.sl.v440 (F := Ideal) c i arg2 harg2 arg3 harg3 arg5 arg6 arg10 arg11 arg12 arg15 harg15 X A (mkV 512 512 0 0)) (kernelRun0_B.sl.v448 (F := Ideal) c i arg2 harg2 arg3 harg3 arg5 arg7 arg10 arg13 arg14 arg15 harg15 X A (mkV 512 512 0 0)) (View.readAt (Elt Ideal) arg2.view (Rect.unit (s := S1x1x4x2048x128) ![0, 0, 3, 0, 0] S1x1x1x512x128.size inb_S1x1x4x2048x128_S1x1x1x512x128_0_0_3_0_0).toLoadRect (harg2.unread X)) = outT X A (i 1).val 0 := by
  refine Eq.trans ?_ (finEq X A (i 1).val 0 _ _ _ (ld_v440 (c := c) (i := i) (arg2 := arg2) (harg2 := harg2) (arg3 := arg3) (harg3 := harg3) (arg5 := arg5) (arg6 := arg6) (arg10 := arg10) (arg11 := arg11) (arg12 := arg12) (arg15 := arg15) (harg15 := harg15)) (ld_v448 (c := c) (i := i) (arg2 := arg2) (harg2 := harg2) (arg3 := arg3) (harg3 := harg3) (arg5 := arg5) (arg7 := arg7) (arg10 := arg10) (arg13 := arg13) (arg14 := arg14) (arg15 := arg15) (harg15 := harg15)) (readRows X arg2 harg2 512 0 3 (by decide)))
  rfl

theorem tile1 : k0_pay121 k0_pay3 (kernelRun0_B.sl.v824 (F := Ideal) c i arg2 harg2 arg3 harg3 arg5 arg6 arg8 arg10 arg11 arg12 arg15 harg15 X A (mkV 512 512 0 0)) (kernelRun0_B.sl.v832 (F := Ideal) c i arg2 harg2 arg3 harg3 arg5 arg7 arg9 arg10 arg13 arg14 arg15 harg15 X A (mkV 512 512 0 0)) (View.readAt (Elt Ideal) arg2.view (Rect.unit (s := S1x1x4x2048x128) ![0, 0, 3, 512, 0] S1x1x1x512x128.size inb_S1x1x4x2048x128_S1x1x1x512x128_0_0_3_512_0).toLoadRect (harg2.unread X)) = outT X A (i 1).val 1 := by
  refine Eq.trans ?_ (finEq X A (i 1).val 1 _ _ _ (ld_v824 (c := c) (i := i) (arg2 := arg2) (harg2 := harg2) (arg3 := arg3) (harg3 := harg3) (arg5 := arg5) (arg6 := arg6) (arg8 := arg8) (arg10 := arg10) (arg11 := arg11) (arg12 := arg12) (arg15 := arg15) (harg15 := harg15)) (ld_v832 (c := c) (i := i) (arg2 := arg2) (harg2 := harg2) (arg3 := arg3) (harg3 := harg3) (arg5 := arg5) (arg7 := arg7) (arg9 := arg9) (arg10 := arg10) (arg13 := arg13) (arg14 := arg14) (arg15 := arg15) (harg15 := harg15)) (readRows X arg2 harg2 512 512 3 (by decide)))
  rfl

theorem tile2 : k0_pay193 (kernelRun0_B.sl.v1297 (F := Ideal) c i arg2 harg2 arg3 harg3 arg5 arg6 arg8 arg10 arg11 arg12 arg15 harg15 X A (mkV 512 512 0 0)) (kernelRun0_B.sl.v1305 (F := Ideal) c i arg2 harg2 arg3 harg3 arg5 arg7 arg9 arg10 arg13 arg14 arg15 harg15 X A (mkV 512 512 0 0)) (kernelRun0_B.sl.v1311 (F := Ideal) c arg2 harg2 X) (k0_pay192 k0_pay3) = outT X A (i 1).val 2 := by
  refine Eq.trans ?_ (finEq X A (i 1).val 2 _ _ _ (ld_v1290 (c := c) (i := i) (arg2 := arg2) (harg2 := harg2) (arg3 := arg3) (harg3 := harg3) (arg5 := arg5) (arg6 := arg6) (arg8 := arg8) (arg10 := arg10) (arg11 := arg11) (arg12 := arg12) (arg15 := arg15) (harg15 := harg15)) (ld_v1298 (c := c) (i := i) (arg2 := arg2) (harg2 := harg2) (arg3 := arg3) (harg3 := harg3) (arg5 := arg5) (arg7 := arg7) (arg9 := arg9) (arg10 := arg10) (arg13 := arg13) (arg14 := arg14) (arg15 := arg15) (harg15 := harg15)) (readRows X arg2 harg2 512 1024 3 (by decide)))
  rfl

theorem tile3 : k0_pay1 (kernelRun0_B.sl.r_18 (F := Ideal) c i arg2 harg2 arg3 harg3 arg5 arg6 arg7 arg8 arg9 arg10 arg11 arg12 arg13 arg14 arg15 harg15 X A (mkV 512 512 0 0)) = outT X A (i 1).val 3 := by
  refine Eq.trans ?_ (finEq X A (i 1).val 3 _ _ _ (ld_v1729 (c := c) (i := i) (arg2 := arg2) (harg2 := harg2) (arg3 := arg3) (harg3 := harg3) (arg5 := arg5) (arg6 := arg6) (arg8 := arg8) (arg10 := arg10) (arg11 := arg11) (arg12 := arg12) (arg15 := arg15) (harg15 := harg15)) (ld_v1737 (c := c) (i := i) (arg2 := arg2) (harg2 := harg2) (arg3 := arg3) (harg3 := harg3) (arg5 := arg5) (arg7 := arg7) (arg9 := arg9) (arg10 := arg10) (arg13 := arg13) (arg14 := arg14) (arg15 := arg15) (harg15 := harg15)) (readRows X arg2 harg2 512 1536 3 (by decide)))
  rfl

theorem out (hc : ¬cond0_0 i) : out0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc X A (mkV 512 512 0 0) = outV X A (i 1).val := by
  rw [out0_B_2]
  refine (View.read_writes_junk_eq_canon _ _).trans ?_
  exact canonOut X A (i 1).val _ _ _ _ (tile0 X A) (tile1 X A) (tile2 X A) (tile3 X A) _ _ _ _

end Cert.Fox.CaseB
-- ==== Proof.FoxArray.lean ====
module

public import proofs.«01_k».proof.Proof.FoxOutA
public import proofs.«01_k».proof.Proof.FoxOutB
public import proofs.«01_k».proof.Proof.Gen.FoxIdeal.Value
public import Idealize.ShloMosaic.Lib.Pipeline.ValueKit

@[expose] public section

set_option maxRecDepth 16384

noncomputable section

namespace Cert.Fox

open Cert.FoxIdeal Cert.FoxIdeal.Gen Cert.Diff Idealize.ShloMosaic Idealize.ShloMosaic.TcCoe

variable (m : (ℓ : Loc nD τ sig) → Buf (Elt Ideal) ℓ)

theorem unit_of : ∀ t : Fin cfg0.N, (grid0.coords t 1).val = t.val % 4 :=
  (by decide +kernel : ∀ t : Fin grid0.N, _)

theorem afterA (c : Dev nD) (t : Fin cfg0.N) (h : t.val % 32 = 0) : outsAt0 m c t.val t.isLt
    = (outV (iblk m c 0 t) (iblk m c 1 t) (grid0.coords t 1).val, mkV 512 512 0 0) := by
  rw [outsAt0_A m c t h]
  refine Prod.ext ?_ ?_
  · dsimp only
    exact CaseA.out _ _ _
  · dsimp only
    exact CaseA.tableOut _ _ _

theorem afterB (c : Dev nD) (t : Fin cfg0.N) (h : ¬ t.val % 32 = 0) (hT : (outsAt0 m c (t.val - 1) (Nat.lt_of_le_of_lt (Nat.sub_le _ _) t.isLt)).2 = mkV 512 512 0 0) :
    outsAt0 m c t.val t.isLt = (outV (iblk m c 0 t) (iblk m c 1 t) (grid0.coords t 1).val, mkV 512 512 0 0) := by
  rw [outsAt0_B m c t h]
  refine Prod.ext ?_ ?_
  · dsimp only
    rw [hT]
    exact CaseB.out _ _ _
  · dsimp only
    exact hT

/-- Every grid point leaves the mask table in the carried scratch buffer. -/
theorem tableAfter (c : Dev nD) : ∀ (n : ℕ) (hn : n < cfg0.N), (outsAt0 m c n hn).2 = mkV 512 512 0 0
  | 0, hn => congrArg Prod.snd (afterA m c ⟨0, hn⟩ rfl)
  | n + 1, hn =>
    congrArg Prod.snd (afterB m c ⟨n + 1, hn⟩ (by
      have h : n + 1 < 32 := lt_of_lt_of_eq hn N_0
      show ¬ (n + 1) % 32 = 0
      omega) (tableAfter c n (Nat.lt_of_succ_lt hn)))

/-- What every grid point leaves in its result block. -/
theorem blockAfter (c : Dev nD) (t : Fin cfg0.N) : (outsAt0 m c t.val t.isLt).1
    = outV (iblk m c 0 t) (iblk m c 1 t) (t.val % 4) := by
  rw [← unit_of t]
  by_cases h : t.val % 32 = 0
  · exact congrArg Prod.fst (afterA m c t h)
  · exact congrArg Prod.fst (afterB m c t h (tableAfter m c _ _))

/-- The block of the packed operands one batch and pair of heads reads. -/
def pack (A : FVec Ideal S8x8x4x2048x128 .bf16) (b : Fin 8) (p : Fin 4) : FVec Ideal S1x1x4x2048x128 .bf16 :=
  fun y => A (ix5 b ⟨p.val, by omega⟩ (y 2) (y 3) (y 4))

/-- The block of the added lanes one batch reads. -/
def packA (A : FVec Ideal S8x2x2048x128 .bf16) (b : Fin 8) : FVec Ideal S1x2x2048x128 .bf16 :=
  fun y => A (ix4 b (y 1) (y 2) (y 3))

theorem idx : ∀ t : Fin cfg0.N, win0_0.index t = ![t.val / 4, t.val % 4, 0, 0, 0] ∧ win0_1.index t = ![t.val / 4, 0, 0, 0]
    ∧ win0_2.index t = ![t.val / 4, t.val % 4, 0, 0] :=
  (by decide +kernel : ∀ t : Fin grid0.N, _)

theorem blk0 (c : Dev nD) (t : Fin cfg0.N) (b : Fin 8) (p : Fin 4) (hb : b.val = t.val / 4) (hp : p.val = t.val % 4) :
    iblk m c 0 t = pack (V m c main_v19) b p := by
  funext y
  have h0 : (y 0).val < 1 := (y 0).isLt
  have h1 : (y 1).val < 1 := (y 1).isLt
  refine congrArg (V m c main_v19) (funext fun a => Fin.ext ?_)
  fin_cases a <;> blk_simp [idx t]
  · exact hb.symm
  · exact hp.symm
  · rfl
  · rfl
  · rfl

theorem blk1 (c : Dev nD) (t : Fin cfg0.N) (b : Fin 8) (hb : b.val = t.val / 4) :
    iblk m c 1 t = packA (V m c main_v40) b := by
  funext y
  have h0 : (y 0).val < 1 := (y 0).isLt
  refine congrArg (V m c main_v40) (funext fun a => Fin.ext ?_)
  fin_cases a <;> blk_simp [idx t]
  · exact hb.symm
  · rfl
  · rfl
  · rfl

theorem emb2 (t : Fin cfg0.N) (y : S1x1x2048x128.Idx) : (win0_2.blk t).view.emb y
    = ix4 (⟨t.val / 4, by have := lt_of_lt_of_eq t.isLt N_0; omega⟩ : Fin 8) (⟨t.val % 4, by omega⟩ : Fin 4) (y 2) (y 3) := by
  have h0 : (y 0).val < 1 := (y 0).isLt
  have h1 : (y 1).val < 1 := (y 1).isLt
  refine funext fun a => Fin.ext ?_
  fin_cases a <;> blk_simp [idx t]
  all_goals rfl

/-- The whole result array, entry by entry. -/
def result (P : FVec Ideal S8x8x4x2048x128 .bf16) (A : FVec Ideal S8x2x2048x128 .bf16) :
    FVec Ideal S8x4x2048x128 .bf16 := fun y => outN (pack P (y 0) (y 1)) (packA A (y 0)) (y 1).val (y 2).val (y 3)

theorem final (c : Dev nD) : (dats m 0 c).arrAt 2 cfg0.N = result (V m c main_v19) (V m c main_v40) := by
  refine (dats m 0 c).arrAt_eq_of_covers 2 _ (by decide +kernel) fun t _ y => ?_
  blk_simp
  rw [after0_2]
  rw [show (outsAt0 m c t.val t.isLt).1 = _ from blockAfter m c t]
  have ht : t.val < 32 := lt_of_lt_of_eq t.isLt N_0
  rw [blk0 m c t ⟨t.val / 4, by omega⟩ ⟨t.val % 4, by omega⟩ rfl rfl, blk1 m c t ⟨t.val / 4, by omega⟩ rfl]
  rw [emb2 t y]
  rfl

end Cert.Fox
-- ==== Proof.FoxPack.lean ====
module

public import proofs.«01_k».proof.Proof.Gen.FoxIdeal.Value
public import Idealize.ShloMosaic.Lib.Pipeline.ValueKit
public import Idealize.ShloMosaic.Lib.Claim
public import Idealize.ShloMosaic.Lib.Pointwise

@[expose] public section

set_option maxRecDepth 16384

noncomputable section

namespace Cert.Fox

open Cert.FoxIdeal Cert.FoxIdeal.Gen Idealize.ShloMosaic Idealize.ShloMosaic.TcCoe

variable (m : (ℓ : Loc nD τ sig) → Buf (Elt Ideal) ℓ)

/-- Two heads side by side. -/
def pairs (x : FVec Ideal S8x8x2048x64 .f32) : FVec Ideal S8x4x1x2048x128 .f32 :=
  broadcastInDim S8x4x1x2048x128 ![0, 1, 3, 4] bcast_S8x4x2048x128_S8x4x1x2048x128_0_1_3_4
    (shapeCast _ (transpose S8x4x2048x2x64 [0, 1, 3, 2, 4] (shapeCast _ x shapeCasts_S8x8x2048x64_S8x4x2x2048x64) transposes_S8x4x2x2048x64_S8x4x2048x2x64_0_1_3_2_4)
      shapeCasts_S8x4x2048x2x64_S8x4x2048x128)

/-- The operands side by side, and four empty units after them. -/
def packed (q k v g : FVec Ideal S8x8x2048x64 .f32) : FVec Ideal S8x8x4x2048x128 .bf16 :=
  concatenate S8x8x4x2048x128 1
    [⟨S8x4x4x2048x128, truncf .bf16 (concatenate S8x4x4x2048x128 2 [⟨S8x4x1x2048x128, pairs q⟩, ⟨S8x4x1x2048x128, pairs k⟩, ⟨S8x4x1x2048x128, pairs v⟩, ⟨S8x4x1x2048x128, pairs g⟩]
      concatenates_S8x4x1x2048x128_S8x4x1x2048x128_S8x4x1x2048x128_S8x4x1x2048x128_S8x4x4x2048x128_d2) bitsLt_bf16_f32⟩,
     ⟨S8x4x4x2048x128, broadcastInDim S8x4x4x2048x128 ![] bcast_S_S8x4x4x2048x128 (constant S_ .bf16 0x0000#16)⟩]
    concatenates_S8x4x4x2048x128_S8x4x4x2048x128_S8x8x4x2048x128_d1

set_option maxHeartbeats 2000000 in
theorem V19 (c : Dev nD) : V m c main_v19 = packed (m ((c : Thread nD τ).loc main_arg0)) (m ((c : Thread nD τ).loc main_arg1)) (m ((c : Thread nD τ).loc main_arg2))
    (m ((c : Thread nD τ).loc main_arg3)) := by
  rfl

/-- The prefix sums in units of log 2. -/
def units (f : FVec Ideal S8x8x2048 .f32) : FVec Ideal S8x2048x8 .f32 :=
  Host.divf (transpose S8x2048x8 [0, 2, 1] f transposes_S8x8x2048_S8x2048x8_0_2_1) (broadcastInDim S8x2048x8 ![] bcast_S_S8x2048x8 (Host.log (constant S_ .f32 0x40000000#32)))

/-- What one rounding leaves of an array. -/
def rest (x : FVec Ideal S8x2048x8 .f32) : FVec Ideal S8x2048x8 .f32 :=
  subf x (extf .f32 (truncf .bf16 x bitsLt_bf16_f32 : FVec Ideal S8x2048x8 .bf16) bitsLt_bf16_f32)

/-- The lanes of ones. -/
def ones24 : FVec Ideal S8x2048x24 .bf16 := broadcastInDim S8x2048x24 ![] bcast_S_S8x2048x24 (constant S_ .bf16 0x3F80#16)

/-- The empty lanes. -/
def zeros80 : FVec Ideal S8x2048x80 .bf16 := broadcastInDim S8x2048x80 ![] bcast_S_S8x2048x80 (constant S_ .bf16 0x0000#16)

/-- The added lanes of the keys. -/
def lanesK (x : FVec Ideal S8x2048x8 .f32) : FVec Ideal S8x2048x128 .bf16 :=
  concatenate S8x2048x128 2 [⟨S8x2048x8, Host.negf (truncf .bf16 x bitsLt_bf16_f32)⟩, ⟨S8x2048x8, Host.negf (truncf .bf16 (rest x) bitsLt_bf16_f32)⟩,
    ⟨S8x2048x8, Host.negf (truncf .bf16 (rest (rest x)) bitsLt_bf16_f32)⟩, ⟨S8x2048x24, ones24⟩, ⟨S8x2048x80, zeros80⟩]
    concatenates_S8x2048x8_S8x2048x8_S8x2048x8_S8x2048x24_S8x2048x80_S8x2048x128_d2

/-- The added lanes of the queries. -/
def lanesQ (x : FVec Ideal S8x2048x8 .f32) : FVec Ideal S8x2048x128 .bf16 :=
  concatenate S8x2048x128 2 [⟨S8x2048x24, ones24⟩, ⟨S8x2048x8, truncf .bf16 x bitsLt_bf16_f32⟩, ⟨S8x2048x8, truncf .bf16 (rest x) bitsLt_bf16_f32⟩,
    ⟨S8x2048x8, truncf .bf16 (rest (rest x)) bitsLt_bf16_f32⟩, ⟨S8x2048x80, zeros80⟩]
    concatenates_S8x2048x24_S8x2048x8_S8x2048x8_S8x2048x8_S8x2048x80_S8x2048x128_d2

/-- The added lanes, keys before queries. -/
def aug (f : FVec Ideal S8x8x2048 .f32) : FVec Ideal S8x2x2048x128 .bf16 :=
  concatenate S8x2x2048x128 1 [⟨S8x1x2048x128, broadcastInDim S8x1x2048x128 ![0, 2, 3] bcast_S8x2048x128_S8x1x2048x128_0_2_3 (lanesK (units f))⟩,
    ⟨S8x1x2048x128, broadcastInDim S8x1x2048x128 ![0, 2, 3] bcast_S8x2048x128_S8x1x2048x128_0_2_3 (lanesQ (units f))⟩]
    concatenates_S8x1x2048x128_S8x1x2048x128_S8x2x2048x128_d1

set_option maxHeartbeats 2000000 in
theorem V40 (c : Dev nD) : V m c main_v40 = aug (m ((c : Thread nD τ).loc main_arg4)) := by
  rfl

theorem pairs_at (x : FVec Ideal S8x8x2048x64 .f32) (b : Fin 8) (p : Fin 4) (z : Fin 1) (n : Fin 2048) (l : Fin 128) :
    pairs x (ix5 b p z n l) = x (ix4 b ⟨2 * p.val + l.val / 64, by omega⟩ n ⟨l.val % 64, by omega⟩) := by
  pointwise [pairs]
  exact congrArg (fun h => x (ix4 b h n ⟨l.val % 64, by omega⟩)) (Fin.ext (congrArg (· + l.val / 64) (Nat.mul_comm _ _)))

theorem packed_at (q k v g : FVec Ideal S8x8x2048x64 .f32) (b : Fin 8) (p : Fin 4) (j : Fin 4) (n : Fin 2048) (l : Fin 128) :
    packed q k v g (ix5 b ⟨p.val, by omega⟩ j n l) = (![q, k, v, g] j) (ix4 b ⟨2 * p.val + l.val / 64, by omega⟩ n ⟨l.val % 64, by omega⟩) := by
  pointwise [packed]
  fin_cases j
  · exact pairs_at q b p _ n l
  · exact pairs_at k b p _ n l
  · exact pairs_at v b p _ n l
  · exact pairs_at g b p _ n l

section
variable (q k v g : FVec Ideal S8x8x2048x64 .f32) (b : Fin 8) (p : Fin 4) (n : Fin 2048) (l : Fin 128)

theorem packed0_at : packed q k v g (ix5 b ⟨p.val, by omega⟩ 0 n l) = q (ix4 b ⟨2 * p.val + l.val / 64, by omega⟩ n ⟨l.val % 64, by omega⟩) :=
  packed_at q k v g b p 0 n l

theorem packed1_at : packed q k v g (ix5 b ⟨p.val, by omega⟩ 1 n l) = k (ix4 b ⟨2 * p.val + l.val / 64, by omega⟩ n ⟨l.val % 64, by omega⟩) :=
  packed_at q k v g b p 1 n l

theorem packed2_at : packed q k v g (ix5 b ⟨p.val, by omega⟩ 2 n l) = v (ix4 b ⟨2 * p.val + l.val / 64, by omega⟩ n ⟨l.val % 64, by omega⟩) :=
  packed_at q k v g b p 2 n l

theorem packed3_at : packed q k v g (ix5 b ⟨p.val, by omega⟩ 3 n l) = g (ix4 b ⟨2 * p.val + l.val / 64, by omega⟩ n ⟨l.val % 64, by omega⟩) :=
  packed_at q k v g b p 3 n l
end

theorem units_at (f : FVec Ideal S8x8x2048 .f32) (b : Fin 8) (n : Fin 2048) (h : Fin 8) :
    units f (ix3 b n h) = Ideal.div (f (ix3 b h n)) (Ideal.log (Ideal.ofBits .f32 0x40000000#32)) := by
  pointwise [units]

section
variable (x : FVec Ideal S8x2048x8 .f32) (b : Fin 8) (n : Fin 2048) (U : Fin 8 → ℝ) (hU : ∀ h, x (ix3 b n h) = (U h : EReal))
include hU

/-- Rounding leaves nothing of a real. -/
theorem rest_at (h : Fin 8) : rest x (ix3 b n h) = 0 := by
  show x (ix3 b n h) - x (ix3 b n h) = 0
  rw [hU, ← EReal.coe_sub, sub_self, EReal.coe_zero]

theorem rest_rest_at (h : Fin 8) : rest (rest x) (ix3 b n h) = 0 := by
  show rest x (ix3 b n h) - rest x (ix3 b n h) = 0
  rw [rest_at x b n U hU, sub_zero]

theorem lanesK_at (l : Fin 128) : lanesK x (ix3 b n l)
    = ((if h : l.val < 8 then -U ⟨l.val, h⟩ else if l.val < 24 then 0 else if l.val < 48 then 1 else 0 : ℝ) : EReal) := by
  pointwise [lanesK, ones24, zeros80]
  simp only [hU, rest_at x b n U hU, rest_rest_at x b n U hU, neg_zero]
  split_ifs <;> first | rfl | (exfalso; omega)

theorem lanesQ_at (l : Fin 128) : lanesQ x (ix3 b n l)
    = ((if l.val < 24 then 1 else if h : l.val < 32 then U ⟨l.val - 24, by omega⟩ else 0 : ℝ) : EReal) := by
  pointwise [lanesQ, ones24, zeros80]
  simp only [hU, rest_at x b n U hU, rest_rest_at x b n U hU]
  by_cases h1 : l.val < 24
  · rw [dif_pos h1, if_pos h1, EReal.coe_one]
  · by_cases h2 : l.val < 32
    · rw [dif_neg h1, dif_pos (by omega), if_neg h1, dif_pos h2]
    · rw [dif_neg h1, dif_neg (by omega), if_neg h1, dif_neg h2, EReal.coe_zero]
      simp
end

theorem augK_at (f : FVec Ideal S8x8x2048 .f32) (b : Fin 8) (n : Fin 2048) (l : Fin 128) : aug f (ix4 b 0 n l) = lanesK (units f) (ix3 b n l) := by
  pointwise [aug]

theorem augQ_at (f : FVec Ideal S8x8x2048 .f32) (b : Fin 8) (n : Fin 2048) (l : Fin 128) : aug f (ix4 b 1 n l) = lanesQ (units f) (ix3 b n l) := by
  pointwise [aug]

end Cert.Fox
-- ==== Proof.FoxRefAt.lean ====
module

public import proofs.«01_k».proof.Proof.Gen.FoxReferenceIdeal.Run
public import proofs.«01_k».proof.Proof.RefAt

@[expose] public section

set_option maxRecDepth 16384

noncomputable section

namespace Cert.FoxRef

open Cert.FoxReferenceIdeal Cert.FoxReferenceIdeal.Gen Idealize.ShloMosaic Idealize.ShloMosaic.TcCoe

section
variable (x y : FVec Ideal S8x8x2048x64 .f32) (f : FVec Ideal S8x8x2048 .f32)

/-- The masked scores of every head. -/
def scores : FVec Ideal S8x8x2048x2048 .f32 :=
  select (broadcastInDim S8x8x2048x2048 ![2, 3] bcast_S2048x2048_S8x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    (addf (mulf (Host.dotGeneral dot_S8x8x2048x64_S8x8x2048x64_S8x8x2048x2048_3_3_2_2_01_01 none x y) (broadcastInDim S8x8x2048x2048 ![] bcast_S_S8x8x2048x2048 (constant S_ .f32 0x3E000000#32)))
      (subf (broadcastInDim S8x8x2048x2048 ![0, 1, 2, 3] bcast_S8x8x2048x1_S8x8x2048x2048_0_1_2_3 (broadcastInDim S8x8x2048x1 ![0, 1, 2] bcast_S8x8x2048_S8x8x2048x1_0_1_2 f))
        (broadcastInDim S8x8x2048x2048 ![0, 1, 2, 3] bcast_S8x8x1x2048_S8x8x2048x2048_0_1_2_3 (broadcastInDim S8x8x1x2048 ![0, 1, 3] bcast_S8x8x2048_S8x8x1x2048_0_1_3 f))))
    (broadcastInDim S8x8x2048x2048 ![] bcast_S_S8x8x2048x2048 (id (constant S_ .f32 0xFF800000#32)))

/-- The maximum of every row. -/
def rowMax (s : FVec Ideal S8x8x2048x2048 .f32) : FVec Ideal S8x8x2048 .f32 :=
  maximumf (broadcastInDim S8x8x2048 ![] bcast_S_S8x8x2048 (constant S_ .f32 0xFF800000#32)) (Host.reduce FloatOps.maximumf s (constant S_ .f32 0xFF800000#32) reducesTo_S8x8x2048x2048_S8x8x2048_d3 h_S_)

/-- The exponentials of the scores, each relative to its row's maximum. -/
def expo (s : FVec Ideal S8x8x2048x2048 .f32) : FVec Ideal S8x8x2048x2048 .f32 :=
  Host.exp (subf s (broadcastInDim S8x8x2048x2048 ![0, 1, 2, 3] bcast_S8x8x2048x1_S8x8x2048x2048_0_1_2_3 (broadcastInDim S8x8x2048x1 ![0, 1, 2] bcast_S8x8x2048_S8x8x2048x1_0_1_2 (rowMax s))))

/-- The softmax of the rows. -/
def prob (e : FVec Ideal S8x8x2048x2048 .f32) : FVec Ideal S8x8x2048x2048 .f32 :=
  Host.divf e (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd e (constant S_ .f32 0x00000000#32) reducesTo_S8x8x2048x2048_S8x8x2048_d3 h_S_)))

theorem scores_at (b h : Fin 8) (i j : Fin 2048) : scores x y f (ix4 b h i j)
    = if j.val ≤ i.val then (∑ d : Fin 64, x (ix4 b h i d) * y (ix4 b h j d)) * Ideal.ofBits .f32 0x3E000000#32 + (f (ix3 b h i) - f (ix3 b h j))
      else Ideal.ofBits .f32 0xFF800000#32 := by
  pointwise [scores]
  rw [WordCmp.cmpi_sle_ofNat (by omega) (by omega)]
  by_cases h : j.val ≤ i.val
  · rw [if_pos h, decide_eq_true h]; rfl
  · rw [if_neg h, decide_eq_false h]; rfl

theorem expo_at (s : FVec Ideal S8x8x2048x2048 .f32) (b h : Fin 8) (i j : Fin 2048) : expo s (ix4 b h i j)
    = FloatOps.exp (F := Ideal) (φ := .f32) (s (ix4 b h i j) - rowMax s (ix3 b h i)) := by
  pointwise [expo]

theorem lastAxis : S8x8x2048x2048.Reduces [3] S8x8x2048 := by decide

theorem rowMax_at (s : FVec Ideal S8x8x2048x2048 .f32) (b h : Fin 8) (i : Fin 2048) : rowMax s (ix3 b h i)
    = max (Ideal.ofBits .f32 0xFF800000#32) (Finset.fold max (Ideal.ofBits .f32 0xFF800000#32) (fun k : Fin 2048 => s (ix4 b h i k)) Finset.univ) := by
  have e := Ref.fold_last (A := 8) (B := 8) (C := 2048) (N := 2048) s (constant (F := Ideal) S_ .f32 0xFF800000#32) reducesTo_S8x8x2048x2048_S8x8x2048_d3 lastAxis h_S_ b h i
  have hc : (constant S_ .f32 0xFF800000#32 : FVec Ideal S_ .f32) (Shape.Idx.first h_S_) = Ideal.ofBits .f32 0xFF800000#32 := rfl
  rw [rowMax, Ref.max_at]
  refine congrArg₂ max ?_ ?_
  · rfl
  · exact e.trans (by rw [hc])

theorem prob_at (e : FVec Ideal S8x8x2048x2048 .f32) (b h : Fin 8) (i j : Fin 2048) : prob e (ix4 b h i j)
    = Ideal.div (e (ix4 b h i j)) (∑ k : Fin 2048, e (ix4 b h i k)) := by
  pointwise [prob]
end

/-- The softmax weights applied to the values. -/
def attend (p : FVec Ideal S8x8x2048x2048 .f32) (v : FVec Ideal S8x8x2048x64 .f32) : FVec Ideal S8x8x2048x64 .f32 :=
  Host.dotGeneral dot_S8x8x2048x2048_S8x8x2048x64_S8x8x2048x64_3_2_2_3_01_01 none p v

theorem attend_at (p : FVec Ideal S8x8x2048x2048 .f32) (v : FVec Ideal S8x8x2048x64 .f32) (b h : Fin 8) (i : Fin 2048) (d : Fin 64) :
    attend p v (ix4 b h i d) = ∑ j : Fin 2048, p (ix4 b h i j) * v (ix4 b h j d) := by
  pointwise [attend]

/-- The gate, and the heads laid side by side in pairs. -/
def gated (o g : FVec Ideal S8x8x2048x64 .f32) : FVec Ideal S8x4x2048x128 .bf16 :=
  truncf .bf16 (shapeCast _ (transpose S8x4x2048x2x64 [0, 1, 3, 2, 4]
    (shapeCast _ (mulf o (mulf g (Host.divf (broadcastInDim S8x8x2048x64 ![] bcast_S_S8x8x2048x64 (constant S_ .f32 0x3F800000#32)) (addf (broadcastInDim S8x8x2048x64 ![] bcast_S_S8x8x2048x64 (constant S_ .f32 0x3F800000#32)) (Host.exp (Host.negf g)))))) shapeCasts_S8x8x2048x64_S8x4x2x2048x64)
    transposes_S8x4x2x2048x64_S8x4x2048x2x64_0_1_3_2_4) shapeCasts_S8x4x2048x2x64_S8x4x2048x128) bitsLt_bf16_f32

theorem gated_at (o g : FVec Ideal S8x8x2048x64 .f32) (b : Fin 8) (p : Fin 4) (i : Fin 2048) (d : Fin 128) (h : Fin 8) (e : Fin 64)
    (hh : h.val = 2 * p.val + d.val / 64) (he : e.val = d.val % 64) : gated o g (ix4 b p i d)
    = o (ix4 b h i e) * (g (ix4 b h i e) * Ideal.div (Ideal.ofBits .f32 0x3F800000#32) (Ideal.ofBits .f32 0x3F800000#32 + FloatOps.exp (F := Ideal) (φ := .f32) (-g (ix4 b h i e)))) := by
  have eh : h = ⟨p.val * 2 + d.val / 64, by omega⟩ := Fin.ext (hh.trans (congrArg (· + d.val / 64) (Nat.mul_comm _ _)))
  have ee : e = ⟨d.val % 64, by omega⟩ := Fin.ext he
  rw [eh, ee]
  pointwise [gated]

/-- The reference's result, in the pieces above. -/
theorem res_eq (m : (ℓ : Loc nD τ sig) → Buf (Elt Ideal) ℓ) (c : Dev nD) : Value.res_main_v34 m c
    = gated (attend (prob (expo (scores (m ((c.tc : Thread nD τ).loc main_arg0)) (m ((c.tc : Thread nD τ).loc main_arg1)) (m ((c.tc : Thread nD τ).loc main_arg4)))))
        (m ((c.tc : Thread nD τ).loc main_arg2))) (m ((c.tc : Thread nD τ).loc main_arg3)) := rfl

end Cert.FoxRef
-- ==== Proof.Finite.lean ====
module

public import proofs.«01_k».proof.Defs
public import proofs.«01_k».proof.Proof.Join
public import Idealize.ShloMosaic.Lib.ReduceAll

@[expose] public section

set_option maxRecDepth 16384

noncomputable section

namespace Cert.Diff

open Idealize.ShloMosaic Idealize.ShloMosaic.TcCoe

/-- The side conditions of the precondition's operations. -/
instance preFacts : Cert.Pre_finite.Facts where
  bcast_S_S8x4x2048x64 := by decide
  reducesTo_S8x4x2048x64_S_d0_1_2_3 := by decide
  h_S_ := by decide
  bcast_S_S8x4x2048x128 := by decide
  reducesTo_S8x4x2048x128_S_d0_1_2_3 := by decide
  bcast_S_S2x64 := by decide
  reducesTo_S2x64_S_d0_1 := by decide

open Cert.Pre_finite in
/-- An array whose every magnitude is below infinity holds reals. -/
theorem finite_of_all {s : Shape} {axes : List (Fin s.rank)} (x : FVec Ideal s .f32) (y : FVec Ideal s .f32) (hy : ∀ i, y i = ⊤) (init : IVec S_ 1)
    (h : s.ReducesTo axes S_) (hu : 0 < S_.numel) (j : S_.Idx) (e : Host.reduce IntOp.andi (cmpf .olt (Host.absf x) y) init h hu j = 1#1) : Finite x := by
  haveI : Subsingleton S_.Idx := ⟨fun a b => funext fun e => e.elim0⟩
  intro i
  have hi := Host.reduce_andi_all _ init h hu j e i
  have hlt : max (x i) (-x i) < (⊤ : EReal) := by
    have h2 : BitVec.ofBool (decide (max (x i) (-x i) < y i)) = 1#1 := hi
    rw [hy] at h2
    by_contra hc
    rw [decide_eq_false hc] at h2
    exact absurd h2 (by decide)
  rw [max_lt_iff] at hlt
  have hb : x i ≠ ⊥ := by
    intro hc
    rw [hc, EReal.neg_bot] at hlt
    exact absurd hlt.2 (lt_irrefl _)
  exact ⟨_, (EReal.coe_toReal hlt.1.ne hb).symm⟩

open Cert.Pre_finite in
theorem top_at {t : Shape} (h : S_.BroadcastsInDim t (![] : Fin 0 → Fin t.rank)) (i : t.Idx) :
    broadcastInDim t ![] h (constant (F := Ideal) S_ .f32 0x7F800000#32) i = ⊤ := Consts.ofBits_posInf

open Cert.Pre_finite in
/-- What the precondition says of the arguments. -/
theorem finite_args (a0 a1 a2 a3 : FVec Ideal S8x4x2048x64 .f32) (a4 a5 : FVec Ideal S8x4x2048x128 .f32) (a6 a7 a8 a9 : FVec Ideal S2x64 .f32) (a10 : FVec Ideal S2x128 .f32)
    (j : S_.Idx) (e : fn (F := Ideal) a0 a1 a2 a3 a4 a5 a6 a7 a8 a9 a10 j = 1#1) :
    Finite a0 ∧ Finite a1 ∧ Finite a2 ∧ Finite a3 ∧ Finite a4 ∧ Finite a6 ∧ Finite a7 ∧ Finite a8 ∧ Finite a9 := by
  dsimp only [fn, fn_part1, fn_part2] at e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨-, e0⟩ := IntOp.andi_eq_one.1 e
  exact ⟨finite_of_all _ _ (top_at _) _ _ _ _ e0, finite_of_all _ _ (top_at _) _ _ _ _ e1, finite_of_all _ _ (top_at _) _ _ _ _ e2, finite_of_all _ _ (top_at _) _ _ _ _ e3,
    finite_of_all _ _ (top_at _) _ _ _ _ e4, finite_of_all _ _ (top_at _) _ _ _ _ e6, finite_of_all _ _ (top_at _) _ _ _ _ e7, finite_of_all _ _ (top_at _) _ _ _ _ e8,
    finite_of_all _ _ (top_at _) _ _ _ _ e9⟩

end Cert.Diff
-- ==== Proof.FoxJoin.lean ====
module

public import proofs.«01_k».proof.Defs
public import proofs.«01_k».proof.Proof.FoxArray
public import proofs.«01_k».proof.Proof.FoxPack
public import proofs.«01_k».proof.Proof.FoxRefAt
public import proofs.«01_k».proof.Proof.Join
public import proofs.«01_k».proof.Proof.Finite

@[expose] public section

set_option maxRecDepth 16384

noncomputable section

namespace Cert.Fox

open Cert.FoxIdeal Cert.FoxIdeal.Gen Cert.Diff Idealize.ShloMosaic Idealize.ShloMosaic.TcCoe

/-- The side conditions of the precondition's operations. -/
instance preFacts : Cert.Pre_finite_heads.Facts where
  bcast_S_S8x8x2048x64 := by decide
  reducesTo_S8x8x2048x64_S_d0_1_2_3 := by decide
  h_S_ := by decide
  bcast_S_S8x8x2048 := by decide
  reducesTo_S8x8x2048_S_d0_1_2 := by decide

open Cert.Pre_finite_heads in
/-- What the precondition says of the arguments. -/
theorem finite_args (a0 a1 a2 a3 : FVec Ideal Cert.Pre_finite_heads.S8x8x2048x64 .f32) (a4 : FVec Ideal Cert.Pre_finite_heads.S8x8x2048 .f32)
    (j : Cert.Pre_finite_heads.S_.Idx) (e : fn (F := Ideal) a0 a1 a2 a3 a4 j = 1#1) :
    Finite a0 ∧ Finite a1 ∧ Finite a4 := by
  dsimp only [fn] at e
  obtain ⟨e, e4⟩ := IntOp.andi_eq_one.1 e
  obtain ⟨e, e1⟩ := IntOp.andi_eq_one.1 e
  obtain ⟨-, e0⟩ := IntOp.andi_eq_one.1 e
  exact ⟨finite_of_all _ _ (top_at _) _ _ _ _ e0, finite_of_all _ _ (top_at _) _ _ _ _ e1, finite_of_all _ _ (top_at _) _ _ _ _ e4⟩

theorem ofBits_two : Ideal.ofBits .f32 0x40000000#32 = ((2 : ℝ) : EReal) := by
  simp [Ideal.ofBits, Ideal.ieee, -EReal.coe_mul]; norm_num

theorem log_two : Ideal.log (Ideal.ofBits .f32 0x40000000#32) = (Real.log 2 : EReal) := by
  rw [ofBits_two]
  exact if_neg (by norm_num)

section
variable (q k v g : FVec Ideal S8x8x2048x64 .f32) (f : FVec Ideal S8x8x2048 .f32) (b : Fin 8) (p : Fin 4)

/-- The head a pair's half holds. -/
def head (h : Bool) : Fin 8 := ⟨hdOf p.val h, by cases h <;> simp [hdOf] <;> omega⟩

theorem lane_head (h : Bool) (e : Fin 64) : (⟨2 * p.val + (lane h e).val / 64, by omega⟩ : Fin 8) = head p h := by
  have := e.isLt
  cases h with
  | true =>
    refine Fin.ext ?_
    show 2 * p.val + e.val / 64 = 2 * p.val + 0
    omega
  | false =>
    refine Fin.ext ?_
    show 2 * p.val + (64 + e.val) / 64 = 2 * p.val + 1
    omega

theorem lane_coord (h : Bool) (e : Fin 64) : (⟨(lane h e).val % 64, by omega⟩ : Fin 64) = e := by
  have := e.isLt
  cases h with
  | true =>
    refine Fin.ext ?_
    show e.val % 64 = e.val
    omega
  | false =>
    refine Fin.ext ?_
    show (64 + e.val) % 64 = e.val
    omega

theorem ent_eq (A : FVec Ideal S8x8x4x2048x128 .bf16) (kd : Fin 4) (n : Fin 2048) (d : Fin 128) :
    ent (pack A b p) kd n.val d = A (ix5 b ⟨p.val, by omega⟩ kd n d) := dif_pos n.isLt

theorem ent_q (h : Bool) (n : Fin 2048) (e : Fin 64) : ent (pack (packed q k v g) b p) 0 n.val (lane h e) = q (ix4 b (head p h) n e) := by
  rw [ent_eq, packed0_at, lane_head, lane_coord]

theorem ent_k (h : Bool) (n : Fin 2048) (e : Fin 64) : ent (pack (packed q k v g) b p) 1 n.val (lane h e) = k (ix4 b (head p h) n e) := by
  rw [ent_eq, packed1_at, lane_head, lane_coord]

theorem ent_v (h : Bool) (n : Fin 2048) (e : Fin 64) : ent (pack (packed q k v g) b p) 2 n.val (lane h e) = v (ix4 b (head p h) n e) := by
  rw [ent_eq, packed2_at, lane_head, lane_coord]

theorem ent_g (h : Bool) (n : Fin 2048) (e : Fin 64) : ent (pack (packed q k v g) b p) 3 n.val (lane h e) = g (ix4 b (head p h) n e) := by
  rw [ent_eq, packed3_at, lane_head, lane_coord]

theorem agK_eq (n : Fin 2048) (l : Fin 128) : ag (packA (aug f) b) 0 n.val l = lanesK (units f) (ix3 b n l) :=
  (dif_pos n.isLt).trans (augK_at f b n l)

theorem agQ_eq (n : Fin 2048) (l : Fin 128) : ag (packA (aug f) b) 1 n.val l = lanesQ (units f) (ix3 b n l) :=
  (dif_pos n.isLt).trans (augQ_at f b n l)

section
variable (P : S8x8x2048.Idx → ℝ) (hP : ∀ i, f i = (P i : EReal))
include hP

theorem units_real (n : Fin 2048) (h : Fin 8) : units f (ix3 b n h) = ((P (ix3 b h n) * (Real.log 2)⁻¹ : ℝ) : EReal) := by
  rw [units_at, hP, log_two, Ideal.div_coe (Real.log_pos one_lt_two).ne', one_div, EReal.coe_mul]

/-- The added lanes give the difference of the prefix sums. -/
theorem added (h : Fin 8) (i j : Fin 2048) : ∑ l : Fin 128, ag (packA (aug f) b) 0 j.val l * az (packA (aug f) b) h.val i.val l
    = (((P (ix3 b h i) - P (ix3 b h j)) * (Real.log 2)⁻¹ : ℝ) : EReal) := by
  have term : ∀ l : Fin 128, ag (packA (aug f) b) 0 j.val l * az (packA (aug f) b) h.val i.val l
      = (((if l = (⟨h.val, by omega⟩ : Fin 128) then -(P (ix3 b h j) * (Real.log 2)⁻¹) else 0)
          + (if l = (⟨24 + h.val, by omega⟩ : Fin 128) then P (ix3 b h i) * (Real.log 2)⁻¹ else 0) : ℝ) : EReal) := by
    intro l
    unfold az
    rw [agK_eq, agQ_eq, lanesK_at _ b j _ (units_real f b P hP j), lanesQ_at _ b i _ (units_real f b P hP i)]
    by_cases hl : l.val % 8 = h.val ∧ l.val < 48
    · rw [if_pos hl, ← EReal.coe_mul]
      refine congrArg _ ?_
      have first : ¬ l.val < 8 → ¬ l = (⟨h.val, by omega⟩ : Fin 128) := fun hn e => hn (by rw [e]; exact h.isLt)
      have second : ¬ (24 ≤ l.val ∧ l.val < 32) → ¬ l = (⟨24 + h.val, by omega⟩ : Fin 128) := fun hn e => hn (by rw [e]; dsimp only; omega)
      by_cases h1 : l.val < 8
      · have e : l = (⟨h.val, by omega⟩ : Fin 128) := Fin.ext (by show l.val = h.val; omega)
        have e' : (⟨l.val, h1⟩ : Fin 8) = h := Fin.ext (by show l.val = h.val; omega)
        rw [dif_pos h1, if_pos (show l.val < 24 by omega), if_pos e, if_neg (second (by omega)), e']
        ring
      · by_cases h2 : l.val < 24
        · rw [dif_neg h1, if_pos h2, if_pos h2, if_neg (first h1), if_neg (second (by omega))]
          ring
        · by_cases h3 : l.val < 32
          · have e : l = (⟨24 + h.val, by omega⟩ : Fin 128) := Fin.ext (by show l.val = 24 + h.val; omega)
            have e' : (⟨l.val - 24, by omega⟩ : Fin 8) = h := Fin.ext (by show l.val - 24 = h.val; omega)
            rw [dif_neg h1, if_neg h2, if_neg h2, if_pos hl.2, dif_pos h3, if_neg (first h1), if_pos e, e']
            ring
          · rw [dif_neg h1, if_neg h2, if_neg h2, if_pos hl.2, dif_neg h3, if_neg (first h1), if_neg (second (by omega))]
            ring
    · rw [if_neg hl, mul_zero, if_neg (fun e => hl (by have := congrArg Fin.val e; dsimp only at this; omega)),
        if_neg (fun e => hl (by have := congrArg Fin.val e; dsimp only at this; omega)), add_zero, EReal.coe_zero]
  rw [Finset.sum_congr rfl fun l _ => term l, coe_sum, Finset.sum_add_distrib, Finset.sum_ite_eq', Finset.sum_ite_eq', if_pos (Finset.mem_univ _), if_pos (Finset.mem_univ _)]
  refine congrArg _ ?_
  ring

end

theorem added_past (h : ℕ) (i j : ℕ) (hj : ¬ j < 2048) : ∑ l : Fin 128, ag (packA (aug f) b) 0 j l * az (packA (aug f) b) h i l = 0 :=
  Finset.sum_eq_zero fun l _ => by
    rw [show ag (packA (aug f) b) 0 j l = 0 from dif_neg hj]
    exact zero_mul _

/-- The real score of key `j` for query `n` under one head. -/
def score (h : Fin 8) (Q K : S8x8x2048x64.Idx → ℝ) (P : S8x8x2048.Idx → ℝ) (n : Fin 2048) (j : ℕ) : ℝ :=
  if hj : j < 2048 then (∑ e : Fin 64, Q (ix4 b h n e) * K (ix4 b h ⟨j, hj⟩ e)) * (1 / 8) + (P (ix3 b h n) - P (ix3 b h ⟨j, hj⟩)) else 0

section
variable (Q K : S8x8x2048x64.Idx → ℝ) (P : S8x8x2048.Idx → ℝ) (hQ : ∀ i, q i = (Q i : EReal)) (hK : ∀ i, k i = (K i : EReal)) (hP : ∀ i, f i = (P i : EReal))
include hQ hK hP

theorem fs_score (h : Bool) (n : Fin 2048) (j : ℕ) : fs (pack (packed q k v g) b p) (packA (aug f) b) p.val h n.val j
    = ((score b (head p h) Q K P n j * (Real.log 2)⁻¹ : ℝ) : EReal) := by
  unfold fs
  by_cases hj : j < 2048
  · rw [score, dif_pos hj, add_mul, EReal.coe_add]
    exact congrArg₂ (· + ·) (sc_real _ h n.val j _ _ (fun e => (ent_q q k v g b p h n e).trans (hQ _)) (fun e => (ent_k q k v g b p h ⟨j, hj⟩ e).trans (hK _)))
      (added f b P hP (head p h) n ⟨j, hj⟩)
  · rw [score, dif_neg hj, sc_past _ _ _ _ hj, added_past f b _ _ _ hj, zero_mul, EReal.coe_zero, add_zero]

/-- The reference's softmax weights. -/
theorem prob_eq (h : Fin 8) (n j : Fin 2048) :
    FoxRef.prob (FoxRef.expo (FoxRef.scores q k f)) (ix4 b h n j) = (wt n (score b h Q K P n) j.val : EReal) := by
  have hx : ∀ j : Fin 2048, FoxRef.scores q k f (ix4 b h n j) = if j.val ≤ n.val then (score b h Q K P n j.val : EReal) else ⊥ := by
    intro j
    rw [FoxRef.scores_at, Consts.ofBits_negInf, Consts.ofBits_eighth, score, dif_pos j.isLt, EReal.coe_add, EReal.coe_mul, ← coe_sum, EReal.coe_sub]
    refine if_congr Iff.rfl (congrArg₂ (· + ·) (congrArg (· * _) (Finset.sum_congr rfl fun e _ => ?_)) ?_) rfl
    · rw [hQ, hK, EReal.coe_mul]
    · rw [hP, hP]
  obtain ⟨M, hM⟩ := row_max n _ (fun j => FoxRef.scores q k f (ix4 b h n j)) hx
  rw [FoxRef.prob_at, FoxRef.expo_at, Finset.sum_congr rfl fun k _ => FoxRef.expo_at _ b h n k, FoxRef.rowMax_at, hM]
  exact softmax_at n _ _ hx M j
end

/-- One half's attention is the reference's of its head. -/
theorem attend_eq (hq : Finite q) (hk : Finite k) (hf : Finite f) (h : Bool) (n : Fin 2048) (e : Fin 64) :
    hd (pack (packed q k v g) b p) (fs (pack (packed q k v g) b p) (packA (aug f) b) p.val h) (n.val / 512) (n.val % 512) (lane h e)
      = FoxRef.attend (FoxRef.prob (FoxRef.expo (FoxRef.scores q k f))) v (ix4 b (head p h) n e) := by
  choose Q eQ using hq
  choose K eK using hk
  choose P eP using hf
  have hn : 512 * (n.val / 512) + n.val % 512 = n.val := Nat.div_add_mod _ _
  have t := hd_sum (pack (packed q k v g) b p) (fs (pack (packed q k v g) b p) (packA (aug f) b) p.val h) (n.val / 512) (n.val % 512) (Nat.mod_lt _ (by decide))
    (score b (head p h) Q K P n) (fun j => by rw [hn]; exact fs_score q k v g f b p Q K P eQ eK eP h n j) (lane h e)
  rw [hn] at t
  rw [t, FoxRef.attend_at, ← wt_sum']
  refine Finset.sum_congr rfl fun j _ => ?_
  rw [prob_eq q k f b Q K P eQ eK eP, ent_v]

end

/-- Every lane is one half's lane of one coordinate. -/
theorem lane_of (d : Fin 128) : ∃ (h : Bool) (e : Fin 64), d = lane h e := by
  by_cases hd : d.val < 64
  · exact ⟨true, ⟨d.val, hd⟩, Fin.ext rfl⟩
  · exact ⟨false, ⟨d.val - 64, by omega⟩, Fin.ext (by show d.val = 64 + (d.val - 64); omega)⟩

/-- The half of a lane decides which head's attention is kept. -/
theorem pick (h : Bool) (e : Fin 64) (x y : EReal) : (if (lane h e).val < 64 then x else y) = if h then x else y := by
  cases h with
  | true => exact if_pos e.isLt
  | false => exact if_neg (by show ¬ 64 + e.val < 64; omega)

/-- The kernel's result array is the reference's. -/
theorem result_eq (q k v g : FVec Ideal S8x8x2048x64 .f32) (f : FVec Ideal S8x8x2048 .f32) (hq : Finite q) (hk : Finite k) (hf : Finite f) :
    result (packed q k v g) (aug f) = FoxRef.gated (FoxRef.attend (FoxRef.prob (FoxRef.expo (FoxRef.scores q k f))) v) g := by
  funext y
  idx_vars y
  obtain ⟨h, e, rfl⟩ := lane_of y3
  refine Eq.trans ?_ (FoxRef.gated_at _ _ y0 y1 y2 (lane h e) (head y1 h) e (congrArg Fin.val (lane_head y1 h e)).symm (congrArg Fin.val (lane_coord h e)).symm).symm
  show outS (pack (packed q k v g) y0 y1) (packA (aug f) y0) y1.val (y2.val / 512) (y2.val % 512) (lane h e) = _
  rw [outS, Nat.div_add_mod, ent_g, pick, Cert.Diff.ofBits_one, ← attend_eq q k v g f y0 y1 hq hk hf h y2 e]
  cases h <;> rfl

end Cert.Fox
-- ==== Proof.LastJoin.lean ====
module

public import proofs.«01_k».proof.Proof.Gen.LastIdeal.Value
public import proofs.«01_k».proof.Proof.Gen.LastReferenceIdeal.Run
public import proofs.«01_k».proof.Proof.EvenJoin

@[expose] public section

set_option maxRecDepth 16384

noncomputable section

namespace Cert.Last

open Cert.LastIdeal Cert.LastIdeal.Gen Idealize.ShloMosaic Idealize.ShloMosaic.TcCoe Cert.Proj

/-- Eight slabs of 128 lanes as one row. -/
def cat8 (o : Fin 8 → FVec Ideal S512x128 .bf16) (r : Fin 512) (e : Fin 1024) : EReal :=
  o ⟨e.val / 128, by omega⟩ (ix2 r ⟨e.val % 128, by omega⟩)

theorem cat_at (o : Fin 8 → FVec Ideal S512x128 .bf16) (h) (r : Fin 512) (e : Fin 1024) :
    concatenate S512x1024 1 [⟨S512x128, o 0⟩, ⟨S512x128, o 1⟩, ⟨S512x128, o 2⟩, ⟨S512x128, o 3⟩, ⟨S512x128, o 4⟩, ⟨S512x128, o 5⟩, ⟨S512x128, o 6⟩, ⟨S512x128, o 7⟩] h (ix2 r e)
      = cat8 o r e := by
  have key (j : Fin 8) (x : Fin 128) (h1 : j.val = e.val / 128) (h2 : x.val = e.val % 128) : o j (ix2 r x) = cat8 o r e :=
    congrArg₂ (fun a b => o a (ix2 r b)) (Fin.ext h1) (Fin.ext h2)
  pointwise
  by_cases h0 : e.val < 128
  · rw [dif_pos h0]
    exact key _ _ (by change 0 = _; omega) (by change e.val = _; omega)
  rw [dif_neg h0]
  by_cases h1 : e.val - 128 < 128
  · rw [dif_pos h1]
    exact key _ _ (by change 1 = _; omega) (by change e.val - 128 = _; omega)
  rw [dif_neg h1]
  by_cases h2 : e.val - 128 - 128 < 128
  · rw [dif_pos h2]
    exact key _ _ (by change 2 = _; omega) (by change e.val - 128 - 128 = _; omega)
  rw [dif_neg h2]
  by_cases h3 : e.val - 128 - 128 - 128 < 128
  · rw [dif_pos h3]
    exact key _ _ (by change 3 = _; omega) (by change e.val - 128 - 128 - 128 = _; omega)
  rw [dif_neg h3]
  by_cases h4 : e.val - 128 - 128 - 128 - 128 < 128
  · rw [dif_pos h4]
    exact key _ _ (by change 4 = _; omega) (by change e.val - 128 - 128 - 128 - 128 = _; omega)
  rw [dif_neg h4]
  by_cases h5 : e.val - 128 - 128 - 128 - 128 - 128 < 128
  · rw [dif_pos h5]
    exact key _ _ (by change 5 = _; omega) (by change e.val - 128 - 128 - 128 - 128 - 128 = _; omega)
  rw [dif_neg h5]
  by_cases h6 : e.val - 128 - 128 - 128 - 128 - 128 - 128 < 128
  · rw [dif_pos h6]
    exact key _ _ (by change 6 = _; omega) (by change e.val - 128 - 128 - 128 - 128 - 128 - 128 = _; omega)
  rw [dif_neg h6]
  exact key _ _ (by change 7 = _; omega) (by change e.val - 128 - 128 - 128 - 128 - 128 - 128 - 128 = _; omega)

theorem pay1 (v1 : FVec Ideal S512x1024 .f32) (v3 v5 : FVec Ideal S1x1024 .f32) (o0 o1 o2 o3 o4 o5 : FVec Ideal S512x128 .bf16) (o6 o7 : Vec Ideal S1x1x512x128 .bf16)
    (w : Vec Ideal S1x1024x1024 .bf16) (r : Fin 512) (d : Fin 1024) :
    k0_pay1 v1 v3 v5 o0 o1 o2 o3 o4 o5 o6 o7 w (ix3 0 r d)
      = upd (cat8 ![o0, o1, o2, o3, o4, o5, k0_pay5 o6, k0_pay5 o7] r) (fun e f => w (ix3 0 e f)) (fun f => v1 (ix2 r f)) (fun f => v3 (ix2 0 f)) (fun f => v5 (ix2 0 f)) d := by
  have h := cat_at ![o0, o1, o2, o3, o4, o5, k0_pay5 o6, k0_pay5 o7] concatenates_S512x128_S512x128_S512x128_S512x128_S512x128_S512x128_S512x128_S512x128_S512x1024_d1 r
  generalize hc : cat8 ![o0, o1, o2, o3, o4, o5, k0_pay5 o6, k0_pay5 o7] r = cc at h ⊢
  unfold k0_pay1
  change ∀ e, concatenate S512x1024 1 [⟨S512x128, o0⟩, ⟨S512x128, o1⟩, ⟨S512x128, o2⟩, ⟨S512x128, o3⟩, ⟨S512x128, o4⟩, ⟨S512x128, o5⟩, ⟨S512x128, shapeCast S512x128 o6 shapeCasts_S1x1x512x128_S512x128⟩, ⟨S512x128, shapeCast S512x128 o7 shapeCasts_S1x1x512x128_S512x128⟩] concatenates_S512x128_S512x128_S512x128_S512x128_S512x128_S512x128_S512x128_S512x128_S512x1024_d1 (ix2 r e) = _ at h
  generalize concatenate S512x1024 1 [⟨S512x128, o0⟩, ⟨S512x128, o1⟩, ⟨S512x128, o2⟩, ⟨S512x128, o3⟩, ⟨S512x128, o4⟩, ⟨S512x128, o5⟩, ⟨S512x128, shapeCast S512x128 o6 shapeCasts_S1x1x512x128_S512x128⟩, ⟨S512x128, shapeCast S512x128 o7 shapeCasts_S1x1x512x128_S512x128⟩] concatenates_S512x128_S512x128_S512x128_S512x128_S512x128_S512x128_S512x128_S512x128_S512x1024_d1 = C at h ⊢
  pointwise [upd, nrm, h]

theorem slab_at (x0 : Vec Ideal S1x8x512x128 .bf16) (j : Fin 8) (i) (r : Fin 512) (l : Fin 128) :
    k0_pay5 (View.ld x0 (Rect.unit (s := S1x8x512x128) ![0, j.val, 0, 0] S1x1x512x128.size i)) (ix2 r l) = x0 (ix4 0 j r l) := by
  pointwise [k0_pay5]

theorem ld_x (x2 : Vec Ideal S1x512x1024 .f32) (i) : View.ld x2 (Rect.unit (s := S1x512x1024) ![0, 0, 0] S1x512x1024.size i) = x2 := by
  funext y
  refine congrArg x2 (funext fun a => Fin.ext ?_)
  fin_cases a <;> simp

section
variable (x0 : Vec Ideal S1x8x512x128 .bf16) (x1 : Vec Ideal S1x1024x1024 .bf16) (x2 : Vec Ideal S1x512x1024 .f32) (x3 : Vec Ideal S1x1x1x1x1024 .f32) (x4 : Vec Ideal S1x1x1024 .f32)

theorem out_at (r : Fin 512) (d : Fin 1024) : k0_pay1 (k0_pay2 (View.ld x2 r0_0)) (k0_pay3 (View.ld x3 r0_1)) (k0_pay4 (View.ld x4 r0_2)) (k0_pay5 (View.ld x0 r0_3)) (k0_pay6 (View.ld x0 r0_4)) (k0_pay7 (View.ld x0 r0_5)) (k0_pay8 (View.ld x0 r0_6)) (k0_pay9 (View.ld x0 r0_7)) (k0_pay10 (View.ld x0 r0_8)) (View.ld x0 r0_9) (View.ld x0 r0_10) (View.ld x1 r0_11) (ix3 0 r d) = Even.xB x0 x1 x3 x4 x2 r d := by
  rw [pay1, ld_w, ld_v1, ld_v2, ld_x]
  unfold Even.xB
  congr 1
  · funext e
    refine Eq.trans (b := x0 (ix4 0 ⟨e.val / 128, by omega⟩ r ⟨e.val % 128, by omega⟩)) ?_ rfl
    unfold cat8
    generalize (⟨e.val / 128, _⟩ : Fin 8) = j
    generalize (⟨e.val % 128, _⟩ : Fin 128) = l
    fin_cases j
    · exact slab_at x0 0 _ r l
    · exact slab_at x0 1 _ r l
    · exact slab_at x0 2 _ r l
    · exact slab_at x0 3 _ r l
    · exact slab_at x0 4 _ r l
    · exact slab_at x0 5 _ r l
    · exact slab_at x0 6 _ r l
    · exact slab_at x0 7 _ r l
  · funext f
    pointwise [k0_pay2]
  · funext f
    pointwise [k0_pay3]
  · funext f
    pointwise [k0_pay4]

/-- The output block: the new residual stream's rows. -/
theorem out5 : out0_5 x0 x1 x2 x3 x4 = Even.outX (Even.xB x0 x1 x3 x4 x2) := by
  funext y
  unfold out0_5
  refine View.canon_apply_of_pieces (Val := Elt Ideal) (e := .f32) (Even.outX (Even.xB x0 x1 x3 x4 x2)) _ (View.PiecesOf.mem ?_) y (cover0_5 _ y)
  refine ⟨fun x => ?_, trivial⟩
  have e1 : r0_0.emb x = x := funext fun a => Fin.ext (by fin_cases a <;> simp)
  have ex : x = (ix3 0 (x 1) (x 2) : S1x512x1024.Idx) := by
    refine funext fun a => Fin.ext ?_
    have h0 : (x 0).val < 1 := (x 0).isLt
    fin_cases a
    · change (x 0).val = 0
      omega
    · rfl
    · rfl
  rw [e1]
  exact (congrArg _ ex).trans (out_at x0 x1 x2 x3 x4 (x 1) (x 2))
end

/-- The residual stream of one position after the last layer. -/
def xRow (a0 x : FVec Ideal S8x2048x1024 .f32) (md : FVec Ideal S4x3x8x1024 .f32) (post : FVec Ideal S4x1024 .f32) (wo : FVec Ideal S2x1024x1024 .f32) (b : Fin 8) (n : Fin 2048) (d : Fin 1024) : EReal :=
  upd (fun e => a0 (ix3 b n e)) (fun e f => wo (ix3 1 e f)) (fun f => x (ix3 b n f)) (fun f => md (ix4 3 2 b f)) (fun f => post (ix2 3 f)) d

/-- The whole array of it. -/
def resX (a0 x : FVec Ideal S8x2048x1024 .f32) (md : FVec Ideal S4x3x8x1024 .f32) (post : FVec Ideal S4x1024 .f32) (wo : FVec Ideal S2x1024x1024 .f32) : FVec Ideal S8x2048x1024 .f32 := fun y => xRow a0 x md post wo (y 0) (y 1) (y 2)

variable (m : (ℓ : Loc nD τ sig) → Buf (Elt Ideal) ℓ)

theorem idx : ∀ t : Fin cfg0.N, win0_0.index t = ![t.val / 4, 0, t.val % 4, 0] ∧ win0_1.index t = ![1, 0, 0] ∧ win0_2.index t = ![t.val / 4, t.val % 4, 0] ∧ win0_3.index t = ![3, 2, t.val / 4, 0, 0] ∧ win0_4.index t = ![3, 0, 0] ∧ win0_5.index t = ![t.val / 4, t.val % 4, 0] :=
  (by decide +kernel : ∀ t : Fin grid0.N, _)

theorem V2 (c : Dev nD) : V m c main_v2 = Even.slabsH (m ((c : Thread nD τ).loc main_arg0)) := by rfl
theorem V3 (c : Dev nD) : V m c main_v3 = (truncf .bf16 (m ((c : Thread nD τ).loc main_arg4) : FVec Ideal S2x1024x1024 .f32) bitsLt_bf16_f32 : FVec Ideal S2x1024x1024 .bf16) := by rfl
theorem V4 (c : Dev nD) : V m c main_v4 = shapeCast S4x3x8x1x1024 (m ((c : Thread nD τ).loc main_arg2)) shapeCasts_S4x3x8x1024_S4x3x8x1x1024 := by rfl
theorem V5 (c : Dev nD) : V m c main_v5 = shapeCast S4x1x1024 (m ((c : Thread nD τ).loc main_arg3)) shapeCasts_S4x1024_S4x1x1024 := by rfl

section
variable (c : Dev nD) (t : Fin cfg0.N) (b : Fin 8) (i : Fin 4) (hb : b.val = t.val / 4) (hi : i.val = t.val % 4)
include hb hi

theorem read0 (j : Fin 8) (r : Fin 512) (l : Fin 128) : iblk m c 0 t (ix4 0 j r l) = V m c main_v2 (ix4 b j (pos i r) l) := by
  refine congrArg (V m c main_v2) (funext fun a => Fin.ext ?_)
  fin_cases a <;> blk_simp [idx t]
  all_goals simp [pos, hb, hi, Nat.mul_comm]

theorem read1 (e f : Fin 1024) : iblk m c 1 t (ix3 0 e f) = V m c main_v3 (ix3 1 e f) := by
  refine congrArg (V m c main_v3) (funext fun a => Fin.ext ?_)
  fin_cases a <;> blk_simp [idx t]
  all_goals simp [pos, hb, hi, Nat.mul_comm]

theorem read2 (r : Fin 512) (f : Fin 1024) : iblk m c 2 t (ix3 0 r f) = V m c main_arg1 (ix3 b (pos i r) f) := by
  refine congrArg (V m c main_arg1) (funext fun a => Fin.ext ?_)
  fin_cases a <;> blk_simp [idx t]
  all_goals simp [pos, hb, hi, Nat.mul_comm]

theorem read3 (f : Fin 1024) : iblk m c 3 t (ix5 0 0 0 0 f) = V m c main_v4 (ix5 3 2 b 0 f) := by
  refine congrArg (V m c main_v4) (funext fun a => Fin.ext ?_)
  fin_cases a <;> blk_simp [idx t]
  all_goals simp [pos, hb, hi, Nat.mul_comm]

theorem read4 (f : Fin 1024) : iblk m c 4 t (ix3 0 0 f) = V m c main_v5 (ix3 3 0 f) := by
  refine congrArg (V m c main_v5) (funext fun a => Fin.ext ?_)
  fin_cases a <;> blk_simp [idx t]
  all_goals simp [pos, hb, hi, Nat.mul_comm]

theorem xB_eq (r : Fin 512) (d : Fin 1024) : Even.xB (iblk m c 0 t) (iblk m c 1 t) (iblk m c 3 t) (iblk m c 4 t) (iblk m c 2 t) r d = xRow (m ((c : Thread nD τ).loc main_arg0)) (m ((c : Thread nD τ).loc main_arg1)) (m ((c : Thread nD τ).loc main_arg2)) (m ((c : Thread nD τ).loc main_arg3)) (m ((c : Thread nD τ).loc main_arg4)) b (pos i r) d := by
  unfold Even.xB xRow
  congr 1
  · funext e
    unfold Even.catB
    rw [read0 m c t b i hb hi, V2, Even.slabsH_at]
    exact congrArg (fun k => (m ((c : Thread nD τ).loc main_arg0)) (ix3 b (pos i r) k)) (Fin.ext (by change 128 * (e.val / 128) + e.val % 128 = e.val; omega))
  · funext e f
    rw [read1 m c t b i hb hi, V3]
    rfl
  · funext f
    exact (read2 m c t b i hb hi r f).trans rfl
  · funext f
    rw [read3 m c t b i hb hi, V4, cast17_at]
  · funext f
    rw [read4 m c t b i hb hi, V5, cast8_at]
end

theorem emb5 (t : Fin cfg0.N) (y : S1x512x1024.Idx) : (win0_5.blk t).view.emb y
    = ix3 (⟨t.val / 4, by have := lt_of_lt_of_eq t.isLt N_0; omega⟩ : Fin 8) (pos (⟨t.val % 4, by omega⟩ : Fin 4) (y 1)) (y 2) := by
  have h0 : (y 0).val < 1 := (y 0).isLt
  refine funext fun a => Fin.ext ?_
  fin_cases a <;> blk_simp [idx t]
  all_goals simp [pos, Nat.mul_comm]

theorem final5 (c : Dev nD) : (dats m 0 c).arrAt 5 cfg0.N = resX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  have ht : t.val < 32 := lt_of_lt_of_eq t.isLt N_0
  rw [after0_5, out5, emb5 t y]
  exact xB_eq m c t ⟨t.val / 4, by omega⟩ ⟨t.val % 4, by omega⟩ rfl rfl (y 1) (y 2)

end Cert.Last

namespace Cert.LastRef

open Cert.LastReferenceIdeal Cert.LastReferenceIdeal.Gen Idealize.ShloMosaic Idealize.ShloMosaic.TcCoe Idealize.SL.Sem Idealize.ShloMosaic.StableHlo Cert.ProjRef

/-- The reference's output projection, by the second of the two weights. -/
def out (o : FVec Ideal S8x2048x1024 .f32) (w : FVec Ideal S2x1024x1024 .f32) : FVec Ideal S8x2048x1024 .f32 :=
  Host.dotGeneral dot_S8x2048x1024_S1024x1024_S8x2048x1024_2_0_01_1_n_n none o (shapeCast _ (extractStridedSlice S1x1024x1024 ![1, 0, 0] w slices_S2x1024x1024_S1x1024x1024_1_0_0) shapeCasts_S1x1024x1024_S1024x1024)

theorem out_at (o : FVec Ideal S8x2048x1024 .f32) (w : FVec Ideal S2x1024x1024 .f32) (b : Fin 8) (n : Fin 2048) (d : Fin 1024) :
    out o w (ix3 b n d) = ∑ e : Fin 1024, o (ix3 b n e) * w (ix3 1 e d) := by
  pointwise [out]

/-- The last row of the layers' weights, and of the gates for every batch. -/
def weight3 (w : FVec Ideal S4x1024 .f32) : FVec Ideal S1024 .f32 := shapeCast _ (extractStridedSlice S1x1024 ![3, 0] w slices_S4x1024_S1x1024_3_0) shapeCasts_S1x1024_S1024
def gate (md : FVec Ideal S4x3x8x1024 .f32) : FVec Ideal S8x1x1024 .f32 := broadcastInDim S8x1x1024 ![0, 2] bcast_S8x1024_S8x1x1024_0_2 (shapeCast _ (extractStridedSlice S1x1x8x1024 ![3, 2, 0, 0] md slices_S4x3x8x1024_S1x1x8x1024_3_2_0_0) shapeCasts_S1x1x8x1024_S8x1024)

theorem weight3_at (w : FVec Ideal S4x1024 .f32) (d : Fin 1024) : weight3 w (ix1 d) = w (ix2 3 d) := by
  pointwise [weight3]
theorem gate_at (md : FVec Ideal S4x3x8x1024 .f32) (b : Fin 8) (d : Fin 1024) : gate md (ix3 b 0 d) = md (ix4 3 2 b d) := by
  pointwise [gate]

theorem resX_eq (a0 x : FVec Ideal S8x2048x1024 .f32) (md : FVec Ideal S4x3x8x1024 .f32) (post : FVec Ideal S4x1024 .f32) (wo : FVec Ideal S2x1024x1024 .f32) :
    stream x (out a0 wo) (gate md) (weight3 post) = Last.resX a0 x md post wo := by
  funext y
  idx_vars y
  change _ = Last.xRow a0 x md post wo _ _ _
  unfold Last.xRow Proj.upd
  rw [stream_at, gate_at]
  refine congrArg (x _ + md _ * ·) (congrArg₂ (Proj.nrm · · _) (funext fun f => ?_) (funext fun f => weight3_at post f))
  rw [out_at]
  rfl

end Cert.LastRef
-- ==== Proof.ModJoin.lean ====
module

public import proofs.«01_k».proof.Proof.Gen.ModIdeal.Value
public import proofs.«01_k».proof.Proof.Gen.ModReferenceIdeal.Run
public import Idealize.ShloMosaic.Lib.Pointwise
public import Idealize.ShloMosaic.Lib.KernelVsHost
public import Idealize.ShloMosaic.Lib.Pipeline.ValueKit
public import Idealize.ShloMosaic.Lib.Pipeline.ReadBack

@[expose] public section

set_option maxRecDepth 16384

noncomputable section

namespace Cert.Mod

open Cert.ModIdeal Cert.ModIdeal.Gen Idealize.ShloMosaic Idealize.ShloMosaic.TcCoe

/-- Column `d` of part `j`, among the three parts side by side. -/
def col (j : Fin 3) (d : Fin 1024) : Fin 3072 := ⟨j.val * 1024 + d.val, by omega⟩

/-- One entry: the activated row against a column of the weight, and the bias. -/
def ent (u w : Fin 1024 → EReal) (k : EReal) : EReal := (∑ e, u e * Ideal.logistic (u e) * w e) + k

section
variable (x0 : Vec Ideal S8x1024 .f32) (x1 : Vec Ideal S1x1024x3072 .f32) (x2 : Vec Ideal S1x3x1x1024 .f32)

/-- The block one grid point writes. -/
def outM : FVec Ideal S1x3x8x1024 .f32 := fun y => ent (fun e => x0 (ix2 (y 2) e)) (fun e => x1 (ix3 0 e (col (y 1) (y 3)))) (x2 (ix4 0 (y 1) 0 (y 3)))

theorem pay3 (w : Vec Ideal S1x1024x1024 .f32) (k : Vec Ideal S1x1x1x1024 .f32) (b : Fin 8) (d : Fin 1024) :
    k0_pay3 x0 w k (ix4 0 0 b d) = ent (fun e => x0 (ix2 b e)) (fun e => w (ix3 0 e d)) (k (ix4 0 0 0 d)) := by
  pointwise [k0_pay3, k0_pay2, ent]

theorem ld_c : View.ld x0 r0_0 = x0 := by
  funext y
  refine congrArg x0 (funext fun a => Fin.ext ?_)
  fin_cases a <;> simp

theorem row (j : Fin 3) (i1 i2 i3) (x : S1x1x8x1024.Idx) :
    k0_pay3 (View.ld x0 r0_0) (View.ld x1 (Rect.unit (s := S1x1024x3072) ![0, 0, j.val * 1024] S1x1024x1024.size i1)) (View.ld x2 (Rect.unit (s := S1x3x1x1024) ![0, j.val, 0, 0] S1x1x1x1024.size i2)) x
      = outM x0 x1 x2 ((Rect.unit (s := S1x3x8x1024) ![0, j.val, 0, 0] S1x1x8x1024.size i3).emb x) := by
  have e : (Rect.unit (s := S1x3x8x1024) ![0, j.val, 0, 0] S1x1x8x1024.size i3).emb x = ix4 0 j (x 2) (x 3) := by
    refine funext fun a => Fin.ext ?_
    have h0 : (x 0).val < 1 := (x 0).isLt
    have h1 : (x 1).val < 1 := (x 1).isLt
    fin_cases a <;> simp <;> omega
  have ex : x = (ix4 0 0 (x 2) (x 3) : S1x1x8x1024.Idx) := by
    refine funext fun a => Fin.ext ?_
    have h0 : (x 0).val < 1 := (x 0).isLt
    have h1 : (x 1).val < 1 := (x 1).isLt
    fin_cases a
    · change (x 0).val = 0
      omega
    · change (x 1).val = 0
      omega
    · rfl
    · rfl
  rw [e, ld_c]
  refine (congrArg _ ex).trans ((pay3 ..).trans ?_)
  refine congrArg₂ (ent _) (funext fun e => congrArg x1 (funext fun a => Fin.ext ?_)) (congrArg x2 (funext fun a => Fin.ext ?_))
  · fin_cases a <;> simp [col]
  · fin_cases a <;> simp

theorem out3 : out0_3 x0 x1 x2 = outM x0 x1 x2 := by
  funext y
  unfold out0_3
  refine View.canon_apply_of_pieces (Val := Elt Ideal) (e := .f32) (outM x0 x1 x2) _ (View.PiecesOf.mem ?_) y (cover0_3 _ _ _ y)
  exact ⟨row x0 x1 x2 2 (by decide) (by decide) (by decide), row x0 x1 x2 1 (by decide) (by decide) (by decide), row x0 x1 x2 0 (by decide) (by decide) (by decide), trivial⟩
end

/-- The modulation of all layers. -/
def res (a0 : FVec Ideal S8x1024 .f32) (w : FVec Ideal S4x1024x3072 .f32) (k : FVec Ideal S4x3072 .f32) : FVec Ideal S4x3x8x1024 .f32 :=
  fun y => ent (fun e => a0 (ix2 (y 2) e)) (fun e => w (ix3 (y 0) e (col (y 1) (y 3)))) (k (ix2 (y 0) (col (y 1) (y 3))))

variable (m : (ℓ : Loc nD τ sig) → Buf (Elt Ideal) ℓ)

theorem idx : ∀ t : Fin cfg0.N, win0_0.index t = ![0, 0] ∧ win0_1.index t = ![t.val, 0, 0] ∧ win0_2.index t = ![t.val, 0, 0, 0] ∧ win0_3.index t = ![t.val, 0, 0, 0] :=
  (by decide +kernel : ∀ t : Fin grid0.N, _)

theorem bias_at (c : Dev nD) (l : Fin 4) (j : Fin 3) (d : Fin 1024) : V m c main_v0 (ix4 l j 0 d) = m ((c : Thread nD τ).loc main_arg2) (ix2 l (col j d)) := by
  have h : V m c main_v0 = shapeCast S4x3x1x1024 (m ((c : Thread nD τ).loc main_arg2)) shapeCasts_S4x3072_S4x3x1x1024 := by rfl
  rw [h]
  pointwise [col]

section
variable (c : Dev nD) (t : Fin cfg0.N) (l : Fin 4) (hl : l.val = t.val)

theorem read0 (b : Fin 8) (e : Fin 1024) : iblk m c 0 t (ix2 b e) = V m c main_arg0 (ix2 b e) := by
  refine congrArg (V m c main_arg0) (funext fun a => Fin.ext ?_)
  fin_cases a <;> blk_simp [idx t]
  all_goals simp

include hl
theorem read1 (e : Fin 1024) (k : Fin 3072) : iblk m c 1 t (ix3 0 e k) = V m c main_arg1 (ix3 l e k) := by
  refine congrArg (V m c main_arg1) (funext fun a => Fin.ext ?_)
  fin_cases a <;> blk_simp [idx t]
  all_goals simp [hl]

theorem read2 (j : Fin 3) (d : Fin 1024) : iblk m c 2 t (ix4 0 j 0 d) = V m c main_v0 (ix4 l j 0 d) := by
  refine congrArg (V m c main_v0) (funext fun a => Fin.ext ?_)
  fin_cases a <;> blk_simp [idx t]
  all_goals simp [hl]

theorem emb3 (y : S1x3x8x1024.Idx) : (win0_3.blk t).view.emb y = ix4 l (y 1) (y 2) (y 3) := by
  have h0 : (y 0).val < 1 := (y 0).isLt
  refine funext fun a => Fin.ext ?_
  fin_cases a <;> blk_simp [idx t]
  all_goals simp [hl]
end

theorem final3 (c : Dev nD) : (dats m 0 c).arrAt 3 cfg0.N = res (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out3, emb3 t ⟨t.val, lt_of_lt_of_eq t.isLt N_0⟩ rfl y]
  exact congr (congrArg₂ ent (funext fun e => read0 m c t (y 2) e) (funext fun e => read1 m c t ⟨t.val, lt_of_lt_of_eq t.isLt N_0⟩ rfl e (col (y 1) (y 3))))
    ((read2 m c t ⟨t.val, lt_of_lt_of_eq t.isLt N_0⟩ rfl (y 1) (y 3)).trans (bias_at m c _ (y 1) (y 3)))

end Cert.Mod

namespace Cert.ModRef

open Cert.ModReferenceIdeal Cert.ModReferenceIdeal.Gen Idealize.ShloMosaic Idealize.ShloMosaic.TcCoe

/-- The activated rows against every layer's weight, and the bias: the parts side by side. -/
def all (a0 : FVec Ideal S8x1024 .f32) (w : FVec Ideal S4x1024x3072 .f32) (k : FVec Ideal S4x3072 .f32) : FVec Ideal S4x8x3072 .f32 :=
  addf (transpose S4x8x3072 [0, 2, 1] (Host.dotGeneral dot_S4x1024x3072_S8x1024_S4x3072x8_1_1_02_0_n_n none w (mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0)))))) transposes_S4x3072x8_S4x8x3072_0_2_1)
    (broadcastInDim S4x8x3072 ![0, 1, 2] bcast_S4x1x3072_S4x8x3072_0_1_2 (broadcastInDim S4x1x3072 ![0, 2] bcast_S4x3072_S4x1x3072_0_2 k))

theorem all_at (a0 : FVec Ideal S8x1024 .f32) (w : FVec Ideal S4x1024x3072 .f32) (k : FVec Ideal S4x3072 .f32) (l : Fin 4) (b : Fin 8) (d : Fin 3072) :
    all a0 w k (ix3 l b d) = Mod.ent (fun e => a0 (ix2 b e)) (fun e => w (ix3 l e d)) (k (ix2 l d)) := by
  have h : all a0 w k (ix3 l b d) = (∑ e, w (ix3 l e d) * (a0 (ix2 b e) * Ideal.logistic (a0 (ix2 b e)))) + k (ix2 l d) := by
    pointwise [all]
    rfl
  rw [h]
  exact congrArg (· + _) (Finset.sum_congr rfl fun e _ => mul_comm ..)

/-- The three parts stacked. -/
def stack (z : FVec Ideal S4x8x3072 .f32) : FVec Ideal S4x3x8x1024 .f32 :=
  concatenate S4x3x8x1024 1 [⟨S4x1x8x1024, broadcastInDim S4x1x8x1024 ![0, 2, 3] bcast_S4x8x1024_S4x1x8x1024_0_2_3 (extractStridedSlice S4x8x1024 ![0, 0, 0] z slices_S4x8x3072_S4x8x1024_0_0_0)⟩,
    ⟨S4x1x8x1024, broadcastInDim S4x1x8x1024 ![0, 2, 3] bcast_S4x8x1024_S4x1x8x1024_0_2_3 (extractStridedSlice S4x8x1024 ![0, 0, 1024] z slices_S4x8x3072_S4x8x1024_0_0_1024)⟩,
    ⟨S4x1x8x1024, broadcastInDim S4x1x8x1024 ![0, 2, 3] bcast_S4x8x1024_S4x1x8x1024_0_2_3 (extractStridedSlice S4x8x1024 ![0, 0, 2048] z slices_S4x8x3072_S4x8x1024_0_0_2048)⟩] concatenates_S4x1x8x1024_S4x1x8x1024_S4x1x8x1024_S4x3x8x1024_d1

theorem stack_at (z : FVec Ideal S4x8x3072 .f32) (l : Fin 4) (j : Fin 3) (b : Fin 8) (d : Fin 1024) : stack z (ix4 l j b d) = z (ix3 l b (Mod.col j d)) := by
  fin_cases j <;> pointwise [stack, Mod.col]

theorem res_eq (a0 : FVec Ideal S8x1024 .f32) (w : FVec Ideal S4x1024x3072 .f32) (k : FVec Ideal S4x3072 .f32) : stack (all a0 w k) = Mod.res a0 w k := by
  funext y
  idx_vars y
  rw [stack_at, all_at]
  rfl

end Cert.ModRef
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Project.Frame
public import proofs.«01_k».proof.Proof.Gen.ProjectIdeal.Value
public import proofs.«01_k».proof.Proof.Gen.ProjectReferenceIdeal.Run
public import proofs.«01_k».proof.Proof.Gen.Even.Frame
public import proofs.«01_k».proof.Proof.Gen.EvenIdeal.Value
public import proofs.«01_k».proof.Proof.Gen.EvenReferenceIdeal.Run
public import proofs.«01_k».proof.Proof.Gen.First.Frame
public import proofs.«01_k».proof.Proof.Gen.FirstIdeal.Value
public import proofs.«01_k».proof.Proof.Gen.FirstReferenceIdeal.Run
public import proofs.«01_k».proof.Proof.Gen.Fox.Frame
public import proofs.«01_k».proof.Proof.Gen.FoxIdeal.Value
public import proofs.«01_k».proof.Proof.Gen.FoxReferenceIdeal.Run
public import proofs.«01_k».proof.Proof.Gen.Last.Frame
public import proofs.«01_k».proof.Proof.Gen.LastIdeal.Value
public import proofs.«01_k».proof.Proof.Gen.LastReferenceIdeal.Run
public import proofs.«01_k».proof.Proof.Gen.Mod.Frame
public import proofs.«01_k».proof.Proof.Gen.ModIdeal.Value
public import proofs.«01_k».proof.Proof.Gen.ModReferenceIdeal.Run
public import proofs.«01_k».proof.Proof.Join
public import proofs.«01_k».proof.Proof.ProjJoin
public import proofs.«01_k».proof.Proof.EvenJoin
public import proofs.«01_k».proof.Proof.FirstJoin
public import proofs.«01_k».proof.Proof.FoxJoin
public import proofs.«01_k».proof.Proof.LastJoin
public import proofs.«01_k».proof.Proof.ModJoin
public import proofs.«01_k».proof.Proof.Finite
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Cert.Diff

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_ReferenceIdeal_pre_finite : quiescent_ReferenceIdeal_pre_finite := fun m ρ _ =>
  quiescent_ReferenceIdeal m ρ trivial

/-- The mask is minus infinity, and the score scale the real number its word rounds. -/
theorem preserves_Kernel_KernelIdeal : preserves_Kernel_KernelIdeal :=
  ⟨IdealRules.named_const.statement Cert.KernelIdeal.κ "mask" .f32 0xF149F2CA#32 ⊥ rfl,
   IdealRules.named_const.statement Cert.KernelIdeal.κ "score_scale" .f32 0x3E38AA3B#32 (((1 / 8) * (Real.log 2)⁻¹ : ℝ) : EReal) rfl⟩

theorem algebraic_KernelIdeal_ReferenceIdeal_pre_finite : algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨f0, f1, f2, f3, f4, f6, f7, f8, f9⟩ := finite_args _ _ _ _ _ _ _ _ _ _ _ (fun e => e.elim0) (congrFun (hpre c) _)
  obtain ⟨e0, e1, e2, e3, e4, e5, e6, e7, e8, e9, e10⟩ := hagree c
  rw [Cert.Ref.res_eq, e0, e1, e2, e3, e4, e5, e6, e7, e8, e9, e10]
  exact ((Cert.Diff.final m c).trans (by rw [Cert.Diff.V9, result_eq _ _ _ _ _ _ _ _ _ _ _ f0 f1 f2 f3 f4 f6 f7 f8 f9])).symm

theorem quiescent_ProjectReferenceIdeal : quiescent_ProjectReferenceIdeal := fun m ρ _ =>
  (θ_run Cert.ProjectReferenceIdeal.defs _ _).mono (fun r h => ⟨fun c => (h c).2.2, sem_eq_zero_of_no_sems (by decide) r.2⟩)
    (Cert.ProjectReferenceIdeal.Value.run (F := Ideal) m ρ)

theorem algebraic_ProjectIdeal_ProjectReferenceIdeal : algebraic_ProjectIdeal_ProjectReferenceIdeal := by
  intro m ρ m' ρ' _ hagree
  refine ⟨_, _, Cert.ProjectIdeal.Value.run_blocks (F := Ideal) m ρ, ?_⟩
  refine (θ_run Cert.ProjectReferenceIdeal.defs _ _).mono (fun _ h c => ⟨(h c).1.trans ?_, (h c).2.1.trans ?_, (h c).2.2⟩)
    (Cert.ProjectReferenceIdeal.Value.run (F := Ideal) m' ρ')
  · obtain ⟨e0, e1, e2, e3, e4, e5, e6, e7, e8, e9⟩ := hagree c
    rw [Cert.ProjRef.res0, e0, e1, e2, e3, e7, e8]
    exact ((Cert.Proj.final13 m c).trans (Cert.Proj.resX_eq _ _ _ _ _ _)).symm
  · obtain ⟨e0, e1, e2, e3, e4, e5, e6, e7, e8, e9⟩ := hagree c
    refine Eq.trans (b := Cert.ProjRef.refP (m' ((c.tc : Thread Cert.ProjectReferenceIdeal.nD Cert.ProjectReferenceIdeal.τ).loc Cert.ProjectReferenceIdeal.main_arg4))
      (m' ((c.tc : Thread Cert.ProjectReferenceIdeal.nD Cert.ProjectReferenceIdeal.τ).loc Cert.ProjectReferenceIdeal.main_arg5))
      (Cert.ProjectReferenceIdeal.Value.res_main_v54 (F := Ideal) (StableHlo.launchContents m' c))) rfl ?_
    rw [Cert.ProjRef.resZ, e0, e1, e2, e3, e4, e5, e6, e7, e8, e9]
    exact ((Cert.Proj.final14 m c).trans (Cert.Proj.resP_eq _ _ _ _ _ _ _ _ _ _)).symm

theorem quiescent_EvenReferenceIdeal : quiescent_EvenReferenceIdeal := fun m ρ _ =>
  (θ_run Cert.EvenReferenceIdeal.defs _ _).mono (fun r h => ⟨fun c => (h c).2.2.2, sem_eq_zero_of_no_sems (by decide) r.2⟩)
    (Cert.EvenReferenceIdeal.Value.run (F := Ideal) m ρ)

theorem algebraic_EvenIdeal_EvenReferenceIdeal : algebraic_EvenIdeal_EvenReferenceIdeal := by
  intro m ρ m' ρ' _ hagree
  refine ⟨_, _, _, Cert.EvenIdeal.Value.run_blocks (F := Ideal) m ρ, ?_⟩
  refine (θ_run Cert.EvenReferenceIdeal.defs _ _).mono (fun _ h c => ⟨(h c).1.trans ?_, (h c).2.1.trans ?_, (h c).2.2.1.trans ?_, (h c).2.2.2⟩)
    (Cert.EvenReferenceIdeal.Value.run (F := Ideal) m' ρ')
  · obtain ⟨e0, e1, e2, e3, e4, e5, e6, e7, e8⟩ := hagree c
    rw [Cert.EvenRef.res0, e0, e1, e2, e6, e7]
    exact ((Cert.Even.final14 m c).trans (Cert.Even.resX_eq _ _ _ _ _)).symm
  · obtain ⟨e0, e1, e2, e3, e4, e5, e6, e7, e8⟩ := hagree c
    refine Eq.trans (b := Cert.EvenRef.refP (m' ((c.tc : Thread Cert.EvenReferenceIdeal.nD Cert.EvenReferenceIdeal.τ).loc Cert.EvenReferenceIdeal.main_arg3))
      (m' ((c.tc : Thread Cert.EvenReferenceIdeal.nD Cert.EvenReferenceIdeal.τ).loc Cert.EvenReferenceIdeal.main_arg4))
      (Cert.EvenReferenceIdeal.Value.res_main_v53 (F := Ideal) (StableHlo.launchContents m' c))) rfl ?_
    rw [Cert.EvenRef.resZ, e0, e1, e2, e3, e4, e5, e6, e7, e8]
    exact ((Cert.Even.final15 m c).trans (Cert.Even.resP_eq _ _ _ _ (Cert.Even.refZ_at _ _ _ _ _ _ _) _ _)).symm
  · obtain ⟨e0, e1, e2, e3, e4, e5, e6, e7, e8⟩ := hagree c
    refine Eq.trans (b := Cert.EvenRef.logits (Cert.EvenReferenceIdeal.Value.res_main_v53 (F := Ideal) (StableHlo.launchContents m' c))) rfl ?_
    rw [Cert.EvenRef.resZ, e0, e1, e2, e5, e6, e7, e8]
    exact ((Cert.Even.final16 m c).trans (Cert.Even.resF_eq _ _ _ _ (Cert.Even.refZ_at _ _ _ _ _ _ _))).symm

theorem quiescent_FirstReferenceIdeal : quiescent_FirstReferenceIdeal := fun m ρ _ =>
  (θ_run Cert.FirstReferenceIdeal.defs _ _).mono (fun r h => ⟨fun c => (h c).2.2, sem_eq_zero_of_no_sems (by decide) r.2⟩)
    (Cert.FirstReferenceIdeal.Value.run (F := Ideal) m ρ)

theorem algebraic_FirstIdeal_FirstReferenceIdeal : algebraic_FirstIdeal_FirstReferenceIdeal := by
  intro m ρ m' ρ' _ hagree
  refine ⟨_, _, Cert.FirstIdeal.Value.run_blocks (F := Ideal) m ρ, ?_⟩
  refine (θ_run Cert.FirstReferenceIdeal.defs _ _).mono (fun _ h c => ⟨(h c).1.trans ?_, (h c).2.1.trans ?_, (h c).2.2⟩)
    (Cert.FirstReferenceIdeal.Value.run (F := Ideal) m' ρ')
  · obtain ⟨e0, e1, e2, e3, e4, e5⟩ := hagree c
    rw [Cert.FirstRef.res0, e0, e1, e2, e3, e4, e5]
    exact ((Cert.First.final10 m c).trans (Cert.Even.resP_eq _ _ _ _ (Cert.FirstRef.refZ_at _ _ _ _) _ _)).symm
  · obtain ⟨e0, e1, e2, e3, e4, e5⟩ := hagree c
    refine Eq.trans (b := Cert.EvenRef.logits (Cert.FirstRef.refZ (m' ((c.tc : Thread Cert.FirstReferenceIdeal.nD Cert.FirstReferenceIdeal.τ).loc Cert.FirstReferenceIdeal.main_arg0)) (m' ((c.tc : Thread Cert.FirstReferenceIdeal.nD Cert.FirstReferenceIdeal.τ).loc Cert.FirstReferenceIdeal.main_arg1)) (m' ((c.tc : Thread Cert.FirstReferenceIdeal.nD Cert.FirstReferenceIdeal.τ).loc Cert.FirstReferenceIdeal.main_arg4)) (m' ((c.tc : Thread Cert.FirstReferenceIdeal.nD Cert.FirstReferenceIdeal.τ).loc Cert.FirstReferenceIdeal.main_arg5)))) rfl ?_
    rw [e0, e1, e4, e5]
    exact ((Cert.First.final11 m c).trans (Cert.Even.resF_eq _ _ _ _ (Cert.FirstRef.refZ_at _ _ _ _))).symm

theorem quiescent_FoxReferenceIdeal : quiescent_FoxReferenceIdeal := fun m ρ _ =>
  (θ_run Cert.FoxReferenceIdeal.defs _ _).mono (fun r h => ⟨fun c => (h c).2, sem_eq_zero_of_no_sems (by decide) r.2⟩)
    (Cert.FoxReferenceIdeal.Value.run (F := Ideal) m ρ)

theorem quiescent_FoxReferenceIdeal_pre_finite_heads : quiescent_FoxReferenceIdeal_pre_finite_heads := fun m ρ _ =>
  quiescent_FoxReferenceIdeal m ρ trivial

theorem preserves_Fox_FoxIdeal : preserves_Fox_FoxIdeal :=
  ⟨IdealRules.named_const.statement Cert.FoxIdeal.κ "mask" .f32 0xF149F2CA#32 ⊥ rfl,
   IdealRules.named_const.statement Cert.FoxIdeal.κ "score_scale" .f32 0x3E38AA3B#32 (((1 / 8) * (Real.log 2)⁻¹ : ℝ) : EReal) rfl⟩

theorem algebraic_FoxIdeal_FoxReferenceIdeal_pre_finite_heads : algebraic_FoxIdeal_FoxReferenceIdeal_pre_finite_heads := by
  intro m ρ m' ρ' hpre hagree
  refine ⟨_, Cert.FoxIdeal.Value.run_blocks (F := Ideal) m ρ, ?_⟩
  refine (θ_run Cert.FoxReferenceIdeal.defs _ _).mono (fun _ h c => ⟨(h c).1.trans ?_, (h c).2⟩) (Cert.FoxReferenceIdeal.Value.run (F := Ideal) m' ρ')
  obtain ⟨f0, f1, f4⟩ := Cert.Fox.finite_args _ _ _ _ _ (fun e => e.elim0) (congrFun (hpre c) _)
  obtain ⟨e0, e1, e2, e3, e4⟩ := hagree c
  rw [Cert.FoxRef.res_eq, e0, e1, e2, e3, e4]
  exact ((Cert.Fox.final m c).trans (by rw [Cert.Fox.V19, Cert.Fox.V40, Cert.Fox.result_eq _ _ _ _ _ f0 f1 f4])).symm

theorem quiescent_LastReferenceIdeal : quiescent_LastReferenceIdeal := fun m ρ _ =>
  (θ_run Cert.LastReferenceIdeal.defs _ _).mono (fun r h => ⟨fun c => (h c).2, sem_eq_zero_of_no_sems (by decide) r.2⟩)
    (Cert.LastReferenceIdeal.Value.run (F := Ideal) m ρ)

theorem algebraic_LastIdeal_LastReferenceIdeal : algebraic_LastIdeal_LastReferenceIdeal := by
  intro m ρ m' ρ' _ hagree
  refine ⟨_, Cert.LastIdeal.Value.run_blocks (F := Ideal) m ρ, ?_⟩
  refine (θ_run Cert.LastReferenceIdeal.defs _ _).mono (fun _ h c => ⟨(h c).1.trans ?_, (h c).2⟩) (Cert.LastReferenceIdeal.Value.run (F := Ideal) m' ρ')
  obtain ⟨e0, e1, e2, e3, e4⟩ := hagree c
  rw [e0, e1, e2, e3, e4]
  exact (Cert.LastRef.resX_eq _ _ _ _ _).trans (Cert.Last.final5 m c).symm

theorem quiescent_ModReferenceIdeal : quiescent_ModReferenceIdeal := fun m ρ _ =>
  (θ_run Cert.ModReferenceIdeal.defs _ _).mono (fun r h => ⟨fun c => (h c).2, sem_eq_zero_of_no_sems (by decide) r.2⟩)
    (Cert.ModReferenceIdeal.Value.run (F := Ideal) m ρ)

theorem algebraic_ModIdeal_ModReferenceIdeal : algebraic_ModIdeal_ModReferenceIdeal := by
  intro m ρ m' ρ' _ hagree
  refine ⟨_, Cert.ModIdeal.Value.run_blocks (F := Ideal) m ρ, ?_⟩
  refine (θ_run Cert.ModReferenceIdeal.defs _ _).mono (fun _ h c => ⟨(h c).1.trans ?_, (h c).2⟩) (Cert.ModReferenceIdeal.Value.run (F := Ideal) m' ρ')
  obtain ⟨e0, e1, e2⟩ := hagree c
  rw [e0, e1, e2]
  exact (Cert.ModRef.res_eq _ _ _).trans (Cert.Mod.final3 m c).symm

theorem claim : Cert.Claim := ⟨Cert.Kernel.Gen.facts, Cert.KernelIdeal.Gen.facts, Cert.ReferenceIdeal.Gen.facts,
  Cert.Project.Gen.facts, Cert.ProjectIdeal.Gen.facts, Cert.ProjectReferenceIdeal.Gen.facts,
  Cert.Even.Gen.facts, Cert.EvenIdeal.Gen.facts, Cert.EvenReferenceIdeal.Gen.facts,
  Cert.First.Gen.facts, Cert.FirstIdeal.Gen.facts, Cert.FirstReferenceIdeal.Gen.facts,
  Cert.Fox.Gen.facts, Cert.FoxIdeal.Gen.facts, Cert.FoxReferenceIdeal.Gen.facts,
  Cert.Last.Gen.facts, Cert.LastIdeal.Gen.facts, Cert.LastReferenceIdeal.Gen.facts,
  Cert.Mod.Gen.facts, Cert.ModIdeal.Gen.facts, Cert.ModReferenceIdeal.Gen.facts, preFacts, Cert.Fox.preFacts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_finite,
  fun m ρ _ => Cert.Project.Gen.frame m ρ, fun m ρ _ => Cert.ProjectIdeal.Gen.frame m ρ, quiescent_ProjectReferenceIdeal,
  fun m ρ _ => Cert.Even.Gen.frame m ρ, fun m ρ _ => Cert.EvenIdeal.Gen.frame m ρ, quiescent_EvenReferenceIdeal,
  fun m ρ _ => Cert.First.Gen.frame m ρ, fun m ρ _ => Cert.FirstIdeal.Gen.frame m ρ, quiescent_FirstReferenceIdeal,
  fun m ρ _ => Cert.Fox.Gen.frame m ρ, fun m ρ _ => Cert.FoxIdeal.Gen.frame m ρ, fun m ρ _ => Cert.FoxIdeal.Gen.frame m ρ,
  quiescent_FoxReferenceIdeal, quiescent_FoxReferenceIdeal_pre_finite_heads,
  fun m ρ _ => Cert.Last.Gen.frame m ρ, fun m ρ _ => Cert.LastIdeal.Gen.frame m ρ, quiescent_LastReferenceIdeal,
  fun m ρ _ => Cert.Mod.Gen.frame m ρ, fun m ρ _ => Cert.ModIdeal.Gen.frame m ρ, quiescent_ModReferenceIdeal,
  preserves_Kernel_KernelIdeal, algebraic_KernelIdeal_ReferenceIdeal_pre_finite, trivial, algebraic_ProjectIdeal_ProjectReferenceIdeal,
  trivial, algebraic_EvenIdeal_EvenReferenceIdeal, trivial, algebraic_FirstIdeal_FirstReferenceIdeal,
  preserves_Fox_FoxIdeal, algebraic_FoxIdeal_FoxReferenceIdeal_pre_finite_heads,
  trivial, algebraic_LastIdeal_LastReferenceIdeal, trivial, algebraic_ModIdeal_ModReferenceIdeal⟩

end Cert.Proof

end
